-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_out [hPre_finite_out : Cert.Pre_finite_out.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_out.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2))) = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_out [hPre_finite_out : Cert.Pre_finite_out.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_out.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2))) = (fun _ => 1#1)

def Pre_KernelWout (m : (ℓ : Loc Cert.KernelWout.nD Cert.KernelWout.τ Cert.KernelWout.sig) → Buf (Elt Bits) ℓ) : Prop :=
  True

def Pre_KernelWoutIdeal (m : (ℓ : Loc Cert.KernelWoutIdeal.nD Cert.KernelWoutIdeal.τ Cert.KernelWoutIdeal.sig) → Buf (Elt Ideal) ℓ) : Prop :=
  True

def Pre_ReferenceWoutIdeal (m : (ℓ : Loc Cert.ReferenceWoutIdeal.nD Cert.ReferenceWoutIdeal.τ Cert.ReferenceWoutIdeal.sig) → Buf (Elt Ideal) ℓ) : Prop :=
  True

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelDn (m : (ℓ : Loc Cert.KernelDn.nD Cert.KernelDn.τ Cert.KernelDn.sig) → Buf (Elt Bits) ℓ) : Prop :=
  True

def Pre_KernelDnIdeal (m : (ℓ : Loc Cert.KernelDnIdeal.nD Cert.KernelDnIdeal.τ Cert.KernelDnIdeal.sig) → Buf (Elt Ideal) ℓ) : Prop :=
  True

def Pre_ReferenceDnIdeal (m : (ℓ : Loc Cert.ReferenceDnIdeal.nD Cert.ReferenceDnIdeal.τ Cert.ReferenceDnIdeal.sig) → Buf (Elt Ideal) ℓ) : Prop :=
  True

def Pre_KernelSqDo (m : (ℓ : Loc Cert.KernelSqDo.nD Cert.KernelSqDo.τ Cert.KernelSqDo.sig) → Buf (Elt Bits) ℓ) : Prop :=
  True

def Pre_KernelSqDoIdeal (m : (ℓ : Loc Cert.KernelSqDoIdeal.nD Cert.KernelSqDoIdeal.τ Cert.KernelSqDoIdeal.sig) → Buf (Elt Ideal) ℓ) : Prop :=
  True

def Pre_ReferenceSqDoIdeal (m : (ℓ : Loc Cert.ReferenceSqDoIdeal.nD Cert.ReferenceSqDoIdeal.τ Cert.ReferenceSqDoIdeal.sig) → Buf (Elt Ideal) ℓ) : Prop :=
  True

def Pre_KernelSqDx (m : (ℓ : Loc Cert.KernelSqDx.nD Cert.KernelSqDx.τ Cert.KernelSqDx.sig) → Buf (Elt Bits) ℓ) : Prop :=
  True

def Pre_KernelSqDxIdeal (m : (ℓ : Loc Cert.KernelSqDxIdeal.nD Cert.KernelSqDxIdeal.τ Cert.KernelSqDxIdeal.sig) → Buf (Elt Ideal) ℓ) : Prop :=
  True

def Pre_ReferenceSqDxIdeal (m : (ℓ : Loc Cert.ReferenceSqDxIdeal.nD Cert.ReferenceSqDxIdeal.τ Cert.ReferenceSqDxIdeal.sig) → Buf (Elt Ideal) ℓ) : Prop :=
  True

def Pre_KernelSqDw (m : (ℓ : Loc Cert.KernelSqDw.nD Cert.KernelSqDw.τ Cert.KernelSqDw.sig) → Buf (Elt Bits) ℓ) : Prop :=
  True

def Pre_KernelSqDwIdeal (m : (ℓ : Loc Cert.KernelSqDwIdeal.nD Cert.KernelSqDwIdeal.τ Cert.KernelSqDwIdeal.sig) → Buf (Elt Ideal) ℓ) : Prop :=
  True

def Pre_ReferenceSqDwIdeal (m : (ℓ : Loc Cert.ReferenceSqDwIdeal.nD Cert.ReferenceSqDwIdeal.τ Cert.ReferenceSqDwIdeal.sig) → Buf (Elt Ideal) ℓ) : Prop :=
  True

def Pre_KernelMemDw (m : (ℓ : Loc Cert.KernelMemDw.nD Cert.KernelMemDw.τ Cert.KernelMemDw.sig) → Buf (Elt Bits) ℓ) : Prop :=
  True

def Pre_KernelMemDwIdeal (m : (ℓ : Loc Cert.KernelMemDwIdeal.nD Cert.KernelMemDwIdeal.τ Cert.KernelMemDwIdeal.sig) → Buf (Elt Ideal) ℓ) : Prop :=
  True

def Pre_ReferenceMemDwIdeal (m : (ℓ : Loc Cert.ReferenceMemDwIdeal.nD Cert.ReferenceMemDwIdeal.τ Cert.ReferenceMemDwIdeal.sig) → Buf (Elt Ideal) ℓ) : Prop :=
  True

def Pre_KernelMemDx (m : (ℓ : Loc Cert.KernelMemDx.nD Cert.KernelMemDx.τ Cert.KernelMemDx.sig) → Buf (Elt Bits) ℓ) : Prop :=
  True

def Pre_KernelMemDxIdeal (m : (ℓ : Loc Cert.KernelMemDxIdeal.nD Cert.KernelMemDxIdeal.τ Cert.KernelMemDxIdeal.sig) → Buf (Elt Ideal) ℓ) : Prop :=
  True

def Pre_ReferenceMemDxIdeal (m : (ℓ : Loc Cert.ReferenceMemDxIdeal.nD Cert.ReferenceMemDxIdeal.τ Cert.ReferenceMemDxIdeal.sig) → Buf (Elt Ideal) ℓ) : Prop :=
  True

def Pre_KernelMixDw (m : (ℓ : Loc Cert.KernelMixDw.nD Cert.KernelMixDw.τ Cert.KernelMixDw.sig) → Buf (Elt Bits) ℓ) : Prop :=
  True

def Pre_KernelMixDwIdeal (m : (ℓ : Loc Cert.KernelMixDwIdeal.nD Cert.KernelMixDwIdeal.τ Cert.KernelMixDwIdeal.sig) → Buf (Elt Ideal) ℓ) : Prop :=
  True

def Pre_ReferenceMixDwIdeal (m : (ℓ : Loc Cert.ReferenceMixDwIdeal.nD Cert.ReferenceMixDwIdeal.τ Cert.ReferenceMixDwIdeal.sig) → Buf (Elt Ideal) ℓ) : Prop :=
  True

def Pre_KernelMixDx (m : (ℓ : Loc Cert.KernelMixDx.nD Cert.KernelMixDx.τ Cert.KernelMixDx.sig) → Buf (Elt Bits) ℓ) : Prop :=
  True

def Pre_KernelMixDxIdeal (m : (ℓ : Loc Cert.KernelMixDxIdeal.nD Cert.KernelMixDxIdeal.τ Cert.KernelMixDxIdeal.sig) → Buf (Elt Ideal) ℓ) : Prop :=
  True

def Pre_ReferenceMixDxIdeal (m : (ℓ : Loc Cert.ReferenceMixDxIdeal.nD Cert.ReferenceMixDxIdeal.τ Cert.ReferenceMixDxIdeal.sig) → Buf (Elt Ideal) ℓ) : Prop :=
  True

def Pre_KernelFfnOut (m : (ℓ : Loc Cert.KernelFfnOut.nD Cert.KernelFfnOut.τ Cert.KernelFfnOut.sig) → Buf (Elt Bits) ℓ) : Prop :=
  True

def Pre_KernelFfnOutIdeal (m : (ℓ : Loc Cert.KernelFfnOutIdeal.nD Cert.KernelFfnOutIdeal.τ Cert.KernelFfnOutIdeal.sig) → Buf (Elt Ideal) ℓ) : Prop :=
  True

def Pre_ReferenceFfnOutIdeal (m : (ℓ : Loc Cert.ReferenceFfnOutIdeal.nD Cert.ReferenceFfnOutIdeal.τ Cert.ReferenceFfnOutIdeal.sig) → Buf (Elt Ideal) ℓ) : Prop :=
  True

def Pre_KernelMixIn (m : (ℓ : Loc Cert.KernelMixIn.nD Cert.KernelMixIn.τ Cert.KernelMixIn.sig) → Buf (Elt Bits) ℓ) : Prop :=
  True

def Pre_KernelMixInIdeal (m : (ℓ : Loc Cert.KernelMixInIdeal.nD Cert.KernelMixInIdeal.τ Cert.KernelMixInIdeal.sig) → Buf (Elt Ideal) ℓ) : Prop :=
  True

def Pre_ReferenceMixInIdeal (m : (ℓ : Loc Cert.ReferenceMixInIdeal.nD Cert.ReferenceMixInIdeal.τ Cert.ReferenceMixInIdeal.sig) → Buf (Elt Ideal) ℓ) : Prop :=
  True

def Pre_KernelSqOut (m : (ℓ : Loc Cert.KernelSqOut.nD Cert.KernelSqOut.τ Cert.KernelSqOut.sig) → Buf (Elt Bits) ℓ) : Prop :=
  True

def Pre_KernelSqOutIdeal (m : (ℓ : Loc Cert.KernelSqOutIdeal.nD Cert.KernelSqOutIdeal.τ Cert.KernelSqOutIdeal.sig) → Buf (Elt Ideal) ℓ) : Prop :=
  True

def Pre_ReferenceSqOutIdeal (m : (ℓ : Loc Cert.ReferenceSqOutIdeal.nD Cert.ReferenceSqOutIdeal.τ Cert.ReferenceSqOutIdeal.sig) → Buf (Elt Ideal) ℓ) : Prop :=
  True

def Pre_KernelSqQ (m : (ℓ : Loc Cert.KernelSqQ.nD Cert.KernelSqQ.τ Cert.KernelSqQ.sig) → Buf (Elt Bits) ℓ) : Prop :=
  True

def Pre_KernelSqQIdeal (m : (ℓ : Loc Cert.KernelSqQIdeal.nD Cert.KernelSqQIdeal.τ Cert.KernelSqQIdeal.sig) → Buf (Elt Ideal) ℓ) : Prop :=
  True

def Pre_ReferenceSqQIdeal (m : (ℓ : Loc Cert.ReferenceSqQIdeal.nD Cert.ReferenceSqQIdeal.τ Cert.ReferenceSqQIdeal.sig) → Buf (Elt Ideal) ℓ) : Prop :=
  True

def Pre_KernelMemKv (m : (ℓ : Loc Cert.KernelMemKv.nD Cert.KernelMemKv.τ Cert.KernelMemKv.sig) → Buf (Elt Bits) ℓ) : Prop :=
  True

def Pre_KernelMemKvIdeal (m : (ℓ : Loc Cert.KernelMemKvIdeal.nD Cert.KernelMemKvIdeal.τ Cert.KernelMemKvIdeal.sig) → Buf (Elt Ideal) ℓ) : Prop :=
  True

def Pre_ReferenceMemKvIdeal (m : (ℓ : Loc Cert.ReferenceMemKvIdeal.nD Cert.ReferenceMemKvIdeal.τ Cert.ReferenceMemKvIdeal.sig) → Buf (Elt Ideal) ℓ) : Prop :=
  True

def Pre_KernelFfnInA (m : (ℓ : Loc Cert.KernelFfnInA.nD Cert.KernelFfnInA.τ Cert.KernelFfnInA.sig) → Buf (Elt Bits) ℓ) : Prop :=
  True

def Pre_KernelFfnInAIdeal (m : (ℓ : Loc Cert.KernelFfnInAIdeal.nD Cert.KernelFfnInAIdeal.τ Cert.KernelFfnInAIdeal.sig) → Buf (Elt Ideal) ℓ) : Prop :=
  True

def Pre_KernelFfnInAIdeal_finite_in [hPre_finite_in : Cert.Pre_finite_in.Facts] (m : (ℓ : Loc Cert.KernelFfnInAIdeal.nD Cert.KernelFfnInAIdeal.τ Cert.KernelFfnInAIdeal.sig) → Buf (Elt Ideal) ℓ) : Prop :=
  ∀ c : Dev Cert.KernelFfnInAIdeal.nD,
    (Cert.Pre_finite_in.fn (F := Ideal) (m ((c.tc : Thread Cert.KernelFfnInAIdeal.nD Cert.KernelFfnInAIdeal.τ).loc Cert.KernelFfnInAIdeal.main_arg0)) (m ((c.tc : Thread Cert.KernelFfnInAIdeal.nD Cert.KernelFfnInAIdeal.τ).loc Cert.KernelFfnInAIdeal.main_arg1)) (m ((c.tc : Thread Cert.KernelFfnInAIdeal.nD Cert.KernelFfnInAIdeal.τ).loc Cert.KernelFfnInAIdeal.main_arg2))) = (fun _ => 1#1)

def Pre_ReferenceFfnInAIdeal (m : (ℓ : Loc Cert.ReferenceFfnInAIdeal.nD Cert.ReferenceFfnInAIdeal.τ Cert.ReferenceFfnInAIdeal.sig) → Buf (Elt Ideal) ℓ) : Prop :=
  True

def Pre_ReferenceFfnInAIdeal_finite_in [hPre_finite_in : Cert.Pre_finite_in.Facts] (m : (ℓ : Loc Cert.ReferenceFfnInAIdeal.nD Cert.ReferenceFfnInAIdeal.τ Cert.ReferenceFfnInAIdeal.sig) → Buf (Elt Ideal) ℓ) : Prop :=
  ∀ c : Dev Cert.ReferenceFfnInAIdeal.nD,
    (Cert.Pre_finite_in.fn (F := Ideal) (m ((c.tc : Thread Cert.ReferenceFfnInAIdeal.nD Cert.ReferenceFfnInAIdeal.τ).loc Cert.ReferenceFfnInAIdeal.main_arg0)) (m ((c.tc : Thread Cert.ReferenceFfnInAIdeal.nD Cert.ReferenceFfnInAIdeal.τ).loc Cert.ReferenceFfnInAIdeal.main_arg1)) (m ((c.tc : Thread Cert.ReferenceFfnInAIdeal.nD Cert.ReferenceFfnInAIdeal.τ).loc Cert.ReferenceFfnInAIdeal.main_arg2))) = (fun _ => 1#1)

def Pre_KernelFfnInB (m : (ℓ : Loc Cert.KernelFfnInB.nD Cert.KernelFfnInB.τ Cert.KernelFfnInB.sig) → Buf (Elt Bits) ℓ) : Prop :=
  True

def Pre_KernelFfnInBIdeal (m : (ℓ : Loc Cert.KernelFfnInBIdeal.nD Cert.KernelFfnInBIdeal.τ Cert.KernelFfnInBIdeal.sig) → Buf (Elt Ideal) ℓ) : Prop :=
  True

def Pre_KernelFfnInBIdeal_finite_in_rest [hPre_finite_in_rest : Cert.Pre_finite_in_rest.Facts] (m : (ℓ : Loc Cert.KernelFfnInBIdeal.nD Cert.KernelFfnInBIdeal.τ Cert.KernelFfnInBIdeal.sig) → Buf (Elt Ideal) ℓ) : Prop :=
  ∀ c : Dev Cert.KernelFfnInBIdeal.nD,
    (Cert.Pre_finite_in_rest.fn (F := Ideal) (m ((c.tc : Thread Cert.KernelFfnInBIdeal.nD Cert.KernelFfnInBIdeal.τ).loc Cert.KernelFfnInBIdeal.main_arg0)) (m ((c.tc : Thread Cert.KernelFfnInBIdeal.nD Cert.KernelFfnInBIdeal.τ).loc Cert.KernelFfnInBIdeal.main_arg1)) (m ((c.tc : Thread Cert.KernelFfnInBIdeal.nD Cert.KernelFfnInBIdeal.τ).loc Cert.KernelFfnInBIdeal.main_arg2)) (m ((c.tc : Thread Cert.KernelFfnInBIdeal.nD Cert.KernelFfnInBIdeal.τ).loc Cert.KernelFfnInBIdeal.main_arg3)) (m ((c.tc : Thread Cert.KernelFfnInBIdeal.nD Cert.KernelFfnInBIdeal.τ).loc Cert.KernelFfnInBIdeal.main_arg4))) = (fun _ => 1#1)

def Pre_ReferenceFfnInBIdeal (m : (ℓ : Loc Cert.ReferenceFfnInBIdeal.nD Cert.ReferenceFfnInBIdeal.τ Cert.ReferenceFfnInBIdeal.sig) → Buf (Elt Ideal) ℓ) : Prop :=
  True

def Pre_ReferenceFfnInBIdeal_finite_in_rest [hPre_finite_in_rest : Cert.Pre_finite_in_rest.Facts] (m : (ℓ : Loc Cert.ReferenceFfnInBIdeal.nD Cert.ReferenceFfnInBIdeal.τ Cert.ReferenceFfnInBIdeal.sig) → Buf (Elt Ideal) ℓ) : Prop :=
  ∀ c : Dev Cert.ReferenceFfnInBIdeal.nD,
    (Cert.Pre_finite_in_rest.fn (F := Ideal) (m ((c.tc : Thread Cert.ReferenceFfnInBIdeal.nD Cert.ReferenceFfnInBIdeal.τ).loc Cert.ReferenceFfnInBIdeal.main_arg0)) (m ((c.tc : Thread Cert.ReferenceFfnInBIdeal.nD Cert.ReferenceFfnInBIdeal.τ).loc Cert.ReferenceFfnInBIdeal.main_arg1)) (m ((c.tc : Thread Cert.ReferenceFfnInBIdeal.nD Cert.ReferenceFfnInBIdeal.τ).loc Cert.ReferenceFfnInBIdeal.main_arg2)) (m ((c.tc : Thread Cert.ReferenceFfnInBIdeal.nD Cert.ReferenceFfnInBIdeal.τ).loc Cert.ReferenceFfnInBIdeal.main_arg3)) (m ((c.tc : Thread Cert.ReferenceFfnInBIdeal.nD Cert.ReferenceFfnInBIdeal.τ).loc Cert.ReferenceFfnInBIdeal.main_arg4))) = (fun _ => 1#1)

def Pre_KernelXattn (m : (ℓ : Loc Cert.KernelXattn.nD Cert.KernelXattn.τ Cert.KernelXattn.sig) → Buf (Elt Bits) ℓ) : Prop :=
  True

def Pre_KernelXattnIdeal (m : (ℓ : Loc Cert.KernelXattnIdeal.nD Cert.KernelXattnIdeal.τ Cert.KernelXattnIdeal.sig) → Buf (Elt Ideal) ℓ) : Prop :=
  True

def Pre_KernelXattnIdeal_finite_x [hPre_finite_x : Cert.Pre_finite_x.Facts] (m : (ℓ : Loc Cert.KernelXattnIdeal.nD Cert.KernelXattnIdeal.τ Cert.KernelXattnIdeal.sig) → Buf (Elt Ideal) ℓ) : Prop :=
  ∀ c : Dev Cert.KernelXattnIdeal.nD,
    (Cert.Pre_finite_x.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2))) = (fun _ => 1#1)

def Pre_ReferenceXattnIdeal (m : (ℓ : Loc Cert.ReferenceXattnIdeal.nD Cert.ReferenceXattnIdeal.τ Cert.ReferenceXattnIdeal.sig) → Buf (Elt Ideal) ℓ) : Prop :=
  True

def Pre_ReferenceXattnIdeal_finite_x [hPre_finite_x : Cert.Pre_finite_x.Facts] (m : (ℓ : Loc Cert.ReferenceXattnIdeal.nD Cert.ReferenceXattnIdeal.τ Cert.ReferenceXattnIdeal.sig) → Buf (Elt Ideal) ℓ) : Prop :=
  ∀ c : Dev Cert.ReferenceXattnIdeal.nD,
    (Cert.Pre_finite_x.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2))) = (fun _ => 1#1)

def Pre_KernelXattnFwd (m : (ℓ : Loc Cert.KernelXattnFwd.nD Cert.KernelXattnFwd.τ Cert.KernelXattnFwd.sig) → Buf (Elt Bits) ℓ) : Prop :=
  True

def Pre_KernelXattnFwdIdeal (m : (ℓ : Loc Cert.KernelXattnFwdIdeal.nD Cert.KernelXattnFwdIdeal.τ Cert.KernelXattnFwdIdeal.sig) → Buf (Elt Ideal) ℓ) : Prop :=
  True

def Pre_ReferenceXattnFwdIdeal (m : (ℓ : Loc Cert.ReferenceXattnFwdIdeal.nD Cert.ReferenceXattnFwdIdeal.τ Cert.ReferenceXattnFwdIdeal.sig) → Buf (Elt Ideal) ℓ) : Prop :=
  True

def Pre_KernelSbFwd (m : (ℓ : Loc Cert.KernelSbFwd.nD Cert.KernelSbFwd.τ Cert.KernelSbFwd.sig) → Buf (Elt Bits) ℓ) : Prop :=
  True

def Pre_KernelSbFwdIdeal (m : (ℓ : Loc Cert.KernelSbFwdIdeal.nD Cert.KernelSbFwdIdeal.τ Cert.KernelSbFwdIdeal.sig) → Buf (Elt Ideal) ℓ) : Prop :=
  True

def Pre_KernelSbFwdIdeal_finite_z [hPre_finite_z : Cert.Pre_finite_z.Facts] (m : (ℓ : Loc Cert.KernelSbFwdIdeal.nD Cert.KernelSbFwdIdeal.τ Cert.KernelSbFwdIdeal.sig) → Buf (Elt Ideal) ℓ) : Prop :=
  ∀ c : Dev Cert.KernelSbFwdIdeal.nD,
    (Cert.Pre_finite_z.fn (F := Ideal) (m ((c.tc : Thread Cert.KernelSbFwdIdeal.nD Cert.KernelSbFwdIdeal.τ).loc Cert.KernelSbFwdIdeal.main_arg0))) = (fun _ => 1#1)

def Pre_ReferenceSbFwdIdeal (m : (ℓ : Loc Cert.ReferenceSbFwdIdeal.nD Cert.ReferenceSbFwdIdeal.τ Cert.ReferenceSbFwdIdeal.sig) → Buf (Elt Ideal) ℓ) : Prop :=
  True

def Pre_ReferenceSbFwdIdeal_finite_z [hPre_finite_z : Cert.Pre_finite_z.Facts] (m : (ℓ : Loc Cert.ReferenceSbFwdIdeal.nD Cert.ReferenceSbFwdIdeal.τ Cert.ReferenceSbFwdIdeal.sig) → Buf (Elt Ideal) ℓ) : Prop :=
  ∀ c : Dev Cert.ReferenceSbFwdIdeal.nD,
    (Cert.Pre_finite_z.fn (F := Ideal) (m ((c.tc : Thread Cert.ReferenceSbFwdIdeal.nD Cert.ReferenceSbFwdIdeal.τ).loc Cert.ReferenceSbFwdIdeal.main_arg0))) = (fun _ => 1#1)

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNormBwd (m : (ℓ : Loc Cert.KernelNormBwd.nD Cert.KernelNormBwd.τ Cert.KernelNormBwd.sig) → Buf (Elt Bits) ℓ) : Prop :=
  True

def Pre_KernelNormBwdIdeal (m : (ℓ : Loc Cert.KernelNormBwdIdeal.nD Cert.KernelNormBwdIdeal.τ Cert.KernelNormBwdIdeal.sig) → Buf (Elt Ideal) ℓ) : Prop :=
  True

def Pre_KernelNormBwdIdeal_finite_norm [hPre_finite_norm : Cert.Pre_finite_norm.Facts] (m : (ℓ : Loc Cert.KernelNormBwdIdeal.nD Cert.KernelNormBwdIdeal.τ Cert.KernelNormBwdIdeal.sig) → Buf (Elt Ideal) ℓ) : Prop :=
  ∀ c : Dev Cert.KernelNormBwdIdeal.nD,
    (Cert.Pre_finite_norm.fn (F := Ideal) (m ((c.tc : Thread Cert.KernelNormBwdIdeal.nD Cert.KernelNormBwdIdeal.τ).loc Cert.KernelNormBwdIdeal.main_arg0)) (m ((c.tc : Thread Cert.KernelNormBwdIdeal.nD Cert.KernelNormBwdIdeal.τ).loc Cert.KernelNormBwdIdeal.main_arg1)) (m ((c.tc : Thread Cert.KernelNormBwdIdeal.nD Cert.KernelNormBwdIdeal.τ).loc Cert.KernelNormBwdIdeal.main_arg2)) (m ((c.tc : Thread Cert.KernelNormBwdIdeal.nD Cert.KernelNormBwdIdeal.τ).loc Cert.KernelNormBwdIdeal.main_arg3))) = (fun _ => 1#1)

def Pre_ReferenceNormBwdIdeal (m : (ℓ : Loc Cert.ReferenceNormBwdIdeal.nD Cert.ReferenceNormBwdIdeal.τ Cert.ReferenceNormBwdIdeal.sig) → Buf (Elt Ideal) ℓ) : Prop :=
  True

def Pre_ReferenceNormBwdIdeal_finite_norm [hPre_finite_norm : Cert.Pre_finite_norm.Facts] (m : (ℓ : Loc Cert.ReferenceNormBwdIdeal.nD Cert.ReferenceNormBwdIdeal.τ Cert.ReferenceNormBwdIdeal.sig) → Buf (Elt Ideal) ℓ) : Prop :=
  ∀ c : Dev Cert.ReferenceNormBwdIdeal.nD,
    (Cert.Pre_finite_norm.fn (F := Ideal) (m ((c.tc : Thread Cert.ReferenceNormBwdIdeal.nD Cert.ReferenceNormBwdIdeal.τ).loc Cert.ReferenceNormBwdIdeal.main_arg0)) (m ((c.tc : Thread Cert.ReferenceNormBwdIdeal.nD Cert.ReferenceNormBwdIdeal.τ).loc Cert.ReferenceNormBwdIdeal.main_arg1)) (m ((c.tc : Thread Cert.ReferenceNormBwdIdeal.nD Cert.ReferenceNormBwdIdeal.τ).loc Cert.ReferenceNormBwdIdeal.main_arg2)) (m ((c.tc : Thread Cert.ReferenceNormBwdIdeal.nD Cert.ReferenceNormBwdIdeal.τ).loc Cert.ReferenceNormBwdIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_KernelActIdeal_pre_finite_out [hKernelActIdeal : Cert.KernelActIdeal.Facts] [hPre_finite_out : Cert.Pre_finite_out.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_out m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_ReferenceActIdeal_pre_finite_out [hReferenceActIdeal : Cert.ReferenceActIdeal.Facts] [hPre_finite_out : Cert.Pre_finite_out.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_out m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_KernelWout [hKernelWout : Cert.KernelWout.Facts] : Prop :=
  ∀ (m : (ℓ : Loc Cert.KernelWout.nD Cert.KernelWout.τ Cert.KernelWout.sig) → Buf (Elt Bits) ℓ) (g : Dev Cert.KernelWout.nD → PrngReg), Pre_KernelWout m →
    θ_run (Cert.KernelWout.defs (F := Bits)) (onTc (τ := Cert.KernelWout.τ) (Cert.KernelWout.main (F := Bits))) ⟨m, fun _ => 0, g⟩ (fun r => (∀ c : Dev Cert.KernelWout.nD,
      r.2.mem ((c.tc : Thread Cert.KernelWout.nD Cert.KernelWout.τ).loc Cert.KernelWout.main_arg0) = m ((c.tc : Thread Cert.KernelWout.nD Cert.KernelWout.τ).loc Cert.KernelWout.main_arg0)
      ∧ r.2.mem ((c.tc : Thread Cert.KernelWout.nD Cert.KernelWout.τ).loc Cert.KernelWout.main_arg1) = m ((c.tc : Thread Cert.KernelWout.nD Cert.KernelWout.τ).loc Cert.KernelWout.main_arg1)
      ∧ r.2.mem ((c.tc : Thread Cert.KernelWout.nD Cert.KernelWout.τ).loc Cert.KernelWout.main_arg2) = m ((c.tc : Thread Cert.KernelWout.nD Cert.KernelWout.τ).loc Cert.KernelWout.main_arg2))
      ∧ r.2.sem = fun _ => 0)

def quiescent_KernelWoutIdeal [hKernelWoutIdeal : Cert.KernelWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg), Pre_KernelWoutIdeal m →
    θ_run (Cert.KernelWoutIdeal.defs (F := Ideal)) (onTc (τ := Cert.KernelWoutIdeal.τ) (Cert.KernelWoutIdeal.main (F := Ideal))) ⟨m, fun _ => 0, g⟩ (fun r => (∀ c : Dev Cert.KernelWoutIdeal.nD,
      r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
      ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1)
      ∧ r.2.mem ((c.tc : Thread Cert.KernelWoutIdeal.nD Cert.KernelWoutIdeal.τ).loc Cert.KernelWoutIdeal.main_arg2) = m ((c.tc : Thread Cert.KernelWoutIdeal.nD Cert.KernelWoutIdeal.τ).loc Cert.KernelWoutIdeal.main_arg2))
      ∧ r.2.sem = fun _ => 0)

def quiescent_ReferenceWoutIdeal [hReferenceWoutIdeal : Cert.ReferenceWoutIdeal.Facts] : Prop :=
  ∀ (m : (ℓ : Loc Cert.ReferenceWoutIdeal.nD Cert.ReferenceWoutIdeal.τ Cert.ReferenceWoutIdeal.sig) → Buf (Elt Ideal) ℓ) (g : Dev Cert.ReferenceWoutIdeal.nD → PrngReg), Pre_ReferenceWoutIdeal m →
    θ_run (Cert.ReferenceWoutIdeal.defs (F := Ideal)) (onTc (τ := Cert.ReferenceWoutIdeal.τ) (Cert.ReferenceWoutIdeal.main (F := Ideal))) ⟨m, fun _ => 0, g⟩ (fun r => (∀ c : Dev Cert.ReferenceWoutIdeal.nD,
      r.2.mem ((c.tc : Thread Cert.ReferenceWoutIdeal.nD Cert.ReferenceWoutIdeal.τ).loc Cert.ReferenceWoutIdeal.main_arg0) = m ((c.tc : Thread Cert.ReferenceWoutIdeal.nD Cert.ReferenceWoutIdeal.τ).loc Cert.ReferenceWoutIdeal.main_arg0)
      ∧ r.2.mem ((c.tc : Thread Cert.ReferenceWoutIdeal.nD Cert.ReferenceWoutIdeal.τ).loc Cert.ReferenceWoutIdeal.main_arg1) = m ((c.tc : Thread Cert.ReferenceWoutIdeal.nD Cert.ReferenceWoutIdeal.τ).loc Cert.ReferenceWoutIdeal.main_arg1)
      ∧ r.2.mem ((c.tc : Thread Cert.ReferenceWoutIdeal.nD Cert.ReferenceWoutIdeal.τ).loc Cert.ReferenceWoutIdeal.main_arg2) = m ((c.tc : Thread Cert.ReferenceWoutIdeal.nD Cert.ReferenceWoutIdeal.τ).loc Cert.ReferenceWoutIdeal.main_arg2))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1)
      ∧ r.2.mem ((c.tc : Thread Cert.KernelWin.nD Cert.KernelWin.τ).loc Cert.KernelWin.main_arg2) = m ((c.tc : Thread Cert.KernelWin.nD Cert.KernelWin.τ).loc Cert.KernelWin.main_arg2))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
      ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1)
      ∧ r.2.mem ((c.tc : Thread Cert.ReferenceWinIdeal.nD Cert.ReferenceWinIdeal.τ).loc Cert.ReferenceWinIdeal.main_arg2) = m ((c.tc : Thread Cert.ReferenceWinIdeal.nD Cert.ReferenceWinIdeal.τ).loc Cert.ReferenceWinIdeal.main_arg2))
      ∧ r.2.sem = fun _ => 0)

def quiescent_KernelDn [hKernelDn : Cert.KernelDn.Facts] : Prop :=
  ∀ (m : (ℓ : Loc Cert.KernelDn.nD Cert.KernelDn.τ Cert.KernelDn.sig) → Buf (Elt Bits) ℓ) (g : Dev Cert.KernelDn.nD → PrngReg), Pre_KernelDn m →
    θ_run (Cert.KernelDn.defs (F := Bits)) (onTc (τ := Cert.KernelDn.τ) (Cert.KernelDn.main (F := Bits))) ⟨m, fun _ => 0, g⟩ (fun r => (∀ c : Dev Cert.KernelDn.nD,
      r.2.mem ((c.tc : Thread Cert.KernelDn.nD Cert.KernelDn.τ).loc Cert.KernelDn.main_arg0) = m ((c.tc : Thread Cert.KernelDn.nD Cert.KernelDn.τ).loc Cert.KernelDn.main_arg0)
      ∧ r.2.mem ((c.tc : Thread Cert.KernelDn.nD Cert.KernelDn.τ).loc Cert.KernelDn.main_arg1) = m ((c.tc : Thread Cert.KernelDn.nD Cert.KernelDn.τ).loc Cert.KernelDn.main_arg1)
      ∧ r.2.mem ((c.tc : Thread Cert.KernelDn.nD Cert.KernelDn.τ).loc Cert.KernelDn.main_arg2) = m ((c.tc : Thread Cert.KernelDn.nD Cert.KernelDn.τ).loc Cert.KernelDn.main_arg2))
      ∧ r.2.sem = fun _ => 0)

def quiescent_KernelDnIdeal [hKernelDnIdeal : Cert.KernelDnIdeal.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
      ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2))
      ∧ r.2.sem = fun _ => 0)

def quiescent_ReferenceDnIdeal [hReferenceDnIdeal : Cert.ReferenceDnIdeal.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1)
      ∧ r.2.mem ((c.tc : Thread Cert.ReferenceDnIdeal.nD Cert.ReferenceDnIdeal.τ).loc Cert.ReferenceDnIdeal.main_arg2) = m ((c.tc : Thread Cert.ReferenceDnIdeal.nD Cert.ReferenceDnIdeal.τ).loc Cert.ReferenceDnIdeal.main_arg2))
      ∧ r.2.sem = fun _ => 0)

def quiescent_KernelSqDo [hKernelSqDo : Cert.KernelSqDo.Facts] : Prop :=
  ∀ (m : (ℓ : Loc Cert.KernelSqDo.nD Cert.KernelSqDo.τ Cert.KernelSqDo.sig) → Buf (Elt Bits) ℓ) (g : Dev Cert.KernelSqDo.nD → PrngReg), Pre_KernelSqDo m →
    θ_run (Cert.KernelSqDo.defs (F := Bits)) (onTc (τ := Cert.KernelSqDo.τ) (Cert.KernelSqDo.main (F := Bits))) ⟨m, fun _ => 0, g⟩ (fun r => (∀ c : Dev Cert.KernelSqDo.nD,
      r.2.mem ((c.tc : Thread Cert.KernelSqDo.nD Cert.KernelSqDo.τ).loc Cert.KernelSqDo.main_arg0) = m ((c.tc : Thread Cert.KernelSqDo.nD Cert.KernelSqDo.τ).loc Cert.KernelSqDo.main_arg0)
      ∧ r.2.mem ((c.tc : Thread Cert.KernelSqDo.nD Cert.KernelSqDo.τ).loc Cert.KernelSqDo.main_arg1) = m ((c.tc : Thread Cert.KernelSqDo.nD Cert.KernelSqDo.τ).loc Cert.KernelSqDo.main_arg1)
      ∧ r.2.mem ((c.tc : Thread Cert.KernelSqDo.nD Cert.KernelSqDo.τ).loc Cert.KernelSqDo.main_arg2) = m ((c.tc : Thread Cert.KernelSqDo.nD Cert.KernelSqDo.τ).loc Cert.KernelSqDo.main_arg2))
      ∧ r.2.sem = fun _ => 0)

def quiescent_KernelSqDoIdeal [hKernelSqDoIdeal : Cert.KernelSqDoIdeal.Facts] : Prop :=
  ∀ (m : (ℓ : Loc Cert.KernelSqDoIdeal.nD Cert.KernelSqDoIdeal.τ Cert.KernelSqDoIdeal.sig) → Buf (Elt Ideal) ℓ) (g : Dev Cert.KernelSqDoIdeal.nD → PrngReg), Pre_KernelSqDoIdeal m →
    θ_run (Cert.KernelSqDoIdeal.defs (F := Ideal)) (onTc (τ := Cert.KernelSqDoIdeal.τ) (Cert.KernelSqDoIdeal.main (F := Ideal))) ⟨m, fun _ => 0, g⟩ (fun r => (∀ c : Dev Cert.KernelSqDoIdeal.nD,
      r.2.mem ((c.tc : Thread Cert.KernelSqDoIdeal.nD Cert.KernelSqDoIdeal.τ).loc Cert.KernelSqDoIdeal.main_arg0) = m ((c.tc : Thread Cert.KernelSqDoIdeal.nD Cert.KernelSqDoIdeal.τ).loc Cert.KernelSqDoIdeal.main_arg0)
      ∧ r.2.mem ((c.tc : Thread Cert.KernelSqDoIdeal.nD Cert.KernelSqDoIdeal.τ).loc Cert.KernelSqDoIdeal.main_arg1) = m ((c.tc : Thread Cert.KernelSqDoIdeal.nD Cert.KernelSqDoIdeal.τ).loc Cert.KernelSqDoIdeal.main_arg1)
      ∧ r.2.mem ((c.tc : Thread Cert.KernelSqDoIdeal.nD Cert.KernelSqDoIdeal.τ).loc Cert.KernelSqDoIdeal.main_arg2) = m ((c.tc : Thread Cert.KernelSqDoIdeal.nD Cert.KernelSqDoIdeal.τ).loc Cert.KernelSqDoIdeal.main_arg2))
      ∧ r.2.sem = fun _ => 0)

def quiescent_ReferenceSqDoIdeal [hReferenceSqDoIdeal : Cert.ReferenceSqDoIdeal.Facts] : Prop :=
  ∀ (m : (ℓ : Loc Cert.ReferenceSqDoIdeal.nD Cert.ReferenceSqDoIdeal.τ Cert.ReferenceSqDoIdeal.sig) → Buf (Elt Ideal) ℓ) (g : Dev Cert.ReferenceSqDoIdeal.nD → PrngReg), Pre_ReferenceSqDoIdeal m →
    θ_run (Cert.ReferenceSqDoIdeal.defs (F := Ideal)) (onTc (τ := Cert.ReferenceSqDoIdeal.τ) (Cert.ReferenceSqDoIdeal.main (F := Ideal))) ⟨m, fun _ => 0, g⟩ (fun r => (∀ c : Dev Cert.ReferenceSqDoIdeal.nD,
      r.2.mem ((c.tc : Thread Cert.ReferenceSqDoIdeal.nD Cert.ReferenceSqDoIdeal.τ).loc Cert.ReferenceSqDoIdeal.main_arg0) = m ((c.tc : Thread Cert.ReferenceSqDoIdeal.nD Cert.ReferenceSqDoIdeal.τ).loc Cert.ReferenceSqDoIdeal.main_arg0)
      ∧ r.2.mem ((c.tc : Thread Cert.ReferenceSqDoIdeal.nD Cert.ReferenceSqDoIdeal.τ).loc Cert.ReferenceSqDoIdeal.main_arg1) = m ((c.tc : Thread Cert.ReferenceSqDoIdeal.nD Cert.ReferenceSqDoIdeal.τ).loc Cert.ReferenceSqDoIdeal.main_arg1)
      ∧ r.2.mem ((c.tc : Thread Cert.ReferenceSqDoIdeal.nD Cert.ReferenceSqDoIdeal.τ).loc Cert.ReferenceSqDoIdeal.main_arg2) = m ((c.tc : Thread Cert.ReferenceSqDoIdeal.nD Cert.ReferenceSqDoIdeal.τ).loc Cert.ReferenceSqDoIdeal.main_arg2))
      ∧ r.2.sem = fun _ => 0)

def quiescent_KernelSqDx [hKernelSqDx : Cert.KernelSqDx.Facts] : Prop :=
  ∀ (m : (ℓ : Loc Cert.KernelSqDx.nD Cert.KernelSqDx.τ Cert.KernelSqDx.sig) → Buf (Elt Bits) ℓ) (g : Dev Cert.KernelSqDx.nD → PrngReg), Pre_KernelSqDx m →
    θ_run (Cert.KernelSqDx.defs (F := Bits)) (onTc (τ := Cert.KernelSqDx.τ) (Cert.KernelSqDx.main (F := Bits))) ⟨m, fun _ => 0, g⟩ (fun r => (∀ c : Dev Cert.KernelSqDx.nD,
      r.2.mem ((c.tc : Thread Cert.KernelSqDx.nD Cert.KernelSqDx.τ).loc Cert.KernelSqDx.main_arg0) = m ((c.tc : Thread Cert.KernelSqDx.nD Cert.KernelSqDx.τ).loc Cert.KernelSqDx.main_arg0)
      ∧ r.2.mem ((c.tc : Thread Cert.KernelSqDx.nD Cert.KernelSqDx.τ).loc Cert.KernelSqDx.main_arg1) = m ((c.tc : Thread Cert.KernelSqDx.nD Cert.KernelSqDx.τ).loc Cert.KernelSqDx.main_arg1)
      ∧ r.2.mem ((c.tc : Thread Cert.KernelSqDx.nD Cert.KernelSqDx.τ).loc Cert.KernelSqDx.main_arg2) = m ((c.tc : Thread Cert.KernelSqDx.nD Cert.KernelSqDx.τ).loc Cert.KernelSqDx.main_arg2))
      ∧ r.2.sem = fun _ => 0)

def quiescent_KernelSqDxIdeal [hKernelSqDxIdeal : Cert.KernelSqDxIdeal.Facts] : Prop :=
  ∀ (m : (ℓ : Loc Cert.KernelSqDxIdeal.nD Cert.KernelSqDxIdeal.τ Cert.KernelSqDxIdeal.sig) → Buf (Elt Ideal) ℓ) (g : Dev Cert.KernelSqDxIdeal.nD → PrngReg), Pre_KernelSqDxIdeal m →
    θ_run (Cert.KernelSqDxIdeal.defs (F := Ideal)) (onTc (τ := Cert.KernelSqDxIdeal.τ) (Cert.KernelSqDxIdeal.main (F := Ideal))) ⟨m, fun _ => 0, g⟩ (fun r => (∀ c : Dev Cert.KernelSqDxIdeal.nD,
      r.2.mem ((c.tc : Thread Cert.KernelSqDxIdeal.nD Cert.KernelSqDxIdeal.τ).loc Cert.KernelSqDxIdeal.main_arg0) = m ((c.tc : Thread Cert.KernelSqDxIdeal.nD Cert.KernelSqDxIdeal.τ).loc Cert.KernelSqDxIdeal.main_arg0)
      ∧ r.2.mem ((c.tc : Thread Cert.KernelSqDxIdeal.nD Cert.KernelSqDxIdeal.τ).loc Cert.KernelSqDxIdeal.main_arg1) = m ((c.tc : Thread Cert.KernelSqDxIdeal.nD Cert.KernelSqDxIdeal.τ).loc Cert.KernelSqDxIdeal.main_arg1)
      ∧ r.2.mem ((c.tc : Thread Cert.KernelSqDxIdeal.nD Cert.KernelSqDxIdeal.τ).loc Cert.KernelSqDxIdeal.main_arg2) = m ((c.tc : Thread Cert.KernelSqDxIdeal.nD Cert.KernelSqDxIdeal.τ).loc Cert.KernelSqDxIdeal.main_arg2))
      ∧ r.2.sem = fun _ => 0)

def quiescent_ReferenceSqDxIdeal [hReferenceSqDxIdeal : Cert.ReferenceSqDxIdeal.Facts] : Prop :=
  ∀ (m : (ℓ : Loc Cert.ReferenceSqDxIdeal.nD Cert.ReferenceSqDxIdeal.τ Cert.ReferenceSqDxIdeal.sig) → Buf (Elt Ideal) ℓ) (g : Dev Cert.ReferenceSqDxIdeal.nD → PrngReg), Pre_ReferenceSqDxIdeal m →
    θ_run (Cert.ReferenceSqDxIdeal.defs (F := Ideal)) (onTc (τ := Cert.ReferenceSqDxIdeal.τ) (Cert.ReferenceSqDxIdeal.main (F := Ideal))) ⟨m, fun _ => 0, g⟩ (fun r => (∀ c : Dev Cert.ReferenceSqDxIdeal.nD,
      r.2.mem ((c.tc : Thread Cert.ReferenceSqDxIdeal.nD Cert.ReferenceSqDxIdeal.τ).loc Cert.ReferenceSqDxIdeal.main_arg0) = m ((c.tc : Thread Cert.ReferenceSqDxIdeal.nD Cert.ReferenceSqDxIdeal.τ).loc Cert.ReferenceSqDxIdeal.main_arg0)
      ∧ r.2.mem ((c.tc : Thread Cert.ReferenceSqDxIdeal.nD Cert.ReferenceSqDxIdeal.τ).loc Cert.ReferenceSqDxIdeal.main_arg1) = m ((c.tc : Thread Cert.ReferenceSqDxIdeal.nD Cert.ReferenceSqDxIdeal.τ).loc Cert.ReferenceSqDxIdeal.main_arg1)
      ∧ r.2.mem ((c.tc : Thread Cert.ReferenceSqDxIdeal.nD Cert.ReferenceSqDxIdeal.τ).loc Cert.ReferenceSqDxIdeal.main_arg2) = m ((c.tc : Thread Cert.ReferenceSqDxIdeal.nD Cert.ReferenceSqDxIdeal.τ).loc Cert.ReferenceSqDxIdeal.main_arg2))
      ∧ r.2.sem = fun _ => 0)

def quiescent_KernelSqDw [hKernelSqDw : Cert.KernelSqDw.Facts] : Prop :=
  ∀ (m : (ℓ : Loc Cert.KernelSqDw.nD Cert.KernelSqDw.τ Cert.KernelSqDw.sig) → Buf (Elt Bits) ℓ) (g : Dev Cert.KernelSqDw.nD → PrngReg), Pre_KernelSqDw m →
    θ_run (Cert.KernelSqDw.defs (F := Bits)) (onTc (τ := Cert.KernelSqDw.τ) (Cert.KernelSqDw.main (F := Bits))) ⟨m, fun _ => 0, g⟩ (fun r => (∀ c : Dev Cert.KernelSqDw.nD,
      r.2.mem ((c.tc : Thread Cert.KernelSqDw.nD Cert.KernelSqDw.τ).loc Cert.KernelSqDw.main_arg0) = m ((c.tc : Thread Cert.KernelSqDw.nD Cert.KernelSqDw.τ).loc Cert.KernelSqDw.main_arg0)
      ∧ r.2.mem ((c.tc : Thread Cert.KernelSqDw.nD Cert.KernelSqDw.τ).loc Cert.KernelSqDw.main_arg1) = m ((c.tc : Thread Cert.KernelSqDw.nD Cert.KernelSqDw.τ).loc Cert.KernelSqDw.main_arg1)
      ∧ r.2.mem ((c.tc : Thread Cert.KernelSqDw.nD Cert.KernelSqDw.τ).loc Cert.KernelSqDw.main_arg2) = m ((c.tc : Thread Cert.KernelSqDw.nD Cert.KernelSqDw.τ).loc Cert.KernelSqDw.main_arg2))
      ∧ r.2.sem = fun _ => 0)

def quiescent_KernelSqDwIdeal [hKernelSqDwIdeal : Cert.KernelSqDwIdeal.Facts] : Prop :=
  ∀ (m : (ℓ : Loc Cert.KernelSqDwIdeal.nD Cert.KernelSqDwIdeal.τ Cert.KernelSqDwIdeal.sig) → Buf (Elt Ideal) ℓ) (g : Dev Cert.KernelSqDwIdeal.nD → PrngReg), Pre_KernelSqDwIdeal m →
    θ_run (Cert.KernelSqDwIdeal.defs (F := Ideal)) (onTc (τ := Cert.KernelSqDwIdeal.τ) (Cert.KernelSqDwIdeal.main (F := Ideal))) ⟨m, fun _ => 0, g⟩ (fun r => (∀ c : Dev Cert.KernelSqDwIdeal.nD,
      r.2.mem ((c.tc : Thread Cert.KernelSqDwIdeal.nD Cert.KernelSqDwIdeal.τ).loc Cert.KernelSqDwIdeal.main_arg0) = m ((c.tc : Thread Cert.KernelSqDwIdeal.nD Cert.KernelSqDwIdeal.τ).loc Cert.KernelSqDwIdeal.main_arg0)
      ∧ r.2.mem ((c.tc : Thread Cert.KernelSqDwIdeal.nD Cert.KernelSqDwIdeal.τ).loc Cert.KernelSqDwIdeal.main_arg1) = m ((c.tc : Thread Cert.KernelSqDwIdeal.nD Cert.KernelSqDwIdeal.τ).loc Cert.KernelSqDwIdeal.main_arg1)
      ∧ r.2.mem ((c.tc : Thread Cert.KernelSqDwIdeal.nD Cert.KernelSqDwIdeal.τ).loc Cert.KernelSqDwIdeal.main_arg2) = m ((c.tc : Thread Cert.KernelSqDwIdeal.nD Cert.KernelSqDwIdeal.τ).loc Cert.KernelSqDwIdeal.main_arg2))
      ∧ r.2.sem = fun _ => 0)

def quiescent_ReferenceSqDwIdeal [hReferenceSqDwIdeal : Cert.ReferenceSqDwIdeal.Facts] : Prop :=
  ∀ (m : (ℓ : Loc Cert.ReferenceSqDwIdeal.nD Cert.ReferenceSqDwIdeal.τ Cert.ReferenceSqDwIdeal.sig) → Buf (Elt Ideal) ℓ) (g : Dev Cert.ReferenceSqDwIdeal.nD → PrngReg), Pre_ReferenceSqDwIdeal m →
    θ_run (Cert.ReferenceSqDwIdeal.defs (F := Ideal)) (onTc (τ := Cert.ReferenceSqDwIdeal.τ) (Cert.ReferenceSqDwIdeal.main (F := Ideal))) ⟨m, fun _ => 0, g⟩ (fun r => (∀ c : Dev Cert.ReferenceSqDwIdeal.nD,
      r.2.mem ((c.tc : Thread Cert.ReferenceSqDwIdeal.nD Cert.ReferenceSqDwIdeal.τ).loc Cert.ReferenceSqDwIdeal.main_arg0) = m ((c.tc : Thread Cert.ReferenceSqDwIdeal.nD Cert.ReferenceSqDwIdeal.τ).loc Cert.ReferenceSqDwIdeal.main_arg0)
      ∧ r.2.mem ((c.tc : Thread Cert.ReferenceSqDwIdeal.nD Cert.ReferenceSqDwIdeal.τ).loc Cert.ReferenceSqDwIdeal.main_arg1) = m ((c.tc : Thread Cert.ReferenceSqDwIdeal.nD Cert.ReferenceSqDwIdeal.τ).loc Cert.ReferenceSqDwIdeal.main_arg1)
      ∧ r.2.mem ((c.tc : Thread Cert.ReferenceSqDwIdeal.nD Cert.ReferenceSqDwIdeal.τ).loc Cert.ReferenceSqDwIdeal.main_arg2) = m ((c.tc : Thread Cert.ReferenceSqDwIdeal.nD Cert.ReferenceSqDwIdeal.τ).loc Cert.ReferenceSqDwIdeal.main_arg2))
      ∧ r.2.sem = fun _ => 0)

def quiescent_KernelMemDw [hKernelMemDw : Cert.KernelMemDw.Facts] : Prop :=
  ∀ (m : (ℓ : Loc Cert.KernelMemDw.nD Cert.KernelMemDw.τ Cert.KernelMemDw.sig) → Buf (Elt Bits) ℓ) (g : Dev Cert.KernelMemDw.nD → PrngReg), Pre_KernelMemDw m →
    θ_run (Cert.KernelMemDw.defs (F := Bits)) (onTc (τ := Cert.KernelMemDw.τ) (Cert.KernelMemDw.main (F := Bits))) ⟨m, fun _ => 0, g⟩ (fun r => (∀ c : Dev Cert.KernelMemDw.nD,
      r.2.mem ((c.tc : Thread Cert.KernelMemDw.nD Cert.KernelMemDw.τ).loc Cert.KernelMemDw.main_arg0) = m ((c.tc : Thread Cert.KernelMemDw.nD Cert.KernelMemDw.τ).loc Cert.KernelMemDw.main_arg0)
      ∧ r.2.mem ((c.tc : Thread Cert.KernelMemDw.nD Cert.KernelMemDw.τ).loc Cert.KernelMemDw.main_arg1) = m ((c.tc : Thread Cert.KernelMemDw.nD Cert.KernelMemDw.τ).loc Cert.KernelMemDw.main_arg1)
      ∧ r.2.mem ((c.tc : Thread Cert.KernelMemDw.nD Cert.KernelMemDw.τ).loc Cert.KernelMemDw.main_arg2) = m ((c.tc : Thread Cert.KernelMemDw.nD Cert.KernelMemDw.τ).loc Cert.KernelMemDw.main_arg2))
      ∧ r.2.sem = fun _ => 0)

def quiescent_KernelMemDwIdeal [hKernelMemDwIdeal : Cert.KernelMemDwIdeal.Facts] : Prop :=
  ∀ (m : (ℓ : Loc Cert.KernelMemDwIdeal.nD Cert.KernelMemDwIdeal.τ Cert.KernelMemDwIdeal.sig) → Buf (Elt Ideal) ℓ) (g : Dev Cert.KernelMemDwIdeal.nD → PrngReg), Pre_KernelMemDwIdeal m →
    θ_run (Cert.KernelMemDwIdeal.defs (F := Ideal)) (onTc (τ := Cert.KernelMemDwIdeal.τ) (Cert.KernelMemDwIdeal.main (F := Ideal))) ⟨m, fun _ => 0, g⟩ (fun r => (∀ c : Dev Cert.KernelMemDwIdeal.nD,
      r.2.mem ((c.tc : Thread Cert.KernelMemDwIdeal.nD Cert.KernelMemDwIdeal.τ).loc Cert.KernelMemDwIdeal.main_arg0) = m ((c.tc : Thread Cert.KernelMemDwIdeal.nD Cert.KernelMemDwIdeal.τ).loc Cert.KernelMemDwIdeal.main_arg0)
      ∧ r.2.mem ((c.tc : Thread Cert.KernelMemDwIdeal.nD Cert.KernelMemDwIdeal.τ).loc Cert.KernelMemDwIdeal.main_arg1) = m ((c.tc : Thread Cert.KernelMemDwIdeal.nD Cert.KernelMemDwIdeal.τ).loc Cert.KernelMemDwIdeal.main_arg1)
      ∧ r.2.mem ((c.tc : Thread Cert.KernelMemDwIdeal.nD Cert.KernelMemDwIdeal.τ).loc Cert.KernelMemDwIdeal.main_arg2) = m ((c.tc : Thread Cert.KernelMemDwIdeal.nD Cert.KernelMemDwIdeal.τ).loc Cert.KernelMemDwIdeal.main_arg2))
      ∧ r.2.sem = fun _ => 0)

def quiescent_ReferenceMemDwIdeal [hReferenceMemDwIdeal : Cert.ReferenceMemDwIdeal.Facts] : Prop :=
  ∀ (m : (ℓ : Loc Cert.ReferenceMemDwIdeal.nD Cert.ReferenceMemDwIdeal.τ Cert.ReferenceMemDwIdeal.sig) → Buf (Elt Ideal) ℓ) (g : Dev Cert.ReferenceMemDwIdeal.nD → PrngReg), Pre_ReferenceMemDwIdeal m →
    θ_run (Cert.ReferenceMemDwIdeal.defs (F := Ideal)) (onTc (τ := Cert.ReferenceMemDwIdeal.τ) (Cert.ReferenceMemDwIdeal.main (F := Ideal))) ⟨m, fun _ => 0, g⟩ (fun r => (∀ c : Dev Cert.ReferenceMemDwIdeal.nD,
      r.2.mem ((c.tc : Thread Cert.ReferenceMemDwIdeal.nD Cert.ReferenceMemDwIdeal.τ).loc Cert.ReferenceMemDwIdeal.main_arg0) = m ((c.tc : Thread Cert.ReferenceMemDwIdeal.nD Cert.ReferenceMemDwIdeal.τ).loc Cert.ReferenceMemDwIdeal.main_arg0)
      ∧ r.2.mem ((c.tc : Thread Cert.ReferenceMemDwIdeal.nD Cert.ReferenceMemDwIdeal.τ).loc Cert.ReferenceMemDwIdeal.main_arg1) = m ((c.tc : Thread Cert.ReferenceMemDwIdeal.nD Cert.ReferenceMemDwIdeal.τ).loc Cert.ReferenceMemDwIdeal.main_arg1)
      ∧ r.2.mem ((c.tc : Thread Cert.ReferenceMemDwIdeal.nD Cert.ReferenceMemDwIdeal.τ).loc Cert.ReferenceMemDwIdeal.main_arg2) = m ((c.tc : Thread Cert.ReferenceMemDwIdeal.nD Cert.ReferenceMemDwIdeal.τ).loc Cert.ReferenceMemDwIdeal.main_arg2))
      ∧ r.2.sem = fun _ => 0)

def quiescent_KernelMemDx [hKernelMemDx : Cert.KernelMemDx.Facts] : Prop :=
  ∀ (m : (ℓ : Loc Cert.KernelMemDx.nD Cert.KernelMemDx.τ Cert.KernelMemDx.sig) → Buf (Elt Bits) ℓ) (g : Dev Cert.KernelMemDx.nD → PrngReg), Pre_KernelMemDx m →
    θ_run (Cert.KernelMemDx.defs (F := Bits)) (onTc (τ := Cert.KernelMemDx.τ) (Cert.KernelMemDx.main (F := Bits))) ⟨m, fun _ => 0, g⟩ (fun r => (∀ c : Dev Cert.KernelMemDx.nD,
      r.2.mem ((c.tc : Thread Cert.KernelMemDx.nD Cert.KernelMemDx.τ).loc Cert.KernelMemDx.main_arg0) = m ((c.tc : Thread Cert.KernelMemDx.nD Cert.KernelMemDx.τ).loc Cert.KernelMemDx.main_arg0)
      ∧ r.2.mem ((c.tc : Thread Cert.KernelMemDx.nD Cert.KernelMemDx.τ).loc Cert.KernelMemDx.main_arg1) = m ((c.tc : Thread Cert.KernelMemDx.nD Cert.KernelMemDx.τ).loc Cert.KernelMemDx.main_arg1)
      ∧ r.2.mem ((c.tc : Thread Cert.KernelMemDx.nD Cert.KernelMemDx.τ).loc Cert.KernelMemDx.main_arg2) = m ((c.tc : Thread Cert.KernelMemDx.nD Cert.KernelMemDx.τ).loc Cert.KernelMemDx.main_arg2))
      ∧ r.2.sem = fun _ => 0)

def quiescent_KernelMemDxIdeal [hKernelMemDxIdeal : Cert.KernelMemDxIdeal.Facts] : Prop :=
  ∀ (m : (ℓ : Loc Cert.KernelMemDxIdeal.nD Cert.KernelMemDxIdeal.τ Cert.KernelMemDxIdeal.sig) → Buf (Elt Ideal) ℓ) (g : Dev Cert.KernelMemDxIdeal.nD → PrngReg), Pre_KernelMemDxIdeal m →
    θ_run (Cert.KernelMemDxIdeal.defs (F := Ideal)) (onTc (τ := Cert.KernelMemDxIdeal.τ) (Cert.KernelMemDxIdeal.main (F := Ideal))) ⟨m, fun _ => 0, g⟩ (fun r => (∀ c : Dev Cert.KernelMemDxIdeal.nD,
      r.2.mem ((c.tc : Thread Cert.KernelMemDxIdeal.nD Cert.KernelMemDxIdeal.τ).loc Cert.KernelMemDxIdeal.main_arg0) = m ((c.tc : Thread Cert.KernelMemDxIdeal.nD Cert.KernelMemDxIdeal.τ).loc Cert.KernelMemDxIdeal.main_arg0)
      ∧ r.2.mem ((c.tc : Thread Cert.KernelMemDxIdeal.nD Cert.KernelMemDxIdeal.τ).loc Cert.KernelMemDxIdeal.main_arg1) = m ((c.tc : Thread Cert.KernelMemDxIdeal.nD Cert.KernelMemDxIdeal.τ).loc Cert.KernelMemDxIdeal.main_arg1)
      ∧ r.2.mem ((c.tc : Thread Cert.KernelMemDxIdeal.nD Cert.KernelMemDxIdeal.τ).loc Cert.KernelMemDxIdeal.main_arg2) = m ((c.tc : Thread Cert.KernelMemDxIdeal.nD Cert.KernelMemDxIdeal.τ).loc Cert.KernelMemDxIdeal.main_arg2))
      ∧ r.2.sem = fun _ => 0)

def quiescent_ReferenceMemDxIdeal [hReferenceMemDxIdeal : Cert.ReferenceMemDxIdeal.Facts] : Prop :=
  ∀ (m : (ℓ : Loc Cert.ReferenceMemDxIdeal.nD Cert.ReferenceMemDxIdeal.τ Cert.ReferenceMemDxIdeal.sig) → Buf (Elt Ideal) ℓ) (g : Dev Cert.ReferenceMemDxIdeal.nD → PrngReg), Pre_ReferenceMemDxIdeal m →
    θ_run (Cert.ReferenceMemDxIdeal.defs (F := Ideal)) (onTc (τ := Cert.ReferenceMemDxIdeal.τ) (Cert.ReferenceMemDxIdeal.main (F := Ideal))) ⟨m, fun _ => 0, g⟩ (fun r => (∀ c : Dev Cert.ReferenceMemDxIdeal.nD,
      r.2.mem ((c.tc : Thread Cert.ReferenceMemDxIdeal.nD Cert.ReferenceMemDxIdeal.τ).loc Cert.ReferenceMemDxIdeal.main_arg0) = m ((c.tc : Thread Cert.ReferenceMemDxIdeal.nD Cert.ReferenceMemDxIdeal.τ).loc Cert.ReferenceMemDxIdeal.main_arg0)
      ∧ r.2.mem ((c.tc : Thread Cert.ReferenceMemDxIdeal.nD Cert.ReferenceMemDxIdeal.τ).loc Cert.ReferenceMemDxIdeal.main_arg1) = m ((c.tc : Thread Cert.ReferenceMemDxIdeal.nD Cert.ReferenceMemDxIdeal.τ).loc Cert.ReferenceMemDxIdeal.main_arg1)
      ∧ r.2.mem ((c.tc : Thread Cert.ReferenceMemDxIdeal.nD Cert.ReferenceMemDxIdeal.τ).loc Cert.ReferenceMemDxIdeal.main_arg2) = m ((c.tc : Thread Cert.ReferenceMemDxIdeal.nD Cert.ReferenceMemDxIdeal.τ).loc Cert.ReferenceMemDxIdeal.main_arg2))
      ∧ r.2.sem = fun _ => 0)

def quiescent_KernelMixDw [hKernelMixDw : Cert.KernelMixDw.Facts] : Prop :=
  ∀ (m : (ℓ : Loc Cert.KernelMixDw.nD Cert.KernelMixDw.τ Cert.KernelMixDw.sig) → Buf (Elt Bits) ℓ) (g : Dev Cert.KernelMixDw.nD → PrngReg), Pre_KernelMixDw m →
    θ_run (Cert.KernelMixDw.defs (F := Bits)) (onTc (τ := Cert.KernelMixDw.τ) (Cert.KernelMixDw.main (F := Bits))) ⟨m, fun _ => 0, g⟩ (fun r => (∀ c : Dev Cert.KernelMixDw.nD,
      r.2.mem ((c.tc : Thread Cert.KernelMixDw.nD Cert.KernelMixDw.τ).loc Cert.KernelMixDw.main_arg0) = m ((c.tc : Thread Cert.KernelMixDw.nD Cert.KernelMixDw.τ).loc Cert.KernelMixDw.main_arg0)
      ∧ r.2.mem ((c.tc : Thread Cert.KernelMixDw.nD Cert.KernelMixDw.τ).loc Cert.KernelMixDw.main_arg1) = m ((c.tc : Thread Cert.KernelMixDw.nD Cert.KernelMixDw.τ).loc Cert.KernelMixDw.main_arg1)
      ∧ r.2.mem ((c.tc : Thread Cert.KernelMixDw.nD Cert.KernelMixDw.τ).loc Cert.KernelMixDw.main_arg2) = m ((c.tc : Thread Cert.KernelMixDw.nD Cert.KernelMixDw.τ).loc Cert.KernelMixDw.main_arg2))
      ∧ r.2.sem = fun _ => 0)

def quiescent_KernelMixDwIdeal [hKernelMixDwIdeal : Cert.KernelMixDwIdeal.Facts] : Prop :=
  ∀ (m : (ℓ : Loc Cert.KernelMixDwIdeal.nD Cert.KernelMixDwIdeal.τ Cert.KernelMixDwIdeal.sig) → Buf (Elt Ideal) ℓ) (g : Dev Cert.KernelMixDwIdeal.nD → PrngReg), Pre_KernelMixDwIdeal m →
    θ_run (Cert.KernelMixDwIdeal.defs (F := Ideal)) (onTc (τ := Cert.KernelMixDwIdeal.τ) (Cert.KernelMixDwIdeal.main (F := Ideal))) ⟨m, fun _ => 0, g⟩ (fun r => (∀ c : Dev Cert.KernelMixDwIdeal.nD,
      r.2.mem ((c.tc : Thread Cert.KernelMixDwIdeal.nD Cert.KernelMixDwIdeal.τ).loc Cert.KernelMixDwIdeal.main_arg0) = m ((c.tc : Thread Cert.KernelMixDwIdeal.nD Cert.KernelMixDwIdeal.τ).loc Cert.KernelMixDwIdeal.main_arg0)
      ∧ r.2.mem ((c.tc : Thread Cert.KernelMixDwIdeal.nD Cert.KernelMixDwIdeal.τ).loc Cert.KernelMixDwIdeal.main_arg1) = m ((c.tc : Thread Cert.KernelMixDwIdeal.nD Cert.KernelMixDwIdeal.τ).loc Cert.KernelMixDwIdeal.main_arg1)
      ∧ r.2.mem ((c.tc : Thread Cert.KernelMixDwIdeal.nD Cert.KernelMixDwIdeal.τ).loc Cert.KernelMixDwIdeal.main_arg2) = m ((c.tc : Thread Cert.KernelMixDwIdeal.nD Cert.KernelMixDwIdeal.τ).loc Cert.KernelMixDwIdeal.main_arg2))
      ∧ r.2.sem = fun _ => 0)

def quiescent_ReferenceMixDwIdeal [hReferenceMixDwIdeal : Cert.ReferenceMixDwIdeal.Facts] : Prop :=
  ∀ (m : (ℓ : Loc Cert.ReferenceMixDwIdeal.nD Cert.ReferenceMixDwIdeal.τ Cert.ReferenceMixDwIdeal.sig) → Buf (Elt Ideal) ℓ) (g : Dev Cert.ReferenceMixDwIdeal.nD → PrngReg), Pre_ReferenceMixDwIdeal m →
    θ_run (Cert.ReferenceMixDwIdeal.defs (F := Ideal)) (onTc (τ := Cert.ReferenceMixDwIdeal.τ) (Cert.ReferenceMixDwIdeal.main (F := Ideal))) ⟨m, fun _ => 0, g⟩ (fun r => (∀ c : Dev Cert.ReferenceMixDwIdeal.nD,
      r.2.mem ((c.tc : Thread Cert.ReferenceMixDwIdeal.nD Cert.ReferenceMixDwIdeal.τ).loc Cert.ReferenceMixDwIdeal.main_arg0) = m ((c.tc : Thread Cert.ReferenceMixDwIdeal.nD Cert.ReferenceMixDwIdeal.τ).loc Cert.ReferenceMixDwIdeal.main_arg0)
      ∧ r.2.mem ((c.tc : Thread Cert.ReferenceMixDwIdeal.nD Cert.ReferenceMixDwIdeal.τ).loc Cert.ReferenceMixDwIdeal.main_arg1) = m ((c.tc : Thread Cert.ReferenceMixDwIdeal.nD Cert.ReferenceMixDwIdeal.τ).loc Cert.ReferenceMixDwIdeal.main_arg1)
      ∧ r.2.mem ((c.tc : Thread Cert.ReferenceMixDwIdeal.nD Cert.ReferenceMixDwIdeal.τ).loc Cert.ReferenceMixDwIdeal.main_arg2) = m ((c.tc : Thread Cert.ReferenceMixDwIdeal.nD Cert.ReferenceMixDwIdeal.τ).loc Cert.ReferenceMixDwIdeal.main_arg2))
      ∧ r.2.sem = fun _ => 0)

def quiescent_KernelMixDx [hKernelMixDx : Cert.KernelMixDx.Facts] : Prop :=
  ∀ (m : (ℓ : Loc Cert.KernelMixDx.nD Cert.KernelMixDx.τ Cert.KernelMixDx.sig) → Buf (Elt Bits) ℓ) (g : Dev Cert.KernelMixDx.nD → PrngReg), Pre_KernelMixDx m →
    θ_run (Cert.KernelMixDx.defs (F := Bits)) (onTc (τ := Cert.KernelMixDx.τ) (Cert.KernelMixDx.main (F := Bits))) ⟨m, fun _ => 0, g⟩ (fun r => (∀ c : Dev Cert.KernelMixDx.nD,
      r.2.mem ((c.tc : Thread Cert.KernelMixDx.nD Cert.KernelMixDx.τ).loc Cert.KernelMixDx.main_arg0) = m ((c.tc : Thread Cert.KernelMixDx.nD Cert.KernelMixDx.τ).loc Cert.KernelMixDx.main_arg0)
      ∧ r.2.mem ((c.tc : Thread Cert.KernelMixDx.nD Cert.KernelMixDx.τ).loc Cert.KernelMixDx.main_arg1) = m ((c.tc : Thread Cert.KernelMixDx.nD Cert.KernelMixDx.τ).loc Cert.KernelMixDx.main_arg1)
      ∧ r.2.mem ((c.tc : Thread Cert.KernelMixDx.nD Cert.KernelMixDx.τ).loc Cert.KernelMixDx.main_arg2) = m ((c.tc : Thread Cert.KernelMixDx.nD Cert.KernelMixDx.τ).loc Cert.KernelMixDx.main_arg2))
      ∧ r.2.sem = fun _ => 0)

def quiescent_KernelMixDxIdeal [hKernelMixDxIdeal : Cert.KernelMixDxIdeal.Facts] : Prop :=
  ∀ (m : (ℓ : Loc Cert.KernelMixDxIdeal.nD Cert.KernelMixDxIdeal.τ Cert.KernelMixDxIdeal.sig) → Buf (Elt Ideal) ℓ) (g : Dev Cert.KernelMixDxIdeal.nD → PrngReg), Pre_KernelMixDxIdeal m →
    θ_run (Cert.KernelMixDxIdeal.defs (F := Ideal)) (onTc (τ := Cert.KernelMixDxIdeal.τ) (Cert.KernelMixDxIdeal.main (F := Ideal))) ⟨m, fun _ => 0, g⟩ (fun r => (∀ c : Dev Cert.KernelMixDxIdeal.nD,
      r.2.mem ((c.tc : Thread Cert.KernelMixDxIdeal.nD Cert.KernelMixDxIdeal.τ).loc Cert.KernelMixDxIdeal.main_arg0) = m ((c.tc : Thread Cert.KernelMixDxIdeal.nD Cert.KernelMixDxIdeal.τ).loc Cert.KernelMixDxIdeal.main_arg0)
      ∧ r.2.mem ((c.tc : Thread Cert.KernelMixDxIdeal.nD Cert.KernelMixDxIdeal.τ).loc Cert.KernelMixDxIdeal.main_arg1) = m ((c.tc : Thread Cert.KernelMixDxIdeal.nD Cert.KernelMixDxIdeal.τ).loc Cert.KernelMixDxIdeal.main_arg1)
      ∧ r.2.mem ((c.tc : Thread Cert.KernelMixDxIdeal.nD Cert.KernelMixDxIdeal.τ).loc Cert.KernelMixDxIdeal.main_arg2) = m ((c.tc : Thread Cert.KernelMixDxIdeal.nD Cert.KernelMixDxIdeal.τ).loc Cert.KernelMixDxIdeal.main_arg2))
      ∧ r.2.sem = fun _ => 0)

def quiescent_ReferenceMixDxIdeal [hReferenceMixDxIdeal : Cert.ReferenceMixDxIdeal.Facts] : Prop :=
  ∀ (m : (ℓ : Loc Cert.ReferenceMixDxIdeal.nD Cert.ReferenceMixDxIdeal.τ Cert.ReferenceMixDxIdeal.sig) → Buf (Elt Ideal) ℓ) (g : Dev Cert.ReferenceMixDxIdeal.nD → PrngReg), Pre_ReferenceMixDxIdeal m →
    θ_run (Cert.ReferenceMixDxIdeal.defs (F := Ideal)) (onTc (τ := Cert.ReferenceMixDxIdeal.τ) (Cert.ReferenceMixDxIdeal.main (F := Ideal))) ⟨m, fun _ => 0, g⟩ (fun r => (∀ c : Dev Cert.ReferenceMixDxIdeal.nD,
      r.2.mem ((c.tc : Thread Cert.ReferenceMixDxIdeal.nD Cert.ReferenceMixDxIdeal.τ).loc Cert.ReferenceMixDxIdeal.main_arg0) = m ((c.tc : Thread Cert.ReferenceMixDxIdeal.nD Cert.ReferenceMixDxIdeal.τ).loc Cert.ReferenceMixDxIdeal.main_arg0)
      ∧ r.2.mem ((c.tc : Thread Cert.ReferenceMixDxIdeal.nD Cert.ReferenceMixDxIdeal.τ).loc Cert.ReferenceMixDxIdeal.main_arg1) = m ((c.tc : Thread Cert.ReferenceMixDxIdeal.nD Cert.ReferenceMixDxIdeal.τ).loc Cert.ReferenceMixDxIdeal.main_arg1)
      ∧ r.2.mem ((c.tc : Thread Cert.ReferenceMixDxIdeal.nD Cert.ReferenceMixDxIdeal.τ).loc Cert.ReferenceMixDxIdeal.main_arg2) = m ((c.tc : Thread Cert.ReferenceMixDxIdeal.nD Cert.ReferenceMixDxIdeal.τ).loc Cert.ReferenceMixDxIdeal.main_arg2))
      ∧ r.2.sem = fun _ => 0)

def quiescent_KernelFfnOut [hKernelFfnOut : Cert.KernelFfnOut.Facts] : Prop :=
  ∀ (m : (ℓ : Loc Cert.KernelFfnOut.nD Cert.KernelFfnOut.τ Cert.KernelFfnOut.sig) → Buf (Elt Bits) ℓ) (g : Dev Cert.KernelFfnOut.nD → PrngReg), Pre_KernelFfnOut m →
    θ_run (Cert.KernelFfnOut.defs (F := Bits)) (onTc (τ := Cert.KernelFfnOut.τ) (Cert.KernelFfnOut.main (F := Bits))) ⟨m, fun _ => 0, g⟩ (fun r => (∀ c : Dev Cert.KernelFfnOut.nD,
      r.2.mem ((c.tc : Thread Cert.KernelFfnOut.nD Cert.KernelFfnOut.τ).loc Cert.KernelFfnOut.main_arg0) = m ((c.tc : Thread Cert.KernelFfnOut.nD Cert.KernelFfnOut.τ).loc Cert.KernelFfnOut.main_arg0)
      ∧ r.2.mem ((c.tc : Thread Cert.KernelFfnOut.nD Cert.KernelFfnOut.τ).loc Cert.KernelFfnOut.main_arg1) = m ((c.tc : Thread Cert.KernelFfnOut.nD Cert.KernelFfnOut.τ).loc Cert.KernelFfnOut.main_arg1)
      ∧ r.2.mem ((c.tc : Thread Cert.KernelFfnOut.nD Cert.KernelFfnOut.τ).loc Cert.KernelFfnOut.main_arg2) = m ((c.tc : Thread Cert.KernelFfnOut.nD Cert.KernelFfnOut.τ).loc Cert.KernelFfnOut.main_arg2))
      ∧ r.2.sem = fun _ => 0)

def quiescent_KernelFfnOutIdeal [hKernelFfnOutIdeal : Cert.KernelFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg), Pre_KernelFfnOutIdeal m →
    θ_run (Cert.KernelFfnOutIdeal.defs (F := Ideal)) (onTc (τ := Cert.KernelFfnOutIdeal.τ) (Cert.KernelFfnOutIdeal.main (F := Ideal))) ⟨m, fun _ => 0, g⟩ (fun r => (∀ c : Dev Cert.KernelFfnOutIdeal.nD,
      r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
      ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
      ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2))
      ∧ r.2.sem = fun _ => 0)

def quiescent_ReferenceFfnOutIdeal [hReferenceFfnOutIdeal : Cert.ReferenceFfnOutIdeal.Facts] : Prop :=
  ∀ (m : (ℓ : Loc Cert.ReferenceFfnOutIdeal.nD Cert.ReferenceFfnOutIdeal.τ Cert.ReferenceFfnOutIdeal.sig) → Buf (Elt Ideal) ℓ) (g : Dev Cert.ReferenceFfnOutIdeal.nD → PrngReg), Pre_ReferenceFfnOutIdeal m →
    θ_run (Cert.ReferenceFfnOutIdeal.defs (F := Ideal)) (onTc (τ := Cert.ReferenceFfnOutIdeal.τ) (Cert.ReferenceFfnOutIdeal.main (F := Ideal))) ⟨m, fun _ => 0, g⟩ (fun r => (∀ c : Dev Cert.ReferenceFfnOutIdeal.nD,
      r.2.mem ((c.tc : Thread Cert.ReferenceFfnOutIdeal.nD Cert.ReferenceFfnOutIdeal.τ).loc Cert.ReferenceFfnOutIdeal.main_arg0) = m ((c.tc : Thread Cert.ReferenceFfnOutIdeal.nD Cert.ReferenceFfnOutIdeal.τ).loc Cert.ReferenceFfnOutIdeal.main_arg0)
      ∧ r.2.mem ((c.tc : Thread Cert.ReferenceFfnOutIdeal.nD Cert.ReferenceFfnOutIdeal.τ).loc Cert.ReferenceFfnOutIdeal.main_arg1) = m ((c.tc : Thread Cert.ReferenceFfnOutIdeal.nD Cert.ReferenceFfnOutIdeal.τ).loc Cert.ReferenceFfnOutIdeal.main_arg1)
      ∧ r.2.mem ((c.tc : Thread Cert.ReferenceFfnOutIdeal.nD Cert.ReferenceFfnOutIdeal.τ).loc Cert.ReferenceFfnOutIdeal.main_arg2) = m ((c.tc : Thread Cert.ReferenceFfnOutIdeal.nD Cert.ReferenceFfnOutIdeal.τ).loc Cert.ReferenceFfnOutIdeal.main_arg2))
      ∧ r.2.sem = fun _ => 0)

def quiescent_KernelMixIn [hKernelMixIn : Cert.KernelMixIn.Facts] : Prop :=
  ∀ (m : (ℓ : Loc Cert.KernelMixIn.nD Cert.KernelMixIn.τ Cert.KernelMixIn.sig) → Buf (Elt Bits) ℓ) (g : Dev Cert.KernelMixIn.nD → PrngReg), Pre_KernelMixIn m →
    θ_run (Cert.KernelMixIn.defs (F := Bits)) (onTc (τ := Cert.KernelMixIn.τ) (Cert.KernelMixIn.main (F := Bits))) ⟨m, fun _ => 0, g⟩ (fun r => (∀ c : Dev Cert.KernelMixIn.nD,
      r.2.mem ((c.tc : Thread Cert.KernelMixIn.nD Cert.KernelMixIn.τ).loc Cert.KernelMixIn.main_arg0) = m ((c.tc : Thread Cert.KernelMixIn.nD Cert.KernelMixIn.τ).loc Cert.KernelMixIn.main_arg0)
      ∧ r.2.mem ((c.tc : Thread Cert.KernelMixIn.nD Cert.KernelMixIn.τ).loc Cert.KernelMixIn.main_arg1) = m ((c.tc : Thread Cert.KernelMixIn.nD Cert.KernelMixIn.τ).loc Cert.KernelMixIn.main_arg1))
      ∧ r.2.sem = fun _ => 0)

def quiescent_KernelMixInIdeal [hKernelMixInIdeal : Cert.KernelMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1))
      ∧ r.2.sem = fun _ => 0)

def quiescent_ReferenceMixInIdeal [hReferenceMixInIdeal : Cert.ReferenceMixInIdeal.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1))
      ∧ r.2.sem = fun _ => 0)

def quiescent_KernelSqOut [hKernelSqOut : Cert.KernelSqOut.Facts] : Prop :=
  ∀ (m : (ℓ : Loc Cert.KernelSqOut.nD Cert.KernelSqOut.τ Cert.KernelSqOut.sig) → Buf (Elt Bits) ℓ) (g : Dev Cert.KernelSqOut.nD → PrngReg), Pre_KernelSqOut m →
    θ_run (Cert.KernelSqOut.defs (F := Bits)) (onTc (τ := Cert.KernelSqOut.τ) (Cert.KernelSqOut.main (F := Bits))) ⟨m, fun _ => 0, g⟩ (fun r => (∀ c : Dev Cert.KernelSqOut.nD,
      r.2.mem ((c.tc : Thread Cert.KernelSqOut.nD Cert.KernelSqOut.τ).loc Cert.KernelSqOut.main_arg0) = m ((c.tc : Thread Cert.KernelSqOut.nD Cert.KernelSqOut.τ).loc Cert.KernelSqOut.main_arg0)
      ∧ r.2.mem ((c.tc : Thread Cert.KernelSqOut.nD Cert.KernelSqOut.τ).loc Cert.KernelSqOut.main_arg1) = m ((c.tc : Thread Cert.KernelSqOut.nD Cert.KernelSqOut.τ).loc Cert.KernelSqOut.main_arg1)
      ∧ r.2.mem ((c.tc : Thread Cert.KernelSqOut.nD Cert.KernelSqOut.τ).loc Cert.KernelSqOut.main_arg2) = m ((c.tc : Thread Cert.KernelSqOut.nD Cert.KernelSqOut.τ).loc Cert.KernelSqOut.main_arg2))
      ∧ r.2.sem = fun _ => 0)

def quiescent_KernelSqOutIdeal [hKernelSqOutIdeal : Cert.KernelSqOutIdeal.Facts] : Prop :=
  ∀ (m : (ℓ : Loc Cert.KernelSqOutIdeal.nD Cert.KernelSqOutIdeal.τ Cert.KernelSqOutIdeal.sig) → Buf (Elt Ideal) ℓ) (g : Dev Cert.KernelSqOutIdeal.nD → PrngReg), Pre_KernelSqOutIdeal m →
    θ_run (Cert.KernelSqOutIdeal.defs (F := Ideal)) (onTc (τ := Cert.KernelSqOutIdeal.τ) (Cert.KernelSqOutIdeal.main (F := Ideal))) ⟨m, fun _ => 0, g⟩ (fun r => (∀ c : Dev Cert.KernelSqOutIdeal.nD,
      r.2.mem ((c.tc : Thread Cert.KernelSqOutIdeal.nD Cert.KernelSqOutIdeal.τ).loc Cert.KernelSqOutIdeal.main_arg0) = m ((c.tc : Thread Cert.KernelSqOutIdeal.nD Cert.KernelSqOutIdeal.τ).loc Cert.KernelSqOutIdeal.main_arg0)
      ∧ r.2.mem ((c.tc : Thread Cert.KernelSqOutIdeal.nD Cert.KernelSqOutIdeal.τ).loc Cert.KernelSqOutIdeal.main_arg1) = m ((c.tc : Thread Cert.KernelSqOutIdeal.nD Cert.KernelSqOutIdeal.τ).loc Cert.KernelSqOutIdeal.main_arg1)
      ∧ r.2.mem ((c.tc : Thread Cert.KernelSqOutIdeal.nD Cert.KernelSqOutIdeal.τ).loc Cert.KernelSqOutIdeal.main_arg2) = m ((c.tc : Thread Cert.KernelSqOutIdeal.nD Cert.KernelSqOutIdeal.τ).loc Cert.KernelSqOutIdeal.main_arg2))
      ∧ r.2.sem = fun _ => 0)

def quiescent_ReferenceSqOutIdeal [hReferenceSqOutIdeal : Cert.ReferenceSqOutIdeal.Facts] : Prop :=
  ∀ (m : (ℓ : Loc Cert.ReferenceSqOutIdeal.nD Cert.ReferenceSqOutIdeal.τ Cert.ReferenceSqOutIdeal.sig) → Buf (Elt Ideal) ℓ) (g : Dev Cert.ReferenceSqOutIdeal.nD → PrngReg), Pre_ReferenceSqOutIdeal m →
    θ_run (Cert.ReferenceSqOutIdeal.defs (F := Ideal)) (onTc (τ := Cert.ReferenceSqOutIdeal.τ) (Cert.ReferenceSqOutIdeal.main (F := Ideal))) ⟨m, fun _ => 0, g⟩ (fun r => (∀ c : Dev Cert.ReferenceSqOutIdeal.nD,
      r.2.mem ((c.tc : Thread Cert.ReferenceSqOutIdeal.nD Cert.ReferenceSqOutIdeal.τ).loc Cert.ReferenceSqOutIdeal.main_arg0) = m ((c.tc : Thread Cert.ReferenceSqOutIdeal.nD Cert.ReferenceSqOutIdeal.τ).loc Cert.ReferenceSqOutIdeal.main_arg0)
      ∧ r.2.mem ((c.tc : Thread Cert.ReferenceSqOutIdeal.nD Cert.ReferenceSqOutIdeal.τ).loc Cert.ReferenceSqOutIdeal.main_arg1) = m ((c.tc : Thread Cert.ReferenceSqOutIdeal.nD Cert.ReferenceSqOutIdeal.τ).loc Cert.ReferenceSqOutIdeal.main_arg1)
      ∧ r.2.mem ((c.tc : Thread Cert.ReferenceSqOutIdeal.nD Cert.ReferenceSqOutIdeal.τ).loc Cert.ReferenceSqOutIdeal.main_arg2) = m ((c.tc : Thread Cert.ReferenceSqOutIdeal.nD Cert.ReferenceSqOutIdeal.τ).loc Cert.ReferenceSqOutIdeal.main_arg2))
      ∧ r.2.sem = fun _ => 0)

def quiescent_KernelSqQ [hKernelSqQ : Cert.KernelSqQ.Facts] : Prop :=
  ∀ (m : (ℓ : Loc Cert.KernelSqQ.nD Cert.KernelSqQ.τ Cert.KernelSqQ.sig) → Buf (Elt Bits) ℓ) (g : Dev Cert.KernelSqQ.nD → PrngReg), Pre_KernelSqQ m →
    θ_run (Cert.KernelSqQ.defs (F := Bits)) (onTc (τ := Cert.KernelSqQ.τ) (Cert.KernelSqQ.main (F := Bits))) ⟨m, fun _ => 0, g⟩ (fun r => (∀ c : Dev Cert.KernelSqQ.nD,
      r.2.mem ((c.tc : Thread Cert.KernelSqQ.nD Cert.KernelSqQ.τ).loc Cert.KernelSqQ.main_arg0) = m ((c.tc : Thread Cert.KernelSqQ.nD Cert.KernelSqQ.τ).loc Cert.KernelSqQ.main_arg0)
      ∧ r.2.mem ((c.tc : Thread Cert.KernelSqQ.nD Cert.KernelSqQ.τ).loc Cert.KernelSqQ.main_arg1) = m ((c.tc : Thread Cert.KernelSqQ.nD Cert.KernelSqQ.τ).loc Cert.KernelSqQ.main_arg1))
      ∧ r.2.sem = fun _ => 0)

def quiescent_KernelSqQIdeal [hKernelSqQIdeal : Cert.KernelSqQIdeal.Facts] : Prop :=
  ∀ (m : (ℓ : Loc Cert.KernelSqQIdeal.nD Cert.KernelSqQIdeal.τ Cert.KernelSqQIdeal.sig) → Buf (Elt Ideal) ℓ) (g : Dev Cert.KernelSqQIdeal.nD → PrngReg), Pre_KernelSqQIdeal m →
    θ_run (Cert.KernelSqQIdeal.defs (F := Ideal)) (onTc (τ := Cert.KernelSqQIdeal.τ) (Cert.KernelSqQIdeal.main (F := Ideal))) ⟨m, fun _ => 0, g⟩ (fun r => (∀ c : Dev Cert.KernelSqQIdeal.nD,
      r.2.mem ((c.tc : Thread Cert.KernelSqQIdeal.nD Cert.KernelSqQIdeal.τ).loc Cert.KernelSqQIdeal.main_arg0) = m ((c.tc : Thread Cert.KernelSqQIdeal.nD Cert.KernelSqQIdeal.τ).loc Cert.KernelSqQIdeal.main_arg0)
      ∧ r.2.mem ((c.tc : Thread Cert.KernelSqQIdeal.nD Cert.KernelSqQIdeal.τ).loc Cert.KernelSqQIdeal.main_arg1) = m ((c.tc : Thread Cert.KernelSqQIdeal.nD Cert.KernelSqQIdeal.τ).loc Cert.KernelSqQIdeal.main_arg1))
      ∧ r.2.sem = fun _ => 0)

def quiescent_ReferenceSqQIdeal [hReferenceSqQIdeal : Cert.ReferenceSqQIdeal.Facts] : Prop :=
  ∀ (m : (ℓ : Loc Cert.ReferenceSqQIdeal.nD Cert.ReferenceSqQIdeal.τ Cert.ReferenceSqQIdeal.sig) → Buf (Elt Ideal) ℓ) (g : Dev Cert.ReferenceSqQIdeal.nD → PrngReg), Pre_ReferenceSqQIdeal m →
    θ_run (Cert.ReferenceSqQIdeal.defs (F := Ideal)) (onTc (τ := Cert.ReferenceSqQIdeal.τ) (Cert.ReferenceSqQIdeal.main (F := Ideal))) ⟨m, fun _ => 0, g⟩ (fun r => (∀ c : Dev Cert.ReferenceSqQIdeal.nD,
      r.2.mem ((c.tc : Thread Cert.ReferenceSqQIdeal.nD Cert.ReferenceSqQIdeal.τ).loc Cert.ReferenceSqQIdeal.main_arg0) = m ((c.tc : Thread Cert.ReferenceSqQIdeal.nD Cert.ReferenceSqQIdeal.τ).loc Cert.ReferenceSqQIdeal.main_arg0)
      ∧ r.2.mem ((c.tc : Thread Cert.ReferenceSqQIdeal.nD Cert.ReferenceSqQIdeal.τ).loc Cert.ReferenceSqQIdeal.main_arg1) = m ((c.tc : Thread Cert.ReferenceSqQIdeal.nD Cert.ReferenceSqQIdeal.τ).loc Cert.ReferenceSqQIdeal.main_arg1))
      ∧ r.2.sem = fun _ => 0)

def quiescent_KernelMemKv [hKernelMemKv : Cert.KernelMemKv.Facts] : Prop :=
  ∀ (m : (ℓ : Loc Cert.KernelMemKv.nD Cert.KernelMemKv.τ Cert.KernelMemKv.sig) → Buf (Elt Bits) ℓ) (g : Dev Cert.KernelMemKv.nD → PrngReg), Pre_KernelMemKv m →
    θ_run (Cert.KernelMemKv.defs (F := Bits)) (onTc (τ := Cert.KernelMemKv.τ) (Cert.KernelMemKv.main (F := Bits))) ⟨m, fun _ => 0, g⟩ (fun r => (∀ c : Dev Cert.KernelMemKv.nD,
      r.2.mem ((c.tc : Thread Cert.KernelMemKv.nD Cert.KernelMemKv.τ).loc Cert.KernelMemKv.main_arg0) = m ((c.tc : Thread Cert.KernelMemKv.nD Cert.KernelMemKv.τ).loc Cert.KernelMemKv.main_arg0)
      ∧ r.2.mem ((c.tc : Thread Cert.KernelMemKv.nD Cert.KernelMemKv.τ).loc Cert.KernelMemKv.main_arg1) = m ((c.tc : Thread Cert.KernelMemKv.nD Cert.KernelMemKv.τ).loc Cert.KernelMemKv.main_arg1))
      ∧ r.2.sem = fun _ => 0)

def quiescent_KernelMemKvIdeal [hKernelMemKvIdeal : Cert.KernelMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg), Pre_KernelMemKvIdeal m →
    θ_run (Cert.KernelMemKvIdeal.defs (F := Ideal)) (onTc (τ := Cert.KernelMemKvIdeal.τ) (Cert.KernelMemKvIdeal.main (F := Ideal))) ⟨m, fun _ => 0, g⟩ (fun r => (∀ c : Dev Cert.KernelMemKvIdeal.nD,
      r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
      ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1))
      ∧ r.2.sem = fun _ => 0)

def quiescent_ReferenceMemKvIdeal [hReferenceMemKvIdeal : Cert.ReferenceMemKvIdeal.Facts] : Prop :=
  ∀ (m : (ℓ : Loc Cert.ReferenceMemKvIdeal.nD Cert.ReferenceMemKvIdeal.τ Cert.ReferenceMemKvIdeal.sig) → Buf (Elt Ideal) ℓ) (g : Dev Cert.ReferenceMemKvIdeal.nD → PrngReg), Pre_ReferenceMemKvIdeal m →
    θ_run (Cert.ReferenceMemKvIdeal.defs (F := Ideal)) (onTc (τ := Cert.ReferenceMemKvIdeal.τ) (Cert.ReferenceMemKvIdeal.main (F := Ideal))) ⟨m, fun _ => 0, g⟩ (fun r => (∀ c : Dev Cert.ReferenceMemKvIdeal.nD,
      r.2.mem ((c.tc : Thread Cert.ReferenceMemKvIdeal.nD Cert.ReferenceMemKvIdeal.τ).loc Cert.ReferenceMemKvIdeal.main_arg0) = m ((c.tc : Thread Cert.ReferenceMemKvIdeal.nD Cert.ReferenceMemKvIdeal.τ).loc Cert.ReferenceMemKvIdeal.main_arg0)
      ∧ r.2.mem ((c.tc : Thread Cert.ReferenceMemKvIdeal.nD Cert.ReferenceMemKvIdeal.τ).loc Cert.ReferenceMemKvIdeal.main_arg1) = m ((c.tc : Thread Cert.ReferenceMemKvIdeal.nD Cert.ReferenceMemKvIdeal.τ).loc Cert.ReferenceMemKvIdeal.main_arg1))
      ∧ r.2.sem = fun _ => 0)

def quiescent_KernelFfnInA [hKernelFfnInA : Cert.KernelFfnInA.Facts] : Prop :=
  ∀ (m : (ℓ : Loc Cert.KernelFfnInA.nD Cert.KernelFfnInA.τ Cert.KernelFfnInA.sig) → Buf (Elt Bits) ℓ) (g : Dev Cert.KernelFfnInA.nD → PrngReg), Pre_KernelFfnInA m →
    θ_run (Cert.KernelFfnInA.defs (F := Bits)) (onTc (τ := Cert.KernelFfnInA.τ) (Cert.KernelFfnInA.main (F := Bits))) ⟨m, fun _ => 0, g⟩ (fun r => (∀ c : Dev Cert.KernelFfnInA.nD,
      r.2.mem ((c.tc : Thread Cert.KernelFfnInA.nD Cert.KernelFfnInA.τ).loc Cert.KernelFfnInA.main_arg0) = m ((c.tc : Thread Cert.KernelFfnInA.nD Cert.KernelFfnInA.τ).loc Cert.KernelFfnInA.main_arg0)
      ∧ r.2.mem ((c.tc : Thread Cert.KernelFfnInA.nD Cert.KernelFfnInA.τ).loc Cert.KernelFfnInA.main_arg1) = m ((c.tc : Thread Cert.KernelFfnInA.nD Cert.KernelFfnInA.τ).loc Cert.KernelFfnInA.main_arg1)
      ∧ r.2.mem ((c.tc : Thread Cert.KernelFfnInA.nD Cert.KernelFfnInA.τ).loc Cert.KernelFfnInA.main_arg2) = m ((c.tc : Thread Cert.KernelFfnInA.nD Cert.KernelFfnInA.τ).loc Cert.KernelFfnInA.main_arg2))
      ∧ r.2.sem = fun _ => 0)

def quiescent_KernelFfnInAIdeal [hKernelFfnInAIdeal : Cert.KernelFfnInAIdeal.Facts] : Prop :=
  ∀ (m : (ℓ : Loc Cert.KernelFfnInAIdeal.nD Cert.KernelFfnInAIdeal.τ Cert.KernelFfnInAIdeal.sig) → Buf (Elt Ideal) ℓ) (g : Dev Cert.KernelFfnInAIdeal.nD → PrngReg), Pre_KernelFfnInAIdeal m →
    θ_run (Cert.KernelFfnInAIdeal.defs (F := Ideal)) (onTc (τ := Cert.KernelFfnInAIdeal.τ) (Cert.KernelFfnInAIdeal.main (F := Ideal))) ⟨m, fun _ => 0, g⟩ (fun r => (∀ c : Dev Cert.KernelFfnInAIdeal.nD,
      r.2.mem ((c.tc : Thread Cert.KernelFfnInAIdeal.nD Cert.KernelFfnInAIdeal.τ).loc Cert.KernelFfnInAIdeal.main_arg0) = m ((c.tc : Thread Cert.KernelFfnInAIdeal.nD Cert.KernelFfnInAIdeal.τ).loc Cert.KernelFfnInAIdeal.main_arg0)
      ∧ r.2.mem ((c.tc : Thread Cert.KernelFfnInAIdeal.nD Cert.KernelFfnInAIdeal.τ).loc Cert.KernelFfnInAIdeal.main_arg1) = m ((c.tc : Thread Cert.KernelFfnInAIdeal.nD Cert.KernelFfnInAIdeal.τ).loc Cert.KernelFfnInAIdeal.main_arg1)
      ∧ r.2.mem ((c.tc : Thread Cert.KernelFfnInAIdeal.nD Cert.KernelFfnInAIdeal.τ).loc Cert.KernelFfnInAIdeal.main_arg2) = m ((c.tc : Thread Cert.KernelFfnInAIdeal.nD Cert.KernelFfnInAIdeal.τ).loc Cert.KernelFfnInAIdeal.main_arg2))
      ∧ r.2.sem = fun _ => 0)

def quiescent_KernelFfnInAIdeal_pre_finite_in [hKernelFfnInAIdeal : Cert.KernelFfnInAIdeal.Facts] [hPre_finite_in : Cert.Pre_finite_in.Facts] : Prop :=
  ∀ (m : (ℓ : Loc Cert.KernelFfnInAIdeal.nD Cert.KernelFfnInAIdeal.τ Cert.KernelFfnInAIdeal.sig) → Buf (Elt Ideal) ℓ) (g : Dev Cert.KernelFfnInAIdeal.nD → PrngReg), Pre_KernelFfnInAIdeal_finite_in m →
    θ_run (Cert.KernelFfnInAIdeal.defs (F := Ideal)) (onTc (τ := Cert.KernelFfnInAIdeal.τ) (Cert.KernelFfnInAIdeal.main (F := Ideal))) ⟨m, fun _ => 0, g⟩ (fun r => (∀ c : Dev Cert.KernelFfnInAIdeal.nD,
      r.2.mem ((c.tc : Thread Cert.KernelFfnInAIdeal.nD Cert.KernelFfnInAIdeal.τ).loc Cert.KernelFfnInAIdeal.main_arg0) = m ((c.tc : Thread Cert.KernelFfnInAIdeal.nD Cert.KernelFfnInAIdeal.τ).loc Cert.KernelFfnInAIdeal.main_arg0)
      ∧ r.2.mem ((c.tc : Thread Cert.KernelFfnInAIdeal.nD Cert.KernelFfnInAIdeal.τ).loc Cert.KernelFfnInAIdeal.main_arg1) = m ((c.tc : Thread Cert.KernelFfnInAIdeal.nD Cert.KernelFfnInAIdeal.τ).loc Cert.KernelFfnInAIdeal.main_arg1)
      ∧ r.2.mem ((c.tc : Thread Cert.KernelFfnInAIdeal.nD Cert.KernelFfnInAIdeal.τ).loc Cert.KernelFfnInAIdeal.main_arg2) = m ((c.tc : Thread Cert.KernelFfnInAIdeal.nD Cert.KernelFfnInAIdeal.τ).loc Cert.KernelFfnInAIdeal.main_arg2))
      ∧ r.2.sem = fun _ => 0)

def quiescent_ReferenceFfnInAIdeal [hReferenceFfnInAIdeal : Cert.ReferenceFfnInAIdeal.Facts] : Prop :=
  ∀ (m : (ℓ : Loc Cert.ReferenceFfnInAIdeal.nD Cert.ReferenceFfnInAIdeal.τ Cert.ReferenceFfnInAIdeal.sig) → Buf (Elt Ideal) ℓ) (g : Dev Cert.ReferenceFfnInAIdeal.nD → PrngReg), Pre_ReferenceFfnInAIdeal m →
    θ_run (Cert.ReferenceFfnInAIdeal.defs (F := Ideal)) (onTc (τ := Cert.ReferenceFfnInAIdeal.τ) (Cert.ReferenceFfnInAIdeal.main (F := Ideal))) ⟨m, fun _ => 0, g⟩ (fun r => (∀ c : Dev Cert.ReferenceFfnInAIdeal.nD,
      r.2.mem ((c.tc : Thread Cert.ReferenceFfnInAIdeal.nD Cert.ReferenceFfnInAIdeal.τ).loc Cert.ReferenceFfnInAIdeal.main_arg0) = m ((c.tc : Thread Cert.ReferenceFfnInAIdeal.nD Cert.ReferenceFfnInAIdeal.τ).loc Cert.ReferenceFfnInAIdeal.main_arg0)
      ∧ r.2.mem ((c.tc : Thread Cert.ReferenceFfnInAIdeal.nD Cert.ReferenceFfnInAIdeal.τ).loc Cert.ReferenceFfnInAIdeal.main_arg1) = m ((c.tc : Thread Cert.ReferenceFfnInAIdeal.nD Cert.ReferenceFfnInAIdeal.τ).loc Cert.ReferenceFfnInAIdeal.main_arg1)
      ∧ r.2.mem ((c.tc : Thread Cert.ReferenceFfnInAIdeal.nD Cert.ReferenceFfnInAIdeal.τ).loc Cert.ReferenceFfnInAIdeal.main_arg2) = m ((c.tc : Thread Cert.ReferenceFfnInAIdeal.nD Cert.ReferenceFfnInAIdeal.τ).loc Cert.ReferenceFfnInAIdeal.main_arg2))
      ∧ r.2.sem = fun _ => 0)

def quiescent_ReferenceFfnInAIdeal_pre_finite_in [hReferenceFfnInAIdeal : Cert.ReferenceFfnInAIdeal.Facts] [hPre_finite_in : Cert.Pre_finite_in.Facts] : Prop :=
  ∀ (m : (ℓ : Loc Cert.ReferenceFfnInAIdeal.nD Cert.ReferenceFfnInAIdeal.τ Cert.ReferenceFfnInAIdeal.sig) → Buf (Elt Ideal) ℓ) (g : Dev Cert.ReferenceFfnInAIdeal.nD → PrngReg), Pre_ReferenceFfnInAIdeal_finite_in m →
    θ_run (Cert.ReferenceFfnInAIdeal.defs (F := Ideal)) (onTc (τ := Cert.ReferenceFfnInAIdeal.τ) (Cert.ReferenceFfnInAIdeal.main (F := Ideal))) ⟨m, fun _ => 0, g⟩ (fun r => (∀ c : Dev Cert.ReferenceFfnInAIdeal.nD,
      r.2.mem ((c.tc : Thread Cert.ReferenceFfnInAIdeal.nD Cert.ReferenceFfnInAIdeal.τ).loc Cert.ReferenceFfnInAIdeal.main_arg0) = m ((c.tc : Thread Cert.ReferenceFfnInAIdeal.nD Cert.ReferenceFfnInAIdeal.τ).loc Cert.ReferenceFfnInAIdeal.main_arg0)
      ∧ r.2.mem ((c.tc : Thread Cert.ReferenceFfnInAIdeal.nD Cert.ReferenceFfnInAIdeal.τ).loc Cert.ReferenceFfnInAIdeal.main_arg1) = m ((c.tc : Thread Cert.ReferenceFfnInAIdeal.nD Cert.ReferenceFfnInAIdeal.τ).loc Cert.ReferenceFfnInAIdeal.main_arg1)
      ∧ r.2.mem ((c.tc : Thread Cert.ReferenceFfnInAIdeal.nD Cert.ReferenceFfnInAIdeal.τ).loc Cert.ReferenceFfnInAIdeal.main_arg2) = m ((c.tc : Thread Cert.ReferenceFfnInAIdeal.nD Cert.ReferenceFfnInAIdeal.τ).loc Cert.ReferenceFfnInAIdeal.main_arg2))
      ∧ r.2.sem = fun _ => 0)

def quiescent_KernelFfnInB [hKernelFfnInB : Cert.KernelFfnInB.Facts] : Prop :=
  ∀ (m : (ℓ : Loc Cert.KernelFfnInB.nD Cert.KernelFfnInB.τ Cert.KernelFfnInB.sig) → Buf (Elt Bits) ℓ) (g : Dev Cert.KernelFfnInB.nD → PrngReg), Pre_KernelFfnInB m →
    θ_run (Cert.KernelFfnInB.defs (F := Bits)) (onTc (τ := Cert.KernelFfnInB.τ) (Cert.KernelFfnInB.main (F := Bits))) ⟨m, fun _ => 0, g⟩ (fun r => (∀ c : Dev Cert.KernelFfnInB.nD,
      r.2.mem ((c.tc : Thread Cert.KernelFfnInB.nD Cert.KernelFfnInB.τ).loc Cert.KernelFfnInB.main_arg0) = m ((c.tc : Thread Cert.KernelFfnInB.nD Cert.KernelFfnInB.τ).loc Cert.KernelFfnInB.main_arg0)
      ∧ r.2.mem ((c.tc : Thread Cert.KernelFfnInB.nD Cert.KernelFfnInB.τ).loc Cert.KernelFfnInB.main_arg1) = m ((c.tc : Thread Cert.KernelFfnInB.nD Cert.KernelFfnInB.τ).loc Cert.KernelFfnInB.main_arg1)
      ∧ r.2.mem ((c.tc : Thread Cert.KernelFfnInB.nD Cert.KernelFfnInB.τ).loc Cert.KernelFfnInB.main_arg2) = m ((c.tc : Thread Cert.KernelFfnInB.nD Cert.KernelFfnInB.τ).loc Cert.KernelFfnInB.main_arg2)
      ∧ r.2.mem ((c.tc : Thread Cert.KernelFfnInB.nD Cert.KernelFfnInB.τ).loc Cert.KernelFfnInB.main_arg3) = m ((c.tc : Thread Cert.KernelFfnInB.nD Cert.KernelFfnInB.τ).loc Cert.KernelFfnInB.main_arg3)
      ∧ r.2.mem ((c.tc : Thread Cert.KernelFfnInB.nD Cert.KernelFfnInB.τ).loc Cert.KernelFfnInB.main_arg4) = m ((c.tc : Thread Cert.KernelFfnInB.nD Cert.KernelFfnInB.τ).loc Cert.KernelFfnInB.main_arg4))
      ∧ r.2.sem = fun _ => 0)

def quiescent_KernelFfnInBIdeal [hKernelFfnInBIdeal : Cert.KernelFfnInBIdeal.Facts] : Prop :=
  ∀ (m : (ℓ : Loc Cert.KernelFfnInBIdeal.nD Cert.KernelFfnInBIdeal.τ Cert.KernelFfnInBIdeal.sig) → Buf (Elt Ideal) ℓ) (g : Dev Cert.KernelFfnInBIdeal.nD → PrngReg), Pre_KernelFfnInBIdeal m →
    θ_run (Cert.KernelFfnInBIdeal.defs (F := Ideal)) (onTc (τ := Cert.KernelFfnInBIdeal.τ) (Cert.KernelFfnInBIdeal.main (F := Ideal))) ⟨m, fun _ => 0, g⟩ (fun r => (∀ c : Dev Cert.KernelFfnInBIdeal.nD,
      r.2.mem ((c.tc : Thread Cert.KernelFfnInBIdeal.nD Cert.KernelFfnInBIdeal.τ).loc Cert.KernelFfnInBIdeal.main_arg0) = m ((c.tc : Thread Cert.KernelFfnInBIdeal.nD Cert.KernelFfnInBIdeal.τ).loc Cert.KernelFfnInBIdeal.main_arg0)
      ∧ r.2.mem ((c.tc : Thread Cert.KernelFfnInBIdeal.nD Cert.KernelFfnInBIdeal.τ).loc Cert.KernelFfnInBIdeal.main_arg1) = m ((c.tc : Thread Cert.KernelFfnInBIdeal.nD Cert.KernelFfnInBIdeal.τ).loc Cert.KernelFfnInBIdeal.main_arg1)
      ∧ r.2.mem ((c.tc : Thread Cert.KernelFfnInBIdeal.nD Cert.KernelFfnInBIdeal.τ).loc Cert.KernelFfnInBIdeal.main_arg2) = m ((c.tc : Thread Cert.KernelFfnInBIdeal.nD Cert.KernelFfnInBIdeal.τ).loc Cert.KernelFfnInBIdeal.main_arg2)
      ∧ r.2.mem ((c.tc : Thread Cert.KernelFfnInBIdeal.nD Cert.KernelFfnInBIdeal.τ).loc Cert.KernelFfnInBIdeal.main_arg3) = m ((c.tc : Thread Cert.KernelFfnInBIdeal.nD Cert.KernelFfnInBIdeal.τ).loc Cert.KernelFfnInBIdeal.main_arg3)
      ∧ r.2.mem ((c.tc : Thread Cert.KernelFfnInBIdeal.nD Cert.KernelFfnInBIdeal.τ).loc Cert.KernelFfnInBIdeal.main_arg4) = m ((c.tc : Thread Cert.KernelFfnInBIdeal.nD Cert.KernelFfnInBIdeal.τ).loc Cert.KernelFfnInBIdeal.main_arg4))
      ∧ r.2.sem = fun _ => 0)

def quiescent_KernelFfnInBIdeal_pre_finite_in_rest [hKernelFfnInBIdeal : Cert.KernelFfnInBIdeal.Facts] [hPre_finite_in_rest : Cert.Pre_finite_in_rest.Facts] : Prop :=
  ∀ (m : (ℓ : Loc Cert.KernelFfnInBIdeal.nD Cert.KernelFfnInBIdeal.τ Cert.KernelFfnInBIdeal.sig) → Buf (Elt Ideal) ℓ) (g : Dev Cert.KernelFfnInBIdeal.nD → PrngReg), Pre_KernelFfnInBIdeal_finite_in_rest m →
    θ_run (Cert.KernelFfnInBIdeal.defs (F := Ideal)) (onTc (τ := Cert.KernelFfnInBIdeal.τ) (Cert.KernelFfnInBIdeal.main (F := Ideal))) ⟨m, fun _ => 0, g⟩ (fun r => (∀ c : Dev Cert.KernelFfnInBIdeal.nD,
      r.2.mem ((c.tc : Thread Cert.KernelFfnInBIdeal.nD Cert.KernelFfnInBIdeal.τ).loc Cert.KernelFfnInBIdeal.main_arg0) = m ((c.tc : Thread Cert.KernelFfnInBIdeal.nD Cert.KernelFfnInBIdeal.τ).loc Cert.KernelFfnInBIdeal.main_arg0)
      ∧ r.2.mem ((c.tc : Thread Cert.KernelFfnInBIdeal.nD Cert.KernelFfnInBIdeal.τ).loc Cert.KernelFfnInBIdeal.main_arg1) = m ((c.tc : Thread Cert.KernelFfnInBIdeal.nD Cert.KernelFfnInBIdeal.τ).loc Cert.KernelFfnInBIdeal.main_arg1)
      ∧ r.2.mem ((c.tc : Thread Cert.KernelFfnInBIdeal.nD Cert.KernelFfnInBIdeal.τ).loc Cert.KernelFfnInBIdeal.main_arg2) = m ((c.tc : Thread Cert.KernelFfnInBIdeal.nD Cert.KernelFfnInBIdeal.τ).loc Cert.KernelFfnInBIdeal.main_arg2)
      ∧ r.2.mem ((c.tc : Thread Cert.KernelFfnInBIdeal.nD Cert.KernelFfnInBIdeal.τ).loc Cert.KernelFfnInBIdeal.main_arg3) = m ((c.tc : Thread Cert.KernelFfnInBIdeal.nD Cert.KernelFfnInBIdeal.τ).loc Cert.KernelFfnInBIdeal.main_arg3)
      ∧ r.2.mem ((c.tc : Thread Cert.KernelFfnInBIdeal.nD Cert.KernelFfnInBIdeal.τ).loc Cert.KernelFfnInBIdeal.main_arg4) = m ((c.tc : Thread Cert.KernelFfnInBIdeal.nD Cert.KernelFfnInBIdeal.τ).loc Cert.KernelFfnInBIdeal.main_arg4))
      ∧ r.2.sem = fun _ => 0)

def quiescent_ReferenceFfnInBIdeal [hReferenceFfnInBIdeal : Cert.ReferenceFfnInBIdeal.Facts] : Prop :=
  ∀ (m : (ℓ : Loc Cert.ReferenceFfnInBIdeal.nD Cert.ReferenceFfnInBIdeal.τ Cert.ReferenceFfnInBIdeal.sig) → Buf (Elt Ideal) ℓ) (g : Dev Cert.ReferenceFfnInBIdeal.nD → PrngReg), Pre_ReferenceFfnInBIdeal m →
    θ_run (Cert.ReferenceFfnInBIdeal.defs (F := Ideal)) (onTc (τ := Cert.ReferenceFfnInBIdeal.τ) (Cert.ReferenceFfnInBIdeal.main (F := Ideal))) ⟨m, fun _ => 0, g⟩ (fun r => (∀ c : Dev Cert.ReferenceFfnInBIdeal.nD,
      r.2.mem ((c.tc : Thread Cert.ReferenceFfnInBIdeal.nD Cert.ReferenceFfnInBIdeal.τ).loc Cert.ReferenceFfnInBIdeal.main_arg0) = m ((c.tc : Thread Cert.ReferenceFfnInBIdeal.nD Cert.ReferenceFfnInBIdeal.τ).loc Cert.ReferenceFfnInBIdeal.main_arg0)
      ∧ r.2.mem ((c.tc : Thread Cert.ReferenceFfnInBIdeal.nD Cert.ReferenceFfnInBIdeal.τ).loc Cert.ReferenceFfnInBIdeal.main_arg1) = m ((c.tc : Thread Cert.ReferenceFfnInBIdeal.nD Cert.ReferenceFfnInBIdeal.τ).loc Cert.ReferenceFfnInBIdeal.main_arg1)
      ∧ r.2.mem ((c.tc : Thread Cert.ReferenceFfnInBIdeal.nD Cert.ReferenceFfnInBIdeal.τ).loc Cert.ReferenceFfnInBIdeal.main_arg2) = m ((c.tc : Thread Cert.ReferenceFfnInBIdeal.nD Cert.ReferenceFfnInBIdeal.τ).loc Cert.ReferenceFfnInBIdeal.main_arg2)
      ∧ r.2.mem ((c.tc : Thread Cert.ReferenceFfnInBIdeal.nD Cert.ReferenceFfnInBIdeal.τ).loc Cert.ReferenceFfnInBIdeal.main_arg3) = m ((c.tc : Thread Cert.ReferenceFfnInBIdeal.nD Cert.ReferenceFfnInBIdeal.τ).loc Cert.ReferenceFfnInBIdeal.main_arg3)
      ∧ r.2.mem ((c.tc : Thread Cert.ReferenceFfnInBIdeal.nD Cert.ReferenceFfnInBIdeal.τ).loc Cert.ReferenceFfnInBIdeal.main_arg4) = m ((c.tc : Thread Cert.ReferenceFfnInBIdeal.nD Cert.ReferenceFfnInBIdeal.τ).loc Cert.ReferenceFfnInBIdeal.main_arg4))
      ∧ r.2.sem = fun _ => 0)

def quiescent_ReferenceFfnInBIdeal_pre_finite_in_rest [hReferenceFfnInBIdeal : Cert.ReferenceFfnInBIdeal.Facts] [hPre_finite_in_rest : Cert.Pre_finite_in_rest.Facts] : Prop :=
  ∀ (m : (ℓ : Loc Cert.ReferenceFfnInBIdeal.nD Cert.ReferenceFfnInBIdeal.τ Cert.ReferenceFfnInBIdeal.sig) → Buf (Elt Ideal) ℓ) (g : Dev Cert.ReferenceFfnInBIdeal.nD → PrngReg), Pre_ReferenceFfnInBIdeal_finite_in_rest m →
    θ_run (Cert.ReferenceFfnInBIdeal.defs (F := Ideal)) (onTc (τ := Cert.ReferenceFfnInBIdeal.τ) (Cert.ReferenceFfnInBIdeal.main (F := Ideal))) ⟨m, fun _ => 0, g⟩ (fun r => (∀ c : Dev Cert.ReferenceFfnInBIdeal.nD,
      r.2.mem ((c.tc : Thread Cert.ReferenceFfnInBIdeal.nD Cert.ReferenceFfnInBIdeal.τ).loc Cert.ReferenceFfnInBIdeal.main_arg0) = m ((c.tc : Thread Cert.ReferenceFfnInBIdeal.nD Cert.ReferenceFfnInBIdeal.τ).loc Cert.ReferenceFfnInBIdeal.main_arg0)
      ∧ r.2.mem ((c.tc : Thread Cert.ReferenceFfnInBIdeal.nD Cert.ReferenceFfnInBIdeal.τ).loc Cert.ReferenceFfnInBIdeal.main_arg1) = m ((c.tc : Thread Cert.ReferenceFfnInBIdeal.nD Cert.ReferenceFfnInBIdeal.τ).loc Cert.ReferenceFfnInBIdeal.main_arg1)
      ∧ r.2.mem ((c.tc : Thread Cert.ReferenceFfnInBIdeal.nD Cert.ReferenceFfnInBIdeal.τ).loc Cert.ReferenceFfnInBIdeal.main_arg2) = m ((c.tc : Thread Cert.ReferenceFfnInBIdeal.nD Cert.ReferenceFfnInBIdeal.τ).loc Cert.ReferenceFfnInBIdeal.main_arg2)
      ∧ r.2.mem ((c.tc : Thread Cert.ReferenceFfnInBIdeal.nD Cert.ReferenceFfnInBIdeal.τ).loc Cert.ReferenceFfnInBIdeal.main_arg3) = m ((c.tc : Thread Cert.ReferenceFfnInBIdeal.nD Cert.ReferenceFfnInBIdeal.τ).loc Cert.ReferenceFfnInBIdeal.main_arg3)
      ∧ r.2.mem ((c.tc : Thread Cert.ReferenceFfnInBIdeal.nD Cert.ReferenceFfnInBIdeal.τ).loc Cert.ReferenceFfnInBIdeal.main_arg4) = m ((c.tc : Thread Cert.ReferenceFfnInBIdeal.nD Cert.ReferenceFfnInBIdeal.τ).loc Cert.ReferenceFfnInBIdeal.main_arg4))
      ∧ r.2.sem = fun _ => 0)

def quiescent_KernelXattn [hKernelXattn : Cert.KernelXattn.Facts] : Prop :=
  ∀ (m : (ℓ : Loc Cert.KernelXattn.nD Cert.KernelXattn.τ Cert.KernelXattn.sig) → Buf (Elt Bits) ℓ) (g : Dev Cert.KernelXattn.nD → PrngReg), Pre_KernelXattn m →
    θ_run (Cert.KernelXattn.defs (F := Bits)) (onTc (τ := Cert.KernelXattn.τ) (Cert.KernelXattn.main (F := Bits))) ⟨m, fun _ => 0, g⟩ (fun r => (∀ c : Dev Cert.KernelXattn.nD,
      r.2.mem ((c.tc : Thread Cert.KernelXattn.nD Cert.KernelXattn.τ).loc Cert.KernelXattn.main_arg0) = m ((c.tc : Thread Cert.KernelXattn.nD Cert.KernelXattn.τ).loc Cert.KernelXattn.main_arg0)
      ∧ r.2.mem ((c.tc : Thread Cert.KernelXattn.nD Cert.KernelXattn.τ).loc Cert.KernelXattn.main_arg1) = m ((c.tc : Thread Cert.KernelXattn.nD Cert.KernelXattn.τ).loc Cert.KernelXattn.main_arg1)
      ∧ r.2.mem ((c.tc : Thread Cert.KernelXattn.nD Cert.KernelXattn.τ).loc Cert.KernelXattn.main_arg2) = m ((c.tc : Thread Cert.KernelXattn.nD Cert.KernelXattn.τ).loc Cert.KernelXattn.main_arg2))
      ∧ r.2.sem = fun _ => 0)

def quiescent_KernelXattnIdeal [hKernelXattnIdeal : Cert.KernelXattnIdeal.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
      ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2))
      ∧ r.2.sem = fun _ => 0)

def quiescent_KernelXattnIdeal_pre_finite_x [hKernelXattnIdeal : Cert.KernelXattnIdeal.Facts] [hPre_finite_x : Cert.Pre_finite_x.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal_finite_x m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
      ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2))
      ∧ r.2.sem = fun _ => 0)

def quiescent_ReferenceXattnIdeal [hReferenceXattnIdeal : Cert.ReferenceXattnIdeal.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1)
      ∧ r.2.mem ((c.tc : Thread Cert.ReferenceXattnIdeal.nD Cert.ReferenceXattnIdeal.τ).loc Cert.ReferenceXattnIdeal.main_arg2) = m ((c.tc : Thread Cert.ReferenceXattnIdeal.nD Cert.ReferenceXattnIdeal.τ).loc Cert.ReferenceXattnIdeal.main_arg2))
      ∧ r.2.sem = fun _ => 0)

def quiescent_ReferenceXattnIdeal_pre_finite_x [hReferenceXattnIdeal : Cert.ReferenceXattnIdeal.Facts] [hPre_finite_x : Cert.Pre_finite_x.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal_finite_x m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1)
      ∧ r.2.mem ((c.tc : Thread Cert.ReferenceXattnIdeal.nD Cert.ReferenceXattnIdeal.τ).loc Cert.ReferenceXattnIdeal.main_arg2) = m ((c.tc : Thread Cert.ReferenceXattnIdeal.nD Cert.ReferenceXattnIdeal.τ).loc Cert.ReferenceXattnIdeal.main_arg2))
      ∧ r.2.sem = fun _ => 0)

def quiescent_KernelXattnFwd [hKernelXattnFwd : Cert.KernelXattnFwd.Facts] : Prop :=
  ∀ (m : (ℓ : Loc Cert.KernelXattnFwd.nD Cert.KernelXattnFwd.τ Cert.KernelXattnFwd.sig) → Buf (Elt Bits) ℓ) (g : Dev Cert.KernelXattnFwd.nD → PrngReg), Pre_KernelXattnFwd m →
    θ_run (Cert.KernelXattnFwd.defs (F := Bits)) (onTc (τ := Cert.KernelXattnFwd.τ) (Cert.KernelXattnFwd.main (F := Bits))) ⟨m, fun _ => 0, g⟩ (fun r => (∀ c : Dev Cert.KernelXattnFwd.nD,
      r.2.mem ((c.tc : Thread Cert.KernelXattnFwd.nD Cert.KernelXattnFwd.τ).loc Cert.KernelXattnFwd.main_arg0) = m ((c.tc : Thread Cert.KernelXattnFwd.nD Cert.KernelXattnFwd.τ).loc Cert.KernelXattnFwd.main_arg0)
      ∧ r.2.mem ((c.tc : Thread Cert.KernelXattnFwd.nD Cert.KernelXattnFwd.τ).loc Cert.KernelXattnFwd.main_arg1) = m ((c.tc : Thread Cert.KernelXattnFwd.nD Cert.KernelXattnFwd.τ).loc Cert.KernelXattnFwd.main_arg1))
      ∧ r.2.sem = fun _ => 0)

def quiescent_KernelXattnFwdIdeal [hKernelXattnFwdIdeal : Cert.KernelXattnFwdIdeal.Facts] : Prop :=
  ∀ (m : (ℓ : Loc Cert.KernelXattnFwdIdeal.nD Cert.KernelXattnFwdIdeal.τ Cert.KernelXattnFwdIdeal.sig) → Buf (Elt Ideal) ℓ) (g : Dev Cert.KernelXattnFwdIdeal.nD → PrngReg), Pre_KernelXattnFwdIdeal m →
    θ_run (Cert.KernelXattnFwdIdeal.defs (F := Ideal)) (onTc (τ := Cert.KernelXattnFwdIdeal.τ) (Cert.KernelXattnFwdIdeal.main (F := Ideal))) ⟨m, fun _ => 0, g⟩ (fun r => (∀ c : Dev Cert.KernelXattnFwdIdeal.nD,
      r.2.mem ((c.tc : Thread Cert.KernelXattnFwdIdeal.nD Cert.KernelXattnFwdIdeal.τ).loc Cert.KernelXattnFwdIdeal.main_arg0) = m ((c.tc : Thread Cert.KernelXattnFwdIdeal.nD Cert.KernelXattnFwdIdeal.τ).loc Cert.KernelXattnFwdIdeal.main_arg0)
      ∧ r.2.mem ((c.tc : Thread Cert.KernelXattnFwdIdeal.nD Cert.KernelXattnFwdIdeal.τ).loc Cert.KernelXattnFwdIdeal.main_arg1) = m ((c.tc : Thread Cert.KernelXattnFwdIdeal.nD Cert.KernelXattnFwdIdeal.τ).loc Cert.KernelXattnFwdIdeal.main_arg1))
      ∧ r.2.sem = fun _ => 0)

def quiescent_ReferenceXattnFwdIdeal [hReferenceXattnFwdIdeal : Cert.ReferenceXattnFwdIdeal.Facts] : Prop :=
  ∀ (m : (ℓ : Loc Cert.ReferenceXattnFwdIdeal.nD Cert.ReferenceXattnFwdIdeal.τ Cert.ReferenceXattnFwdIdeal.sig) → Buf (Elt Ideal) ℓ) (g : Dev Cert.ReferenceXattnFwdIdeal.nD → PrngReg), Pre_ReferenceXattnFwdIdeal m →
    θ_run (Cert.ReferenceXattnFwdIdeal.defs (F := Ideal)) (onTc (τ := Cert.ReferenceXattnFwdIdeal.τ) (Cert.ReferenceXattnFwdIdeal.main (F := Ideal))) ⟨m, fun _ => 0, g⟩ (fun r => (∀ c : Dev Cert.ReferenceXattnFwdIdeal.nD,
      r.2.mem ((c.tc : Thread Cert.ReferenceXattnFwdIdeal.nD Cert.ReferenceXattnFwdIdeal.τ).loc Cert.ReferenceXattnFwdIdeal.main_arg0) = m ((c.tc : Thread Cert.ReferenceXattnFwdIdeal.nD Cert.ReferenceXattnFwdIdeal.τ).loc Cert.ReferenceXattnFwdIdeal.main_arg0)
      ∧ r.2.mem ((c.tc : Thread Cert.ReferenceXattnFwdIdeal.nD Cert.ReferenceXattnFwdIdeal.τ).loc Cert.ReferenceXattnFwdIdeal.main_arg1) = m ((c.tc : Thread Cert.ReferenceXattnFwdIdeal.nD Cert.ReferenceXattnFwdIdeal.τ).loc Cert.ReferenceXattnFwdIdeal.main_arg1))
      ∧ r.2.sem = fun _ => 0)

def quiescent_KernelSbFwd [hKernelSbFwd : Cert.KernelSbFwd.Facts] : Prop :=
  ∀ (m : (ℓ : Loc Cert.KernelSbFwd.nD Cert.KernelSbFwd.τ Cert.KernelSbFwd.sig) → Buf (Elt Bits) ℓ) (g : Dev Cert.KernelSbFwd.nD → PrngReg), Pre_KernelSbFwd m →
    θ_run (Cert.KernelSbFwd.defs (F := Bits)) (onTc (τ := Cert.KernelSbFwd.τ) (Cert.KernelSbFwd.main (F := Bits))) ⟨m, fun _ => 0, g⟩ (fun r => (∀ c : Dev Cert.KernelSbFwd.nD,
      r.2.mem ((c.tc : Thread Cert.KernelSbFwd.nD Cert.KernelSbFwd.τ).loc Cert.KernelSbFwd.main_arg0) = m ((c.tc : Thread Cert.KernelSbFwd.nD Cert.KernelSbFwd.τ).loc Cert.KernelSbFwd.main_arg0))
      ∧ r.2.sem = fun _ => 0)

def quiescent_KernelSbFwdIdeal [hKernelSbFwdIdeal : Cert.KernelSbFwdIdeal.Facts] : Prop :=
  ∀ (m : (ℓ : Loc Cert.KernelSbFwdIdeal.nD Cert.KernelSbFwdIdeal.τ Cert.KernelSbFwdIdeal.sig) → Buf (Elt Ideal) ℓ) (g : Dev Cert.KernelSbFwdIdeal.nD → PrngReg), Pre_KernelSbFwdIdeal m →
    θ_run (Cert.KernelSbFwdIdeal.defs (F := Ideal)) (onTc (τ := Cert.KernelSbFwdIdeal.τ) (Cert.KernelSbFwdIdeal.main (F := Ideal))) ⟨m, fun _ => 0, g⟩ (fun r => (∀ c : Dev Cert.KernelSbFwdIdeal.nD,
      r.2.mem ((c.tc : Thread Cert.KernelSbFwdIdeal.nD Cert.KernelSbFwdIdeal.τ).loc Cert.KernelSbFwdIdeal.main_arg0) = m ((c.tc : Thread Cert.KernelSbFwdIdeal.nD Cert.KernelSbFwdIdeal.τ).loc Cert.KernelSbFwdIdeal.main_arg0))
      ∧ r.2.sem = fun _ => 0)

def quiescent_KernelSbFwdIdeal_pre_finite_z [hKernelSbFwdIdeal : Cert.KernelSbFwdIdeal.Facts] [hPre_finite_z : Cert.Pre_finite_z.Facts] : Prop :=
  ∀ (m : (ℓ : Loc Cert.KernelSbFwdIdeal.nD Cert.KernelSbFwdIdeal.τ Cert.KernelSbFwdIdeal.sig) → Buf (Elt Ideal) ℓ) (g : Dev Cert.KernelSbFwdIdeal.nD → PrngReg), Pre_KernelSbFwdIdeal_finite_z m →
    θ_run (Cert.KernelSbFwdIdeal.defs (F := Ideal)) (onTc (τ := Cert.KernelSbFwdIdeal.τ) (Cert.KernelSbFwdIdeal.main (F := Ideal))) ⟨m, fun _ => 0, g⟩ (fun r => (∀ c : Dev Cert.KernelSbFwdIdeal.nD,
      r.2.mem ((c.tc : Thread Cert.KernelSbFwdIdeal.nD Cert.KernelSbFwdIdeal.τ).loc Cert.KernelSbFwdIdeal.main_arg0) = m ((c.tc : Thread Cert.KernelSbFwdIdeal.nD Cert.KernelSbFwdIdeal.τ).loc Cert.KernelSbFwdIdeal.main_arg0))
      ∧ r.2.sem = fun _ => 0)

def quiescent_ReferenceSbFwdIdeal [hReferenceSbFwdIdeal : Cert.ReferenceSbFwdIdeal.Facts] : Prop :=
  ∀ (m : (ℓ : Loc Cert.ReferenceSbFwdIdeal.nD Cert.ReferenceSbFwdIdeal.τ Cert.ReferenceSbFwdIdeal.sig) → Buf (Elt Ideal) ℓ) (g : Dev Cert.ReferenceSbFwdIdeal.nD → PrngReg), Pre_ReferenceSbFwdIdeal m →
    θ_run (Cert.ReferenceSbFwdIdeal.defs (F := Ideal)) (onTc (τ := Cert.ReferenceSbFwdIdeal.τ) (Cert.ReferenceSbFwdIdeal.main (F := Ideal))) ⟨m, fun _ => 0, g⟩ (fun r => (∀ c : Dev Cert.ReferenceSbFwdIdeal.nD,
      r.2.mem ((c.tc : Thread Cert.ReferenceSbFwdIdeal.nD Cert.ReferenceSbFwdIdeal.τ).loc Cert.ReferenceSbFwdIdeal.main_arg0) = m ((c.tc : Thread Cert.ReferenceSbFwdIdeal.nD Cert.ReferenceSbFwdIdeal.τ).loc Cert.ReferenceSbFwdIdeal.main_arg0))
      ∧ r.2.sem = fun _ => 0)

def quiescent_ReferenceSbFwdIdeal_pre_finite_z [hReferenceSbFwdIdeal : Cert.ReferenceSbFwdIdeal.Facts] [hPre_finite_z : Cert.Pre_finite_z.Facts] : Prop :=
  ∀ (m : (ℓ : Loc Cert.ReferenceSbFwdIdeal.nD Cert.ReferenceSbFwdIdeal.τ Cert.ReferenceSbFwdIdeal.sig) → Buf (Elt Ideal) ℓ) (g : Dev Cert.ReferenceSbFwdIdeal.nD → PrngReg), Pre_ReferenceSbFwdIdeal_finite_z m →
    θ_run (Cert.ReferenceSbFwdIdeal.defs (F := Ideal)) (onTc (τ := Cert.ReferenceSbFwdIdeal.τ) (Cert.ReferenceSbFwdIdeal.main (F := Ideal))) ⟨m, fun _ => 0, g⟩ (fun r => (∀ c : Dev Cert.ReferenceSbFwdIdeal.nD,
      r.2.mem ((c.tc : Thread Cert.ReferenceSbFwdIdeal.nD Cert.ReferenceSbFwdIdeal.τ).loc Cert.ReferenceSbFwdIdeal.main_arg0) = m ((c.tc : Thread Cert.ReferenceSbFwdIdeal.nD Cert.ReferenceSbFwdIdeal.τ).loc Cert.ReferenceSbFwdIdeal.main_arg0))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelNormBwd [hKernelNormBwd : Cert.KernelNormBwd.Facts] : Prop :=
  ∀ (m : (ℓ : Loc Cert.KernelNormBwd.nD Cert.KernelNormBwd.τ Cert.KernelNormBwd.sig) → Buf (Elt Bits) ℓ) (g : Dev Cert.KernelNormBwd.nD → PrngReg), Pre_KernelNormBwd m →
    θ_run (Cert.KernelNormBwd.defs (F := Bits)) (onTc (τ := Cert.KernelNormBwd.τ) (Cert.KernelNormBwd.main (F := Bits))) ⟨m, fun _ => 0, g⟩ (fun r => (∀ c : Dev Cert.KernelNormBwd.nD,
      r.2.mem ((c.tc : Thread Cert.KernelNormBwd.nD Cert.KernelNormBwd.τ).loc Cert.KernelNormBwd.main_arg0) = m ((c.tc : Thread Cert.KernelNormBwd.nD Cert.KernelNormBwd.τ).loc Cert.KernelNormBwd.main_arg0)
      ∧ r.2.mem ((c.tc : Thread Cert.KernelNormBwd.nD Cert.KernelNormBwd.τ).loc Cert.KernelNormBwd.main_arg1) = m ((c.tc : Thread Cert.KernelNormBwd.nD Cert.KernelNormBwd.τ).loc Cert.KernelNormBwd.main_arg1)
      ∧ r.2.mem ((c.tc : Thread Cert.KernelNormBwd.nD Cert.KernelNormBwd.τ).loc Cert.KernelNormBwd.main_arg2) = m ((c.tc : Thread Cert.KernelNormBwd.nD Cert.KernelNormBwd.τ).loc Cert.KernelNormBwd.main_arg2)
      ∧ r.2.mem ((c.tc : Thread Cert.KernelNormBwd.nD Cert.KernelNormBwd.τ).loc Cert.KernelNormBwd.main_arg3) = m ((c.tc : Thread Cert.KernelNormBwd.nD Cert.KernelNormBwd.τ).loc Cert.KernelNormBwd.main_arg3))
      ∧ r.2.sem = fun _ => 0)

def quiescent_KernelNormBwdIdeal [hKernelNormBwdIdeal : Cert.KernelNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg), Pre_KernelNormBwdIdeal m →
    θ_run (Cert.KernelNormBwdIdeal.defs (F := Ideal)) (onTc (τ := Cert.KernelNormBwdIdeal.τ) (Cert.KernelNormBwdIdeal.main (F := Ideal))) ⟨m, fun _ => 0, g⟩ (fun r => (∀ c : Dev Cert.KernelNormBwdIdeal.nD,
      r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
      ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
      ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
      ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ r.2.sem = fun _ => 0)

def quiescent_KernelNormBwdIdeal_pre_finite_norm [hKernelNormBwdIdeal : Cert.KernelNormBwdIdeal.Facts] [hPre_finite_norm : Cert.Pre_finite_norm.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg), Pre_KernelNormBwdIdeal_finite_norm m →
    θ_run (Cert.KernelNormBwdIdeal.defs (F := Ideal)) (onTc (τ := Cert.KernelNormBwdIdeal.τ) (Cert.KernelNormBwdIdeal.main (F := Ideal))) ⟨m, fun _ => 0, g⟩ (fun r => (∀ c : Dev Cert.KernelNormBwdIdeal.nD,
      r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
      ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
      ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
      ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ r.2.sem = fun _ => 0)

def quiescent_ReferenceNormBwdIdeal [hReferenceNormBwdIdeal : Cert.ReferenceNormBwdIdeal.Facts] : Prop :=
  ∀ (m : (ℓ : Loc Cert.ReferenceNormBwdIdeal.nD Cert.ReferenceNormBwdIdeal.τ Cert.ReferenceNormBwdIdeal.sig) → Buf (Elt Ideal) ℓ) (g : Dev Cert.ReferenceNormBwdIdeal.nD → PrngReg), Pre_ReferenceNormBwdIdeal m →
    θ_run (Cert.ReferenceNormBwdIdeal.defs (F := Ideal)) (onTc (τ := Cert.ReferenceNormBwdIdeal.τ) (Cert.ReferenceNormBwdIdeal.main (F := Ideal))) ⟨m, fun _ => 0, g⟩ (fun r => (∀ c : Dev Cert.ReferenceNormBwdIdeal.nD,
      r.2.mem ((c.tc : Thread Cert.ReferenceNormBwdIdeal.nD Cert.ReferenceNormBwdIdeal.τ).loc Cert.ReferenceNormBwdIdeal.main_arg0) = m ((c.tc : Thread Cert.ReferenceNormBwdIdeal.nD Cert.ReferenceNormBwdIdeal.τ).loc Cert.ReferenceNormBwdIdeal.main_arg0)
      ∧ r.2.mem ((c.tc : Thread Cert.ReferenceNormBwdIdeal.nD Cert.ReferenceNormBwdIdeal.τ).loc Cert.ReferenceNormBwdIdeal.main_arg1) = m ((c.tc : Thread Cert.ReferenceNormBwdIdeal.nD Cert.ReferenceNormBwdIdeal.τ).loc Cert.ReferenceNormBwdIdeal.main_arg1)
      ∧ r.2.mem ((c.tc : Thread Cert.ReferenceNormBwdIdeal.nD Cert.ReferenceNormBwdIdeal.τ).loc Cert.ReferenceNormBwdIdeal.main_arg2) = m ((c.tc : Thread Cert.ReferenceNormBwdIdeal.nD Cert.ReferenceNormBwdIdeal.τ).loc Cert.ReferenceNormBwdIdeal.main_arg2)
      ∧ r.2.mem ((c.tc : Thread Cert.ReferenceNormBwdIdeal.nD Cert.ReferenceNormBwdIdeal.τ).loc Cert.ReferenceNormBwdIdeal.main_arg3) = m ((c.tc : Thread Cert.ReferenceNormBwdIdeal.nD Cert.ReferenceNormBwdIdeal.τ).loc Cert.ReferenceNormBwdIdeal.main_arg3))
      ∧ r.2.sem = fun _ => 0)

def quiescent_ReferenceNormBwdIdeal_pre_finite_norm [hReferenceNormBwdIdeal : Cert.ReferenceNormBwdIdeal.Facts] [hPre_finite_norm : Cert.Pre_finite_norm.Facts] : Prop :=
  ∀ (m : (ℓ : Loc Cert.ReferenceNormBwdIdeal.nD Cert.ReferenceNormBwdIdeal.τ Cert.ReferenceNormBwdIdeal.sig) → Buf (Elt Ideal) ℓ) (g : Dev Cert.ReferenceNormBwdIdeal.nD → PrngReg), Pre_ReferenceNormBwdIdeal_finite_norm m →
    θ_run (Cert.ReferenceNormBwdIdeal.defs (F := Ideal)) (onTc (τ := Cert.ReferenceNormBwdIdeal.τ) (Cert.ReferenceNormBwdIdeal.main (F := Ideal))) ⟨m, fun _ => 0, g⟩ (fun r => (∀ c : Dev Cert.ReferenceNormBwdIdeal.nD,
      r.2.mem ((c.tc : Thread Cert.ReferenceNormBwdIdeal.nD Cert.ReferenceNormBwdIdeal.τ).loc Cert.ReferenceNormBwdIdeal.main_arg0) = m ((c.tc : Thread Cert.ReferenceNormBwdIdeal.nD Cert.ReferenceNormBwdIdeal.τ).loc Cert.ReferenceNormBwdIdeal.main_arg0)
      ∧ r.2.mem ((c.tc : Thread Cert.ReferenceNormBwdIdeal.nD Cert.ReferenceNormBwdIdeal.τ).loc Cert.ReferenceNormBwdIdeal.main_arg1) = m ((c.tc : Thread Cert.ReferenceNormBwdIdeal.nD Cert.ReferenceNormBwdIdeal.τ).loc Cert.ReferenceNormBwdIdeal.main_arg1)
      ∧ r.2.mem ((c.tc : Thread Cert.ReferenceNormBwdIdeal.nD Cert.ReferenceNormBwdIdeal.τ).loc Cert.ReferenceNormBwdIdeal.main_arg2) = m ((c.tc : Thread Cert.ReferenceNormBwdIdeal.nD Cert.ReferenceNormBwdIdeal.τ).loc Cert.ReferenceNormBwdIdeal.main_arg2)
      ∧ r.2.mem ((c.tc : Thread Cert.ReferenceNormBwdIdeal.nD Cert.ReferenceNormBwdIdeal.τ).loc Cert.ReferenceNormBwdIdeal.main_arg3) = m ((c.tc : Thread Cert.ReferenceNormBwdIdeal.nD Cert.ReferenceNormBwdIdeal.τ).loc Cert.ReferenceNormBwdIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelAct_KernelActIdeal : Prop :=
  True

def algebraic_KernelActIdeal_ReferenceActIdeal_pre_finite_out [hKernelActIdeal : Cert.KernelActIdeal.Facts] [hReferenceActIdeal : Cert.ReferenceActIdeal.Facts] [hPre_finite_out : Cert.Pre_finite_out.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_out m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)) →
    ∃ (v0 : (c : Dev Cert.KernelActIdeal.nD) → Buf (Elt Ideal) ((c.tc : Thread Cert.KernelActIdeal.nD Cert.KernelActIdeal.τ).loc Cert.KernelActIdeal.main_v24)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v24) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v21) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2))

def preserves_KernelWout_KernelWoutIdeal : Prop :=
  True

def algebraic_KernelWoutIdeal_ReferenceWoutIdeal [hKernelWoutIdeal : Cert.KernelWoutIdeal.Facts] [hReferenceWoutIdeal : Cert.ReferenceWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg)
    (m' : (ℓ : Loc Cert.ReferenceWoutIdeal.nD Cert.ReferenceWoutIdeal.τ Cert.ReferenceWoutIdeal.sig) → Buf (Elt Ideal) ℓ) (g' : Dev Cert.ReferenceWoutIdeal.nD → PrngReg), Pre_KernelWoutIdeal m →
    (∀ c : Dev Cert.KernelWoutIdeal.nD,
      m' ((c.tc : Thread Cert.ReferenceWoutIdeal.nD Cert.ReferenceWoutIdeal.τ).loc Cert.ReferenceWoutIdeal.main_arg0) = m ((c.tc : Thread Cert.KernelWoutIdeal.nD Cert.KernelWoutIdeal.τ).loc Cert.KernelWoutIdeal.main_arg0)
      ∧ m' ((c.tc : Thread Cert.ReferenceWoutIdeal.nD Cert.ReferenceWoutIdeal.τ).loc Cert.ReferenceWoutIdeal.main_arg1) = m ((c.tc : Thread Cert.KernelWoutIdeal.nD Cert.KernelWoutIdeal.τ).loc Cert.KernelWoutIdeal.main_arg1)
      ∧ m' ((c.tc : Thread Cert.ReferenceWoutIdeal.nD Cert.ReferenceWoutIdeal.τ).loc Cert.ReferenceWoutIdeal.main_arg2) = m ((c.tc : Thread Cert.KernelWoutIdeal.nD Cert.KernelWoutIdeal.τ).loc Cert.KernelWoutIdeal.main_arg2)) →
    ∃ (v0 : (c : Dev Cert.KernelWoutIdeal.nD) → Buf (Elt Ideal) ((c.tc : Thread Cert.KernelWoutIdeal.nD Cert.KernelWoutIdeal.τ).loc Cert.KernelWoutIdeal.main_v8)),
      θ_run (Cert.KernelWoutIdeal.defs (F := Ideal)) (onTc (τ := Cert.KernelWoutIdeal.τ) (Cert.KernelWoutIdeal.main (F := Ideal))) ⟨m, fun _ => 0, g⟩ (fun r => ∀ c : Dev Cert.KernelWoutIdeal.nD,
          r.2.mem ((c.tc : Thread Cert.KernelWoutIdeal.nD Cert.KernelWoutIdeal.τ).loc Cert.KernelWoutIdeal.main_v8) = v0 c
          ∧ r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
          ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1)
          ∧ r.2.mem ((c.tc : Thread Cert.KernelWoutIdeal.nD Cert.KernelWoutIdeal.τ).loc Cert.KernelWoutIdeal.main_arg2) = m ((c.tc : Thread Cert.KernelWoutIdeal.nD Cert.KernelWoutIdeal.τ).loc Cert.KernelWoutIdeal.main_arg2))
      ∧ θ_run (Cert.ReferenceWoutIdeal.defs (F := Ideal)) (onTc (τ := Cert.ReferenceWoutIdeal.τ) (Cert.ReferenceWoutIdeal.main (F := Ideal))) ⟨m', fun _ => 0, g'⟩ (fun r => ∀ c : Dev Cert.ReferenceWoutIdeal.nD,
          r.2.mem ((c.tc : Thread Cert.ReferenceWoutIdeal.nD Cert.ReferenceWoutIdeal.τ).loc Cert.ReferenceWoutIdeal.main_v17) = v0 c
          ∧ r.2.mem ((c.tc : Thread Cert.ReferenceWoutIdeal.nD Cert.ReferenceWoutIdeal.τ).loc Cert.ReferenceWoutIdeal.main_arg0) = m' ((c.tc : Thread Cert.ReferenceWoutIdeal.nD Cert.ReferenceWoutIdeal.τ).loc Cert.ReferenceWoutIdeal.main_arg0)
          ∧ r.2.mem ((c.tc : Thread Cert.ReferenceWoutIdeal.nD Cert.ReferenceWoutIdeal.τ).loc Cert.ReferenceWoutIdeal.main_arg1) = m' ((c.tc : Thread Cert.ReferenceWoutIdeal.nD Cert.ReferenceWoutIdeal.τ).loc Cert.ReferenceWoutIdeal.main_arg1)
          ∧ r.2.mem ((c.tc : Thread Cert.ReferenceWoutIdeal.nD Cert.ReferenceWoutIdeal.τ).loc Cert.ReferenceWoutIdeal.main_arg2) = m' ((c.tc : Thread Cert.ReferenceWoutIdeal.nD Cert.ReferenceWoutIdeal.τ).loc Cert.ReferenceWoutIdeal.main_arg2))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)
      ∧ m' ((c.tc : Thread Cert.ReferenceWinIdeal.nD Cert.ReferenceWinIdeal.τ).loc Cert.ReferenceWinIdeal.main_arg2) = m ((c.tc : Thread Cert.KernelWinIdeal.nD Cert.KernelWinIdeal.τ).loc Cert.KernelWinIdeal.main_arg2)) →
    ∃ (v0 : (c : Dev Cert.KernelWinIdeal.nD) → Buf (Elt Ideal) ((c.tc : Thread Cert.KernelWinIdeal.nD Cert.KernelWinIdeal.τ).loc Cert.KernelWinIdeal.main_v8)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v8) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
          ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v13) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1)
          ∧ r.2.mem ((c.tc : Thread Cert.ReferenceWinIdeal.nD Cert.ReferenceWinIdeal.τ).loc Cert.ReferenceWinIdeal.main_arg2) = m' ((c.tc : Thread Cert.ReferenceWinIdeal.nD Cert.ReferenceWinIdeal.τ).loc Cert.ReferenceWinIdeal.main_arg2))

def preserves_KernelDn_KernelDnIdeal : Prop :=
  True

def algebraic_KernelDnIdeal_ReferenceDnIdeal [hKernelDnIdeal : Cert.KernelDnIdeal.Facts] [hReferenceDnIdeal : Cert.ReferenceDnIdeal.Facts] : Prop :=
  ∀ (m : (ℓ : Loc Cert.KernelDnIdeal.nD Cert.KernelDnIdeal.τ Cert.KernelDnIdeal.sig) → Buf (Elt Ideal) ℓ) (g : Dev Cert.KernelDnIdeal.nD → PrngReg)
    (m' : (ℓ : Loc Cert.ReferenceDnIdeal.nD Cert.ReferenceDnIdeal.τ Cert.ReferenceDnIdeal.sig) → Buf (Elt Ideal) ℓ) (g' : Dev Cert.ReferenceDnIdeal.nD → PrngReg), Pre_KernelDnIdeal m →
    (∀ c : Dev Cert.KernelDnIdeal.nD,
      m' ((c.tc : Thread Cert.ReferenceDnIdeal.nD Cert.ReferenceDnIdeal.τ).loc Cert.ReferenceDnIdeal.main_arg0) = m ((c.tc : Thread Cert.KernelDnIdeal.nD Cert.KernelDnIdeal.τ).loc Cert.KernelDnIdeal.main_arg0)
      ∧ m' ((c.tc : Thread Cert.ReferenceDnIdeal.nD Cert.ReferenceDnIdeal.τ).loc Cert.ReferenceDnIdeal.main_arg1) = m ((c.tc : Thread Cert.KernelDnIdeal.nD Cert.KernelDnIdeal.τ).loc Cert.KernelDnIdeal.main_arg1)
      ∧ m' ((c.tc : Thread Cert.ReferenceDnIdeal.nD Cert.ReferenceDnIdeal.τ).loc Cert.ReferenceDnIdeal.main_arg2) = m ((c.tc : Thread Cert.KernelDnIdeal.nD Cert.KernelDnIdeal.τ).loc Cert.KernelDnIdeal.main_arg2)) →
    ∃ (v0 : (c : Dev Cert.KernelDnIdeal.nD) → Buf (Elt Ideal) ((c.tc : Thread Cert.KernelDnIdeal.nD Cert.KernelDnIdeal.τ).loc Cert.KernelDnIdeal.main_v16)),
      θ_run (Cert.KernelDnIdeal.defs (F := Ideal)) (onTc (τ := Cert.KernelDnIdeal.τ) (Cert.KernelDnIdeal.main (F := Ideal))) ⟨m, fun _ => 0, g⟩ (fun r => ∀ c : Dev Cert.KernelDnIdeal.nD,
          r.2.mem ((c.tc : Thread Cert.KernelDnIdeal.nD Cert.KernelDnIdeal.τ).loc Cert.KernelDnIdeal.main_v16) = v0 c
          ∧ r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
          ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
          ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2))
      ∧ θ_run (Cert.ReferenceDnIdeal.defs (F := Ideal)) (onTc (τ := Cert.ReferenceDnIdeal.τ) (Cert.ReferenceDnIdeal.main (F := Ideal))) ⟨m', fun _ => 0, g'⟩ (fun r => ∀ c : Dev Cert.ReferenceDnIdeal.nD,
          r.2.mem ((c.tc : Thread Cert.ReferenceDnIdeal.nD Cert.ReferenceDnIdeal.τ).loc Cert.ReferenceDnIdeal.main_v4) = v0 c
          ∧ r.2.mem ((c.tc : Thread Cert.ReferenceDnIdeal.nD Cert.ReferenceDnIdeal.τ).loc Cert.ReferenceDnIdeal.main_arg0) = m' ((c.tc : Thread Cert.ReferenceDnIdeal.nD Cert.ReferenceDnIdeal.τ).loc Cert.ReferenceDnIdeal.main_arg0)
          ∧ r.2.mem ((c.tc : Thread Cert.ReferenceDnIdeal.nD Cert.ReferenceDnIdeal.τ).loc Cert.ReferenceDnIdeal.main_arg1) = m' ((c.tc : Thread Cert.ReferenceDnIdeal.nD Cert.ReferenceDnIdeal.τ).loc Cert.ReferenceDnIdeal.main_arg1)
          ∧ r.2.mem ((c.tc : Thread Cert.ReferenceDnIdeal.nD Cert.ReferenceDnIdeal.τ).loc Cert.ReferenceDnIdeal.main_arg2) = m' ((c.tc : Thread Cert.ReferenceDnIdeal.nD Cert.ReferenceDnIdeal.τ).loc Cert.ReferenceDnIdeal.main_arg2))

def preserves_KernelSqDo_KernelSqDoIdeal : Prop :=
  True

def algebraic_KernelSqDoIdeal_ReferenceSqDoIdeal [hKernelSqDoIdeal : Cert.KernelSqDoIdeal.Facts] [hReferenceSqDoIdeal : Cert.ReferenceSqDoIdeal.Facts] : Prop :=
  ∀ (m : (ℓ : Loc Cert.KernelSqDoIdeal.nD Cert.KernelSqDoIdeal.τ Cert.KernelSqDoIdeal.sig) → Buf (Elt Ideal) ℓ) (g : Dev Cert.KernelSqDoIdeal.nD → PrngReg)
    (m' : (ℓ : Loc Cert.ReferenceSqDoIdeal.nD Cert.ReferenceSqDoIdeal.τ Cert.ReferenceSqDoIdeal.sig) → Buf (Elt Ideal) ℓ) (g' : Dev Cert.ReferenceSqDoIdeal.nD → PrngReg), Pre_KernelSqDoIdeal m →
    (∀ c : Dev Cert.KernelSqDoIdeal.nD,
      m' ((c.tc : Thread Cert.ReferenceSqDoIdeal.nD Cert.ReferenceSqDoIdeal.τ).loc Cert.ReferenceSqDoIdeal.main_arg0) = m ((c.tc : Thread Cert.KernelSqDoIdeal.nD Cert.KernelSqDoIdeal.τ).loc Cert.KernelSqDoIdeal.main_arg0)
      ∧ m' ((c.tc : Thread Cert.ReferenceSqDoIdeal.nD Cert.ReferenceSqDoIdeal.τ).loc Cert.ReferenceSqDoIdeal.main_arg1) = m ((c.tc : Thread Cert.KernelSqDoIdeal.nD Cert.KernelSqDoIdeal.τ).loc Cert.KernelSqDoIdeal.main_arg1)
      ∧ m' ((c.tc : Thread Cert.ReferenceSqDoIdeal.nD Cert.ReferenceSqDoIdeal.τ).loc Cert.ReferenceSqDoIdeal.main_arg2) = m ((c.tc : Thread Cert.KernelSqDoIdeal.nD Cert.KernelSqDoIdeal.τ).loc Cert.KernelSqDoIdeal.main_arg2)) →
    ∃ (v0 : (c : Dev Cert.KernelSqDoIdeal.nD) → Buf (Elt Ideal) ((c.tc : Thread Cert.KernelSqDoIdeal.nD Cert.KernelSqDoIdeal.τ).loc Cert.KernelSqDoIdeal.main_v4)),
      θ_run (Cert.KernelSqDoIdeal.defs (F := Ideal)) (onTc (τ := Cert.KernelSqDoIdeal.τ) (Cert.KernelSqDoIdeal.main (F := Ideal))) ⟨m, fun _ => 0, g⟩ (fun r => ∀ c : Dev Cert.KernelSqDoIdeal.nD,
          r.2.mem ((c.tc : Thread Cert.KernelSqDoIdeal.nD Cert.KernelSqDoIdeal.τ).loc Cert.KernelSqDoIdeal.main_v4) = v0 c
          ∧ r.2.mem ((c.tc : Thread Cert.KernelSqDoIdeal.nD Cert.KernelSqDoIdeal.τ).loc Cert.KernelSqDoIdeal.main_arg0) = m ((c.tc : Thread Cert.KernelSqDoIdeal.nD Cert.KernelSqDoIdeal.τ).loc Cert.KernelSqDoIdeal.main_arg0)
          ∧ r.2.mem ((c.tc : Thread Cert.KernelSqDoIdeal.nD Cert.KernelSqDoIdeal.τ).loc Cert.KernelSqDoIdeal.main_arg1) = m ((c.tc : Thread Cert.KernelSqDoIdeal.nD Cert.KernelSqDoIdeal.τ).loc Cert.KernelSqDoIdeal.main_arg1)
          ∧ r.2.mem ((c.tc : Thread Cert.KernelSqDoIdeal.nD Cert.KernelSqDoIdeal.τ).loc Cert.KernelSqDoIdeal.main_arg2) = m ((c.tc : Thread Cert.KernelSqDoIdeal.nD Cert.KernelSqDoIdeal.τ).loc Cert.KernelSqDoIdeal.main_arg2))
      ∧ θ_run (Cert.ReferenceSqDoIdeal.defs (F := Ideal)) (onTc (τ := Cert.ReferenceSqDoIdeal.τ) (Cert.ReferenceSqDoIdeal.main (F := Ideal))) ⟨m', fun _ => 0, g'⟩ (fun r => ∀ c : Dev Cert.ReferenceSqDoIdeal.nD,
          r.2.mem ((c.tc : Thread Cert.ReferenceSqDoIdeal.nD Cert.ReferenceSqDoIdeal.τ).loc Cert.ReferenceSqDoIdeal.main_v5) = v0 c
          ∧ r.2.mem ((c.tc : Thread Cert.ReferenceSqDoIdeal.nD Cert.ReferenceSqDoIdeal.τ).loc Cert.ReferenceSqDoIdeal.main_arg0) = m' ((c.tc : Thread Cert.ReferenceSqDoIdeal.nD Cert.ReferenceSqDoIdeal.τ).loc Cert.ReferenceSqDoIdeal.main_arg0)
          ∧ r.2.mem ((c.tc : Thread Cert.ReferenceSqDoIdeal.nD Cert.ReferenceSqDoIdeal.τ).loc Cert.ReferenceSqDoIdeal.main_arg1) = m' ((c.tc : Thread Cert.ReferenceSqDoIdeal.nD Cert.ReferenceSqDoIdeal.τ).loc Cert.ReferenceSqDoIdeal.main_arg1)
          ∧ r.2.mem ((c.tc : Thread Cert.ReferenceSqDoIdeal.nD Cert.ReferenceSqDoIdeal.τ).loc Cert.ReferenceSqDoIdeal.main_arg2) = m' ((c.tc : Thread Cert.ReferenceSqDoIdeal.nD Cert.ReferenceSqDoIdeal.τ).loc Cert.ReferenceSqDoIdeal.main_arg2))

def preserves_KernelSqDx_KernelSqDxIdeal : Prop :=
  True

def algebraic_KernelSqDxIdeal_ReferenceSqDxIdeal [hKernelSqDxIdeal : Cert.KernelSqDxIdeal.Facts] [hReferenceSqDxIdeal : Cert.ReferenceSqDxIdeal.Facts] : Prop :=
  ∀ (m : (ℓ : Loc Cert.KernelSqDxIdeal.nD Cert.KernelSqDxIdeal.τ Cert.KernelSqDxIdeal.sig) → Buf (Elt Ideal) ℓ) (g : Dev Cert.KernelSqDxIdeal.nD → PrngReg)
    (m' : (ℓ : Loc Cert.ReferenceSqDxIdeal.nD Cert.ReferenceSqDxIdeal.τ Cert.ReferenceSqDxIdeal.sig) → Buf (Elt Ideal) ℓ) (g' : Dev Cert.ReferenceSqDxIdeal.nD → PrngReg), Pre_KernelSqDxIdeal m →
    (∀ c : Dev Cert.KernelSqDxIdeal.nD,
      m' ((c.tc : Thread Cert.ReferenceSqDxIdeal.nD Cert.ReferenceSqDxIdeal.τ).loc Cert.ReferenceSqDxIdeal.main_arg0) = m ((c.tc : Thread Cert.KernelSqDxIdeal.nD Cert.KernelSqDxIdeal.τ).loc Cert.KernelSqDxIdeal.main_arg0)
      ∧ m' ((c.tc : Thread Cert.ReferenceSqDxIdeal.nD Cert.ReferenceSqDxIdeal.τ).loc Cert.ReferenceSqDxIdeal.main_arg1) = m ((c.tc : Thread Cert.KernelSqDxIdeal.nD Cert.KernelSqDxIdeal.τ).loc Cert.KernelSqDxIdeal.main_arg1)
      ∧ m' ((c.tc : Thread Cert.ReferenceSqDxIdeal.nD Cert.ReferenceSqDxIdeal.τ).loc Cert.ReferenceSqDxIdeal.main_arg2) = m ((c.tc : Thread Cert.KernelSqDxIdeal.nD Cert.KernelSqDxIdeal.τ).loc Cert.KernelSqDxIdeal.main_arg2)) →
    ∃ (v0 : (c : Dev Cert.KernelSqDxIdeal.nD) → Buf (Elt Ideal) ((c.tc : Thread Cert.KernelSqDxIdeal.nD Cert.KernelSqDxIdeal.τ).loc Cert.KernelSqDxIdeal.main_v4)),
      θ_run (Cert.KernelSqDxIdeal.defs (F := Ideal)) (onTc (τ := Cert.KernelSqDxIdeal.τ) (Cert.KernelSqDxIdeal.main (F := Ideal))) ⟨m, fun _ => 0, g⟩ (fun r => ∀ c : Dev Cert.KernelSqDxIdeal.nD,
          r.2.mem ((c.tc : Thread Cert.KernelSqDxIdeal.nD Cert.KernelSqDxIdeal.τ).loc Cert.KernelSqDxIdeal.main_v4) = v0 c
          ∧ r.2.mem ((c.tc : Thread Cert.KernelSqDxIdeal.nD Cert.KernelSqDxIdeal.τ).loc Cert.KernelSqDxIdeal.main_arg0) = m ((c.tc : Thread Cert.KernelSqDxIdeal.nD Cert.KernelSqDxIdeal.τ).loc Cert.KernelSqDxIdeal.main_arg0)
          ∧ r.2.mem ((c.tc : Thread Cert.KernelSqDxIdeal.nD Cert.KernelSqDxIdeal.τ).loc Cert.KernelSqDxIdeal.main_arg1) = m ((c.tc : Thread Cert.KernelSqDxIdeal.nD Cert.KernelSqDxIdeal.τ).loc Cert.KernelSqDxIdeal.main_arg1)
          ∧ r.2.mem ((c.tc : Thread Cert.KernelSqDxIdeal.nD Cert.KernelSqDxIdeal.τ).loc Cert.KernelSqDxIdeal.main_arg2) = m ((c.tc : Thread Cert.KernelSqDxIdeal.nD Cert.KernelSqDxIdeal.τ).loc Cert.KernelSqDxIdeal.main_arg2))
      ∧ θ_run (Cert.ReferenceSqDxIdeal.defs (F := Ideal)) (onTc (τ := Cert.ReferenceSqDxIdeal.τ) (Cert.ReferenceSqDxIdeal.main (F := Ideal))) ⟨m', fun _ => 0, g'⟩ (fun r => ∀ c : Dev Cert.ReferenceSqDxIdeal.nD,
          r.2.mem ((c.tc : Thread Cert.ReferenceSqDxIdeal.nD Cert.ReferenceSqDxIdeal.τ).loc Cert.ReferenceSqDxIdeal.main_v4) = v0 c
          ∧ r.2.mem ((c.tc : Thread Cert.ReferenceSqDxIdeal.nD Cert.ReferenceSqDxIdeal.τ).loc Cert.ReferenceSqDxIdeal.main_arg0) = m' ((c.tc : Thread Cert.ReferenceSqDxIdeal.nD Cert.ReferenceSqDxIdeal.τ).loc Cert.ReferenceSqDxIdeal.main_arg0)
          ∧ r.2.mem ((c.tc : Thread Cert.ReferenceSqDxIdeal.nD Cert.ReferenceSqDxIdeal.τ).loc Cert.ReferenceSqDxIdeal.main_arg1) = m' ((c.tc : Thread Cert.ReferenceSqDxIdeal.nD Cert.ReferenceSqDxIdeal.τ).loc Cert.ReferenceSqDxIdeal.main_arg1)
          ∧ r.2.mem ((c.tc : Thread Cert.ReferenceSqDxIdeal.nD Cert.ReferenceSqDxIdeal.τ).loc Cert.ReferenceSqDxIdeal.main_arg2) = m' ((c.tc : Thread Cert.ReferenceSqDxIdeal.nD Cert.ReferenceSqDxIdeal.τ).loc Cert.ReferenceSqDxIdeal.main_arg2))

def preserves_KernelSqDw_KernelSqDwIdeal : Prop :=
  True

def algebraic_KernelSqDwIdeal_ReferenceSqDwIdeal [hKernelSqDwIdeal : Cert.KernelSqDwIdeal.Facts] [hReferenceSqDwIdeal : Cert.ReferenceSqDwIdeal.Facts] : Prop :=
  ∀ (m : (ℓ : Loc Cert.KernelSqDwIdeal.nD Cert.KernelSqDwIdeal.τ Cert.KernelSqDwIdeal.sig) → Buf (Elt Ideal) ℓ) (g : Dev Cert.KernelSqDwIdeal.nD → PrngReg)
    (m' : (ℓ : Loc Cert.ReferenceSqDwIdeal.nD Cert.ReferenceSqDwIdeal.τ Cert.ReferenceSqDwIdeal.sig) → Buf (Elt Ideal) ℓ) (g' : Dev Cert.ReferenceSqDwIdeal.nD → PrngReg), Pre_KernelSqDwIdeal m →
    (∀ c : Dev Cert.KernelSqDwIdeal.nD,
      m' ((c.tc : Thread Cert.ReferenceSqDwIdeal.nD Cert.ReferenceSqDwIdeal.τ).loc Cert.ReferenceSqDwIdeal.main_arg0) = m ((c.tc : Thread Cert.KernelSqDwIdeal.nD Cert.KernelSqDwIdeal.τ).loc Cert.KernelSqDwIdeal.main_arg0)
      ∧ m' ((c.tc : Thread Cert.ReferenceSqDwIdeal.nD Cert.ReferenceSqDwIdeal.τ).loc Cert.ReferenceSqDwIdeal.main_arg1) = m ((c.tc : Thread Cert.KernelSqDwIdeal.nD Cert.KernelSqDwIdeal.τ).loc Cert.KernelSqDwIdeal.main_arg1)
      ∧ m' ((c.tc : Thread Cert.ReferenceSqDwIdeal.nD Cert.ReferenceSqDwIdeal.τ).loc Cert.ReferenceSqDwIdeal.main_arg2) = m ((c.tc : Thread Cert.KernelSqDwIdeal.nD Cert.KernelSqDwIdeal.τ).loc Cert.KernelSqDwIdeal.main_arg2)) →
    ∃ (v0 : (c : Dev Cert.KernelSqDwIdeal.nD) → Buf (Elt Ideal) ((c.tc : Thread Cert.KernelSqDwIdeal.nD Cert.KernelSqDwIdeal.τ).loc Cert.KernelSqDwIdeal.main_v4)),
      θ_run (Cert.KernelSqDwIdeal.defs (F := Ideal)) (onTc (τ := Cert.KernelSqDwIdeal.τ) (Cert.KernelSqDwIdeal.main (F := Ideal))) ⟨m, fun _ => 0, g⟩ (fun r => ∀ c : Dev Cert.KernelSqDwIdeal.nD,
          r.2.mem ((c.tc : Thread Cert.KernelSqDwIdeal.nD Cert.KernelSqDwIdeal.τ).loc Cert.KernelSqDwIdeal.main_v4) = v0 c
          ∧ r.2.mem ((c.tc : Thread Cert.KernelSqDwIdeal.nD Cert.KernelSqDwIdeal.τ).loc Cert.KernelSqDwIdeal.main_arg0) = m ((c.tc : Thread Cert.KernelSqDwIdeal.nD Cert.KernelSqDwIdeal.τ).loc Cert.KernelSqDwIdeal.main_arg0)
          ∧ r.2.mem ((c.tc : Thread Cert.KernelSqDwIdeal.nD Cert.KernelSqDwIdeal.τ).loc Cert.KernelSqDwIdeal.main_arg1) = m ((c.tc : Thread Cert.KernelSqDwIdeal.nD Cert.KernelSqDwIdeal.τ).loc Cert.KernelSqDwIdeal.main_arg1)
          ∧ r.2.mem ((c.tc : Thread Cert.KernelSqDwIdeal.nD Cert.KernelSqDwIdeal.τ).loc Cert.KernelSqDwIdeal.main_arg2) = m ((c.tc : Thread Cert.KernelSqDwIdeal.nD Cert.KernelSqDwIdeal.τ).loc Cert.KernelSqDwIdeal.main_arg2))
      ∧ θ_run (Cert.ReferenceSqDwIdeal.defs (F := Ideal)) (onTc (τ := Cert.ReferenceSqDwIdeal.τ) (Cert.ReferenceSqDwIdeal.main (F := Ideal))) ⟨m', fun _ => 0, g'⟩ (fun r => ∀ c : Dev Cert.ReferenceSqDwIdeal.nD,
          r.2.mem ((c.tc : Thread Cert.ReferenceSqDwIdeal.nD Cert.ReferenceSqDwIdeal.τ).loc Cert.ReferenceSqDwIdeal.main_v5) = v0 c
          ∧ r.2.mem ((c.tc : Thread Cert.ReferenceSqDwIdeal.nD Cert.ReferenceSqDwIdeal.τ).loc Cert.ReferenceSqDwIdeal.main_arg0) = m' ((c.tc : Thread Cert.ReferenceSqDwIdeal.nD Cert.ReferenceSqDwIdeal.τ).loc Cert.ReferenceSqDwIdeal.main_arg0)
          ∧ r.2.mem ((c.tc : Thread Cert.ReferenceSqDwIdeal.nD Cert.ReferenceSqDwIdeal.τ).loc Cert.ReferenceSqDwIdeal.main_arg1) = m' ((c.tc : Thread Cert.ReferenceSqDwIdeal.nD Cert.ReferenceSqDwIdeal.τ).loc Cert.ReferenceSqDwIdeal.main_arg1)
          ∧ r.2.mem ((c.tc : Thread Cert.ReferenceSqDwIdeal.nD Cert.ReferenceSqDwIdeal.τ).loc Cert.ReferenceSqDwIdeal.main_arg2) = m' ((c.tc : Thread Cert.ReferenceSqDwIdeal.nD Cert.ReferenceSqDwIdeal.τ).loc Cert.ReferenceSqDwIdeal.main_arg2))

def preserves_KernelMemDw_KernelMemDwIdeal : Prop :=
  True

def algebraic_KernelMemDwIdeal_ReferenceMemDwIdeal [hKernelMemDwIdeal : Cert.KernelMemDwIdeal.Facts] [hReferenceMemDwIdeal : Cert.ReferenceMemDwIdeal.Facts] : Prop :=
  ∀ (m : (ℓ : Loc Cert.KernelMemDwIdeal.nD Cert.KernelMemDwIdeal.τ Cert.KernelMemDwIdeal.sig) → Buf (Elt Ideal) ℓ) (g : Dev Cert.KernelMemDwIdeal.nD → PrngReg)
    (m' : (ℓ : Loc Cert.ReferenceMemDwIdeal.nD Cert.ReferenceMemDwIdeal.τ Cert.ReferenceMemDwIdeal.sig) → Buf (Elt Ideal) ℓ) (g' : Dev Cert.ReferenceMemDwIdeal.nD → PrngReg), Pre_KernelMemDwIdeal m →
    (∀ c : Dev Cert.KernelMemDwIdeal.nD,
      m' ((c.tc : Thread Cert.ReferenceMemDwIdeal.nD Cert.ReferenceMemDwIdeal.τ).loc Cert.ReferenceMemDwIdeal.main_arg0) = m ((c.tc : Thread Cert.KernelMemDwIdeal.nD Cert.KernelMemDwIdeal.τ).loc Cert.KernelMemDwIdeal.main_arg0)
      ∧ m' ((c.tc : Thread Cert.ReferenceMemDwIdeal.nD Cert.ReferenceMemDwIdeal.τ).loc Cert.ReferenceMemDwIdeal.main_arg1) = m ((c.tc : Thread Cert.KernelMemDwIdeal.nD Cert.KernelMemDwIdeal.τ).loc Cert.KernelMemDwIdeal.main_arg1)
      ∧ m' ((c.tc : Thread Cert.ReferenceMemDwIdeal.nD Cert.ReferenceMemDwIdeal.τ).loc Cert.ReferenceMemDwIdeal.main_arg2) = m ((c.tc : Thread Cert.KernelMemDwIdeal.nD Cert.KernelMemDwIdeal.τ).loc Cert.KernelMemDwIdeal.main_arg2)) →
    ∃ (v0 : (c : Dev Cert.KernelMemDwIdeal.nD) → Buf (Elt Ideal) ((c.tc : Thread Cert.KernelMemDwIdeal.nD Cert.KernelMemDwIdeal.τ).loc Cert.KernelMemDwIdeal.main_v7)),
      θ_run (Cert.KernelMemDwIdeal.defs (F := Ideal)) (onTc (τ := Cert.KernelMemDwIdeal.τ) (Cert.KernelMemDwIdeal.main (F := Ideal))) ⟨m, fun _ => 0, g⟩ (fun r => ∀ c : Dev Cert.KernelMemDwIdeal.nD,
          r.2.mem ((c.tc : Thread Cert.KernelMemDwIdeal.nD Cert.KernelMemDwIdeal.τ).loc Cert.KernelMemDwIdeal.main_v7) = v0 c
          ∧ r.2.mem ((c.tc : Thread Cert.KernelMemDwIdeal.nD Cert.KernelMemDwIdeal.τ).loc Cert.KernelMemDwIdeal.main_arg0) = m ((c.tc : Thread Cert.KernelMemDwIdeal.nD Cert.KernelMemDwIdeal.τ).loc Cert.KernelMemDwIdeal.main_arg0)
          ∧ r.2.mem ((c.tc : Thread Cert.KernelMemDwIdeal.nD Cert.KernelMemDwIdeal.τ).loc Cert.KernelMemDwIdeal.main_arg1) = m ((c.tc : Thread Cert.KernelMemDwIdeal.nD Cert.KernelMemDwIdeal.τ).loc Cert.KernelMemDwIdeal.main_arg1)
          ∧ r.2.mem ((c.tc : Thread Cert.KernelMemDwIdeal.nD Cert.KernelMemDwIdeal.τ).loc Cert.KernelMemDwIdeal.main_arg2) = m ((c.tc : Thread Cert.KernelMemDwIdeal.nD Cert.KernelMemDwIdeal.τ).loc Cert.KernelMemDwIdeal.main_arg2))
      ∧ θ_run (Cert.ReferenceMemDwIdeal.defs (F := Ideal)) (onTc (τ := Cert.ReferenceMemDwIdeal.τ) (Cert.ReferenceMemDwIdeal.main (F := Ideal))) ⟨m', fun _ => 0, g'⟩ (fun r => ∀ c : Dev Cert.ReferenceMemDwIdeal.nD,
          r.2.mem ((c.tc : Thread Cert.ReferenceMemDwIdeal.nD Cert.ReferenceMemDwIdeal.τ).loc Cert.ReferenceMemDwIdeal.main_v13) = v0 c
          ∧ r.2.mem ((c.tc : Thread Cert.ReferenceMemDwIdeal.nD Cert.ReferenceMemDwIdeal.τ).loc Cert.ReferenceMemDwIdeal.main_arg0) = m' ((c.tc : Thread Cert.ReferenceMemDwIdeal.nD Cert.ReferenceMemDwIdeal.τ).loc Cert.ReferenceMemDwIdeal.main_arg0)
          ∧ r.2.mem ((c.tc : Thread Cert.ReferenceMemDwIdeal.nD Cert.ReferenceMemDwIdeal.τ).loc Cert.ReferenceMemDwIdeal.main_arg1) = m' ((c.tc : Thread Cert.ReferenceMemDwIdeal.nD Cert.ReferenceMemDwIdeal.τ).loc Cert.ReferenceMemDwIdeal.main_arg1)
          ∧ r.2.mem ((c.tc : Thread Cert.ReferenceMemDwIdeal.nD Cert.ReferenceMemDwIdeal.τ).loc Cert.ReferenceMemDwIdeal.main_arg2) = m' ((c.tc : Thread Cert.ReferenceMemDwIdeal.nD Cert.ReferenceMemDwIdeal.τ).loc Cert.ReferenceMemDwIdeal.main_arg2))

def preserves_KernelMemDx_KernelMemDxIdeal : Prop :=
  True

def algebraic_KernelMemDxIdeal_ReferenceMemDxIdeal [hKernelMemDxIdeal : Cert.KernelMemDxIdeal.Facts] [hReferenceMemDxIdeal : Cert.ReferenceMemDxIdeal.Facts] : Prop :=
  ∀ (m : (ℓ : Loc Cert.KernelMemDxIdeal.nD Cert.KernelMemDxIdeal.τ Cert.KernelMemDxIdeal.sig) → Buf (Elt Ideal) ℓ) (g : Dev Cert.KernelMemDxIdeal.nD → PrngReg)
    (m' : (ℓ : Loc Cert.ReferenceMemDxIdeal.nD Cert.ReferenceMemDxIdeal.τ Cert.ReferenceMemDxIdeal.sig) → Buf (Elt Ideal) ℓ) (g' : Dev Cert.ReferenceMemDxIdeal.nD → PrngReg), Pre_KernelMemDxIdeal m →
    (∀ c : Dev Cert.KernelMemDxIdeal.nD,
      m' ((c.tc : Thread Cert.ReferenceMemDxIdeal.nD Cert.ReferenceMemDxIdeal.τ).loc Cert.ReferenceMemDxIdeal.main_arg0) = m ((c.tc : Thread Cert.KernelMemDxIdeal.nD Cert.KernelMemDxIdeal.τ).loc Cert.KernelMemDxIdeal.main_arg0)
      ∧ m' ((c.tc : Thread Cert.ReferenceMemDxIdeal.nD Cert.ReferenceMemDxIdeal.τ).loc Cert.ReferenceMemDxIdeal.main_arg1) = m ((c.tc : Thread Cert.KernelMemDxIdeal.nD Cert.KernelMemDxIdeal.τ).loc Cert.KernelMemDxIdeal.main_arg1)
      ∧ m' ((c.tc : Thread Cert.ReferenceMemDxIdeal.nD Cert.ReferenceMemDxIdeal.τ).loc Cert.ReferenceMemDxIdeal.main_arg2) = m ((c.tc : Thread Cert.KernelMemDxIdeal.nD Cert.KernelMemDxIdeal.τ).loc Cert.KernelMemDxIdeal.main_arg2)) →
    ∃ (v0 : (c : Dev Cert.KernelMemDxIdeal.nD) → Buf (Elt Ideal) ((c.tc : Thread Cert.KernelMemDxIdeal.nD Cert.KernelMemDxIdeal.τ).loc Cert.KernelMemDxIdeal.main_v15)),
      θ_run (Cert.KernelMemDxIdeal.defs (F := Ideal)) (onTc (τ := Cert.KernelMemDxIdeal.τ) (Cert.KernelMemDxIdeal.main (F := Ideal))) ⟨m, fun _ => 0, g⟩ (fun r => ∀ c : Dev Cert.KernelMemDxIdeal.nD,
          r.2.mem ((c.tc : Thread Cert.KernelMemDxIdeal.nD Cert.KernelMemDxIdeal.τ).loc Cert.KernelMemDxIdeal.main_v15) = v0 c
          ∧ r.2.mem ((c.tc : Thread Cert.KernelMemDxIdeal.nD Cert.KernelMemDxIdeal.τ).loc Cert.KernelMemDxIdeal.main_arg0) = m ((c.tc : Thread Cert.KernelMemDxIdeal.nD Cert.KernelMemDxIdeal.τ).loc Cert.KernelMemDxIdeal.main_arg0)
          ∧ r.2.mem ((c.tc : Thread Cert.KernelMemDxIdeal.nD Cert.KernelMemDxIdeal.τ).loc Cert.KernelMemDxIdeal.main_arg1) = m ((c.tc : Thread Cert.KernelMemDxIdeal.nD Cert.KernelMemDxIdeal.τ).loc Cert.KernelMemDxIdeal.main_arg1)
          ∧ r.2.mem ((c.tc : Thread Cert.KernelMemDxIdeal.nD Cert.KernelMemDxIdeal.τ).loc Cert.KernelMemDxIdeal.main_arg2) = m ((c.tc : Thread Cert.KernelMemDxIdeal.nD Cert.KernelMemDxIdeal.τ).loc Cert.KernelMemDxIdeal.main_arg2))
      ∧ θ_run (Cert.ReferenceMemDxIdeal.defs (F := Ideal)) (onTc (τ := Cert.ReferenceMemDxIdeal.τ) (Cert.ReferenceMemDxIdeal.main (F := Ideal))) ⟨m', fun _ => 0, g'⟩ (fun r => ∀ c : Dev Cert.ReferenceMemDxIdeal.nD,
          r.2.mem ((c.tc : Thread Cert.ReferenceMemDxIdeal.nD Cert.ReferenceMemDxIdeal.τ).loc Cert.ReferenceMemDxIdeal.main_v4) = v0 c
          ∧ r.2.mem ((c.tc : Thread Cert.ReferenceMemDxIdeal.nD Cert.ReferenceMemDxIdeal.τ).loc Cert.ReferenceMemDxIdeal.main_arg0) = m' ((c.tc : Thread Cert.ReferenceMemDxIdeal.nD Cert.ReferenceMemDxIdeal.τ).loc Cert.ReferenceMemDxIdeal.main_arg0)
          ∧ r.2.mem ((c.tc : Thread Cert.ReferenceMemDxIdeal.nD Cert.ReferenceMemDxIdeal.τ).loc Cert.ReferenceMemDxIdeal.main_arg1) = m' ((c.tc : Thread Cert.ReferenceMemDxIdeal.nD Cert.ReferenceMemDxIdeal.τ).loc Cert.ReferenceMemDxIdeal.main_arg1)
          ∧ r.2.mem ((c.tc : Thread Cert.ReferenceMemDxIdeal.nD Cert.ReferenceMemDxIdeal.τ).loc Cert.ReferenceMemDxIdeal.main_arg2) = m' ((c.tc : Thread Cert.ReferenceMemDxIdeal.nD Cert.ReferenceMemDxIdeal.τ).loc Cert.ReferenceMemDxIdeal.main_arg2))

def preserves_KernelMixDw_KernelMixDwIdeal : Prop :=
  True

def algebraic_KernelMixDwIdeal_ReferenceMixDwIdeal [hKernelMixDwIdeal : Cert.KernelMixDwIdeal.Facts] [hReferenceMixDwIdeal : Cert.ReferenceMixDwIdeal.Facts] : Prop :=
  ∀ (m : (ℓ : Loc Cert.KernelMixDwIdeal.nD Cert.KernelMixDwIdeal.τ Cert.KernelMixDwIdeal.sig) → Buf (Elt Ideal) ℓ) (g : Dev Cert.KernelMixDwIdeal.nD → PrngReg)
    (m' : (ℓ : Loc Cert.ReferenceMixDwIdeal.nD Cert.ReferenceMixDwIdeal.τ Cert.ReferenceMixDwIdeal.sig) → Buf (Elt Ideal) ℓ) (g' : Dev Cert.ReferenceMixDwIdeal.nD → PrngReg), Pre_KernelMixDwIdeal m →
    (∀ c : Dev Cert.KernelMixDwIdeal.nD,
      m' ((c.tc : Thread Cert.ReferenceMixDwIdeal.nD Cert.ReferenceMixDwIdeal.τ).loc Cert.ReferenceMixDwIdeal.main_arg0) = m ((c.tc : Thread Cert.KernelMixDwIdeal.nD Cert.KernelMixDwIdeal.τ).loc Cert.KernelMixDwIdeal.main_arg0)
      ∧ m' ((c.tc : Thread Cert.ReferenceMixDwIdeal.nD Cert.ReferenceMixDwIdeal.τ).loc Cert.ReferenceMixDwIdeal.main_arg1) = m ((c.tc : Thread Cert.KernelMixDwIdeal.nD Cert.KernelMixDwIdeal.τ).loc Cert.KernelMixDwIdeal.main_arg1)
      ∧ m' ((c.tc : Thread Cert.ReferenceMixDwIdeal.nD Cert.ReferenceMixDwIdeal.τ).loc Cert.ReferenceMixDwIdeal.main_arg2) = m ((c.tc : Thread Cert.KernelMixDwIdeal.nD Cert.KernelMixDwIdeal.τ).loc Cert.KernelMixDwIdeal.main_arg2)) →
    ∃ (v0 : (c : Dev Cert.KernelMixDwIdeal.nD) → Buf (Elt Ideal) ((c.tc : Thread Cert.KernelMixDwIdeal.nD Cert.KernelMixDwIdeal.τ).loc Cert.KernelMixDwIdeal.main_v4)),
      θ_run (Cert.KernelMixDwIdeal.defs (F := Ideal)) (onTc (τ := Cert.KernelMixDwIdeal.τ) (Cert.KernelMixDwIdeal.main (F := Ideal))) ⟨m, fun _ => 0, g⟩ (fun r => ∀ c : Dev Cert.KernelMixDwIdeal.nD,
          r.2.mem ((c.tc : Thread Cert.KernelMixDwIdeal.nD Cert.KernelMixDwIdeal.τ).loc Cert.KernelMixDwIdeal.main_v4) = v0 c
          ∧ r.2.mem ((c.tc : Thread Cert.KernelMixDwIdeal.nD Cert.KernelMixDwIdeal.τ).loc Cert.KernelMixDwIdeal.main_arg0) = m ((c.tc : Thread Cert.KernelMixDwIdeal.nD Cert.KernelMixDwIdeal.τ).loc Cert.KernelMixDwIdeal.main_arg0)
          ∧ r.2.mem ((c.tc : Thread Cert.KernelMixDwIdeal.nD Cert.KernelMixDwIdeal.τ).loc Cert.KernelMixDwIdeal.main_arg1) = m ((c.tc : Thread Cert.KernelMixDwIdeal.nD Cert.KernelMixDwIdeal.τ).loc Cert.KernelMixDwIdeal.main_arg1)
          ∧ r.2.mem ((c.tc : Thread Cert.KernelMixDwIdeal.nD Cert.KernelMixDwIdeal.τ).loc Cert.KernelMixDwIdeal.main_arg2) = m ((c.tc : Thread Cert.KernelMixDwIdeal.nD Cert.KernelMixDwIdeal.τ).loc Cert.KernelMixDwIdeal.main_arg2))
      ∧ θ_run (Cert.ReferenceMixDwIdeal.defs (F := Ideal)) (onTc (τ := Cert.ReferenceMixDwIdeal.τ) (Cert.ReferenceMixDwIdeal.main (F := Ideal))) ⟨m', fun _ => 0, g'⟩ (fun r => ∀ c : Dev Cert.ReferenceMixDwIdeal.nD,
          r.2.mem ((c.tc : Thread Cert.ReferenceMixDwIdeal.nD Cert.ReferenceMixDwIdeal.τ).loc Cert.ReferenceMixDwIdeal.main_v13) = v0 c
          ∧ r.2.mem ((c.tc : Thread Cert.ReferenceMixDwIdeal.nD Cert.ReferenceMixDwIdeal.τ).loc Cert.ReferenceMixDwIdeal.main_arg0) = m' ((c.tc : Thread Cert.ReferenceMixDwIdeal.nD Cert.ReferenceMixDwIdeal.τ).loc Cert.ReferenceMixDwIdeal.main_arg0)
          ∧ r.2.mem ((c.tc : Thread Cert.ReferenceMixDwIdeal.nD Cert.ReferenceMixDwIdeal.τ).loc Cert.ReferenceMixDwIdeal.main_arg1) = m' ((c.tc : Thread Cert.ReferenceMixDwIdeal.nD Cert.ReferenceMixDwIdeal.τ).loc Cert.ReferenceMixDwIdeal.main_arg1)
          ∧ r.2.mem ((c.tc : Thread Cert.ReferenceMixDwIdeal.nD Cert.ReferenceMixDwIdeal.τ).loc Cert.ReferenceMixDwIdeal.main_arg2) = m' ((c.tc : Thread Cert.ReferenceMixDwIdeal.nD Cert.ReferenceMixDwIdeal.τ).loc Cert.ReferenceMixDwIdeal.main_arg2))

def preserves_KernelMixDx_KernelMixDxIdeal : Prop :=
  True

def algebraic_KernelMixDxIdeal_ReferenceMixDxIdeal [hKernelMixDxIdeal : Cert.KernelMixDxIdeal.Facts] [hReferenceMixDxIdeal : Cert.ReferenceMixDxIdeal.Facts] : Prop :=
  ∀ (m : (ℓ : Loc Cert.KernelMixDxIdeal.nD Cert.KernelMixDxIdeal.τ Cert.KernelMixDxIdeal.sig) → Buf (Elt Ideal) ℓ) (g : Dev Cert.KernelMixDxIdeal.nD → PrngReg)
    (m' : (ℓ : Loc Cert.ReferenceMixDxIdeal.nD Cert.ReferenceMixDxIdeal.τ Cert.ReferenceMixDxIdeal.sig) → Buf (Elt Ideal) ℓ) (g' : Dev Cert.ReferenceMixDxIdeal.nD → PrngReg), Pre_KernelMixDxIdeal m →
    (∀ c : Dev Cert.KernelMixDxIdeal.nD,
      m' ((c.tc : Thread Cert.ReferenceMixDxIdeal.nD Cert.ReferenceMixDxIdeal.τ).loc Cert.ReferenceMixDxIdeal.main_arg0) = m ((c.tc : Thread Cert.KernelMixDxIdeal.nD Cert.KernelMixDxIdeal.τ).loc Cert.KernelMixDxIdeal.main_arg0)
      ∧ m' ((c.tc : Thread Cert.ReferenceMixDxIdeal.nD Cert.ReferenceMixDxIdeal.τ).loc Cert.ReferenceMixDxIdeal.main_arg1) = m ((c.tc : Thread Cert.KernelMixDxIdeal.nD Cert.KernelMixDxIdeal.τ).loc Cert.KernelMixDxIdeal.main_arg1)
      ∧ m' ((c.tc : Thread Cert.ReferenceMixDxIdeal.nD Cert.ReferenceMixDxIdeal.τ).loc Cert.ReferenceMixDxIdeal.main_arg2) = m ((c.tc : Thread Cert.KernelMixDxIdeal.nD Cert.KernelMixDxIdeal.τ).loc Cert.KernelMixDxIdeal.main_arg2)) →
    ∃ (v0 : (c : Dev Cert.KernelMixDxIdeal.nD) → Buf (Elt Ideal) ((c.tc : Thread Cert.KernelMixDxIdeal.nD Cert.KernelMixDxIdeal.τ).loc Cert.KernelMixDxIdeal.main_v12)),
      θ_run (Cert.KernelMixDxIdeal.defs (F := Ideal)) (onTc (τ := Cert.KernelMixDxIdeal.τ) (Cert.KernelMixDxIdeal.main (F := Ideal))) ⟨m, fun _ => 0, g⟩ (fun r => ∀ c : Dev Cert.KernelMixDxIdeal.nD,
          r.2.mem ((c.tc : Thread Cert.KernelMixDxIdeal.nD Cert.KernelMixDxIdeal.τ).loc Cert.KernelMixDxIdeal.main_v12) = v0 c
          ∧ r.2.mem ((c.tc : Thread Cert.KernelMixDxIdeal.nD Cert.KernelMixDxIdeal.τ).loc Cert.KernelMixDxIdeal.main_arg0) = m ((c.tc : Thread Cert.KernelMixDxIdeal.nD Cert.KernelMixDxIdeal.τ).loc Cert.KernelMixDxIdeal.main_arg0)
          ∧ r.2.mem ((c.tc : Thread Cert.KernelMixDxIdeal.nD Cert.KernelMixDxIdeal.τ).loc Cert.KernelMixDxIdeal.main_arg1) = m ((c.tc : Thread Cert.KernelMixDxIdeal.nD Cert.KernelMixDxIdeal.τ).loc Cert.KernelMixDxIdeal.main_arg1)
          ∧ r.2.mem ((c.tc : Thread Cert.KernelMixDxIdeal.nD Cert.KernelMixDxIdeal.τ).loc Cert.KernelMixDxIdeal.main_arg2) = m ((c.tc : Thread Cert.KernelMixDxIdeal.nD Cert.KernelMixDxIdeal.τ).loc Cert.KernelMixDxIdeal.main_arg2))
      ∧ θ_run (Cert.ReferenceMixDxIdeal.defs (F := Ideal)) (onTc (τ := Cert.ReferenceMixDxIdeal.τ) (Cert.ReferenceMixDxIdeal.main (F := Ideal))) ⟨m', fun _ => 0, g'⟩ (fun r => ∀ c : Dev Cert.ReferenceMixDxIdeal.nD,
          r.2.mem ((c.tc : Thread Cert.ReferenceMixDxIdeal.nD Cert.ReferenceMixDxIdeal.τ).loc Cert.ReferenceMixDxIdeal.main_v4) = v0 c
          ∧ r.2.mem ((c.tc : Thread Cert.ReferenceMixDxIdeal.nD Cert.ReferenceMixDxIdeal.τ).loc Cert.ReferenceMixDxIdeal.main_arg0) = m' ((c.tc : Thread Cert.ReferenceMixDxIdeal.nD Cert.ReferenceMixDxIdeal.τ).loc Cert.ReferenceMixDxIdeal.main_arg0)
          ∧ r.2.mem ((c.tc : Thread Cert.ReferenceMixDxIdeal.nD Cert.ReferenceMixDxIdeal.τ).loc Cert.ReferenceMixDxIdeal.main_arg1) = m' ((c.tc : Thread Cert.ReferenceMixDxIdeal.nD Cert.ReferenceMixDxIdeal.τ).loc Cert.ReferenceMixDxIdeal.main_arg1)
          ∧ r.2.mem ((c.tc : Thread Cert.ReferenceMixDxIdeal.nD Cert.ReferenceMixDxIdeal.τ).loc Cert.ReferenceMixDxIdeal.main_arg2) = m' ((c.tc : Thread Cert.ReferenceMixDxIdeal.nD Cert.ReferenceMixDxIdeal.τ).loc Cert.ReferenceMixDxIdeal.main_arg2))

def preserves_KernelFfnOut_KernelFfnOutIdeal : Prop :=
  True

def algebraic_KernelFfnOutIdeal_ReferenceFfnOutIdeal [hKernelFfnOutIdeal : Cert.KernelFfnOutIdeal.Facts] [hReferenceFfnOutIdeal : Cert.ReferenceFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg)
    (m' : (ℓ : Loc Cert.ReferenceFfnOutIdeal.nD Cert.ReferenceFfnOutIdeal.τ Cert.ReferenceFfnOutIdeal.sig) → Buf (Elt Ideal) ℓ) (g' : Dev Cert.ReferenceFfnOutIdeal.nD → PrngReg), Pre_KernelFfnOutIdeal m →
    (∀ c : Dev Cert.KernelFfnOutIdeal.nD,
      m' ((c.tc : Thread Cert.ReferenceFfnOutIdeal.nD Cert.ReferenceFfnOutIdeal.τ).loc Cert.ReferenceFfnOutIdeal.main_arg0) = m ((c.tc : Thread Cert.KernelFfnOutIdeal.nD Cert.KernelFfnOutIdeal.τ).loc Cert.KernelFfnOutIdeal.main_arg0)
      ∧ m' ((c.tc : Thread Cert.ReferenceFfnOutIdeal.nD Cert.ReferenceFfnOutIdeal.τ).loc Cert.ReferenceFfnOutIdeal.main_arg1) = m ((c.tc : Thread Cert.KernelFfnOutIdeal.nD Cert.KernelFfnOutIdeal.τ).loc Cert.KernelFfnOutIdeal.main_arg1)
      ∧ m' ((c.tc : Thread Cert.ReferenceFfnOutIdeal.nD Cert.ReferenceFfnOutIdeal.τ).loc Cert.ReferenceFfnOutIdeal.main_arg2) = m ((c.tc : Thread Cert.KernelFfnOutIdeal.nD Cert.KernelFfnOutIdeal.τ).loc Cert.KernelFfnOutIdeal.main_arg2)) →
    ∃ (v0 : (c : Dev Cert.KernelFfnOutIdeal.nD) → Buf (Elt Ideal) ((c.tc : Thread Cert.KernelFfnOutIdeal.nD Cert.KernelFfnOutIdeal.τ).loc Cert.KernelFfnOutIdeal.main_v9)),
      θ_run (Cert.KernelFfnOutIdeal.defs (F := Ideal)) (onTc (τ := Cert.KernelFfnOutIdeal.τ) (Cert.KernelFfnOutIdeal.main (F := Ideal))) ⟨m, fun _ => 0, g⟩ (fun r => ∀ c : Dev Cert.KernelFfnOutIdeal.nD,
          r.2.mem ((c.tc : Thread Cert.KernelFfnOutIdeal.nD Cert.KernelFfnOutIdeal.τ).loc Cert.KernelFfnOutIdeal.main_v9) = v0 c
          ∧ r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
          ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
          ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2))
      ∧ θ_run (Cert.ReferenceFfnOutIdeal.defs (F := Ideal)) (onTc (τ := Cert.ReferenceFfnOutIdeal.τ) (Cert.ReferenceFfnOutIdeal.main (F := Ideal))) ⟨m', fun _ => 0, g'⟩ (fun r => ∀ c : Dev Cert.ReferenceFfnOutIdeal.nD,
          r.2.mem ((c.tc : Thread Cert.ReferenceFfnOutIdeal.nD Cert.ReferenceFfnOutIdeal.τ).loc Cert.ReferenceFfnOutIdeal.main_v8) = v0 c
          ∧ r.2.mem ((c.tc : Thread Cert.ReferenceFfnOutIdeal.nD Cert.ReferenceFfnOutIdeal.τ).loc Cert.ReferenceFfnOutIdeal.main_arg0) = m' ((c.tc : Thread Cert.ReferenceFfnOutIdeal.nD Cert.ReferenceFfnOutIdeal.τ).loc Cert.ReferenceFfnOutIdeal.main_arg0)
          ∧ r.2.mem ((c.tc : Thread Cert.ReferenceFfnOutIdeal.nD Cert.ReferenceFfnOutIdeal.τ).loc Cert.ReferenceFfnOutIdeal.main_arg1) = m' ((c.tc : Thread Cert.ReferenceFfnOutIdeal.nD Cert.ReferenceFfnOutIdeal.τ).loc Cert.ReferenceFfnOutIdeal.main_arg1)
          ∧ r.2.mem ((c.tc : Thread Cert.ReferenceFfnOutIdeal.nD Cert.ReferenceFfnOutIdeal.τ).loc Cert.ReferenceFfnOutIdeal.main_arg2) = m' ((c.tc : Thread Cert.ReferenceFfnOutIdeal.nD Cert.ReferenceFfnOutIdeal.τ).loc Cert.ReferenceFfnOutIdeal.main_arg2))

def preserves_KernelMixIn_KernelMixInIdeal : Prop :=
  True

def algebraic_KernelMixInIdeal_ReferenceMixInIdeal [hKernelMixInIdeal : Cert.KernelMixInIdeal.Facts] [hReferenceMixInIdeal : Cert.ReferenceMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg)
    (m' : (ℓ : Loc Cert.ReferenceMixInIdeal.nD Cert.ReferenceMixInIdeal.τ Cert.ReferenceMixInIdeal.sig) → Buf (Elt Ideal) ℓ) (g' : Dev Cert.ReferenceMixInIdeal.nD → PrngReg), Pre_KernelMixInIdeal m →
    (∀ c : Dev Cert.KernelMixInIdeal.nD,
      m' ((c.tc : Thread Cert.ReferenceMixInIdeal.nD Cert.ReferenceMixInIdeal.τ).loc Cert.ReferenceMixInIdeal.main_arg0) = m ((c.tc : Thread Cert.KernelMixInIdeal.nD Cert.KernelMixInIdeal.τ).loc Cert.KernelMixInIdeal.main_arg0)
      ∧ m' ((c.tc : Thread Cert.ReferenceMixInIdeal.nD Cert.ReferenceMixInIdeal.τ).loc Cert.ReferenceMixInIdeal.main_arg1) = m ((c.tc : Thread Cert.KernelMixInIdeal.nD Cert.KernelMixInIdeal.τ).loc Cert.KernelMixInIdeal.main_arg1)) →
    ∃ (v0 : (c : Dev Cert.KernelMixInIdeal.nD) → Buf (Elt Ideal) ((c.tc : Thread Cert.KernelMixInIdeal.nD Cert.KernelMixInIdeal.τ).loc Cert.KernelMixInIdeal.main_v12)),
      θ_run (Cert.KernelMixInIdeal.defs (F := Ideal)) (onTc (τ := Cert.KernelMixInIdeal.τ) (Cert.KernelMixInIdeal.main (F := Ideal))) ⟨m, fun _ => 0, g⟩ (fun r => ∀ c : Dev Cert.KernelMixInIdeal.nD,
          r.2.mem ((c.tc : Thread Cert.KernelMixInIdeal.nD Cert.KernelMixInIdeal.τ).loc Cert.KernelMixInIdeal.main_v12) = v0 c
          ∧ r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
          ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1))
      ∧ θ_run (Cert.ReferenceMixInIdeal.defs (F := Ideal)) (onTc (τ := Cert.ReferenceMixInIdeal.τ) (Cert.ReferenceMixInIdeal.main (F := Ideal))) ⟨m', fun _ => 0, g'⟩ (fun r => ∀ c : Dev Cert.ReferenceMixInIdeal.nD,
          r.2.mem ((c.tc : Thread Cert.ReferenceMixInIdeal.nD Cert.ReferenceMixInIdeal.τ).loc Cert.ReferenceMixInIdeal.main_v1) = v0 c
          ∧ r.2.mem ((c.tc : Thread Cert.ReferenceMixInIdeal.nD Cert.ReferenceMixInIdeal.τ).loc Cert.ReferenceMixInIdeal.main_arg0) = m' ((c.tc : Thread Cert.ReferenceMixInIdeal.nD Cert.ReferenceMixInIdeal.τ).loc Cert.ReferenceMixInIdeal.main_arg0)
          ∧ r.2.mem ((c.tc : Thread Cert.ReferenceMixInIdeal.nD Cert.ReferenceMixInIdeal.τ).loc Cert.ReferenceMixInIdeal.main_arg1) = m' ((c.tc : Thread Cert.ReferenceMixInIdeal.nD Cert.ReferenceMixInIdeal.τ).loc Cert.ReferenceMixInIdeal.main_arg1))

def preserves_KernelSqOut_KernelSqOutIdeal : Prop :=
  True

def algebraic_KernelSqOutIdeal_ReferenceSqOutIdeal [hKernelSqOutIdeal : Cert.KernelSqOutIdeal.Facts] [hReferenceSqOutIdeal : Cert.ReferenceSqOutIdeal.Facts] : Prop :=
  ∀ (m : (ℓ : Loc Cert.KernelSqOutIdeal.nD Cert.KernelSqOutIdeal.τ Cert.KernelSqOutIdeal.sig) → Buf (Elt Ideal) ℓ) (g : Dev Cert.KernelSqOutIdeal.nD → PrngReg)
    (m' : (ℓ : Loc Cert.ReferenceSqOutIdeal.nD Cert.ReferenceSqOutIdeal.τ Cert.ReferenceSqOutIdeal.sig) → Buf (Elt Ideal) ℓ) (g' : Dev Cert.ReferenceSqOutIdeal.nD → PrngReg), Pre_KernelSqOutIdeal m →
    (∀ c : Dev Cert.KernelSqOutIdeal.nD,
      m' ((c.tc : Thread Cert.ReferenceSqOutIdeal.nD Cert.ReferenceSqOutIdeal.τ).loc Cert.ReferenceSqOutIdeal.main_arg0) = m ((c.tc : Thread Cert.KernelSqOutIdeal.nD Cert.KernelSqOutIdeal.τ).loc Cert.KernelSqOutIdeal.main_arg0)
      ∧ m' ((c.tc : Thread Cert.ReferenceSqOutIdeal.nD Cert.ReferenceSqOutIdeal.τ).loc Cert.ReferenceSqOutIdeal.main_arg1) = m ((c.tc : Thread Cert.KernelSqOutIdeal.nD Cert.KernelSqOutIdeal.τ).loc Cert.KernelSqOutIdeal.main_arg1)
      ∧ m' ((c.tc : Thread Cert.ReferenceSqOutIdeal.nD Cert.ReferenceSqOutIdeal.τ).loc Cert.ReferenceSqOutIdeal.main_arg2) = m ((c.tc : Thread Cert.KernelSqOutIdeal.nD Cert.KernelSqOutIdeal.τ).loc Cert.KernelSqOutIdeal.main_arg2)) →
    ∃ (v0 : (c : Dev Cert.KernelSqOutIdeal.nD) → Buf (Elt Ideal) ((c.tc : Thread Cert.KernelSqOutIdeal.nD Cert.KernelSqOutIdeal.τ).loc Cert.KernelSqOutIdeal.main_v5)),
      θ_run (Cert.KernelSqOutIdeal.defs (F := Ideal)) (onTc (τ := Cert.KernelSqOutIdeal.τ) (Cert.KernelSqOutIdeal.main (F := Ideal))) ⟨m, fun _ => 0, g⟩ (fun r => ∀ c : Dev Cert.KernelSqOutIdeal.nD,
          r.2.mem ((c.tc : Thread Cert.KernelSqOutIdeal.nD Cert.KernelSqOutIdeal.τ).loc Cert.KernelSqOutIdeal.main_v5) = v0 c
          ∧ r.2.mem ((c.tc : Thread Cert.KernelSqOutIdeal.nD Cert.KernelSqOutIdeal.τ).loc Cert.KernelSqOutIdeal.main_arg0) = m ((c.tc : Thread Cert.KernelSqOutIdeal.nD Cert.KernelSqOutIdeal.τ).loc Cert.KernelSqOutIdeal.main_arg0)
          ∧ r.2.mem ((c.tc : Thread Cert.KernelSqOutIdeal.nD Cert.KernelSqOutIdeal.τ).loc Cert.KernelSqOutIdeal.main_arg1) = m ((c.tc : Thread Cert.KernelSqOutIdeal.nD Cert.KernelSqOutIdeal.τ).loc Cert.KernelSqOutIdeal.main_arg1)
          ∧ r.2.mem ((c.tc : Thread Cert.KernelSqOutIdeal.nD Cert.KernelSqOutIdeal.τ).loc Cert.KernelSqOutIdeal.main_arg2) = m ((c.tc : Thread Cert.KernelSqOutIdeal.nD Cert.KernelSqOutIdeal.τ).loc Cert.KernelSqOutIdeal.main_arg2))
      ∧ θ_run (Cert.ReferenceSqOutIdeal.defs (F := Ideal)) (onTc (τ := Cert.ReferenceSqOutIdeal.τ) (Cert.ReferenceSqOutIdeal.main (F := Ideal))) ⟨m', fun _ => 0, g'⟩ (fun r => ∀ c : Dev Cert.ReferenceSqOutIdeal.nD,
          r.2.mem ((c.tc : Thread Cert.ReferenceSqOutIdeal.nD Cert.ReferenceSqOutIdeal.τ).loc Cert.ReferenceSqOutIdeal.main_v2) = v0 c
          ∧ r.2.mem ((c.tc : Thread Cert.ReferenceSqOutIdeal.nD Cert.ReferenceSqOutIdeal.τ).loc Cert.ReferenceSqOutIdeal.main_arg0) = m' ((c.tc : Thread Cert.ReferenceSqOutIdeal.nD Cert.ReferenceSqOutIdeal.τ).loc Cert.ReferenceSqOutIdeal.main_arg0)
          ∧ r.2.mem ((c.tc : Thread Cert.ReferenceSqOutIdeal.nD Cert.ReferenceSqOutIdeal.τ).loc Cert.ReferenceSqOutIdeal.main_arg1) = m' ((c.tc : Thread Cert.ReferenceSqOutIdeal.nD Cert.ReferenceSqOutIdeal.τ).loc Cert.ReferenceSqOutIdeal.main_arg1)
          ∧ r.2.mem ((c.tc : Thread Cert.ReferenceSqOutIdeal.nD Cert.ReferenceSqOutIdeal.τ).loc Cert.ReferenceSqOutIdeal.main_arg2) = m' ((c.tc : Thread Cert.ReferenceSqOutIdeal.nD Cert.ReferenceSqOutIdeal.τ).loc Cert.ReferenceSqOutIdeal.main_arg2))

def preserves_KernelSqQ_KernelSqQIdeal : Prop :=
  True

def algebraic_KernelSqQIdeal_ReferenceSqQIdeal [hKernelSqQIdeal : Cert.KernelSqQIdeal.Facts] [hReferenceSqQIdeal : Cert.ReferenceSqQIdeal.Facts] : Prop :=
  ∀ (m : (ℓ : Loc Cert.KernelSqQIdeal.nD Cert.KernelSqQIdeal.τ Cert.KernelSqQIdeal.sig) → Buf (Elt Ideal) ℓ) (g : Dev Cert.KernelSqQIdeal.nD → PrngReg)
    (m' : (ℓ : Loc Cert.ReferenceSqQIdeal.nD Cert.ReferenceSqQIdeal.τ Cert.ReferenceSqQIdeal.sig) → Buf (Elt Ideal) ℓ) (g' : Dev Cert.ReferenceSqQIdeal.nD → PrngReg), Pre_KernelSqQIdeal m →
    (∀ c : Dev Cert.KernelSqQIdeal.nD,
      m' ((c.tc : Thread Cert.ReferenceSqQIdeal.nD Cert.ReferenceSqQIdeal.τ).loc Cert.ReferenceSqQIdeal.main_arg0) = m ((c.tc : Thread Cert.KernelSqQIdeal.nD Cert.KernelSqQIdeal.τ).loc Cert.KernelSqQIdeal.main_arg0)
      ∧ m' ((c.tc : Thread Cert.ReferenceSqQIdeal.nD Cert.ReferenceSqQIdeal.τ).loc Cert.ReferenceSqQIdeal.main_arg1) = m ((c.tc : Thread Cert.KernelSqQIdeal.nD Cert.KernelSqQIdeal.τ).loc Cert.KernelSqQIdeal.main_arg1)) →
    ∃ (v0 : (c : Dev Cert.KernelSqQIdeal.nD) → Buf (Elt Ideal) ((c.tc : Thread Cert.KernelSqQIdeal.nD Cert.KernelSqQIdeal.τ).loc Cert.KernelSqQIdeal.main_v4)),
      θ_run (Cert.KernelSqQIdeal.defs (F := Ideal)) (onTc (τ := Cert.KernelSqQIdeal.τ) (Cert.KernelSqQIdeal.main (F := Ideal))) ⟨m, fun _ => 0, g⟩ (fun r => ∀ c : Dev Cert.KernelSqQIdeal.nD,
          r.2.mem ((c.tc : Thread Cert.KernelSqQIdeal.nD Cert.KernelSqQIdeal.τ).loc Cert.KernelSqQIdeal.main_v4) = v0 c
          ∧ r.2.mem ((c.tc : Thread Cert.KernelSqQIdeal.nD Cert.KernelSqQIdeal.τ).loc Cert.KernelSqQIdeal.main_arg0) = m ((c.tc : Thread Cert.KernelSqQIdeal.nD Cert.KernelSqQIdeal.τ).loc Cert.KernelSqQIdeal.main_arg0)
          ∧ r.2.mem ((c.tc : Thread Cert.KernelSqQIdeal.nD Cert.KernelSqQIdeal.τ).loc Cert.KernelSqQIdeal.main_arg1) = m ((c.tc : Thread Cert.KernelSqQIdeal.nD Cert.KernelSqQIdeal.τ).loc Cert.KernelSqQIdeal.main_arg1))
      ∧ θ_run (Cert.ReferenceSqQIdeal.defs (F := Ideal)) (onTc (τ := Cert.ReferenceSqQIdeal.τ) (Cert.ReferenceSqQIdeal.main (F := Ideal))) ⟨m', fun _ => 0, g'⟩ (fun r => ∀ c : Dev Cert.ReferenceSqQIdeal.nD,
          r.2.mem ((c.tc : Thread Cert.ReferenceSqQIdeal.nD Cert.ReferenceSqQIdeal.τ).loc Cert.ReferenceSqQIdeal.main_v4) = v0 c
          ∧ r.2.mem ((c.tc : Thread Cert.ReferenceSqQIdeal.nD Cert.ReferenceSqQIdeal.τ).loc Cert.ReferenceSqQIdeal.main_arg0) = m' ((c.tc : Thread Cert.ReferenceSqQIdeal.nD Cert.ReferenceSqQIdeal.τ).loc Cert.ReferenceSqQIdeal.main_arg0)
          ∧ r.2.mem ((c.tc : Thread Cert.ReferenceSqQIdeal.nD Cert.ReferenceSqQIdeal.τ).loc Cert.ReferenceSqQIdeal.main_arg1) = m' ((c.tc : Thread Cert.ReferenceSqQIdeal.nD Cert.ReferenceSqQIdeal.τ).loc Cert.ReferenceSqQIdeal.main_arg1))

def preserves_KernelMemKv_KernelMemKvIdeal : Prop :=
  True

def algebraic_KernelMemKvIdeal_ReferenceMemKvIdeal [hKernelMemKvIdeal : Cert.KernelMemKvIdeal.Facts] [hReferenceMemKvIdeal : Cert.ReferenceMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg)
    (m' : (ℓ : Loc Cert.ReferenceMemKvIdeal.nD Cert.ReferenceMemKvIdeal.τ Cert.ReferenceMemKvIdeal.sig) → Buf (Elt Ideal) ℓ) (g' : Dev Cert.ReferenceMemKvIdeal.nD → PrngReg), Pre_KernelMemKvIdeal m →
    (∀ c : Dev Cert.KernelMemKvIdeal.nD,
      m' ((c.tc : Thread Cert.ReferenceMemKvIdeal.nD Cert.ReferenceMemKvIdeal.τ).loc Cert.ReferenceMemKvIdeal.main_arg0) = m ((c.tc : Thread Cert.KernelMemKvIdeal.nD Cert.KernelMemKvIdeal.τ).loc Cert.KernelMemKvIdeal.main_arg0)
      ∧ m' ((c.tc : Thread Cert.ReferenceMemKvIdeal.nD Cert.ReferenceMemKvIdeal.τ).loc Cert.ReferenceMemKvIdeal.main_arg1) = m ((c.tc : Thread Cert.KernelMemKvIdeal.nD Cert.KernelMemKvIdeal.τ).loc Cert.KernelMemKvIdeal.main_arg1)) →
    ∃ (v0 : (c : Dev Cert.KernelMemKvIdeal.nD) → Buf (Elt Ideal) ((c.tc : Thread Cert.KernelMemKvIdeal.nD Cert.KernelMemKvIdeal.τ).loc Cert.KernelMemKvIdeal.main_v12)),
      θ_run (Cert.KernelMemKvIdeal.defs (F := Ideal)) (onTc (τ := Cert.KernelMemKvIdeal.τ) (Cert.KernelMemKvIdeal.main (F := Ideal))) ⟨m, fun _ => 0, g⟩ (fun r => ∀ c : Dev Cert.KernelMemKvIdeal.nD,
          r.2.mem ((c.tc : Thread Cert.KernelMemKvIdeal.nD Cert.KernelMemKvIdeal.τ).loc Cert.KernelMemKvIdeal.main_v12) = v0 c
          ∧ r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
          ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1))
      ∧ θ_run (Cert.ReferenceMemKvIdeal.defs (F := Ideal)) (onTc (τ := Cert.ReferenceMemKvIdeal.τ) (Cert.ReferenceMemKvIdeal.main (F := Ideal))) ⟨m', fun _ => 0, g'⟩ (fun r => ∀ c : Dev Cert.ReferenceMemKvIdeal.nD,
          r.2.mem ((c.tc : Thread Cert.ReferenceMemKvIdeal.nD Cert.ReferenceMemKvIdeal.τ).loc Cert.ReferenceMemKvIdeal.main_v2) = v0 c
          ∧ r.2.mem ((c.tc : Thread Cert.ReferenceMemKvIdeal.nD Cert.ReferenceMemKvIdeal.τ).loc Cert.ReferenceMemKvIdeal.main_arg0) = m' ((c.tc : Thread Cert.ReferenceMemKvIdeal.nD Cert.ReferenceMemKvIdeal.τ).loc Cert.ReferenceMemKvIdeal.main_arg0)
          ∧ r.2.mem ((c.tc : Thread Cert.ReferenceMemKvIdeal.nD Cert.ReferenceMemKvIdeal.τ).loc Cert.ReferenceMemKvIdeal.main_arg1) = m' ((c.tc : Thread Cert.ReferenceMemKvIdeal.nD Cert.ReferenceMemKvIdeal.τ).loc Cert.ReferenceMemKvIdeal.main_arg1))

def preserves_KernelFfnInA_KernelFfnInAIdeal : Prop :=
  True

def algebraic_KernelFfnInAIdeal_ReferenceFfnInAIdeal_on_first_half_pre_finite_in [hKernelFfnInAIdeal : Cert.KernelFfnInAIdeal.Facts] [hReferenceFfnInAIdeal : Cert.ReferenceFfnInAIdeal.Facts] [hPre_finite_in : Cert.Pre_finite_in.Facts] [hOn_first_half : Cert.On_first_half.Facts] : Prop :=
  ∀ (m : (ℓ : Loc Cert.KernelFfnInAIdeal.nD Cert.KernelFfnInAIdeal.τ Cert.KernelFfnInAIdeal.sig) → Buf (Elt Ideal) ℓ) (g : Dev Cert.KernelFfnInAIdeal.nD → PrngReg)
    (m' : (ℓ : Loc Cert.ReferenceFfnInAIdeal.nD Cert.ReferenceFfnInAIdeal.τ Cert.ReferenceFfnInAIdeal.sig) → Buf (Elt Ideal) ℓ) (g' : Dev Cert.ReferenceFfnInAIdeal.nD → PrngReg), Pre_KernelFfnInAIdeal_finite_in m →
    (∀ c : Dev Cert.KernelFfnInAIdeal.nD,
      m' ((c.tc : Thread Cert.ReferenceFfnInAIdeal.nD Cert.ReferenceFfnInAIdeal.τ).loc Cert.ReferenceFfnInAIdeal.main_arg0) = m ((c.tc : Thread Cert.KernelFfnInAIdeal.nD Cert.KernelFfnInAIdeal.τ).loc Cert.KernelFfnInAIdeal.main_arg0)
      ∧ m' ((c.tc : Thread Cert.ReferenceFfnInAIdeal.nD Cert.ReferenceFfnInAIdeal.τ).loc Cert.ReferenceFfnInAIdeal.main_arg1) = m ((c.tc : Thread Cert.KernelFfnInAIdeal.nD Cert.KernelFfnInAIdeal.τ).loc Cert.KernelFfnInAIdeal.main_arg1)
      ∧ m' ((c.tc : Thread Cert.ReferenceFfnInAIdeal.nD Cert.ReferenceFfnInAIdeal.τ).loc Cert.ReferenceFfnInAIdeal.main_arg2) = m ((c.tc : Thread Cert.KernelFfnInAIdeal.nD Cert.KernelFfnInAIdeal.τ).loc Cert.KernelFfnInAIdeal.main_arg2)) →
    ∃ (v0 : (c : Dev Cert.KernelFfnInAIdeal.nD) → Buf (Elt Ideal) ((c.tc : Thread Cert.KernelFfnInAIdeal.nD Cert.KernelFfnInAIdeal.τ).loc Cert.KernelFfnInAIdeal.main_v11_0)) (v1 : (c : Dev Cert.KernelFfnInAIdeal.nD) → Buf (Elt Ideal) ((c.tc : Thread Cert.KernelFfnInAIdeal.nD Cert.KernelFfnInAIdeal.τ).loc Cert.KernelFfnInAIdeal.main_v11_1)),
      θ_run (Cert.KernelFfnInAIdeal.defs (F := Ideal)) (onTc (τ := Cert.KernelFfnInAIdeal.τ) (Cert.KernelFfnInAIdeal.main (F := Ideal))) ⟨m, fun _ => 0, g⟩ (fun r => ∀ c : Dev Cert.KernelFfnInAIdeal.nD,
          (∀ i : (⟨3, ![2, 2048, 5632]⟩ : Shape).Idx, (Cert.On_first_half.fn (F := Ideal) (m ((c.tc : Thread Cert.KernelFfnInAIdeal.nD Cert.KernelFfnInAIdeal.τ).loc Cert.KernelFfnInAIdeal.main_arg0)) (m ((c.tc : Thread Cert.KernelFfnInAIdeal.nD Cert.KernelFfnInAIdeal.τ).loc Cert.KernelFfnInAIdeal.main_arg1)) (m ((c.tc : Thread Cert.KernelFfnInAIdeal.nD Cert.KernelFfnInAIdeal.τ).loc Cert.KernelFfnInAIdeal.main_arg2))).1 i = 1#1 → r.2.mem ((c.tc : Thread Cert.KernelFfnInAIdeal.nD Cert.KernelFfnInAIdeal.τ).loc Cert.KernelFfnInAIdeal.main_v11_0) i = v0 c i)
          ∧ (∀ i : (⟨2, ![2048, 5632]⟩ : Shape).Idx, (Cert.On_first_half.fn (F := Ideal) (m ((c.tc : Thread Cert.KernelFfnInAIdeal.nD Cert.KernelFfnInAIdeal.τ).loc Cert.KernelFfnInAIdeal.main_arg0)) (m ((c.tc : Thread Cert.KernelFfnInAIdeal.nD Cert.KernelFfnInAIdeal.τ).loc Cert.KernelFfnInAIdeal.main_arg1)) (m ((c.tc : Thread Cert.KernelFfnInAIdeal.nD Cert.KernelFfnInAIdeal.τ).loc Cert.KernelFfnInAIdeal.main_arg2))).2 i = 1#1 → r.2.mem ((c.tc : Thread Cert.KernelFfnInAIdeal.nD Cert.KernelFfnInAIdeal.τ).loc Cert.KernelFfnInAIdeal.main_v11_1) i = v1 c i)
          ∧ r.2.mem ((c.tc : Thread Cert.KernelFfnInAIdeal.nD Cert.KernelFfnInAIdeal.τ).loc Cert.KernelFfnInAIdeal.main_arg0) = m ((c.tc : Thread Cert.KernelFfnInAIdeal.nD Cert.KernelFfnInAIdeal.τ).loc Cert.KernelFfnInAIdeal.main_arg0)
          ∧ r.2.mem ((c.tc : Thread Cert.KernelFfnInAIdeal.nD Cert.KernelFfnInAIdeal.τ).loc Cert.KernelFfnInAIdeal.main_arg1) = m ((c.tc : Thread Cert.KernelFfnInAIdeal.nD Cert.KernelFfnInAIdeal.τ).loc Cert.KernelFfnInAIdeal.main_arg1)
          ∧ r.2.mem ((c.tc : Thread Cert.KernelFfnInAIdeal.nD Cert.KernelFfnInAIdeal.τ).loc Cert.KernelFfnInAIdeal.main_arg2) = m ((c.tc : Thread Cert.KernelFfnInAIdeal.nD Cert.KernelFfnInAIdeal.τ).loc Cert.KernelFfnInAIdeal.main_arg2))
      ∧ θ_run (Cert.ReferenceFfnInAIdeal.defs (F := Ideal)) (onTc (τ := Cert.ReferenceFfnInAIdeal.τ) (Cert.ReferenceFfnInAIdeal.main (F := Ideal))) ⟨m', fun _ => 0, g'⟩ (fun r => ∀ c : Dev Cert.ReferenceFfnInAIdeal.nD,
          (∀ i : (⟨3, ![2, 2048, 5632]⟩ : Shape).Idx, (Cert.On_first_half.fn (F := Ideal) (m ((c.tc : Thread Cert.KernelFfnInAIdeal.nD Cert.KernelFfnInAIdeal.τ).loc Cert.KernelFfnInAIdeal.main_arg0)) (m ((c.tc : Thread Cert.KernelFfnInAIdeal.nD Cert.KernelFfnInAIdeal.τ).loc Cert.KernelFfnInAIdeal.main_arg1)) (m ((c.tc : Thread Cert.KernelFfnInAIdeal.nD Cert.KernelFfnInAIdeal.τ).loc Cert.KernelFfnInAIdeal.main_arg2))).1 i = 1#1 → r.2.mem ((c.tc : Thread Cert.ReferenceFfnInAIdeal.nD Cert.ReferenceFfnInAIdeal.τ).loc Cert.ReferenceFfnInAIdeal.main_v9) i = v0 c i)
          ∧ (∀ i : (⟨2, ![2048, 5632]⟩ : Shape).Idx, (Cert.On_first_half.fn (F := Ideal) (m ((c.tc : Thread Cert.KernelFfnInAIdeal.nD Cert.KernelFfnInAIdeal.τ).loc Cert.KernelFfnInAIdeal.main_arg0)) (m ((c.tc : Thread Cert.KernelFfnInAIdeal.nD Cert.KernelFfnInAIdeal.τ).loc Cert.KernelFfnInAIdeal.main_arg1)) (m ((c.tc : Thread Cert.KernelFfnInAIdeal.nD Cert.KernelFfnInAIdeal.τ).loc Cert.KernelFfnInAIdeal.main_arg2))).2 i = 1#1 → r.2.mem ((c.tc : Thread Cert.ReferenceFfnInAIdeal.nD Cert.ReferenceFfnInAIdeal.τ).loc Cert.ReferenceFfnInAIdeal.main_v12) i = v1 c i)
          ∧ r.2.mem ((c.tc : Thread Cert.ReferenceFfnInAIdeal.nD Cert.ReferenceFfnInAIdeal.τ).loc Cert.ReferenceFfnInAIdeal.main_arg0) = m' ((c.tc : Thread Cert.ReferenceFfnInAIdeal.nD Cert.ReferenceFfnInAIdeal.τ).loc Cert.ReferenceFfnInAIdeal.main_arg0)
          ∧ r.2.mem ((c.tc : Thread Cert.ReferenceFfnInAIdeal.nD Cert.ReferenceFfnInAIdeal.τ).loc Cert.ReferenceFfnInAIdeal.main_arg1) = m' ((c.tc : Thread Cert.ReferenceFfnInAIdeal.nD Cert.ReferenceFfnInAIdeal.τ).loc Cert.ReferenceFfnInAIdeal.main_arg1)
          ∧ r.2.mem ((c.tc : Thread Cert.ReferenceFfnInAIdeal.nD Cert.ReferenceFfnInAIdeal.τ).loc Cert.ReferenceFfnInAIdeal.main_arg2) = m' ((c.tc : Thread Cert.ReferenceFfnInAIdeal.nD Cert.ReferenceFfnInAIdeal.τ).loc Cert.ReferenceFfnInAIdeal.main_arg2))

def preserves_KernelFfnInB_KernelFfnInBIdeal : Prop :=
  True

def algebraic_KernelFfnInBIdeal_ReferenceFfnInBIdeal_pre_finite_in_rest [hKernelFfnInBIdeal : Cert.KernelFfnInBIdeal.Facts] [hReferenceFfnInBIdeal : Cert.ReferenceFfnInBIdeal.Facts] [hPre_finite_in_rest : Cert.Pre_finite_in_rest.Facts] : Prop :=
  ∀ (m : (ℓ : Loc Cert.KernelFfnInBIdeal.nD Cert.KernelFfnInBIdeal.τ Cert.KernelFfnInBIdeal.sig) → Buf (Elt Ideal) ℓ) (g : Dev Cert.KernelFfnInBIdeal.nD → PrngReg)
    (m' : (ℓ : Loc Cert.ReferenceFfnInBIdeal.nD Cert.ReferenceFfnInBIdeal.τ Cert.ReferenceFfnInBIdeal.sig) → Buf (Elt Ideal) ℓ) (g' : Dev Cert.ReferenceFfnInBIdeal.nD → PrngReg), Pre_KernelFfnInBIdeal_finite_in_rest m →
    (∀ c : Dev Cert.KernelFfnInBIdeal.nD,
      m' ((c.tc : Thread Cert.ReferenceFfnInBIdeal.nD Cert.ReferenceFfnInBIdeal.τ).loc Cert.ReferenceFfnInBIdeal.main_arg0) = m ((c.tc : Thread Cert.KernelFfnInBIdeal.nD Cert.KernelFfnInBIdeal.τ).loc Cert.KernelFfnInBIdeal.main_arg0)
      ∧ m' ((c.tc : Thread Cert.ReferenceFfnInBIdeal.nD Cert.ReferenceFfnInBIdeal.τ).loc Cert.ReferenceFfnInBIdeal.main_arg1) = m ((c.tc : Thread Cert.KernelFfnInBIdeal.nD Cert.KernelFfnInBIdeal.τ).loc Cert.KernelFfnInBIdeal.main_arg1)
      ∧ m' ((c.tc : Thread Cert.ReferenceFfnInBIdeal.nD Cert.ReferenceFfnInBIdeal.τ).loc Cert.ReferenceFfnInBIdeal.main_arg2) = m ((c.tc : Thread Cert.KernelFfnInBIdeal.nD Cert.KernelFfnInBIdeal.τ).loc Cert.KernelFfnInBIdeal.main_arg2)
      ∧ m' ((c.tc : Thread Cert.ReferenceFfnInBIdeal.nD Cert.ReferenceFfnInBIdeal.τ).loc Cert.ReferenceFfnInBIdeal.main_arg3) = m ((c.tc : Thread Cert.KernelFfnInBIdeal.nD Cert.KernelFfnInBIdeal.τ).loc Cert.KernelFfnInBIdeal.main_arg3)
      ∧ m' ((c.tc : Thread Cert.ReferenceFfnInBIdeal.nD Cert.ReferenceFfnInBIdeal.τ).loc Cert.ReferenceFfnInBIdeal.main_arg4) = m ((c.tc : Thread Cert.KernelFfnInBIdeal.nD Cert.KernelFfnInBIdeal.τ).loc Cert.KernelFfnInBIdeal.main_arg4)) →
    ∃ (v0 : (c : Dev Cert.KernelFfnInBIdeal.nD) → Buf (Elt Ideal) ((c.tc : Thread Cert.KernelFfnInBIdeal.nD Cert.KernelFfnInBIdeal.τ).loc Cert.KernelFfnInBIdeal.main_v11_0)) (v1 : (c : Dev Cert.KernelFfnInBIdeal.nD) → Buf (Elt Ideal) ((c.tc : Thread Cert.KernelFfnInBIdeal.nD Cert.KernelFfnInBIdeal.τ).loc Cert.KernelFfnInBIdeal.main_v11_1)),
      θ_run (Cert.KernelFfnInBIdeal.defs (F := Ideal)) (onTc (τ := Cert.KernelFfnInBIdeal.τ) (Cert.KernelFfnInBIdeal.main (F := Ideal))) ⟨m, fun _ => 0, g⟩ (fun r => ∀ c : Dev Cert.KernelFfnInBIdeal.nD,
          r.2.mem ((c.tc : Thread Cert.KernelFfnInBIdeal.nD Cert.KernelFfnInBIdeal.τ).loc Cert.KernelFfnInBIdeal.main_v11_0) = v0 c
          ∧ r.2.mem ((c.tc : Thread Cert.KernelFfnInBIdeal.nD Cert.KernelFfnInBIdeal.τ).loc Cert.KernelFfnInBIdeal.main_v11_1) = v1 c
          ∧ r.2.mem ((c.tc : Thread Cert.KernelFfnInBIdeal.nD Cert.KernelFfnInBIdeal.τ).loc Cert.KernelFfnInBIdeal.main_arg0) = m ((c.tc : Thread Cert.KernelFfnInBIdeal.nD Cert.KernelFfnInBIdeal.τ).loc Cert.KernelFfnInBIdeal.main_arg0)
          ∧ r.2.mem ((c.tc : Thread Cert.KernelFfnInBIdeal.nD Cert.KernelFfnInBIdeal.τ).loc Cert.KernelFfnInBIdeal.main_arg1) = m ((c.tc : Thread Cert.KernelFfnInBIdeal.nD Cert.KernelFfnInBIdeal.τ).loc Cert.KernelFfnInBIdeal.main_arg1)
          ∧ r.2.mem ((c.tc : Thread Cert.KernelFfnInBIdeal.nD Cert.KernelFfnInBIdeal.τ).loc Cert.KernelFfnInBIdeal.main_arg2) = m ((c.tc : Thread Cert.KernelFfnInBIdeal.nD Cert.KernelFfnInBIdeal.τ).loc Cert.KernelFfnInBIdeal.main_arg2)
          ∧ r.2.mem ((c.tc : Thread Cert.KernelFfnInBIdeal.nD Cert.KernelFfnInBIdeal.τ).loc Cert.KernelFfnInBIdeal.main_arg3) = m ((c.tc : Thread Cert.KernelFfnInBIdeal.nD Cert.KernelFfnInBIdeal.τ).loc Cert.KernelFfnInBIdeal.main_arg3)
          ∧ r.2.mem ((c.tc : Thread Cert.KernelFfnInBIdeal.nD Cert.KernelFfnInBIdeal.τ).loc Cert.KernelFfnInBIdeal.main_arg4) = m ((c.tc : Thread Cert.KernelFfnInBIdeal.nD Cert.KernelFfnInBIdeal.τ).loc Cert.KernelFfnInBIdeal.main_arg4))
      ∧ θ_run (Cert.ReferenceFfnInBIdeal.defs (F := Ideal)) (onTc (τ := Cert.ReferenceFfnInBIdeal.τ) (Cert.ReferenceFfnInBIdeal.main (F := Ideal))) ⟨m', fun _ => 0, g'⟩ (fun r => ∀ c : Dev Cert.ReferenceFfnInBIdeal.nD,
          r.2.mem ((c.tc : Thread Cert.ReferenceFfnInBIdeal.nD Cert.ReferenceFfnInBIdeal.τ).loc Cert.ReferenceFfnInBIdeal.main_v23) = v0 c
          ∧ r.2.mem ((c.tc : Thread Cert.ReferenceFfnInBIdeal.nD Cert.ReferenceFfnInBIdeal.τ).loc Cert.ReferenceFfnInBIdeal.main_v24) = v1 c
          ∧ r.2.mem ((c.tc : Thread Cert.ReferenceFfnInBIdeal.nD Cert.ReferenceFfnInBIdeal.τ).loc Cert.ReferenceFfnInBIdeal.main_arg0) = m' ((c.tc : Thread Cert.ReferenceFfnInBIdeal.nD Cert.ReferenceFfnInBIdeal.τ).loc Cert.ReferenceFfnInBIdeal.main_arg0)
          ∧ r.2.mem ((c.tc : Thread Cert.ReferenceFfnInBIdeal.nD Cert.ReferenceFfnInBIdeal.τ).loc Cert.ReferenceFfnInBIdeal.main_arg1) = m' ((c.tc : Thread Cert.ReferenceFfnInBIdeal.nD Cert.ReferenceFfnInBIdeal.τ).loc Cert.ReferenceFfnInBIdeal.main_arg1)
          ∧ r.2.mem ((c.tc : Thread Cert.ReferenceFfnInBIdeal.nD Cert.ReferenceFfnInBIdeal.τ).loc Cert.ReferenceFfnInBIdeal.main_arg2) = m' ((c.tc : Thread Cert.ReferenceFfnInBIdeal.nD Cert.ReferenceFfnInBIdeal.τ).loc Cert.ReferenceFfnInBIdeal.main_arg2)
          ∧ r.2.mem ((c.tc : Thread Cert.ReferenceFfnInBIdeal.nD Cert.ReferenceFfnInBIdeal.τ).loc Cert.ReferenceFfnInBIdeal.main_arg3) = m' ((c.tc : Thread Cert.ReferenceFfnInBIdeal.nD Cert.ReferenceFfnInBIdeal.τ).loc Cert.ReferenceFfnInBIdeal.main_arg3)
          ∧ r.2.mem ((c.tc : Thread Cert.ReferenceFfnInBIdeal.nD Cert.ReferenceFfnInBIdeal.τ).loc Cert.ReferenceFfnInBIdeal.main_arg4) = m' ((c.tc : Thread Cert.ReferenceFfnInBIdeal.nD Cert.ReferenceFfnInBIdeal.τ).loc Cert.ReferenceFfnInBIdeal.main_arg4))

def preserves_KernelXattn_KernelXattnIdeal : Prop :=
  True

def algebraic_KernelXattnIdeal_ReferenceXattnIdeal_pre_finite_x [hKernelXattnIdeal : Cert.KernelXattnIdeal.Facts] [hReferenceXattnIdeal : Cert.ReferenceXattnIdeal.Facts] [hPre_finite_x : Cert.Pre_finite_x.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg)
    (m' : (ℓ : Loc Cert.ReferenceXattnIdeal.nD Cert.ReferenceXattnIdeal.τ Cert.ReferenceXattnIdeal.sig) → Buf (Elt Ideal) ℓ) (g' : Dev Cert.ReferenceXattnIdeal.nD → PrngReg), Pre_KernelXattnIdeal_finite_x m →
    (∀ c : Dev Cert.KernelXattnIdeal.nD,
      m' ((c.tc : Thread Cert.ReferenceXattnIdeal.nD Cert.ReferenceXattnIdeal.τ).loc Cert.ReferenceXattnIdeal.main_arg0) = m ((c.tc : Thread Cert.KernelXattnIdeal.nD Cert.KernelXattnIdeal.τ).loc Cert.KernelXattnIdeal.main_arg0)
      ∧ m' ((c.tc : Thread Cert.ReferenceXattnIdeal.nD Cert.ReferenceXattnIdeal.τ).loc Cert.ReferenceXattnIdeal.main_arg1) = m ((c.tc : Thread Cert.KernelXattnIdeal.nD Cert.KernelXattnIdeal.τ).loc Cert.KernelXattnIdeal.main_arg1)
      ∧ m' ((c.tc : Thread Cert.ReferenceXattnIdeal.nD Cert.ReferenceXattnIdeal.τ).loc Cert.ReferenceXattnIdeal.main_arg2) = m ((c.tc : Thread Cert.KernelXattnIdeal.nD Cert.KernelXattnIdeal.τ).loc Cert.KernelXattnIdeal.main_arg2)) →
    ∃ (v0 : (c : Dev Cert.KernelXattnIdeal.nD) → Buf (Elt Ideal) ((c.tc : Thread Cert.KernelXattnIdeal.nD Cert.KernelXattnIdeal.τ).loc Cert.KernelXattnIdeal.main_v5_0)) (v1 : (c : Dev Cert.KernelXattnIdeal.nD) → Buf (Elt Ideal) ((c.tc : Thread Cert.KernelXattnIdeal.nD Cert.KernelXattnIdeal.τ).loc Cert.KernelXattnIdeal.main_v5_1)),
      θ_run (Cert.KernelXattnIdeal.defs (F := Ideal)) (onTc (τ := Cert.KernelXattnIdeal.τ) (Cert.KernelXattnIdeal.main (F := Ideal))) ⟨m, fun _ => 0, g⟩ (fun r => ∀ c : Dev Cert.KernelXattnIdeal.nD,
          r.2.mem ((c.tc : Thread Cert.KernelXattnIdeal.nD Cert.KernelXattnIdeal.τ).loc Cert.KernelXattnIdeal.main_v5_0) = v0 c
          ∧ r.2.mem ((c.tc : Thread Cert.KernelXattnIdeal.nD Cert.KernelXattnIdeal.τ).loc Cert.KernelXattnIdeal.main_v5_1) = v1 c
          ∧ r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
          ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
          ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2))
      ∧ θ_run (Cert.ReferenceXattnIdeal.defs (F := Ideal)) (onTc (τ := Cert.ReferenceXattnIdeal.τ) (Cert.ReferenceXattnIdeal.main (F := Ideal))) ⟨m', fun _ => 0, g'⟩ (fun r => ∀ c : Dev Cert.ReferenceXattnIdeal.nD,
          r.2.mem ((c.tc : Thread Cert.ReferenceXattnIdeal.nD Cert.ReferenceXattnIdeal.τ).loc Cert.ReferenceXattnIdeal.main_v66) = v0 c
          ∧ r.2.mem ((c.tc : Thread Cert.ReferenceXattnIdeal.nD Cert.ReferenceXattnIdeal.τ).loc Cert.ReferenceXattnIdeal.main_v71) = v1 c
          ∧ r.2.mem ((c.tc : Thread Cert.ReferenceXattnIdeal.nD Cert.ReferenceXattnIdeal.τ).loc Cert.ReferenceXattnIdeal.main_arg0) = m' ((c.tc : Thread Cert.ReferenceXattnIdeal.nD Cert.ReferenceXattnIdeal.τ).loc Cert.ReferenceXattnIdeal.main_arg0)
          ∧ r.2.mem ((c.tc : Thread Cert.ReferenceXattnIdeal.nD Cert.ReferenceXattnIdeal.τ).loc Cert.ReferenceXattnIdeal.main_arg1) = m' ((c.tc : Thread Cert.ReferenceXattnIdeal.nD Cert.ReferenceXattnIdeal.τ).loc Cert.ReferenceXattnIdeal.main_arg1)
          ∧ r.2.mem ((c.tc : Thread Cert.ReferenceXattnIdeal.nD Cert.ReferenceXattnIdeal.τ).loc Cert.ReferenceXattnIdeal.main_arg2) = m' ((c.tc : Thread Cert.ReferenceXattnIdeal.nD Cert.ReferenceXattnIdeal.τ).loc Cert.ReferenceXattnIdeal.main_arg2))

def preserves_KernelXattnFwd_KernelXattnFwdIdeal : Prop :=
  True

def algebraic_KernelXattnFwdIdeal_ReferenceXattnFwdIdeal [hKernelXattnFwdIdeal : Cert.KernelXattnFwdIdeal.Facts] [hReferenceXattnFwdIdeal : Cert.ReferenceXattnFwdIdeal.Facts] : Prop :=
  ∀ (m : (ℓ : Loc Cert.KernelXattnFwdIdeal.nD Cert.KernelXattnFwdIdeal.τ Cert.KernelXattnFwdIdeal.sig) → Buf (Elt Ideal) ℓ) (g : Dev Cert.KernelXattnFwdIdeal.nD → PrngReg)
    (m' : (ℓ : Loc Cert.ReferenceXattnFwdIdeal.nD Cert.ReferenceXattnFwdIdeal.τ Cert.ReferenceXattnFwdIdeal.sig) → Buf (Elt Ideal) ℓ) (g' : Dev Cert.ReferenceXattnFwdIdeal.nD → PrngReg), Pre_KernelXattnFwdIdeal m →
    (∀ c : Dev Cert.KernelXattnFwdIdeal.nD,
      m' ((c.tc : Thread Cert.ReferenceXattnFwdIdeal.nD Cert.ReferenceXattnFwdIdeal.τ).loc Cert.ReferenceXattnFwdIdeal.main_arg0) = m ((c.tc : Thread Cert.KernelXattnFwdIdeal.nD Cert.KernelXattnFwdIdeal.τ).loc Cert.KernelXattnFwdIdeal.main_arg0)
      ∧ m' ((c.tc : Thread Cert.ReferenceXattnFwdIdeal.nD Cert.ReferenceXattnFwdIdeal.τ).loc Cert.ReferenceXattnFwdIdeal.main_arg1) = m ((c.tc : Thread Cert.KernelXattnFwdIdeal.nD Cert.KernelXattnFwdIdeal.τ).loc Cert.KernelXattnFwdIdeal.main_arg1)) →
    ∃ (v0 : (c : Dev Cert.KernelXattnFwdIdeal.nD) → Buf (Elt Ideal) ((c.tc : Thread Cert.KernelXattnFwdIdeal.nD Cert.KernelXattnFwdIdeal.τ).loc Cert.KernelXattnFwdIdeal.main_v4)),
      θ_run (Cert.KernelXattnFwdIdeal.defs (F := Ideal)) (onTc (τ := Cert.KernelXattnFwdIdeal.τ) (Cert.KernelXattnFwdIdeal.main (F := Ideal))) ⟨m, fun _ => 0, g⟩ (fun r => ∀ c : Dev Cert.KernelXattnFwdIdeal.nD,
          r.2.mem ((c.tc : Thread Cert.KernelXattnFwdIdeal.nD Cert.KernelXattnFwdIdeal.τ).loc Cert.KernelXattnFwdIdeal.main_v4) = v0 c
          ∧ r.2.mem ((c.tc : Thread Cert.KernelXattnFwdIdeal.nD Cert.KernelXattnFwdIdeal.τ).loc Cert.KernelXattnFwdIdeal.main_arg0) = m ((c.tc : Thread Cert.KernelXattnFwdIdeal.nD Cert.KernelXattnFwdIdeal.τ).loc Cert.KernelXattnFwdIdeal.main_arg0)
          ∧ r.2.mem ((c.tc : Thread Cert.KernelXattnFwdIdeal.nD Cert.KernelXattnFwdIdeal.τ).loc Cert.KernelXattnFwdIdeal.main_arg1) = m ((c.tc : Thread Cert.KernelXattnFwdIdeal.nD Cert.KernelXattnFwdIdeal.τ).loc Cert.KernelXattnFwdIdeal.main_arg1))
      ∧ θ_run (Cert.ReferenceXattnFwdIdeal.defs (F := Ideal)) (onTc (τ := Cert.ReferenceXattnFwdIdeal.τ) (Cert.ReferenceXattnFwdIdeal.main (F := Ideal))) ⟨m', fun _ => 0, g'⟩ (fun r => ∀ c : Dev Cert.ReferenceXattnFwdIdeal.nD,
          r.2.mem ((c.tc : Thread Cert.ReferenceXattnFwdIdeal.nD Cert.ReferenceXattnFwdIdeal.τ).loc Cert.ReferenceXattnFwdIdeal.main_v22) = v0 c
          ∧ r.2.mem ((c.tc : Thread Cert.ReferenceXattnFwdIdeal.nD Cert.ReferenceXattnFwdIdeal.τ).loc Cert.ReferenceXattnFwdIdeal.main_arg0) = m' ((c.tc : Thread Cert.ReferenceXattnFwdIdeal.nD Cert.ReferenceXattnFwdIdeal.τ).loc Cert.ReferenceXattnFwdIdeal.main_arg0)
          ∧ r.2.mem ((c.tc : Thread Cert.ReferenceXattnFwdIdeal.nD Cert.ReferenceXattnFwdIdeal.τ).loc Cert.ReferenceXattnFwdIdeal.main_arg1) = m' ((c.tc : Thread Cert.ReferenceXattnFwdIdeal.nD Cert.ReferenceXattnFwdIdeal.τ).loc Cert.ReferenceXattnFwdIdeal.main_arg1))

def preserves_KernelSbFwd_KernelSbFwdIdeal : Prop :=
  True

def algebraic_KernelSbFwdIdeal_ReferenceSbFwdIdeal_pre_finite_z [hKernelSbFwdIdeal : Cert.KernelSbFwdIdeal.Facts] [hReferenceSbFwdIdeal : Cert.ReferenceSbFwdIdeal.Facts] [hPre_finite_z : Cert.Pre_finite_z.Facts] : Prop :=
  ∀ (m : (ℓ : Loc Cert.KernelSbFwdIdeal.nD Cert.KernelSbFwdIdeal.τ Cert.KernelSbFwdIdeal.sig) → Buf (Elt Ideal) ℓ) (g : Dev Cert.KernelSbFwdIdeal.nD → PrngReg)
    (m' : (ℓ : Loc Cert.ReferenceSbFwdIdeal.nD Cert.ReferenceSbFwdIdeal.τ Cert.ReferenceSbFwdIdeal.sig) → Buf (Elt Ideal) ℓ) (g' : Dev Cert.ReferenceSbFwdIdeal.nD → PrngReg), Pre_KernelSbFwdIdeal_finite_z m →
    (∀ c : Dev Cert.KernelSbFwdIdeal.nD,
      m' ((c.tc : Thread Cert.ReferenceSbFwdIdeal.nD Cert.ReferenceSbFwdIdeal.τ).loc Cert.ReferenceSbFwdIdeal.main_arg0) = m ((c.tc : Thread Cert.KernelSbFwdIdeal.nD Cert.KernelSbFwdIdeal.τ).loc Cert.KernelSbFwdIdeal.main_arg0)) →
    ∃ (v0 : (c : Dev Cert.KernelSbFwdIdeal.nD) → Buf (Elt Ideal) ((c.tc : Thread Cert.KernelSbFwdIdeal.nD Cert.KernelSbFwdIdeal.τ).loc Cert.KernelSbFwdIdeal.main_v0_0)) (v1 : (c : Dev Cert.KernelSbFwdIdeal.nD) → Buf (Elt Ideal) ((c.tc : Thread Cert.KernelSbFwdIdeal.nD Cert.KernelSbFwdIdeal.τ).loc Cert.KernelSbFwdIdeal.main_v0_1)),
      θ_run (Cert.KernelSbFwdIdeal.defs (F := Ideal)) (onTc (τ := Cert.KernelSbFwdIdeal.τ) (Cert.KernelSbFwdIdeal.main (F := Ideal))) ⟨m, fun _ => 0, g⟩ (fun r => ∀ c : Dev Cert.KernelSbFwdIdeal.nD,
          r.2.mem ((c.tc : Thread Cert.KernelSbFwdIdeal.nD Cert.KernelSbFwdIdeal.τ).loc Cert.KernelSbFwdIdeal.main_v0_0) = v0 c
          ∧ r.2.mem ((c.tc : Thread Cert.KernelSbFwdIdeal.nD Cert.KernelSbFwdIdeal.τ).loc Cert.KernelSbFwdIdeal.main_v0_1) = v1 c
          ∧ r.2.mem ((c.tc : Thread Cert.KernelSbFwdIdeal.nD Cert.KernelSbFwdIdeal.τ).loc Cert.KernelSbFwdIdeal.main_arg0) = m ((c.tc : Thread Cert.KernelSbFwdIdeal.nD Cert.KernelSbFwdIdeal.τ).loc Cert.KernelSbFwdIdeal.main_arg0))
      ∧ θ_run (Cert.ReferenceSbFwdIdeal.defs (F := Ideal)) (onTc (τ := Cert.ReferenceSbFwdIdeal.τ) (Cert.ReferenceSbFwdIdeal.main (F := Ideal))) ⟨m', fun _ => 0, g'⟩ (fun r => ∀ c : Dev Cert.ReferenceSbFwdIdeal.nD,
          r.2.mem ((c.tc : Thread Cert.ReferenceSbFwdIdeal.nD Cert.ReferenceSbFwdIdeal.τ).loc Cert.ReferenceSbFwdIdeal.main_v27) = v0 c
          ∧ r.2.mem ((c.tc : Thread Cert.ReferenceSbFwdIdeal.nD Cert.ReferenceSbFwdIdeal.τ).loc Cert.ReferenceSbFwdIdeal.main_v47) = v1 c
          ∧ r.2.mem ((c.tc : Thread Cert.ReferenceSbFwdIdeal.nD Cert.ReferenceSbFwdIdeal.τ).loc Cert.ReferenceSbFwdIdeal.main_arg0) = m' ((c.tc : Thread Cert.ReferenceSbFwdIdeal.nD Cert.ReferenceSbFwdIdeal.τ).loc Cert.ReferenceSbFwdIdeal.main_arg0))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelNormBwd_KernelNormBwdIdeal : Prop :=
  True

def algebraic_KernelNormBwdIdeal_ReferenceNormBwdIdeal_pre_finite_norm [hKernelNormBwdIdeal : Cert.KernelNormBwdIdeal.Facts] [hReferenceNormBwdIdeal : Cert.ReferenceNormBwdIdeal.Facts] [hPre_finite_norm : Cert.Pre_finite_norm.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg)
    (m' : (ℓ : Loc Cert.ReferenceNormBwdIdeal.nD Cert.ReferenceNormBwdIdeal.τ Cert.ReferenceNormBwdIdeal.sig) → Buf (Elt Ideal) ℓ) (g' : Dev Cert.ReferenceNormBwdIdeal.nD → PrngReg), Pre_KernelNormBwdIdeal_finite_norm m →
    (∀ c : Dev Cert.KernelNormBwdIdeal.nD,
      m' ((c.tc : Thread Cert.ReferenceNormBwdIdeal.nD Cert.ReferenceNormBwdIdeal.τ).loc Cert.ReferenceNormBwdIdeal.main_arg0) = m ((c.tc : Thread Cert.KernelNormBwdIdeal.nD Cert.KernelNormBwdIdeal.τ).loc Cert.KernelNormBwdIdeal.main_arg0)
      ∧ m' ((c.tc : Thread Cert.ReferenceNormBwdIdeal.nD Cert.ReferenceNormBwdIdeal.τ).loc Cert.ReferenceNormBwdIdeal.main_arg1) = m ((c.tc : Thread Cert.KernelNormBwdIdeal.nD Cert.KernelNormBwdIdeal.τ).loc Cert.KernelNormBwdIdeal.main_arg1)
      ∧ m' ((c.tc : Thread Cert.ReferenceNormBwdIdeal.nD Cert.ReferenceNormBwdIdeal.τ).loc Cert.ReferenceNormBwdIdeal.main_arg2) = m ((c.tc : Thread Cert.KernelNormBwdIdeal.nD Cert.KernelNormBwdIdeal.τ).loc Cert.KernelNormBwdIdeal.main_arg2)
      ∧ m' ((c.tc : Thread Cert.ReferenceNormBwdIdeal.nD Cert.ReferenceNormBwdIdeal.τ).loc Cert.ReferenceNormBwdIdeal.main_arg3) = m ((c.tc : Thread Cert.KernelNormBwdIdeal.nD Cert.KernelNormBwdIdeal.τ).loc Cert.KernelNormBwdIdeal.main_arg3)) →
    ∃ (v0 : (c : Dev Cert.KernelNormBwdIdeal.nD) → Buf (Elt Ideal) ((c.tc : Thread Cert.KernelNormBwdIdeal.nD Cert.KernelNormBwdIdeal.τ).loc Cert.KernelNormBwdIdeal.main_v1_0)) (v1 : (c : Dev Cert.KernelNormBwdIdeal.nD) → Buf (Elt Ideal) ((c.tc : Thread Cert.KernelNormBwdIdeal.nD Cert.KernelNormBwdIdeal.τ).loc Cert.KernelNormBwdIdeal.main_v1_1)) (v2 : (c : Dev Cert.KernelNormBwdIdeal.nD) → Buf (Elt Ideal) ((c.tc : Thread Cert.KernelNormBwdIdeal.nD Cert.KernelNormBwdIdeal.τ).loc Cert.KernelNormBwdIdeal.main_v1_2)),
      θ_run (Cert.KernelNormBwdIdeal.defs (F := Ideal)) (onTc (τ := Cert.KernelNormBwdIdeal.τ) (Cert.KernelNormBwdIdeal.main (F := Ideal))) ⟨m, fun _ => 0, g⟩ (fun r => ∀ c : Dev Cert.KernelNormBwdIdeal.nD,
          r.2.mem ((c.tc : Thread Cert.KernelNormBwdIdeal.nD Cert.KernelNormBwdIdeal.τ).loc Cert.KernelNormBwdIdeal.main_v1_0) = v0 c
          ∧ r.2.mem ((c.tc : Thread Cert.KernelNormBwdIdeal.nD Cert.KernelNormBwdIdeal.τ).loc Cert.KernelNormBwdIdeal.main_v1_1) = v1 c
          ∧ r.2.mem ((c.tc : Thread Cert.KernelNormBwdIdeal.nD Cert.KernelNormBwdIdeal.τ).loc Cert.KernelNormBwdIdeal.main_v1_2) = v2 c
          ∧ r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
          ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
          ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
          ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ θ_run (Cert.ReferenceNormBwdIdeal.defs (F := Ideal)) (onTc (τ := Cert.ReferenceNormBwdIdeal.τ) (Cert.ReferenceNormBwdIdeal.main (F := Ideal))) ⟨m', fun _ => 0, g'⟩ (fun r => ∀ c : Dev Cert.ReferenceNormBwdIdeal.nD,
          r.2.mem ((c.tc : Thread Cert.ReferenceNormBwdIdeal.nD Cert.ReferenceNormBwdIdeal.τ).loc Cert.ReferenceNormBwdIdeal.main_v36) = v0 c
          ∧ r.2.mem ((c.tc : Thread Cert.ReferenceNormBwdIdeal.nD Cert.ReferenceNormBwdIdeal.τ).loc Cert.ReferenceNormBwdIdeal.main_v37) = v1 c
          ∧ r.2.mem ((c.tc : Thread Cert.ReferenceNormBwdIdeal.nD Cert.ReferenceNormBwdIdeal.τ).loc Cert.ReferenceNormBwdIdeal.main_v38) = v2 c
          ∧ r.2.mem ((c.tc : Thread Cert.ReferenceNormBwdIdeal.nD Cert.ReferenceNormBwdIdeal.τ).loc Cert.ReferenceNormBwdIdeal.main_arg0) = m' ((c.tc : Thread Cert.ReferenceNormBwdIdeal.nD Cert.ReferenceNormBwdIdeal.τ).loc Cert.ReferenceNormBwdIdeal.main_arg0)
          ∧ r.2.mem ((c.tc : Thread Cert.ReferenceNormBwdIdeal.nD Cert.ReferenceNormBwdIdeal.τ).loc Cert.ReferenceNormBwdIdeal.main_arg1) = m' ((c.tc : Thread Cert.ReferenceNormBwdIdeal.nD Cert.ReferenceNormBwdIdeal.τ).loc Cert.ReferenceNormBwdIdeal.main_arg1)
          ∧ r.2.mem ((c.tc : Thread Cert.ReferenceNormBwdIdeal.nD Cert.ReferenceNormBwdIdeal.τ).loc Cert.ReferenceNormBwdIdeal.main_arg2) = m' ((c.tc : Thread Cert.ReferenceNormBwdIdeal.nD Cert.ReferenceNormBwdIdeal.τ).loc Cert.ReferenceNormBwdIdeal.main_arg2)
          ∧ r.2.mem ((c.tc : Thread Cert.ReferenceNormBwdIdeal.nD Cert.ReferenceNormBwdIdeal.τ).loc Cert.ReferenceNormBwdIdeal.main_arg3) = m' ((c.tc : Thread Cert.ReferenceNormBwdIdeal.nD Cert.ReferenceNormBwdIdeal.τ).loc Cert.ReferenceNormBwdIdeal.main_arg3))

def Claim : Prop :=
  ∃ (hKernel : Cert.Kernel.Facts) (hKernelIdeal : Cert.KernelIdeal.Facts) (hReferenceIdeal : Cert.ReferenceIdeal.Facts) (hKernelAct : Cert.KernelAct.Facts) (hKernelActIdeal : Cert.KernelActIdeal.Facts) (hReferenceActIdeal : Cert.ReferenceActIdeal.Facts) (hKernelWout : Cert.KernelWout.Facts) (hKernelWoutIdeal : Cert.KernelWoutIdeal.Facts) (hReferenceWoutIdeal : Cert.ReferenceWoutIdeal.Facts) (hKernelWin : Cert.KernelWin.Facts) (hKernelWinIdeal : Cert.KernelWinIdeal.Facts) (hReferenceWinIdeal : Cert.ReferenceWinIdeal.Facts) (hKernelDn : Cert.KernelDn.Facts) (hKernelDnIdeal : Cert.KernelDnIdeal.Facts) (hReferenceDnIdeal : Cert.ReferenceDnIdeal.Facts) (hKernelSqDo : Cert.KernelSqDo.Facts) (hKernelSqDoIdeal : Cert.KernelSqDoIdeal.Facts) (hReferenceSqDoIdeal : Cert.ReferenceSqDoIdeal.Facts) (hKernelSqDx : Cert.KernelSqDx.Facts) (hKernelSqDxIdeal : Cert.KernelSqDxIdeal.Facts) (hReferenceSqDxIdeal : Cert.ReferenceSqDxIdeal.Facts) (hKernelSqDw : Cert.KernelSqDw.Facts) (hKernelSqDwIdeal : Cert.KernelSqDwIdeal.Facts) (hReferenceSqDwIdeal : Cert.ReferenceSqDwIdeal.Facts) (hKernelMemDw : Cert.KernelMemDw.Facts) (hKernelMemDwIdeal : Cert.KernelMemDwIdeal.Facts) (hReferenceMemDwIdeal : Cert.ReferenceMemDwIdeal.Facts) (hKernelMemDx : Cert.KernelMemDx.Facts) (hKernelMemDxIdeal : Cert.KernelMemDxIdeal.Facts) (hReferenceMemDxIdeal : Cert.ReferenceMemDxIdeal.Facts) (hKernelMixDw : Cert.KernelMixDw.Facts) (hKernelMixDwIdeal : Cert.KernelMixDwIdeal.Facts) (hReferenceMixDwIdeal : Cert.ReferenceMixDwIdeal.Facts) (hKernelMixDx : Cert.KernelMixDx.Facts) (hKernelMixDxIdeal : Cert.KernelMixDxIdeal.Facts) (hReferenceMixDxIdeal : Cert.ReferenceMixDxIdeal.Facts) (hKernelFfnOut : Cert.KernelFfnOut.Facts) (hKernelFfnOutIdeal : Cert.KernelFfnOutIdeal.Facts) (hReferenceFfnOutIdeal : Cert.ReferenceFfnOutIdeal.Facts) (hKernelMixIn : Cert.KernelMixIn.Facts) (hKernelMixInIdeal : Cert.KernelMixInIdeal.Facts) (hReferenceMixInIdeal : Cert.ReferenceMixInIdeal.Facts) (hKernelSqOut : Cert.KernelSqOut.Facts) (hKernelSqOutIdeal : Cert.KernelSqOutIdeal.Facts) (hReferenceSqOutIdeal : Cert.ReferenceSqOutIdeal.Facts) (hKernelSqQ : Cert.KernelSqQ.Facts) (hKernelSqQIdeal : Cert.KernelSqQIdeal.Facts) (hReferenceSqQIdeal : Cert.ReferenceSqQIdeal.Facts) (hKernelMemKv : Cert.KernelMemKv.Facts) (hKernelMemKvIdeal : Cert.KernelMemKvIdeal.Facts) (hReferenceMemKvIdeal : Cert.ReferenceMemKvIdeal.Facts) (hKernelFfnInA : Cert.KernelFfnInA.Facts) (hKernelFfnInAIdeal : Cert.KernelFfnInAIdeal.Facts) (hReferenceFfnInAIdeal : Cert.ReferenceFfnInAIdeal.Facts) (hKernelFfnInB : Cert.KernelFfnInB.Facts) (hKernelFfnInBIdeal : Cert.KernelFfnInBIdeal.Facts) (hReferenceFfnInBIdeal : Cert.ReferenceFfnInBIdeal.Facts) (hKernelXattn : Cert.KernelXattn.Facts) (hKernelXattnIdeal : Cert.KernelXattnIdeal.Facts) (hReferenceXattnIdeal : Cert.ReferenceXattnIdeal.Facts) (hKernelXattnFwd : Cert.KernelXattnFwd.Facts) (hKernelXattnFwdIdeal : Cert.KernelXattnFwdIdeal.Facts) (hReferenceXattnFwdIdeal : Cert.ReferenceXattnFwdIdeal.Facts) (hKernelSbFwd : Cert.KernelSbFwd.Facts) (hKernelSbFwdIdeal : Cert.KernelSbFwdIdeal.Facts) (hReferenceSbFwdIdeal : Cert.ReferenceSbFwdIdeal.Facts) (hKernelNorm : Cert.KernelNorm.Facts) (hKernelNormIdeal : Cert.KernelNormIdeal.Facts) (hReferenceNormIdeal : Cert.ReferenceNormIdeal.Facts) (hKernelNormBwd : Cert.KernelNormBwd.Facts) (hKernelNormBwdIdeal : Cert.KernelNormBwdIdeal.Facts) (hReferenceNormBwdIdeal : Cert.ReferenceNormBwdIdeal.Facts) (hPre_finite : Cert.Pre_finite.Facts) (hPre_finite_out : Cert.Pre_finite_out.Facts) (hPre_finite_in : Cert.Pre_finite_in.Facts) (hPre_finite_in_rest : Cert.Pre_finite_in_rest.Facts) (hPre_finite_x : Cert.Pre_finite_x.Facts) (hPre_finite_z : Cert.Pre_finite_z.Facts) (hPre_finite_norm : Cert.Pre_finite_norm.Facts) (hOn_first_half : Cert.On_first_half.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelAct (hKernelAct := hKernelAct)
    ∧ quiescent_KernelActIdeal (hKernelActIdeal := hKernelActIdeal)
    ∧ quiescent_KernelActIdeal_pre_finite_out (hKernelActIdeal := hKernelActIdeal) (hPre_finite_out := hPre_finite_out)
    ∧ quiescent_ReferenceActIdeal (hReferenceActIdeal := hReferenceActIdeal)
    ∧ quiescent_ReferenceActIdeal_pre_finite_out (hReferenceActIdeal := hReferenceActIdeal) (hPre_finite_out := hPre_finite_out)
    ∧ quiescent_KernelWout (hKernelWout := hKernelWout)
    ∧ quiescent_KernelWoutIdeal (hKernelWoutIdeal := hKernelWoutIdeal)
    ∧ quiescent_ReferenceWoutIdeal (hReferenceWoutIdeal := hReferenceWoutIdeal)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelDn (hKernelDn := hKernelDn)
    ∧ quiescent_KernelDnIdeal (hKernelDnIdeal := hKernelDnIdeal)
    ∧ quiescent_ReferenceDnIdeal (hReferenceDnIdeal := hReferenceDnIdeal)
    ∧ quiescent_KernelSqDo (hKernelSqDo := hKernelSqDo)
    ∧ quiescent_KernelSqDoIdeal (hKernelSqDoIdeal := hKernelSqDoIdeal)
    ∧ quiescent_ReferenceSqDoIdeal (hReferenceSqDoIdeal := hReferenceSqDoIdeal)
    ∧ quiescent_KernelSqDx (hKernelSqDx := hKernelSqDx)
    ∧ quiescent_KernelSqDxIdeal (hKernelSqDxIdeal := hKernelSqDxIdeal)
    ∧ quiescent_ReferenceSqDxIdeal (hReferenceSqDxIdeal := hReferenceSqDxIdeal)
    ∧ quiescent_KernelSqDw (hKernelSqDw := hKernelSqDw)
    ∧ quiescent_KernelSqDwIdeal (hKernelSqDwIdeal := hKernelSqDwIdeal)
    ∧ quiescent_ReferenceSqDwIdeal (hReferenceSqDwIdeal := hReferenceSqDwIdeal)
    ∧ quiescent_KernelMemDw (hKernelMemDw := hKernelMemDw)
    ∧ quiescent_KernelMemDwIdeal (hKernelMemDwIdeal := hKernelMemDwIdeal)
    ∧ quiescent_ReferenceMemDwIdeal (hReferenceMemDwIdeal := hReferenceMemDwIdeal)
    ∧ quiescent_KernelMemDx (hKernelMemDx := hKernelMemDx)
    ∧ quiescent_KernelMemDxIdeal (hKernelMemDxIdeal := hKernelMemDxIdeal)
    ∧ quiescent_ReferenceMemDxIdeal (hReferenceMemDxIdeal := hReferenceMemDxIdeal)
    ∧ quiescent_KernelMixDw (hKernelMixDw := hKernelMixDw)
    ∧ quiescent_KernelMixDwIdeal (hKernelMixDwIdeal := hKernelMixDwIdeal)
    ∧ quiescent_ReferenceMixDwIdeal (hReferenceMixDwIdeal := hReferenceMixDwIdeal)
    ∧ quiescent_KernelMixDx (hKernelMixDx := hKernelMixDx)
    ∧ quiescent_KernelMixDxIdeal (hKernelMixDxIdeal := hKernelMixDxIdeal)
    ∧ quiescent_ReferenceMixDxIdeal (hReferenceMixDxIdeal := hReferenceMixDxIdeal)
    ∧ quiescent_KernelFfnOut (hKernelFfnOut := hKernelFfnOut)
    ∧ quiescent_KernelFfnOutIdeal (hKernelFfnOutIdeal := hKernelFfnOutIdeal)
    ∧ quiescent_ReferenceFfnOutIdeal (hReferenceFfnOutIdeal := hReferenceFfnOutIdeal)
    ∧ quiescent_KernelMixIn (hKernelMixIn := hKernelMixIn)
    ∧ quiescent_KernelMixInIdeal (hKernelMixInIdeal := hKernelMixInIdeal)
    ∧ quiescent_ReferenceMixInIdeal (hReferenceMixInIdeal := hReferenceMixInIdeal)
    ∧ quiescent_KernelSqOut (hKernelSqOut := hKernelSqOut)
    ∧ quiescent_KernelSqOutIdeal (hKernelSqOutIdeal := hKernelSqOutIdeal)
    ∧ quiescent_ReferenceSqOutIdeal (hReferenceSqOutIdeal := hReferenceSqOutIdeal)
    ∧ quiescent_KernelSqQ (hKernelSqQ := hKernelSqQ)
    ∧ quiescent_KernelSqQIdeal (hKernelSqQIdeal := hKernelSqQIdeal)
    ∧ quiescent_ReferenceSqQIdeal (hReferenceSqQIdeal := hReferenceSqQIdeal)
    ∧ quiescent_KernelMemKv (hKernelMemKv := hKernelMemKv)
    ∧ quiescent_KernelMemKvIdeal (hKernelMemKvIdeal := hKernelMemKvIdeal)
    ∧ quiescent_ReferenceMemKvIdeal (hReferenceMemKvIdeal := hReferenceMemKvIdeal)
    ∧ quiescent_KernelFfnInA (hKernelFfnInA := hKernelFfnInA)
    ∧ quiescent_KernelFfnInAIdeal (hKernelFfnInAIdeal := hKernelFfnInAIdeal)
    ∧ quiescent_KernelFfnInAIdeal_pre_finite_in (hKernelFfnInAIdeal := hKernelFfnInAIdeal) (hPre_finite_in := hPre_finite_in)
    ∧ quiescent_ReferenceFfnInAIdeal (hReferenceFfnInAIdeal := hReferenceFfnInAIdeal)
    ∧ quiescent_ReferenceFfnInAIdeal_pre_finite_in (hReferenceFfnInAIdeal := hReferenceFfnInAIdeal) (hPre_finite_in := hPre_finite_in)
    ∧ quiescent_KernelFfnInB (hKernelFfnInB := hKernelFfnInB)
    ∧ quiescent_KernelFfnInBIdeal (hKernelFfnInBIdeal := hKernelFfnInBIdeal)
    ∧ quiescent_KernelFfnInBIdeal_pre_finite_in_rest (hKernelFfnInBIdeal := hKernelFfnInBIdeal) (hPre_finite_in_rest := hPre_finite_in_rest)
    ∧ quiescent_ReferenceFfnInBIdeal (hReferenceFfnInBIdeal := hReferenceFfnInBIdeal)
    ∧ quiescent_ReferenceFfnInBIdeal_pre_finite_in_rest (hReferenceFfnInBIdeal := hReferenceFfnInBIdeal) (hPre_finite_in_rest := hPre_finite_in_rest)
    ∧ quiescent_KernelXattn (hKernelXattn := hKernelXattn)
    ∧ quiescent_KernelXattnIdeal (hKernelXattnIdeal := hKernelXattnIdeal)
    ∧ quiescent_KernelXattnIdeal_pre_finite_x (hKernelXattnIdeal := hKernelXattnIdeal) (hPre_finite_x := hPre_finite_x)
    ∧ quiescent_ReferenceXattnIdeal (hReferenceXattnIdeal := hReferenceXattnIdeal)
    ∧ quiescent_ReferenceXattnIdeal_pre_finite_x (hReferenceXattnIdeal := hReferenceXattnIdeal) (hPre_finite_x := hPre_finite_x)
    ∧ quiescent_KernelXattnFwd (hKernelXattnFwd := hKernelXattnFwd)
    ∧ quiescent_KernelXattnFwdIdeal (hKernelXattnFwdIdeal := hKernelXattnFwdIdeal)
    ∧ quiescent_ReferenceXattnFwdIdeal (hReferenceXattnFwdIdeal := hReferenceXattnFwdIdeal)
    ∧ quiescent_KernelSbFwd (hKernelSbFwd := hKernelSbFwd)
    ∧ quiescent_KernelSbFwdIdeal (hKernelSbFwdIdeal := hKernelSbFwdIdeal)
    ∧ quiescent_KernelSbFwdIdeal_pre_finite_z (hKernelSbFwdIdeal := hKernelSbFwdIdeal) (hPre_finite_z := hPre_finite_z)
    ∧ quiescent_ReferenceSbFwdIdeal (hReferenceSbFwdIdeal := hReferenceSbFwdIdeal)
    ∧ quiescent_ReferenceSbFwdIdeal_pre_finite_z (hReferenceSbFwdIdeal := hReferenceSbFwdIdeal) (hPre_finite_z := hPre_finite_z)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNormBwd (hKernelNormBwd := hKernelNormBwd)
    ∧ quiescent_KernelNormBwdIdeal (hKernelNormBwdIdeal := hKernelNormBwdIdeal)
    ∧ quiescent_KernelNormBwdIdeal_pre_finite_norm (hKernelNormBwdIdeal := hKernelNormBwdIdeal) (hPre_finite_norm := hPre_finite_norm)
    ∧ quiescent_ReferenceNormBwdIdeal (hReferenceNormBwdIdeal := hReferenceNormBwdIdeal)
    ∧ quiescent_ReferenceNormBwdIdeal_pre_finite_norm (hReferenceNormBwdIdeal := hReferenceNormBwdIdeal) (hPre_finite_norm := hPre_finite_norm)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelAct_KernelActIdeal
    ∧ algebraic_KernelActIdeal_ReferenceActIdeal_pre_finite_out (hKernelActIdeal := hKernelActIdeal) (hReferenceActIdeal := hReferenceActIdeal) (hPre_finite_out := hPre_finite_out)
    ∧ preserves_KernelWout_KernelWoutIdeal
    ∧ algebraic_KernelWoutIdeal_ReferenceWoutIdeal (hKernelWoutIdeal := hKernelWoutIdeal) (hReferenceWoutIdeal := hReferenceWoutIdeal)
    ∧ preserves_KernelWin_KernelWinIdeal
    ∧ algebraic_KernelWinIdeal_ReferenceWinIdeal (hKernelWinIdeal := hKernelWinIdeal) (hReferenceWinIdeal := hReferenceWinIdeal)
    ∧ preserves_KernelDn_KernelDnIdeal
    ∧ algebraic_KernelDnIdeal_ReferenceDnIdeal (hKernelDnIdeal := hKernelDnIdeal) (hReferenceDnIdeal := hReferenceDnIdeal)
    ∧ preserves_KernelSqDo_KernelSqDoIdeal
    ∧ algebraic_KernelSqDoIdeal_ReferenceSqDoIdeal (hKernelSqDoIdeal := hKernelSqDoIdeal) (hReferenceSqDoIdeal := hReferenceSqDoIdeal)
    ∧ preserves_KernelSqDx_KernelSqDxIdeal
    ∧ algebraic_KernelSqDxIdeal_ReferenceSqDxIdeal (hKernelSqDxIdeal := hKernelSqDxIdeal) (hReferenceSqDxIdeal := hReferenceSqDxIdeal)
    ∧ preserves_KernelSqDw_KernelSqDwIdeal
    ∧ algebraic_KernelSqDwIdeal_ReferenceSqDwIdeal (hKernelSqDwIdeal := hKernelSqDwIdeal) (hReferenceSqDwIdeal := hReferenceSqDwIdeal)
    ∧ preserves_KernelMemDw_KernelMemDwIdeal
    ∧ algebraic_KernelMemDwIdeal_ReferenceMemDwIdeal (hKernelMemDwIdeal := hKernelMemDwIdeal) (hReferenceMemDwIdeal := hReferenceMemDwIdeal)
    ∧ preserves_KernelMemDx_KernelMemDxIdeal
    ∧ algebraic_KernelMemDxIdeal_ReferenceMemDxIdeal (hKernelMemDxIdeal := hKernelMemDxIdeal) (hReferenceMemDxIdeal := hReferenceMemDxIdeal)
    ∧ preserves_KernelMixDw_KernelMixDwIdeal
    ∧ algebraic_KernelMixDwIdeal_ReferenceMixDwIdeal (hKernelMixDwIdeal := hKernelMixDwIdeal) (hReferenceMixDwIdeal := hReferenceMixDwIdeal)
    ∧ preserves_KernelMixDx_KernelMixDxIdeal
    ∧ algebraic_KernelMixDxIdeal_ReferenceMixDxIdeal (hKernelMixDxIdeal := hKernelMixDxIdeal) (hReferenceMixDxIdeal := hReferenceMixDxIdeal)
    ∧ preserves_KernelFfnOut_KernelFfnOutIdeal
    ∧ algebraic_KernelFfnOutIdeal_ReferenceFfnOutIdeal (hKernelFfnOutIdeal := hKernelFfnOutIdeal) (hReferenceFfnOutIdeal := hReferenceFfnOutIdeal)
    ∧ preserves_KernelMixIn_KernelMixInIdeal
    ∧ algebraic_KernelMixInIdeal_ReferenceMixInIdeal (hKernelMixInIdeal := hKernelMixInIdeal) (hReferenceMixInIdeal := hReferenceMixInIdeal)
    ∧ preserves_KernelSqOut_KernelSqOutIdeal
    ∧ algebraic_KernelSqOutIdeal_ReferenceSqOutIdeal (hKernelSqOutIdeal := hKernelSqOutIdeal) (hReferenceSqOutIdeal := hReferenceSqOutIdeal)
    ∧ preserves_KernelSqQ_KernelSqQIdeal
    ∧ algebraic_KernelSqQIdeal_ReferenceSqQIdeal (hKernelSqQIdeal := hKernelSqQIdeal) (hReferenceSqQIdeal := hReferenceSqQIdeal)
    ∧ preserves_KernelMemKv_KernelMemKvIdeal
    ∧ algebraic_KernelMemKvIdeal_ReferenceMemKvIdeal (hKernelMemKvIdeal := hKernelMemKvIdeal) (hReferenceMemKvIdeal := hReferenceMemKvIdeal)
    ∧ preserves_KernelFfnInA_KernelFfnInAIdeal
    ∧ algebraic_KernelFfnInAIdeal_ReferenceFfnInAIdeal_on_first_half_pre_finite_in (hKernelFfnInAIdeal := hKernelFfnInAIdeal) (hReferenceFfnInAIdeal := hReferenceFfnInAIdeal) (hPre_finite_in := hPre_finite_in) (hOn_first_half := hOn_first_half)
    ∧ preserves_KernelFfnInB_KernelFfnInBIdeal
    ∧ algebraic_KernelFfnInBIdeal_ReferenceFfnInBIdeal_pre_finite_in_rest (hKernelFfnInBIdeal := hKernelFfnInBIdeal) (hReferenceFfnInBIdeal := hReferenceFfnInBIdeal) (hPre_finite_in_rest := hPre_finite_in_rest)
    ∧ preserves_KernelXattn_KernelXattnIdeal
    ∧ algebraic_KernelXattnIdeal_ReferenceXattnIdeal_pre_finite_x (hKernelXattnIdeal := hKernelXattnIdeal) (hReferenceXattnIdeal := hReferenceXattnIdeal) (hPre_finite_x := hPre_finite_x)
    ∧ preserves_KernelXattnFwd_KernelXattnFwdIdeal
    ∧ algebraic_KernelXattnFwdIdeal_ReferenceXattnFwdIdeal (hKernelXattnFwdIdeal := hKernelXattnFwdIdeal) (hReferenceXattnFwdIdeal := hReferenceXattnFwdIdeal)
    ∧ preserves_KernelSbFwd_KernelSbFwdIdeal
    ∧ algebraic_KernelSbFwdIdeal_ReferenceSbFwdIdeal_pre_finite_z (hKernelSbFwdIdeal := hKernelSbFwdIdeal) (hReferenceSbFwdIdeal := hReferenceSbFwdIdeal) (hPre_finite_z := hPre_finite_z)
    ∧ preserves_KernelNorm_KernelNormIdeal
    ∧ algebraic_KernelNormIdeal_ReferenceNormIdeal (hKernelNormIdeal := hKernelNormIdeal) (hReferenceNormIdeal := hReferenceNormIdeal)
    ∧ preserves_KernelNormBwd_KernelNormBwdIdeal
    ∧ algebraic_KernelNormBwdIdeal_ReferenceNormBwdIdeal_pre_finite_norm (hKernelNormBwdIdeal := hKernelNormBwdIdeal) (hReferenceNormBwdIdeal := hReferenceNormBwdIdeal) (hPre_finite_norm := hPre_finite_norm)
-- ==== On_first_half.lean ====
abbrev S2048x2048 : Shape := ⟨2, ![2048, 2048]⟩
abbrev S2048x11264 : Shape := ⟨2, ![2048, 11264]⟩
abbrev S2 : Shape := ⟨1, ![2]⟩
abbrev S5632 : Shape := ⟨1, ![5632]⟩
abbrev S_ : Shape := ⟨0, ![]⟩
abbrev S1 : Shape := ⟨1, ![1]⟩
abbrev S2x2048x5632 : Shape := ⟨3, ![2, 2048, 5632]⟩
abbrev S2048x5632 : Shape := ⟨2, ![2048, 5632]⟩

class Facts : Prop where
  bcast_S_S5632 : S_.BroadcastsInDim S5632 (![] : Fin 0 → Fin S5632.rank)
  slices_S2_S1_0 : S2.Slices ![0] S1
  shapeCasts_S1_S_ : S1.ShapeCasts S_
  bcast_S5632_S2x2048x5632_2 : S5632.BroadcastsInDim S2x2048x5632 (![2] : Fin 1 → Fin S2x2048x5632.rank)
  bcast_S5632_S2048x5632_1 : S5632.BroadcastsInDim S2048x5632 (![1] : Fin 1 → Fin S2048x5632.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S_ 32) (arg1 : IVec S_ 32) : IVec S_ 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S_ 32 := Host.remsi arg0 v2
  let c_1 : IVec S_ 32 := constantI S_ 32 0#32
  let v4 : IVec S_ 1 := cmpi .ne v3 c_1
  let c_2 : IVec S_ 32 := constantI S_ 32 0#32
  let v5 : IVec S_ 1 := cmpi .slt v3 c_2
  let c_3 : IVec S_ 32 := constantI S_ 32 0#32
  let v6 : IVec S_ 1 := cmpi .slt v2 c_3
  let v7 : IVec S_ 1 := cmpi .ne v5 v6
  let v8 : IVec S_ 1 := andi v7 v4
  let v9 : IVec S_ 32 := addi v3 v2
  let v10 : IVec S_ 32 := select v8 v9 v3
  v10

def fn {F : FTy → Type} [FloatOps F] (main_arg0 : FVec F S2048x2048 .f32) (main_arg1 : FVec F S2048x11264 .f32) (main_arg2 : IVec S2 32) : IVec S2x2048x5632 1 × IVec S2048x5632 1 :=
  let main_v0 : IVec S5632 32 := iotaInDim S5632 32 0
  let main_c : IVec S_ 32 := constantI S_ 32 2816#32
  let main_v1 : IVec S5632 32 := broadcastInDim S5632 ![] bcast_S_S5632 main_c
  let main_v2 : IVec S5632 1 := cmpi .sge main_v0 main_v1
  let main_v3 : IVec S1 32 := (extractStridedSlice S1 ![0] · slices_S2_S1_0) main_arg2
  let main_v4 : IVec S_ 32 := shapeCast S_ main_v3 shapeCasts_S1_S_
  let main_c_0 : IVec S_ 32 := constantI S_ 32 0#32
  let main_v5 : IVec S_ 32 := addi main_v4 main_c_0
  let main_c_1 : IVec S_ 32 := constantI S_ 32 2#32
  let main_v6 : IVec S_ 32 := fn_remainder (F := F) main_v5 main_c_1
  let main_c_2 : IVec S_ 32 := constantI S_ 32 1#32
  let main_v7 : IVec S_ 1 := cmpi .eq main_v6 main_c_2
  let main_v8 : IVec S5632 1 := broadcastInDim S5632 ![] bcast_S_S5632 main_v7
  let main_v9 : IVec S5632 1 := cmpi .eq main_v2 main_v8
  let main_v10 : IVec S2x2048x5632 1 := broadcastInDim S2x2048x5632 ![2] bcast_S5632_S2x2048x5632_2 main_v9
  let main_v11 : IVec S2048x5632 1 := broadcastInDim S2048x5632 ![1] bcast_S5632_S2048x5632_1 main_v9
  (main_v10, main_v11)
-- ==== Pre_finite.lean ====
abbrev S2048x5120 : Shape := ⟨2, ![2048, 5120]⟩
abbrev S2048x1024 : Shape := ⟨2, ![2048, 1024]⟩
abbrev S2048x3072 : Shape := ⟨2, ![2048, 3072]⟩
abbrev S_ : Shape := ⟨0, ![]⟩

class Facts : Prop where
  slices_S2048x5120_S2048x3072_0_2048 : S2048x5120.Slices ![0, 2048] S2048x3072
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x5120 .f32) (main_arg1 : FVec F S2048x1024 .f32) : IVec S_ 1 :=
  let main_v0 : FVec F S2048x3072 .f32 := (extractStridedSlice S2048x3072 ![0, 2048] · slices_S2048x5120_S2048x3072_0_2048) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_c : IVec S_ 1 := constantI S_ 1 1#1
  let main_v4 : IVec S_ 1 := (fun x v => Host.reduce IntOp.andi x v reducesTo_S2048x3072_S_d0_1 h_S_) main_v3 main_c
  let main_v5 : FVec F S2048x1024 .f32 := Host.absf main_arg1
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v4 main_v8
  main_v9
-- ==== Pre_finite_in.lean ====
abbrev S2048x2048 : Shape := ⟨2, ![2048, 2048]⟩
abbrev S2048x11264 : Shape := ⟨2, ![2048, 11264]⟩
abbrev S2 : Shape := ⟨1, ![2]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_

variable [Facts]

def fn {F : FTy → Type} [FloatOps F] (main_arg0 : FVec F S2048x2048 .f32) (main_arg1 : FVec F S2048x11264 .f32) (main_arg2 : IVec S2 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  main_v8
-- ==== Pre_finite_in_rest.lean ====
abbrev S2048x2048 : Shape := ⟨2, ![2048, 2048]⟩
abbrev S2048x11264 : Shape := ⟨2, ![2048, 11264]⟩
abbrev S2 : Shape := ⟨1, ![2]⟩
abbrev S2x2048x5632 : Shape := ⟨3, ![2, 2048, 5632]⟩
abbrev S2048x5632 : Shape := ⟨2, ![2048, 5632]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_

variable [Facts]

def fn {F : FTy → Type} [FloatOps F] (main_arg0 : FVec F S2048x2048 .f32) (main_arg1 : FVec F S2048x11264 .f32) (main_arg2 : IVec S2 32) (main_arg3 : FVec F S2x2048x5632 .bf16) (main_arg4 : FVec F S2048x5632 .bf16) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  main_v8
-- ==== Pre_finite_norm.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048 .f32) (main_arg2 : FVec F S2048x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_finite_out.lean ====
abbrev S2048x11264 : Shape := ⟨2, ![2048, 11264]⟩
abbrev S5632x2048 : Shape := ⟨2, ![5632, 2048]⟩
abbrev S2048x2048 : Shape := ⟨2, ![2048, 2048]⟩
abbrev S_ : Shape := ⟨0, ![]⟩

class Facts : Prop where
  bcast_S_S2048x11264 : S_.BroadcastsInDim S2048x11264 (![] : Fin 0 → Fin S2048x11264.rank)
  reducesTo_S2048x11264_S_d0_1 : S2048x11264.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x11264 .f32) (main_arg1 : FVec F S5632x2048 .f32) (main_arg2 : FVec F S2048x2048 .f32) : IVec S_ 1 :=
  let main_v0 : FVec F S2048x11264 .f32 := Host.absf main_arg0
  let main_cst : FVec F S_ .f32 := constant S_ .f32 0x7F800000#32
  let main_v1 : FVec F S2048x11264 .f32 := broadcastInDim S2048x11264 ![] bcast_S_S2048x11264 main_cst
  let main_v2 : IVec S2048x11264 1 := cmpf .olt main_v0 main_v1
  let main_c : IVec S_ 1 := constantI S_ 1 1#1
  let main_v3 : IVec S_ 1 := (fun x v => Host.reduce IntOp.andi x v reducesTo_S2048x11264_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_finite_x.lean ====
abbrev S2048x2048 : Shape := ⟨2, ![2048, 2048]⟩
abbrev S256x4096 : Shape := ⟨2, ![256, 4096]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_

variable [Facts]

def fn {F : FTy → Type} [FloatOps F] (main_arg0 : FVec F S2048x2048 .f32) (main_arg1 : FVec F S256x4096 .f32) (main_arg2 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  main_v8
-- ==== Pre_finite_z.lean ====
abbrev S2048x5120 : Shape := ⟨2, ![2048, 5120]⟩
abbrev S2048x3072 : Shape := ⟨2, ![2048, 3072]⟩
abbrev S_ : Shape := ⟨0, ![]⟩

class Facts : Prop where
  slices_S2048x5120_S2048x3072_0_2048 : S2048x5120.Slices ![0, 2048] S2048x3072
  bcast_S_S2048x3072 : S_.BroadcastsInDim S2048x3072 (![] : Fin 0 → Fin S2048x3072.rank)
  reducesTo_S2048x3072_S_d0_1 : S2048x3072.ReducesTo [0, 1] S_
  h_S_ : 0 < S_.numel

variable [Facts]

def fn {F : FTy → Type} [FloatOps F] (main_arg0 : FVec F S2048x5120 .f32) : IVec S_ 1 :=
  let main_v0 : FVec F S2048x3072 .f32 := (extractStridedSlice S2048x3072 ![0, 2048] · slices_S2048x5120_S2048x3072_0_2048) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_c : IVec S_ 1 := constantI S_ 1 1#1
  let main_v4 : IVec S_ 1 := (fun x v => Host.reduce IntOp.andi x v reducesTo_S2048x3072_S_d0_1 h_S_) main_v3 main_c
  main_v4
-- ==== Kernel.lean ====
abbrev S2048x5120 : Shape := ⟨2, ![2048, 5120]⟩
abbrev S2048x1024 : Shape := ⟨2, ![2048, 1024]⟩
abbrev S2048x3072 : Shape := ⟨2, ![2048, 3072]⟩
abbrev S2048x8x128 : Shape := ⟨3, ![2048, 8, 128]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S2x2048x1024 : Shape := ⟨3, ![2, 2048, 1024]⟩
abbrev S512x128 : Shape := ⟨2, ![512, 128]⟩
abbrev S2048x128 : Shape := ⟨2, ![2048, 128]⟩
abbrev S1x512x1 : Shape := ⟨3, ![1, 512, 1]⟩
abbrev S2x2048x128 : Shape := ⟨3, ![2, 2048, 128]⟩
abbrev S256x256 : Shape := ⟨2, ![256, 256]⟩
abbrev S512x256 : Shape := ⟨2, ![512, 256]⟩
abbrev S512x1 : Shape := ⟨2, ![512, 1]⟩
abbrev S256x128 : Shape := ⟨2, ![256, 128]⟩
abbrev S1x256x128 : Shape := ⟨3, ![1, 256, 128]⟩
abbrev S512 : Shape := ⟨1, ![512]⟩
abbrev S256x1 : Shape := ⟨2, ![256, 1]⟩

abbrev nBuf : Space → Nat
  | .hbm => 45
  | .vmem => 15
  | .smem => 0
  | _ => 0

abbrev bufTy : (tb : Table) → Fin (tcTables nBuf tb) → BufTy
  | .hbm, ⟨0, _⟩ => ⟨S2048x5120, .f32⟩
  | .hbm, ⟨1, _⟩ => ⟨S2048x1024, .f32⟩
  | .hbm, ⟨2, _⟩ => ⟨S2048x3072, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x8x128, .f32⟩
  | .hbm, ⟨7, _⟩ => ⟨S2048x8x128, .f32⟩
  | .hbm, ⟨8, _⟩ => ⟨S_, .f32⟩
  | .hbm, ⟨9, _⟩ => ⟨S2048x8x128, .f32⟩
  | .hbm, ⟨10, _⟩ => ⟨S2048x8x128, .f32⟩
  | .hbm, ⟨11, _⟩ => ⟨S8x2048x2048, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .i1⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S_, .f32⟩
  | .hbm, ⟨37, _⟩ => ⟨S8x2048x2048, .i1⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S2048x1024, .bf16⟩
  | .hbm, ⟨44, _⟩ => ⟨S2x2048x1024, .bf16⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S1x512x1, .f32⟩
  | .local _ .vmem, ⟨9, _⟩ => ⟨S1x512x1, .f32⟩
  | .local _ .vmem, ⟨10, _⟩ => ⟨S512x128, .bf16⟩
  | .local _ .vmem, ⟨11, _⟩ => ⟨S512x128, .bf16⟩
  | .local _ .vmem, ⟨12, _⟩ => ⟨S2x2048x128, .bf16⟩
  | .local _ .vmem, ⟨13, _⟩ => ⟨S2x2048x128, .bf16⟩
  | .local _ .vmem, ⟨14, _⟩ => ⟨S2x2048x128, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let c1_i32_10 : BitVec 32 := 1#32
  ⟨c0_i32_9, v32, c1_i32_10⟩
def k0_mult1 (i : grid0.Coords) (k0_t1 : Fin (k0_t1_loop i).trips) : BitVec 32 :=
  let c0_i32_9 : BitVec 32 := 0#32
  let c1_i32_10 : BitVec 32 := 1#32
  let arg10 : BitVec 32 := Scf.iv c0_i32_9 c1_i32_10 k0_t1
  let c2_i32_72 : BitVec 32 := 2#32
  let v210 : BitVec 32 := Scalar.muli arg10 c2_i32_72
  let c0_i32_73 : BitVec 32 := 0#32
  let v211 : BitVec 32 := Scalar.addi v210 c0_i32_73
  let c256_i32_74 : BitVec 32 := 256#32
  let v212 : BitVec 32 := Scalar.muli v211 c256_i32_74
  v212
def k0_off1 (i : grid0.Coords) (k0_t1 : Fin (k0_t1_loop i).trips) (c0_i32_73 : BitVec 32) : Fin 2 → Nat :=
  let c0_i32_9 : BitVec 32 := 0#32
  let c1_i32_10 : BitVec 32 := 1#32
  let arg10 : BitVec 32 := Scf.iv c0_i32_9 c1_i32_10 k0_t1
  let c2_i32_72 : BitVec 32 := 2#32
  let v210 : BitVec 32 := Scalar.muli arg10 c2_i32_72
  let v211 : BitVec 32 := Scalar.addi v210 c0_i32_73
  let c256_i32_74 : BitVec 32 := 256#32
  let v212 : BitVec 32 := Scalar.muli v211 c256_i32_74
  let v213 : BitVec 32 := v212
  let v214 : Index := Scalar.indexCast v213
  let c0_75 : Index := 0#32
  ![v214.toNat, 0]
def k0_off2 (i : grid0.Coords) (k0_t1 : Fin (k0_t1_loop i).trips) (c0_i32_73 : BitVec 32) : Fin 3 → Nat :=
  let c0_87 : Index := 0#32
  let c0_i32_9 : BitVec 32 := 0#32
  let c1_i32_10 : BitVec 32 := 1#32
  let arg10 : BitVec 32 := Scf.iv c0_i32_9 c1_i32_10 k0_t1
  let c2_i32_72 : BitVec 32 := 2#32
  let v210 : BitVec 32 := Scalar.muli arg10 c2_i32_72
  let v211 : BitVec 32 := Scalar.addi v210 c0_i32_73
  let c256_i32_74 : BitVec 32 := 256#32
  let v212 : BitVec 32 := Scalar.muli v211 c256_i32_74
  let v213 : BitVec 32 := v212
  let v258 : Index := Scalar.indexCast v213
  let c0_88 : Index := 0#32
  ![0, v258.toNat, 0]
def k0_off3 (i : grid0.Coords) (k0_t1 : Fin (k0_t1_loop i).trips) (c0_i32_73 : BitVec 32) : Fin 3 → Nat :=
  let c1_92 : Index := 1#32
  let c0_i32_9 : BitVec 32 := 0#32
  let c1_i32_10 : BitVec 32 := 1#32
  let arg10 : BitVec 32 := Scf.iv c0_i32_9 c1_i32_10 k0_t1
  let c2_i32_72 : BitVec 32 := 2#32
  let v210 : BitVec 32 := Scalar.muli arg10 c2_i32_72
  let v211 : BitVec 32 := Scalar.addi v210 c0_i32_73
  let c256_i32_74 : BitVec 32 := 256#32
  let v212 : BitVec 32 := Scalar.muli v211 c256_i32_74
  let v213 : BitVec 32 := v212
  let v267 : Index := Scalar.indexCast v213
  let c0_93 : Index := 0#32
  ![1, v267.toNat, 0]
def k0_mult2 (i : grid0.Coords) (k0_t1 : Fin (k0_t1_loop i).trips) : BitVec 32 :=
  let c0_i32_9 : BitVec 32 := 0#32
  let c1_i32_10 : BitVec 32 := 1#32
  let arg10 : BitVec 32 := Scf.iv c0_i32_9 c1_i32_10 k0_t1
  let c2_i32_99 : BitVec 32 := 2#32
  let v283 : BitVec 32 := Scalar.muli arg10 c2_i32_99
  let c1_i32_100 : BitVec 32 := 1#32
  let v284 : BitVec 32 := Scalar.addi v283 c1_i32_100
  let c256_i32_101 : BitVec 32 := 256#32
  let v285 : BitVec 32 := Scalar.muli v284 c256_i32_101
  v285
@[reducible] def k0_t2_loop (i : grid0.Coords) : Scf.Loop 32 :=
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let v29 : BitVec 32 := Scalar.addi c0_i32_9 v28
  let c1_i32_11 : BitVec 32 := 1#32
  ⟨v32, v29, c1_i32_11⟩
def k0_mult3 (i : grid0.Coords) (k0_t2 : Fin (k0_t2_loop i).trips) : BitVec 32 :=
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let c1_i32_11 : BitVec 32 := 1#32
  let arg10 : BitVec 32 := Scf.iv v32 c1_i32_11 k0_t2
  let c2_i32_72 : BitVec 32 := 2#32
  let v210 : BitVec 32 := Scalar.muli arg10 c2_i32_72
  let c0_i32_73 : BitVec 32 := 0#32
  let v211 : BitVec 32 := Scalar.addi v210 c0_i32_73
  let c256_i32_74 : BitVec 32 := 256#32
  let v212 : BitVec 32 := Scalar.muli v211 c256_i32_74
  v212
def k0_off4 (i : grid0.Coords) (k0_t2 : Fin (k0_t2_loop i).trips) (c0_i32_73 : BitVec 32) : Fin 2 → Nat :=
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let c1_i32_11 : BitVec 32 := 1#32
  let arg10 : BitVec 32 := Scf.iv v32 c1_i32_11 k0_t2
  let c2_i32_72 : BitVec 32 := 2#32
  let v210 : BitVec 32 := Scalar.muli arg10 c2_i32_72
  let v211 : BitVec 32 := Scalar.addi v210 c0_i32_73
  let c256_i32_74 : BitVec 32 := 256#32
  let v212 : BitVec 32 := Scalar.muli v211 c256_i32_74
  let v213 : BitVec 32 := v212
  let v214 : Index := Scalar.indexCast v213
  let c0_75 : Index := 0#32
  ![v214.toNat, 0]
def k0_off5 (i : grid0.Coords) (k0_t2 : Fin (k0_t2_loop i).trips) (c0_i32_73 : BitVec 32) : Fin 3 → Nat :=
  let c0_87 : Index := 0#32
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let c1_i32_11 : BitVec 32 := 1#32
  let arg10 : BitVec 32 := Scf.iv v32 c1_i32_11 k0_t2
  let c2_i32_72 : BitVec 32 := 2#32
  let v210 : BitVec 32 := Scalar.muli arg10 c2_i32_72
  let v211 : BitVec 32 := Scalar.addi v210 c0_i32_73
  let c256_i32_74 : BitVec 32 := 256#32
  let v212 : BitVec 32 := Scalar.muli v211 c256_i32_74
  let v213 : BitVec 32 := v212
  let v258 : Index := Scalar.indexCast v213
  let c0_88 : Index := 0#32
  ![0, v258.toNat, 0]
def k0_off6 (i : grid0.Coords) (k0_t2 : Fin (k0_t2_loop i).trips) (c0_i32_73 : BitVec 32) : Fin 3 → Nat :=
  let c1_92 : Index := 1#32
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let c1_i32_11 : BitVec 32 := 1#32
  let arg10 : BitVec 32 := Scf.iv v32 c1_i32_11 k0_t2
  let c2_i32_72 : BitVec 32 := 2#32
  let v210 : BitVec 32 := Scalar.muli arg10 c2_i32_72
  let v211 : BitVec 32 := Scalar.addi v210 c0_i32_73
  let c256_i32_74 : BitVec 32 := 256#32
  let v212 : BitVec 32 := Scalar.muli v211 c256_i32_74
  let v213 : BitVec 32 := v212
  let v267 : Index := Scalar.indexCast v213
  let c0_93 : Index := 0#32
  ![1, v267.toNat, 0]
def k0_mult4 (i : grid0.Coords) (k0_t2 : Fin (k0_t2_loop i).trips) : BitVec 32 :=
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let c1_i32_11 : BitVec 32 := 1#32
  let arg10 : BitVec 32 := Scf.iv v32 c1_i32_11 k0_t2
  let c2_i32_99 : BitVec 32 := 2#32
  let v283 : BitVec 32 := Scalar.muli arg10 c2_i32_99
  let c1_i32_100 : BitVec 32 := 1#32
  let v284 : BitVec 32 := Scalar.addi v283 c1_i32_100
  let c256_i32_101 : BitVec 32 := 256#32
  let v285 : BitVec 32 := Scalar.muli v284 c256_i32_101
  v285
def k0_mult5 (i : grid0.Coords) : BitVec 32 :=
  let arg1 : BitVec 32 := BitVec.ofNat 32 (i 1).val
  let c2_i32 : BitVec 32 := 2#32
  let v35 : BitVec 32 := Scalar.muli arg1 c2_i32
  let c0_i32_12 : BitVec 32 := 0#32
  let v36 : BitVec 32 := Scalar.addi v35 c0_i32_12
  let c256_i32 : BitVec 32 := 256#32
  let v37 : BitVec 32 := Scalar.muli v36 c256_i32
  v37
def k0_off7 (i : grid0.Coords) (c0_i32_12 : BitVec 32) : Fin 2 → Nat :=
  let arg1 : BitVec 32 := BitVec.ofNat 32 (i 1).val
  let c2_i32 : BitVec 32 := 2#32
  let v35 : BitVec 32 := Scalar.muli arg1 c2_i32
  let v36 : BitVec 32 := Scalar.addi v35 c0_i32_12
  let c256_i32 : BitVec 32 := 256#32
  let v37 : BitVec 32 := Scalar.muli v36 c256_i32
  let v38 : BitVec 32 := v37
  let v39 : Index := Scalar.indexCast v38
  let c0_13 : Index := 0#32
  ![v39.toNat, 0]
def k0_off8 (i : grid0.Coords) (c0_i32_12 : BitVec 32) : Fin 3 → Nat :=
  let c0_28 : Index := 0#32
  let arg1 : BitVec 32 := BitVec.ofNat 32 (i 1).val
  let c2_i32 : BitVec 32 := 2#32
  let v35 : BitVec 32 := Scalar.muli arg1 c2_i32
  let v36 : BitVec 32 := Scalar.addi v35 c0_i32_12
  let c256_i32 : BitVec 32 := 256#32
  let v37 : BitVec 32 := Scalar.muli v36 c256_i32
  let v38 : BitVec 32 := v37
  let v93 : Index := Scalar.indexCast v38
  let c0_29 : Index := 0#32
  ![0, v93.toNat, 0]
def k0_off9 (i : grid0.Coords) (c0_i32_12 : BitVec 32) : Fin 3 → Nat :=
  let c1 : Index := 1#32
  let arg1 : BitVec 32 := BitVec.ofNat 32 (i 1).val
  let c2_i32 : BitVec 32 := 2#32
  let v35 : BitVec 32 := Scalar.muli arg1 c2_i32
  let v36 : BitVec 32 := Scalar.addi v35 c0_i32_12
  let c256_i32 : BitVec 32 := 256#32
  let v37 : BitVec 32 := Scalar.muli v36 c256_i32
  let v38 : BitVec 32 := v37
  let v102 : Index := Scalar.indexCast v38
  let c0_33 : Index := 0#32
  ![1, v102.toNat, 0]
def k0_mult6 (i : grid0.Coords) : BitVec 32 :=
  let arg1 : BitVec 32 := BitVec.ofNat 32 (i 1).val
  let c2_i32_39 : BitVec 32 := 2#32
  let v118 : BitVec 32 := Scalar.muli arg1 c2_i32_39
  let c1_i32_40 : BitVec 32 := 1#32
  let v119 : BitVec 32 := Scalar.addi v118 c1_i32_40
  let c256_i32_41 : BitVec 32 := 256#32
  let v125 : BitVec 32 := Scalar.muli v119 c256_i32_41
  v125
def k0_cond2 (i : grid0.Coords) : BitVec 1 :=
  let arg1 : BitVec 32 := BitVec.ofNat 32 (i 1).val
  let c3_i32 : BitVec 32 := 3#32
  let v207 : BitVec 1 := Scalar.cmpi .eq arg1 c3_i32
  let v208 : BitVec 32 := Scalar.extui v207
  let c0_i32_71 : BitVec 32 := 0#32
  let v209 : BitVec 1 := Scalar.cmpi .ne v208 c0_i32_71
  v209

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x5120 : Shape := ⟨2, ![2048, 5120]⟩
abbrev S2048x1024 : Shape := ⟨2, ![2048, 1024]⟩
abbrev S2048x3072 : Shape := ⟨2, ![2048, 3072]⟩
abbrev S2048x8x128 : Shape := ⟨3, ![2048, 8, 128]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S8x2048x128 : Shape := ⟨3, ![8, 2048, 128]⟩
abbrev S1x2048x1024 : Shape := ⟨3, ![1, 2048, 1024]⟩
abbrev S2x2048x1024 : Shape := ⟨3, ![2, 2048, 1024]⟩

abbrev nBuf : Space → Nat
  | .hbm => 186
  | .vmem => 0
  | .smem => 0
  | _ => 0

abbrev hbmTy0_0 (i : Nat) : BufTy := match i % 128 with
  | 0 => ⟨S2048x5120, .f32⟩
  | 1 => ⟨S2048x1024, .f32⟩
  | 2 => ⟨S2048x3072, .f32⟩
  | 3 => ⟨S2048x1024, .f32⟩
  | 4 => ⟨S2048x1024, .f32⟩
  | 5 => ⟨S2048x1024, .f32⟩
  | 6 => ⟨S2048x8x128, .f32⟩
  | 7 => ⟨S2048x8x128, .f32⟩
  | 8 => ⟨S2048x8x128, .f32⟩
  | 9 => ⟨S_, .f32⟩
  | 10 => ⟨S2048x8x128, .f32⟩
  | 11 => ⟨S2048x8x128, .f32⟩
  | 12 => ⟨S8x2048x2048, .f32⟩
  | 13 => ⟨S2048, .i32⟩
  | 14 => ⟨S1x2048, .i32⟩
  | 15 => ⟨S2048x1, .i32⟩
  | 16 => ⟨S2048x2048, .i32⟩
  | 17 => ⟨S2048x2048, .i32⟩
  | 18 => ⟨S2048x2048, .i1⟩
  | 19 => ⟨S8x2048x2048, .f32⟩
  | 20 => ⟨S_, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .i1⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S_, .f32⟩
  | 35 => ⟨S8x2048x2048, .f32⟩
  | 36 => ⟨S8x2048x2048, .i1⟩
  | 37 => ⟨S_, .f32⟩
  | 38 => ⟨S8x2048x2048, .f32⟩
  | 39 => ⟨S8x2048x2048, .f32⟩
  | 40 => ⟨S_, .f32⟩
  | 41 => ⟨S8x2048x2048, .f32⟩
  | 42 => ⟨S8x2048x2048, .i1⟩
  | 43 => ⟨S_, .f32⟩
  | 44 => ⟨S8x2048x2048, .f32⟩
  | 45 => ⟨S8x2048x2048, .f32⟩
  | 46 => ⟨S8x2048x2048, .f32⟩
  | 47 => ⟨S8x2048x2048, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x2048x2048, .f32⟩
  | 56 => ⟨S8x2048x2048, .i1⟩
  | 57 => ⟨S_, .f32⟩
  | 58 => ⟨S8x2048x2048, .f32⟩
  | 59 => ⟨S8x2048x2048, .f32⟩
  | 60 => ⟨S8x2048x2048, .f32⟩
  | 61 => ⟨S8x2048x2048, .f32⟩
  | 62 => ⟨S8x2048x2048, .f32⟩
  | 63 => ⟨S_, .f32⟩
  | 64 => ⟨S8x2048x2048, .f32⟩
  | 65 => ⟨S8x2048x2048, .f32⟩
  | 66 => ⟨S8x2048x2048, .f32⟩
  | 67 => ⟨S8x2048x2048, .f32⟩
  | 68 => ⟨S8x2048x2048, .f32⟩
  | 69 => ⟨S_, .f32⟩
  | 70 => ⟨S8x2048x2048, .f32⟩
  | 71 => ⟨S8x2048x2048, .f32⟩
  | 72 => ⟨S8x2048x2048, .f32⟩
  | 73 => ⟨S8x2048x2048, .f32⟩
  | 74 => ⟨S8x2048x2048, .i1⟩
  | 75 => ⟨S8x2048x2048, .f32⟩
  | 76 => ⟨S8x2048x2048, .f32⟩
  | 77 => ⟨S8x2048x2048, .f32⟩
  | 78 => ⟨S8x2048x2048, .f32⟩
  | 79 => ⟨S8x2048x2048, .f32⟩
  | 80 => ⟨S8x2048x2048, .f32⟩
  | 81 => ⟨S8x2048x2048, .f32⟩
  | 82 => ⟨S8x2048x2048, .f32⟩
  | 83 => ⟨S_, .f32⟩
  | 84 => ⟨S8x2048x2048, .f32⟩
  | 85 => ⟨S8x2048x2048, .i1⟩
  | 86 => ⟨S_, .f32⟩
  | 87 => ⟨S8x2048x2048, .f32⟩
  | 88 => ⟨S8x2048x2048, .f32⟩
  | 89 => ⟨S_, .f32⟩
  | 90 => ⟨S8x2048x2048, .f32⟩
  | 91 => ⟨S8x2048x2048, .i1⟩
  | 92 => ⟨S_, .f32⟩
  | 93 => ⟨S8x2048x2048, .f32⟩
  | 94 => ⟨S8x2048x2048, .f32⟩
  | 95 => ⟨S8x2048x2048, .f32⟩
  | 96 => ⟨S8x2048x2048, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S8x2048x2048, .f32⟩
  | 105 => ⟨S8x2048x2048, .i1⟩
  | 106 => ⟨S_, .f32⟩
  | 107 => ⟨S8x2048x2048, .f32⟩
  | 108 => ⟨S8x2048x2048, .f32⟩
  | 109 => ⟨S8x2048x2048, .f32⟩
  | 110 => ⟨S8x2048x2048, .f32⟩
  | 111 => ⟨S8x2048x2048, .f32⟩
  | 112 => ⟨S_, .f32⟩
  | 113 => ⟨S8x2048x2048, .f32⟩
  | 114 => ⟨S8x2048x2048, .f32⟩
  | 115 => ⟨S8x2048x2048, .f32⟩
  | 116 => ⟨S_, .f32⟩
  | 117 => ⟨S_, .f32⟩
  | 118 => ⟨S8x2048x2048, .i1⟩
  | 119 => ⟨S8x2048x2048, .f32⟩
  | 120 => ⟨S8x2048x2048, .f32⟩
  | 121 => ⟨S_, .f32⟩
  | 122 => ⟨S8x2048x2048, .f32⟩
  | 123 => ⟨S_, .f32⟩
  | 124 => ⟨S_, .f32⟩
  | 125 => ⟨S8x2048x2048, .f32⟩
  | 126 => ⟨S8x2048x2048, .f32⟩
  | 127 => ⟨S8x2048x2048, .f32⟩
  | _ => ⟨S2048x5120, .f32⟩

abbrev hbmTy0_1 (i : Nat) : BufTy := match i % 128 with
  | 0 => ⟨S8x2048x2048, .f32⟩
  | 1 => ⟨S_, .f32⟩
  | 2 => ⟨S_, .f32⟩
  | 3 => ⟨S8x2048x2048, .i1⟩
  | 4 => ⟨S8x2048x2048, .f32⟩
  | 5 => ⟨S8x2048x2048, .f32⟩
  | 6 => ⟨S_, .f32⟩
  | 7 => ⟨S8x2048x2048, .f32⟩
  | 8 => ⟨S8x128x2048, .f32⟩
  | 9 => ⟨S2048x8x128, .f32⟩
  | 10 => ⟨S2048x1024, .f32⟩
  | 11 => ⟨S2048x8x128, .f32⟩
  | 12 => ⟨S8x128x2048, .f32⟩
  | 13 => ⟨S8x2048x2048, .f32⟩
  | 14 => ⟨S8x128x2048, .f32⟩
  | 15 => ⟨S2048x8x128, .f32⟩
  | 16 => ⟨S_, .f32⟩
  | 17 => ⟨S8x2048x2048, .f32⟩
  | 18 => ⟨S8x2048x2048, .f32⟩
  | 19 => ⟨S8x2048x2048, .f32⟩
  | 20 => ⟨S8x2048x2048, .f32⟩
  | 21 => ⟨S_, .f32⟩
  | 22 => ⟨S_, .f32⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x128, .f32⟩
  | 37 => ⟨S2048x8x128, .f32⟩
  | 38 => ⟨S8x2048x128, .f32⟩
  | 39 => ⟨S2048x8x128, .f32⟩
  | 40 => ⟨S_, .f32⟩
  | 41 => ⟨S2048x8x128, .f32⟩
  | 42 => ⟨S2048x8x128, .f32⟩
  | 43 => ⟨S2048x1024, .f32⟩
  | 44 => ⟨S2048x1024, .f32⟩
  | 45 => ⟨S2048x1024, .f32⟩
  | 46 => ⟨S2048x3072, .f32⟩
  | 47 => ⟨S_, .f32⟩
  | 48 => ⟨S2048x5120, .f32⟩
  | 49 => ⟨S2048x3072, .f32⟩
  | 50 => ⟨S2048x1024, .f32⟩
  | 51 => ⟨S2048x1024, .f32⟩
  | 52 => ⟨S2048x1024, .f32⟩
  | 53 => ⟨S2048x1024, .bf16⟩
  | 54 => ⟨S1x2048x1024, .f32⟩
  | 55 => ⟨S1x2048x1024, .f32⟩
  | 56 => ⟨S2x2048x1024, .f32⟩
  | 57 => ⟨S2x2048x1024, .bf16⟩
  | _ => ⟨S2048x5120, .f32⟩

abbrev hbmTy (i : Nat) : BufTy := match i / 128 with
  | 0 => hbmTy0_0 i
  | 1 => hbmTy0_1 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_v17 : Ref sig .tc := ⟨.hbm, 67, rfl⟩
abbrev main_call1_v0 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_v4 : Ref sig .tc := ⟨.hbm, 74, rfl⟩
abbrev main_call1_call0_v5 : Ref sig .tc := ⟨.hbm, 75, rfl⟩
abbrev main_call1_call0_v6 : Ref sig .tc := ⟨.hbm, 76, rfl⟩
abbrev main_call1_call0_v7 : Ref sig .tc := ⟨.hbm, 77, rfl⟩
abbrev main_call1_call0_v8 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_v1_0 : Ref sig .tc := ⟨.hbm, 82, rfl⟩
abbrev main_call1_call0_cst_0 : Ref sig .tc := ⟨.hbm, 83, rfl⟩
abbrev main_call1_call0_v13 : Ref sig .tc := ⟨.hbm, 84, rfl⟩
abbrev main_call1_call0_v14 : Ref sig .tc := ⟨.hbm, 85, rfl⟩
abbrev main_call1_call0_cst_1 : Ref sig .tc := ⟨.hbm, 86, rfl⟩
abbrev main_call1_call0_v15 : Ref sig .tc := ⟨.hbm, 87, rfl⟩
abbrev main_call1_call0_v16 : Ref sig .tc := ⟨.hbm, 88, rfl⟩
abbrev main_call1_call0_cst_2 : Ref sig .tc := ⟨.hbm, 89, rfl⟩
abbrev main_call1_call0_v17 : Ref sig .tc := ⟨.hbm, 90, rfl⟩
abbrev main_call1_call0_v18 : Ref sig .tc := ⟨.hbm, 91, rfl⟩
abbrev main_call1_call0_cst_3 : Ref sig .tc := ⟨.hbm, 92, rfl⟩
abbrev main_call1_call0_v19 : Ref sig .tc := ⟨.hbm, 93, rfl⟩
abbrev main_call1_call0_v20 : Ref sig .tc := ⟨.hbm, 94, rfl⟩
abbrev main_call1_call0_v21 : Ref sig .tc := ⟨.hbm, 95, rfl⟩
abbrev main_v18_1 : Ref sig .tc := ⟨.hbm, 96, rfl⟩
abbrev main_call1_call0_cst_4 : Ref sig .tc := ⟨.hbm, 97, rfl⟩
abbrev main_call1_call0_cst_5 : Ref sig .tc := ⟨.hbm, 98, rfl⟩
abbrev main_call1_call0_v23 : Ref sig .tc := ⟨.hbm, 99, rfl⟩
abbrev main_call1_call0_cst_6 : Ref sig .tc := ⟨.hbm, 100, rfl⟩
abbrev main_call1_call0_cst_7 : Ref sig .tc := ⟨.hbm, 101, rfl⟩
abbrev main_call1_call0_v24 : Ref sig .tc := ⟨.hbm, 102, rfl⟩
abbrev main_call1_call0_cst_8 : Ref sig .tc := ⟨.hbm, 103, rfl⟩
abbrev main_call1_call0_v25 : Ref sig .tc := ⟨.hbm, 104, rfl⟩
abbrev main_call1_call0_v26 : Ref sig .tc := ⟨.hbm, 105, rfl⟩
abbrev main_call1_call0_cst_9 : Ref sig .tc := ⟨.hbm, 106, rfl⟩
abbrev main_call1_call0_v27 : Ref sig .tc := ⟨.hbm, 107, rfl⟩
abbrev main_call1_call0_v28 : Ref sig .tc := ⟨.hbm, 108, rfl⟩
abbrev main_call1_call0_v29 : Ref sig .tc := ⟨.hbm, 109, rfl⟩
abbrev main_call1_call0_v30 : Ref sig .tc := ⟨.hbm, 110, rfl⟩
abbrev main_call1_call0_v31 : Ref sig .tc := ⟨.hbm, 111, rfl⟩
abbrev main_call1_call0_cst_10 : Ref sig .tc := ⟨.hbm, 112, rfl⟩
abbrev main_call1_call0_v32 : Ref sig .tc := ⟨.hbm, 113, rfl⟩
abbrev main_v18_2 : Ref sig .tc := ⟨.hbm, 114, rfl⟩
abbrev main_v18_0 : Ref sig .tc := ⟨.hbm, 115, rfl⟩
abbrev main_cst_0 : Ref sig .tc := ⟨.hbm, 116, rfl⟩
abbrev main_call2_v0 : Ref sig .tc := ⟨.hbm, 117, rfl⟩
abbrev main_v19_1 : Ref sig .tc := ⟨.hbm, 118, rfl⟩
abbrev main_call2_v2 : Ref sig .tc := ⟨.hbm, 119, rfl⟩
abbrev main_v19_0 : Ref sig .tc := ⟨.hbm, 120, rfl⟩
abbrev main_call2_cst : Ref sig .tc := ⟨.hbm, 121, rfl⟩
abbrev main_v19_2 : Ref sig .tc := ⟨.hbm, 122, rfl⟩
abbrev main_call3_cst : Ref sig .tc := ⟨.hbm, 123, rfl⟩
abbrev main_call3_v0 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_call6_cst : Ref sig .tc := ⟨.hbm, 149, rfl⟩
abbrev main_call6_v0 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_call8_v0 : Ref sig .tc := ⟨.hbm, 156, rfl⟩
abbrev main_call8_v1 : Ref sig .tc := ⟨.hbm, 157, rfl⟩
abbrev main_v39 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_cst_3 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩

abbrev nD : Nat := 1
abbrev τ : Topo := Topo.v7x

variable {F : FTy → Type} [FloatOps F]
-- ==== KernelAct.lean ====
abbrev S2048x11264 : Shape := ⟨2, ![2048, 11264]⟩
abbrev S5632x2048 : Shape := ⟨2, ![5632, 2048]⟩
abbrev S2048x2048 : Shape := ⟨2, ![2048, 2048]⟩
abbrev S2048x5632 : Shape := ⟨2, ![2048, 5632]⟩
abbrev S_ : Shape := ⟨0, ![]⟩
abbrev S1x2048x5632 : Shape := ⟨3, ![1, 2048, 5632]⟩
abbrev S2x2048x5632 : Shape := ⟨3, ![2, 2048, 5632]⟩
abbrev S4x1408x2048 : Shape := ⟨3, ![4, 1408, 2048]⟩
abbrev S1x2048x2048 : Shape := ⟨3, ![1, 2048, 2048]⟩
abbrev S1x512x2048 : Shape := ⟨3, ![1, 512, 2048]⟩
abbrev S1x1408x2048 : Shape := ⟨3, ![1, 1408, 2048]⟩
abbrev S2x512x1408 : Shape := ⟨3, ![2, 512, 1408]⟩
abbrev S512x2048 : Shape := ⟨2, ![512, 2048]⟩
abbrev S1408x2048 : Shape := ⟨2, ![1408, 2048]⟩
abbrev S512x1408 : Shape := ⟨2, ![512, 1408]⟩
abbrev S1x512x1408 : Shape := ⟨3, ![1, 512, 1408]⟩

abbrev nBuf : Space → Nat
  | .hbm => 32
  | .vmem => 8
  | .smem => 0
  | _ => 0

abbrev bufTy : (tb : Table) → Fin (tcTables nBuf tb) → BufTy
  | .hbm, ⟨0, _⟩ => ⟨S2048x11264, .f32⟩
  | .hbm, ⟨1, _⟩ => ⟨S5632x2048, .f32⟩
  | .hbm, ⟨2, _⟩ => ⟨S2048x2048, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S1x2048x5632, .f32⟩
  | .hbm, ⟨24, _⟩ => ⟨S1x2048x5632, .f32⟩
  | .hbm, ⟨25, _⟩ => ⟨S2x2048x5632, .f32⟩
  | .hbm, ⟨26, _⟩ => ⟨S2x2048x5632, .bf16⟩
  | .hbm, ⟨27, _⟩ => ⟨S4x1408x2048, .f32⟩
  | .hbm, ⟨28, _⟩ => ⟨S4x1408x2048, .bf16⟩
  | .hbm, ⟨29, _⟩ => ⟨S2048x2048, .bf16⟩
  | .hbm, ⟨30, _⟩ => ⟨S1x2048x2048, .bf16⟩
  | .hbm, ⟨31, _⟩ => ⟨S2x2048x5632, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceActIdeal.lean ====
abbrev S2048x11264 : Shape := ⟨2, ![2048, 11264]⟩
abbrev S5632x2048 : Shape := ⟨2, ![5632, 2048]⟩
abbrev S2048x2048 : Shape := ⟨2, ![2048, 2048]⟩
abbrev S2048x5632 : Shape := ⟨2, ![2048, 5632]⟩
abbrev S_ : Shape := ⟨0, ![]⟩
abbrev S1x2048x5632 : Shape := ⟨3, ![1, 2048, 5632]⟩
abbrev S2x2048x5632 : Shape := ⟨3, ![2, 2048, 5632]⟩

abbrev nBuf : Space → Nat
  | .hbm => 42
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S5632x2048, .f32⟩
  | .hbm, ⟨2, _⟩ => ⟨S2048x2048, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x5632, .f32⟩
  | .hbm, ⟨27, _⟩ => ⟨S5632x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x11264, .f32⟩
  | .hbm, ⟨36, _⟩ => ⟨S2048x5632, .f32⟩
  | .hbm, ⟨37, _⟩ => ⟨S2048x5632, .f32⟩
  | .hbm, ⟨38, _⟩ => ⟨S1x2048x5632, .f32⟩
  | .hbm, ⟨39, _⟩ => ⟨S1x2048x5632, .f32⟩
  | .hbm, ⟨40, _⟩ => ⟨S2x2048x5632, .f32⟩
  | .hbm, ⟨41, _⟩ => ⟨S2x2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== KernelWout.lean ====
abbrev S2048x11264 : Shape := ⟨2, ![2048, 11264]⟩
abbrev S5632x2048 : Shape := ⟨2, ![5632, 2048]⟩
abbrev S2048x2048 : Shape := ⟨2, ![2048, 2048]⟩
abbrev S2048x5632 : Shape := ⟨2, ![2048, 5632]⟩
abbrev S_ : Shape := ⟨0, ![]⟩
abbrev S1x2048x5632 : Shape := ⟨3, ![1, 2048, 5632]⟩
abbrev S1x2048x2048 : Shape := ⟨3, ![1, 2048, 2048]⟩
abbrev S4x1408x2048 : Shape := ⟨3, ![4, 1408, 2048]⟩
abbrev S1x2048x1408 : Shape := ⟨3, ![1, 2048, 1408]⟩
abbrev S1x2048x512 : Shape := ⟨3, ![1, 2048, 512]⟩
abbrev S1x1408x512 : Shape := ⟨3, ![1, 1408, 512]⟩
abbrev S1408x2048 : Shape := ⟨2, ![1408, 2048]⟩
abbrev S1x2048x128 : Shape := ⟨3, ![1, 2048, 128]⟩
abbrev S2048x128 : Shape := ⟨2, ![2048, 128]⟩
abbrev S128x2048 : Shape := ⟨2, ![128, 2048]⟩
abbrev S2048x512 : Shape := ⟨2, ![2048, 512]⟩
abbrev S1408x512 : Shape := ⟨2, ![1408, 512]⟩

abbrev nBuf : Space → Nat
  | .hbm => 20
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S5632x2048, .f32⟩
  | .hbm, ⟨2, _⟩ => ⟨S2048x2048, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .bf16⟩
  | .hbm, ⟨16, _⟩ => ⟨S1x2048x5632, .bf16⟩
  | .hbm, ⟨17, _⟩ => ⟨S2048x2048, .bf16⟩
  | .hbm, ⟨18, _⟩ => ⟨S1x2048x2048, .bf16⟩
  | .hbm, ⟨19, _⟩ => ⟨S4x1408x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1408x512, .bf16⟩
  | .local _ .vmem, ⟨5, _⟩ => ⟨S1x1408x512, .bf16⟩
  | .local _ .vmem, ⟨6, _⟩ => ⟨S1408x2048, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWoutIdeal.lean ====
abbrev S2048x11264 : Shape := ⟨2, ![2048, 11264]⟩
abbrev S5632x2048 : Shape := ⟨2, ![5632, 2048]⟩
abbrev S2048x2048 : Shape := ⟨2, ![2048, 2048]⟩
abbrev S2048x5632 : Shape := ⟨2, ![2048, 5632]⟩
abbrev S_ : Shape := ⟨0, ![]⟩
abbrev S4x1408x2048 : Shape := ⟨3, ![4, 1408, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S5632x2048, .f32⟩
  | .hbm, ⟨2, _⟩ => ⟨S2048x2048, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x5632, .f32⟩
  | .hbm, ⟨27, _⟩ => ⟨S5632x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x11264, .f32⟩
  | .hbm, ⟨36, _⟩ => ⟨S4x1408x2048, .f32⟩
  | .hbm, ⟨37, _⟩ => ⟨S4x1408x2048, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== KernelWin.lean ====
abbrev S2048x2048 : Shape := ⟨2, ![2048, 2048]⟩
abbrev S2048x11264 : Shape := ⟨2, ![2048, 11264]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S1x2048x2048 : Shape := ⟨3, ![1, 2048, 2048]⟩
abbrev S4x2048x2816 : Shape := ⟨3, ![4, 2048, 2816]⟩
abbrev S1x2048x1024 : Shape := ⟨3, ![1, 2048, 1024]⟩
abbrev S1x2048x1408 : Shape := ⟨3, ![1, 2048, 1408]⟩
abbrev S1x1024x1408 : Shape := ⟨3, ![1, 1024, 1408]⟩
abbrev S1024x2048 : Shape := ⟨2, ![1024, 2048]⟩
abbrev S1x2048x256 : Shape := ⟨3, ![1, 2048, 256]⟩
abbrev S2048x256 : Shape := ⟨2, ![2048, 256]⟩
abbrev S256x2048 : Shape := ⟨2, ![256, 2048]⟩
abbrev S2048x1408 : Shape := ⟨2, ![2048, 1408]⟩
abbrev S1024x1408 : Shape := ⟨2, ![1024, 1408]⟩

abbrev nBuf : Space → Nat
  | .hbm => 12
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x5632, .f32⟩
  | .hbm, ⟨4, _⟩ => ⟨S2048x5632, .f32⟩
  | .hbm, ⟨5, _⟩ => ⟨S1x2048x5632, .f32⟩
  | .hbm, ⟨6, _⟩ => ⟨S1x2048x5632, .f32⟩
  | .hbm, ⟨7, _⟩ => ⟨S2x2048x5632, .f32⟩
  | .hbm, ⟨8, _⟩ => ⟨S2x2048x5632, .bf16⟩
  | .hbm, ⟨9, _⟩ => ⟨S2048x2048, .bf16⟩
  | .hbm, ⟨10, _⟩ => ⟨S1x2048x2048, .bf16⟩
  | .hbm, ⟨11, _⟩ => ⟨S4x2048x2816, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWinIdeal.lean ====
abbrev S2048x2048 : Shape := ⟨2, ![2048, 2048]⟩
abbrev S2048x11264 : Shape := ⟨2, ![2048, 11264]⟩
abbrev S11264x2048 : Shape := ⟨2, ![11264, 2048]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x11264, .f32⟩
  | .hbm, ⟨4, _⟩ => ⟨S11264x2048, .f32⟩
  | .hbm, ⟨5, _⟩ => ⟨S2048x11264, .f32⟩
  | .hbm, ⟨6, _⟩ => ⟨S2048x2048, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S1x2048x2816, .f32⟩
  | .hbm, ⟨12, _⟩ => ⟨S1x2048x2816, .f32⟩
  | .hbm, ⟨13, _⟩ => ⟨S1x2048x2816, .f32⟩
  | .hbm, ⟨14, _⟩ => ⟨S1x2048x2816, .f32⟩
  | .hbm, ⟨15, _⟩ => ⟨S4x2048x2816, .f32⟩
  | .hbm, ⟨16, _⟩ => ⟨S4x2048x2816, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== KernelDn.lean ====
abbrev S2048x2048 : Shape := ⟨2, ![2048, 2048]⟩
abbrev S2048x11264 : Shape := ⟨2, ![2048, 11264]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S2048x2816 : Shape := ⟨2, ![2048, 2816]⟩
abbrev S1x2048x2816 : Shape := ⟨3, ![1, 2048, 2816]⟩
abbrev S4x2048x2816 : Shape := ⟨3, ![4, 2048, 2816]⟩
abbrev S1x2048x2048 : Shape := ⟨3, ![1, 2048, 2048]⟩
abbrev S1x1024x2816 : Shape := ⟨3, ![1, 1024, 2816]⟩
abbrev S1x1024x1024 : Shape := ⟨3, ![1, 1024, 1024]⟩
abbrev S1024x1024 : Shape := ⟨2, ![1024, 1024]⟩
abbrev S1024x2816 : Shape := ⟨2, ![1024, 2816]⟩

abbrev nBuf : Space → Nat
  | .hbm => 20
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x5632, .f32⟩
  | .hbm, ⟨4, _⟩ => ⟨S2048x5632, .f32⟩
  | .hbm, ⟨5, _⟩ => ⟨S1x2048x5632, .f32⟩
  | .hbm, ⟨6, _⟩ => ⟨S1x2048x5632, .f32⟩
  | .hbm, ⟨7, _⟩ => ⟨S2x2048x5632, .f32⟩
  | .hbm, ⟨8, _⟩ => ⟨S2x2048x5632, .bf16⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S1x2048x2816, .f32⟩
  | .hbm, ⟨14, _⟩ => ⟨S1x2048x2816, .f32⟩
  | .hbm, ⟨15, _⟩ => ⟨S1x2048x2816, .f32⟩
  | .hbm, ⟨16, _⟩ => ⟨S1x2048x2816, .f32⟩
  | .hbm, ⟨17, _⟩ => ⟨S4x2048x2816, .f32⟩
  | .hbm, ⟨18, _⟩ => ⟨S4x2048x2816, .bf16⟩
  | .hbm, ⟨19, _⟩ => ⟨S1x2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDnIdeal.lean ====
abbrev S2048x2048 : Shape := ⟨2, ![2048, 2048]⟩
abbrev S2048x11264 : Shape := ⟨2, ![2048, 11264]⟩
abbrev S11264x2048 : Shape := ⟨2, ![11264, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x11264, .f32⟩
  | .hbm, ⟨4, _⟩ => ⟨S11264x2048, .f32⟩
  | .hbm, ⟨5, _⟩ => ⟨S2048x11264, .f32⟩
  | .hbm, ⟨6, _⟩ => ⟨S2048x2048, .f32⟩
  | .hbm, ⟨7, _⟩ => ⟨S1x2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelSqDo.lean ====
abbrev S2048x2048 : Shape := ⟨2, ![2048, 2048]⟩
abbrev S1x2048x2048 : Shape := ⟨3, ![1, 2048, 2048]⟩
abbrev S4x512x2048 : Shape := ⟨3, ![4, 512, 2048]⟩
abbrev S1x512x2048 : Shape := ⟨3, ![1, 512, 2048]⟩
abbrev S512x2048 : Shape := ⟨2, ![512, 2048]⟩

abbrev nBuf : Space → Nat
  | .hbm => 8
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S1x2048x2048, .bf16⟩
  | .hbm, ⟨5, _⟩ => ⟨S4x512x2048, .f32⟩
  | .hbm, ⟨6, _⟩ => ⟨S4x512x2048, .bf16⟩
  | .hbm, ⟨7, _⟩ => ⟨S1x2048x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S4x512x2048, .bf16⟩
  | .local _ .vmem, ⟨3, _⟩ => ⟨S1x512x2048, .bf16⟩
  | .local _ .vmem, ⟨4, _⟩ => ⟨S1x512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSqDoIdeal.lean ====
abbrev S2048x2048 : Shape := ⟨2, ![2048, 2048]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048x2048, .f32⟩
  | .hbm, ⟨8, _⟩ => ⟨S1x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelSqDx.lean ====
abbrev S2048x2048 : Shape := ⟨2, ![2048, 2048]⟩
abbrev S1x2048x2048 : Shape := ⟨3, ![1, 2048, 2048]⟩
abbrev S4x512x2048 : Shape := ⟨3, ![4, 512, 2048]⟩
abbrev S1x512x2048 : Shape := ⟨3, ![1, 512, 2048]⟩
abbrev S512x2048 : Shape := ⟨2, ![512, 2048]⟩

abbrev nBuf : Space → Nat
  | .hbm => 8
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S1x2048x2048, .bf16⟩
  | .hbm, ⟨5, _⟩ => ⟨S4x512x2048, .f32⟩
  | .hbm, ⟨6, _⟩ => ⟨S4x512x2048, .bf16⟩
  | .hbm, ⟨7, _⟩ => ⟨S1x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S4x512x2048, .bf16⟩
  | .local _ .vmem, ⟨3, _⟩ => ⟨S1x512x2048, .f32⟩
  | .local _ .vmem, ⟨4, _⟩ => ⟨S1x512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSqDxIdeal.lean ====
abbrev S2048x2048 : Shape := ⟨2, ![2048, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelSqDw.lean ====
abbrev S2048x2048 : Shape := ⟨2, ![2048, 2048]⟩
abbrev S1x2048x2048 : Shape := ⟨3, ![1, 2048, 2048]⟩
abbrev S4x512x2048 : Shape := ⟨3, ![4, 512, 2048]⟩
abbrev S1x2048x512 : Shape := ⟨3, ![1, 2048, 512]⟩
abbrev S1x2048x1024 : Shape := ⟨3, ![1, 2048, 1024]⟩
abbrev S1x512x1024 : Shape := ⟨3, ![1, 512, 1024]⟩
abbrev S512x2048 : Shape := ⟨2, ![512, 2048]⟩
abbrev S1x2048x256 : Shape := ⟨3, ![1, 2048, 256]⟩
abbrev S2048x256 : Shape := ⟨2, ![2048, 256]⟩
abbrev S256x2048 : Shape := ⟨2, ![256, 2048]⟩
abbrev S2048x1024 : Shape := ⟨2, ![2048, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S1x2048x2048, .bf16⟩
  | .hbm, ⟨5, _⟩ => ⟨S2048x2048, .bf16⟩
  | .hbm, ⟨6, _⟩ => ⟨S1x2048x2048, .bf16⟩
  | .hbm, ⟨7, _⟩ => ⟨S4x512x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSqDwIdeal.lean ====
abbrev S2048x2048 : Shape := ⟨2, ![2048, 2048]⟩
abbrev S4x512x2048 : Shape := ⟨3, ![4, 512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S4x512x2048, .f32⟩
  | .hbm, ⟨8, _⟩ => ⟨S4x512x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMemDw.lean ====
abbrev S256x2048 : Shape := ⟨2, ![256, 2048]⟩
abbrev S2048x4096 : Shape := ⟨2, ![2048, 4096]⟩
abbrev S256x4096 : Shape := ⟨2, ![256, 4096]⟩
abbrev S1x256x2048 : Shape := ⟨3, ![1, 256, 2048]⟩
abbrev S2x256x2048 : Shape := ⟨3, ![2, 256, 2048]⟩
abbrev S4x2048x1024 : Shape := ⟨3, ![4, 2048, 1024]⟩
abbrev S1x256x1024 : Shape := ⟨3, ![1, 256, 1024]⟩
abbrev S1x1024x1024 : Shape := ⟨3, ![1, 1024, 1024]⟩
abbrev S1024x256 : Shape := ⟨2, ![1024, 256]⟩
abbrev S1x256x256 : Shape := ⟨3, ![1, 256, 256]⟩
abbrev S256x256 : Shape := ⟨2, ![256, 256]⟩
abbrev S256x1024 : Shape := ⟨2, ![256, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048x4096, .f32⟩
  | .hbm, ⟨2, _⟩ => ⟨S256x4096, .f32⟩
  | .hbm, ⟨3, _⟩ => ⟨S256x2048, .f32⟩
  | .hbm, ⟨4, _⟩ => ⟨S256x2048, .f32⟩
  | .hbm, ⟨5, _⟩ => ⟨S1x256x2048, .f32⟩
  | .hbm, ⟨6, _⟩ => ⟨S1x256x2048, .f32⟩
  | .hbm, ⟨7, _⟩ => ⟨S2x256x2048, .f32⟩
  | .hbm, ⟨8, _⟩ => ⟨S256x2048, .bf16⟩
  | .hbm, ⟨9, _⟩ => ⟨S1x256x2048, .bf16⟩
  | .hbm, ⟨10, _⟩ => ⟨S4x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x256, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMemDwIdeal.lean ====
abbrev S256x2048 : Shape := ⟨2, ![256, 2048]⟩
abbrev S2048x4096 : Shape := ⟨2, ![2048, 4096]⟩
abbrev S256x4096 : Shape := ⟨2, ![256, 4096]⟩
abbrev S4096x2048 : Shape := ⟨2, ![4096, 2048]⟩
abbrev S2048x1024 : Shape := ⟨2, ![2048, 1024]⟩
abbrev S1x2048x1024 : Shape := ⟨3, ![1, 2048, 1024]⟩
abbrev S4x2048x1024 : Shape := ⟨3, ![4, 2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x4096, .f32⟩
  | .hbm, ⟨2, _⟩ => ⟨S256x4096, .f32⟩
  | .hbm, ⟨3, _⟩ => ⟨S256x4096, .f32⟩
  | .hbm, ⟨4, _⟩ => ⟨S4096x2048, .f32⟩
  | .hbm, ⟨5, _⟩ => ⟨S2048x4096, .f32⟩
  | .hbm, ⟨6, _⟩ => ⟨S256x2048, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S4x2048x1024, .f32⟩
  | .hbm, ⟨16, _⟩ => ⟨S4x2048x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== KernelMemDx.lean ====
abbrev S256x2048 : Shape := ⟨2, ![256, 2048]⟩
abbrev S2048x4096 : Shape := ⟨2, ![2048, 4096]⟩
abbrev S256x4096 : Shape := ⟨2, ![256, 4096]⟩
abbrev S1x256x2048 : Shape := ⟨3, ![1, 256, 2048]⟩
abbrev S2x256x2048 : Shape := ⟨3, ![2, 256, 2048]⟩
abbrev S2048x1024 : Shape := ⟨2, ![2048, 1024]⟩
abbrev S1x2048x1024 : Shape := ⟨3, ![1, 2048, 1024]⟩
abbrev S4x2048x1024 : Shape := ⟨3, ![4, 2048, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 19
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048x4096, .f32⟩
  | .hbm, ⟨2, _⟩ => ⟨S256x4096, .f32⟩
  | .hbm, ⟨3, _⟩ => ⟨S256x2048, .f32⟩
  | .hbm, ⟨4, _⟩ => ⟨S256x2048, .f32⟩
  | .hbm, ⟨5, _⟩ => ⟨S1x256x2048, .f32⟩
  | .hbm, ⟨6, _⟩ => ⟨S1x256x2048, .f32⟩
  | .hbm, ⟨7, _⟩ => ⟨S2x256x2048, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S1x2048x1024, .f32⟩
  | .hbm, ⟨16, _⟩ => ⟨S4x2048x1024, .f32⟩
  | .hbm, ⟨17, _⟩ => ⟨S4x2048x1024, .bf16⟩
  | .hbm, ⟨18, _⟩ => ⟨S1x256x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMemDxIdeal.lean ====
abbrev S256x2048 : Shape := ⟨2, ![256, 2048]⟩
abbrev S2048x4096 : Shape := ⟨2, ![2048, 4096]⟩
abbrev S256x4096 : Shape := ⟨2, ![256, 4096]⟩
abbrev S4096x2048 : Shape := ⟨2, ![4096, 2048]⟩
abbrev S1x256x2048 : Shape := ⟨3, ![1, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x4096, .f32⟩
  | .hbm, ⟨2, _⟩ => ⟨S256x4096, .f32⟩
  | .hbm, ⟨3, _⟩ => ⟨S256x4096, .f32⟩
  | .hbm, ⟨4, _⟩ => ⟨S4096x2048, .f32⟩
  | .hbm, ⟨5, _⟩ => ⟨S2048x4096, .f32⟩
  | .hbm, ⟨6, _⟩ => ⟨S256x2048, .f32⟩
  | .hbm, ⟨7, _⟩ => ⟨S1x256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelMixDw.lean ====
abbrev S2048x2048 : Shape := ⟨2, ![2048, 2048]⟩
abbrev S2048x5120 : Shape := ⟨2, ![2048, 5120]⟩
abbrev S1x2048x2048 : Shape := ⟨3, ![1, 2048, 2048]⟩
abbrev S1x2048x5120 : Shape := ⟨3, ![1, 2048, 5120]⟩
abbrev S4x2048x1280 : Shape := ⟨3, ![4, 2048, 1280]⟩
abbrev S1x2048x1024 : Shape := ⟨3, ![1, 2048, 1024]⟩
abbrev S1x2048x1280 : Shape := ⟨3, ![1, 2048, 1280]⟩
abbrev S1x1024x1280 : Shape := ⟨3, ![1, 1024, 1280]⟩
abbrev S1024x2048 : Shape := ⟨2, ![1024, 2048]⟩
abbrev S1x2048x256 : Shape := ⟨3, ![1, 2048, 256]⟩
abbrev S2048x256 : Shape := ⟨2, ![2048, 256]⟩
abbrev S256x2048 : Shape := ⟨2, ![256, 2048]⟩
abbrev S2048x1280 : Shape := ⟨2, ![2048, 1280]⟩
abbrev S1024x1280 : Shape := ⟨2, ![1024, 1280]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x5120, .f32⟩
  | .hbm, ⟨3, _⟩ => ⟨S2048x2048, .bf16⟩
  | .hbm, ⟨4, _⟩ => ⟨S1x2048x2048, .bf16⟩
  | .hbm, ⟨5, _⟩ => ⟨S2048x5120, .bf16⟩
  | .hbm, ⟨6, _⟩ => ⟨S1x2048x5120, .bf16⟩
  | .hbm, ⟨7, _⟩ => ⟨S4x2048x1280, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMixDwIdeal.lean ====
abbrev S2048x2048 : Shape := ⟨2, ![2048, 2048]⟩
abbrev S2048x5120 : Shape := ⟨2, ![2048, 5120]⟩
abbrev S5120x2048 : Shape := ⟨2, ![5120, 2048]⟩
abbrev S2048x1280 : Shape := ⟨2, ![2048, 1280]⟩
abbrev S1x2048x1280 : Shape := ⟨3, ![1, 2048, 1280]⟩
abbrev S4x2048x1280 : Shape := ⟨3, ![4, 2048, 1280]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x5120, .f32⟩
  | .hbm, ⟨3, _⟩ => ⟨S2048x5120, .f32⟩
  | .hbm, ⟨4, _⟩ => ⟨S5120x2048, .f32⟩
  | .hbm, ⟨5, _⟩ => ⟨S2048x5120, .f32⟩
  | .hbm, ⟨6, _⟩ => ⟨S2048x2048, .f32⟩
  | .hbm, ⟨7, _⟩ => ⟨S2048x1280, .f32⟩
  | .hbm, ⟨8, _⟩ => ⟨S2048x1280, .f32⟩
  | .hbm, ⟨9, _⟩ => ⟨S2048x1280, .f32⟩
  | .hbm, ⟨10, _⟩ => ⟨S2048x1280, .f32⟩
  | .hbm, ⟨11, _⟩ => ⟨S1x2048x1280, .f32⟩
  | .hbm, ⟨12, _⟩ => ⟨S1x2048x1280, .f32⟩
  | .hbm, ⟨13, _⟩ => ⟨S1x2048x1280, .f32⟩
  | .hbm, ⟨14, _⟩ => ⟨S1x2048x1280, .f32⟩
  | .hbm, ⟨15, _⟩ => ⟨S4x2048x1280, .f32⟩
  | .hbm, ⟨16, _⟩ => ⟨S4x2048x1280, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== KernelMixDx.lean ====
abbrev S2048x2048 : Shape := ⟨2, ![2048, 2048]⟩
abbrev S2048x5120 : Shape := ⟨2, ![2048, 5120]⟩
abbrev S1x2048x5120 : Shape := ⟨3, ![1, 2048, 5120]⟩
abbrev S2048x1280 : Shape := ⟨2, ![2048, 1280]⟩
abbrev S1x2048x1280 : Shape := ⟨3, ![1, 2048, 1280]⟩
abbrev S4x2048x1280 : Shape := ⟨3, ![4, 2048, 1280]⟩
abbrev S1x2048x2048 : Shape := ⟨3, ![1, 2048, 2048]⟩
abbrev S1x1024x1280 : Shape := ⟨3, ![1, 1024, 1280]⟩
abbrev S1x1024x1024 : Shape := ⟨3, ![1, 1024, 1024]⟩
abbrev S1024x1024 : Shape := ⟨2, ![1024, 1024]⟩
abbrev S1024x1280 : Shape := ⟨2, ![1024, 1280]⟩

abbrev nBuf : Space → Nat
  | .hbm => 16
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x5120, .f32⟩
  | .hbm, ⟨3, _⟩ => ⟨S2048x5120, .bf16⟩
  | .hbm, ⟨4, _⟩ => ⟨S1x2048x5120, .bf16⟩
  | .hbm, ⟨5, _⟩ => ⟨S2048x1280, .f32⟩
  | .hbm, ⟨6, _⟩ => ⟨S2048x1280, .f32⟩
  | .hbm, ⟨7, _⟩ => ⟨S2048x1280, .f32⟩
  | .hbm, ⟨8, _⟩ => ⟨S2048x1280, .f32⟩
  | .hbm, ⟨9, _⟩ => ⟨S1x2048x1280, .f32⟩
  | .hbm, ⟨10, _⟩ => ⟨S1x2048x1280, .f32⟩
  | .hbm, ⟨11, _⟩ => ⟨S1x2048x1280, .f32⟩
  | .hbm, ⟨12, _⟩ => ⟨S1x2048x1280, .f32⟩
  | .hbm, ⟨13, _⟩ => ⟨S4x2048x1280, .f32⟩
  | .hbm, ⟨14, _⟩ => ⟨S4x2048x1280, .bf16⟩
  | .hbm, ⟨15, _⟩ => ⟨S1x2048x2048, .f32⟩
  | .local _ .vmem, ⟨0, _⟩ => ⟨S1x1024x1280, .bf16⟩
  | .local _ .vmem, ⟨1, _⟩ => ⟨S1x1024x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMixDxIdeal.lean ====
abbrev S2048x2048 : Shape := ⟨2, ![2048, 2048]⟩
abbrev S2048x5120 : Shape := ⟨2, ![2048, 5120]⟩
abbrev S5120x2048 : Shape := ⟨2, ![5120, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x5120, .f32⟩
  | .hbm, ⟨3, _⟩ => ⟨S2048x5120, .f32⟩
  | .hbm, ⟨4, _⟩ => ⟨S5120x2048, .f32⟩
  | .hbm, ⟨5, _⟩ => ⟨S2048x5120, .f32⟩
  | .hbm, ⟨6, _⟩ => ⟨S2048x2048, .f32⟩
  | .hbm, ⟨7, _⟩ => ⟨S1x2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFfnOut.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩
abbrev S1x2048x5632 : Shape := ⟨3, ![1, 2048, 5632]⟩
abbrev S4x1408x2048 : Shape := ⟨3, ![4, 1408, 2048]⟩
abbrev S1x2048x2048 : Shape := ⟨3, ![1, 2048, 2048]⟩
abbrev S1x1024x5632 : Shape := ⟨3, ![1, 1024, 5632]⟩
abbrev S4x1408x512 : Shape := ⟨3, ![4, 1408, 512]⟩
abbrev S1x1024x512 : Shape := ⟨3, ![1, 1024, 512]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 21
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S5632x2048, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .bf16⟩
  | .hbm, ⟨16, _⟩ => ⟨S1x2048x5632, .bf16⟩
  | .hbm, ⟨17, _⟩ => ⟨S4x1408x2048, .f32⟩
  | .hbm, ⟨18, _⟩ => ⟨S4x1408x2048, .bf16⟩
  | .hbm, ⟨19, _⟩ => ⟨S1x2048x2048, .f32⟩
  | .hbm, ⟨20, _⟩ => ⟨S1x2048x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S4x1408x512, .bf16⟩
  | .local _ .vmem, ⟨3, _⟩ => ⟨S4x1408x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFfnOutIdeal.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩
abbrev S1x2048x2048 : Shape := ⟨3, ![1, 2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S5632x2048, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S1x2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== KernelMixIn.lean ====
abbrev S2048x2048 : Shape := ⟨2, ![2048, 2048]⟩
abbrev S2048x5120 : Shape := ⟨2, ![2048, 5120]⟩
abbrev S1x2048x2048 : Shape := ⟨3, ![1, 2048, 2048]⟩
abbrev S2048x1280 : Shape := ⟨2, ![2048, 1280]⟩
abbrev S1x2048x1280 : Shape := ⟨3, ![1, 2048, 1280]⟩
abbrev S4x2048x1280 : Shape := ⟨3, ![4, 2048, 1280]⟩
abbrev S1x2048x5120 : Shape := ⟨3, ![1, 2048, 5120]⟩
abbrev S1x2048x256 : Shape := ⟨3, ![1, 2048, 256]⟩
abbrev S2048x256 : Shape := ⟨2, ![2048, 256]⟩

abbrev nBuf : Space → Nat
  | .hbm => 15
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x2048, .bf16⟩
  | .hbm, ⟨3, _⟩ => ⟨S1x2048x2048, .bf16⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .hbm, ⟨8, _⟩ => ⟨S1x2048x1280, .f32⟩
  | .hbm, ⟨9, _⟩ => ⟨S1x2048x1280, .f32⟩
  | .hbm, ⟨10, _⟩ => ⟨S1x2048x1280, .f32⟩
  | .hbm, ⟨11, _⟩ => ⟨S1x2048x1280, .f32⟩
  | .hbm, ⟨12, _⟩ => ⟨S4x2048x1280, .f32⟩
  | .hbm, ⟨13, _⟩ => ⟨S4x2048x1280, .bf16⟩
  | .hbm, ⟨14, _⟩ => ⟨S1x2048x5120, .f32⟩
  | .local _ .vmem, ⟨0, _⟩ => ⟨S1x2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .f32⟩
  | .local _ .vmem, ⟨4, _⟩ => ⟨S1x2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 20, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.divsi arg1 c20_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c20_i32 c0_i32_1
  let v7 : BitVec 32 := Scalar.extui v6
  let c0_i32_2 : BitVec 32 := 0#32
  let v8 : BitVec 1 := Scalar.cmpi .slt c20_i32 c0_i32_2
  let v9 : BitVec 32 := Scalar.extui v8
  let v10 : BitVec 32 := Scalar.subi v7 v9
  let v11 : BitVec 1 := Scalar.cmpi .ne v5 v10
  let v12 : BitVec 32 := Scalar.remsi arg1 c20_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c20_i32_4 : BitVec 32 := 20#32
  let c0_i32_5 : BitVec 32 := 0#32
  let v17 : BitVec 1 := Scalar.cmpi .eq c20_i32_4 c0_i32_5
  let c1_i32_6 : BitVec 32 := 1#32
  let v18 : BitVec 32 := Scalar.select v17 c1_i32_6 c20_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMixInIdeal.lean ====
abbrev S2048x2048 : Shape := ⟨2, ![2048, 2048]⟩
abbrev S2048x5120 : Shape := ⟨2, ![2048, 5120]⟩
abbrev S1x2048x5120 : Shape := ⟨3, ![1, 2048, 5120]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x5120, .f32⟩
  | .hbm, ⟨3, _⟩ => ⟨S1x2048x5120, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelSqOut.lean ====
abbrev S2048x2048 : Shape := ⟨2, ![2048, 2048]⟩
abbrev S1x2048x2048 : Shape := ⟨3, ![1, 2048, 2048]⟩
abbrev S4x512x2048 : Shape := ⟨3, ![4, 512, 2048]⟩
abbrev S1x1024x2048 : Shape := ⟨3, ![1, 1024, 2048]⟩
abbrev S4x512x1024 : Shape := ⟨3, ![4, 512, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S1x2048x2048, .bf16⟩
  | .hbm, ⟨5, _⟩ => ⟨S4x512x2048, .f32⟩
  | .hbm, ⟨6, _⟩ => ⟨S4x512x2048, .bf16⟩
  | .hbm, ⟨7, _⟩ => ⟨S1x2048x2048, .f32⟩
  | .hbm, ⟨8, _⟩ => ⟨S1x2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S4x512x1024, .bf16⟩
  | .local _ .vmem, ⟨3, _⟩ => ⟨S4x512x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceSqOutIdeal.lean ====
abbrev S2048x2048 : Shape := ⟨2, ![2048, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelSqQ.lean ====
abbrev S2048x2048 : Shape := ⟨2, ![2048, 2048]⟩
abbrev S1x2048x2048 : Shape := ⟨3, ![1, 2048, 2048]⟩
abbrev S4x512x2048 : Shape := ⟨3, ![4, 512, 2048]⟩
abbrev S1x1024x2048 : Shape := ⟨3, ![1, 1024, 2048]⟩
abbrev S4x512x1024 : Shape := ⟨3, ![4, 512, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S1x2048x2048, .bf16⟩
  | .hbm, ⟨4, _⟩ => ⟨S4x512x2048, .f32⟩
  | .hbm, ⟨5, _⟩ => ⟨S4x512x2048, .bf16⟩
  | .hbm, ⟨6, _⟩ => ⟨S1x2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S4x512x1024, .bf16⟩
  | .local _ .vmem, ⟨3, _⟩ => ⟨S4x512x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSqQIdeal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S1x2048x2048, .f32⟩
  | .hbm, ⟨7, _⟩ => ⟨S1x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelMemKv.lean ====
abbrev S256x2048 : Shape := ⟨2, ![256, 2048]⟩
abbrev S2048x4096 : Shape := ⟨2, ![2048, 4096]⟩
abbrev S1x256x2048 : Shape := ⟨3, ![1, 256, 2048]⟩
abbrev S2048x1024 : Shape := ⟨2, ![2048, 1024]⟩
abbrev S1x2048x1024 : Shape := ⟨3, ![1, 2048, 1024]⟩
abbrev S4x2048x1024 : Shape := ⟨3, ![4, 2048, 1024]⟩
abbrev S1x256x4096 : Shape := ⟨3, ![1, 256, 4096]⟩
abbrev S1x256x1024 : Shape := ⟨3, ![1, 256, 1024]⟩
abbrev S256x1024 : Shape := ⟨2, ![256, 1024]⟩

abbrev nBuf : Space → Nat
  | .hbm => 15
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x4096, .f32⟩
  | .hbm, ⟨2, _⟩ => ⟨S256x2048, .bf16⟩
  | .hbm, ⟨3, _⟩ => ⟨S1x256x2048, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S4x2048x1024, .f32⟩
  | .hbm, ⟨13, _⟩ => ⟨S4x2048x1024, .bf16⟩
  | .hbm, ⟨14, _⟩ => ⟨S1x256x4096, .bf16⟩
  | .local _ .vmem, ⟨0, _⟩ => ⟨S1x256x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x256x1024, .bf16⟩
  | .local _ .vmem, ⟨4, _⟩ => ⟨S1x256x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMemKvIdeal.lean ====
abbrev S256x2048 : Shape := ⟨2, ![256, 2048]⟩
abbrev S2048x4096 : Shape := ⟨2, ![2048, 4096]⟩
abbrev S256x4096 : Shape := ⟨2, ![256, 4096]⟩
abbrev S1x256x4096 : Shape := ⟨3, ![1, 256, 4096]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x4096, .f32⟩
  | .hbm, ⟨2, _⟩ => ⟨S256x4096, .f32⟩
  | .hbm, ⟨3, _⟩ => ⟨S1x256x4096, .f32⟩
  | .hbm, ⟨4, _⟩ => ⟨S1x256x4096, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelFfnInA.lean ====
abbrev S2048x2048 : Shape := ⟨2, ![2048, 2048]⟩
abbrev S2048x11264 : Shape := ⟨2, ![2048, 11264]⟩
abbrev S2 : Shape := ⟨1, ![2]⟩
abbrev S2048x2816 : Shape := ⟨2, ![2048, 2816]⟩
abbrev S1x2048x2816 : Shape := ⟨3, ![1, 2048, 2816]⟩
abbrev S4x2048x2816 : Shape := ⟨3, ![4, 2048, 2816]⟩
abbrev S2x2048x5632 : Shape := ⟨3, ![2, 2048, 5632]⟩
abbrev S2048x5632 : Shape := ⟨2, ![2048, 5632]⟩
abbrev S1x2048x256 : Shape := ⟨3, ![1, 2048, 256]⟩
abbrev S1 : Shape := ⟨1, ![1]⟩
abbrev S2x2048x256 : Shape := ⟨3, ![2, 2048, 256]⟩
abbrev S2048x256 : Shape := ⟨2, ![2048, 256]⟩

abbrev nBuf : Space → Nat
  | .hbm => 15
  | .vmem => 9
  | .smem => 1
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S1x2048x2816, .f32⟩
  | .hbm, ⟨8, _⟩ => ⟨S1x2048x2816, .f32⟩
  | .hbm, ⟨9, _⟩ => ⟨S1x2048x2816, .f32⟩
  | .hbm, ⟨10, _⟩ => ⟨S1x2048x2816, .f32⟩
  | .hbm, ⟨11, _⟩ => ⟨S4x2048x2816, .f32⟩
  | .hbm, ⟨12, _⟩ => ⟨S4x2048x2816, .bf16⟩
  | .hbm, ⟨13, _⟩ => ⟨S2x2048x5632, .bf16⟩
  | .hbm, ⟨14, _⟩ => ⟨S2048x5632, .bf16⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S2x2048x256, .bf16⟩
  | .local _ .vmem, ⟨6, _⟩ => ⟨S2x2048x256, .bf16⟩
  | .local _ .vmem, ⟨7, _⟩ => ⟨S2048x256, .bf16⟩
  | .local _ .vmem, ⟨8, _⟩ => ⟨S2048x256, .bf16⟩
  | .local _ .smem, ⟨0, _⟩ => ⟨S2, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11_0 : Ref sig .tc := ⟨.hbm, 13, rfl⟩
abbrev main_v11_1 : Ref sig .tc := ⟨.hbm, 14, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 11], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let v1 : BitVec 32 := Scalar.addi v0 c0_i32
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat, arg1.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let v1 : BitVec 32 := Scalar.addi v0 c0_i32
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c2_i32_4 : BitVec 32 := 2#32
  let v12 : BitVec 32 := Scalar.addi c2_i32_4 v11
  let c0_i32_5 : BitVec 32 := 0#32
  let c0_i32_6 : BitVec 32 := 0#32
  ![v12.toNat, c0_i32_5.toNat, arg1.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let v1 : BitVec 32 := Scalar.addi v0 c0_i32
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c11_i32 : BitVec 32 := 11#32
  let v12 : BitVec 32 := Scalar.muli v11 c11_i32
  let v13 : BitVec 32 := Scalar.addi v12 arg1
  let c0_i32_4 : BitVec 32 := 0#32
  let c0_i32_5 : BitVec 32 := 0#32
  ![c0_i32_4.toNat, arg0.toNat, v13.toNat]

def cc0_transform_4 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let v1 : BitVec 32 := Scalar.addi v0 c0_i32
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c11_i32 : BitVec 32 := 11#32
  let v12 : BitVec 32 := Scalar.muli v11 c11_i32
  let v13 : BitVec 32 := Scalar.addi v12 arg1
  let c0_i32_4 : BitVec 32 := 0#32
  ![arg0.toNat, v13.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFfnInAIdeal.lean ====
abbrev S2048x2048 : Shape := ⟨2, ![2048, 2048]⟩
abbrev S2048x11264 : Shape := ⟨2, ![2048, 11264]⟩
abbrev S2 : Shape := ⟨1, ![2]⟩
abbrev S2048x5632 : Shape := ⟨2, ![2048, 5632]⟩
abbrev S_ : Shape := ⟨0, ![]⟩
abbrev S1x2048x5632 : Shape := ⟨3, ![1, 2048, 5632]⟩
abbrev S2x2048x5632 : Shape := ⟨3, ![2, 2048, 5632]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2, .i32⟩
  | .hbm, ⟨3, _⟩ => ⟨S2048x11264, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S_, .f32⟩
  | .hbm, ⟨26, _⟩ => ⟨S2048x5632, .f32⟩
  | .hbm, ⟨27, _⟩ => ⟨S2048x5632, .f32⟩
  | .hbm, ⟨28, _⟩ => ⟨S_, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S1x2048x5632, .f32⟩
  | .hbm, ⟨33, _⟩ => ⟨S1x2048x5632, .f32⟩
  | .hbm, ⟨34, _⟩ => ⟨S2x2048x5632, .f32⟩
  | .hbm, ⟨35, _⟩ => ⟨S2x2048x5632, .bf16⟩
  | .hbm, ⟨36, _⟩ => ⟨S2048x5632, .f32⟩
  | .hbm, ⟨37, _⟩ => ⟨S2048x5632, .f32⟩
  | .hbm, ⟨38, _⟩ => ⟨S_, .f32⟩
  | .hbm, ⟨39, _⟩ => ⟨S2048x5632, .f32⟩
  | .hbm, ⟨40, _⟩ => ⟨S2048x5632, .f32⟩
  | .hbm, ⟨41, _⟩ => ⟨S_, .f32⟩
  | .hbm, ⟨42, _⟩ => ⟨S2048x5632, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_call2_v0 : Ref sig .tc := ⟨.hbm, 23, rfl⟩
abbrev main_call2_v1 : Ref sig .tc := ⟨.hbm, 24, rfl⟩
abbrev main_call2_cst : Ref sig .tc := ⟨.hbm, 25, rfl⟩
abbrev main_call2_v2 : Ref sig .tc := ⟨.hbm, 26, rfl⟩
abbrev main_call2_v3 : Ref sig .tc := ⟨.hbm, 27, rfl⟩
abbrev main_call2_cst_0 : Ref sig .tc := ⟨.hbm, 28, rfl⟩
abbrev main_call2_v4 : Ref sig .tc := ⟨.hbm, 29, rfl⟩
abbrev main_call2_v5 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_call3_v0 : Ref sig .tc := ⟨.hbm, 36, rfl⟩
abbrev main_call3_v1 : Ref sig .tc := ⟨.hbm, 37, rfl⟩
abbrev main_call3_cst : Ref sig .tc := ⟨.hbm, 38, rfl⟩
abbrev main_call3_v2 : Ref sig .tc := ⟨.hbm, 39, rfl⟩
abbrev main_call3_v3 : Ref sig .tc := ⟨.hbm, 40, rfl⟩
abbrev main_call3_cst_0 : Ref sig .tc := ⟨.hbm, 41, rfl⟩
abbrev main_call3_v4 : Ref sig .tc := ⟨.hbm, 42, rfl⟩
abbrev main_call3_v5 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩

abbrev nD : Nat := 1
abbrev τ : Topo := Topo.v7x

variable {F : FTy → Type} [FloatOps F]
-- ==== KernelFfnInB.lean ====
abbrev S2048x2048 : Shape := ⟨2, ![2048, 2048]⟩
abbrev S2048x11264 : Shape := ⟨2, ![2048, 11264]⟩
abbrev S2 : Shape := ⟨1, ![2]⟩
abbrev S2x2048x5632 : Shape := ⟨3, ![2, 2048, 5632]⟩
abbrev S2048x5632 : Shape := ⟨2, ![2048, 5632]⟩
abbrev S2048x2816 : Shape := ⟨2, ![2048, 2816]⟩
abbrev S1x2048x2816 : Shape := ⟨3, ![1, 2048, 2816]⟩
abbrev S4x2048x2816 : Shape := ⟨3, ![4, 2048, 2816]⟩
abbrev S1x2048x256 : Shape := ⟨3, ![1, 2048, 256]⟩
abbrev S1 : Shape := ⟨1, ![1]⟩
abbrev S2x2048x256 : Shape := ⟨3, ![2, 2048, 256]⟩
abbrev S2048x256 : Shape := ⟨2, ![2048, 256]⟩

abbrev nBuf : Space → Nat
  | .hbm => 17
  | .vmem => 9
  | .smem => 1
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2x2048x5632, .bf16⟩
  | .hbm, ⟨3, _⟩ => ⟨S2048x5632, .bf16⟩
  | .hbm, ⟨4, _⟩ => ⟨S2048x2048, .bf16⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S1x2048x2816, .f32⟩
  | .hbm, ⟨10, _⟩ => ⟨S1x2048x2816, .f32⟩
  | .hbm, ⟨11, _⟩ => ⟨S1x2048x2816, .f32⟩
  | .hbm, ⟨12, _⟩ => ⟨S1x2048x2816, .f32⟩
  | .hbm, ⟨13, _⟩ => ⟨S4x2048x2816, .f32⟩
  | .hbm, ⟨14, _⟩ => ⟨S4x2048x2816, .bf16⟩
  | .hbm, ⟨15, _⟩ => ⟨S2x2048x5632, .bf16⟩
  | .hbm, ⟨16, _⟩ => ⟨S2048x5632, .bf16⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S2x2048x256, .bf16⟩
  | .local _ .vmem, ⟨6, _⟩ => ⟨S2x2048x256, .bf16⟩
  | .local _ .vmem, ⟨7, _⟩ => ⟨S2048x256, .bf16⟩
  | .local _ .vmem, ⟨8, _⟩ => ⟨S2048x256, .bf16⟩
  | .local _ .smem, ⟨0, _⟩ => ⟨S2, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 11], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.addi v0 c1_i32
  let c2_i32 : BitVec 32 := 2#32
  let c0_i32 : BitVec 32 := 0#32
  let v2 : BitVec 1 := Scalar.cmpi .eq c2_i32 c0_i32
  let c1_i32_0 : BitVec 32 := 1#32
  let v3 : BitVec 32 := Scalar.select v2 c1_i32_0 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat, arg1.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.addi v0 c1_i32
  let c2_i32 : BitVec 32 := 2#32
  let c0_i32 : BitVec 32 := 0#32
  let v2 : BitVec 1 := Scalar.cmpi .eq c2_i32 c0_i32
  let c1_i32_0 : BitVec 32 := 1#32
  let v3 : BitVec 32 := Scalar.select v2 c1_i32_0 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c2_i32_4 : BitVec 32 := 2#32
  let v12 : BitVec 32 := Scalar.addi c2_i32_4 v11
  let c0_i32_5 : BitVec 32 := 0#32
  let c0_i32_6 : BitVec 32 := 0#32
  ![v12.toNat, c0_i32_5.toNat, arg1.toNat]

def cc0_transform_5 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.addi v0 c1_i32
  let c2_i32 : BitVec 32 := 2#32
  let c0_i32 : BitVec 32 := 0#32
  let v2 : BitVec 1 := Scalar.cmpi .eq c2_i32 c0_i32
  let c1_i32_0 : BitVec 32 := 1#32
  let v3 : BitVec 32 := Scalar.select v2 c1_i32_0 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c11_i32 : BitVec 32 := 11#32
  let v12 : BitVec 32 := Scalar.muli v11 c11_i32
  let v13 : BitVec 32 := Scalar.addi v12 arg1
  let c0_i32_4 : BitVec 32 := 0#32
  let c0_i32_5 : BitVec 32 := 0#32
  ![c0_i32_4.toNat, arg0.toNat, v13.toNat]

def cc0_transform_6 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.addi v0 c1_i32
  let c2_i32 : BitVec 32 := 2#32
  let c0_i32 : BitVec 32 := 0#32
  let v2 : BitVec 1 := Scalar.cmpi .eq c2_i32 c0_i32
  let c1_i32_0 : BitVec 32 := 1#32
  let v3 : BitVec 32 := Scalar.select v2 c1_i32_0 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c11_i32 : BitVec 32 := 11#32
  let v12 : BitVec 32 := Scalar.muli v11 c11_i32
  let v13 : BitVec 32 := Scalar.addi v12 arg1
  let c0_i32_4 : BitVec 32 := 0#32
  ![arg0.toNat, v13.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFfnInBIdeal.lean ====
abbrev S2048x2048 : Shape := ⟨2, ![2048, 2048]⟩
abbrev S2048x11264 : Shape := ⟨2, ![2048, 11264]⟩
abbrev S2 : Shape := ⟨1, ![2]⟩
abbrev S2x2048x5632 : Shape := ⟨3, ![2, 2048, 5632]⟩
abbrev S2048x5632 : Shape := ⟨2, ![2048, 5632]⟩
abbrev S5632 : Shape := ⟨1, ![5632]⟩
abbrev S_ : Shape := ⟨0, ![]⟩
abbrev S1 : Shape := ⟨1, ![1]⟩
abbrev S1x2048x5632 : Shape := ⟨3, ![1, 2048, 5632]⟩

abbrev nBuf : Space → Nat
  | .hbm => 82
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2, .i32⟩
  | .hbm, ⟨3, _⟩ => ⟨S2x2048x5632, .bf16⟩
  | .hbm, ⟨4, _⟩ => ⟨S2048x5632, .bf16⟩
  | .hbm, ⟨5, _⟩ => ⟨S5632, .i32⟩
  | .hbm, ⟨6, _⟩ => ⟨S_, .i32⟩
  | .hbm, ⟨7, _⟩ => ⟨S5632, .i32⟩
  | .hbm, ⟨8, _⟩ => ⟨S5632, .i1⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i1⟩
  | .hbm, ⟨26, _⟩ => ⟨S_, .i1⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S5632, .i1⟩
  | .hbm, ⟨33, _⟩ => ⟨S5632, .i1⟩
  | .hbm, ⟨34, _⟩ => ⟨S2048x11264, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S_, .f32⟩
  | .hbm, ⟨40, _⟩ => ⟨S2048x5632, .f32⟩
  | .hbm, ⟨41, _⟩ => ⟨S2048x5632, .f32⟩
  | .hbm, ⟨42, _⟩ => ⟨S_, .f32⟩
  | .hbm, ⟨43, _⟩ => ⟨S2048x5632, .f32⟩
  | .hbm, ⟨44, _⟩ => ⟨S2048x5632, .f32⟩
  | .hbm, ⟨45, _⟩ => ⟨S_, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S_, .f32⟩
  | .hbm, ⟨57, _⟩ => ⟨S2048x5632, .f32⟩
  | .hbm, ⟨58, _⟩ => ⟨S2048x5632, .f32⟩
  | .hbm, ⟨59, _⟩ => ⟨S_, .f32⟩
  | .hbm, ⟨60, _⟩ => ⟨S2048x5632, .f32⟩
  | .hbm, ⟨61, _⟩ => ⟨S2048x5632, .f32⟩
  | .hbm, ⟨62, _⟩ => ⟨S2048x5632, .f32⟩
  | .hbm, ⟨63, _⟩ => ⟨S1x2048x5632, .f32⟩
  | .hbm, ⟨64, _⟩ => ⟨S1x2048x5632, .f32⟩
  | .hbm, ⟨65, _⟩ => ⟨S2x2048x5632, .f32⟩
  | .hbm, ⟨66, _⟩ => ⟨S2x2048x5632, .bf16⟩
  | .hbm, ⟨67, _⟩ => ⟨S2048x5632, .f32⟩
  | .hbm, ⟨68, _⟩ => ⟨S2048x5632, .f32⟩
  | .hbm, ⟨69, _⟩ => ⟨S_, .f32⟩
  | .hbm, ⟨70, _⟩ => ⟨S2048x5632, .f32⟩
  | .hbm, ⟨71, _⟩ => ⟨S2048x5632, .f32⟩
  | .hbm, ⟨72, _⟩ => ⟨S_, .f32⟩
  | .hbm, ⟨73, _⟩ => ⟨S2048x5632, .f32⟩
  | .hbm, ⟨74, _⟩ => ⟨S2048x5632, .f32⟩
  | .hbm, ⟨75, _⟩ => ⟨S2048x5632, .f32⟩
  | .hbm, ⟨76, _⟩ => ⟨S2048x5632, .f32⟩
  | .hbm, ⟨77, _⟩ => ⟨S2048x5632, .bf16⟩
  | .hbm, ⟨78, _⟩ => ⟨S2x2048x5632, .i1⟩
  | .hbm, ⟨79, _⟩ => ⟨S2x2048x5632, .bf16⟩
  | .hbm, ⟨80, _⟩ => ⟨S2048x5632, .i1⟩
  | .hbm, ⟨81, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_c_1 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_c_1 : Ref sig .tc := ⟨.hbm, 20, rfl⟩
abbrev main_call0_v4 : Ref sig .tc := ⟨.hbm, 21, rfl⟩
abbrev main_call0_c_2 : Ref sig .tc := ⟨.hbm, 22, rfl⟩
abbrev main_call0_v5 : Ref sig .tc := ⟨.hbm, 23, rfl⟩
abbrev main_call0_c_3 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_v13_2 : Ref sig .tc := ⟨.hbm, 44, rfl⟩
abbrev main_call1_cst_1 : Ref sig .tc := ⟨.hbm, 45, rfl⟩
abbrev main_call1_v6 : Ref sig .tc := ⟨.hbm, 46, rfl⟩
abbrev main_call1_v7 : Ref sig .tc := ⟨.hbm, 47, rfl⟩
abbrev main_v13_1 : Ref sig .tc := ⟨.hbm, 48, rfl⟩
abbrev main_v13_0 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v14 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_call4_v0 : Ref sig .tc := ⟨.hbm, 67, rfl⟩
abbrev main_call4_v1 : Ref sig .tc := ⟨.hbm, 68, rfl⟩
abbrev main_call4_cst : Ref sig .tc := ⟨.hbm, 69, rfl⟩
abbrev main_call4_v2 : Ref sig .tc := ⟨.hbm, 70, rfl⟩
abbrev main_call4_v3 : Ref sig .tc := ⟨.hbm, 71, rfl⟩
abbrev main_call4_cst_0 : Ref sig .tc := ⟨.hbm, 72, rfl⟩
abbrev main_call4_v4 : Ref sig .tc := ⟨.hbm, 73, rfl⟩
abbrev main_call4_v5 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_call5_v0 : Ref sig .tc := ⟨.hbm, 78, rfl⟩
abbrev main_v23 : Ref sig .tc := ⟨.hbm, 79, rfl⟩
abbrev main_call6_v0 : Ref sig .tc := ⟨.hbm, 80, rfl⟩
abbrev main_v24 : Ref sig .tc := ⟨.hbm, 81, rfl⟩

abbrev nD : Nat := 1
abbrev τ : Topo := Topo.v7x

variable {F : FTy → Type} [FloatOps F]
-- ==== KernelXattn.lean ====
abbrev S2048x2048 : Shape := ⟨2, ![2048, 2048]⟩
abbrev S256x4096 : Shape := ⟨2, ![256, 4096]⟩
abbrev S_ : Shape := ⟨0, ![]⟩
abbrev S2x256x2048 : Shape := ⟨3, ![2, 256, 2048]⟩
abbrev S1024x512 : Shape := ⟨2, ![1024, 512]⟩
abbrev S256x512 : Shape := ⟨2, ![256, 512]⟩
abbrev S2x256x512 : Shape := ⟨3, ![2, 256, 512]⟩
abbrev S1024x256 : Shape := ⟨2, ![1024, 256]⟩
abbrev S1024 : Shape := ⟨1, ![1024]⟩
abbrev S1024x1 : Shape := ⟨2, ![1024, 1]⟩
abbrev S1x256x512 : Shape := ⟨3, ![1, 256, 512]⟩

abbrev nBuf : Space → Nat
  | .hbm => 11
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S256x4096, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S256x4096, .bf16⟩
  | .hbm, ⟨8, _⟩ => ⟨S2048x2048, .bf16⟩
  | .hbm, ⟨9, _⟩ => ⟨S2048x2048, .bf16⟩
  | .hbm, ⟨10, _⟩ => ⟨S2x256x2048, .f32⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S2x256x512, .f32⟩
  | .local _ .vmem, ⟨11, _⟩ => ⟨S2x256x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceXattnIdeal.lean ====
abbrev S2048x2048 : Shape := ⟨2, ![2048, 2048]⟩
abbrev S256x4096 : Shape := ⟨2, ![256, 4096]⟩
abbrev S2048x4x512 : Shape := ⟨3, ![2048, 4, 512]⟩
abbrev S_ : Shape := ⟨0, ![]⟩
abbrev S256x2048 : Shape := ⟨2, ![256, 2048]⟩
abbrev S256x4x512 : Shape := ⟨3, ![256, 4, 512]⟩
abbrev S4x2048x256 : Shape := ⟨3, ![4, 2048, 256]⟩
abbrev S4x2048 : Shape := ⟨2, ![4, 2048]⟩
abbrev S4x2048x1 : Shape := ⟨3, ![4, 2048, 1]⟩
abbrev S4x512x2048 : Shape := ⟨3, ![4, 512, 2048]⟩
abbrev S4x512x256 : Shape := ⟨3, ![4, 512, 256]⟩
abbrev S4x256x512 : Shape := ⟨3, ![4, 256, 512]⟩
abbrev S4x2048x512 : Shape := ⟨3, ![4, 2048, 512]⟩
abbrev S1x256x2048 : Shape := ⟨3, ![1, 256, 2048]⟩
abbrev S2x256x2048 : Shape := ⟨3, ![2, 256, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x4096, .f32⟩
  | .hbm, ⟨2, _⟩ => ⟨S2048x2048, .f32⟩
  | .hbm, ⟨3, _⟩ => ⟨S2048x4x512, .f32⟩
  | .hbm, ⟨4, _⟩ => ⟨S_, .f32⟩
  | .hbm, ⟨5, _⟩ => ⟨S2048x4x512, .f32⟩
  | .hbm, ⟨6, _⟩ => ⟨S2048x4x512, .f32⟩
  | .hbm, ⟨7, _⟩ => ⟨S256x2048, .f32⟩
  | .hbm, ⟨8, _⟩ => ⟨S256x2048, .f32⟩
  | .hbm, ⟨9, _⟩ => ⟨S256x4x512, .f32⟩
  | .hbm, ⟨10, _⟩ => ⟨S256x4x512, .f32⟩
  | .hbm, ⟨11, _⟩ => ⟨S4x2048x256, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S4x2048x256, .f32⟩
  | .hbm, ⟨16, _⟩ => ⟨S4x2048x256, .i1⟩
  | .hbm, ⟨17, _⟩ => ⟨S4x2048x256, .f32⟩
  | .hbm, ⟨18, _⟩ => ⟨S_, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .i1⟩
  | .hbm, ⟨26, _⟩ => ⟨S_, .f32⟩
  | .hbm, ⟨27, _⟩ => ⟨S4x2048, .f32⟩
  | .hbm, ⟨28, _⟩ => ⟨S4x2048, .i1⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S4x2048, .f32⟩
  | .hbm, ⟨36, _⟩ => ⟨S4x2048, .f32⟩
  | .hbm, ⟨37, _⟩ => ⟨S4x2048x1, .f32⟩
  | .hbm, ⟨38, _⟩ => ⟨S4x2048x256, .f32⟩
  | .hbm, ⟨39, _⟩ => ⟨S4x2048x256, .f32⟩
  | .hbm, ⟨40, _⟩ => ⟨S4x2048x256, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S4x2048x256, .f32⟩
  | .hbm, ⟨45, _⟩ => ⟨S4x2048x256, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x512x2048, .f32⟩
  | .hbm, ⟨51, _⟩ => ⟨S2048x4x512, .f32⟩
  | .hbm, ⟨52, _⟩ => ⟨S2048x2048, .f32⟩
  | .hbm, ⟨53, _⟩ => ⟨S2048x4x512, .f32⟩
  | .hbm, ⟨54, _⟩ => ⟨S4x512x2048, .f32⟩
  | .hbm, ⟨55, _⟩ => ⟨S4x2048x256, .f32⟩
  | .hbm, ⟨56, _⟩ => ⟨S4x512x256, .f32⟩
  | .hbm, ⟨57, _⟩ => ⟨S256x4x512, .f32⟩
  | .hbm, ⟨58, _⟩ => ⟨S4x2048x256, .f32⟩
  | .hbm, ⟨59, _⟩ => ⟨S4x2048x256, .f32⟩
  | .hbm, ⟨60, _⟩ => ⟨S4x2048x256, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S4x2048x1, .f32⟩
  | .hbm, ⟨65, _⟩ => ⟨S4x2048x256, .f32⟩
  | .hbm, ⟨66, _⟩ => ⟨S4x2048x256, .f32⟩
  | .hbm, ⟨67, _⟩ => ⟨S_, .f32⟩
  | .hbm, ⟨68, _⟩ => ⟨S4x2048, .f32⟩
  | .hbm, ⟨69, _⟩ => ⟨S4x2048x256, .f32⟩
  | .hbm, ⟨70, _⟩ => ⟨S4x2048x256, .f32⟩
  | .hbm, ⟨71, _⟩ => ⟨S4x2048x256, .f32⟩
  | .hbm, ⟨72, _⟩ => ⟨S4x256x512, .f32⟩
  | .hbm, ⟨73, _⟩ => ⟨S256x4x512, .f32⟩
  | .hbm, ⟨74, _⟩ => ⟨S4x2048x512, .f32⟩
  | .hbm, ⟨75, _⟩ => ⟨S2048x4x512, .f32⟩
  | .hbm, ⟨76, _⟩ => ⟨S256x2048, .f32⟩
  | .hbm, ⟨77, _⟩ => ⟨S256x2048, .f32⟩
  | .hbm, ⟨78, _⟩ => ⟨S256x4096, .f32⟩
  | .hbm, ⟨79, _⟩ => ⟨S_, .f32⟩
  | .hbm, ⟨80, _⟩ => ⟨S2048x4x512, .f32⟩
  | .hbm, ⟨81, _⟩ => ⟨S2048x4x512, .f32⟩
  | .hbm, ⟨82, _⟩ => ⟨S2048x2048, .f32⟩
  | .hbm, ⟨83, _⟩ => ⟨S2048x2048, .bf16⟩
  | .hbm, ⟨84, _⟩ => ⟨S256x2048, .f32⟩
  | .hbm, ⟨85, _⟩ => ⟨S256x2048, .f32⟩
  | .hbm, ⟨86, _⟩ => ⟨S1x256x2048, .f32⟩
  | .hbm, ⟨87, _⟩ => ⟨S1x256x2048, .f32⟩
  | .hbm, ⟨88, _⟩ => ⟨S2x256x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== KernelXattnFwd.lean ====
abbrev S2048x2048 : Shape := ⟨2, ![2048, 2048]⟩
abbrev S256x4096 : Shape := ⟨2, ![256, 4096]⟩
abbrev S_ : Shape := ⟨0, ![]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S256x4096, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S256x4096, .bf16⟩
  | .hbm, ⟨7, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x512, .bf16⟩
  | .local _ .vmem, ⟨7, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceXattnFwdIdeal.lean ====
abbrev S2048x2048 : Shape := ⟨2, ![2048, 2048]⟩
abbrev S256x4096 : Shape := ⟨2, ![256, 4096]⟩
abbrev S2048x4x512 : Shape := ⟨3, ![2048, 4, 512]⟩
abbrev S_ : Shape := ⟨0, ![]⟩
abbrev S256x2048 : Shape := ⟨2, ![256, 2048]⟩
abbrev S256x4x512 : Shape := ⟨3, ![256, 4, 512]⟩
abbrev S4x2048x256 : Shape := ⟨3, ![4, 2048, 256]⟩
abbrev S4x2048 : Shape := ⟨2, ![4, 2048]⟩
abbrev S4x2048x1 : Shape := ⟨3, ![4, 2048, 1]⟩
abbrev S4x512x2048 : Shape := ⟨3, ![4, 512, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x4096, .f32⟩
  | .hbm, ⟨2, _⟩ => ⟨S2048x4x512, .f32⟩
  | .hbm, ⟨3, _⟩ => ⟨S_, .f32⟩
  | .hbm, ⟨4, _⟩ => ⟨S2048x4x512, .f32⟩
  | .hbm, ⟨5, _⟩ => ⟨S2048x4x512, .f32⟩
  | .hbm, ⟨6, _⟩ => ⟨S256x2048, .f32⟩
  | .hbm, ⟨7, _⟩ => ⟨S256x2048, .f32⟩
  | .hbm, ⟨8, _⟩ => ⟨S256x4x512, .f32⟩
  | .hbm, ⟨9, _⟩ => ⟨S256x4x512, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .f32⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x256, .f32⟩
  | .hbm, ⟨24, _⟩ => ⟨S4x2048x256, .f32⟩
  | .hbm, ⟨25, _⟩ => ⟨S4x512x2048, .f32⟩
  | .hbm, ⟨26, _⟩ => ⟨S2048x4x512, .f32⟩
  | .hbm, ⟨27, _⟩ => ⟨S2048x2048, .f32⟩
  | .hbm, ⟨28, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== KernelSbFwd.lean ====
abbrev S2048x5120 : Shape := ⟨2, ![2048, 5120]⟩
abbrev S2048x1024 : Shape := ⟨2, ![2048, 1024]⟩
abbrev S8x2048x1 : Shape := ⟨3, ![8, 2048, 1]⟩
abbrev S512x128 : Shape := ⟨2, ![512, 128]⟩
abbrev S2048x128 : Shape := ⟨2, ![2048, 128]⟩
abbrev S1x512x1 : Shape := ⟨3, ![1, 512, 1]⟩
abbrev S128x128 : Shape := ⟨2, ![128, 128]⟩
abbrev S512x1 : Shape := ⟨2, ![512, 1]⟩
abbrev S128x1 : Shape := ⟨2, ![128, 1]⟩
abbrev S128 : Shape := ⟨1, ![128]⟩
abbrev S384x128 : Shape := ⟨2, ![384, 128]⟩
abbrev S384x1 : Shape := ⟨2, ![384, 1]⟩
abbrev S256x128 : Shape := ⟨2, ![256, 128]⟩
abbrev S256x1 : Shape := ⟨2, ![256, 1]⟩
abbrev S256 : Shape := ⟨1, ![256]⟩
abbrev S384 : Shape := ⟨1, ![384]⟩
abbrev S512 : Shape := ⟨1, ![512]⟩

abbrev nBuf : Space → Nat
  | .hbm => 3
  | .vmem => 10
  | .smem => 0
  | _ => 0

abbrev bufTy : (tb : Table) → Fin (tcTables nBuf tb) → BufTy
  | .hbm, ⟨0, _⟩ => ⟨S2048x5120, .f32⟩
  | .hbm, ⟨1, _⟩ => ⟨S2048x1024, .f32⟩
  | .hbm, ⟨2, _⟩ => ⟨S8x2048x1, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S1x512x1, .f32⟩
  | .local _ .vmem, ⟨9, _⟩ => ⟨S1x512x1, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c4_i32 : BitVec 32 := 4#32
  let v15 : BitVec 32 := Scalar.muli arg1 c4_i32
  let c3_i32 : BitVec 32 := 3#32
  let v16 : BitVec 32 := Scalar.addi v15 c3_i32
  let c128_i32 : BitVec 32 := 128#32
  let v19 : BitVec 32 := Scalar.muli v16 c128_i32
  v19
def k0_off1 (i : grid0.Coords) (c3_i32 : BitVec 32) : Fin 2 → Nat :=
  let arg1 : BitVec 32 := BitVec.ofNat 32 (i 1).val
  let c4_i32 : BitVec 32 := 4#32
  let v15 : BitVec 32 := Scalar.muli arg1 c4_i32
  let v16 : BitVec 32 := Scalar.addi v15 c3_i32
  let c128_i32 : BitVec 32 := 128#32
  let v19 : BitVec 32 := Scalar.muli v16 c128_i32
  let v20 : BitVec 32 := v19
  let v21 : Index := Scalar.indexCast v20
  let c0_3 : Index := 0#32
  ![v21.toNat, 0]
def k0_mult2 (i : grid0.Coords) : BitVec 32 :=
  let arg1 : BitVec 32 := BitVec.ofNat 32 (i 1).val
  let c4_i32_15 : BitVec 32 := 4#32
  let v70 : BitVec 32 := Scalar.muli arg1 c4_i32_15
  let c2_i32 : BitVec 32 := 2#32
  let v71 : BitVec 32 := Scalar.addi v70 c2_i32
  let c128_i32_16 : BitVec 32 := 128#32
  let v74 : BitVec 32 := Scalar.muli v71 c128_i32_16
  v74
def k0_mult3 (i : grid0.Coords) : BitVec 32 :=
  let arg1 : BitVec 32 := BitVec.ofNat 32 (i 1).val
  let c4_i32_30 : BitVec 32 := 4#32
  let v125 : BitVec 32 := Scalar.muli arg1 c4_i32_30
  let c1_i32 : BitVec 32 := 1#32
  let v126 : BitVec 32 := Scalar.addi v125 c1_i32
  let c128_i32_31 : BitVec 32 := 128#32
  let v129 : BitVec 32 := Scalar.muli v126 c128_i32_31
  v129
def k0_mult4 (i : grid0.Coords) : BitVec 32 :=
  let arg1 : BitVec 32 := BitVec.ofNat 32 (i 1).val
  let c4_i32_45 : BitVec 32 := 4#32
  let v180 : BitVec 32 := Scalar.muli arg1 c4_i32_45
  let c0_i32 : BitVec 32 := 0#32
  let v181 : BitVec 32 := Scalar.addi v180 c0_i32
  let c128_i32_46 : BitVec 32 := 128#32
  let v182 : BitVec 32 := Scalar.muli v181 c128_i32_46
  v182
@[reducible] def k0_t1_loop (i : grid0.Coords) : Scf.Loop 32 :=
  let c0_i32_60 : BitVec 32 := 0#32
  let arg1 : BitVec 32 := BitVec.ofNat 32 (i 1).val
  let v227 : BitVec 32 := Scalar.subi arg1 c0_i32_60
  let c1_i32_61 : BitVec 32 := 1#32
  let v229 : BitVec 32 := Scalar.divsi v227 c1_i32_61
  let v230 : BitVec 32 := Scalar.muli v229 c1_i32_61
  let v231 : BitVec 32 := Scalar.addi c0_i32_60 v230
  let c1_i32_62 : BitVec 32 := 1#32
  ⟨c0_i32_60, v231, c1_i32_62⟩
def k0_mult5 (i : grid0.Coords) (k0_t1 : Fin (k0_t1_loop i).trips) : BitVec 32 :=
  let arg1 : BitVec 32 := BitVec.ofNat 32 (i 1).val
  let c1_i32_69 : BitVec 32 := 1#32
  let v238 : BitVec 32 := Scalar.subi arg1 c1_i32_69
  let c0_i32_60 : BitVec 32 := 0#32
  let c1_i32_62 : BitVec 32 := 1#32
  let arg7 : BitVec 32 := Scf.iv c0_i32_60 c1_i32_62 k0_t1
  let v239 : BitVec 32 := Scalar.subi v238 arg7
  let c4_i32_70 : BitVec 32 := 4#32
  let v240 : BitVec 32 := Scalar.muli v239 c4_i32_70
  let c3_i32_71 : BitVec 32 := 3#32
  let v241 : BitVec 32 := Scalar.addi v240 c3_i32_71
  let c128_i32_72 : BitVec 32 := 128#32
  let v242 : BitVec 32 := Scalar.muli v241 c128_i32_72
  v242
def k0_off2 (i : grid0.Coords) (k0_t1 : Fin (k0_t1_loop i).trips) (c3_i32_71 : BitVec 32) : Fin 2 → Nat :=
  let arg1 : BitVec 32 := BitVec.ofNat 32 (i 1).val
  let c1_i32_69 : BitVec 32 := 1#32
  let v238 : BitVec 32 := Scalar.subi arg1 c1_i32_69
  let c0_i32_60 : BitVec 32 := 0#32
  let c1_i32_62 : BitVec 32 := 1#32
  let arg7 : BitVec 32 := Scf.iv c0_i32_60 c1_i32_62 k0_t1
  let v239 : BitVec 32 := Scalar.subi v238 arg7
  let c4_i32_70 : BitVec 32 := 4#32
  let v240 : BitVec 32 := Scalar.muli v239 c4_i32_70
  let v241 : BitVec 32 := Scalar.addi v240 c3_i32_71
  let c128_i32_72 : BitVec 32 := 128#32
  let v242 : BitVec 32 := Scalar.muli v241 c128_i32_72
  let v243 : BitVec 32 := v242
  let v244 : Index := Scalar.indexCast v243
  let c0_73 : Index := 0#32
  ![v244.toNat, 0]
def k0_mult6 (i : grid0.Coords) (k0_t1 : Fin (k0_t1_loop i).trips) : BitVec 32 :=
  let arg1 : BitVec 32 := BitVec.ofNat 32 (i 1).val
  let c1_i32_69 : BitVec 32 := 1#32
  let v238 : BitVec 32 := Scalar.subi arg1 c1_i32_69
  let c0_i32_60 : BitVec 32 := 0#32
  let c1_i32_62 : BitVec 32 := 1#32
  let arg7 : BitVec 32 := Scf.iv c0_i32_60 c1_i32_62 k0_t1
  let v239 : BitVec 32 := Scalar.subi v238 arg7
  let c4_i32_83 : BitVec 32 := 4#32
  let v279 : BitVec 32 := Scalar.muli v239 c4_i32_83
  let c2_i32_84 : BitVec 32 := 2#32
  let v280 : BitVec 32 := Scalar.addi v279 c2_i32_84
  let c128_i32_85 : BitVec 32 := 128#32
  let v281 : BitVec 32 := Scalar.muli v280 c128_i32_85
  v281
def k0_mult7 (i : grid0.Coords) (k0_t1 : Fin (k0_t1_loop i).trips) : BitVec 32 :=
  let arg1 : BitVec 32 := BitVec.ofNat 32 (i 1).val
  let c1_i32_69 : BitVec 32 := 1#32
  let v238 : BitVec 32 := Scalar.subi arg1 c1_i32_69
  let c0_i32_60 : BitVec 32 := 0#32
  let c1_i32_62 : BitVec 32 := 1#32
  let arg7 : BitVec 32 := Scf.iv c0_i32_60 c1_i32_62 k0_t1
  let v239 : BitVec 32 := Scalar.subi v238 arg7
  let c4_i32_96 : BitVec 32 := 4#32
  let v318 : BitVec 32 := Scalar.muli v239 c4_i32_96
  let c1_i32_97 : BitVec 32 := 1#32
  let v319 : BitVec 32 := Scalar.addi v318 c1_i32_97
  let c128_i32_98 : BitVec 32 := 128#32
  let v320 : BitVec 32 := Scalar.muli v319 c128_i32_98
  v320
def k0_mult8 (i : grid0.Coords) (k0_t1 : Fin (k0_t1_loop i).trips) : BitVec 32 :=
  let arg1 : BitVec 32 := BitVec.ofNat 32 (i 1).val
  let c1_i32_69 : BitVec 32 := 1#32
  let v238 : BitVec 32 := Scalar.subi arg1 c1_i32_69
  let c0_i32_60 : BitVec 32 := 0#32
  let c1_i32_62 : BitVec 32 := 1#32
  let arg7 : BitVec 32 := Scf.iv c0_i32_60 c1_i32_62 k0_t1
  let v239 : BitVec 32 := Scalar.subi v238 arg7
  let c4_i32_109 : BitVec 32 := 4#32
  let v357 : BitVec 32 := Scalar.muli v239 c4_i32_109
  let c0_i32_110 : BitVec 32 := 0#32
  let v358 : BitVec 32 := Scalar.addi v357 c0_i32_110
  let c128_i32_111 : BitVec 32 := 128#32
  let v359 : BitVec 32 := Scalar.muli v358 c128_i32_111
  v359
@[reducible] def k0_t2_loop (i : grid0.Coords) : Scf.Loop 32 :=
  let c0_i32_60 : BitVec 32 := 0#32
  let arg1 : BitVec 32 := BitVec.ofNat 32 (i 1).val
  let v227 : BitVec 32 := Scalar.subi arg1 c0_i32_60
  let c1_i32_61 : BitVec 32 := 1#32
  let v229 : BitVec 32 := Scalar.divsi v227 c1_i32_61
  let v230 : BitVec 32 := Scalar.muli v229 c1_i32_61
  let v231 : BitVec 32 := Scalar.addi c0_i32_60 v230
  let v228 : BitVec 32 := Scalar.addi c0_i32_60 v227
  let c1_i32_63 : BitVec 32 := 1#32
  ⟨v231, v228, c1_i32_63⟩
def k0_mult9 (i : grid0.Coords) (k0_t2 : Fin (k0_t2_loop i).trips) : BitVec 32 :=
  let arg1 : BitVec 32 := BitVec.ofNat 32 (i 1).val
  let c1_i32_69 : BitVec 32 := 1#32
  let v238 : BitVec 32 := Scalar.subi arg1 c1_i32_69
  let c0_i32_60 : BitVec 32 := 0#32
  let v227 : BitVec 32 := Scalar.subi arg1 c0_i32_60
  let c1_i32_61 : BitVec 32 := 1#32
  let v229 : BitVec 32 := Scalar.divsi v227 c1_i32_61
  let v230 : BitVec 32 := Scalar.muli v229 c1_i32_61
  let v231 : BitVec 32 := Scalar.addi c0_i32_60 v230
  let c1_i32_63 : BitVec 32 := 1#32
  let arg7 : BitVec 32 := Scf.iv v231 c1_i32_63 k0_t2
  let v239 : BitVec 32 := Scalar.subi v238 arg7
  let c4_i32_70 : BitVec 32 := 4#32
  let v240 : BitVec 32 := Scalar.muli v239 c4_i32_70
  let c3_i32_71 : BitVec 32 := 3#32
  let v241 : BitVec 32 := Scalar.addi v240 c3_i32_71
  let c128_i32_72 : BitVec 32 := 128#32
  let v242 : BitVec 32 := Scalar.muli v241 c128_i32_72
  v242
def k0_off3 (i : grid0.Coords) (k0_t2 : Fin (k0_t2_loop i).trips) (c3_i32_71 : BitVec 32) : Fin 2 → Nat :=
  let arg1 : BitVec 32 := BitVec.ofNat 32 (i 1).val
  let c1_i32_69 : BitVec 32 := 1#32
  let v238 : BitVec 32 := Scalar.subi arg1 c1_i32_69
  let c0_i32_60 : BitVec 32 := 0#32
  let v227 : BitVec 32 := Scalar.subi arg1 c0_i32_60
  let c1_i32_61 : BitVec 32 := 1#32
  let v229 : BitVec 32 := Scalar.divsi v227 c1_i32_61
  let v230 : BitVec 32 := Scalar.muli v229 c1_i32_61
  let v231 : BitVec 32 := Scalar.addi c0_i32_60 v230
  let c1_i32_63 : BitVec 32 := 1#32
  let arg7 : BitVec 32 := Scf.iv v231 c1_i32_63 k0_t2
  let v239 : BitVec 32 := Scalar.subi v238 arg7
  let c4_i32_70 : BitVec 32 := 4#32
  let v240 : BitVec 32 := Scalar.muli v239 c4_i32_70
  let v241 : BitVec 32 := Scalar.addi v240 c3_i32_71
  let c128_i32_72 : BitVec 32 := 128#32
  let v242 : BitVec 32 := Scalar.muli v241 c128_i32_72
  let v243 : BitVec 32 := v242
  let v244 : Index := Scalar.indexCast v243
  let c0_73 : Index := 0#32
  ![v244.toNat, 0]
def k0_mult10 (i : grid0.Coords) (k0_t2 : Fin (k0_t2_loop i).trips) : BitVec 32 :=
  let arg1 : BitVec 32 := BitVec.ofNat 32 (i 1).val
  let c1_i32_69 : BitVec 32 := 1#32
  let v238 : BitVec 32 := Scalar.subi arg1 c1_i32_69
  let c0_i32_60 : BitVec 32 := 0#32
  let v227 : BitVec 32 := Scalar.subi arg1 c0_i32_60
  let c1_i32_61 : BitVec 32 := 1#32
  let v229 : BitVec 32 := Scalar.divsi v227 c1_i32_61
  let v230 : BitVec 32 := Scalar.muli v229 c1_i32_61
  let v231 : BitVec 32 := Scalar.addi c0_i32_60 v230
  let c1_i32_63 : BitVec 32 := 1#32
  let arg7 : BitVec 32 := Scf.iv v231 c1_i32_63 k0_t2
  let v239 : BitVec 32 := Scalar.subi v238 arg7
  let c4_i32_83 : BitVec 32 := 4#32
  let v279 : BitVec 32 := Scalar.muli v239 c4_i32_83
  let c2_i32_84 : BitVec 32 := 2#32
  let v280 : BitVec 32 := Scalar.addi v279 c2_i32_84
  let c128_i32_85 : BitVec 32 := 128#32
  let v281 : BitVec 32 := Scalar.muli v280 c128_i32_85
  v281
def k0_mult11 (i : grid0.Coords) (k0_t2 : Fin (k0_t2_loop i).trips) : BitVec 32 :=
  let arg1 : BitVec 32 := BitVec.ofNat 32 (i 1).val
  let c1_i32_69 : BitVec 32 := 1#32
  let v238 : BitVec 32 := Scalar.subi arg1 c1_i32_69
  let c0_i32_60 : BitVec 32 := 0#32
  let v227 : BitVec 32 := Scalar.subi arg1 c0_i32_60
  let c1_i32_61 : BitVec 32 := 1#32
  let v229 : BitVec 32 := Scalar.divsi v227 c1_i32_61
  let v230 : BitVec 32 := Scalar.muli v229 c1_i32_61
  let v231 : BitVec 32 := Scalar.addi c0_i32_60 v230
  let c1_i32_63 : BitVec 32 := 1#32
  let arg7 : BitVec 32 := Scf.iv v231 c1_i32_63 k0_t2
  let v239 : BitVec 32 := Scalar.subi v238 arg7
  let c4_i32_96 : BitVec 32 := 4#32
  let v318 : BitVec 32 := Scalar.muli v239 c4_i32_96
  let c1_i32_97 : BitVec 32 := 1#32
  let v319 : BitVec 32 := Scalar.addi v318 c1_i32_97
  let c128_i32_98 : BitVec 32 := 128#32
  let v320 : BitVec 32 := Scalar.muli v319 c128_i32_98
  v320
def k0_mult12 (i : grid0.Coords) (k0_t2 : Fin (k0_t2_loop i).trips) : BitVec 32 :=
  let arg1 : BitVec 32 := BitVec.ofNat 32 (i 1).val
  let c1_i32_69 : BitVec 32 := 1#32
  let v238 : BitVec 32 := Scalar.subi arg1 c1_i32_69
  let c0_i32_60 : BitVec 32 := 0#32
  let v227 : BitVec 32 := Scalar.subi arg1 c0_i32_60
  let c1_i32_61 : BitVec 32 := 1#32
  let v229 : BitVec 32 := Scalar.divsi v227 c1_i32_61
  let v230 : BitVec 32 := Scalar.muli v229 c1_i32_61
  let v231 : BitVec 32 := Scalar.addi c0_i32_60 v230
  let c1_i32_63 : BitVec 32 := 1#32
  let arg7 : BitVec 32 := Scf.iv v231 c1_i32_63 k0_t2
  let v239 : BitVec 32 := Scalar.subi v238 arg7
  let c4_i32_109 : BitVec 32 := 4#32
  let v357 : BitVec 32 := Scalar.muli v239 c4_i32_109
  let c0_i32_110 : BitVec 32 := 0#32
  let v358 : BitVec 32 := Scalar.addi v357 c0_i32_110
  let c128_i32_111 : BitVec 32 := 128#32
  let v359 : BitVec 32 := Scalar.muli v358 c128_i32_111
  v359
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceSbFwdIdeal.lean ====
abbrev S2048x5120 : Shape := ⟨2, ![2048, 5120]⟩
abbrev S2048x3072 : Shape := ⟨2, ![2048, 3072]⟩
abbrev S2048x1024 : Shape := ⟨2, ![2048, 1024]⟩
abbrev S2048x8x128 : Shape := ⟨3, ![2048, 8, 128]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S8x2048 : Shape := ⟨2, ![8, 2048]⟩
abbrev S8x2048x1 : Shape := ⟨3, ![8, 2048, 1]⟩

abbrev nBuf : Space → Nat
  | .hbm => 111
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S2048x3072, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x8x128, .f32⟩
  | .hbm, ⟨6, _⟩ => ⟨S2048x8x128, .f32⟩
  | .hbm, ⟨7, _⟩ => ⟨S2048x8x128, .f32⟩
  | .hbm, ⟨8, _⟩ => ⟨S_, .f32⟩
  | .hbm, ⟨9, _⟩ => ⟨S2048x8x128, .f32⟩
  | .hbm, ⟨10, _⟩ => ⟨S2048x8x128, .f32⟩
  | .hbm, ⟨11, _⟩ => ⟨S8x2048x2048, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .i1⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S_, .f32⟩
  | .hbm, ⟨53, _⟩ => ⟨S8x2048x2048, .i1⟩
  | .hbm, ⟨54, _⟩ => ⟨S8x2048x2048, .f32⟩
  | .hbm, ⟨55, _⟩ => ⟨S8x2048x2048, .f32⟩
  | .hbm, ⟨56, _⟩ => ⟨S_, .f32⟩
  | .hbm, ⟨57, _⟩ => ⟨S_, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S_, .f32⟩
  | .hbm, ⟨64, _⟩ => ⟨S8x2048x2048, .i1⟩
  | .hbm, ⟨65, _⟩ => ⟨S8x2048x2048, .f32⟩
  | .hbm, ⟨66, _⟩ => ⟨S8x2048x2048, .f32⟩
  | .hbm, ⟨67, _⟩ => ⟨S8x128x2048, .f32⟩
  | .hbm, ⟨68, _⟩ => ⟨S2048x8x128, .f32⟩
  | .hbm, ⟨69, _⟩ => ⟨S2048x1024, .f32⟩
  | .hbm, ⟨70, _⟩ => ⟨S2048x3072, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x8x128, .f32⟩
  | .hbm, ⟨75, _⟩ => ⟨S_, .f32⟩
  | .hbm, ⟨76, _⟩ => ⟨S2048x8x128, .f32⟩
  | .hbm, ⟨77, _⟩ => ⟨S2048x8x128, .f32⟩
  | .hbm, ⟨78, _⟩ => ⟨S2048x8x128, .f32⟩
  | .hbm, ⟨79, _⟩ => ⟨S8x2048x2048, .f32⟩
  | .hbm, ⟨80, _⟩ => ⟨S2048, .i32⟩
  | .hbm, ⟨81, _⟩ => ⟨S1x2048, .i32⟩
  | .hbm, ⟨82, _⟩ => ⟨S2048x1, .i32⟩
  | .hbm, ⟨83, _⟩ => ⟨S2048x2048, .i32⟩
  | .hbm, ⟨84, _⟩ => ⟨S2048x2048, .i32⟩
  | .hbm, ⟨85, _⟩ => ⟨S2048x2048, .i1⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048x2048, .f32⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S8x2048x2048, .i1⟩
  | .hbm, ⟨94, _⟩ => ⟨S8x2048x2048, .f32⟩
  | .hbm, ⟨95, _⟩ => ⟨S8x2048x2048, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S8x2048x2048, .f32⟩
  | .hbm, ⟨100, _⟩ => ⟨S8x2048x2048, .f32⟩
  | .hbm, ⟨101, _⟩ => ⟨S8x2048x2048, .f32⟩
  | .hbm, ⟨102, _⟩ => ⟨S8x2048x2048, .f32⟩
  | .hbm, ⟨103, _⟩ => ⟨S_, .f32⟩
  | .hbm, ⟨104, _⟩ => ⟨S_, .f32⟩
  | .hbm, ⟨105, _⟩ => ⟨S8x2048x2048, .i1⟩
  | .hbm, ⟨106, _⟩ => ⟨S8x2048x2048, .f32⟩
  | .hbm, ⟨107, _⟩ => ⟨S8x2048x2048, .f32⟩
  | .hbm, ⟨108, _⟩ => ⟨S_, .f32⟩
  | .hbm, ⟨109, _⟩ => ⟨S8x2048, .f32⟩
  | .hbm, ⟨110, _⟩ => ⟨S8x2048x1, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v18 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v19 : Ref sig .tc := ⟨.hbm, 55, rfl⟩
abbrev main_call3_cst : Ref sig .tc := ⟨.hbm, 56, rfl⟩
abbrev main_call3_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_2 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_call5_v0 : Ref sig .tc := ⟨.hbm, 87, rfl⟩
abbrev main_call5_call0_cst : Ref sig .tc := ⟨.hbm, 88, rfl⟩
abbrev main_call5_call0_v0 : Ref sig .tc := ⟨.hbm, 89, rfl⟩
abbrev main_call5_call0_v1 : Ref sig .tc := ⟨.hbm, 90, rfl⟩
abbrev main_call5_call0_v2 : Ref sig .tc := ⟨.hbm, 91, rfl⟩
abbrev main_call5_call0_v3 : Ref sig .tc := ⟨.hbm, 92, rfl⟩
abbrev main_call5_call0_v4 : Ref sig .tc := ⟨.hbm, 93, rfl⟩
abbrev main_call5_call0_v5 : Ref sig .tc := ⟨.hbm, 94, rfl⟩
abbrev main_call5_call0_v6 : Ref sig .tc := ⟨.hbm, 95, rfl⟩
abbrev main_call5_call0_v7 : Ref sig .tc := ⟨.hbm, 96, rfl⟩
abbrev main_call5_call0_v8 : Ref sig .tc := ⟨.hbm, 97, rfl⟩
abbrev main_call5_call0_v9 : Ref sig .tc := ⟨.hbm, 98, rfl⟩
abbrev main_call5_call0_v10 : Ref sig .tc := ⟨.hbm, 99, rfl⟩
abbrev main_call5_call0_v11 : Ref sig .tc := ⟨.hbm, 100, rfl⟩
abbrev main_call5_v1 : Ref sig .tc := ⟨.hbm, 101, rfl⟩
abbrev main_v44 : Ref sig .tc := ⟨.hbm, 102, rfl⟩
abbrev main_cst_3 : Ref sig .tc := ⟨.hbm, 103, rfl⟩
abbrev main_call6_v0 : Ref sig .tc := ⟨.hbm, 104, rfl⟩
abbrev main_call6_v1 : Ref sig .tc := ⟨.hbm, 105, rfl⟩
abbrev main_call6_v2 : Ref sig .tc := ⟨.hbm, 106, rfl⟩
abbrev main_v45 : Ref sig .tc := ⟨.hbm, 107, rfl⟩
abbrev main_cst_4 : Ref sig .tc := ⟨.hbm, 108, rfl⟩
abbrev main_v46 : Ref sig .tc := ⟨.hbm, 109, rfl⟩
abbrev main_v47 : Ref sig .tc := ⟨.hbm, 110, rfl⟩

abbrev nD : Nat := 1
abbrev τ : Topo := Topo.v7x

variable {F : FTy → Type} [FloatOps F]
-- ==== KernelNorm.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelNormBwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormBwdIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.SbMath.lean ====
/- The real-number mathematics of one head of stick-breaking attention and of its gradient.

   `Q` (already scaled), `K`, `V` and the output gradient `D` of one head are functions of a token number and a lane.
   Row `t` gives key `j < t` the weight  exp(log β(t,j) + Σ_{j' > j} log(1 − β(t,j'))),  β the logistic of the score.
   The gradient of a score is  e·(1 − β) − β·Σ_{j' < j} e,  e the weight times its own gradient. -/
module

public import Mathlib.Data.EReal.Operations
public import Mathlib.Analysis.SpecialFunctions.Log.Basic
public import Mathlib.Algebra.BigOperators.Fin

@[expose] public section

noncomputable section

namespace Cert.Proof.Sb

open Finset

/-- The logarithm of the logistic function, in the form that never overflows. -/
def logSig (x : ℝ) : ℝ := min x 0 - Real.log (1 + Real.exp (-|x|))

section Head
variable (Q K V D : ℕ → ℕ → ℝ)

/-- The score of key `j` in row `t`. -/
def score (t j : ℕ) : ℝ := ∑ d ∈ range 128, Q t d * K j d
/-- log β. -/
def lbeta (t j : ℕ) : ℝ := logSig (score Q K t j)
/-- log (1 − β), zero where the key is not before the row. -/
def lkeep (t j : ℕ) : ℝ := if j < t then lbeta Q K t j - score Q K t j else 0
/-- The sum of `lkeep` over all keys. -/
def total (t : ℕ) : ℝ := ∑ j ∈ range 2048, lkeep Q K t j
/-- What of the total is left for the keys from `n` on. -/
def left (n t : ℕ) : ℝ := total Q K t - ∑ j ∈ range n, lkeep Q K t j
/-- The weight of key `j` in row `t`. -/
def wt (t j : ℕ) : ℝ := if j < t then Real.exp (lbeta Q K t j + left Q K (j + 1) t) else 0
/-- The gradient of the weight. -/
def dwt (t j : ℕ) : ℝ := ∑ d ∈ range 128, D t d * V j d
/-- The weight times its gradient. -/
def ew (t j : ℕ) : ℝ := wt Q K t j * dwt V D t j
/-- The sum of `ew` over the keys before `n`. -/
def seen (n t : ℕ) : ℝ := ∑ j ∈ range n, ew Q K V D t j
/-- The gradient of the score. -/
def dz (t j : ℕ) : ℝ :=
  if j < t then ew Q K V D t j * (1 - Real.exp (lbeta Q K t j)) - Real.exp (lbeta Q K t j) * seen Q K V D j t else 0
/-- The gradient of the scaled query row, from the keys before `n`. -/
def dqs (n t d : ℕ) : ℝ := ∑ j ∈ range n, dz Q K V D t j * K j d
/-- The gradient of key `j`, from the rows before `n`. -/
def dks (n j d : ℕ) : ℝ := ∑ t ∈ range n, dz Q K V D t j * Q t d
/-- The gradient of value `j`, from the rows before `n`. -/
def dvs (n j d : ℕ) : ℝ := ∑ t ∈ range n, wt Q K t j * D t d

theorem wt_zero {t j : ℕ} (h : t ≤ j) : wt Q K t j = 0 := if_neg (by omega)
theorem lkeep_zero {t j : ℕ} (h : t ≤ j) : lkeep Q K t j = 0 := if_neg (by omega)
theorem dz_zero {t j : ℕ} (h : t ≤ j) : dz Q K V D t j = 0 := if_neg (by omega)
theorem ew_zero {t j : ℕ} (h : t ≤ j) : ew Q K V D t j = 0 := by rw [ew, wt_zero Q K h, zero_mul]

theorem left_add (n b t : ℕ) : left Q K n t - ∑ c ∈ range b, lkeep Q K t (n + c) = left Q K (n + b) t := by
  rw [left, left, sum_range_add]; ring
theorem seen_add (n b t : ℕ) : seen Q K V D n t + ∑ c ∈ range b, ew Q K V D t (n + c) = seen Q K V D (n + b) t := by
  rw [seen, seen, sum_range_add]
theorem dqs_add (n b t d : ℕ) :
    dqs Q K V D n t d + ∑ c ∈ range b, dz Q K V D t (n + c) * K (n + c) d = dqs Q K V D (n + b) t d := by
  rw [dqs, dqs, sum_range_add]
theorem dks_add (n b j d : ℕ) :
    dks Q K V D n j d + ∑ c ∈ range b, dz Q K V D (n + c) j * Q (n + c) d = dks Q K V D (n + b) j d := by
  rw [dks, dks, sum_range_add]
theorem dvs_add (n b j d : ℕ) :
    dvs Q K D n j d + ∑ c ∈ range b, wt Q K (n + c) j * D (n + c) d = dvs Q K D (n + b) j d := by
  rw [dvs, dvs, sum_range_add]

theorem left_zero (t : ℕ) : left Q K 0 t = total Q K t := by simp [left]
theorem seen_zero (t : ℕ) : seen Q K V D 0 t = 0 := by simp [seen]

theorem dqs_nil (t d : ℕ) : dqs Q K V D 0 t d = 0 := by simp [dqs]
theorem dks_nil (j d : ℕ) : dks Q K V D 0 j d = 0 := by simp [dks]
theorem dvs_nil (j d : ℕ) : dvs Q K D 0 j d = 0 := by simp [dvs]

/-- Keys from `t` on add nothing to the gradient of row `t`. -/
theorem dqs_const {n m t d : ℕ} (h : t ≤ n) (hnm : n ≤ m) : dqs Q K V D m t d = dqs Q K V D n t d := by
  obtain ⟨b, rfl⟩ := Nat.exists_eq_add_of_le hnm
  rw [← dqs_add, sum_eq_zero fun c _ => by rw [dz_zero Q K V D (by omega), zero_mul], add_zero]
/-- Rows up to `j` add nothing to the gradient of key `j`. -/
theorem dks_const {n m j d : ℕ} (h : m ≤ j + 1) (hnm : n ≤ m) : dks Q K V D m j d = dks Q K V D n j d := by
  obtain ⟨b, rfl⟩ := Nat.exists_eq_add_of_le hnm
  rw [← dks_add, sum_eq_zero fun c hc => by
    rw [dz_zero Q K V D (by rw [mem_range] at hc; omega), zero_mul], add_zero]
theorem dvs_const {n m j d : ℕ} (h : m ≤ j + 1) (hnm : n ≤ m) : dvs Q K D m j d = dvs Q K D n j d := by
  obtain ⟨b, rfl⟩ := Nat.exists_eq_add_of_le hnm
  rw [← dvs_add, sum_eq_zero fun c hc => by
    rw [wt_zero Q K (by rw [mem_range] at hc; omega), zero_mul], add_zero]

end Head

/-! ## Real sums and products read as extended reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem coe_sum_fin {n : ℕ} (f : ℕ → ℝ) : ∑ i : Fin n, (f i : EReal) = ((∑ i ∈ range n, f i : ℝ) : EReal) := by
  rw [coe_sum, Finset.sum_range]

theorem coe_dot_fin {n : ℕ} (f g : ℕ → ℝ) :
    ∑ i : Fin n, (f i : EReal) * (g i : EReal) = ((∑ i ∈ range n, f i * g i : ℝ) : EReal) := by
  rw [← coe_sum_fin]; exact sum_congr rfl fun i _ => (EReal.coe_mul _ _).symm

/-- A sum against a 0/1 mask that keeps the places up to `c`. -/
theorem coe_prefix_le {n : ℕ} (f : ℕ → ℝ) (c : Fin n) :
    ∑ x : Fin n, (f x : EReal) * (((if (x : ℕ) ≤ c then 1 else 0 : ℝ)) : EReal) = ((∑ x ∈ range (c + 1), f x : ℝ) : EReal) := by
  rw [coe_dot_fin f fun x => if x ≤ (c : ℕ) then 1 else 0]
  congr 1
  simp only [mul_ite, mul_one, mul_zero]
  rw [← sum_filter]
  refine sum_congr ?_ fun _ _ => rfl
  ext x; simp only [mem_filter, mem_range]; have := c.isLt; omega
theorem coe_prefix_lt {n : ℕ} (f : ℕ → ℝ) (c : Fin n) :
    ∑ x : Fin n, (f x : EReal) * (((if (x : ℕ) < c then 1 else 0 : ℝ)) : EReal) = ((∑ x ∈ range c, f x : ℝ) : EReal) := by
  rw [coe_dot_fin f fun x => if x < (c : ℕ) then 1 else 0]
  congr 1
  simp only [mul_ite, mul_one, mul_zero]
  rw [← sum_filter]
  refine sum_congr ?_ fun _ _ => rfl
  ext x; simp only [mem_filter, mem_range]; have := c.isLt; omega

theorem coe_min (a b : ℝ) : min (a : EReal) (b : EReal) = ((min a b : ℝ) : EReal) := (EReal.coe_strictMono.monotone.map_min).symm
theorem coe_max (a b : ℝ) : max (a : EReal) (b : EReal) = ((max a b : ℝ) : EReal) := (EReal.coe_strictMono.monotone.map_max).symm

end Cert.Proof.Sb
-- ==== Proof.SbPay.lean ====
/- The kernel body's vector expressions over real-valued operands. -/
module

public import proofs.«01_k».proof.Proof.Gen.KernelIdeal.Skeleton
public import proofs.«01_k».proof.Proof.SbMath
public import Idealize.ShloMosaic.Lib.Pointwise
public import Idealize.ShloMosaic.Lib.Pipeline.ValueKit

@[expose] public section

set_option maxRecDepth 16384

noncomputable section

namespace Cert.Proof.Sb
open Idealize.ShloMosaic Idealize.ShloMosaic.TcCoe Idealize.SL.Sem
open Cert.KernelIdeal Cert.KernelIdeal.Gen

/-- The kernel's log-logistic of a real score. -/
theorem logSig_coe (x : ℝ) :
    min (x : EReal) 0 - Ideal.log (1 + Ideal.exp (0 - FloatOps.absf (F := Ideal) (φ := .f32) (x : EReal))) = ((logSig x : ℝ) : EReal) := by
  have habs : FloatOps.absf (F := Ideal) (φ := .f32) (x : EReal) = ((|x| : ℝ) : EReal) := by
    show max (x : EReal) (-(x : EReal)) = _
    rw [← EReal.coe_neg, coe_max]; rfl
  rw [habs, ← EReal.coe_zero, ← EReal.coe_sub, Ideal.exp_coe, ← EReal.coe_one, ← EReal.coe_add, Ideal.log_coe,
    if_neg (by have := Real.exp_pos (0 - |x|); linarith), coe_min, ← EReal.coe_sub, logSig, zero_sub]

theorem upto_at (r c : Fin 256) : k0_pay50 (F := Ideal) (ix2 r c) = (((if (r : ℕ) ≤ c then 1 else 0 : ℝ)) : EReal) := by
  pointwise [k0_pay50]
  have hr := r.isLt; have hc := c.isLt
  show ((((IntOp.cmpi .sle (BitVec.ofNat 32 r) (BitVec.ofNat 32 c)).setWidth 32).toInt : ℝ) : EReal) = _
  have h : (BitVec.ofNat 32 (r : ℕ)).sle (BitVec.ofNat 32 (c : ℕ)) = decide ((r : ℕ) ≤ c) := by
    rw [BitVec.sle_eq_decide, BitVec.toInt_eq_toNat_of_lt, BitVec.toInt_eq_toNat_of_lt] <;>
      simp only [BitVec.toNat_ofNat] <;> first | omega | (congr 1; apply propext; omega)
  simp only [IntOp.cmpi, h]
  by_cases hh : (r : ℕ) ≤ c <;> simp [hh]

/-! ## The arithmetic of one entry -/

section Core
variable (Q K V D : ℕ → ℕ → ℝ)

theorem score_core (t j : ℕ) : ∑ x : Fin 128, ((Q t x : ℝ) : EReal) * ((K j x : ℝ) : EReal) = ((score Q K t j : ℝ) : EReal) :=
  coe_dot_fin (fun d => Q t d) (fun d => K j d)

theorem wt_core (n t : ℕ) (c : Fin 256) :
    Ideal.exp ((lbeta Q K t (n + c) : EReal) + ((left Q K n t : EReal)
      - (∑ x : Fin 256, (lkeep Q K t (n + x) : EReal) * (((if (x : ℕ) ≤ c then 1 else 0 : ℝ)) : EReal)
        + ∑ x : Fin 256, ((lkeep Q K t (n + x) : EReal) - (lkeep Q K t (n + x) : EReal)) * (((if (x : ℕ) ≤ c then 1 else 0 : ℝ)) : EReal))))
    = ((Real.exp (lbeta Q K t (n + c) + left Q K (n + c + 1) t) : ℝ) : EReal) := by
  have h0 : ∀ x : Fin 256, ((lkeep Q K t (n + x) : EReal) - (lkeep Q K t (n + x) : EReal)) * (((if (x : ℕ) ≤ c then 1 else 0 : ℝ)) : EReal) = 0 := by
    intro x; rw [← EReal.coe_sub, sub_self, EReal.coe_zero, zero_mul]
  rw [coe_prefix_le (fun x => lkeep Q K t (n + x)) c, Finset.sum_eq_zero fun x _ => h0 x, add_zero, ← EReal.coe_sub, left_add,
    ← EReal.coe_add, Ideal.exp_coe, ← add_assoc]

theorem dz_core (n t : ℕ) (c : Fin 256) :
    (ew Q K V D t (n + c) : EReal) * (1 - Ideal.exp (lbeta Q K t (n + c) : EReal))
      - Ideal.exp (lbeta Q K t (n + c) : EReal) * ((seen Q K V D n t : EReal)
        + ∑ x : Fin 256, (ew Q K V D t (n + x) : EReal) * (((if (x : ℕ) < c then 1 else 0 : ℝ)) : EReal))
    = ((ew Q K V D t (n + c) * (1 - Real.exp (lbeta Q K t (n + c))) - Real.exp (lbeta Q K t (n + c)) * seen Q K V D (n + c) t : ℝ) : EReal) := by
  rw [coe_prefix_lt (fun x => ew Q K V D t (n + x)) c, ← EReal.coe_add, seen_add, Ideal.exp_coe, ← EReal.coe_one,
    ← EReal.coe_sub, ← EReal.coe_mul, ← EReal.coe_mul, ← EReal.coe_sub]

theorem left_core (n t : ℕ) : (left Q K n t : EReal) - ∑ x : Fin 256, (lkeep Q K t (n + x) : EReal) = ((left Q K (n + 256) t : ℝ) : EReal) := by
  rw [coe_sum_fin (fun x => lkeep Q K t (n + x)), ← EReal.coe_sub, left_add]
theorem seen_core (n t : ℕ) : (seen Q K V D n t : EReal) + ∑ x : Fin 256, (ew Q K V D t (n + x) : EReal) = ((seen Q K V D (n + 256) t : ℝ) : EReal) := by
  rw [coe_sum_fin (fun x => ew Q K V D t (n + x)), ← EReal.coe_add, seen_add]
theorem dqs_core (n t d : ℕ) :
    (dqs Q K V D n t d : EReal) + ∑ x : Fin 256, (dz Q K V D t (n + x) : EReal) * (K (n + x) d : EReal) = ((dqs Q K V D (n + 256) t d : ℝ) : EReal) := by
  rw [coe_dot_fin (fun x => dz Q K V D t (n + x)) (fun x => K (n + x) d), ← EReal.coe_add, dqs_add]
theorem dks_core (b n j d : ℕ) :
    (dks Q K V D n j d : EReal) + ∑ x : Fin b, (dz Q K V D (n + x) j : EReal) * (Q (n + x) d : EReal) = ((dks Q K V D (n + b) j d : ℝ) : EReal) := by
  rw [coe_dot_fin (fun x => dz Q K V D (n + x) j) (fun x => Q (n + x) d), ← EReal.coe_add, dks_add]
theorem dvs_core (b n j d : ℕ) :
    (dvs Q K D n j d : EReal) + ∑ x : Fin b, (wt Q K (n + x) j : EReal) * (D (n + x) d : EReal) = ((dvs Q K D (n + b) j d : ℝ) : EReal) := by
  rw [coe_dot_fin (fun x => wt Q K (n + x) j) (fun x => D (n + x) d), ← EReal.coe_add, dvs_add]

end Core

theorem before_at (r c : Fin 256) : k0_pay51 (F := Ideal) (ix2 r c) = (((if (r : ℕ) < c then 1 else 0 : ℝ)) : EReal) := by
  pointwise [k0_pay51]
  have hr := r.isLt; have hc := c.isLt
  show ((((IntOp.cmpi .slt (BitVec.ofNat 32 r) (BitVec.ofNat 32 c)).setWidth 32).toInt : ℝ) : EReal) = _
  have h : (BitVec.ofNat 32 (r : ℕ)).slt (BitVec.ofNat 32 (c : ℕ)) = decide ((r : ℕ) < c) := by
    rw [BitVec.slt_eq_decide, BitVec.toInt_eq_toNat_of_lt, BitVec.toInt_eq_toNat_of_lt] <;>
      simp only [BitVec.toNat_ofNat] <;> first | omega | (congr 1; apply propext; omega)
  simp only [IntOp.cmpi, h]
  by_cases hh : (r : ℕ) < c <;> simp [hh]

/-! ## A step over 256 keys that lie before every row: first of a trip's two

`t0` is the block's first row, `n` the step's first key. -/

section Step1
variable {Q K V D : ℕ → ℕ → ℝ} {t0 n : ℕ}
  {v6 v8 : FVec Ideal S512x128 .bf16} {lf se : FVec Ideal S512x1 .f32} {kb vb : Vec Ideal S256x128 .f32}
  (hq : ∀ r d, v6 (ix2 r d) = (Q (t0 + r) d : EReal)) (hk : ∀ c d, kb (ix2 c d) = (K (n + c) d : EReal))
  (hd : ∀ r d, v8 (ix2 r d) = (D (t0 + r) d : EReal)) (hv : ∀ c d, vb (ix2 c d) = (V (n + c) d : EReal))
  (hn : n + 256 ≤ t0) (hl : ∀ r z, lf (ix2 r z) = (left Q K n (t0 + r) : EReal))
  (hs : ∀ r z, se (ix2 r z) = (seen Q K V D n (t0 + r) : EReal))

include hq hk in
theorem pay2_at (r : Fin 512) (c : Fin 256) : k0_pay2 v6 kb (ix2 r c) = (score Q K (t0 + r) (n + c) : EReal) := by
  pointwise [k0_pay2, k0_pay1]
  simp only [hq, hk]; exact score_core Q K _ _
include hq hk in
theorem pay3_at (r : Fin 512) (c : Fin 256) : k0_pay3 v6 kb (ix2 r c) = (lbeta Q K (t0 + r) (n + c) : EReal) := by
  pointwise [k0_pay3]
  rw [pay2_at hq hk]; exact logSig_coe _
include hq hk hn in
theorem pay4_at (r : Fin 512) (c : Fin 256) : k0_pay4 v6 kb (ix2 r c) = (lkeep Q K (t0 + r) (n + c) : EReal) := by
  pointwise [k0_pay4]
  rw [pay2_at hq hk, pay3_at hq hk, ← EReal.coe_sub, lkeep, if_pos (by omega)]
include hq hk hn hl in
theorem pay5_at (r : Fin 512) (c : Fin 256) : k0_pay5 v6 k0_pay50 lf kb (ix2 r c) = (wt Q K (t0 + r) (n + c) : EReal) := by
  pointwise [k0_pay5]
  simp only [pay3_at hq hk, pay4_at hq hk hn, hl, upto_at]
  rw [wt_core, wt, if_pos (by omega)]
include hq hk hn hl hd hv in
theorem pay6_at (r : Fin 512) (c : Fin 256) : k0_pay6 v6 v8 k0_pay50 lf kb vb (ix2 r c) = (ew Q K V D (t0 + r) (n + c) : EReal) := by
  pointwise [k0_pay6]
  simp only [pay5_at hq hk hn hl, hd, hv]
  rw [score_core D V, ← EReal.coe_mul, ew]; rfl
include hq hk hn hl hd hv hs in
theorem pay7_at (r : Fin 512) (c : Fin 256) :
    k0_pay7 v6 v8 k0_pay50 k0_pay51 lf se kb vb (ix2 r c) = (dz Q K V D (t0 + r) (n + c) : EReal) := by
  pointwise [k0_pay7]
  simp only [pay3_at hq hk, pay6_at hq hk hd hv hn hl, hs, before_at]
  rw [dz_core, dz, if_pos (by omega)]
include hk in
theorem pay9_at {a : FVec Ideal S512x128 .f32} {z : FVec Ideal S512x256 .f32}
    (ha : ∀ r d, a (ix2 r d) = (dqs Q K V D n (t0 + r) d : EReal)) (hz : ∀ r c, z (ix2 r c) = (dz Q K V D (t0 + r) (n + c) : EReal))
    (r : Fin 512) (d : Fin 128) : k0_pay9 a (k0_pay1 kb) z (ix2 r d) = (dqs Q K V D (n + 256) (t0 + r) d : EReal) := by
  pointwise [k0_pay9, k0_pay8, k0_pay1]
  simp only [ha, hz, hk]; exact dqs_core Q K V D _ _ _
include hq in
theorem pay10_at {z : FVec Ideal S512x256 .f32} {w : Vec Ideal S1x256x128 .f32}
    (hz : ∀ r c, z (ix2 r c) = (dz Q K V D (t0 + r) (n + c) : EReal)) (hw : ∀ a c d, w (ix3 a c d) = (dks Q K V D t0 (n + c) d : EReal))
    (a : Fin 1) (c : Fin 256) (d : Fin 128) : k0_pay10 v6 z w (ix3 a c d) = (dks Q K V D (t0 + 512) (n + c) d : EReal) := by
  pointwise [k0_pay10, k0_pay8]
  simp only [hw, hz, hq]; exact dks_core Q K V D 512 _ _ _
include hd in
theorem pay11_at {p : FVec Ideal S512x256 .f32} {w : Vec Ideal S1x256x128 .f32}
    (hp : ∀ r c, p (ix2 r c) = (wt Q K (t0 + r) (n + c) : EReal)) (hw : ∀ a c d, w (ix3 a c d) = (dvs Q K D t0 (n + c) d : EReal))
    (a : Fin 1) (c : Fin 256) (d : Fin 128) : k0_pay11 v8 p w (ix3 a c d) = (dvs Q K D (t0 + 512) (n + c) d : EReal) := by
  pointwise [k0_pay11]
  simp only [hw, hp, hd]; exact dvs_core Q K D 512 _ _ _
include hl in
theorem pay12_at {m : FVec Ideal S512x256 .f32} (hm : ∀ r c, m (ix2 r c) = (lkeep Q K (t0 + r) (n + c) : EReal)) (r : Fin 512) (z : Fin 1) :
    k0_pay12 lf m (ix2 r z) = (left Q K (n + 256) (t0 + r) : EReal) := by
  pointwise [k0_pay12]
  simp only [hl, hm]; exact left_core Q K _ _
include hs in
theorem pay13_at {e : FVec Ideal S512x256 .f32} (he : ∀ r c, e (ix2 r c) = (ew Q K V D (t0 + r) (n + c) : EReal)) (r : Fin 512) (z : Fin 1) :
    k0_pay13 se e (ix2 r z) = (seen Q K V D (n + 256) (t0 + r) : EReal) := by
  pointwise [k0_pay13]
  simp only [hs, he]; exact seen_core Q K V D _ _

/-! ## … second of a trip's two: its scores `zz` are computed ahead -/

include hq hk in
theorem pay16_at (r : Fin 512) (c : Fin 256) : k0_pay16 v6 kb (ix2 r c) = (score Q K (t0 + r) (n + c) : EReal) := by
  pointwise [k0_pay16, k0_pay14]
  simp only [hq, hk]; exact score_core Q K _ _

variable {zz : FVec Ideal S512x256 .f32} {vh kh : FVec Ideal S256x128 .bf16}
  (hzz : ∀ r c, zz (ix2 r c) = (score Q K (t0 + r) (n + c) : EReal)) (hvh : ∀ c d, vh (ix2 c d) = (V (n + c) d : EReal))
  (hkh : ∀ c d, kh (ix2 c d) = (K (n + c) d : EReal))

include hzz in
theorem pay17_at (r : Fin 512) (c : Fin 256) : k0_pay17 zz (ix2 r c) = (lbeta Q K (t0 + r) (n + c) : EReal) := by
  pointwise [k0_pay17]
  rw [hzz]; exact logSig_coe _
include hzz hn in
theorem pay18_at (r : Fin 512) (c : Fin 256) : k0_pay18 zz (ix2 r c) = (lkeep Q K (t0 + r) (n + c) : EReal) := by
  pointwise [k0_pay18]
  rw [hzz, pay17_at hzz, ← EReal.coe_sub, lkeep, if_pos (by omega)]
include hzz hn hl in
theorem pay19_at (r : Fin 512) (c : Fin 256) : k0_pay19 k0_pay50 lf zz (ix2 r c) = (wt Q K (t0 + r) (n + c) : EReal) := by
  pointwise [k0_pay19]
  simp only [pay17_at hzz, pay18_at hn hzz, hl, upto_at]
  rw [wt_core, wt, if_pos (by omega)]
include hzz hn hl hd hvh in
theorem pay20_at (r : Fin 512) (c : Fin 256) : k0_pay20 v8 k0_pay50 lf vh zz (ix2 r c) = (ew Q K V D (t0 + r) (n + c) : EReal) := by
  pointwise [k0_pay20]
  simp only [pay19_at hn hl hzz, hd, hvh]
  rw [score_core D V, ← EReal.coe_mul, ew]; rfl
include hzz hn hl hd hvh hs in
theorem pay21_at (r : Fin 512) (c : Fin 256) : k0_pay21 v8 k0_pay50 k0_pay51 lf se vh zz (ix2 r c) = (dz Q K V D (t0 + r) (n + c) : EReal) := by
  pointwise [k0_pay21]
  simp only [pay17_at hzz, pay20_at hd hn hl hzz hvh, hs, before_at]
  rw [dz_core, dz, if_pos (by omega)]
include hzz hn hl hd hvh hs hkh in
theorem pay22_at {a : FVec Ideal S512x128 .f32} (ha : ∀ r d, a (ix2 r d) = (dqs Q K V D n (t0 + r) d : EReal)) (r : Fin 512) (d : Fin 128) :
    k0_pay22 v8 k0_pay50 k0_pay51 a lf se kh vh zz (ix2 r d) = (dqs Q K V D (n + 256) (t0 + r) d : EReal) := by
  pointwise [k0_pay22]
  simp only [ha, pay21_at hd hn hl hs hzz hvh, hkh]; exact dqs_core Q K V D _ _ _
include hq hzz hn hl hd hvh hs in
theorem pay23_at {w : Vec Ideal S1x256x128 .f32} (hw : ∀ a c d, w (ix3 a c d) = (dks Q K V D t0 (n + c) d : EReal))
    (a : Fin 1) (c : Fin 256) (d : Fin 128) :
    k0_pay23 v6 v8 k0_pay50 k0_pay51 lf se vh zz w (ix3 a c d) = (dks Q K V D (t0 + 512) (n + c) d : EReal) := by
  pointwise [k0_pay23]
  simp only [hw, pay21_at hd hn hl hs hzz hvh, hq]; exact dks_core Q K V D 512 _ _ _
theorem pay56_at {v7 : Vec Ideal S512x128 .f32} {p : FVec Ideal S512x256 .f32} {w : Vec Ideal S1x256x128 .f32}
    (hd : ∀ r d, v7 (ix2 r d) = (D (t0 + r) d : EReal))
    (hp : ∀ r c, p (ix2 r c) = (wt Q K (t0 + r) (n + c) : EReal)) (hw : ∀ a c d, w (ix3 a c d) = (dvs Q K D t0 (n + c) d : EReal))
    (a : Fin 1) (c : Fin 256) (d : Fin 128) : k0_pay56 v7 p w (ix3 a c d) = (dvs Q K D (t0 + 512) (n + c) d : EReal) := by
  pointwise [k0_pay56, k0_pay49]
  simp only [hw, hp, hd]; exact dvs_core Q K D 512 _ _ _
include hl in
theorem pay57_at {m : FVec Ideal S512x256 .f32} (hm : ∀ r c, m (ix2 r c) = (lkeep Q K (t0 + r) (n + c) : EReal)) (r : Fin 512) (z : Fin 1) :
    k0_pay57 lf m (ix2 r z) = (left Q K (n + 256) (t0 + r) : EReal) := by
  pointwise [k0_pay57]
  simp only [hl, hm]; exact left_core Q K _ _
include hs in
theorem pay58_at {e : FVec Ideal S512x256 .f32} (he : ∀ r c, e (ix2 r c) = (ew Q K V D (t0 + r) (n + c) : EReal)) (r : Fin 512) (z : Fin 1) :
    k0_pay58 se e (ix2 r z) = (seen Q K V D (n + 256) (t0 + r) : EReal) := by
  pointwise [k0_pay58]
  simp only [hs, he]; exact seen_core Q K V D _ _

end Step1

/-! ## The diagonal's two steps: the keys are masked by `key < row` -/

theorem toInt_sub_ofNat {a b : ℕ} (ha : a < 65536) (hb : b < 65536) :
    (BitVec.ofNat 32 a - BitVec.ofNat 32 b).toInt = (a : ℤ) - b := by
  have h (x : ℕ) (hx : x < 65536) : (BitVec.ofNat 32 x).toInt = (x : ℤ) := by
    rw [BitVec.toInt_eq_toNat_of_lt] <;> simp only [BitVec.toNat_ofNat] <;> omega
  rw [BitVec.toInt_sub, h a ha, h b hb]
  simp only [Int.bmod_def]
  omega

theorem mask1_at {i : ℕ} (hi : i < 4) (r : Fin 512) (c : Fin 256) :
    k0_pay63 (BitVec.ofNat 32 i) k0_pay52 (Scalar.muli (Scalar.addi (Scalar.muli (BitVec.ofNat 32 i) 2#32) 0#32) 256#32) (ix2 r c)
      = if (c : ℕ) < r then 1#1 else 0#1 := by
  pointwise [k0_pay63, k0_pay52]
  have hr := r.isLt; have hc := c.isLt
  have hz : Scalar.subi (Scalar.muli (BitVec.ofNat 32 i) 512#32) (Scalar.muli (Scalar.addi (Scalar.muli (BitVec.ofNat 32 i) 2#32) 0#32) 256#32) = 0#32 := by
    interval_cases i <;> decide
  rw [hz]
  show BitVec.ofBool ((BitVec.ofNat 32 (c : ℕ) - BitVec.ofNat 32 (r : ℕ)).slt 0#32) = _
  rw [BitVec.slt_eq_decide, toInt_sub_ofNat (by omega) (by omega)]
  by_cases h : (c : ℕ) < r
  · rw [if_pos h, decide_eq_true (by simp; omega)]; rfl
  · rw [if_neg h, decide_eq_false (by simp; omega)]; rfl

theorem mask2_at {i : ℕ} (hi : i < 4) (r : Fin 256) (c : Fin 256) :
    k0_pay82 (BitVec.ofNat 32 i) k0_pay52 (Scalar.addi (Scalar.muli (BitVec.ofNat 32 i) 2#32) 1#32) 256#32 (ix2 r c)
      = if (c : ℕ) < r then 1#1 else 0#1 := by
  pointwise [k0_pay82, k0_pay52]
  have hr := r.isLt; have hc := c.isLt
  have hz : Scalar.subi (Scalar.muli (BitVec.ofNat 32 i) 512#32) (Scalar.muli (Scalar.addi (Scalar.muli (BitVec.ofNat 32 i) 2#32) 1#32) 256#32) = BitVec.ofInt 32 (-256) := by
    interval_cases i <;> decide
  rw [hz]
  show BitVec.ofBool ((BitVec.ofNat 32 (c : ℕ) - BitVec.ofNat 32 (256 + (r : ℕ))).slt (BitVec.ofInt 32 (-256))) = _
  rw [BitVec.slt_eq_decide, toInt_sub_ofNat (by omega) (by omega), show (BitVec.ofInt 32 (-256)).toInt = -256 by decide]
  by_cases h : (c : ℕ) < r
  · rw [if_pos h, decide_eq_true (by push_cast; omega)]; rfl
  · rw [if_neg h, decide_eq_false (by push_cast; omega)]; rfl

/-- A select under the mask. -/
theorem select_mask {p : Prop} [Decidable p] (a b : EReal) :
    Scalar.select (if p then 1#1 else 0#1) a b = if p then a else b := by
  by_cases h : p <;> simp [h, Scalar.select]

section Diag1
variable {Q K V D : ℕ → ℕ → ℝ} {t0 : ℕ} {a w : BitVec 32} {mk : IVec S512x256 1}
  {v6 v8 : FVec Ideal S512x128 .bf16} {lf se : FVec Ideal S512x1 .f32} {kb vb : Vec Ideal S256x128 .f32}
  (hq : ∀ r d, v6 (ix2 r d) = (Q (t0 + r) d : EReal)) (hk : ∀ c d, kb (ix2 c d) = (K (t0 + c) d : EReal))
  (hd : ∀ r d, v8 (ix2 r d) = (D (t0 + r) d : EReal)) (hv : ∀ c d, vb (ix2 c d) = (V (t0 + c) d : EReal))
  (hm : ∀ (r : Fin 512) (c : Fin 256), k0_pay63 a k0_pay52 w (ix2 r c) = if (c : ℕ) < r then 1#1 else 0#1)
  (hl : ∀ r z, lf (ix2 r z) = (left Q K t0 (t0 + r) : EReal))
  (hs : ∀ r z, se (ix2 r z) = (seen Q K V D t0 (t0 + r) : EReal))

include hq hk in
theorem pay64_at (r : Fin 512) (c : Fin 256) : k0_pay64 v6 kb (ix2 r c) = (score Q K (t0 + r) (t0 + c) : EReal) := by
  pointwise [k0_pay64, k0_pay62]
  simp only [hq, hk]; exact score_core Q K _ _
include hq hk in
theorem pay65_at (r : Fin 512) (c : Fin 256) : k0_pay65 v6 kb (ix2 r c) = (lbeta Q K (t0 + r) (t0 + c) : EReal) := by
  pointwise [k0_pay65]
  rw [pay64_at hq hk]; exact logSig_coe _
include hq hk hm in
theorem pay66_at (r : Fin 512) (c : Fin 256) : k0_pay66 a v6 k0_pay52 w kb (ix2 r c) = (lkeep Q K (t0 + r) (t0 + c) : EReal) := by
  pointwise [k0_pay66]
  rw [hm, pay64_at hq hk, pay65_at hq hk, ← EReal.coe_sub, select_mask, lkeep]
  by_cases h : (c : ℕ) < r
  · rw [if_pos h, if_pos (by omega)]
  · rw [if_neg h, if_neg (by omega), EReal.coe_zero]
include hq hk hm hl in
theorem pay67_at (r : Fin 512) (c : Fin 256) : k0_pay67 a v6 k0_pay50 k0_pay52 lf w kb (ix2 r c) = (wt Q K (t0 + r) (t0 + c) : EReal) := by
  pointwise [k0_pay67]
  simp only [pay65_at hq hk, pay66_at hq hk hm, hl, upto_at, hm]
  rw [wt_core, select_mask, wt]
  by_cases h : (c : ℕ) < r
  · rw [if_pos h, if_pos (by omega)]
  · rw [if_neg h, if_neg (by omega), EReal.coe_zero]
include hq hk hm hl hd hv in
theorem pay68_at (r : Fin 512) (c : Fin 256) :
    k0_pay68 a v6 v8 k0_pay50 k0_pay52 lf w kb vb (ix2 r c) = (ew Q K V D (t0 + r) (t0 + c) : EReal) := by
  pointwise [k0_pay68]
  simp only [pay67_at hq hk hm hl, hd, hv]
  rw [score_core D V, ← EReal.coe_mul, ew]; rfl

include hs in
/-- The sum of `ew` before each key of the step. -/
theorem pay69_at (he : ∀ r c, k0_pay68 a v6 v8 k0_pay50 k0_pay52 lf w kb vb (ix2 r c) = (ew Q K V D (t0 + r) (t0 + c) : EReal)) (r : Fin 512) (c : Fin 256) :
    k0_pay69 a v6 v8 k0_pay50 k0_pay51 k0_pay52 lf se w kb vb (ix2 r c) = (seen Q K V D (t0 + c) (t0 + r) : EReal) := by
  pointwise [k0_pay69]
  simp only [he, hs, before_at]
  rw [coe_prefix_lt (fun x => ew Q K V D (t0 + r) (t0 + x)) c, ← EReal.coe_add, seen_add]
include hq hk in
theorem pay70_at (r : Fin 512) (c : Fin 256) : k0_pay70 v6 kb (ix2 r c) = (Real.exp (lbeta Q K (t0 + r) (t0 + c)) : EReal) := by
  pointwise [k0_pay70]
  rw [pay65_at hq hk, Ideal.exp_coe]

section
variable {mk : IVec S512x256 1} {e s b : FVec Ideal S512x256 .f32}
  (hmk : ∀ (r : Fin 512) (c : Fin 256), mk (ix2 r c) = if (c : ℕ) < r then 1#1 else 0#1)
  (he : ∀ r c, e (ix2 r c) = (ew Q K V D (t0 + r) (t0 + c) : EReal))
  (hsn : ∀ r c, s (ix2 r c) = (seen Q K V D (t0 + c) (t0 + r) : EReal))
  (hb : ∀ r c, b (ix2 r c) = (Real.exp (lbeta Q K (t0 + r) (t0 + c)) : EReal))
include hmk he hsn hb
theorem pay72_at (r : Fin 512) (c : Fin 256) : k0_pay72 mk e s b k0_pay71 (ix2 r c) = (dz Q K V D (t0 + r) (t0 + c) : EReal) := by
  pointwise [k0_pay72, k0_pay71]
  rw [hmk, he, hsn, hb, ← EReal.coe_one, ← EReal.coe_sub, ← EReal.coe_mul, ← EReal.coe_mul, ← EReal.coe_sub, select_mask, dz]
  by_cases h : (c : ℕ) < r
  · rw [if_pos h, if_pos (by omega)]
  · rw [if_neg h, if_neg (by omega), EReal.coe_zero]
include hk in
theorem pay73_at {x : FVec Ideal S512x128 .f32} (hx : ∀ r d, x (ix2 r d) = (dqs Q K V D t0 (t0 + r) d : EReal)) (r : Fin 512) (d : Fin 128) :
    k0_pay73 x (k0_pay62 kb) mk e s b k0_pay71 (ix2 r d) = (dqs Q K V D (t0 + 256) (t0 + r) d : EReal) := by
  pointwise [k0_pay73, k0_pay62]
  simp only [hx, pay72_at hmk he hsn hb, hk]; exact dqs_core Q K V D _ _ _
include hk in
theorem pay76_at {x : FVec Ideal S512x128 .f32} (hx : ∀ r d, x (ix2 r d) = (dqs Q K V D t0 (t0 + r) d : EReal)) (r : Fin 256) (d : Fin 128) :
    k0_pay76 x (k0_pay62 kb) mk e s b k0_pay71 (ix2 r d) = (dqs Q K V D (t0 + 256) (t0 + 256 + r) d : EReal) := by
  pointwise [k0_pay76]
  rw [pay73_at hk hmk he hsn hb hx, add_assoc]
include hq in
theorem pay74_at {x : Vec Ideal S1x256x128 .f32} (hx : ∀ a c d, x (ix3 a c d) = (dks Q K V D t0 (t0 + c) d : EReal))
    (u : Fin 1) (c : Fin 256) (d : Fin 128) : k0_pay74 v6 mk e s b k0_pay71 x (ix3 u c d) = (dks Q K V D (t0 + 512) (t0 + c) d : EReal) := by
  pointwise [k0_pay74]
  simp only [hx, pay72_at hmk he hsn hb, hq]; exact dks_core Q K V D 512 _ _ _
end

include hd in
theorem pay75_at {p : FVec Ideal S512x256 .f32} {x : Vec Ideal S1x256x128 .f32}
    (hp : ∀ r c, p (ix2 r c) = (wt Q K (t0 + r) (t0 + c) : EReal)) (hx : ∀ a c d, x (ix3 a c d) = (dvs Q K D t0 (t0 + c) d : EReal))
    (u : Fin 1) (c : Fin 256) (d : Fin 128) : k0_pay75 v8 p x (ix3 u c d) = (dvs Q K D (t0 + 512) (t0 + c) d : EReal) := by
  pointwise [k0_pay75]
  simp only [hx, hp, hd]; exact dvs_core Q K D 512 _ _ _
include hl in
theorem pay77_at {m : FVec Ideal S512x256 .f32} (hmm : ∀ r c, m (ix2 r c) = (lkeep Q K (t0 + r) (t0 + c) : EReal)) (r : Fin 256) (z : Fin 1) :
    k0_pay77 lf m (ix2 r z) = (left Q K (t0 + 256) (t0 + 256 + r) : EReal) := by
  pointwise [k0_pay77]
  simp only [hl, hmm]; rw [left_core Q K _ _, add_assoc]
include hs in
theorem pay78_at {e : FVec Ideal S512x256 .f32} (he : ∀ r c, e (ix2 r c) = (ew Q K V D (t0 + r) (t0 + c) : EReal)) (r : Fin 256) (z : Fin 1) :
    k0_pay78 se e (ix2 r z) = (seen Q K V D (t0 + 256) (t0 + 256 + r) : EReal) := by
  pointwise [k0_pay78]
  simp only [hs, he]; rw [seen_core Q K V D _ _, add_assoc]
include hq in
theorem pay79_at (r : Fin 256) (d : Fin 128) : k0_pay79 v6 (ix2 r d) = (Q (t0 + 256 + r) d : EReal) := by
  pointwise [k0_pay79]
  rw [hq, add_assoc]
include hd in
theorem pay80_at (r : Fin 256) (d : Fin 128) : k0_pay80 v8 (ix2 r d) = (D (t0 + 256 + r) d : EReal) := by
  pointwise [k0_pay80]
  rw [hd, add_assoc]
end Diag1

/-! The second step: the lower 256 rows against the last 256 keys, `t1 = t0 + 256` the first of both. -/

section Diag2
variable {Q K V D : ℕ → ℕ → ℝ} {t1 : ℕ} {a w h256 : BitVec 32}
  {v6 v8 : FVec Ideal S256x128 .bf16} {lf se : FVec Ideal S256x1 .f32} {kb vb : Vec Ideal S256x128 .f32}
  (hq : ∀ r d, v6 (ix2 r d) = (Q (t1 + r) d : EReal)) (hk : ∀ c d, kb (ix2 c d) = (K (t1 + c) d : EReal))
  (hd : ∀ r d, v8 (ix2 r d) = (D (t1 + r) d : EReal)) (hv : ∀ c d, vb (ix2 c d) = (V (t1 + c) d : EReal))
  (hm : ∀ (r : Fin 256) (c : Fin 256), k0_pay82 a k0_pay52 w h256 (ix2 r c) = if (c : ℕ) < r then 1#1 else 0#1)
  (hl : ∀ r z, lf (ix2 r z) = (left Q K t1 (t1 + r) : EReal))
  (hs : ∀ r z, se (ix2 r z) = (seen Q K V D t1 (t1 + r) : EReal))

include hq hk in
theorem pay83_at (r : Fin 256) (c : Fin 256) : k0_pay83 v6 kb (ix2 r c) = (score Q K (t1 + r) (t1 + c) : EReal) := by
  pointwise [k0_pay83, k0_pay81]
  simp only [hq, hk]; exact score_core Q K _ _
include hq hk in
theorem pay84_at (r : Fin 256) (c : Fin 256) : k0_pay84 v6 kb (ix2 r c) = (lbeta Q K (t1 + r) (t1 + c) : EReal) := by
  pointwise [k0_pay84]
  rw [pay83_at hq hk]; exact logSig_coe _
include hq hk hm hl in
theorem pay85_at (r : Fin 256) (c : Fin 256) :
    k0_pay85 a k0_pay50 k0_pay52 w lf v6 h256 kb (ix2 r c) = (wt Q K (t1 + r) (t1 + c) : EReal) := by
  have hkeep : ∀ x : Fin 256, (if (x : ℕ) < r then ((lbeta Q K (t1 + r) (t1 + x) : EReal) - (score Q K (t1 + r) (t1 + x) : EReal)) else 0)
      = (lkeep Q K (t1 + r) (t1 + x) : EReal) := by
    intro x; rw [lkeep, ← EReal.coe_sub]
    by_cases h : (x : ℕ) < r
    · rw [if_pos h, if_pos (by omega)]
    · rw [if_neg h, if_neg (by omega), EReal.coe_zero]
  pointwise [k0_pay85]
  simp only [pay84_at hq hk, pay83_at hq hk, hl, upto_at, hm, select_mask, ← ite_zero_mul, hkeep]
  rw [wt_core, wt]
  by_cases h : (c : ℕ) < r
  · rw [if_pos h, if_pos (by omega)]
  · rw [if_neg h, if_neg (by omega), EReal.coe_zero]
include hq hk hm hl hd hv in
theorem pay86_at (r : Fin 256) (c : Fin 256) :
    k0_pay86 a k0_pay50 k0_pay52 w lf v6 v8 h256 kb vb (ix2 r c) = (ew Q K V D (t1 + r) (t1 + c) : EReal) := by
  pointwise [k0_pay86]
  simp only [pay85_at hq hk hm hl, hd, hv]
  rw [score_core D V, ← EReal.coe_mul, ew]; rfl
include hs in
theorem pay87_at (he : ∀ r c, k0_pay86 a k0_pay50 k0_pay52 w lf v6 v8 h256 kb vb (ix2 r c) = (ew Q K V D (t1 + r) (t1 + c) : EReal))
    (r : Fin 256) (c : Fin 256) :
    k0_pay87 a k0_pay50 k0_pay51 k0_pay52 w lf se v6 v8 h256 kb vb (ix2 r c) = (seen Q K V D (t1 + c) (t1 + r) : EReal) := by
  pointwise [k0_pay87]
  simp only [he, hs, before_at]
  rw [coe_prefix_lt (fun x => ew Q K V D (t1 + r) (t1 + x)) c, ← EReal.coe_add, seen_add]
include hq hk in
theorem pay88_at (r : Fin 256) (c : Fin 256) : k0_pay88 v6 kb (ix2 r c) = (Real.exp (lbeta Q K (t1 + r) (t1 + c)) : EReal) := by
  pointwise [k0_pay88]
  rw [pay84_at hq hk, Ideal.exp_coe]

section
variable {mk : IVec S256x256 1} {e s b : FVec Ideal S256x256 .f32}
  (hmk : ∀ (r : Fin 256) (c : Fin 256), mk (ix2 r c) = if (c : ℕ) < r then 1#1 else 0#1)
  (he : ∀ r c, e (ix2 r c) = (ew Q K V D (t1 + r) (t1 + c) : EReal))
  (hsn : ∀ r c, s (ix2 r c) = (seen Q K V D (t1 + c) (t1 + r) : EReal))
  (hb : ∀ r c, b (ix2 r c) = (Real.exp (lbeta Q K (t1 + r) (t1 + c)) : EReal))
include hmk he hsn hb
theorem pay89_at (r : Fin 256) (c : Fin 256) : k0_pay89 mk e s b (ix2 r c) = (dz Q K V D (t1 + r) (t1 + c) : EReal) := by
  pointwise [k0_pay89]
  rw [hmk, he, hsn, hb, ← EReal.coe_one, ← EReal.coe_sub, ← EReal.coe_mul, ← EReal.coe_mul, ← EReal.coe_sub, select_mask, dz]
  by_cases h : (c : ℕ) < r
  · rw [if_pos h, if_pos (by omega)]
  · rw [if_neg h, if_neg (by omega), EReal.coe_zero]
include hq in
theorem pay90_at {x : Vec Ideal S1x256x128 .f32} (hx : ∀ a c d, x (ix3 a c d) = (dks Q K V D t1 (t1 + c) d : EReal))
    (u : Fin 1) (c : Fin 256) (d : Fin 128) : k0_pay90 v6 mk e s b x (ix3 u c d) = (dks Q K V D (t1 + 256) (t1 + c) d : EReal) := by
  pointwise [k0_pay90]
  simp only [hx, pay89_at hmk he hsn hb, hq]; exact dks_core Q K V D 256 _ _ _
end
include hd in
theorem pay91_at {p : FVec Ideal S256x256 .f32} {x : Vec Ideal S1x256x128 .f32}
    (hp : ∀ r c, p (ix2 r c) = (wt Q K (t1 + r) (t1 + c) : EReal)) (hx : ∀ a c d, x (ix3 a c d) = (dvs Q K D t1 (t1 + c) d : EReal))
    (u : Fin 1) (c : Fin 256) (d : Fin 128) : k0_pay91 v8 p x (ix3 u c d) = (dvs Q K D (t1 + 256) (t1 + c) d : EReal) := by
  pointwise [k0_pay91]
  simp only [hx, hp, hd]; exact dvs_core Q K D 256 _ _ _

theorem pay92_at {t0 : ℕ} (ht : t1 = t0 + 256) {mk : IVec S256x256 1} {e s b : FVec Ideal S256x256 .f32}
    (hmk : ∀ (r : Fin 256) (c : Fin 256), mk (ix2 r c) = if (c : ℕ) < r then 1#1 else 0#1)
    (he : ∀ r c, e (ix2 r c) = (ew Q K V D (t1 + r) (t1 + c) : EReal))
    (hsn : ∀ r c, s (ix2 r c) = (seen Q K V D (t1 + c) (t1 + r) : EReal))
    (hb : ∀ r c, b (ix2 r c) = (Real.exp (lbeta Q K (t1 + r) (t1 + c)) : EReal))
    (hk : ∀ c d, kb (ix2 c d) = (K (t1 + c) d : EReal))
    {x : FVec Ideal S512x128 .f32} {y : FVec Ideal S256x128 .f32}
    (hx : ∀ r d, x (ix2 r d) = (dqs Q K V D t1 (t0 + r) d : EReal)) (hy : ∀ r d, y (ix2 r d) = (dqs Q K V D t1 (t1 + r) d : EReal))
    (r : Fin 512) (d : Fin 128) :
    k0_pay92 x y (k0_pay81 kb) mk e s b (ix2 r d) = (dqs Q K V D (t0 + 512) (t0 + r) d : EReal) * Ideal.ofBits .f32 0x3DB504F3#32 := by
  pointwise [k0_pay92, k0_pay81]
  congr 1
  by_cases h : (r : ℕ) < 256
  · rw [dif_pos h, hx, dqs_const Q K V D (n := t1) (m := t0 + 512) (by omega) (by omega)]
  · rw [dif_neg h]
    simp only [hy, pay89_at hmk he hsn hb, hk]
    rw [dqs_core Q K V D t1 (t1 + (r - 256)) d]
    have h1 : t1 + 256 = t0 + 512 := by omega
    have h2 : t1 + ((r : ℕ) - 256) = t0 + r := by omega
    rw [h1, h2]
end Diag2

end Cert.Proof.Sb
-- ==== Proof.SbTrip.lean ====
/- One trip of the kernel's loop over key tiles, and the loop. -/
module

public import proofs.«01_k».proof.Proof.Gen.KernelIdeal.Loops
public import proofs.«01_k».proof.Proof.SbPay
public import Idealize.ShloMosaic.Lib.VecWindow
public import Idealize.ShloMosaic.Lib.WritesUnit

@[expose] public section

set_option maxRecDepth 16384

noncomputable section

namespace Cert.Proof.Sb
open Idealize.ShloMosaic Idealize.ShloMosaic.TcCoe Idealize.SL.Sem
open Cert.KernelIdeal Cert.KernelIdeal.Gen

/-! ## Where a trip reads and writes -/

/-- The first loop of a block of query rows runs once per earlier block. -/
theorem trips1 : ∀ i : grid0.Coords, (k0_t1_loop i).trips = (i 1).val := by decide +kernel
/-- The second loop, between the first and the diagonal, never runs: a row block is as wide as a trip. -/
theorem trips2 : ∀ i : grid0.Coords, (k0_t2_loop i).trips = 0 := by decide +kernel
theorem off1_eq : ∀ (i : grid0.Coords) (k : Fin (k0_t1_loop i).trips) (p : Fin 2),
    k0_off1 i k (BitVec.ofNat 32 p.val) = ![512 * k.val + 256 * p.val, 0] := by decide +kernel
theorem off2_eq : ∀ (i : grid0.Coords) (k : Fin (k0_t1_loop i).trips) (p : Fin 2),
    k0_off2 i k (BitVec.ofNat 32 p.val) = ![0, 512 * k.val + 256 * p.val, 0] := by decide +kernel
theorem off3_eq : ∀ (i : grid0.Coords) (k : Fin (k0_t1_loop i).trips) (p : Fin 2),
    k0_off3 i k (BitVec.ofNat 32 p.val) = ![1, 512 * k.val + 256 * p.val, 0] := by decide +kernel
theorem off7_eq : ∀ (i : grid0.Coords) (p : Fin 2), k0_off7 i (BitVec.ofNat 32 p.val) = ![512 * (i 1).val + 256 * p.val, 0] := by decide +kernel
theorem off8_eq : ∀ (i : grid0.Coords) (p : Fin 2), k0_off8 i (BitVec.ofNat 32 p.val) = ![0, 512 * (i 1).val + 256 * p.val, 0] := by decide +kernel
theorem off9_eq : ∀ (i : grid0.Coords) (p : Fin 2), k0_off9 i (BitVec.ofNat 32 p.val) = ![1, 512 * (i 1).val + 256 * p.val, 0] := by decide +kernel

/-! ## The accumulator's two planes -/

section Planes
variable {sig' : RefSig} {κ : Kind} {sp : Space} (v : View sig' κ sp S2x2048x128 .f32)

/-- Plane `a` of the accumulator holds, in row `j`, the partial sum `s (m j) j`. -/
def Plane (X : S2x2048x128.Idx → EReal) (a : Fin 2) (s : ℕ → ℕ → ℕ → ℝ) (m : ℕ → ℕ) : Prop :=
  ∀ (j : Fin 2048) (d : Fin 128), X (ix3 a j d) = (s (m j) j d : EReal)

theorem load_rows (f : v.ty.Contents (Elt Ideal)) {off : Fin 3 → ℕ} (inb : ∀ a, off a + S1x256x128.size a ≤ S2x2048x128.size a)
    {a : Fin 2} {n : ℕ} (h : off = ![a.val, n, 0]) (hn : n + 256 ≤ 2048) (z : Fin 1) (c : Fin 256) (d : Fin 128) :
    v.readAt (Elt Ideal) (Rect.unit (s := S2x2048x128) off S1x256x128.size inb).toLoadRect f (ix3 z c d)
      = v.read (Elt Ideal) f (ix3 a ⟨n + c, by have := c.isLt; omega⟩ d) := by
  subst h
  refine congrArg (v.read (Elt Ideal) f) (funext fun x => Fin.ext ?_)
  have hz := z.isLt
  match x with
  | 0 => show a.val + 1 * z.val = a.val; omega
  | 1 => show n + 1 * c.val = n + c.val; omega
  | 2 => show 0 + 1 * d.val = d.val; omega

theorem plane_load {f : v.ty.Contents (Elt Ideal)} {off : Fin 3 → ℕ} (inb : ∀ a, off a + S1x256x128.size a ≤ S2x2048x128.size a)
    {a : Fin 2} {n b : ℕ} {s : ℕ → ℕ → ℕ → ℝ} {m : ℕ → ℕ} (h : off = ![a.val, n, 0]) (hn : n + 256 ≤ 2048)
    (hf : Plane (v.read (Elt Ideal) f) a s m) (hm : ∀ c, c < 256 → m (n + c) = b) (z : Fin 1) (c : Fin 256) (d : Fin 128) :
    v.readAt (Elt Ideal) (Rect.unit (s := S2x2048x128) off S1x256x128.size inb).toLoadRect f (ix3 z c d) = (s b (n + c) d : EReal) := by
  rw [load_rows v f inb h hn, hf, hm c c.isLt]

/-- A store of 256 rows of the plane. -/
theorem plane_hit {f : v.ty.Contents (Elt Ideal)} {off : Fin 3 → ℕ} (inb : ∀ a, off a + S1x256x128.size a ≤ S2x2048x128.size a)
    {a : Fin 2} {n b : ℕ} {s : ℕ → ℕ → ℕ → ℝ} {m m' : ℕ → ℕ} (h : off = ![a.val, n, 0])
    {w : (Rect.unit (s := S2x2048x128) off S1x256x128.size inb).shape.Idx → Elt Ideal .f32} {L : List (View.Piece (Elt Ideal) S2x2048x128 .f32)}
    (hf : Plane (v.read (Elt Ideal) (v.writes (Elt Ideal) f L)) a s m)
    (hw : ∀ (z : Fin 1) (c : Fin 256) (d : Fin 128), (w : S1x256x128.Idx → EReal) (ix3 z c d) = (s b (n + c) d : EReal))
    (hm : ∀ j, m' j = if n ≤ j ∧ j < n + 256 then b else m j) :
    Plane (v.read (Elt Ideal) (v.writes (Elt Ideal) f (⟨Rect.unit (s := S2x2048x128) off S1x256x128.size inb, w⟩ :: L))) a s m' := by
  intro j d
  by_cases hj : n ≤ j.val ∧ j.val < n + 256
  · have e := View.read_writes_cons_unit_of_mem v f inb w L (ix3 a j d) (ix3 (0 : Fin 1) (⟨j.val - n, by omega⟩ : Fin 256) d) h
      (fun x => match x with
        | 0 => by show a.val = a.val + 0; omega
        | 1 => by show j.val = n + (j.val - n); omega
        | 2 => by show d.val = 0 + d.val; omega)
    rw [e, hm, if_pos hj]
    refine (hw 0 ⟨j.val - n, by omega⟩ d).trans ?_
    show ((s b (n + (j.val - n)) d : ℝ) : EReal) = _
    rw [show n + (j.val - n) = j.val by omega]
  · rw [View.read_writes_cons_unit_of_not_mem v f inb w L (ix3 a j d) h (1 : Fin 3) (by show j.val < n ∨ n + 256 ≤ j.val; omega), hf, hm, if_neg hj]

/-- A store into the other plane. -/
theorem plane_miss {f : v.ty.Contents (Elt Ideal)} {off : Fin 3 → ℕ} (inb : ∀ a, off a + S1x256x128.size a ≤ S2x2048x128.size a)
    {a a' : Fin 2} {n : ℕ} {s : ℕ → ℕ → ℕ → ℝ} {m : ℕ → ℕ} (h : off = ![a'.val, n, 0]) (ha : a ≠ a')
    {w : (Rect.unit (s := S2x2048x128) off S1x256x128.size inb).shape.Idx → Elt Ideal .f32} {L : List (View.Piece (Elt Ideal) S2x2048x128 .f32)}
    (hf : Plane (v.read (Elt Ideal) (v.writes (Elt Ideal) f L)) a s m) :
    Plane (v.read (Elt Ideal) (v.writes (Elt Ideal) f (⟨Rect.unit (s := S2x2048x128) off S1x256x128.size inb, w⟩ :: L))) a s m := by
  intro j d
  have ha' : a.val ≠ a'.val := fun e => ha (Fin.ext e)
  rw [View.read_writes_cons_unit_of_not_mem v f inb w L (ix3 a j d) h (0 : Fin 3) (by show a.val < a'.val ∨ a'.val + 1 ≤ a.val; omega), hf]

end Planes

/-- A load of 256 rows of the keys or the values. -/
theorem load_tile {sig' : RefSig} {κ : Kind} {sp : Space} (v : View sig' κ sp S2048x128 .f32) {f : v.ty.Contents (Elt Ideal)} {K : ℕ → ℕ → ℝ}
    (hf : ∀ (j : Fin 2048) (d : Fin 128), v.read (Elt Ideal) f (ix2 j d) = (K j d : EReal)) {off : Fin 2 → ℕ}
    (inb : ∀ a, off a + S256x128.size a ≤ S2048x128.size a) {n : ℕ} (h : off = ![n, 0]) (c : Fin 256) (d : Fin 128) :
    v.readAt (Elt Ideal) (Rect.unit (s := S2048x128) off S256x128.size inb).toLoadRect f (ix2 c d) = (K (n + c) d : EReal) := by
  subst h
  have hn : n + 256 ≤ 2048 := inb 0
  refine Eq.trans (congrArg (v.read (Elt Ideal) f) (funext fun x => Fin.ext ?_)) (hf ⟨n + c, by have := c.isLt; omega⟩ d)
  match x with
  | 0 => show n + 1 * c.val = n + c.val; omega
  | 1 => show 0 + 1 * d.val = d.val; omega

/-! ## One trip -/

section Trip
variable (𝒱 : Variants) (c : Dev nD) (bd : Option 𝒱.V) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S2x2048x128 .bf16) (harg8 : arg8.IsWhole) (arg9 : Memref sig .tc .vmem S2x2048x128 .f32) (harg9 : arg9.IsWhole)
  (v3 v7 : Vec Ideal S512x128 .f32) (X_arg3 : BufTy.Contents (Elt Ideal) arg3.view.ty) (X_arg4 : BufTy.Contents (Elt Ideal) arg4.view.ty)
variable {Q K V D : ℕ → ℕ → ℝ}

/-- What the loop carries before key tile `n`, for the rows from `t0`: the partial gradient of the queries, what is left
of each row's total and what has been seen of the weighted sums. -/
def Carry (Q K V D : ℕ → ℕ → ℝ) (t0 n : ℕ) (acc : FVec Ideal S512x128 .f32 × FVec Ideal S512x1 .f32 × FVec Ideal S512x1 .f32) : Prop :=
  (∀ (r : Fin 512) (d : Fin 128), acc.1 (ix2 r d) = (dqs Q K V D n (t0 + r) d : EReal))
  ∧ (∀ (r : Fin 512) (z : Fin 1), acc.2.1 (ix2 r z) = (left Q K n (t0 + r) : EReal))
  ∧ (∀ (r : Fin 512) (z : Fin 1), acc.2.2 (ix2 r z) = (seen Q K V D n (t0 + r) : EReal))

/-- Rows before `n` have the block of queries counted, the others not yet. -/
def upTo (t0 n j : ℕ) : ℕ := if j < n then t0 + 512 else t0

theorem trip_eq (k : Fin (k0_t1_loop i).trips) (t0 : ℕ) (ht : t0 = 512 * (i 1).val)
    (hq : ∀ (r : Fin 512) (d : Fin 128), k0_pay48 (F := Ideal) v3 (ix2 r d) = (Q (t0 + r) d : EReal))
    (hd : ∀ (r : Fin 512) (d : Fin 128), v7 (ix2 r d) = (D (t0 + r) d : EReal))
    (hk : ∀ (j : Fin 2048) (d : Fin 128), arg3.view.read (Elt Ideal) X_arg3 (ix2 j d) = (K j d : EReal))
    (hv : ∀ (j : Fin 2048) (d : Fin 128), arg4.view.read (Elt Ideal) X_arg4 (ix2 j d) = (V j d : EReal))
    (acc : FVec Ideal S512x128 .f32 × FVec Ideal S512x1 .f32 × FVec Ideal S512x1 .f32) (f : BufTy.Contents (Elt Ideal) arg9.view.ty)
    (L : List (View.Piece (Elt Ideal) S2x2048x128 .f32))
    (hacc : Carry Q K V D t0 (512 * k.val) acc)
    (h0 : Plane (arg9.view.read (Elt Ideal) (arg9.view.writes (Elt Ideal) f L)) 0 (dks Q K V D) (upTo t0 (512 * k.val)))
    (h1 : Plane (arg9.view.read (Elt Ideal) (arg9.view.writes (Elt Ideal) f L)) 1 (dvs Q K D) (upTo t0 (512 * k.val))) :
    Carry Q K V D t0 (512 * (k.val + 1)) (tripR_k0_t1 𝒱 c bd i arg2 harg2 arg3 harg3 arg4 harg4 arg5 harg5 arg6 harg6 arg7 harg7 arg8 harg8 arg9 harg9 v3 v7 X_arg3 X_arg4 k acc (arg9.view.writes (Elt Ideal) f L))
    ∧ Plane (arg9.view.read (Elt Ideal) (arg9.view.writes (Elt Ideal) f (tripL_k0_t1 𝒱 c bd i arg2 harg2 arg3 harg3 arg4 harg4 arg5 harg5 arg6 harg6 arg7 harg7 arg8 harg8 arg9 harg9 v3 v7 X_arg3 X_arg4 k acc (arg9.view.writes (Elt Ideal) f L) ++ L))) 0 (dks Q K V D) (upTo t0 (512 * (k.val + 1)))
    ∧ Plane (arg9.view.read (Elt Ideal) (arg9.view.writes (Elt Ideal) f (tripL_k0_t1 𝒱 c bd i arg2 harg2 arg3 harg3 arg4 harg4 arg5 harg5 arg6 harg6 arg7 harg7 arg8 harg8 arg9 harg9 v3 v7 X_arg3 X_arg4 k acc (arg9.view.writes (Elt Ideal) f L) ++ L))) 1 (dvs Q K D) (upTo t0 (512 * (k.val + 1))) := by
  obtain ⟨ha, hl, hs⟩ := hacc
  have hki : k.val < (i 1).val := lt_of_lt_of_eq k.isLt (trips1 i)
  have hi4 : (i 1).val < 4 := (i 1).isLt
  have hd' : ∀ (r : Fin 512) (d : Fin 128), k0_pay49 (F := Ideal) v7 (ix2 r d) = (D (t0 + r) d : EReal) := by
    intro r d; pointwise [k0_pay49]; exact hd r d
  have hkb0 := fun c d => load_tile arg3.view hk (k0_off1_inb i k 0) (off1_eq i k 0) c d
  have hvb0 := fun c d => load_tile arg4.view hv (k0_off1_inb i k 0) (off1_eq i k 0) c d
  have hkb1 := fun c d => load_tile arg3.view hk (k0_off1_inb i k 1) (off1_eq i k 1) c d
  have hvb1 := fun c d => load_tile arg4.view hv (k0_off1_inb i k 1) (off1_eq i k 1) c d
  have e0 : 512 * k.val + 256 * (0 : Fin 2).val = 512 * k.val := by show 512 * k.val + 256 * 0 = _; omega
  have e1 : 512 * k.val + 256 * (1 : Fin 2).val = 512 * k.val + 256 := by show 512 * k.val + 256 * 1 = _; omega
  have e2 : 512 * (k.val + 1) = 512 * k.val + 256 + 256 := by omega
  rw [e0] at hkb0 hvb0
  rw [e1] at hkb1 hvb1
  have hn0 : 512 * k.val + 256 ≤ t0 := by omega
  have hn1 : 512 * k.val + 256 + 256 ≤ t0 := by omega
  have o20 := off2_eq i k 0; have o21 := off2_eq i k 1; have o30 := off3_eq i k 0; have o31 := off3_eq i k 1
  rw [e0] at o20 o30; rw [e1] at o21 o31
  have w20 := plane_load arg9.view (k0_off2_inb i k 0) o20 (by omega) h0 (b := t0) (fun c hc => by rw [upTo, if_neg]; omega)
  have w21 := plane_load arg9.view (k0_off2_inb i k 1) o21 (by omega) h0 (b := t0) (fun c hc => by rw [upTo, if_neg]; omega)
  have w30 := plane_load arg9.view (k0_off3_inb i k 0) o30 (by omega) h1 (b := t0) (fun c hc => by rw [upTo, if_neg]; omega)
  have w31 := plane_load arg9.view (k0_off3_inb i k 1) o31 (by omega) h1 (b := t0) (fun c hc => by rw [upTo, if_neg]; omega)
  -- the first key tile
  have r1 := pay4_at (v6 := k0_pay48 v3) hq hkb0 hn0
  have r2 := pay5_at (v6 := k0_pay48 v3) hq hkb0 hn0 hl
  have r3 := pay6_at (v6 := k0_pay48 v3) hq hkb0 hd' hvb0 hn0 hl
  have r4 := pay7_at (v6 := k0_pay48 v3) hq hkb0 hd' hvb0 hn0 hl hs
  have r5 := pay9_at hkb0 ha r4
  have r6 := pay12_at hl r1
  have r7 := pay13_at hs r3
  have l20 := pay10_at (v6 := k0_pay48 v3) hq r4 w20
  have l30 := pay11_at (v8 := k0_pay49 v7) hd' r2 w30
  -- the second key tile
  have r8 : ∀ (c : Fin 256) (d : Fin 128), k0_pay14 (F := Ideal) _ (ix2 c d) = _ := fun c d => by pointwise [k0_pay14]; exact hkb1 c d
  have r9 : ∀ (c : Fin 256) (d : Fin 128), k0_pay15 (F := Ideal) _ (ix2 c d) = _ := fun c d => by pointwise [k0_pay15]; exact hvb1 c d
  have r10 := pay16_at (v6 := k0_pay48 v3) hq hkb1
  have r11 := pay18_at hn1 r10
  have r12 := pay19_at hn1 r6 r10
  have r13 := pay20_at (v8 := k0_pay49 v7) hd' hn1 r6 r10 r9
  have r14 := pay22_at (v8 := k0_pay49 v7) hd' hn1 r6 r7 r10 r9 r8 r5
  have r15 := pay23_at (v6 := k0_pay48 v3) (v8 := k0_pay49 v7) hq hd' hn1 r6 r7 r10 r9 w21
  have l31 := pay56_at hd r12 w31
  unfold tripR_k0_t1 tripL_k0_t1 trip_k0_t1
  dsimp only
  rw [e2]
  refine ⟨⟨r14, pay57_at r6 r11, pay58_at r7 r13⟩, ?_, ?_⟩
  · simp only [List.cons_append, List.nil_append]
    refine plane_miss arg9.view (a := 0) (a' := 1) _ o31 (by decide) (plane_hit arg9.view _ o21 (plane_miss arg9.view (a := 0) (a' := 1) _ o30 (by decide)
      (plane_hit arg9.view _ o20 h0 l20 (m' := upTo t0 (512 * k.val + 256)) ?_)) r15 ?_) <;>
    · intro j; simp only [upTo]; split_ifs <;> omega
  · simp only [List.cons_append, List.nil_append]
    refine plane_hit arg9.view _ o31 (plane_miss arg9.view (a := 1) (a' := 0) _ o21 (by decide) (plane_hit arg9.view _ o30 (plane_miss arg9.view (a := 1) (a' := 0) _ o20 (by decide) h1)
      l30 (m' := upTo t0 (512 * k.val + 256)) ?_)) l31 ?_ <;>
    · intro j; simp only [upTo]; split_ifs <;> omega

/-- The loop: before trip `k` the carried values stand at key `512 k`, and the first `512 k` rows of both planes have
the block of queries counted. -/
theorem loop_eq (t0 : ℕ) (ht : t0 = 512 * (i 1).val)
    (hq : ∀ (r : Fin 512) (d : Fin 128), k0_pay48 (F := Ideal) v3 (ix2 r d) = (Q (t0 + r) d : EReal))
    (hd : ∀ (r : Fin 512) (d : Fin 128), v7 (ix2 r d) = (D (t0 + r) d : EReal))
    (hk : ∀ (j : Fin 2048) (d : Fin 128), arg3.view.read (Elt Ideal) X_arg3 (ix2 j d) = (K j d : EReal))
    (hv : ∀ (j : Fin 2048) (d : Fin 128), arg4.view.read (Elt Ideal) X_arg4 (ix2 j d) = (V j d : EReal))
    (init : FVec Ideal S512x128 .f32 × FVec Ideal S512x1 .f32 × FVec Ideal S512x1 .f32) (f : BufTy.Contents (Elt Ideal) arg9.view.ty)
    (hacc : Carry Q K V D t0 0 init)
    (h0 : Plane (arg9.view.read (Elt Ideal) f) 0 (dks Q K V D) (fun _ => t0))
    (h1 : Plane (arg9.view.read (Elt Ideal) f) 1 (dvs Q K D) (fun _ => t0))
    (k : ℕ) (hki : k ≤ (i 1).val) :
    Carry Q K V D t0 (512 * k) (st_k0_t1 𝒱 c bd i arg2 harg2 arg3 harg3 arg4 harg4 arg5 harg5 arg6 harg6 arg7 harg7 arg8 harg8 arg9 harg9 v3 v7 X_arg3 X_arg4 f init k).1
    ∧ Plane (arg9.view.read (Elt Ideal) (arg9.view.writes (Elt Ideal) f (st_k0_t1 𝒱 c bd i arg2 harg2 arg3 harg3 arg4 harg4 arg5 harg5 arg6 harg6 arg7 harg7 arg8 harg8 arg9 harg9 v3 v7 X_arg3 X_arg4 f init k).2)) 0 (dks Q K V D) (upTo t0 (512 * k))
    ∧ Plane (arg9.view.read (Elt Ideal) (arg9.view.writes (Elt Ideal) f (st_k0_t1 𝒱 c bd i arg2 harg2 arg3 harg3 arg4 harg4 arg5 harg5 arg6 harg6 arg7 harg7 arg8 harg8 arg9 harg9 v3 v7 X_arg3 X_arg4 f init k).2)) 1 (dvs Q K D) (upTo t0 (512 * k)) := by
  induction k with
  | zero =>
    have e : (fun _ => t0) = upTo t0 (512 * 0) := by funext j; rw [upTo, if_neg]; omega
    exact ⟨hacc, e ▸ h0, e ▸ h1⟩
  | succ k ih =>
    obtain ⟨ic, i0, i1⟩ := ih (by omega)
    have hk' : k < (k0_t1_loop i).trips := by rw [trips1]; omega
    have e := st_k0_t1_succ (F := Ideal) 𝒱 c bd i arg2 harg2 arg3 harg3 arg4 harg4 arg5 harg5 arg6 harg6 arg7 harg7 arg8 harg8 arg9 harg9 v3 v7 X_arg3 X_arg4 f init ⟨k, hk'⟩
    dsimp only at e
    rw [e]
    exact trip_eq 𝒱 c bd i arg2 harg2 arg3 harg3 arg4 harg4 arg5 harg5 arg6 harg6 arg7 harg7 arg8 harg8 arg9 harg9 v3 v7 X_arg3 X_arg4 ⟨k, hk'⟩ t0 ht hq hd hk hv _ f _ ic i0 i1
end Trip

end Cert.Proof.Sb
-- ==== Proof.SbDiag.lean ====
/- The two steps on the diagonal, after the loop: the last 512 keys against the 512 rows of the block. -/
module

public import proofs.«01_k».proof.Proof.SbTrip

@[expose] public section

set_option maxRecDepth 16384

noncomputable section

namespace Cert.Proof.Sb
open Idealize.ShloMosaic Idealize.ShloMosaic.TcCoe Idealize.SL.Sem
open Cert.KernelIdeal Cert.KernelIdeal.Gen

/-! ## The values the two steps compute -/

/-- The first row of the first step's tile, as the kernel counts it. -/
def row1 (i : grid0.Coords) : BitVec 32 := Scalar.muli (Scalar.addi (Scalar.muli (BitVec.ofNat 32 (i 1).val) 2#32) 0#32) 256#32
/-- The second step's tile number. -/
def tile2 (i : grid0.Coords) : BitVec 32 := Scalar.addi (Scalar.muli (BitVec.ofNat 32 (i 1).val) 2#32) 1#32

section Terms
variable (i : grid0.Coords) (q d : FVec Ideal S512x128 .bf16) (a : FVec Ideal S512x128 .f32) (l s : FVec Ideal S512x1 .f32)
  (k0 v0 k1 v1 : Vec Ideal S256x128 .f32)

def mask1 : IVec S512x256 1 := k0_pay63 (BitVec.ofNat 32 (i 1).val) k0_pay52 (row1 i)
def keep1 : FVec Ideal S512x256 .f32 := k0_pay66 (BitVec.ofNat 32 (i 1).val) q k0_pay52 (row1 i) k0
def wgt1 : FVec Ideal S512x256 .f32 := k0_pay67 (BitVec.ofNat 32 (i 1).val) q k0_pay50 k0_pay52 l (row1 i) k0
def eww1 : FVec Ideal S512x256 .f32 := k0_pay68 (BitVec.ofNat 32 (i 1).val) q d k0_pay50 k0_pay52 l (row1 i) k0 v0
def seen1 : FVec Ideal S512x256 .f32 := k0_pay69 (BitVec.ofNat 32 (i 1).val) q d k0_pay50 k0_pay51 k0_pay52 l s (row1 i) k0 v0
def beta1 : FVec Ideal S512x256 .f32 := k0_pay70 q k0
def acc1 : FVec Ideal S512x128 .f32 := k0_pay73 a (k0_pay62 k0) (mask1 i) (eww1 i q d l k0 v0) (seen1 i q d l s k0 v0) (beta1 q k0) k0_pay71
def low1 : FVec Ideal S256x128 .f32 := k0_pay76 a (k0_pay62 k0) (mask1 i) (eww1 i q d l k0 v0) (seen1 i q d l s k0 v0) (beta1 q k0) k0_pay71
def left1 : FVec Ideal S256x1 .f32 := k0_pay77 l (keep1 i q k0)
def se1 : FVec Ideal S256x1 .f32 := k0_pay78 s (eww1 i q d l k0 v0)
def mask2 : IVec S256x256 1 := k0_pay82 (BitVec.ofNat 32 (i 1).val) k0_pay52 (tile2 i) 256#32
def wgt2 : FVec Ideal S256x256 .f32 :=
  k0_pay85 (BitVec.ofNat 32 (i 1).val) k0_pay50 k0_pay52 (tile2 i) (left1 i q l k0) (k0_pay79 q) 256#32 k1
def eww2 : FVec Ideal S256x256 .f32 :=
  k0_pay86 (BitVec.ofNat 32 (i 1).val) k0_pay50 k0_pay52 (tile2 i) (left1 i q l k0) (k0_pay79 q) (k0_pay80 d) 256#32 k1 v1
def seen2 : FVec Ideal S256x256 .f32 :=
  k0_pay87 (BitVec.ofNat 32 (i 1).val) k0_pay50 k0_pay51 k0_pay52 (tile2 i) (left1 i q l k0) (se1 i q d l s k0 v0) (k0_pay79 q) (k0_pay80 d) 256#32 k1 v1
def beta2 : FVec Ideal S256x256 .f32 := k0_pay88 (k0_pay79 q) k1
/-- The block of the queries' gradient. -/
def dqBlock : FVec Ideal S512x128 .bf16 :=
  k0_pay92 (acc1 i q d a l s k0 v0) (low1 i q d a l s k0 v0) (k0_pay81 k1) (mask2 i) (eww2 i q d l k0 k1 v1)
    (seen2 i q d l s k0 v0 k1 v1) (beta2 q k1)

variable {sig' : RefSig} {κ : Kind} {sp : Space} (v : View sig' κ sp S2x2048x128 .f32) (f : v.ty.Contents (Elt Ideal))
  (L : List (View.Piece (Elt Ideal) S2x2048x128 .f32))

/-- The stores of the two steps, each over what the ones before it left. -/
def store1 : List (View.Piece (Elt Ideal) S2x2048x128 .f32) :=
  ⟨Rect.unit (s := S2x2048x128) (k0_off8 i 0#32) S1x256x128.size (k0_off8_inb i 0),
    k0_pay74 q (mask1 i) (eww1 i q d l k0 v0) (seen1 i q d l s k0 v0) (beta1 q k0) k0_pay71
      (v.readAt (Elt Ideal) (Rect.unit (s := S2x2048x128) (k0_off8 i 0#32) S1x256x128.size (k0_off8_inb i 0)).toLoadRect (v.writes (Elt Ideal) f L))⟩ :: L
def store2 : List (View.Piece (Elt Ideal) S2x2048x128 .f32) :=
  ⟨Rect.unit (s := S2x2048x128) (k0_off9 i 0#32) S1x256x128.size (k0_off9_inb i 0),
    k0_pay75 d (wgt1 i q l k0)
      (v.readAt (Elt Ideal) (Rect.unit (s := S2x2048x128) (k0_off9 i 0#32) S1x256x128.size (k0_off9_inb i 0)).toLoadRect
        (v.writes (Elt Ideal) f (store1 i q d l s k0 v0 v f L)))⟩ :: store1 i q d l s k0 v0 v f L
def store3 : List (View.Piece (Elt Ideal) S2x2048x128 .f32) :=
  ⟨Rect.unit (s := S2x2048x128) (k0_off8 i 1#32) S1x256x128.size (k0_off8_inb i 1),
    k0_pay90 (k0_pay79 q) (mask2 i) (eww2 i q d l k0 k1 v1) (seen2 i q d l s k0 v0 k1 v1) (beta2 q k1)
      (v.readAt (Elt Ideal) (Rect.unit (s := S2x2048x128) (k0_off8 i 1#32) S1x256x128.size (k0_off8_inb i 1)).toLoadRect
        (v.writes (Elt Ideal) f (store2 i q d l s k0 v0 v f L)))⟩ :: store2 i q d l s k0 v0 v f L
def store4 : List (View.Piece (Elt Ideal) S2x2048x128 .f32) :=
  ⟨Rect.unit (s := S2x2048x128) (k0_off9 i 1#32) S1x256x128.size (k0_off9_inb i 1),
    k0_pay91 (k0_pay80 d) (wgt2 i q l k0 k1)
      (v.readAt (Elt Ideal) (Rect.unit (s := S2x2048x128) (k0_off9 i 1#32) S1x256x128.size (k0_off9_inb i 1)).toLoadRect
        (v.writes (Elt Ideal) f (store3 i q d l s k0 v0 k1 v1 v f L)))⟩ :: store3 i q d l s k0 v0 k1 v1 v f L

variable {Q K V D : ℕ → ℕ → ℝ}

theorem diag_eq (t0 : ℕ) (ht : t0 = 512 * (i 1).val)
    (hq : ∀ (r : Fin 512) (x : Fin 128), q (ix2 r x) = (Q (t0 + r) x : EReal))
    (hd : ∀ (r : Fin 512) (x : Fin 128), d (ix2 r x) = (D (t0 + r) x : EReal))
    (hk0 : ∀ (c : Fin 256) (x : Fin 128), k0 (ix2 c x) = (K (t0 + c) x : EReal))
    (hv0 : ∀ (c : Fin 256) (x : Fin 128), v0 (ix2 c x) = (V (t0 + c) x : EReal))
    (hk1 : ∀ (c : Fin 256) (x : Fin 128), k1 (ix2 c x) = (K (t0 + 256 + c) x : EReal))
    (hv1 : ∀ (c : Fin 256) (x : Fin 128), v1 (ix2 c x) = (V (t0 + 256 + c) x : EReal))
    (hacc : Carry Q K V D t0 t0 (a, l, s))
    (h0 : Plane (v.read (Elt Ideal) (v.writes (Elt Ideal) f L)) 0 (dks Q K V D) (upTo t0 t0))
    (h1 : Plane (v.read (Elt Ideal) (v.writes (Elt Ideal) f L)) 1 (dvs Q K D) (upTo t0 t0)) :
    (∀ (r : Fin 512) (x : Fin 128), dqBlock i q d a l s k0 v0 k1 v1 (ix2 r x) = (dqs Q K V D 2048 (t0 + r) x : EReal) * Ideal.ofBits .f32 0x3DB504F3#32)
    ∧ Plane (v.read (Elt Ideal) (v.writes (Elt Ideal) f (store4 i q d l s k0 v0 k1 v1 v f L))) 0 (dks Q K V D) (fun _ => t0 + 512)
    ∧ Plane (v.read (Elt Ideal) (v.writes (Elt Ideal) f (store4 i q d l s k0 v0 k1 v1 v f L))) 1 (dvs Q K D) (fun _ => t0 + 512) := by
  obtain ⟨ha, hl, hs⟩ := hacc
  have hi4 : (i 1).val < 4 := (i 1).isLt
  have e0 : 512 * (i 1).val + 256 * (0 : Fin 2).val = t0 := by show 512 * (i 1).val + 256 * 0 = _; omega
  have e1 : 512 * (i 1).val + 256 * (1 : Fin 2).val = t0 + 256 := by show 512 * (i 1).val + 256 * 1 = _; omega
  have o80 := off8_eq i 0; have o81 := off8_eq i 1; have o90 := off9_eq i 0; have o91 := off9_eq i 1
  rw [e0] at o80 o90; rw [e1] at o81 o91
  -- the first step
  have hm1 : ∀ (r : Fin 512) (c : Fin 256), mask1 i (ix2 r c) = _ := mask1_at hi4
  have r66 : ∀ r c, keep1 i q k0 (ix2 r c) = _ := pay66_at hq hk0 hm1
  have r67 : ∀ r c, wgt1 i q l k0 (ix2 r c) = _ := pay67_at hq hk0 hm1 hl
  have r68 : ∀ r c, eww1 i q d l k0 v0 (ix2 r c) = _ := pay68_at hq hk0 hd hv0 hm1 hl
  have r69 : ∀ r c, seen1 i q d l s k0 v0 (ix2 r c) = _ := pay69_at hs r68
  have r70 : ∀ r c, beta1 q k0 (ix2 r c) = _ := pay70_at hq hk0
  have r73 : ∀ r x, acc1 i q d a l s k0 v0 (ix2 r x) = _ := pay73_at hk0 hm1 r68 r69 r70 ha
  have r76 : ∀ r x, low1 i q d a l s k0 v0 (ix2 r x) = _ := pay76_at hk0 hm1 r68 r69 r70 ha
  have r77 : ∀ r z, left1 i q l k0 (ix2 r z) = _ := pay77_at hl r66
  have r78 : ∀ r z, se1 i q d l s k0 v0 (ix2 r z) = _ := pay78_at hs r68
  have r79 := pay79_at hq
  have r80 := pay80_at hd
  have w80 := plane_load v (k0_off8_inb i 0) (a := 0) o80 (by omega) h0 (b := t0) (fun c hc => by rw [upTo, if_neg]; omega)
  have p1 : Plane (v.read (Elt Ideal) (v.writes (Elt Ideal) f (store1 i q d l s k0 v0 v f L))) 0 (dks Q K V D) (upTo t0 (t0 + 256)) :=
    plane_hit v _ o80 h0 (pay74_at hq hm1 r68 r69 r70 w80) (by intro j; simp only [upTo]; split_ifs <;> omega)
  have p1' : Plane (v.read (Elt Ideal) (v.writes (Elt Ideal) f (store1 i q d l s k0 v0 v f L))) 1 (dvs Q K D) (upTo t0 t0) :=
    plane_miss v (a := 1) (a' := 0) _ o80 (by decide) h1
  have w90 := plane_load v (k0_off9_inb i 0) (a := 1) o90 (by omega) p1' (b := t0) (fun c hc => by rw [upTo, if_neg]; omega)
  have p2 : Plane (v.read (Elt Ideal) (v.writes (Elt Ideal) f (store2 i q d l s k0 v0 v f L))) 1 (dvs Q K D) (upTo t0 (t0 + 256)) :=
    plane_hit v _ o90 p1' (pay75_at hd r67 w90) (by intro j; simp only [upTo]; split_ifs <;> omega)
  have p2' : Plane (v.read (Elt Ideal) (v.writes (Elt Ideal) f (store2 i q d l s k0 v0 v f L))) 0 (dks Q K V D) (upTo t0 (t0 + 256)) :=
    plane_miss v (a := 0) (a' := 1) _ o90 (by decide) p1
  -- the second step
  have hm2 : ∀ (r : Fin 256) (c : Fin 256), mask2 i (ix2 r c) = _ := mask2_at hi4
  have r85 : ∀ r c, wgt2 i q l k0 k1 (ix2 r c) = _ := pay85_at r79 hk1 hm2 r77
  have r86 : ∀ r c, eww2 i q d l k0 k1 v1 (ix2 r c) = _ := pay86_at r79 hk1 r80 hv1 hm2 r77
  have r87 : ∀ r c, seen2 i q d l s k0 v0 k1 v1 (ix2 r c) = _ := pay87_at r78 r86
  have r88 : ∀ r c, beta2 q k1 (ix2 r c) = _ := pay88_at r79 hk1
  have w81 := plane_load v (k0_off8_inb i 1) (a := 0) o81 (by omega) p2' (b := t0) (fun c hc => by rw [upTo, if_neg]; omega)
  have w81' : ∀ (z : Fin 1) (c : Fin 256) (x : Fin 128), _ = (dks Q K V D (t0 + 256) (t0 + 256 + c) x : EReal) := fun z c x =>
    (w81 z c x).trans (by rw [dks_const Q K V D (n := t0) (m := t0 + 256) (by omega) (by omega)])
  have p3 : Plane (v.read (Elt Ideal) (v.writes (Elt Ideal) f (store3 i q d l s k0 v0 k1 v1 v f L))) 0 (dks Q K V D) (upTo t0 (t0 + 512)) :=
    plane_hit v _ o81 p2' (pay90_at r79 hm2 r86 r87 r88 w81') (by intro j; simp only [upTo]; split_ifs <;> omega)
  have p3' : Plane (v.read (Elt Ideal) (v.writes (Elt Ideal) f (store3 i q d l s k0 v0 k1 v1 v f L))) 1 (dvs Q K D) (upTo t0 (t0 + 256)) :=
    plane_miss v (a := 1) (a' := 0) _ o81 (by decide) p2
  have w91 := plane_load v (k0_off9_inb i 1) (a := 1) o91 (by omega) p3' (b := t0) (fun c hc => by rw [upTo, if_neg]; omega)
  have w91' : ∀ (z : Fin 1) (c : Fin 256) (x : Fin 128), _ = (dvs Q K D (t0 + 256) (t0 + 256 + c) x : EReal) := fun z c x =>
    (w91 z c x).trans (by rw [dvs_const Q K D (n := t0) (m := t0 + 256) (by omega) (by omega)])
  have p4 : Plane (v.read (Elt Ideal) (v.writes (Elt Ideal) f (store4 i q d l s k0 v0 k1 v1 v f L))) 1 (dvs Q K D) (upTo t0 (t0 + 512)) :=
    plane_hit v _ o91 p3' (pay91_at r80 r85 w91') (by intro j; simp only [upTo]; split_ifs <;> omega)
  have p4' : Plane (v.read (Elt Ideal) (v.writes (Elt Ideal) f (store4 i q d l s k0 v0 k1 v1 v f L))) 0 (dks Q K V D) (upTo t0 (t0 + 512)) :=
    plane_miss v (a := 0) (a' := 1) _ o91 (by decide) p3
  refine ⟨fun r x => ?_, fun j x => ?_, fun j x => ?_⟩
  · refine (pay92_at rfl hm2 r86 r87 r88 hk1 r73 r76 r x).trans ?_
    rw [dqs_const Q K V D (n := t0 + 512) (m := 2048) (by have := r.isLt; omega) (by omega)]
  · rw [p4' j x, upTo]
    split_ifs with h
    · rfl
    · rw [dks_const Q K V D (n := t0) (m := t0 + 512) (by omega) (by omega)]
  · rw [p4 j x, upTo]
    split_ifs with h
    · rfl
    · rw [dvs_const Q K D (n := t0) (m := t0 + 512) (by omega) (by omega)]
end Terms

end Cert.Proof.Sb
-- ==== Proof.SbBody.lean ====
/- What the kernel's body leaves at each grid point. -/
module

public import proofs.«01_k».proof.Proof.Gen.KernelIdeal.Frame
public import proofs.«01_k».proof.Proof.SbDiag
public import Idealize.ShloMosaic.Lib.Writes

@[expose] public section

set_option maxRecDepth 16384

noncomputable section

namespace Cert.Proof.Sb
open Idealize.ShloMosaic Idealize.ShloMosaic.TcCoe Idealize.SL.Sem
open Cert.KernelIdeal Cert.KernelIdeal.Gen

theorem pay48_at {v : Vec Ideal S512x128 .f32} (r : Fin 512) (d : Fin 128) :
    k0_pay48 (F := Ideal) v (ix2 r d) = v (ix2 r d) * Ideal.ofBits .f32 0x3DB504F3#32 := by pointwise [k0_pay48]
theorem pay49_at {v : Vec Ideal S512x128 .f32} (r : Fin 512) (d : Fin 128) : k0_pay49 (F := Ideal) v (ix2 r d) = v (ix2 r d) := by
  pointwise [k0_pay49]
theorem pay47_at (a : Fin 2) (j : Fin 2048) (d : Fin 128) : k0_pay47 (F := Ideal) (ix3 a j d) = 0 := by pointwise [k0_pay47]
theorem pay53_at (r : Fin 512) (d : Fin 128) : k0_pay53 (F := Ideal) (ix2 r d) = 0 := by pointwise [k0_pay53]
theorem pay55_at (r : Fin 512) (z : Fin 1) : k0_pay55 (F := Ideal) (ix2 r z) = 0 := by pointwise [k0_pay55]
theorem pay54_at {v : Vec Ideal S1x512x1 .f32} (r : Fin 512) (z : Fin 1) : k0_pay54 (F := Ideal) v (ix2 r z) = v (ix3 0 r 0) := by
  pointwise [k0_pay54]
theorem pay93_at {v : Vec Ideal S2x2048x128 .f32} (a : Fin 2) (j : Fin 2048) (d : Fin 128) : k0_pay93 (F := Ideal) v (ix3 a j d) = v (ix3 a j d) := by
  pointwise [k0_pay93]

section Body
variable (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .bf16) (harg7 : arg7.IsWhole) (arg8 : Memref sig .tc .vmem S2x2048x128 .bf16) (harg8 : arg8.IsWhole) (arg9 : Memref sig .tc .vmem S2x2048x128 .f32) (harg9 : arg9.IsWhole)
  (x0 : Vec Ideal S512x128 .f32) (x1 x2 : Vec Ideal S2048x128 .f32) (x3 : Vec Ideal S512x128 .f32) (x4 : Vec Ideal S1x512x1 .f32)
  (xs0 : Vec Ideal S2x2048x128 .f32)
variable {Q K V D : ℕ → ℕ → ℝ} (t0 : ℕ)

/-- What the operands' blocks hold at a point whose rows start at `t0`. -/
structure Operands (Q K V D : ℕ → ℕ → ℝ) (t0 : ℕ) (x0 : Vec Ideal S512x128 .f32) (x1 x2 : Vec Ideal S2048x128 .f32) (x3 : Vec Ideal S512x128 .f32)
    (x4 : Vec Ideal S1x512x1 .f32) : Prop where
  q : ∀ (r : Fin 512) (d : Fin 128), x0 (ix2 r d) * Ideal.ofBits .f32 0x3DB504F3#32 = (Q (t0 + r) d : EReal)
  k : ∀ (j : Fin 2048) (d : Fin 128), x1 (ix2 j d) = (K j d : EReal)
  v : ∀ (j : Fin 2048) (d : Fin 128), x2 (ix2 j d) = (V j d : EReal)
  d : ∀ (r : Fin 512) (d : Fin 128), x3 (ix2 r d) = (D (t0 + r) d : EReal)
  tot : ∀ (r : Fin 512), x4 (ix3 0 r 0) = (total Q K (t0 + r) : EReal)

theorem trips1_eq : (Scf.trips (k0_t1_loop i).lb (k0_t1_loop i).ub (k0_t1_loop i).st) = (i 1).val := trips1 i
theorem trips2_eq : (Scf.trips (k0_t2_loop i).lb (k0_t2_loop i).ub (k0_t2_loop i).st) = 0 := trips2 i

theorem bodyA (hc0 : cond0_0 i) (hc1 : ¬cond0_1 i) (ht : t0 = 512 * (i 1).val) (hx : Operands Q K V D t0 x0 x1 x2 x3 x4) (ht0 : (i 1).val = 0) :
    (∀ (r : Fin 512) (d : Fin 128), out0_A_5 c i arg2 harg2 arg3 harg3 arg4 harg4 arg5 harg5 arg6 harg6 arg7 harg7 arg8 harg8 arg9 harg9 hc0 hc1 x0 x1 x2 x3 x4 (ix2 r d) = (dqs Q K V D 2048 (t0 + r) d : EReal) * Ideal.ofBits .f32 0x3DB504F3#32)
    ∧ Plane (sout0_A_0 c i arg2 harg2 arg3 harg3 arg4 harg4 arg5 harg5 arg6 harg6 arg7 harg7 arg8 harg8 arg9 harg9 hc0 hc1 x0 x1 x2 x3 x4) 0 (dks Q K V D) (fun _ => t0 + 512)
    ∧ Plane (sout0_A_0 c i arg2 harg2 arg3 harg3 arg4 harg4 arg5 harg5 arg6 harg6 arg7 harg7 arg8 harg8 arg9 harg9 hc0 hc1 x0 x1 x2 x3 x4) 1 (dvs Q K D) (fun _ => t0 + 512) := by
  have e2 : (View.readAt (Elt Ideal) arg2.view (Rect.unit (s := S512x128) ![0, 0] S512x128.size inb_S512x128_S512x128_0_0).toLoadRect (harg2.unread x0)) = x0 := by rw [View.readAt_full, harg2.read_unread]
  have e5 : (View.readAt (Elt Ideal) arg5.view (Rect.unit (s := S512x128) ![0, 0] S512x128.size inb_S512x128_S512x128_0_0).toLoadRect (harg5.unread x3)) = x3 := by rw [View.readAt_full, harg5.read_unread]
  have e6 : (View.readAt (Elt Ideal) arg6.view (Rect.unit (s := S1x512x1) ![0, 0, 0] S1x512x1.size inb_S1x512x1_S1x512x1_0_0_0).toLoadRect (harg6.unread x4)) = x4 := by rw [View.readAt_full, harg6.read_unread]
  have hq : ∀ (r : Fin 512) (d : Fin 128), k0_pay48 (F := Ideal) (View.readAt (Elt Ideal) arg2.view (Rect.unit (s := S512x128) ![0, 0] S512x128.size inb_S512x128_S512x128_0_0).toLoadRect (harg2.unread x0)) (ix2 r d) = (Q (t0 + r) d : EReal) := fun r d => by
    rw [pay48_at, e2, hx.q]
  have hd : ∀ (r : Fin 512) (d : Fin 128), (View.readAt (Elt Ideal) arg5.view (Rect.unit (s := S512x128) ![0, 0] S512x128.size inb_S512x128_S512x128_0_0).toLoadRect (harg5.unread x3)) (ix2 r d) = (D (t0 + r) d : EReal) := fun r d => by rw [e5, hx.d]
  have hk : ∀ (j : Fin 2048) (d : Fin 128), arg3.view.read (Elt Ideal) (harg3.unread x1) (ix2 j d) = (K j d : EReal) := fun j d => by
    rw [harg3.read_unread, hx.k]
  have hv : ∀ (j : Fin 2048) (d : Fin 128), arg4.view.read (Elt Ideal) (harg4.unread x2) (ix2 j d) = (V j d : EReal) := fun j d => by
    rw [harg4.read_unread, hx.v]
  have hi : Carry Q K V D t0 0 ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) := by
    refine ⟨fun r d => ?_, fun r z => ?_, fun r z => ?_⟩
    · exact (pay53_at r d).trans (by rw [dqs_nil, EReal.coe_zero])
    · refine (pay54_at (v := (View.readAt (Elt Ideal) arg6.view (Rect.unit (s := S1x512x1) ![0, 0, 0] S1x512x1.size inb_S1x512x1_S1x512x1_0_0_0).toLoadRect (harg6.unread x4))) r z).trans ?_; rw [e6, hx.tot, left_zero]
    · exact (pay55_at r z).trans (by rw [seen_zero, EReal.coe_zero])
  have pz : ∀ (a : Fin 2) (j : Fin 2048) (d : Fin 128), arg9.view.read (Elt Ideal) (arg9.view.writes (Elt Ideal) arg9.view.junk (kernelRun0_A.sl.HS0_1 (F := Ideal))) (ix3 a j d) = 0 := fun a j d => by
    unfold kernelRun0_A.sl.HS0_1
    rw [View.read_writes_full]
    exact pay47_at a j d
  have g0 : Plane (arg9.view.read (Elt Ideal) (arg9.view.writes (Elt Ideal) arg9.view.junk (kernelRun0_A.sl.HS0_1 (F := Ideal)))) 0 (dks Q K V D) (fun _ => t0) := fun j d => by
    rw [pz, show t0 = 0 by omega, dks_nil, EReal.coe_zero]
  have g1 : Plane (arg9.view.read (Elt Ideal) (arg9.view.writes (Elt Ideal) arg9.view.junk (kernelRun0_A.sl.HS0_1 (F := Ideal)))) 1 (dvs Q K D) (fun _ => t0) := fun j d => by
    rw [pz, show t0 = 0 by omega, dvs_nil, EReal.coe_zero]
  have hL := loop_eq Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) t0 ht hq hd hk hv ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (arg9.view.writes (Elt Ideal) arg9.view.junk (kernelRun0_A.sl.HS0_1 (F := Ideal))) hi g0 g1 (i 1).val le_rfl
  rw [← ht] at hL
  have hc : Carry Q K V D t0 t0 ((kernelRun0_A.sl.r_2 c i arg2 harg2 arg3 harg3 arg4 harg4 arg5 harg5 arg6 harg6 arg7 harg7 arg8 harg8 arg9 harg9 x0 x1 x2 x3 x4), (kernelRun0_A.sl.r_3 c i arg2 harg2 arg3 harg3 arg4 harg4 arg5 harg5 arg6 harg6 arg7 harg7 arg8 harg8 arg9 harg9 x0 x1 x2 x3 x4), (kernelRun0_A.sl.r_4 c i arg2 harg2 arg3 harg3 arg4 harg4 arg5 harg5 arg6 harg6 arg7 harg7 arg8 harg8 arg9 harg9 x0 x1 x2 x3 x4)) := by
    unfold kernelRun0_A.sl.r_2 kernelRun0_A.sl.r_3 kernelRun0_A.sl.r_4
    rw [trips2_eq, trips1_eq]
    exact hL.1
  have h2 : ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_A.sl.v32 i) (harg3.unread x1) (harg4.unread x2) (arg9.view.writes (Elt Ideal) arg9.view.junk ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2 ++ kernelRun0_A.sl.HS0_1)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2 ++ kernelRun0_A.sl.HS0_1)) = ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2 ++ kernelRun0_A.sl.HS0_1) := by rw [trips2_eq]; rfl
  have p0 : Plane (arg9.view.read (Elt Ideal) (arg9.view.writes (Elt Ideal) arg9.view.junk ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_A.sl.v32 i) (harg3.unread x1) (harg4.unread x2) (arg9.view.writes (Elt Ideal) arg9.view.junk ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2 ++ kernelRun0_A.sl.HS0_1)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2 ++ kernelRun0_A.sl.HS0_1)))) 0 (dks Q K V D) (upTo t0 t0) := by
    rw [h2, View.writes_append, trips1_eq]; exact hL.2.1
  have p1 : Plane (arg9.view.read (Elt Ideal) (arg9.view.writes (Elt Ideal) arg9.view.junk ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_A.sl.v32 i) (harg3.unread x1) (harg4.unread x2) (arg9.view.writes (Elt Ideal) arg9.view.junk ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2 ++ kernelRun0_A.sl.HS0_1)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2 ++ kernelRun0_A.sl.HS0_1)))) 1 (dvs Q K D) (upTo t0 t0) := by
    rw [h2, View.writes_append, trips1_eq]; exact hL.2.2
  have e0 : 512 * (i 1).val + 256 * (0 : Fin 2).val = t0 := by show 512 * (i 1).val + 256 * 0 = _; omega
  have e1 : 512 * (i 1).val + 256 * (1 : Fin 2).val = t0 + 256 := by show 512 * (i 1).val + 256 * 1 = _; omega
  have o70 := off7_eq i 0; have o71 := off7_eq i 1
  rw [e0] at o70; rw [e1] at o71
  have hD := diag_eq i (kernelRun0_A.sl.r c arg2 harg2 x0) (kernelRun0_A.sl.r_1 c arg5 harg5 x3) (kernelRun0_A.sl.r_2 c i arg2 harg2 arg3 harg3 arg4 harg4 arg5 harg5 arg6 harg6 arg7 harg7 arg8 harg8 arg9 harg9 x0 x1 x2 x3 x4) (kernelRun0_A.sl.r_3 c i arg2 harg2 arg3 harg3 arg4 harg4 arg5 harg5 arg6 harg6 arg7 harg7 arg8 harg8 arg9 harg9 x0 x1 x2 x3 x4) (kernelRun0_A.sl.r_4 c i arg2 harg2 arg3 harg3 arg4 harg4 arg5 harg5 arg6 harg6 arg7 harg7 arg8 harg8 arg9 harg9 x0 x1 x2 x3 x4) (View.readAt (Elt Ideal) arg3.view (Rect.unit (s := S2048x128) (k0_off7 i 0#32) S256x128.size (k0_off7_inb i 0)).toLoadRect (harg3.unread x1)) (View.readAt (Elt Ideal) arg4.view (Rect.unit (s := S2048x128) (k0_off7 i 0#32) S256x128.size (k0_off7_inb i 0)).toLoadRect (harg4.unread x2)) (View.readAt (Elt Ideal) arg3.view (Rect.unit (s := S2048x128) (k0_off7 i 1#32) S256x128.size (k0_off7_inb i 1)).toLoadRect (harg3.unread x1)) (View.readAt (Elt Ideal) arg4.view (Rect.unit (s := S2048x128) (k0_off7 i 1#32) S256x128.size (k0_off7_inb i 1)).toLoadRect (harg4.unread x2)) arg9.view arg9.view.junk ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_A.sl.v32 i) (harg3.unread x1) (harg4.unread x2) (arg9.view.writes (Elt Ideal) arg9.view.junk ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2 ++ kernelRun0_A.sl.HS0_1)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (arg9.view.writes (Elt Ideal) arg9.view.junk (kernelRun0_A.sl.HS0_1 (F := Ideal))) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2 ++ kernelRun0_A.sl.HS0_1)) (Q := Q) (K := K) (V := V) (D := D) t0 ht hq
    (fun r x => (pay49_at r x).trans (hd r x)) (load_tile arg3.view hk _ o70) (load_tile arg4.view hv _ o70) (load_tile arg3.view hk _ o71) (load_tile arg4.view hv _ o71) hc p0 p1
  refine ⟨?_, ?_, ?_⟩
  · intro r d
    refine Eq.trans ?_ (hD.1 r d)
    unfold out0_A_5 kernelRun0_A
    dsimp only
    exact congrFun (View.read_writes_full VO0_5 VO0_5.junk _ _ []) _
  · show Plane (sout0_A_0 c i arg2 harg2 arg3 harg3 arg4 harg4 arg5 harg5 arg6 harg6 arg7 harg7 arg8 harg8 arg9 harg9 hc0 hc1 x0 x1 x2 x3 x4) 0 (dks Q K V D) (fun _ => t0 + 512)
    have e : sout0_A_0 c i arg2 harg2 arg3 harg3 arg4 harg4 arg5 harg5 arg6 harg6 arg7 harg7 arg8 harg8 arg9 harg9 hc0 hc1 x0 x1 x2 x3 x4 = arg9.view.read (Elt Ideal) (arg9.view.writes (Elt Ideal) arg9.view.junk (kernelRun0_A c i arg2 harg2 arg3 harg3 arg4 harg4 arg5 harg5 arg6 harg6 arg7 harg7 arg8 harg8 arg9 harg9 hc0 hc1 x0 x1 x2 x3 x4).2.2.1) :=
      funext fun y => View.read_writes_apply_eq VS0_0 VS0_0.junk arg9.view arg9.view.junk y _ (scover0_A_0 c i arg2 harg2 arg3 harg3 arg4 harg4 arg5 harg5 arg6 harg6 arg7 harg7 arg8 harg8 arg9 harg9 hc0 hc1 x0 x1 x2 x3 x4 y)
    rw [e]
    exact hD.2.1
  · show Plane (sout0_A_0 c i arg2 harg2 arg3 harg3 arg4 harg4 arg5 harg5 arg6 harg6 arg7 harg7 arg8 harg8 arg9 harg9 hc0 hc1 x0 x1 x2 x3 x4) 1 (dvs Q K D) (fun _ => t0 + 512)
    have e : sout0_A_0 c i arg2 harg2 arg3 harg3 arg4 harg4 arg5 harg5 arg6 harg6 arg7 harg7 arg8 harg8 arg9 harg9 hc0 hc1 x0 x1 x2 x3 x4 = arg9.view.read (Elt Ideal) (arg9.view.writes (Elt Ideal) arg9.view.junk (kernelRun0_A c i arg2 harg2 arg3 harg3 arg4 harg4 arg5 harg5 arg6 harg6 arg7 harg7 arg8 harg8 arg9 harg9 hc0 hc1 x0 x1 x2 x3 x4).2.2.1) :=
      funext fun y => View.read_writes_apply_eq VS0_0 VS0_0.junk arg9.view arg9.view.junk y _ (scover0_A_0 c i arg2 harg2 arg3 harg3 arg4 harg4 arg5 harg5 arg6 harg6 arg7 harg7 arg8 harg8 arg9 harg9 hc0 hc1 x0 x1 x2 x3 x4 y)
    rw [e]
    exact hD.2.2

theorem bodyB (hc0 : ¬cond0_0 i) (hc1 : ¬cond0_1 i) (ht : t0 = 512 * (i 1).val) (hx : Operands Q K V D t0 x0 x1 x2 x3 x4) (h0 : Plane xs0 0 (dks Q K V D) (fun _ => t0)) (h1 : Plane xs0 1 (dvs Q K D) (fun _ => t0)) :
    (∀ (r : Fin 512) (d : Fin 128), out0_B_5 c i arg2 harg2 arg3 harg3 arg4 harg4 arg5 harg5 arg6 harg6 arg7 harg7 arg8 harg8 arg9 harg9 hc0 hc1 x0 x1 x2 x3 x4 xs0 (ix2 r d) = (dqs Q K V D 2048 (t0 + r) d : EReal) * Ideal.ofBits .f32 0x3DB504F3#32)
    ∧ Plane (sout0_B_0 c i arg2 harg2 arg3 harg3 arg4 harg4 arg5 harg5 arg6 harg6 arg7 harg7 arg8 harg8 arg9 harg9 hc0 hc1 x0 x1 x2 x3 x4 xs0) 0 (dks Q K V D) (fun _ => t0 + 512)
    ∧ Plane (sout0_B_0 c i arg2 harg2 arg3 harg3 arg4 harg4 arg5 harg5 arg6 harg6 arg7 harg7 arg8 harg8 arg9 harg9 hc0 hc1 x0 x1 x2 x3 x4 xs0) 1 (dvs Q K D) (fun _ => t0 + 512) := by
  have e2 : (View.readAt (Elt Ideal) arg2.view (Rect.unit (s := S512x128) ![0, 0] S512x128.size inb_S512x128_S512x128_0_0).toLoadRect (harg2.unread x0)) = x0 := by rw [View.readAt_full, harg2.read_unread]
  have e5 : (View.readAt (Elt Ideal) arg5.view (Rect.unit (s := S512x128) ![0, 0] S512x128.size inb_S512x128_S512x128_0_0).toLoadRect (harg5.unread x3)) = x3 := by rw [View.readAt_full, harg5.read_unread]
  have e6 : (View.readAt (Elt Ideal) arg6.view (Rect.unit (s := S1x512x1) ![0, 0, 0] S1x512x1.size inb_S1x512x1_S1x512x1_0_0_0).toLoadRect (harg6.unread x4)) = x4 := by rw [View.readAt_full, harg6.read_unread]
  have hq : ∀ (r : Fin 512) (d : Fin 128), k0_pay48 (F := Ideal) (View.readAt (Elt Ideal) arg2.view (Rect.unit (s := S512x128) ![0, 0] S512x128.size inb_S512x128_S512x128_0_0).toLoadRect (harg2.unread x0)) (ix2 r d) = (Q (t0 + r) d : EReal) := fun r d => by
    rw [pay48_at, e2, hx.q]
  have hd : ∀ (r : Fin 512) (d : Fin 128), (View.readAt (Elt Ideal) arg5.view (Rect.unit (s := S512x128) ![0, 0] S512x128.size inb_S512x128_S512x128_0_0).toLoadRect (harg5.unread x3)) (ix2 r d) = (D (t0 + r) d : EReal) := fun r d => by rw [e5, hx.d]
  have hk : ∀ (j : Fin 2048) (d : Fin 128), arg3.view.read (Elt Ideal) (harg3.unread x1) (ix2 j d) = (K j d : EReal) := fun j d => by
    rw [harg3.read_unread, hx.k]
  have hv : ∀ (j : Fin 2048) (d : Fin 128), arg4.view.read (Elt Ideal) (harg4.unread x2) (ix2 j d) = (V j d : EReal) := fun j d => by
    rw [harg4.read_unread, hx.v]
  have hi : Carry Q K V D t0 0 ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) := by
    refine ⟨fun r d => ?_, fun r z => ?_, fun r z => ?_⟩
    · exact (pay53_at r d).trans (by rw [dqs_nil, EReal.coe_zero])
    · refine (pay54_at (v := (View.readAt (Elt Ideal) arg6.view (Rect.unit (s := S1x512x1) ![0, 0, 0] S1x512x1.size inb_S1x512x1_S1x512x1_0_0_0).toLoadRect (harg6.unread x4))) r z).trans ?_; rw [e6, hx.tot, left_zero]
    · exact (pay55_at r z).trans (by rw [seen_zero, EReal.coe_zero])
  have g0 : Plane (arg9.view.read (Elt Ideal) (harg9.unread xs0)) 0 (dks Q K V D) (fun _ => t0) := by rw [harg9.read_unread]; exact h0
  have g1 : Plane (arg9.view.read (Elt Ideal) (harg9.unread xs0)) 1 (dvs Q K D) (fun _ => t0) := by rw [harg9.read_unread]; exact h1
  have hL := loop_eq Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) t0 ht hq hd hk hv ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (harg9.unread xs0) hi g0 g1 (i 1).val le_rfl
  rw [← ht] at hL
  have hc : Carry Q K V D t0 t0 ((kernelRun0_B.sl.r_2 c i arg2 harg2 arg3 harg3 arg4 harg4 arg5 harg5 arg6 harg6 arg7 harg7 arg8 harg8 arg9 harg9 x0 x1 x2 x3 x4 xs0), (kernelRun0_B.sl.r_3 c i arg2 harg2 arg3 harg3 arg4 harg4 arg5 harg5 arg6 harg6 arg7 harg7 arg8 harg8 arg9 harg9 x0 x1 x2 x3 x4 xs0), (kernelRun0_B.sl.r_4 c i arg2 harg2 arg3 harg3 arg4 harg4 arg5 harg5 arg6 harg6 arg7 harg7 arg8 harg8 arg9 harg9 x0 x1 x2 x3 x4 xs0)) := by
    unfold kernelRun0_B.sl.r_2 kernelRun0_B.sl.r_3 kernelRun0_B.sl.r_4
    rw [trips2_eq, trips1_eq]
    exact hL.1
  have h2 : ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_B.sl.v32 i) (harg3.unread x1) (harg4.unread x2) (arg9.view.writes (Elt Ideal) (harg9.unread xs0) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) = ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2) := by rw [trips2_eq]; rfl
  have p0 : Plane (arg9.view.read (Elt Ideal) (arg9.view.writes (Elt Ideal) (harg9.unread xs0) ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_B.sl.v32 i) (harg3.unread x1) (harg4.unread x2) (arg9.view.writes (Elt Ideal) (harg9.unread xs0) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)))) 0 (dks Q K V D) (upTo t0 t0) := by
    rw [h2, trips1_eq]; exact hL.2.1
  have p1 : Plane (arg9.view.read (Elt Ideal) (arg9.view.writes (Elt Ideal) (harg9.unread xs0) ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_B.sl.v32 i) (harg3.unread x1) (harg4.unread x2) (arg9.view.writes (Elt Ideal) (harg9.unread xs0) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)))) 1 (dvs Q K D) (upTo t0 t0) := by
    rw [h2, trips1_eq]; exact hL.2.2
  have e0 : 512 * (i 1).val + 256 * (0 : Fin 2).val = t0 := by show 512 * (i 1).val + 256 * 0 = _; omega
  have e1 : 512 * (i 1).val + 256 * (1 : Fin 2).val = t0 + 256 := by show 512 * (i 1).val + 256 * 1 = _; omega
  have o70 := off7_eq i 0; have o71 := off7_eq i 1
  rw [e0] at o70; rw [e1] at o71
  have hD := diag_eq i (kernelRun0_B.sl.r c arg2 harg2 x0) (kernelRun0_B.sl.r_1 c arg5 harg5 x3) (kernelRun0_B.sl.r_2 c i arg2 harg2 arg3 harg3 arg4 harg4 arg5 harg5 arg6 harg6 arg7 harg7 arg8 harg8 arg9 harg9 x0 x1 x2 x3 x4 xs0) (kernelRun0_B.sl.r_3 c i arg2 harg2 arg3 harg3 arg4 harg4 arg5 harg5 arg6 harg6 arg7 harg7 arg8 harg8 arg9 harg9 x0 x1 x2 x3 x4 xs0) (kernelRun0_B.sl.r_4 c i arg2 harg2 arg3 harg3 arg4 harg4 arg5 harg5 arg6 harg6 arg7 harg7 arg8 harg8 arg9 harg9 x0 x1 x2 x3 x4 xs0) (View.readAt (Elt Ideal) arg3.view (Rect.unit (s := S2048x128) (k0_off7 i 0#32) S256x128.size (k0_off7_inb i 0)).toLoadRect (harg3.unread x1)) (View.readAt (Elt Ideal) arg4.view (Rect.unit (s := S2048x128) (k0_off7 i 0#32) S256x128.size (k0_off7_inb i 0)).toLoadRect (harg4.unread x2)) (View.readAt (Elt Ideal) arg3.view (Rect.unit (s := S2048x128) (k0_off7 i 1#32) S256x128.size (k0_off7_inb i 1)).toLoadRect (harg3.unread x1)) (View.readAt (Elt Ideal) arg4.view (Rect.unit (s := S2048x128) (k0_off7 i 1#32) S256x128.size (k0_off7_inb i 1)).toLoadRect (harg4.unread x2)) arg9.view (harg9.unread xs0) ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_B.sl.v32 i) (harg3.unread x1) (harg4.unread x2) (arg9.view.writes (Elt Ideal) (harg9.unread xs0) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) (Q := Q) (K := K) (V := V) (D := D) t0 ht hq
    (fun r x => (pay49_at r x).trans (hd r x)) (load_tile arg3.view hk _ o70) (load_tile arg4.view hv _ o70) (load_tile arg3.view hk _ o71) (load_tile arg4.view hv _ o71) hc p0 p1
  refine ⟨?_, ?_, ?_⟩
  · intro r d
    refine Eq.trans ?_ (hD.1 r d)
    unfold out0_B_5 kernelRun0_B
    dsimp only
    exact congrFun (View.read_writes_full VO0_5 VO0_5.junk _ _ []) _
  · show Plane (sout0_B_0 c i arg2 harg2 arg3 harg3 arg4 harg4 arg5 harg5 arg6 harg6 arg7 harg7 arg8 harg8 arg9 harg9 hc0 hc1 x0 x1 x2 x3 x4 xs0) 0 (dks Q K V D) (fun _ => t0 + 512)
    exact hD.2.1
  · show Plane (sout0_B_0 c i arg2 harg2 arg3 harg3 arg4 harg4 arg5 harg5 arg6 harg6 arg7 harg7 arg8 harg8 arg9 harg9 hc0 hc1 x0 x1 x2 x3 x4 xs0) 1 (dvs Q K D) (fun _ => t0 + 512)
    exact hD.2.2

theorem bodyC (hc0 : ¬cond0_0 i) (hc1 : cond0_1 i) (ht : t0 = 512 * (i 1).val) (hx : Operands Q K V D t0 x0 x1 x2 x3 x4) (h0 : Plane xs0 0 (dks Q K V D) (fun _ => t0)) (h1 : Plane xs0 1 (dvs Q K D) (fun _ => t0)) :
    (∀ (r : Fin 512) (d : Fin 128), out0_C_5 c i arg2 harg2 arg3 harg3 arg4 harg4 arg5 harg5 arg6 harg6 arg7 harg7 arg8 harg8 arg9 harg9 hc0 hc1 x0 x1 x2 x3 x4 xs0 (ix2 r d) = (dqs Q K V D 2048 (t0 + r) d : EReal) * Ideal.ofBits .f32 0x3DB504F3#32)
    ∧ Plane (sout0_C_0 c i arg2 harg2 arg3 harg3 arg4 harg4 arg5 harg5 arg6 harg6 arg7 harg7 arg8 harg8 arg9 harg9 hc0 hc1 x0 x1 x2 x3 x4 xs0) 0 (dks Q K V D) (fun _ => t0 + 512)
    ∧ Plane (sout0_C_0 c i arg2 harg2 arg3 harg3 arg4 harg4 arg5 harg5 arg6 harg6 arg7 harg7 arg8 harg8 arg9 harg9 hc0 hc1 x0 x1 x2 x3 x4 xs0) 1 (dvs Q K D) (fun _ => t0 + 512)
    ∧ ∀ (a : Fin 2) (j : Fin 2048) (d : Fin 128), out0_C_6 c i arg2 harg2 arg3 harg3 arg4 harg4 arg5 harg5 arg6 harg6 arg7 harg7 arg8 harg8 arg9 harg9 hc0 hc1 x0 x1 x2 x3 x4 xs0 (ix3 a j d) = sout0_C_0 c i arg2 harg2 arg3 harg3 arg4 harg4 arg5 harg5 arg6 harg6 arg7 harg7 arg8 harg8 arg9 harg9 hc0 hc1 x0 x1 x2 x3 x4 xs0 (ix3 a j d) := by
  have e2 : (View.readAt (Elt Ideal) arg2.view (Rect.unit (s := S512x128) ![0, 0] S512x128.size inb_S512x128_S512x128_0_0).toLoadRect (harg2.unread x0)) = x0 := by rw [View.readAt_full, harg2.read_unread]
  have e5 : (View.readAt (Elt Ideal) arg5.view (Rect.unit (s := S512x128) ![0, 0] S512x128.size inb_S512x128_S512x128_0_0).toLoadRect (harg5.unread x3)) = x3 := by rw [View.readAt_full, harg5.read_unread]
  have e6 : (View.readAt (Elt Ideal) arg6.view (Rect.unit (s := S1x512x1) ![0, 0, 0] S1x512x1.size inb_S1x512x1_S1x512x1_0_0_0).toLoadRect (harg6.unread x4)) = x4 := by rw [View.readAt_full, harg6.read_unread]
  have hq : ∀ (r : Fin 512) (d : Fin 128), k0_pay48 (F := Ideal) (View.readAt (Elt Ideal) arg2.view (Rect.unit (s := S512x128) ![0, 0] S512x128.size inb_S512x128_S512x128_0_0).toLoadRect (harg2.unread x0)) (ix2 r d) = (Q (t0 + r) d : EReal) := fun r d => by
    rw [pay48_at, e2, hx.q]
  have hd : ∀ (r : Fin 512) (d : Fin 128), (View.readAt (Elt Ideal) arg5.view (Rect.unit (s := S512x128) ![0, 0] S512x128.size inb_S512x128_S512x128_0_0).toLoadRect (harg5.unread x3)) (ix2 r d) = (D (t0 + r) d : EReal) := fun r d => by rw [e5, hx.d]
  have hk : ∀ (j : Fin 2048) (d : Fin 128), arg3.view.read (Elt Ideal) (harg3.unread x1) (ix2 j d) = (K j d : EReal) := fun j d => by
    rw [harg3.read_unread, hx.k]
  have hv : ∀ (j : Fin 2048) (d : Fin 128), arg4.view.read (Elt Ideal) (harg4.unread x2) (ix2 j d) = (V j d : EReal) := fun j d => by
    rw [harg4.read_unread, hx.v]
  have hi : Carry Q K V D t0 0 ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) := by
    refine ⟨fun r d => ?_, fun r z => ?_, fun r z => ?_⟩
    · exact (pay53_at r d).trans (by rw [dqs_nil, EReal.coe_zero])
    · refine (pay54_at (v := (View.readAt (Elt Ideal) arg6.view (Rect.unit (s := S1x512x1) ![0, 0, 0] S1x512x1.size inb_S1x512x1_S1x512x1_0_0_0).toLoadRect (harg6.unread x4))) r z).trans ?_; rw [e6, hx.tot, left_zero]
    · exact (pay55_at r z).trans (by rw [seen_zero, EReal.coe_zero])
  have g0 : Plane (arg9.view.read (Elt Ideal) (harg9.unread xs0)) 0 (dks Q K V D) (fun _ => t0) := by rw [harg9.read_unread]; exact h0
  have g1 : Plane (arg9.view.read (Elt Ideal) (harg9.unread xs0)) 1 (dvs Q K D) (fun _ => t0) := by rw [harg9.read_unread]; exact h1
  have hL := loop_eq Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) t0 ht hq hd hk hv ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (harg9.unread xs0) hi g0 g1 (i 1).val le_rfl
  rw [← ht] at hL
  have hc : Carry Q K V D t0 t0 ((kernelRun0_C.sl.r_2 c i arg2 harg2 arg3 harg3 arg4 harg4 arg5 harg5 arg6 harg6 arg7 harg7 arg8 harg8 arg9 harg9 x0 x1 x2 x3 x4 xs0), (kernelRun0_C.sl.r_3 c i arg2 harg2 arg3 harg3 arg4 harg4 arg5 harg5 arg6 harg6 arg7 harg7 arg8 harg8 arg9 harg9 x0 x1 x2 x3 x4 xs0), (kernelRun0_C.sl.r_4 c i arg2 harg2 arg3 harg3 arg4 harg4 arg5 harg5 arg6 harg6 arg7 harg7 arg8 harg8 arg9 harg9 x0 x1 x2 x3 x4 xs0)) := by
    unfold kernelRun0_C.sl.r_2 kernelRun0_C.sl.r_3 kernelRun0_C.sl.r_4
    rw [trips2_eq, trips1_eq]
    exact hL.1
  have h2 : ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_C.sl.v32 i) (harg3.unread x1) (harg4.unread x2) (arg9.view.writes (Elt Ideal) (harg9.unread xs0) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) = ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2) := by rw [trips2_eq]; rfl
  have p0 : Plane (arg9.view.read (Elt Ideal) (arg9.view.writes (Elt Ideal) (harg9.unread xs0) ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_C.sl.v32 i) (harg3.unread x1) (harg4.unread x2) (arg9.view.writes (Elt Ideal) (harg9.unread xs0) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)))) 0 (dks Q K V D) (upTo t0 t0) := by
    rw [h2, trips1_eq]; exact hL.2.1
  have p1 : Plane (arg9.view.read (Elt Ideal) (arg9.view.writes (Elt Ideal) (harg9.unread xs0) ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_C.sl.v32 i) (harg3.unread x1) (harg4.unread x2) (arg9.view.writes (Elt Ideal) (harg9.unread xs0) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)))) 1 (dvs Q K D) (upTo t0 t0) := by
    rw [h2, trips1_eq]; exact hL.2.2
  have e0 : 512 * (i 1).val + 256 * (0 : Fin 2).val = t0 := by show 512 * (i 1).val + 256 * 0 = _; omega
  have e1 : 512 * (i 1).val + 256 * (1 : Fin 2).val = t0 + 256 := by show 512 * (i 1).val + 256 * 1 = _; omega
  have o70 := off7_eq i 0; have o71 := off7_eq i 1
  rw [e0] at o70; rw [e1] at o71
  have hD := diag_eq i (kernelRun0_C.sl.r c arg2 harg2 x0) (kernelRun0_C.sl.r_1 c arg5 harg5 x3) (kernelRun0_C.sl.r_2 c i arg2 harg2 arg3 harg3 arg4 harg4 arg5 harg5 arg6 harg6 arg7 harg7 arg8 harg8 arg9 harg9 x0 x1 x2 x3 x4 xs0) (kernelRun0_C.sl.r_3 c i arg2 harg2 arg3 harg3 arg4 harg4 arg5 harg5 arg6 harg6 arg7 harg7 arg8 harg8 arg9 harg9 x0 x1 x2 x3 x4 xs0) (kernelRun0_C.sl.r_4 c i arg2 harg2 arg3 harg3 arg4 harg4 arg5 harg5 arg6 harg6 arg7 harg7 arg8 harg8 arg9 harg9 x0 x1 x2 x3 x4 xs0) (View.readAt (Elt Ideal) arg3.view (Rect.unit (s := S2048x128) (k0_off7 i 0#32) S256x128.size (k0_off7_inb i 0)).toLoadRect (harg3.unread x1)) (View.readAt (Elt Ideal) arg4.view (Rect.unit (s := S2048x128) (k0_off7 i 0#32) S256x128.size (k0_off7_inb i 0)).toLoadRect (harg4.unread x2)) (View.readAt (Elt Ideal) arg3.view (Rect.unit (s := S2048x128) (k0_off7 i 1#32) S256x128.size (k0_off7_inb i 1)).toLoadRect (harg3.unread x1)) (View.readAt (Elt Ideal) arg4.view (Rect.unit (s := S2048x128) (k0_off7 i 1#32) S256x128.size (k0_off7_inb i 1)).toLoadRect (harg4.unread x2)) arg9.view (harg9.unread xs0) ((st_k0_t2 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (kernelRun0_C.sl.v32 i) (harg3.unread x1) (harg4.unread x2) (arg9.view.writes (Elt Ideal) (harg9.unread xs0) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).1.2.2) (Scf.trips (k0_t2_loop i).lb (k0_t2_loop i).ub (k0_t2_loop i).st)).2 ++ ((st_k0_t1 Variants.none c none i arg2 harg2 arg3 harg3 arg4 harg4 arg5 harg5 arg6 harg6 arg7 harg7 arg8 harg8 arg9 harg9 (View.readAt (Elt Ideal) arg2.view (Rect.unit (s := S512x128) ![0, 0] S512x128.size inb_S512x128_S512x128_0_0).toLoadRect (harg2.unread x0)) (View.readAt (Elt Ideal) arg5.view (Rect.unit (s := S512x128) ![0, 0] S512x128.size inb_S512x128_S512x128_0_0).toLoadRect (harg5.unread x3)) (harg3.unread x1) (harg4.unread x2) (harg9.unread xs0) ((k0_pay53, k0_pay54 (View.readAt (Elt Ideal) arg6.view (Rect.unit (s := S1x512x1) ![0, 0, 0] S1x512x1.size inb_S1x512x1_S1x512x1_0_0_0).toLoadRect (harg6.unread x4)), k0_pay55) : FVec Ideal S512x128 .f32 × FVec Ideal S512x1 .f32 × FVec Ideal S512x1 .f32) (Scf.trips (k0_t1_loop i).lb (k0_t1_loop i).ub (k0_t1_loop i).st)).2)) (Q := Q) (K := K) (V := V) (D := D) t0 ht hq
    (fun r x => (pay49_at r x).trans (hd r x)) (load_tile arg3.view hk _ o70) (load_tile arg4.view hv _ o70) (load_tile arg3.view hk _ o71) (load_tile arg4.view hv _ o71) hc p0 p1
  refine ⟨?_, ?_, ?_, ?_⟩
  · intro r d
    refine Eq.trans ?_ (hD.1 r d)
    unfold out0_C_5 kernelRun0_C
    dsimp only
    exact congrFun (View.read_writes_full VO0_5 VO0_5.junk _ _ []) _
  · show Plane (sout0_C_0 c i arg2 harg2 arg3 harg3 arg4 harg4 arg5 harg5 arg6 harg6 arg7 harg7 arg8 harg8 arg9 harg9 hc0 hc1 x0 x1 x2 x3 x4 xs0) 0 (dks Q K V D) (fun _ => t0 + 512)
    exact hD.2.1
  · show Plane (sout0_C_0 c i arg2 harg2 arg3 harg3 arg4 harg4 arg5 harg5 arg6 harg6 arg7 harg7 arg8 harg8 arg9 harg9 hc0 hc1 x0 x1 x2 x3 x4 xs0) 1 (dvs Q K D) (fun _ => t0 + 512)
    exact hD.2.2
  · intro a j d
    unfold out0_C_6 kernelRun0_C
    dsimp only
    rw [View.read_writes_full VO0_6 VO0_6.junk _ _ [], pay93_at, View.readAt_full]
    rfl
end Body

end Cert.Proof.Sb
-- ==== Proof.SbHost.lean ====
/- The fifth operand of the kernel, the row totals computed before it is called, and what each of its five operand
   blocks holds. -/
module

public import proofs.«01_k».proof.Proof.Gen.KernelIdeal.Frame
public import proofs.«01_k».proof.Proof.SbBody
public import Idealize.ShloMosaic.Lib.Pipeline.ValueKit
public import Idealize.ShloMosaic.Lib.Pointwise

@[expose] public section

set_option maxRecDepth 16384

noncomputable section

namespace Cert.Proof.Sb
open Idealize.ShloMosaic Idealize.ShloMosaic.TcCoe Idealize.SL.Sem
open Cert.KernelIdeal Cert.KernelIdeal.Gen

/-- The scores of all heads. -/
def hostZ (z : FVec Ideal S2048x5120 .f32) : FVec Ideal S8x2048x2048 .f32 :=
  Host.dotGeneral dot_S2048x8x128_S2048x8x128_S8x2048x2048_2_2_0_0_1_1 none
    (mulf (shapeCast S2048x8x128 (extractStridedSlice S2048x1024 ![0, 0]
        (extractStridedSlice S2048x3072 ![0, 2048] z slices_S2048x5120_S2048x3072_0_2048) slices_S2048x3072_S2048x1024_0_0) shapeCasts_S2048x1024_S2048x8x128)
      (broadcastInDim S2048x8x128 ![] bcast_S_S2048x8x128 (constant (F := Ideal) S_ .f32 0x3DB504F3#32)))
    (shapeCast S2048x8x128 (extractStridedSlice S2048x1024 ![0, 1024]
        (extractStridedSlice S2048x3072 ![0, 2048] z slices_S2048x5120_S2048x3072_0_2048) slices_S2048x3072_S2048x1024_0_1024) shapeCasts_S2048x1024_S2048x8x128)

/-- The logistic's logarithm as the host computes it. -/
def hostLog (x : FVec Ideal S8x2048x2048 .f32) : FVec Ideal S8x2048x2048 .f32 :=
  let zero : FVec Ideal S8x2048x2048 .f32 := broadcastInDim S8x2048x2048 ![] bcast_S_S8x2048x2048 (constant (F := Ideal) S_ .f32 0x00000000#32)
  Host.negf (select (cmpf .une (subf (Host.negf x) zero) (subf (Host.negf x) zero)) (addf (Host.negf x) zero)
    (addf (maximumf (Host.negf x) zero) (Host.log1p (Host.exp (Host.negf (Host.absf (subf (Host.negf x) zero)))))))

/-- The row totals. -/
def hostTot (z : FVec Ideal S2048x5120 .f32) : FVec Ideal S8x2048x1 .f32 :=
  broadcastInDim S8x2048x1 ![0, 1] bcast_S8x2048_S8x2048x1_0_1
    (Host.reduceAdd
      (select (broadcastInDim S8x2048x2048 ![1, 2] bcast_S2048x2048_S8x2048x2048_1_2
          (cmpi .slt
            (broadcastInDim S2048x2048 ![0, 1] bcast_S1x2048_S2048x2048_0_1 (broadcastInDim S1x2048 ![1] bcast_S2048_S1x2048_1 (iotaInDim S2048 32 0)))
            (broadcastInDim S2048x2048 ![0, 1] bcast_S2048x1_S2048x2048_0_1 (broadcastInDim S2048x1 ![0] bcast_S2048_S2048x1_0 (iotaInDim S2048 32 0)))))
        (hostLog (Host.negf (hostZ z)))
        (broadcastInDim S8x2048x2048 ![] bcast_S_S8x2048x2048 (constant (F := Ideal) S_ .f32 0x00000000#32)))
      (constant (F := Ideal) S_ .f32 0x00000000#32) reducesTo_S8x2048x2048_S8x2048_d2 h_S_)

variable (m : (ℓ : Loc nD τ sig) → Buf (Elt Ideal) ℓ) (c : Dev nD)

set_option maxHeartbeats 4000000 in
theorem tot_read : V m c main_v19 = hostTot (m (c, Proc.tc.devRef main_arg0)) := by
  conv =>
    lhs
    simp only [V, List.flatten_cons, List.flatten_nil, List.append_nil, hostOps0, hostOps0_1, hostOps0_2, hostOps0_3, hostOps0_4, List.cons_append, List.nil_append, StableHlo.TRef.binary, StableHlo.TRef.nullary, StableHlo.TRef.unary, StableHlo.TRef.ternary, StableHlo.TRef.toBuf, StableHlo.TRef.ofBuf, cast_eq]
  after_results_simp
  rfl

theorem idxs : ∀ t : Fin cfg0.N, (win0_0.index t = ![t.val % 4, 16 + t.val / 4] ∧ win0_1.index t = ![0, 24 + t.val / 4] ∧ win0_2.index t = ![0, 32 + t.val / 4]) ∧ win0_3.index t = ![t.val % 4, t.val / 4] ∧ win0_4.index t = ![t.val / 4, t.val % 4, 0] := by decide +kernel

/-! ## Real readings of the arguments -/

/-- The value of `z` at a row and a column. -/
def zr (z : FVec Ideal S2048x5120 .f32) (r k : ℕ) : ℝ := if h : r < 2048 ∧ k < 5120 then (z (ix2 ⟨r, h.1⟩ ⟨k, h.2⟩)).toReal else 0
/-- The value of the output gradient at a row and a column. -/
def gr (g : FVec Ideal S2048x1024 .f32) (r k : ℕ) : ℝ := if h : r < 2048 ∧ k < 1024 then (g (ix2 ⟨r, h.1⟩ ⟨k, h.2⟩)).toReal else 0
/-- The scale of the queries. -/
def cst : ℝ := (Ideal.ofBits .f32 0x3DB504F3#32).toReal
theorem cst_coe : Ideal.ofBits .f32 0x3DB504F3#32 = (cst : EReal) := by
  refine (EReal.coe_toReal ?_ ?_).symm
  · dsimp only [Ideal.ofBits, Ideal.ieee]
    rw [if_neg (by decide), if_neg (by decide)]; exact EReal.coe_ne_top _
  · dsimp only [Ideal.ofBits, Ideal.ieee]
    rw [if_neg (by decide), if_neg (by decide)]; exact EReal.coe_ne_bot _

/-- Every entry the kernel reads is a real number. -/
structure Finite (z : FVec Ideal S2048x5120 .f32) (g : FVec Ideal S2048x1024 .f32) : Prop where
  z : ∀ (r : Fin 2048) (k : Fin 5120), 2048 ≤ k.val → z (ix2 r k) = (zr z r k : EReal)
  g : ∀ (r : Fin 2048) (k : Fin 1024), g (ix2 r k) = (gr g r k : EReal)

/-- Head `h`'s scaled queries, its keys, its values and its output gradient. -/
def hq (z : FVec Ideal S2048x5120 .f32) (h t d : ℕ) : ℝ := zr z t (2048 + 128 * h + d) * cst
def hk (z : FVec Ideal S2048x5120 .f32) (h t d : ℕ) : ℝ := zr z t (3072 + 128 * h + d)
def hv (z : FVec Ideal S2048x5120 .f32) (h t d : ℕ) : ℝ := zr z t (4096 + 128 * h + d)
def hd (g : FVec Ideal S2048x1024 .f32) (h t d : ℕ) : ℝ := gr g t (128 * h + d)

section Reads
variable {z : FVec Ideal S2048x5120 .f32} {g : FVec Ideal S2048x1024 .f32} (hf : Finite z g)
include hf
theorem read_q {h t d : ℕ} {r : Fin 2048} {k : Fin 5120} (hr : r.val = t) (hk : k.val = 2048 + 128 * h + d) :
    z (ix2 r k) * Ideal.ofBits .f32 0x3DB504F3#32 = (hq z h t d : EReal) := by
  rw [hf.z _ _ (by omega), cst_coe, ← EReal.coe_mul, hr, hk]; rfl
theorem read_k {h t d : ℕ} {r : Fin 2048} {k : Fin 5120} (hr : r.val = t) (hk' : k.val = 3072 + 128 * h + d) :
    z (ix2 r k) = (hk z h t d : EReal) := by rw [hf.z _ _ (by omega), hr, hk']; rfl
theorem read_v {h t d : ℕ} {r : Fin 2048} {k : Fin 5120} (hr : r.val = t) (hk' : k.val = 4096 + 128 * h + d) :
    z (ix2 r k) = (hv z h t d : EReal) := by rw [hf.z _ _ (by omega), hr, hk']; rfl
theorem read_d {h t d : ℕ} {r : Fin 2048} {k : Fin 1024} (hr : r.val = t) (hk' : k.val = 128 * h + d) :
    g (ix2 r k) = (hd g h t d : EReal) := by rw [hf.g, hr, hk']; rfl
end Reads

theorem logSig_neg (x : ℝ) : logSig (-x) = logSig x - x := by
  rw [logSig, logSig, abs_neg]
  have : min (-x) 0 = min x 0 - x := by rcases le_total x 0 with h | h <;> simp [h]
  rw [this]; ring

theorem slt_word {a b : ℕ} (ha : a < 2048) (hb : b < 2048) :
    IntOp.cmpi .slt (BitVec.ofNat 32 a) (BitVec.ofNat 32 b) = if a < b then 1#1 else 0#1 := by
  show BitVec.ofBool ((BitVec.ofNat 32 a).slt (BitVec.ofNat 32 b)) = _
  have e : ∀ n < 2048, (BitVec.ofNat 32 n).toInt = n := fun n hn => by
    rw [BitVec.toInt_ofNat']; simp only [Int.bmod]; omega
  rw [BitVec.slt_eq_decide, e a ha, e b hb]
  by_cases h : a < b
  · rw [if_pos h, decide_eq_true (by omega)]; rfl
  · rw [if_neg h, decide_eq_false (by omega)]; rfl

/-! ## The row totals -/

theorem softplus_coe (y : ℝ) :
    max (y : EReal) 0 + Ideal.log1p (Ideal.exp (-FloatOps.absf (F := Ideal) (φ := .f32) (y : EReal))) = ((-logSig (-y) : ℝ) : EReal) := by
  rw [show FloatOps.absf (F := Ideal) (φ := .f32) (y : EReal) = ((|y| : ℝ) : EReal) from by
    show max (y : EReal) (-(y : EReal)) = _; rw [← EReal.coe_neg, coe_max]; rfl]
  rw [← EReal.coe_neg, Ideal.exp_coe, Ideal.log1p, ← EReal.coe_one, ← EReal.coe_add, Ideal.log_coe,
    if_neg (by have := Real.exp_pos (-|y|); linarith), ← EReal.coe_zero, coe_max, ← EReal.coe_add, logSig, abs_neg]
  congr 1
  have : max y 0 = - min (-y) 0 := by rcases le_total y 0 with h | h <;> simp [h]
  rw [this]; ring

theorem hostLog_at (x : FVec Ideal S8x2048x2048 .f32) (h : Fin 8) (t j : Fin 2048) {s : ℝ} (hx : x (ix3 h t j) = (s : EReal)) :
    hostLog x (ix3 h t j) = (logSig s : EReal) := by
  pointwise [hostLog]
  rw [hx, if_neg (by simp), ← EReal.coe_neg, softplus_coe, ← EReal.coe_neg, neg_neg, neg_neg]

variable {z : FVec Ideal S2048x5120 .f32} {g : FVec Ideal S2048x1024 .f32} (hf : Finite z g)
include hf
theorem hostZ_at (h : Fin 8) (t j : Fin 2048) : hostZ z (ix3 h t j) = (score (hq z h) (hk z h) t j : EReal) := by
  pointwise [hostZ]
  rw [score, ← coe_dot_fin]
  exact Finset.sum_congr rfl fun d _ => by
    rw [read_q hf (h := h) (t := t) (d := d) rfl (by show 2048 + (h.val * 128 + d.val) = _; ring),
      read_k hf (h := h) (t := j) (d := d) rfl (by show 2048 + (1024 + (h.val * 128 + d.val)) = _; ring)]

theorem hostTot_at (h : Fin 8) (t : Fin 2048) (a : Fin 1) : hostTot z (ix3 h t a) = (total (hq z h) (hk z h) t : EReal) := by
  pointwise [hostTot]
  rw [total, ← coe_sum_fin]
  refine Finset.sum_congr rfl fun j _ => ?_
  rw [hostLog_at (s := -score (hq z h) (hk z h) t j) _ h t j (by pointwise; rw [hostZ_at hf, EReal.coe_neg]),
    slt_word j.isLt t.isLt, select_mask, logSig_neg, lkeep]
  by_cases hj : j.val < t.val
  · rw [if_pos hj, if_pos hj]; rfl
  · rw [if_neg hj, if_neg hj, EReal.coe_zero]
omit hf

/-! ## The operand blocks -/

variable (t : Fin cfg0.N)
theorem t_lt : t.val < 32 := t.isLt
theorem blk0 (r : Fin 512) (d : Fin 128) : (iblk m c 0 t : S512x128.Idx → EReal) (ix2 r d)
    = m (c, Proc.tc.devRef main_arg0) (ix2 ⟨512 * (t.val % 4) + r, by omega⟩ ⟨2048 + 128 * (t.val / 4) + d, by have := t_lt t; omega⟩) := by
  have hi := (idxs t).1.1
  blk_point [iblk, V, hi]
theorem blk1 (r : Fin 2048) (d : Fin 128) : (iblk m c 1 t : S2048x128.Idx → EReal) (ix2 r d)
    = m (c, Proc.tc.devRef main_arg0) (ix2 r ⟨3072 + 128 * (t.val / 4) + d, by have := t_lt t; omega⟩) := by
  have hi := (idxs t).1.2.1
  blk_point [iblk, V, hi]
theorem blk2 (r : Fin 2048) (d : Fin 128) : (iblk m c 2 t : S2048x128.Idx → EReal) (ix2 r d)
    = m (c, Proc.tc.devRef main_arg0) (ix2 r ⟨4096 + 128 * (t.val / 4) + d, by have := t_lt t; omega⟩) := by
  have hi := (idxs t).1.2.2
  blk_point [iblk, V, hi]
theorem blk3 (r : Fin 512) (d : Fin 128) : (iblk m c 3 t : S512x128.Idx → EReal) (ix2 r d)
    = m (c, Proc.tc.devRef main_arg1) (ix2 ⟨512 * (t.val % 4) + r, by omega⟩ ⟨128 * (t.val / 4) + d, by have := t_lt t; omega⟩) := by
  have hi := (idxs t).2.1
  blk_point [iblk, V, hi]
theorem blk4 (r : Fin 512) (a b : Fin 1) : (iblk m c 4 t : S1x512x1.Idx → EReal) (ix3 a r b)
    = V m c main_v19 (ix3 ⟨t.val / 4, by have := t_lt t; omega⟩ ⟨512 * (t.val % 4) + r, by omega⟩ b) := by
  have hi := (idxs t).2.2
  blk_simp [iblk]
  blk_ext [hi]

/-- What the five operand blocks of a point hold. -/
theorem operands (hf : Finite (m (c, Proc.tc.devRef main_arg0)) (m (c, Proc.tc.devRef main_arg1))) :
    Operands (hq (m (c, Proc.tc.devRef main_arg0)) (t.val / 4)) (hk (m (c, Proc.tc.devRef main_arg0)) (t.val / 4))
      (hv (m (c, Proc.tc.devRef main_arg0)) (t.val / 4)) (hd (m (c, Proc.tc.devRef main_arg1)) (t.val / 4)) (512 * (t.val % 4))
      (iblk m c 0 t) (iblk m c 1 t) (iblk m c 2 t) (iblk m c 3 t) (iblk m c 4 t) where
  q r d := (congrArg (· * Ideal.ofBits .f32 0x3DB504F3#32) (blk0 m c t r d)).trans (read_q hf rfl rfl)
  k r d := (blk1 m c t r d).trans (read_k hf rfl rfl)
  v r d := (blk2 m c t r d).trans (read_v hf rfl rfl)
  d r d := (blk3 m c t r d).trans (read_d hf rfl rfl)
  tot r := (blk4 m c t r 0 0).trans ((congrFun (tot_read m c) _).trans (hostTot_at hf _ _ _))
end Cert.Proof.Sb
-- ==== Proof.SbKernel.lean ====
/- What the kernel's two result arrays hold: the mathematics of `SbMath` at every entry. -/
module

public import proofs.«01_k».proof.Proof.Gen.KernelIdeal.Value
public import proofs.«01_k».proof.Proof.SbHost

@[expose] public section

set_option maxRecDepth 16384

noncomputable section

namespace Cert.Proof.Sb
open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

theorem coord1 : ∀ t : Fin cfg0.N, (grid0.coords t 1).val = t.val % 4 := by decide +kernel

/-- The state after point `n`: the query block's gradient, and the sums over the rows so far in both planes. -/
structure After (n : ℕ) (st : Vec Ideal S512x128 .bf16 × Vec Ideal S2x2048x128 .bf16 × Vec Ideal S2x2048x128 .f32) : Prop where
  dq : ∀ (r : Fin 512) (d : Fin 128), st.1 (ix2 r d) = (dqs (hq (m (c, Proc.tc.devRef main_arg0)) (n / 4)) (hk (m (c, Proc.tc.devRef main_arg0)) (n / 4))
    (hv (m (c, Proc.tc.devRef main_arg0)) (n / 4)) (hd (m (c, Proc.tc.devRef main_arg1)) (n / 4)) 2048 (512 * (n % 4) + r) d : EReal) * Ideal.ofBits .f32 0x3DB504F3#32
  dk : Plane st.2.2 0 (dks (hq (m (c, Proc.tc.devRef main_arg0)) (n / 4)) (hk (m (c, Proc.tc.devRef main_arg0)) (n / 4))
    (hv (m (c, Proc.tc.devRef main_arg0)) (n / 4)) (hd (m (c, Proc.tc.devRef main_arg1)) (n / 4))) (fun _ => 512 * (n % 4) + 512)
  dv : Plane st.2.2 1 (dvs (hq (m (c, Proc.tc.devRef main_arg0)) (n / 4)) (hk (m (c, Proc.tc.devRef main_arg0)) (n / 4))
    (hd (m (c, Proc.tc.devRef main_arg1)) (n / 4))) (fun _ => 512 * (n % 4) + 512)
  out : n % 4 = 3 → ∀ (a : Fin 2) (j : Fin 2048) (d : Fin 128), st.2.1 (ix3 a j d) = st.2.2 (ix3 a j d)

theorem after_of {n : ℕ} {x : Vec Ideal S512x128 .bf16} {y : Vec Ideal S2x2048x128 .bf16} {s : Vec Ideal S2x2048x128 .f32}
    (h1 : ∀ (r : Fin 512) (d : Fin 128), x (ix2 r d) = (dqs (hq (m (c, Proc.tc.devRef main_arg0)) (n / 4)) (hk (m (c, Proc.tc.devRef main_arg0)) (n / 4))
      (hv (m (c, Proc.tc.devRef main_arg0)) (n / 4)) (hd (m (c, Proc.tc.devRef main_arg1)) (n / 4)) 2048 (512 * (n % 4) + r) d : EReal) * Ideal.ofBits .f32 0x3DB504F3#32)
    (h2 : Plane s 0 (dks (hq (m (c, Proc.tc.devRef main_arg0)) (n / 4)) (hk (m (c, Proc.tc.devRef main_arg0)) (n / 4))
      (hv (m (c, Proc.tc.devRef main_arg0)) (n / 4)) (hd (m (c, Proc.tc.devRef main_arg1)) (n / 4))) (fun _ => 512 * (n % 4) + 512))
    (h3 : Plane s 1 (dvs (hq (m (c, Proc.tc.devRef main_arg0)) (n / 4)) (hk (m (c, Proc.tc.devRef main_arg0)) (n / 4)) (hd (m (c, Proc.tc.devRef main_arg1)) (n / 4))) (fun _ => 512 * (n % 4) + 512))
    (h4 : n % 4 = 3 → ∀ (a : Fin 2) (j : Fin 2048) (d : Fin 128), y (ix3 a j d) = s (ix3 a j d)) :
    After m c n (x, y, s) := ⟨h1, h2, h3, h4⟩

variable (hf : Finite (m (c, Proc.tc.devRef main_arg0)) (m (c, Proc.tc.devRef main_arg1)))
include hf

theorem after_step (t : Fin cfg0.N) (acc : Vec Ideal S512x128 .bf16 × Vec Ideal S2x2048x128 .bf16 × Vec Ideal S2x2048x128 .f32)
    (ha : t.val % 4 ≠ 0 → After m c (t.val - 1) acc) : After m c t.val (stAt0 m c t.val t.isLt acc) := by
  have ho := operands m c t hf
  have hc := coord1 t
  by_cases h0 : t.val % 4 = 0
  · have h1 : ¬t.val % 4 = 3 := by omega
    rw [stAt0_A m c t acc h0 h1]
    have hb := bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t)
      (512 * (t.val % 4)) ((hcond0_0 t).mpr h0) (fun h => h1 ((hcond0_1 t).mp h)) (by rw [hc]) ho (by rw [hc, h0])
    exact after_of m c hb.1 hb.2.1 hb.2.2 (fun h => absurd h h1)
  · have hp := ha h0
    have e1 : (t.val - 1) / 4 = t.val / 4 := by omega
    have e2 : 512 * ((t.val - 1) % 4) + 512 = 512 * (t.val % 4) := by omega
    have hk0 := hp.dk
    have hv0 := hp.dv
    rw [e1] at hk0 hv0
    rw [e2] at hk0 hv0
    by_cases h1 : t.val % 4 = 3
    · rw [stAt0_C m c t acc h0 h1]
      have hb := bodyC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) acc.2.2
        (512 * (t.val % 4)) (fun h => h0 ((hcond0_0 t).mp h)) ((hcond0_1 t).mpr h1) (by rw [hc]) ho hk0 hv0
      exact after_of m c hb.1 hb.2.1 hb.2.2.1 (fun _ => hb.2.2.2)
    · rw [stAt0_B m c t acc h0 h1]
      have hb := bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) acc.2.2
        (512 * (t.val % 4)) (fun h => h0 ((hcond0_0 t).mp h)) (fun h => h1 ((hcond0_1 t).mp h)) (by rw [hc]) ho hk0 hv0
      exact after_of m c hb.1 hb.2.1 hb.2.2 (fun h => absurd h h1)

theorem after_all : ∀ (n : ℕ) (h : 0 + n < cfg0.N),
    After m c n (Pipeline.accAt (fun n h => stAt0 m c n h junk0) (stAt0 m c) 0 n h)
  | 0, h => after_step m c hf ⟨0, h⟩ junk0 fun hn => absurd rfl hn
  | n + 1, h => by
    have ih := after_all n (Nat.lt_of_succ_lt h)
    have hn : n + 1 < cfg0.N := by omega
    have key : ∀ (k : ℕ) (hk : k < cfg0.N) (e : k = n + 1) (acc) (ha : After m c n acc), After m c (n + 1) (stAt0 m c k hk acc) := by
      intro k hk e acc ha; subst e; exact after_step m c hf ⟨n + 1, hk⟩ acc fun _ => ha
    exact key (0 + (n + 1)) h (Nat.zero_add _) _ ih

/-- The query gradient's array. -/
theorem G5_at (t : Fin 2048) (k : Fin 1024) : (G5 m c : S2048x1024.Idx → EReal) (ix2 t k)
    = (dqs (hq (m (c, Proc.tc.devRef main_arg0)) (k / 128)) (hk (m (c, Proc.tc.devRef main_arg0)) (k / 128))
    (hv (m (c, Proc.tc.devRef main_arg0)) (k / 128)) (hd (m (c, Proc.tc.devRef main_arg1)) (k / 128)) 2048 t (k % 128) : EReal) * Ideal.ofBits .f32 0x3DB504F3#32 := by
  have hN : cfg0.N = 32 := N_0
  have hp : pt5Of (ix2 t k) = t.val / 512 + 4 * (k.val / 128) := by
    show 1 * (t.val / 512 - 0) + 4 * (k.val / 128 - 0) = _; omega
  have hl : pt5Of (ix2 t k) < cfg0.N := by rw [hp, hN]; omega
  refine (dif_pos hl).trans ?_
  have ha := (after_all m c hf (pt5Of (ix2 t k)) (by omega)).dq ⟨t.val % 512, by omega⟩ ⟨k.val % 128, by omega⟩
  have e1 : pt5Of (ix2 t k) / 4 = k.val / 128 := by rw [hp]; omega
  have e2 : 512 * (pt5Of (ix2 t k) % 4) + t.val % 512 = t.val := by rw [hp]; omega
  rw [e1] at ha
  dsimp only at ha
  rw [e2] at ha
  refine Eq.trans ?_ ha
  refine congrArg _ ?_
  funext a; match a with
  | ⟨0, _⟩ => rfl
  | ⟨1, _⟩ => rfl

/-- The key and value gradients' array. -/
theorem G6_at (a : Fin 2) (j : Fin 2048) (k : Fin 1024) : (G6 m c : S2x2048x1024.Idx → EReal) (ix3 a j k)
    = if a = 0 then (dks (hq (m (c, Proc.tc.devRef main_arg0)) (k / 128)) (hk (m (c, Proc.tc.devRef main_arg0)) (k / 128))
      (hv (m (c, Proc.tc.devRef main_arg0)) (k / 128)) (hd (m (c, Proc.tc.devRef main_arg1)) (k / 128)) 2048 j (k % 128) : EReal)
    else (dvs (hq (m (c, Proc.tc.devRef main_arg0)) (k / 128)) (hk (m (c, Proc.tc.devRef main_arg0)) (k / 128))
      (hd (m (c, Proc.tc.devRef main_arg1)) (k / 128)) 2048 j (k % 128) : EReal) := by
  have hN : cfg0.N = 32 := N_0
  have hp : pt6Of (ix3 a j k) = 4 * (k.val / 128) + 3 := by
    show 4 * (8 * (a.val / 2 - 0) + 8 * (j.val / 2048 - 0) + 1 * (k.val / 128 - 0)) + 3 = _; omega
  have hl : pt6Of (ix3 a j k) < cfg0.N := by rw [hp, hN]; omega
  refine (dif_pos hl).trans ?_
  have ha := after_all m c hf (pt6Of (ix3 a j k)) (by omega)
  have e1 : pt6Of (ix3 a j k) / 4 = k.val / 128 := by rw [hp]; omega
  have e2 : 512 * (pt6Of (ix3 a j k) % 4) + 512 = 2048 := by rw [hp]; omega
  have ho := ha.out (by rw [hp]; omega) a j ⟨k.val % 128, by omega⟩
  have hkk := ha.dk
  have hvv := ha.dv
  rw [e1] at hkk hvv
  rw [e2] at hkk hvv
  have hi : loc6Of (ix3 a j k) = ix3 a j ⟨k.val % 128, by omega⟩ := by
    funext b; match b with
    | ⟨0, _⟩ => exact Fin.ext (Nat.mod_eq_of_lt a.isLt)
    | ⟨1, _⟩ => exact Fin.ext (Nat.mod_eq_of_lt j.isLt)
    | ⟨2, _⟩ => rfl
  refine (congrArg _ hi).trans (ho.trans ?_)
  by_cases h0 : a = 0
  · subst h0; rw [if_pos rfl]; exact hkk j ⟨k.val % 128, by omega⟩
  · rw [if_neg h0]
    have h1 : a = 1 := by omega
    subst h1; exact hvv j ⟨k.val % 128, by omega⟩

end Cert.Proof.Sb
-- ==== Proof.SbWin.lean ====
/- Running sums along the last of three axes, written as sums over a padded window, at real entries. -/
module

public import proofs.«01_k».proof.Proof.SbMath
public import Idealize.ShloMosaic.PureOps.Ideal
public import Idealize.ShloMosaic.Lib.Pipeline.ValueKit
public import Idealize.ShloMosaic.Lib.Pointwise

@[expose] public section

set_option maxRecDepth 16384

noncomputable section

namespace Cert.Proof.Sb
open Idealize.ShloMosaic Finset

abbrev Sq : Shape := ⟨3, ![8, 2048, 2048]⟩
abbrev Wd : Shape := ⟨3, ![1, 1, 2048]⟩

theorem suffix_arith (f : ℕ → ℝ) {j n : ℕ} (h : j < n) :
    ∑ k ∈ range n, (if j + k < n then f (j + k) else 0) = ∑ k ∈ range n, f k - ∑ k ∈ range j, f k := by
  obtain ⟨b, rfl⟩ := Nat.exists_eq_add_of_lt h
  have e : ∑ k ∈ range (j + b + 1), (if j + k < j + b + 1 then f (j + k) else 0) = ∑ k ∈ range (b + 1), f (j + k) := by
    rw [show j + b + 1 = (b + 1) + j by omega, sum_range_add, sum_congr rfl fun k hk => if_pos (by rw [mem_range] at hk; omega),
      sum_eq_zero fun k hk => if_neg (by omega), add_zero]
  rw [e, show j + b + 1 = j + (b + 1) by omega, sum_range_add f j (b + 1)]
  ring

theorem prefix_arith (f : ℕ → ℝ) {j n : ℕ} (h : j < n + 1) :
    ∑ k ∈ range (n + 1), (if n ≤ j + k then f (j + k - n) else 0) = ∑ k ∈ range (j + 1), f k := by
  obtain ⟨b, rfl⟩ := Nat.exists_eq_add_of_le (Nat.lt_succ_iff.mp h)
  rw [show j + b + 1 = b + (j + 1) by omega, sum_range_add, sum_eq_zero fun k hk => if_neg (by rw [mem_range] at hk; omega), zero_add]
  exact sum_congr rfl fun k hk => by rw [if_pos (by omega)]; congr 1; omega

theorem foldl_sum {n : ℕ} (f : Fin n → EReal) : (List.finRange n).foldl (fun r i => r + f i) 0 = ∑ i, f i := by
  rw [Fin.sum_univ_def, List.sum_eq_foldl, List.foldl_map]

theorem window_bij : Function.Bijective (fun k : Fin 2048 => (ix3 0 0 k : Wd.Idx)) := by
  refine ⟨fun a b h => congrFun h 2, fun p => ⟨p 2, ?_⟩⟩
  funext a; match a with
  | ⟨0, _⟩ => exact Subsingleton.elim (α := Fin 1) _ _
  | ⟨1, _⟩ => exact Subsingleton.elim (α := Fin 1) _ _
  | ⟨2, _⟩ => rfl

/-- A window sum as a sum over the window's places. -/
theorem window_sum (lo hi : Fin Sq.rank → ℕ) (x : FVec Ideal Sq .f32) {u : Shape} (init : u.Idx → EReal) (hr : Sq.ReduceWindows ![1, 1, 2048] ![1, 1, 1] lo hi Sq)
    (hu : 0 < u.numel) (h0 : ∀ i, init i = 0) (i : Sq.Idx) :
    Host.reduceWindowAdd (F := Ideal) (φ := .f32) ![1, 1, 2048] ![1, 1, 1] lo hi x init hr hu i
      = ∑ k : Fin 2048, if h : ∀ a : Fin 3, lo a ≤ (i a).val + ((ix3 0 0 k : Wd.Idx) a).val ∧ (i a).val + ((ix3 0 0 k : Wd.Idx) a).val - lo a < Sq.size a
          then x (fun a => ⟨(i a).val + ((ix3 0 0 k : Wd.Idx) a).val - lo a, (h a).2⟩) else 0 := by
  have one : ∀ a : Fin 3, (![1, 1, 1] : Fin 3 → ℕ) a = 1 := by decide
  unfold Host.reduceWindowAdd
  rw [Ideal.hostReduceWindowAdd_def]
  unfold Ideal.hostReduceWindowAdd Host.reduceWindow
  dsimp only
  rw [h0]
  refine (foldl_sum _).trans ?_
  rw [← Equiv.sum_comp (Shape.rowMajor Wd), ← window_bij.sum_comp]
  refine sum_congr rfl fun k _ => ?_
  simp only [Equiv.symm_apply_apply, one, Nat.mul_one]
  rfl

variable {x : FVec Ideal Sq .f32} {u : Shape} {init : u.Idx → EReal} {f : ℕ → ℝ} {h : Fin 8} {t : Fin 2048}
  (hx : ∀ j, x (ix3 h t j) = (f j : EReal)) (h0 : ∀ i, init i = 0)
include hx h0

/-- The sum from a place on. -/
theorem suffix_sum (hr : Sq.ReduceWindows ![1, 1, 2048] ![1, 1, 1] ![0, 0, 0] ![0, 0, 2047] Sq) (hu : 0 < u.numel) (j : Fin 2048) :
    Host.reduceWindowAdd (F := Ideal) (φ := .f32) ![1, 1, 2048] ![1, 1, 1] ![0, 0, 0] ![0, 0, 2047] x init hr hu (ix3 h t j)
      = ((∑ k ∈ range 2048, f k - ∑ k ∈ range j, f k : ℝ) : EReal) := by
  rw [window_sum _ _ _ _ _ _ h0]
  have hk : ∀ k : Fin 2048, (if h' : ∀ a : Fin 3, (![0, 0, 0] : Fin 3 → ℕ) a ≤ ((ix3 h t j : Sq.Idx) a).val + ((ix3 0 0 k : Wd.Idx) a).val ∧ ((ix3 h t j : Sq.Idx) a).val + ((ix3 0 0 k : Wd.Idx) a).val - (![0, 0, 0] : Fin 3 → ℕ) a < Sq.size a
          then x (fun a => ⟨((ix3 h t j : Sq.Idx) a).val + ((ix3 0 0 k : Wd.Idx) a).val - (![0, 0, 0] : Fin 3 → ℕ) a, (h' a).2⟩) else 0) = (((if j.val + k.val < 2048 then f (j.val + k.val) else 0 : ℝ)) : EReal) := by
    intro k
    by_cases hc : j.val + k.val < 2048
    · rw [if_pos hc, ← hx ⟨j.val + k.val, hc⟩, dif_pos]
      · refine congrArg x (funext fun a => ?_)
        match a with
        | ⟨0, _⟩ => exact Fin.ext rfl
        | ⟨1, _⟩ => exact Fin.ext rfl
        | ⟨2, _⟩ => exact Fin.ext rfl
      · intro a
        match a with
        | ⟨0, _⟩ => exact ⟨Nat.zero_le _, h.isLt⟩
        | ⟨1, _⟩ => exact ⟨Nat.zero_le _, t.isLt⟩
        | ⟨2, _⟩ => exact ⟨Nat.zero_le _, hc⟩
    · rw [if_neg hc, dif_neg, EReal.coe_zero]
      exact fun hh => hc (hh 2).2
  rw [sum_congr rfl fun k _ => hk k, coe_sum_fin fun k => if j.val + k < 2048 then f (j.val + k) else 0]
  rw [suffix_arith f j.isLt]

/-- The sum up to and including a place. -/
theorem prefix_sum (hr : Sq.ReduceWindows ![1, 1, 2048] ![1, 1, 1] ![0, 0, 2047] ![0, 0, 0] Sq) (hu : 0 < u.numel) (j : Fin 2048) :
    Host.reduceWindowAdd (F := Ideal) (φ := .f32) ![1, 1, 2048] ![1, 1, 1] ![0, 0, 2047] ![0, 0, 0] x init hr hu (ix3 h t j)
      = ((∑ k ∈ range (j + 1), f k : ℝ) : EReal) := by
  rw [window_sum _ _ _ _ _ _ h0]
  have hk : ∀ k : Fin 2048, (if h' : ∀ a : Fin 3, (![0, 0, 2047] : Fin 3 → ℕ) a ≤ ((ix3 h t j : Sq.Idx) a).val + ((ix3 0 0 k : Wd.Idx) a).val ∧ ((ix3 h t j : Sq.Idx) a).val + ((ix3 0 0 k : Wd.Idx) a).val - (![0, 0, 2047] : Fin 3 → ℕ) a < Sq.size a
          then x (fun a => ⟨((ix3 h t j : Sq.Idx) a).val + ((ix3 0 0 k : Wd.Idx) a).val - (![0, 0, 2047] : Fin 3 → ℕ) a, (h' a).2⟩) else 0) = (((if 2047 ≤ j.val + k.val then f (j.val + k.val - 2047) else 0 : ℝ)) : EReal) := by
    intro k
    have hj := j.isLt; have hk := k.isLt
    by_cases hc : 2047 ≤ j.val + k.val
    · rw [if_pos hc, ← hx ⟨j.val + k.val - 2047, by omega⟩, dif_pos]
      · refine congrArg x (funext fun a => ?_)
        match a with
        | ⟨0, _⟩ => exact Fin.ext rfl
        | ⟨1, _⟩ => exact Fin.ext rfl
        | ⟨2, _⟩ => exact Fin.ext rfl
      · intro a
        match a with
        | ⟨0, _⟩ => exact ⟨Nat.zero_le _, h.isLt⟩
        | ⟨1, _⟩ => exact ⟨Nat.zero_le _, t.isLt⟩
        | ⟨2, _⟩ => exact ⟨hc, show j.val + k.val - 2047 < 2048 by omega⟩
    · rw [if_neg hc, dif_neg, EReal.coe_zero]
      exact fun hh => hc (hh 2).1
  rw [sum_congr rfl fun k _ => hk k, coe_sum_fin fun k => if 2047 ≤ j.val + k then f (j.val + k - 2047) else 0]
  rw [prefix_arith f j.isLt]

end Cert.Proof.Sb
-- ==== Proof.SbRef.lean ====
/- What the reference's two results hold: the mathematics of `SbMath` at every entry. -/
module

public import proofs.«01_k».proof.Proof.Gen.ReferenceIdeal.Run
public import proofs.«01_k».proof.Proof.SbHost
public import proofs.«01_k».proof.Proof.SbWin

@[expose] public section

set_option maxRecDepth 16384

noncomputable section

namespace Cert.Proof.Sb

theorem logSig_eq (x : ℝ) : logSig x = -Real.log (1 + Real.exp (-x)) := by
  rw [logSig]
  rcases le_total 0 x with h | h
  · rw [min_eq_right h, abs_of_nonneg h, zero_sub]
  · rw [min_eq_left h, abs_of_nonpos h, neg_neg]
    have e : 1 + Real.exp (-x) = Real.exp (-x) * (1 + Real.exp x) := by
      rw [mul_add, mul_one, ← Real.exp_add, neg_add_cancel, Real.exp_zero, add_comm]
    rw [e, Real.log_mul (Real.exp_ne_zero _) (by positivity), Real.log_exp]
    ring
/-- One minus the logistic. -/
theorem exp_keep (x : ℝ) : Real.exp (logSig x - x) = 1 - Real.exp (logSig x) := by
  have hp : 0 < 1 + Real.exp (-x) := by positivity
  rw [sub_eq_add_neg, Real.exp_add, logSig_eq, Real.exp_neg, Real.exp_log hp]
  field_simp
  ring

open Idealize.ShloMosaic Idealize.ShloMosaic.TcCoe Idealize.SL.Sem
open Cert.ReferenceIdeal Cert.ReferenceIdeal.Gen Cert.ReferenceIdeal.Value

theorem zero_const : id (constant (F := Ideal) S_ FTy.f32 0#32) ix0 = 0 := by
  show constant (F := Ideal) S_ FTy.f32 0#32 ix0 = 0
  pointwise
theorem inf_const : Ideal.ofBits FTy.f32 0x7F800000#32 = ⊤ := by
  dsimp only [Ideal.ofBits, Ideal.ieee]
  rw [if_pos (by decide), if_pos (by decide), if_neg (by decide)]

variable (V0 : Valuation τ sig (Elt Ideal))
abbrev az : FVec Ideal S2048x5120 .f32 := V0 (Proc.devRef .tc main_arg0)
abbrev ag : FVec Ideal S2048x1024 .f32 := V0 (Proc.devRef .tc main_arg1)
variable (hf : Finite (az V0) (ag V0)) (h : Fin 8) (t j : Fin 2048) (d : Fin 128)

include hf
theorem v8_at : (res_main_v8 V0 : S2048x8x128.Idx → EReal) (ix3 t h d) = (hq (az V0) h t d : EReal) := by
  pointwise [res_main_v8, res_main_v0]
  exact read_q hf rfl (by show 2048 + (h.val * 128 + d.val) = _; ring)
theorem v5_at : (res_main_v5 V0 : S2048x8x128.Idx → EReal) (ix3 t h d) = (hk (az V0) h t d : EReal) := by
  pointwise [res_main_v5, res_main_v0]
  exact read_k hf rfl (by show 2048 + (1024 + (h.val * 128 + d.val)) = _; ring)
theorem v6_at : (res_main_v6 V0 : S2048x8x128.Idx → EReal) (ix3 t h d) = (hv (az V0) h t d : EReal) := by
  pointwise [res_main_v6, res_main_v0]
  exact read_v hf rfl (by show 2048 + (2048 + (h.val * 128 + d.val)) = _; ring)
theorem v29_at : (res_main_v29 V0 : S8x128x2048.Idx → EReal) (ix3 h d t) = (hd (ag V0) h t d : EReal) := by
  pointwise [res_main_v29]
  exact read_d hf rfl (by show h.val * 128 + d.val = _; ring)
theorem v9_at : (res_main_v9 V0 : S8x2048x2048.Idx → EReal) (ix3 h t j) = (score (hq (az V0) h) (hk (az V0) h) t j : EReal) := by
  pointwise [res_main_v9]
  simp only [v8_at V0 hf, v5_at V0 hf]
  exact score_core _ _ _ _
omit hf in
theorem v19_1_at : (res_main_v19_1 V0 : S8x2048x2048.Idx → BitVec 1) (ix3 h t j) = if j.val < t.val then 1#1 else 0#1 := by
  pointwise [res_main_v19_1, res_main_v15, res_main_v10]
  exact slt_word j.isLt t.isLt
omit hf in
theorem v24_1_at : (res_main_v24_1 V0 : S8x2048x2048.Idx → BitVec 1) (ix3 h t j) = if j.val < t.val then 1#1 else 0#1 := v19_1_at V0 h t j
theorem c0_at : (res_main_call0_v0 V0 : S8x2048x2048.Idx → EReal) (ix3 h t j) = ((-score (hq (az V0) h) (hk (az V0) h) t j : ℝ) : EReal) := by
  pointwise [res_main_call0_v0]
  rw [v9_at V0 hf, EReal.coe_neg]
theorem c1_at : (res_main_call1_v0 V0 : S8x2048x2048.Idx → EReal) (ix3 h t j) = ((score (hq (az V0) h) (hk (az V0) h) t j : ℝ) : EReal) := by
  pointwise [res_main_call1_v0]
  rw [v9_at V0 hf, neg_neg]
theorem s0_at : (res_main_call0_v1_0 V0 : S8x2048x2048.Idx → EReal) (ix3 h t j) = ((-lbeta (hq (az V0) h) (hk (az V0) h) t j : ℝ) : EReal) := by
  pointwise [res_main_call0_v1_0, res_main_call0_call0_v3, res_main_call0_call0_cst]
  rw [c0_at V0 hf, if_neg (by simp), softplus_coe, neg_neg]; rfl
theorem s1_at : (res_main_call1_v1_0 V0 : S8x2048x2048.Idx → EReal) (ix3 h t j)
    = ((-(lbeta (hq (az V0) h) (hk (az V0) h) t j - score (hq (az V0) h) (hk (az V0) h) t j) : ℝ) : EReal) := by
  pointwise [res_main_call1_v1_0, res_main_call1_call0_v3, res_main_call1_call0_cst]
  rw [c1_at V0 hf, if_neg (by simp), softplus_coe, logSig_neg]; rfl
theorem v19_0_at : (res_main_v19_0 V0 : S8x2048x2048.Idx → EReal) (ix3 h t j) = (lkeep (hq (az V0) h) (hk (az V0) h) t j : EReal) := by
  pointwise [res_main_v19_0]
  rw [v19_1_at, s1_at V0 hf, select_mask, ← EReal.coe_neg, neg_neg, lkeep]
  by_cases hj : j.val < t.val
  · rw [if_pos hj, if_pos hj]
  · rw [if_neg hj, if_neg hj, EReal.coe_zero]; exact zero_const
theorem v23_at : (res_main_v23 V0 : S8x2048x2048.Idx → EReal) (ix3 h t j)
    = (Real.exp (lbeta (hq (az V0) h) (hk (az V0) h) t j + left (hq (az V0) h) (hk (az V0) h) (j + 1) t) : EReal) := by
  pointwise [res_main_v23]
  rw [suffix_sum (x := res_main_v19_0 V0) (fun j => v19_0_at V0 hf h t j) (fun _ => by pointwise), v19_0_at V0 hf, s0_at V0 hf, ← EReal.coe_neg, ← EReal.coe_sub, ← EReal.coe_add,
    Ideal.exp_coe, left, total, Finset.sum_range_succ _ j.val, neg_neg, sub_sub]
theorem v24_0_at : (res_main_v24_0 V0 : S8x2048x2048.Idx → EReal) (ix3 h t j) = (wt (hq (az V0) h) (hk (az V0) h) t j : EReal) := by
  pointwise [res_main_v24_0]
  rw [v24_1_at, v23_at V0 hf, select_mask, wt]
  by_cases hj : j.val < t.val
  · rw [if_pos hj, if_pos hj]
  · rw [if_neg hj, if_neg hj, EReal.coe_zero]; exact zero_const
theorem v34_at : (res_main_v34 V0 : S8x2048x2048.Idx → EReal) (ix3 h t j) = (ew (hq (az V0) h) (hk (az V0) h) (hv (az V0) h) (hd (ag V0) h) t j : EReal) := by
  pointwise [res_main_v34]
  simp only [v29_at V0 hf, v6_at V0 hf, v23_at V0 hf, v24_1_at]
  rw [select_mask, ew, wt, dwt, coe_dot_fin]
  by_cases hj : j.val < t.val
  · rw [if_pos hj, if_pos hj, ← EReal.coe_mul, mul_comm]
  · rw [if_neg hj, if_neg hj, zero_mul, EReal.coe_zero]
theorem v42_at : (res_main_v42 V0 : S8x2048x2048.Idx → EReal) (ix3 h t j) = (dz (hq (az V0) h) (hk (az V0) h) (hv (az V0) h) (hd (ag V0) h) t j : EReal) := by
  pointwise [res_main_v42]
  rw [prefix_sum (x := res_main_v34 V0) (fun j => v34_at V0 hf h t j) (fun _ => by pointwise), c1_at V0 hf, s1_at V0 hf, c0_at V0 hf, s0_at V0 hf,
    inf_const, if_neg (EReal.coe_ne_top _), if_neg (EReal.coe_ne_top _), if_neg (EReal.coe_ne_top _), if_neg (EReal.coe_ne_top _),
    v34_at V0 hf, v19_1_at, select_mask, ← EReal.coe_sub, ← EReal.coe_sub, Ideal.exp_coe, Ideal.exp_coe, ← EReal.coe_neg, ← EReal.coe_add,
    ← EReal.coe_mul, ← EReal.coe_neg, Finset.sum_range_succ, dz]
  set s := score (hq (az V0) h) (hk (az V0) h) t j with hs
  set l := lbeta (hq (az V0) h) (hk (az V0) h) t j with hl
  have e1 : s - -(l - s) = l := by ring
  have e2 : Real.exp (-s - -l) = 1 - Real.exp l := by
    rw [show -s - -l = l - s by ring, hl, lbeta, ← hs, exp_keep]
  rw [e1, e2]
  by_cases hj : j.val < t.val
  · rw [if_pos hj, if_pos hj, ← EReal.coe_neg, ← EReal.coe_mul, ← EReal.coe_neg, ← EReal.coe_neg, ← EReal.coe_add, seen]
    congr 1; ring
  · rw [if_neg hj, if_neg hj, ew_zero _ _ _ _ (by omega)]
    simp

/-- The reference's first result. -/
theorem dq_at (k : Fin 1024) (k' : Fin 3072) (hk' : k'.val = k) : (res_main_v54 V0 : S2048x3072.Idx → EReal) (ix2 t k')
    = (dqs (hq (az V0) (k / 128)) (hk (az V0) (k / 128)) (hv (az V0) (k / 128)) (hd (ag V0) (k / 128)) 2048 t (k % 128) : EReal) * Ideal.ofBits .f32 0x3DB504F3#32 := by
  obtain rfl : k' = ⟨k.val, Nat.lt_of_lt_of_le k.isLt (by decide)⟩ := Fin.ext hk'
  pointwise [res_main_v54]
  rw [dif_pos (by omega)]
  simp only [v42_at V0 hf, v5_at V0 hf]
  rw [coe_dot_fin (fun x => dz (hq (az V0) (k / 128)) (hk (az V0) (k / 128)) (hv (az V0) (k / 128)) (hd (ag V0) (k / 128)) t x) fun x => hk (az V0) (k / 128) x (k % 128)]
  rfl
theorem dk_at (k : Fin 1024) (k' : Fin 3072) (hk' : k'.val = 1024 + k) : (res_main_v54 V0 : S2048x3072.Idx → EReal) (ix2 t k')
    = (dks (hq (az V0) (k / 128)) (hk (az V0) (k / 128)) (hv (az V0) (k / 128)) (hd (ag V0) (k / 128)) 2048 t (k % 128) : EReal) := by
  obtain rfl : k' = ⟨1024 + k.val, Nat.lt_of_lt_of_le (Nat.add_lt_add_left k.isLt 1024) (by decide)⟩ := Fin.ext hk'
  pointwise [res_main_v54]
  rw [dif_pos (by omega)]
  simp only [v42_at V0 hf, v8_at V0 hf]
  rw [coe_dot_fin (fun x => dz (hq (az V0) (k / 128)) (hk (az V0) (k / 128)) (hv (az V0) (k / 128)) (hd (ag V0) (k / 128)) x t) fun x => hq (az V0) (k / 128) x (k % 128)]
  rfl
theorem dv_at (k : Fin 1024) (k' : Fin 3072) (hk' : k'.val = 2048 + k) : (res_main_v54 V0 : S2048x3072.Idx → EReal) (ix2 t k')
    = (dvs (hq (az V0) (k / 128)) (hk (az V0) (k / 128)) (hd (ag V0) (k / 128)) 2048 t (k % 128) : EReal) := by
  obtain rfl : k' = ⟨2048 + k.val, Nat.lt_of_lt_of_le (Nat.add_lt_add_left k.isLt 2048) (by decide)⟩ := Fin.ext hk'
  pointwise [res_main_v54]
  rw [dif_pos (by omega), dif_neg (by omega), dif_neg (by omega)]
  simp only [show 2048 + k.val - 1024 - 1024 = k.val by omega]
  simp only [v24_0_at V0 hf, v29_at V0 hf]
  simp only [mul_comm ((hd _ _ _ _ : ℝ) : EReal)]
  rw [coe_dot_fin (fun x => wt (hq (az V0) (k / 128)) (hk (az V0) (k / 128)) x t) fun x => hd (ag V0) (k / 128) x (k % 128)]
  rfl
end Cert.Proof.Sb
-- ==== Proof.SbValue.lean ====
/-
  The two programs' results are the same arrays: the kernel's query gradient and stacked key and value
  gradients, entry by entry, against the reference's.
-/
module

public import proofs.«01_k».proof.Proof.SbKernel
public import proofs.«01_k».proof.Proof.SbRef

@[expose] public section

set_option maxRecDepth 16384

noncomputable section

namespace Cert.Proof.Sb

open Idealize.ShloMosaic Idealize.ShloMosaic.TcCoe Idealize.SL.Sem
open Cert.ReferenceIdeal Cert.ReferenceIdeal.Gen Cert.ReferenceIdeal.Value

variable (m : (ℓ : Loc Cert.KernelIdeal.nD Cert.KernelIdeal.τ Cert.KernelIdeal.sig) → Buf (Elt Ideal) ℓ) (c : Dev Cert.KernelIdeal.nD)
variable (V0 : Valuation τ sig (Elt Ideal))
variable (ez : az V0 = m (c, Proc.tc.devRef Cert.KernelIdeal.main_arg0)) (eg : ag V0 = m (c, Proc.tc.devRef Cert.KernelIdeal.main_arg1))
variable (hf : Finite (az V0) (ag V0))
include ez eg hf

theorem dq_eq : truncf (F := Ideal) .bf16 (extractStridedSlice S2048x1024 ![0, 0] (res_main_v54 V0) slices_S2048x3072_S2048x1024_0_0) bitsLt_bf16_f32
    = Cert.KernelIdeal.Value.G5 m c := by
  have hf' : Finite (m (c, Proc.tc.devRef Cert.KernelIdeal.main_arg0)) (m (c, Proc.tc.devRef Cert.KernelIdeal.main_arg1)) := ez ▸ eg ▸ hf
  refine funext fun i => ?_
  obtain ⟨t, k, rfl⟩ : ∃ (t : Fin 2048) (k : Fin 1024), i = ix2 t k := ⟨i 0, i 1, (ix2_eta i).symm⟩
  refine Eq.trans ?_ (G5_at m c hf' t k).symm
  rw [← ez, ← eg]
  pointwise
  exact dq_at V0 hf t k _ rfl
theorem dkv_eq : truncf (F := Ideal) .bf16 (concatenate S2x2048x1024 0 [⟨S1x2048x1024, (broadcastInDim S1x2048x1024 ![1, 2] bcast_S2048x1024_S1x2048x1024_1_2 (extractStridedSlice S2048x1024 ![0, 1024] (res_main_v54 V0) slices_S2048x3072_S2048x1024_0_1024))⟩, ⟨S1x2048x1024, (broadcastInDim S1x2048x1024 ![1, 2] bcast_S2048x1024_S1x2048x1024_1_2 (extractStridedSlice S2048x1024 ![0, 2048] (res_main_v54 V0) slices_S2048x3072_S2048x1024_0_2048))⟩] concatenates_S1x2048x1024_S1x2048x1024_S2x2048x1024_d0) bitsLt_bf16_f32
    = Cert.KernelIdeal.Value.G6 m c := by
  have hf' : Finite (m (c, Proc.tc.devRef Cert.KernelIdeal.main_arg0)) (m (c, Proc.tc.devRef Cert.KernelIdeal.main_arg1)) := ez ▸ eg ▸ hf
  refine funext fun i => ?_
  obtain ⟨a, j, k, rfl⟩ : ∃ (a : Fin 2) (j : Fin 2048) (k : Fin 1024), i = ix3 a j k := ⟨i 0, i 1, i 2, (ix3_eta i).symm⟩
  refine Eq.trans ?_ (G6_at m c hf' a j k).symm
  rw [← ez, ← eg]
  by_cases h0 : a = 0
  · subst h0
    rw [if_pos rfl]
    pointwise
    exact dk_at V0 hf j k _ rfl
  · obtain rfl : a = 1 := by omega
    rw [if_neg h0]
    pointwise
    exact dv_at V0 hf j k _ rfl
end Cert.Proof.Sb
-- ==== Proof.SbPre.lean ====
/-
  The precondition, decoded: every key, value and query entry and every entry of the output
  gradient is a real number.
-/
module

public import proofs.«01_k».proof.Proof.SbRef
public import proofs.«01_k».proof.Pre_finite
public import Idealize.ShloMosaic.Lib.ReduceAll

@[expose] public section

noncomputable section

namespace Cert.Proof.Sb

open Idealize.ShloMosaic

theorem preFacts : Cert.Pre_finite.Facts where
  slices_S2048x5120_S2048x3072_0_2048 := by decide
  bcast_S_S2048x3072 := by decide
  reducesTo_S2048x3072_S_d0_1 := by decide
  h_S_ := by decide
  bcast_S_S2048x1024 := by decide
  reducesTo_S2048x1024_S_d0_1 := by decide

/-- A number whose absolute value is below infinity is real. -/
theorem real_of_abs_lt (x : EReal) (h : max x (-x) < ⊤) : x = (x.toReal : EReal) := by
  refine (EReal.coe_toReal (fun e => ?_) (fun e => ?_)).symm <;> subst e <;> simp at h
theorem real_of_cmpf (x : EReal) (h : FloatOps.cmpf (F := Ideal) (φ := .f32) .olt (max x (-x)) (Ideal.ofBits .f32 0x7F800000#32) = 1#1) :
    x = (x.toReal : EReal) := by
  rw [inf_const] at h
  refine real_of_abs_lt x ?_
  by_contra hc
  have h' : Ideal.cmp .olt (max x (-x)) ⊤ = 1#1 := h
  simp only [Ideal.cmp, decide_eq_false hc] at h'
  exact absurd h' (by decide)

theorem andi_split {a b : BitVec 1} (h : IntOp.andi a b = 1#1) : a = 1#1 ∧ b = 1#1 := by revert a b; decide

theorem finite_of_pre (z : FVec Ideal Cert.Pre_finite.S2048x5120 .f32) (g : FVec Ideal Cert.Pre_finite.S2048x1024 .f32)
    (h : @Cert.Pre_finite.fn preFacts Ideal _ z g = fun _ => 1#1) : Finite z g := by
  have h0 := congrFun h ix0
  obtain ⟨ha, hb⟩ := andi_split h0
  refine ⟨fun r k hk => ?_, fun r k => ?_⟩
  · have e := Host.reduce_andi_all _ _ _ _ _ ha (ix2 r ⟨k.val - 2048, by omega⟩)
    have hi : extractStridedSlice Cert.Pre_finite.S2048x3072 ![0, 2048] z preFacts.slices_S2048x5120_S2048x3072_0_2048 (ix2 r ⟨k.val - 2048, by omega⟩)
        = z (ix2 r k) := by
      refine congrArg z ?_
      funext a; match a with
      | ⟨0, _⟩ => exact Fin.ext (Nat.zero_add _)
      | ⟨1, _⟩ => exact Fin.ext (show 2048 + (k.val - 2048) = k.val by omega)
    refine Eq.trans (real_of_cmpf (z (ix2 r k)) (by rw [← hi]; exact e)) ?_
    rw [zr, dif_pos ⟨r.isLt, k.isLt⟩]
  · have e := Host.reduce_andi_all _ _ _ _ _ hb (ix2 r k)
    refine Eq.trans (real_of_cmpf (g (ix2 r k)) e) ?_
    rw [gr, dif_pos ⟨r.isLt, k.isLt⟩]
end Cert.Proof.Sb
-- ==== Proof.Prod.lean ====
/- Sums of products over ranges of naturals, and the entries of a matrix at two naturals. -/
module

public import Idealize.ShloMosaic.PureOps.Ideal
public import Idealize.ShloMosaic.Lib.Pointwise
public import Mathlib.Algebra.BigOperators.Fin

@[expose] public section

noncomputable section

namespace Cert.Proof
open Idealize.ShloMosaic

/-- The entry of a matrix at two naturals, zero outside it. -/
def ent {a b : ℕ} (x : (⟨2, ![a, b]⟩ : Shape).Idx → EReal) (r k : ℕ) : EReal :=
  if h : r < a ∧ k < b then x (ix2 ⟨r, h.1⟩ ⟨k, h.2⟩) else 0
theorem ent_eq {a b : ℕ} (x : (⟨2, ![a, b]⟩ : Shape).Idx → EReal) {r k : ℕ} {i : Fin a} {j : Fin b} (hi : i.val = r) (hj : j.val = k) :
    x (ix2 i j) = ent x r k := by
  subst hi hj
  rw [ent, dif_pos ⟨i.isLt, j.isLt⟩]

/-- The first `n` terms of a product of two sequences. -/
def dot (f g : ℕ → EReal) (n : ℕ) : EReal := ∑ x ∈ Finset.range n, f x * g x
theorem dot_fin (f g : ℕ → EReal) (n : ℕ) : ∑ x : Fin n, f x * g x = dot f g n :=
  Fin.sum_univ_eq_sum_range (fun x => f x * g x) n
theorem dot_add (f g : ℕ → EReal) (m n : ℕ) : dot f g m + ∑ x : Fin n, f (m + x) * g (m + x) = dot f g (m + n) := by
  rw [Fin.sum_univ_eq_sum_range (fun x => f (m + x) * g (m + x)) n, dot, dot, Finset.sum_range_add]
theorem dot_first (f g : ℕ → EReal) (n : ℕ) {m : ℕ} (hm : m = 0) : ∑ x : Fin n, f (m + x) * g (m + x) = dot f g (m + n) := by
  subst hm; rw [← dot_add, dot, Finset.range_zero, Finset.sum_empty, zero_add]
/-- A nonnegative number below infinity moves into the sum. -/
theorem mul_dot {k : EReal} (h0 : 0 ≤ k) (ht : k ≠ ⊤) (f g : ℕ → EReal) (n : ℕ) : k * dot f g n = dot f (fun x => k * g x) n := by
  induction n with
  | zero => rw [dot, dot, Finset.range_zero, Finset.sum_empty, Finset.sum_empty, mul_zero]
  | succ n ih =>
    rw [dot, Finset.sum_range_succ, EReal.left_distrib_of_nonneg_of_ne_top h0 ht, mul_left_comm]
    exact (congrArg (· + _) ih).trans (Finset.sum_range_succ _ n).symm

/-- The literal one half. -/
abbrev half : EReal := Ideal.ofBits FTy.f32 0x3F000000#32
theorem half_nonneg : 0 ≤ half := by
  dsimp only [half, Ideal.ofBits, Ideal.ieee]
  rw [if_neg (by decide), if_neg (by decide)]
  refine EReal.coe_nonneg.mpr ?_
  rw [if_neg (by decide)]
  positivity
theorem half_ne_top : half ≠ ⊤ := by
  dsimp only [half, Ideal.ofBits, Ideal.ieee]
  rw [if_neg (by decide), if_neg (by decide)]
  exact EReal.coe_ne_top _

/-- The activation: the gate times its logistic, times the value. -/
def act (g : (⟨2, ![2048, 11264]⟩ : Shape).Idx → EReal) : (⟨2, ![2048, 5632]⟩ : Shape).Idx → EReal := fun y =>
  g (ix2 (y 0) ⟨(y 1).val, by have := (y 1).isLt; simp at this; omega⟩) * Ideal.div 1 (1 + Ideal.exp (-g (ix2 (y 0) ⟨(y 1).val, by have := (y 1).isLt; simp at this; omega⟩)))
    * g (ix2 (y 0) ⟨5632 + (y 1).val, by have := (y 1).isLt; simp at this; omega⟩)

/-- A real number: no infinity. -/
def IsReal (x : EReal) : Prop := ∃ r : ℝ, x = (r : EReal)
theorem isReal_coe {x : EReal} (h : x = (x.toReal : EReal)) : IsReal x := ⟨_, h⟩
theorem isReal_half : IsReal half := by
  refine isReal_coe (EReal.coe_toReal half_ne_top fun h => ?_).symm
  have := half_nonneg
  rw [h] at this
  exact absurd this (by simp)
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_ent {a b : ℕ} {x : (⟨2, ![a, b]⟩ : Shape).Idx → EReal} (h : ∀ i, IsReal (x i)) (r k : ℕ) : IsReal (ent x r k) := by
  unfold ent; split
  · exact h _
  · exact ⟨0, rfl⟩
theorem isReal_dot {f g : ℕ → EReal} (hf : ∀ x, IsReal (f x)) (hg : ∀ x, IsReal (g x)) (n : ℕ) : IsReal (dot f g n) := by
  induction n with
  | zero => exact ⟨0, by rw [dot, Finset.range_zero, Finset.sum_empty]; rfl⟩
  | succ n ih => rw [dot, Finset.sum_range_succ]; exact isReal_add ih (isReal_mul (hf n) (hg n))

/-- The logistic function of a real number is real. -/
theorem isReal_logistic {x : EReal} (h : IsReal x) : IsReal (Ideal.div 1 (1 + Ideal.exp (-x))) := by
  obtain ⟨r, rfl⟩ := h
  rw [← EReal.coe_neg, Ideal.exp_coe, ← EReal.coe_one, ← EReal.coe_add, Ideal.div_coe (by have := Real.exp_pos (-r); linarith)]
  exact isReal_mul ⟨1, rfl⟩ ⟨_, rfl⟩

end Cert.Proof
-- ==== Proof.FfnAct.lean ====
/- The gradient of the feed-forward gates and values: the kernel multiplies the output's gradient by the two factors of each entry, the reference differentiates the product. -/
module

public import proofs.«01_k».proof.Proof.Gen.KernelActIdeal.Value
public import proofs.«01_k».proof.Proof.Gen.ReferenceActIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.Act
open Idealize.ShloMosaic Idealize.ShloMosaic.TcCoe Idealize.SL.Sem
open Cert.KernelActIdeal Cert.KernelActIdeal.Gen Cert.KernelActIdeal.Value

theorem pay2_at (v0 : Vec Ideal S1x512x2048 .bf16) (v2 : Vec Ideal S1x1408x2048 .bf16) (v7 : Vec Ideal S1x512x1408 .bf16) (a : Fin 1) (r : Fin 512) (s : Fin 1408) :
    k0_pay2 (F := Ideal) v0 v2 v7 (ix3 a r s) = half * (∑ x : Fin 2048, v0 (ix3 0 r x) * v2 (ix3 0 s x)) * v7 (ix3 0 r s) := by pointwise [k0_pay2, k0_pay1]
theorem pay3_at (v0 : Vec Ideal S1x512x2048 .bf16) (v2 : Vec Ideal S1x1408x2048 .bf16) (v7 : Vec Ideal S1x512x1408 .bf16) (a : Fin 1) (r : Fin 512) (s : Fin 1408) :
    k0_pay3 (F := Ideal) v0 v2 v7 (ix3 a r s) = half * (∑ x : Fin 2048, v0 (ix3 0 r x) * v2 (ix3 0 s x)) * v7 (ix3 0 r s) := by pointwise [k0_pay3, k0_pay1]

theorem out_at (x0 : Vec Ideal S1x512x2048 .bf16) (x1 : Vec Ideal S1x1408x2048 .bf16) (x2 : Vec Ideal S2x512x1408 .bf16) (a : Fin 2) (r : Fin 512) (s : Fin 1408) :
    out0_3 x0 x1 x2 (ix3 a r s) = half * (∑ x : Fin 2048, x0 (ix3 0 r x) * x1 (ix3 0 s x)) * x2 (ix3 a r s) := by
  frame_out
  canon_tiles x h
  all_goals
    obtain ⟨b, r', s', rfl⟩ : ∃ (b : Fin 1) (r' : Fin 512) (s' : Fin 1408), x = ix3 b r' s' := ⟨x 0, x 1, x 2, (ix3_eta x).symm⟩
    obtain rfl : r = r' := Fin.ext h1
    obtain rfl : s = s' := Fin.ext h2
  · refine (pay3_at _ _ _ b r s).trans (congrArg _ (congrArg x2 ?_))
    funext i
    match i with
    | ⟨0, _⟩ => exact Fin.ext (by have : a.val = 1 + b.val := h0; show 1 + 1 * 0 = a.val; omega)
    | ⟨1, _⟩ => exact Fin.ext (by show 0 + 1 * r.val = r.val; omega)
    | ⟨2, _⟩ => exact Fin.ext (by show 0 + 1 * s.val = s.val; omega)
  · refine (pay2_at _ _ _ b r s).trans (congrArg _ (congrArg x2 ?_))
    funext i
    match i with
    | ⟨0, _⟩ => exact Fin.ext (by have : a.val = b.val := h0; show 0 + 1 * 0 = a.val; omega)
    | ⟨1, _⟩ => exact Fin.ext (by show 0 + 1 * r.val = r.val; omega)
    | ⟨2, _⟩ => exact Fin.ext (by show 0 + 1 * s.val = s.val; omega)

/-- The logistic function. -/
abbrev sg (x : EReal) : EReal := Ideal.div 1 (1 + Ideal.exp (-x))
/-- The derivative of the activation, by the gate (0) and by the value (1). -/
def fac (g : (⟨2, ![2048, 11264]⟩ : Shape).Idx → EReal) (a r s : ℕ) : EReal :=
  if a = 0 then ent g r (5632 + s) * sg (ent g r s) * (1 + ent g r s * (1 - sg (ent g r s))) else ent g r s * sg (ent g r s)

variable (m : (ℓ : Loc nD τ sig) → Buf (Elt Ideal) ℓ) (c : Dev nD)
theorem gu_at (a : Fin 2) (x : Fin 2048) (k : Fin 5632) : (V m c main_v19 : S2x2048x5632.Idx → EReal) (ix3 a x k) = fac (m (c, Proc.tc.devRef main_arg0)) a x k := by
  have e0 := ent_eq (m (c, Proc.tc.devRef main_arg0) : S2048x11264.Idx → EReal) (i := x) (j := ⟨k.val, by omega⟩) rfl rfl
  have e1 := ent_eq (m (c, Proc.tc.devRef main_arg0) : S2048x11264.Idx → EReal) (i := x) (j := ⟨5632 + k.val, by omega⟩) rfl rfl
  unfold fac
  dsimp only at e0 e1
  rw [← e0, ← e1]
  conv_lhs => simp only [V]
  after_results_simp
  match a with
  | 0 => pointwise; after_results_simp; pointwise
  | 1 => pointwise; after_results_simp; pointwise
theorem w_at (a : Fin 4) (k : Fin 1408) (x : Fin 2048) : (V m c main_v21 : S4x1408x2048.Idx → EReal) (ix3 a k x)
    = ent (m (c, Proc.tc.devRef main_arg1) : S5632x2048.Idx → EReal) (1408 * a + k) x := by
  refine Eq.trans ?_ (ent_eq _ (i := ⟨a.val * 1408 + k.val, by omega⟩) (j := x) (by simp only; omega) rfl)
  conv_lhs => simp only [V]
  after_results_simp
  pointwise
theorem dh_at (a : Fin 1) (x k : Fin 2048) : (V m c main_v23 : S1x2048x2048.Idx → EReal) (ix3 a x k)
    = ent (m (c, Proc.tc.devRef main_arg2) : S2048x2048.Idx → EReal) x k := by
  refine Eq.trans ?_ (ent_eq _ (i := x) (j := k) rfl rfl)
  conv_lhs => simp only [V]
  after_results_simp
  pointwise
theorem idxs : ∀ t : Fin cfg0.N, win0_0.index t = ![0, t.val / 4, 0] ∧ win0_1.index t = ![t.val % 4, 0, 0]
    ∧ win0_2.index t = ![0, t.val / 4, t.val % 4] ∧ win0_3.index t = ![0, t.val / 4, t.val % 4] := by decide +kernel

theorem blk0 (t : Fin cfg0.N) (b : Fin 1) (r : Fin 512) (x : Fin 2048) : (iblk m c 0 t : S1x512x2048.Idx → EReal) (ix3 b r x)
    = ent (m (c, Proc.tc.devRef main_arg2) : S2048x2048.Idx → EReal) (512 * (t.val / 4) + r) x := by
  have hi := (idxs t).1
  have ht : t.val < 16 := t.isLt
  have e : (iblk m c 0 t : S1x512x2048.Idx → EReal) (ix3 b r x)
      = (V m c main_v23 : S1x2048x2048.Idx → EReal) (ix3 0 ⟨512 * (t.val / 4) + r, by omega⟩ x) := by
    blk_simp [iblk]
    blk_ext [hi]
  rw [e, dh_at]

theorem blk1 (t : Fin cfg0.N) (b : Fin 1) (s : Fin 1408) (x : Fin 2048) : (iblk m c 1 t : S1x1408x2048.Idx → EReal) (ix3 b s x)
    = ent (m (c, Proc.tc.devRef main_arg1) : S5632x2048.Idx → EReal) (1408 * (t.val % 4) + s) x := by
  have hi := (idxs t).2.1
  have ht : t.val < 16 := t.isLt
  have e : (iblk m c 1 t : S1x1408x2048.Idx → EReal) (ix3 b s x)
      = (V m c main_v21 : S4x1408x2048.Idx → EReal) (ix3 ⟨t.val % 4, by omega⟩ s x) := by
    blk_simp [iblk]
    blk_ext [hi]
  rw [e, w_at]

theorem blk2 (t : Fin cfg0.N) (a : Fin 2) (r : Fin 512) (s : Fin 1408) : (iblk m c 2 t : S2x512x1408.Idx → EReal) (ix3 a r s)
    = fac (m (c, Proc.tc.devRef main_arg0)) a (512 * (t.val / 4) + r) (1408 * (t.val % 4) + s) := by
  have hi := (idxs t).2.2.1
  have ht : t.val < 16 := t.isLt
  have e : (iblk m c 2 t : S2x512x1408.Idx → EReal) (ix3 a r s)
      = (V m c main_v19 : S2x2048x5632.Idx → EReal) (ix3 a ⟨512 * (t.val / 4) + r, by omega⟩ ⟨1408 * (t.val % 4) + s, by omega⟩) := by
    blk_simp [iblk]
    blk_ext [hi]
  rw [e, gu_at]

/-- The gradients, a plane for the gates and one for the values. -/
def grad (g : (⟨2, ![2048, 11264]⟩ : Shape).Idx → EReal) (w : (⟨2, ![5632, 2048]⟩ : Shape).Idx → EReal) (d : (⟨2, ![2048, 2048]⟩ : Shape).Idx → EReal) (a r s : ℕ) : EReal :=
  half * dot (ent d r) (ent w s) 2048 * fac g a r s
def G (m : (ℓ : Loc nD τ sig) → Buf (Elt Ideal) ℓ) (c : Dev nD) : S2x2048x5632.Idx → EReal := fun y =>
  grad (m (c, Proc.tc.devRef main_arg0)) (m (c, Proc.tc.devRef main_arg1)) (m (c, Proc.tc.devRef main_arg2)) (y 0) (y 1) (y 2)

theorem array : (dats m 0 c).arrAt 3 cfg0.N = (G m c : S2x2048x5632.Idx → EReal) := by
  refine (dats m 0 c).arrAt_eq_of_covers 3 (G m c) (by decide +kernel) fun t hf y => ?_
  have hi := (idxs t).2.2.2
  have ht : t.val < 16 := t.isLt
  blk_simp
  rw [after0_3]
  obtain ⟨a, r, s, rfl⟩ : ∃ (a : Fin 2) (r : Fin 512) (s : Fin 1408), y = ix3 a r s := ⟨y 0, y 1, y 2, (ix3_eta y).symm⟩
  refine (out_at _ _ _ a r s).trans ?_
  simp only [blk0, blk1, blk2]
  rw [dot_fin (ent (m (c, Proc.tc.devRef main_arg2) : S2048x2048.Idx → EReal) (512 * (t.val / 4) + r)) (ent (m (c, Proc.tc.devRef main_arg1) : S5632x2048.Idx → EReal) (1408 * (t.val % 4) + s))]
  unfold G grad
  blk_simp [hi]
  rw [Nat.mul_comm 512, Nat.mul_comm 1408]

end Cert.Proof.Act

namespace Cert.Proof.Act
open Idealize.ShloMosaic Idealize.ShloMosaic.TcCoe Idealize.SL.Sem
section Reference
open Cert.ReferenceActIdeal Cert.ReferenceActIdeal.Gen

/-- The reference's result. -/
def ref (g : FVec Ideal S2048x11264 .f32) (w : FVec Ideal S5632x2048 .f32) (d : FVec Ideal S2048x2048 .f32) : FVec Ideal S2x2048x5632 .bf16 :=
  truncf .bf16 (concatenate S2x2048x5632 0 [⟨S1x2048x5632, (broadcastInDim S1x2048x5632 ![1, 2] bcast_S2048x5632_S1x2048x5632_1_2 (extractStridedSlice S2048x5632 ![0, 0] (concatenate S2048x11264 1 [⟨S2048x5632, (addf (mulf (mulf (Host.dotGeneral dot_S2048x2048_S5632x2048_S2048x5632_1_1_0_0_n_n none (mulf (broadcastInDim S2048x2048 ![] bcast_S_S2048x2048 (constant S_ .f32 0x3F000000#32)) d) w) (extractStridedSlice S2048x5632 ![0, 5632] g slices_S2048x11264_S2048x5632_0_5632)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] g slices_S2048x11264_S2048x5632_0_0)))))) (mulf (mulf (extractStridedSlice S2048x5632 ![0, 0] g slices_S2048x11264_S2048x5632_0_0) (mulf (Host.dotGeneral dot_S2048x2048_S5632x2048_S2048x5632_1_1_0_0_n_n none (mulf (broadcastInDim S2048x2048 ![] bcast_S_S2048x2048 (constant S_ .f32 0x3F000000#32)) d) w) (extractStridedSlice S2048x5632 ![0, 5632] g slices_S2048x11264_S2048x5632_0_5632))) (mulf (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] g slices_S2048x11264_S2048x5632_0_0))))) (subf (broadcastInDim S2048x5632 ![] bcast_S_S2048x5632 (constant S_ .f32 0x3F800000#32)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] g slices_S2048x11264_S2048x5632_0_0)))))))))⟩, ⟨S2048x5632, (mulf (mulf (extractStridedSlice S2048x5632 ![0, 0] g slices_S2048x11264_S2048x5632_0_0) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] g slices_S2048x11264_S2048x5632_0_0)))))) (Host.dotGeneral dot_S2048x2048_S5632x2048_S2048x5632_1_1_0_0_n_n none (mulf (broadcastInDim S2048x2048 ![] bcast_S_S2048x2048 (constant S_ .f32 0x3F000000#32)) d) w))⟩] concatenates_S2048x5632_S2048x5632_S2048x11264_d1) slices_S2048x11264_S2048x5632_0_0))⟩, ⟨S1x2048x5632, (broadcastInDim S1x2048x5632 ![1, 2] bcast_S2048x5632_S1x2048x5632_1_2 (extractStridedSlice S2048x5632 ![0, 5632] (concatenate S2048x11264 1 [⟨S2048x5632, (addf (mulf (mulf (Host.dotGeneral dot_S2048x2048_S5632x2048_S2048x5632_1_1_0_0_n_n none (mulf (broadcastInDim S2048x2048 ![] bcast_S_S2048x2048 (constant S_ .f32 0x3F000000#32)) d) w) (extractStridedSlice S2048x5632 ![0, 5632] g slices_S2048x11264_S2048x5632_0_5632)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] g slices_S2048x11264_S2048x5632_0_0)))))) (mulf (mulf (extractStridedSlice S2048x5632 ![0, 0] g slices_S2048x11264_S2048x5632_0_0) (mulf (Host.dotGeneral dot_S2048x2048_S5632x2048_S2048x5632_1_1_0_0_n_n none (mulf (broadcastInDim S2048x2048 ![] bcast_S_S2048x2048 (constant S_ .f32 0x3F000000#32)) d) w) (extractStridedSlice S2048x5632 ![0, 5632] g slices_S2048x11264_S2048x5632_0_5632))) (mulf (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] g slices_S2048x11264_S2048x5632_0_0))))) (subf (broadcastInDim S2048x5632 ![] bcast_S_S2048x5632 (constant S_ .f32 0x3F800000#32)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] g slices_S2048x11264_S2048x5632_0_0)))))))))⟩, ⟨S2048x5632, (mulf (mulf (extractStridedSlice S2048x5632 ![0, 0] g slices_S2048x11264_S2048x5632_0_0) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] g slices_S2048x11264_S2048x5632_0_0)))))) (Host.dotGeneral dot_S2048x2048_S5632x2048_S2048x5632_1_1_0_0_n_n none (mulf (broadcastInDim S2048x2048 ![] bcast_S_S2048x2048 (constant S_ .f32 0x3F000000#32)) d) w))⟩] concatenates_S2048x5632_S2048x5632_S2048x11264_d1) slices_S2048x11264_S2048x5632_0_5632))⟩] concatenates_S1x2048x5632_S1x2048x5632_S2x2048x5632_d0) bitsLt_bf16_f32

variable (g : FVec Ideal S2048x11264 .f32) (w : FVec Ideal S5632x2048 .f32) (d : FVec Ideal S2048x2048 .f32)
theorem product (r : Fin 2048) (s : Fin 5632) : ∑ x : Fin 2048, half * d (ix2 r x) * w (ix2 s x) = half * dot (ent d r) (ent w s) 2048 := by
  rw [mul_dot half_nonneg half_ne_top, ← dot_fin]
  exact Finset.sum_congr rfl fun x _ => by rw [ent_eq d (r := r) (k := x) rfl rfl, ent_eq w (r := s) (k := x) rfl rfl, mul_assoc, mul_left_comm]

/-- The product rule over the real numbers. -/
theorem rule {D u v s : EReal} (hD : IsReal D) (hu : IsReal u) (hv : IsReal v) (hs : IsReal s) :
    D * v * s + u * (D * v) * (s * (1 - s)) = D * (v * s * (1 + u * (1 - s))) := by
  obtain ⟨D, rfl⟩ := hD; obtain ⟨u, rfl⟩ := hu; obtain ⟨v, rfl⟩ := hv; obtain ⟨s, rfl⟩ := hs
  simp only [← EReal.coe_one, ← EReal.coe_mul, ← EReal.coe_add, ← EReal.coe_sub]
  congr 1
  ring

theorem ref_at (hg : ∀ i, IsReal (g i)) (hw : ∀ i, IsReal (w i)) (hd : ∀ i, IsReal (d i)) (a : Fin 2) (r : Fin 2048) (s : Fin 5632) :
    ref g w d (ix3 a r s) = grad g w d a r s := by
  have hD : IsReal (half * dot (ent d r) (ent w s) 2048) := isReal_mul isReal_half (isReal_dot (isReal_ent hd r) (isReal_ent hw s) _)
  have e0 := ent_eq g (i := r) (j := ⟨s.val, by omega⟩) rfl rfl
  have e1 := ent_eq g (i := r) (j := ⟨5632 + s.val, by omega⟩) rfl rfl
  have hu := isReal_ent hg r s
  have hv := isReal_ent hg r (5632 + s)
  dsimp only at e0 e1
  unfold grad fac
  match a with
  | 0 =>
    rw [if_pos (show ((0 : Fin 2) : ℕ) = 0 from rfl), ← rule hD hu hv (isReal_logistic hu), ← e0, ← e1, ← product]
    pointwise [ref]
  | 1 =>
    rw [if_neg (show ¬ ((1 : Fin 2) : ℕ) = 0 by decide), ← e0, ← product, mul_comm]
    pointwise [ref]
end Reference

/-- The reference's result is the kernel's. -/
theorem value (m : (ℓ : Loc Cert.KernelActIdeal.nD Cert.KernelActIdeal.τ Cert.KernelActIdeal.sig) → Buf (Elt Ideal) ℓ) (c : Dev Cert.KernelActIdeal.nD)
    (g : FVec Ideal Cert.ReferenceActIdeal.S2048x11264 .f32) (w : FVec Ideal Cert.ReferenceActIdeal.S5632x2048 .f32) (d : FVec Ideal Cert.ReferenceActIdeal.S2048x2048 .f32)
    (hg : g = m (c, Proc.tc.devRef Cert.KernelActIdeal.main_arg0)) (hw : w = m (c, Proc.tc.devRef Cert.KernelActIdeal.main_arg1)) (hd : d = m (c, Proc.tc.devRef Cert.KernelActIdeal.main_arg2))
    (rg : ∀ i, IsReal (g i)) (rw' : ∀ i, IsReal (w i)) (rd : ∀ i, IsReal (d i)) : ref g w d = G m c := by
  refine funext fun i => ?_
  obtain ⟨a, r, s, rfl⟩ : ∃ (a : Fin 2) (r : Fin 2048) (s : Fin 5632), i = ix3 a r s := ⟨i 0, i 1, i 2, (ix3_eta i).symm⟩
  subst hg hw hd
  exact ref_at _ _ _ rg rw' rd a r s

end Cert.Proof.Act
-- ==== Proof.FfnPre.lean ====
/-
  The precondition of the activation's gradient, decoded: every entry of its three arguments is a
  real number.
-/
module

public import proofs.«01_k».proof.Proof.Prod
public import proofs.«01_k».proof.Proof.SbPre
public import proofs.«01_k».proof.Pre_finite_out

@[expose] public section

noncomputable section

namespace Cert.Proof.Act

open Idealize.ShloMosaic

theorem preFacts : Cert.Pre_finite_out.Facts where
  bcast_S_S2048x11264 := by decide
  reducesTo_S2048x11264_S_d0_1 := by decide
  h_S_ := by decide
  bcast_S_S5632x2048 := by decide
  reducesTo_S5632x2048_S_d0_1 := by decide
  bcast_S_S2048x2048 := by decide
  reducesTo_S2048x2048_S_d0_1 := by decide

theorem reals_of_pre (g : FVec Ideal Cert.Pre_finite_out.S2048x11264 .f32) (w : FVec Ideal Cert.Pre_finite_out.S5632x2048 .f32)
    (d : FVec Ideal Cert.Pre_finite_out.S2048x2048 .f32) (h : @Cert.Pre_finite_out.fn preFacts Ideal _ g w d = fun _ => 1#1) :
    (∀ i, IsReal (g i)) ∧ (∀ i, IsReal (w i)) ∧ ∀ i, IsReal (d i) := by
  obtain ⟨h', hd⟩ := Sb.andi_split (congrFun h ix0)
  obtain ⟨hg, hw⟩ := Sb.andi_split h'
  exact ⟨fun i => isReal_coe (Sb.real_of_cmpf _ (Host.reduce_andi_all _ _ _ _ _ hg i)),
    fun i => isReal_coe (Sb.real_of_cmpf _ (Host.reduce_andi_all _ _ _ _ _ hw i)),
    fun i => isReal_coe (Sb.real_of_cmpf _ (Host.reduce_andi_all _ _ _ _ _ hd i))⟩

end Cert.Proof.Act
-- ==== Proof.FfnWout.lean ====
/- The gradient of the feed-forward output weight: the kernel transposes a panel of the activations into a scratch and multiplies it by the columns of the output's gradient, then halves; the reference halves the gradient first. -/
module

public import proofs.«01_k».proof.Proof.Gen.KernelWoutIdeal.Value
public import proofs.«01_k».proof.Proof.Gen.ReferenceWoutIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.Wout
open Idealize.ShloMosaic Idealize.ShloMosaic.TcCoe Idealize.SL.Sem
open Cert.KernelWoutIdeal Cert.KernelWoutIdeal.Gen Cert.KernelWoutIdeal.Value

theorem pay4_at (v3 : Vec Ideal S1408x2048 .bf16) (v4 : Vec Ideal S1x2048x512 .bf16) (a : Fin 1) (r : Fin 1408) (s : Fin 512) :
    k0_pay4 (F := Ideal) v3 v4 (ix3 a r s) = half * ∑ x : Fin 2048, v3 (ix2 r x) * v4 (ix3 0 x s) := by pointwise [k0_pay4]

section Body
variable (c : Dev nD) (i : grid0.Coords) (arg3 : Memref sig .tc .vmem S1x2048x1408 .bf16) (harg3 : arg3.IsWhole) (arg4 : Memref sig .tc .vmem S1x2048x512 .bf16) (harg4 : arg4.IsWhole) (arg5 : Memref sig .tc .vmem S1x1408x512 .bf16) (harg5 : arg5.IsWhole) (arg6 : Memref sig .tc .vmem S1408x2048 .bf16) (harg6 : arg6.IsWhole)
  (x0 : Vec Ideal S1x2048x1408 .bf16) (x1 : Vec Ideal S1x2048x512 .bf16) (xs0 : Vec Ideal S1408x2048 .bf16)

/-- The block turned on its side. -/
def flip (x0 : Vec Ideal S1x2048x1408 .bf16) : Vec Ideal S1408x2048 .bf16 := fun y => x0 (ix3 0 (y 1) (y 0))
/-- Eleven stores of 128 rows each fill the scratch. -/
theorem filled : View.canon [⟨Rect.unit ![1280, 0] ![128, 2048] inb_S1408x2048_S128x2048_1280_0,
            k0_pay3 (View.ld x0 (Rect.unit ![0, 0, 1280] ![1, 2048, 128] inb_S1x2048x1408_S1x2048x128_0_0_1280))⟩,
          ⟨Rect.unit ![1152, 0] ![128, 2048] inb_S1408x2048_S128x2048_1152_0,
            k0_pay2 (View.ld x0 (Rect.unit ![0, 0, 1152] ![1, 2048, 128] inb_S1x2048x1408_S1x2048x128_0_0_1152))⟩,
          ⟨Rect.unit ![1024, 0] ![128, 2048] inb_S1408x2048_S128x2048_1024_0,
            k0_pay1
              (k0_pay13 (View.ld x0 (Rect.unit ![0, 0, 1024] ![1, 2048, 128] inb_S1x2048x1408_S1x2048x128_0_0_1024)))⟩,
          ⟨Rect.unit ![896, 0] ![128, 2048] inb_S1408x2048_S128x2048_896_0,
            k0_pay12 (View.ld x0 (Rect.unit ![0, 0, 896] ![1, 2048, 128] inb_S1x2048x1408_S1x2048x128_0_0_896))⟩,
          ⟨Rect.unit ![768, 0] ![128, 2048] inb_S1408x2048_S128x2048_768_0,
            k0_pay11 (View.ld x0 (Rect.unit ![0, 0, 768] ![1, 2048, 128] inb_S1x2048x1408_S1x2048x128_0_0_768))⟩,
          ⟨Rect.unit ![640, 0] ![128, 2048] inb_S1408x2048_S128x2048_640_0,
            k0_pay10 (View.ld x0 (Rect.unit ![0, 0, 640] ![1, 2048, 128] inb_S1x2048x1408_S1x2048x128_0_0_640))⟩,
          ⟨Rect.unit ![512, 0] ![128, 2048] inb_S1408x2048_S128x2048_512_0,
            k0_pay9 (View.ld x0 (Rect.unit ![0, 0, 512] ![1, 2048, 128] inb_S1x2048x1408_S1x2048x128_0_0_512))⟩,
          ⟨Rect.unit ![384, 0] ![128, 2048] inb_S1408x2048_S128x2048_384_0,
            k0_pay8 (View.ld x0 (Rect.unit ![0, 0, 384] ![1, 2048, 128] inb_S1x2048x1408_S1x2048x128_0_0_384))⟩,
          ⟨Rect.unit ![256, 0] ![128, 2048] inb_S1408x2048_S128x2048_256_0,
            k0_pay7 (View.ld x0 (Rect.unit ![0, 0, 256] ![1, 2048, 128] inb_S1x2048x1408_S1x2048x128_0_0_256))⟩,
          ⟨Rect.unit ![128, 0] ![128, 2048] inb_S1408x2048_S128x2048_128_0,
            k0_pay6 (View.ld x0 (Rect.unit ![0, 0, 128] ![1, 2048, 128] inb_S1x2048x1408_S1x2048x128_0_0_128))⟩,
          ⟨Rect.unit ![0, 0] ![128, 2048] inb_S1408x2048_S128x2048_0_0,
            k0_pay5 (View.ld x0 (Rect.unit ![0, 0, 0] ![1, 2048, 128] inb_S1x2048x1408_S1x2048x128_0_0_0))⟩]
    = (flip x0 : S1408x2048.Idx → EReal) := by
  funext y
  canon_tiles x h
  all_goals pointwise [k0_pay1, k0_pay2, k0_pay3, k0_pay5, k0_pay6, k0_pay7, k0_pay8, k0_pay9, k0_pay10, k0_pay11, k0_pay12, k0_pay13, flip]
  all_goals exact congrArg x0 (congrArg₂ (ix3 0) (Fin.ext h1.symm) (Fin.ext (by first | exact h0.symm | (simp only; omega))))

theorem soutA (hc0 : cond0_0 i) :
    sout0_A_0 c i arg3 harg3 arg4 harg4 arg5 harg5 arg6 harg6 hc0 x0 x1 = flip x0 := by
  refine Eq.trans ?_ (filled x0)
  frame_out
theorem soutB (hc0 : ¬cond0_0 i) :
    sout0_B_0 c i arg3 harg3 arg4 harg4 arg5 harg5 arg6 harg6 hc0 x0 x1 xs0 = xs0 := rfl
theorem outA (hc0 : cond0_0 i) :
    out0_A_2 c i arg3 harg3 arg4 harg4 arg5 harg5 arg6 harg6 hc0 x0 x1 = k0_pay4 (flip x0) x1 := by
  frame_out
  refine congrArg (fun z => k0_pay4 z x1) ?_
  rw [View.readCov_eq_canon']
  exact funext fun y => (congrArg _ (Rect.emb_unit_full _ y)).trans (congrFun (filled x0) y)
theorem outB (hc0 : ¬cond0_0 i) :
    out0_B_2 c i arg3 harg3 arg4 harg4 arg5 harg5 arg6 harg6 hc0 x0 x1 xs0 = k0_pay4 xs0 x1 := by
  frame_out
end Body
variable (m : (ℓ : Loc nD τ sig) → Buf (Elt Ideal) ℓ) (c : Dev nD)

theorem lhs_at (a : Fin 1) (x : Fin 2048) (k : Fin 5632) : (V m c main_v5 : S1x2048x5632.Idx → EReal) (ix3 a x k)
    = ent (act (m (c, Proc.tc.devRef main_arg0))) x k := by
  refine Eq.trans ?_ (ent_eq _ (i := x) (j := k) rfl rfl)
  conv_lhs =>
    simp only [V, List.flatten_cons, List.flatten_nil, List.append_nil, hostOps0, hostOps0_1, hostOps0_2, List.cons_append, List.nil_append, StableHlo.TRef.binary, StableHlo.TRef.nullary, StableHlo.TRef.unary, StableHlo.TRef.toBuf, StableHlo.TRef.ofBuf, cast_eq]
  after_results_simp
  pointwise
  rfl
theorem rhs_at (a : Fin 1) (x k : Fin 2048) : (V m c main_v7 : S1x2048x2048.Idx → EReal) (ix3 a x k)
    = ent (m (c, Proc.tc.devRef main_arg2) : S2048x2048.Idx → EReal) x k := by
  refine Eq.trans ?_ (ent_eq _ (i := x) (j := k) rfl rfl)
  conv_lhs =>
    simp only [V, List.flatten_cons, List.flatten_nil, List.append_nil, hostOps0, hostOps0_1, hostOps0_2, List.cons_append, List.nil_append, StableHlo.TRef.binary, StableHlo.TRef.nullary, StableHlo.TRef.unary, StableHlo.TRef.toBuf, StableHlo.TRef.ofBuf, cast_eq]
  after_results_simp
  pointwise
theorem idxs : ∀ t : Fin cfg0.N, win0_0.index t = ![0, 0, t.val / 4] ∧ win0_1.index t = ![0, 0, t.val % 4]
    ∧ win0_2.index t = ![t.val / 4, 0, t.val % 4] := by decide +kernel

theorem blk0 (t : Fin cfg0.N) (b : Fin 1) (x : Fin 2048) (r : Fin 1408) : (iblk m c 0 t : S1x2048x1408.Idx → EReal) (ix3 b x r)
    = ent (act (m (c, Proc.tc.devRef main_arg0))) x (1408 * (t.val / 4) + r) := by
  have hi := (idxs t).1
  have ht : t.val < 16 := t.isLt
  have e : (iblk m c 0 t : S1x2048x1408.Idx → EReal) (ix3 b x r)
      = (V m c main_v5 : S1x2048x5632.Idx → EReal) (ix3 0 x ⟨1408 * (t.val / 4) + r, by omega⟩) := by
    blk_simp [iblk]
    blk_ext [hi]
  rw [e, lhs_at]

theorem blk1 (t : Fin cfg0.N) (b : Fin 1) (x : Fin 2048) (s : Fin 512) : (iblk m c 1 t : S1x2048x512.Idx → EReal) (ix3 b x s)
    = ent (m (c, Proc.tc.devRef main_arg2) : S2048x2048.Idx → EReal) x (512 * (t.val % 4) + s) := by
  have hi := (idxs t).2.1
  have ht : t.val < 16 := t.isLt
  have e : (iblk m c 1 t : S1x2048x512.Idx → EReal) (ix3 b x s)
      = (V m c main_v7 : S1x2048x2048.Idx → EReal) (ix3 0 x ⟨512 * (t.val % 4) + s, by omega⟩) := by
    blk_simp [iblk]
    blk_ext [hi]
  rw [e, rhs_at]

/-- Half of a column of the activations times a column of the output's gradient. -/
abbrev prod (m : (ℓ : Loc nD τ sig) → Buf (Elt Ideal) ℓ) (c : Dev nD) (r s : ℕ) : EReal :=
  half * dot (fun x => ent (act (m (c, Proc.tc.devRef main_arg0))) x r) (fun x => ent (m (c, Proc.tc.devRef main_arg2) : S2048x2048.Idx → EReal) x s) 2048

/-- The scratch holds this panel's columns of the activations. -/
theorem held : ∀ (n : ℕ) (h : n < cfg0.N) (r : Fin 1408) (x : Fin 2048),
    ((outsAt0 m c n h).2 : S1408x2048.Idx → EReal) (ix2 r x) = ent (act (m (c, Proc.tc.devRef main_arg0))) x (1408 * (n / 4) + r) := by
  intro n
  induction n with
  | zero =>
    intro h r x
    rw [outsAt0_A m c ⟨0, h⟩ rfl]
    dsimp only
    rw [soutA]
    exact blk0 m c ⟨0, h⟩ 0 x r
  | succ n ih =>
    intro h r x
    by_cases h0 : (n + 1) % 4 = 0
    · rw [outsAt0_A m c ⟨n + 1, h⟩ h0]
      dsimp only
      rw [soutA]
      exact blk0 m c ⟨n + 1, h⟩ 0 x r
    · rw [outsAt0_B m c ⟨n + 1, h⟩ h0]
      dsimp only
      rw [soutB]
      refine (ih (Nat.lt_of_succ_lt h) r x).trans ?_
      rw [show (n + 1) / 4 = n / 4 by omega]

theorem out_at (t : Fin cfg0.N) (a : Fin 1) (r : Fin 1408) (s : Fin 512) :
    ((outsAt0 m c t.val t.isLt).1 : S1x1408x512.Idx → EReal) (ix3 a r s) = prod m c (1408 * (t.val / 4) + r) (512 * (t.val % 4) + s) := by
  have hs := held m c t.val t.isLt
  by_cases h0 : t.val % 4 = 0
  · rw [outsAt0_A m c t h0]
    dsimp only
    rw [outA]
    refine (pay4_at _ _ a r s).trans (congrArg _ (Eq.trans ?_ (dot_fin _ _ _)))
    refine Finset.sum_congr rfl fun x _ => ?_
    rw [blk1]
    exact congrArg (· * _) (blk0 m c t 0 x r)
  · have hp := held m c (t.val - 1) (Nat.lt_of_le_of_lt (Nat.sub_le _ _) t.isLt)
    rw [outsAt0_B m c t h0]
    dsimp only
    rw [outB]
    refine (pay4_at _ _ a r s).trans (congrArg _ (Eq.trans ?_ (dot_fin _ _ _)))
    refine Finset.sum_congr rfl fun x _ => ?_
    rw [blk1, hp, show (t.val - 1) / 4 = t.val / 4 by omega]

/-- Every panel of the product. -/
def G (m : (ℓ : Loc nD τ sig) → Buf (Elt Ideal) ℓ) (c : Dev nD) : S4x1408x2048.Idx → EReal := fun y => prod m c (1408 * (y 0).val + (y 1).val) (y 2)

theorem array : (dats m 0 c).arrAt 2 cfg0.N = (G m c : S4x1408x2048.Idx → EReal) := by
  refine (dats m 0 c).arrAt_eq_of_covers 2 (G m c) (by decide +kernel) fun t hf y => ?_
  have hi := (idxs t).2.2
  have ht : t.val < 16 := t.isLt
  blk_simp
  rw [after0_2]
  obtain ⟨a, r, s, rfl⟩ : ∃ (a : Fin 1) (r : Fin 1408) (s : Fin 512), y = ix3 a r s := ⟨y 0, y 1, y 2, (ix3_eta y).symm⟩
  refine (out_at m c t a r s).trans ?_
  unfold G
  blk_simp [hi]
  rw [Nat.mul_comm 512]

end Cert.Proof.Wout

namespace Cert.Proof.Wout
open Idealize.ShloMosaic Idealize.ShloMosaic.TcCoe Idealize.SL.Sem
section Reference
open Cert.ReferenceWoutIdeal Cert.ReferenceWoutIdeal.Gen

/-- The reference's result. -/
def ref (g : FVec Ideal S2048x11264 .f32) (d : FVec Ideal S2048x2048 .f32) : FVec Ideal S4x1408x2048 .bf16 :=
  truncf .bf16 (shapeCast _ (transpose S5632x2048 [1, 0] (Host.dotGeneral dot_S2048x2048_S2048x5632_S2048x5632_0_0_1_1_n_n none (mulf (broadcastInDim S2048x2048 ![] bcast_S_S2048x2048 (constant S_ .f32 0x3F000000#32)) d) (mulf (mulf (extractStridedSlice S2048x5632 ![0, 0] g slices_S2048x11264_S2048x5632_0_0) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] g slices_S2048x11264_S2048x5632_0_0)))))) (extractStridedSlice S2048x5632 ![0, 5632] g slices_S2048x11264_S2048x5632_0_5632))) transposes_S2048x5632_S5632x2048_1_0) shapeCasts_S5632x2048_S4x1408x2048) bitsLt_bf16_f32
theorem ref_at (g : FVec Ideal S2048x11264 .f32) (d : FVec Ideal S2048x2048 .f32) (a : Fin 4) (r : Fin 1408) (s : Fin 2048) :
    ref g d (ix3 a r s) = half * dot (fun x => ent (act g) x (1408 * a + r)) (fun x => ent d x s) 2048 := by
  rw [mul_dot half_nonneg half_ne_top]
  refine Eq.trans ?_ (dot_fin _ _ _)
  refine Eq.trans (b := ∑ x : Fin 2048, half * d (ix2 x s) * act g (ix2 x ⟨a * 1408 + r, by omega⟩)) ?_ ?_
  · pointwise [ref, act]
  · exact Finset.sum_congr rfl fun x _ => by rw [ent_eq d (r := x) (k := s) rfl rfl, ent_eq (act g) (r := x) (k := 1408 * a + r) rfl (by simp only; omega), mul_comm]
end Reference

/-- The reference's result is the kernel's. -/
theorem value (m : (ℓ : Loc Cert.KernelWoutIdeal.nD Cert.KernelWoutIdeal.τ Cert.KernelWoutIdeal.sig) → Buf (Elt Ideal) ℓ) (c : Dev Cert.KernelWoutIdeal.nD)
    (g : FVec Ideal Cert.ReferenceWoutIdeal.S2048x11264 .f32) (d : FVec Ideal Cert.ReferenceWoutIdeal.S2048x2048 .f32)
    (hg : g = m (c, Proc.tc.devRef Cert.KernelWoutIdeal.main_arg0)) (hd : d = m (c, Proc.tc.devRef Cert.KernelWoutIdeal.main_arg2)) : ref g d = G m c := by
  subst hg hd
  refine funext fun i => ?_
  obtain ⟨a, r, s, rfl⟩ : ∃ (a : Fin 4) (r : Fin 1408) (s : Fin 2048), i = ix3 a r s := ⟨i 0, i 1, i 2, (ix3_eta i).symm⟩
  exact ref_at _ _ a r s

end Cert.Proof.Wout
-- ==== Proof.FfnWin.lean ====
/- The gradient of the feed-forward input weight: the kernel transposes the activations into a scratch once per panel of rows and multiplies panel by panel. -/
module

public import proofs.«01_k».proof.Proof.Gen.KernelWinIdeal.Value
public import proofs.«01_k».proof.Proof.Gen.ReferenceWinIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.Win
open Idealize.ShloMosaic Idealize.ShloMosaic.TcCoe Idealize.SL.Sem
open Cert.KernelWinIdeal Cert.KernelWinIdeal.Gen Cert.KernelWinIdeal.Value

theorem pay5_at (v3 : Vec Ideal S1024x2048 .bf16) (v4 : Vec Ideal S1x2048x1408 .bf16) (a : Fin 1) (r : Fin 1024) (s : Fin 1408) :
    k0_pay5 (F := Ideal) v3 v4 (ix3 a r s) = ∑ x : Fin 2048, v3 (ix2 r x) * v4 (ix3 0 x s) := by pointwise [k0_pay5]

section Body
variable (c : Dev nD) (i : grid0.Coords) (arg3 : Memref sig .tc .vmem S1x2048x1024 .bf16) (harg3 : arg3.IsWhole) (arg4 : Memref sig .tc .vmem S1x2048x1408 .bf16) (harg4 : arg4.IsWhole) (arg5 : Memref sig .tc .vmem S1x1024x1408 .bf16) (harg5 : arg5.IsWhole) (arg6 : Memref sig .tc .vmem S1024x2048 .bf16) (harg6 : arg6.IsWhole)
  (x0 : Vec Ideal S1x2048x1024 .bf16) (x1 : Vec Ideal S1x2048x1408 .bf16) (xs0 : Vec Ideal S1024x2048 .bf16)

/-- The block turned on its side. -/
def flip (x0 : Vec Ideal S1x2048x1024 .bf16) : Vec Ideal S1024x2048 .bf16 := fun y => x0 (ix3 0 (y 1) (y 0))

/-- Four stores of 256 rows each fill the scratch. -/
theorem filled : View.canon [
    ⟨Rect.unit ![768, 0] ![256, 2048] inb_S1024x2048_S256x2048_768_0, k0_pay4 (View.ld x0 (Rect.unit ![0, 0, 768] ![1, 2048, 256] inb_S1x2048x1024_S1x2048x256_0_0_768))⟩,
    ⟨Rect.unit ![512, 0] ![256, 2048] inb_S1024x2048_S256x2048_512_0, k0_pay3 (View.ld x0 (Rect.unit ![0, 0, 512] ![1, 2048, 256] inb_S1x2048x1024_S1x2048x256_0_0_512))⟩,
    ⟨Rect.unit ![256, 0] ![256, 2048] inb_S1024x2048_S256x2048_256_0, k0_pay2 (View.ld x0 (Rect.unit ![0, 0, 256] ![1, 2048, 256] inb_S1x2048x1024_S1x2048x256_0_0_256))⟩,
    ⟨Rect.unit ![0, 0] ![256, 2048] inb_S1024x2048_S256x2048_0_0, k0_pay1 (View.ld x0 (Rect.unit ![0, 0, 0] ![1, 2048, 256] inb_S1x2048x1024_S1x2048x256_0_0_0))⟩]
    = (flip x0 : S1024x2048.Idx → EReal) := by
  funext y
  canon_tiles x h
  all_goals pointwise [k0_pay1, k0_pay2, k0_pay3, k0_pay4, flip]
  all_goals exact congrArg x0 (congrArg₂ (ix3 0) (Fin.ext h1.symm) (Fin.ext (by first | exact h0.symm | (simp only; omega))))

theorem soutA (hc0 : cond0_0 i) :
    sout0_A_0 c i arg3 harg3 arg4 harg4 arg5 harg5 arg6 harg6 hc0 x0 x1 = flip x0 := by
  refine Eq.trans ?_ (filled x0)
  frame_out
theorem soutB (hc0 : ¬cond0_0 i) :
    sout0_B_0 c i arg3 harg3 arg4 harg4 arg5 harg5 arg6 harg6 hc0 x0 x1 xs0 = xs0 := rfl
theorem outA (hc0 : cond0_0 i) :
    out0_A_2 c i arg3 harg3 arg4 harg4 arg5 harg5 arg6 harg6 hc0 x0 x1 = k0_pay5 (flip x0) x1 := by
  frame_out
  refine congrArg (fun z => k0_pay5 z x1) ?_
  rw [View.readCov_eq_canon']
  exact funext fun y => (congrArg _ (Rect.emb_unit_full _ y)).trans (congrFun (filled x0) y)
theorem outB (hc0 : ¬cond0_0 i) :
    out0_B_2 c i arg3 harg3 arg4 harg4 arg5 harg5 arg6 harg6 hc0 x0 x1 xs0 = k0_pay5 xs0 x1 := by
  frame_out
end Body

variable (m : (ℓ : Loc nD τ sig) → Buf (Elt Ideal) ℓ) (c : Dev nD)

theorem idxs : ∀ t : Fin cfg0.N, win0_0.index t = ![0, 0, t.val / 8] ∧ win0_1.index t = ![t.val % 8 / 4, 0, t.val % 4]
    ∧ win0_2.index t = ![t.val % 8 / 2, t.val / 8, t.val % 2] := by decide +kernel

theorem lhs_at (a : Fin 1) (x r : Fin 2048) : (V m c main_v7 : S1x2048x2048.Idx → EReal) (ix3 a x r)
    = ent (m (c, Proc.tc.devRef main_arg0) : S2048x2048.Idx → EReal) x r := by
  refine Eq.trans ?_ (ent_eq _ (i := x) (j := r) rfl rfl)
  conv_lhs => simp only [V]
  after_results_simp
  pointwise

theorem rhs_at (a : Fin 2) (x : Fin 2048) (s : Fin 5632) : (V m c main_v5 : S2x2048x5632.Idx → EReal) (ix3 a x s)
    = ent (m (c, Proc.tc.devRef main_arg2) : S2048x11264.Idx → EReal) x (5632 * a + s) := by
  refine Eq.trans ?_ (ent_eq _ (i := x) (j := ⟨5632 * a + s, by omega⟩) rfl rfl)
  conv_lhs => simp only [V]
  after_results_simp
  match a with
  | 0 => pointwise; after_results_simp; pointwise
  | 1 => pointwise; after_results_simp; pointwise

theorem blk0 (t : Fin cfg0.N) (b : Fin 1) (x : Fin 2048) (r : Fin 1024) : (iblk m c 0 t : S1x2048x1024.Idx → EReal) (ix3 b x r)
    = ent (m (c, Proc.tc.devRef main_arg0) : S2048x2048.Idx → EReal) x (1024 * (t.val / 8) + r) := by
  have hi := (idxs t).1
  have ht : t.val < 16 := t.isLt
  have e : (iblk m c 0 t : S1x2048x1024.Idx → EReal) (ix3 b x r)
      = (V m c main_v7 : S1x2048x2048.Idx → EReal) (ix3 0 x ⟨1024 * (t.val / 8) + r, by omega⟩) := by
    blk_simp [iblk]
    blk_ext [hi]
  rw [e, lhs_at]

theorem blk1 (t : Fin cfg0.N) (b : Fin 1) (x : Fin 2048) (s : Fin 1408) : (iblk m c 1 t : S1x2048x1408.Idx → EReal) (ix3 b x s)
    = ent (m (c, Proc.tc.devRef main_arg2) : S2048x11264.Idx → EReal) x (1408 * (t.val % 8) + s) := by
  have hi := (idxs t).2.1
  have ht : t.val < 16 := t.isLt
  have e : (iblk m c 1 t : S1x2048x1408.Idx → EReal) (ix3 b x s)
      = (V m c main_v5 : S2x2048x5632.Idx → EReal) (ix3 ⟨t.val % 8 / 4, by omega⟩ x ⟨1408 * (t.val % 4) + s, by omega⟩) := by
    blk_simp [iblk]
    blk_ext [hi]
  rw [e, rhs_at]
  exact congrArg _ (by show 5632 * (t.val % 8 / 4) + (1408 * (t.val % 4) + s.val) = _; omega)

/-- A column of the activations times a column of the gradient. -/
abbrev prod (m : (ℓ : Loc nD τ sig) → Buf (Elt Ideal) ℓ) (c : Dev nD) (r s : ℕ) : EReal :=
  dot (fun x => ent (m (c, Proc.tc.devRef main_arg0) : S2048x2048.Idx → EReal) x r) (fun x => ent (m (c, Proc.tc.devRef main_arg2) : S2048x11264.Idx → EReal) x s) 2048

/-- The scratch holds this panel's columns of the activations. -/
theorem held : ∀ (n : ℕ) (h : n < cfg0.N) (r : Fin 1024) (x : Fin 2048),
    ((outsAt0 m c n h).2 : S1024x2048.Idx → EReal) (ix2 r x) = ent (m (c, Proc.tc.devRef main_arg0) : S2048x2048.Idx → EReal) x (1024 * (n / 8) + r) := by
  intro n
  induction n with
  | zero =>
    intro h r x
    rw [outsAt0_A m c ⟨0, h⟩ rfl]
    dsimp only
    rw [soutA]
    exact blk0 m c ⟨0, h⟩ 0 x r
  | succ n ih =>
    intro h r x
    by_cases h0 : (n + 1) % 8 = 0
    · rw [outsAt0_A m c ⟨n + 1, h⟩ h0]
      dsimp only
      rw [soutA]
      exact blk0 m c ⟨n + 1, h⟩ 0 x r
    · rw [outsAt0_B m c ⟨n + 1, h⟩ h0]
      dsimp only
      rw [soutB]
      refine (ih (Nat.lt_of_succ_lt h) r x).trans ?_
      rw [show (n + 1) / 8 = n / 8 by omega]

theorem out_at (t : Fin cfg0.N) (a : Fin 1) (r : Fin 1024) (s : Fin 1408) :
    ((outsAt0 m c t.val t.isLt).1 : S1x1024x1408.Idx → EReal) (ix3 a r s) = prod m c (1024 * (t.val / 8) + r) (1408 * (t.val % 8) + s) := by
  have hs := held m c t.val t.isLt
  by_cases h0 : t.val % 8 = 0
  · rw [outsAt0_A m c t h0]
    dsimp only
    rw [outA]
    refine (pay5_at _ _ a r s).trans (Eq.trans ?_ (dot_fin _ _ _))
    refine Finset.sum_congr rfl fun x _ => ?_
    rw [blk1]
    exact congrArg (· * _) (blk0 m c t 0 x r)
  · have hp := held m c (t.val - 1) (Nat.lt_of_le_of_lt (Nat.sub_le _ _) t.isLt)
    rw [outsAt0_B m c t h0]
    dsimp only
    rw [outB]
    refine (pay5_at _ _ a r s).trans (Eq.trans ?_ (dot_fin _ _ _))
    refine Finset.sum_congr rfl fun x _ => ?_
    rw [blk1, hp, show (t.val - 1) / 8 = t.val / 8 by omega]

/-- Every panel of the product. -/
def G (m : (ℓ : Loc nD τ sig) → Buf (Elt Ideal) ℓ) (c : Dev nD) : S4x2048x2816.Idx → EReal := fun y => prod m c (y 1) (2816 * (y 0).val + (y 2).val)

theorem array : (dats m 0 c).arrAt 2 cfg0.N = (G m c : S4x2048x2816.Idx → EReal) := by
  refine (dats m 0 c).arrAt_eq_of_covers 2 (G m c) (by decide +kernel) fun t hf y => ?_
  have hi := (idxs t).2.2
  have ht : t.val < 16 := t.isLt
  blk_simp
  rw [after0_2]
  obtain ⟨a, r, s, rfl⟩ : ∃ (a : Fin 1) (r : Fin 1024) (s : Fin 1408), y = ix3 a r s := ⟨y 0, y 1, y 2, (ix3_eta y).symm⟩
  refine (out_at m c t a r s).trans ?_
  unfold G
  blk_simp [hi]
  rw [show 1408 * (t.val % 8) + s.val = 2816 * (t.val % 8 / 2) + (t.val % 2 * 1408 + s.val) by omega, Nat.mul_comm]

end Cert.Proof.Win

namespace Cert.Proof.Win
open Idealize.ShloMosaic Idealize.ShloMosaic.TcCoe Idealize.SL.Sem
section Reference
open Cert.ReferenceWinIdeal Cert.ReferenceWinIdeal.Gen

/-- The reference's result. -/
def ref (x : FVec Ideal S2048x2048 .f32) (w : FVec Ideal S2048x11264 .f32) : FVec Ideal S4x2048x2816 .bf16 :=
  truncf .bf16 ((concatenate S4x2048x2816 0 [⟨S1x2048x2816, ((broadcastInDim S1x2048x2816 ![1, 2] bcast_S2048x2816_S1x2048x2816_1_2 (extractStridedSlice S2048x2816 ![0, 0] (transpose S2048x11264 [1, 0] (Host.dotGeneral dot_S2048x11264_S2048x2048_S11264x2048_0_0_1_1_n_n none w x) transposes_S11264x2048_S2048x11264_1_0) slices_S2048x11264_S2048x2816_0_0)) : (⟨S1x2048x2816, .f32⟩ : BufTy).Contents (Elt Ideal))⟩, ⟨S1x2048x2816, ((broadcastInDim S1x2048x2816 ![1, 2] bcast_S2048x2816_S1x2048x2816_1_2 (extractStridedSlice S2048x2816 ![0, 2816] (transpose S2048x11264 [1, 0] (Host.dotGeneral dot_S2048x11264_S2048x2048_S11264x2048_0_0_1_1_n_n none w x) transposes_S11264x2048_S2048x11264_1_0) slices_S2048x11264_S2048x2816_0_2816)) : (⟨S1x2048x2816, .f32⟩ : BufTy).Contents (Elt Ideal))⟩, ⟨S1x2048x2816, ((broadcastInDim S1x2048x2816 ![1, 2] bcast_S2048x2816_S1x2048x2816_1_2 (extractStridedSlice S2048x2816 ![0, 5632] (transpose S2048x11264 [1, 0] (Host.dotGeneral dot_S2048x11264_S2048x2048_S11264x2048_0_0_1_1_n_n none w x) transposes_S11264x2048_S2048x11264_1_0) slices_S2048x11264_S2048x2816_0_5632)) : (⟨S1x2048x2816, .f32⟩ : BufTy).Contents (Elt Ideal))⟩, ⟨S1x2048x2816, ((broadcastInDim S1x2048x2816 ![1, 2] bcast_S2048x2816_S1x2048x2816_1_2 (extractStridedSlice S2048x2816 ![0, 8448] (transpose S2048x11264 [1, 0] (Host.dotGeneral dot_S2048x11264_S2048x2048_S11264x2048_0_0_1_1_n_n none w x) transposes_S11264x2048_S2048x11264_1_0) slices_S2048x11264_S2048x2816_0_8448)) : (⟨S1x2048x2816, .f32⟩ : BufTy).Contents (Elt Ideal))⟩] concatenates_S1x2048x2816_S1x2048x2816_S1x2048x2816_S1x2048x2816_S4x2048x2816_d0 : (⟨S4x2048x2816, .f32⟩ : BufTy).Contents (Elt Ideal))) bitsLt_bf16_f32

theorem ref_at (x : FVec Ideal S2048x2048 .f32) (w : FVec Ideal S2048x11264 .f32) (a : Fin 4) (r : Fin 2048) (s : Fin 2816) :
    ref x w (ix3 a r s) = dot (fun k => ent x k r) (fun k => ent w k (2816 * a + s)) 2048 := by
  refine Eq.trans ?_ (dot_fin _ _ _)
  refine Eq.trans (b := ∑ k : Fin 2048, w (ix2 k ⟨2816 * a + s, by omega⟩) * x (ix2 k r)) ?_ ?_
  · match a with
    | 0 => pointwise [ref]
    | 1 => pointwise [ref]
    | 2 => pointwise [ref]
    | 3 => pointwise [ref]
  · exact Finset.sum_congr rfl fun k _ => by rw [ent_eq x (r := k) (k := r) rfl rfl, ent_eq w (r := k) (k := 2816 * a + s) rfl rfl, mul_comm]
end Reference

/-- The reference's result is the kernel's. -/
theorem value (m : (ℓ : Loc Cert.KernelWinIdeal.nD Cert.KernelWinIdeal.τ Cert.KernelWinIdeal.sig) → Buf (Elt Ideal) ℓ) (c : Dev Cert.KernelWinIdeal.nD)
    (x : FVec Ideal Cert.ReferenceWinIdeal.S2048x2048 .f32) (w : FVec Ideal Cert.ReferenceWinIdeal.S2048x11264 .f32)
    (hx : x = m (c, Proc.tc.devRef Cert.KernelWinIdeal.main_arg0)) (hw : w = m (c, Proc.tc.devRef Cert.KernelWinIdeal.main_arg2)) : ref x w = G m c := by
  subst hx hw
  refine funext fun i => ?_
  obtain ⟨a, r, s, rfl⟩ : ∃ (a : Fin 4) (r : Fin 2048) (s : Fin 2816), i = ix3 a r s := ⟨i 0, i 1, i 2, (ix3_eta i).symm⟩
  exact ref_at _ _ a r s

end Cert.Proof.Win
-- ==== Proof.FfnDn.lean ====
/- The gradient of the feed-forward input: the kernel adds four panels of the hidden axis, the reference sums it whole. -/
module

public import proofs.«01_k».proof.Proof.Gen.KernelDnIdeal.Value
public import proofs.«01_k».proof.Proof.Gen.ReferenceDnIdeal.Run
public import proofs.«01_k».proof.Proof.Prod
public import Idealize.ShloMosaic.Lib.Pipeline.ValueKit
public import Idealize.ShloMosaic.Lib.Pointwise

@[expose] public section

set_option maxRecDepth 16384

noncomputable section

namespace Cert.Proof.Dn
open Idealize.ShloMosaic Idealize.ShloMosaic.TcCoe Idealize.SL.Sem
open Cert.KernelDnIdeal Cert.KernelDnIdeal.Gen Cert.KernelDnIdeal.Value

theorem pay2_at (v0 v2 : Vec Ideal S1x1024x2816 .bf16) (r s : Fin 1024) :
    k0_pay2 (F := Ideal) v0 v2 (ix2 r s) = ∑ x : Fin 2816, v0 (ix3 0 r x) * v2 (ix3 0 s x) := by pointwise [k0_pay2, k0_pay1]
theorem pay3_at (v0 v2 : Vec Ideal S1x1024x2816 .bf16) (v14 : Vec Ideal S1024x1024 .f32) (r s : Fin 1024) :
    k0_pay3 (F := Ideal) v0 v2 v14 (ix2 r s) = v14 (ix2 r s) + ∑ x : Fin 2816, v0 (ix3 0 r x) * v2 (ix3 0 s x) := by pointwise [k0_pay3, k0_pay1]
theorem pay4_at (v14 : Vec Ideal S1024x1024 .f32) (a : Fin 1) (r s : Fin 1024) :
    k0_pay4 (F := Ideal) v14 (ix3 a r s) = v14 (ix2 r s) := by pointwise [k0_pay4]

section Body
variable (c : Dev nD) (i : grid0.Coords) (arg3 : Memref sig .tc .vmem S1x1024x2816 .bf16) (harg3 : arg3.IsWhole) (arg4 : Memref sig .tc .vmem S1x1024x2816 .bf16) (harg4 : arg4.IsWhole) (arg5 : Memref sig .tc .vmem S1x1024x1024 .f32) (harg5 : arg5.IsWhole) (arg6 : Memref sig .tc .vmem S1024x1024 .f32) (harg6 : arg6.IsWhole)
  (x0 x1 : Vec Ideal S1x1024x2816 .bf16) (xs0 : Vec Ideal S1024x1024 .f32)
theorem soutA (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  frame_out
theorem soutB (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  frame_out
theorem soutC (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  frame_out
theorem outC (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  frame_out
end Body

variable (m : (ℓ : Loc nD τ sig) → Buf (Elt Ideal) ℓ) (c : Dev nD)

theorem idxs : ∀ t : Fin cfg0.N, win0_0.index t = ![t.val % 4 / 2, t.val / 8, t.val % 2] ∧ win0_1.index t = ![t.val % 4, t.val / 4 % 2, 0] := by decide +kernel

/-- The gates' and the values' gradients, one plane each. -/
theorem lhs_at (a : Fin 2) (r : Fin 2048) (k : Fin 5632) : (V m c main_v5 : S2x2048x5632.Idx → EReal) (ix3 a r k)
    = ent (m (c, Proc.tc.devRef main_arg2) : S2048x11264.Idx → EReal) r (5632 * a + k) := by
  refine Eq.trans ?_ (ent_eq _ (i := r) (j := ⟨5632 * a + k, by omega⟩) rfl rfl)
  conv_lhs => simp only [V]
  after_results_simp
  match a with
  | 0 => pointwise; after_results_simp; pointwise
  | 1 => pointwise; after_results_simp; pointwise

/-- The weight's columns in four panels. -/
theorem rhs_at (a : Fin 4) (r : Fin 2048) (k : Fin 2816) : (V m c main_v15 : S4x2048x2816.Idx → EReal) (ix3 a r k)
    = ent (m (c, Proc.tc.devRef main_arg1) : S2048x11264.Idx → EReal) r (2816 * a + k) := by
  refine Eq.trans ?_ (ent_eq _ (i := r) (j := ⟨2816 * a + k, by omega⟩) rfl rfl)
  conv_lhs => simp only [V]
  after_results_simp
  match a with
  | 0 => pointwise; after_results_simp; pointwise
  | 1 => pointwise; after_results_simp; pointwise
  | 2 => pointwise; after_results_simp; pointwise
  | 3 => pointwise; after_results_simp; pointwise

theorem blk0 (t : Fin cfg0.N) (b : Fin 1) (r : Fin 1024) (x : Fin 2816) : (iblk m c 0 t : S1x1024x2816.Idx → EReal) (ix3 b r x)
    = ent (m (c, Proc.tc.devRef main_arg2) : S2048x11264.Idx → EReal) (1024 * (t.val / 8) + r) (2816 * (t.val % 4) + x) := by
  have hi := (idxs t).1
  have ht : t.val < 16 := t.isLt
  have e : (iblk m c 0 t : S1x1024x2816.Idx → EReal) (ix3 b r x)
      = (V m c main_v5 : S2x2048x5632.Idx → EReal) (ix3 ⟨t.val % 4 / 2, by omega⟩ ⟨1024 * (t.val / 8) + r, by omega⟩ ⟨2816 * (t.val % 2) + x, by omega⟩) := by
    blk_simp [iblk]
    blk_ext [hi]
  rw [e, lhs_at]
  exact congrArg _ (by show 5632 * (t.val % 4 / 2) + (2816 * (t.val % 2) + x.val) = _; omega)
theorem blk1 (t : Fin cfg0.N) (b : Fin 1) (r : Fin 1024) (x : Fin 2816) : (iblk m c 1 t : S1x1024x2816.Idx → EReal) (ix3 b r x)
    = ent (m (c, Proc.tc.devRef main_arg1) : S2048x11264.Idx → EReal) (1024 * (t.val / 4 % 2) + r) (2816 * (t.val % 4) + x) := by
  have hi := (idxs t).2
  have ht : t.val < 16 := t.isLt
  have e : (iblk m c 1 t : S1x1024x2816.Idx → EReal) (ix3 b r x)
      = (V m c main_v15 : S4x2048x2816.Idx → EReal) (ix3 ⟨t.val % 4, by omega⟩ ⟨1024 * (t.val / 4 % 2) + r, by omega⟩ x) := by
    blk_simp [iblk]
    blk_ext [hi]
  rw [e, rhs_at]

/-- The product of a row of the gradient and a row of the weight, as far as `n` hidden units. -/
abbrev part (m : (ℓ : Loc nD τ sig) → Buf (Elt Ideal) ℓ) (c : Dev nD) (r s n : ℕ) : EReal :=
  dot (ent (m (c, Proc.tc.devRef main_arg2) : S2048x11264.Idx → EReal) r) (ent (m (c, Proc.tc.devRef main_arg1) : S2048x11264.Idx → EReal) s) n

/-- After point `n` the running sum has the panels up to this point's; after the last it is the output block. -/
def After (n : ℕ) (st : Vec Ideal S1x1024x1024 .f32 × Vec Ideal S1024x1024 .f32) : Prop :=
  (∀ r s : Fin 1024, st.2 (ix2 r s) = part m c (1024 * (n / 8) + r) (1024 * (n / 4 % 2) + s) (2816 * (n % 4) + 2816))
  ∧ (n % 4 = 3 → ∀ (a : Fin 1) (r s : Fin 1024), st.1 (ix3 a r s) = st.2 (ix2 r s))

theorem pay3_part (t : Fin cfg0.N) (h0 : t.val % 4 ≠ 0) (acc : Vec Ideal S1x1024x1024 .f32 × Vec Ideal S1024x1024 .f32) (ha : After m c (t.val - 1) acc) (r s : Fin 1024) :
    k0_pay3 (F := Ideal) (iblk m c 0 t) (iblk m c 1 t) acc.2 (ix2 r s)
      = part m c (1024 * (t.val / 8) + r) (1024 * (t.val / 4 % 2) + s) (2816 * (t.val % 4) + 2816) := by
  refine (pay3_at _ _ _ r s).trans ?_
  rw [ha.1]
  simp only [blk0 m c t, blk1 m c t]
  rw [show (t.val - 1) / 8 = t.val / 8 by omega, show (t.val - 1) / 4 % 2 = t.val / 4 % 2 by omega, show 2816 * ((t.val - 1) % 4) + 2816 = 2816 * (t.val % 4) by omega]
  exact dot_add _ _ _ _

theorem after_step (t : Fin cfg0.N) (acc : Vec Ideal S1x1024x1024 .f32 × Vec Ideal S1024x1024 .f32)
    (ha : t.val % 4 ≠ 0 → After m c (t.val - 1) acc) : After m c t.val (stAt0 m c t.val t.isLt acc) := by
  by_cases h0 : t.val % 4 = 0
  · rw [stAt0_A m c t acc h0 (by omega) (by omega), soutA]
    refine ⟨fun r s => (pay2_at _ _ r s).trans ?_, fun h => absurd h (by omega)⟩
    simp only [blk0 m c t, blk1 m c t]
    exact dot_first _ _ _ (by omega)
  · by_cases h2 : t.val % 4 = 3
    · rw [stAt0_C m c t acc h0 (by omega) h2, soutC, outC]
      exact ⟨pay3_part m c t h0 acc (ha h0), fun _ a r s => pay4_at (k0_pay3 (iblk m c 0 t) (iblk m c 1 t) acc.2) a r s⟩
    · rw [stAt0_B m c t acc h0 (by omega) h2, soutB]
      exact ⟨pay3_part m c t h0 acc (ha h0), fun h => absurd h h2⟩

theorem after_all : ∀ (n : ℕ) (h : 0 + n < cfg0.N),
    After m c n (Pipeline.accAt (fun n h => stAt0 m c n h junk0) (stAt0 m c) 0 n h)
  | 0, h => after_step m c ⟨0, h⟩ junk0 fun hn => absurd rfl hn
  | n + 1, h => by
    have ih := after_all n (Nat.lt_of_succ_lt h)
    have key : ∀ (k : ℕ) (hk : k < cfg0.N) (e : k = n + 1) (acc) (ha : After m c n acc), After m c (n + 1) (stAt0 m c k hk acc) := by
      intro k hk e acc ha; subst e; exact after_step m c ⟨n + 1, hk⟩ acc fun _ => ha
    exact key (0 + (n + 1)) h (Nat.zero_add _) _ ih

theorem G2_at (a : Fin 1) (r s : Fin 2048) : (G2 m c : S1x2048x2048.Idx → EReal) (ix3 a r s) = part m c r s 11264 := by
  have hp : pt2Of (ix3 a r s) = 8 * (r.val / 1024) + 4 * (s.val / 1024) + 3 := by
    show 4 * (4 * (a.val / 1 - 0) + 2 * (r.val / 1024 - 0) + 1 * (s.val / 1024 - 0)) + 3 = _; omega
  have hl : pt2Of (ix3 a r s) < cfg0.N := by rw [hp, show cfg0.N = 16 from N_0]; omega
  refine (dif_pos hl).trans ?_
  obtain ⟨h1, h2⟩ := after_all m c (pt2Of (ix3 a r s)) (by omega)
  have e := (h2 (by rw [hp]; omega) 0 ⟨r.val % 1024, by omega⟩ ⟨s.val % 1024, by omega⟩).trans (h1 _ _)
  refine Eq.trans (congrArg _ ?_) (e.trans ?_)
  · funext b; match b with
    | ⟨0, _⟩ => exact Fin.ext (show a.val % 1 = 0 by omega)
    | ⟨1, _⟩ => rfl
    | ⟨2, _⟩ => rfl
  · dsimp only
    rw [hp]
    congr 1 <;> omega

theorem ref_at (x : FVec Ideal Cert.ReferenceDnIdeal.S2048x11264 .f32) (w : FVec Ideal Cert.ReferenceDnIdeal.S2048x11264 .f32) (a : Fin 1) (r s : Fin 2048) :
    broadcastInDim Cert.ReferenceDnIdeal.S1x2048x2048 ![1, 2] Cert.ReferenceDnIdeal.Gen.facts.bcast_S2048x2048_S1x2048x2048_1_2
      (Host.dotGeneral (F := Ideal) Cert.ReferenceDnIdeal.dot_S2048x11264_S2048x11264_S2048x2048_1_1_0_0_n_n none x w) (ix3 a r s)
    = dot (ent x r) (ent w s) 11264 := by
  refine Eq.trans ?_ (dot_fin _ _ _)
  pointwise
  exact Finset.sum_congr rfl fun k _ => by rw [ent_eq x rfl rfl, ent_eq w rfl rfl]

/-- The reference's result is the kernel's. -/
theorem value (x w : FVec Ideal Cert.ReferenceDnIdeal.S2048x11264 .f32) (hx : x = m (c, Proc.tc.devRef main_arg2)) (hw : w = m (c, Proc.tc.devRef main_arg1)) :
    broadcastInDim Cert.ReferenceDnIdeal.S1x2048x2048 ![1, 2] Cert.ReferenceDnIdeal.Gen.facts.bcast_S2048x2048_S1x2048x2048_1_2
      (Host.dotGeneral (F := Ideal) Cert.ReferenceDnIdeal.dot_S2048x11264_S2048x11264_S2048x2048_1_1_0_0_n_n none x w) = G2 m c := by
  subst hx hw
  refine funext fun i => ?_
  obtain ⟨a, r, s, rfl⟩ : ∃ (a : Fin 1) (r s : Fin 2048), i = ix3 a r s := ⟨i 0, i 1, i 2, (ix3_eta i).symm⟩
  exact (ref_at _ _ a r s).trans (G2_at m c a r s).symm

end Cert.Proof.Dn
-- ==== Proof.SqDo.lean ====
/- The gradient of a square projection's input in bfloat16: 512 rows at a time against the whole weight in its four row panels. -/
module

public import proofs.«01_k».proof.Proof.Gen.KernelSqDoIdeal.Value
public import proofs.«01_k».proof.Proof.Gen.ReferenceSqDoIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.SqDo
open Idealize.ShloMosaic Idealize.ShloMosaic.TcCoe Idealize.SL.Sem
open Cert.KernelSqDoIdeal Cert.KernelSqDoIdeal.Gen Cert.KernelSqDoIdeal.Value

theorem pay1_at (v0 : Vec Ideal S1x512x2048 .bf16) (v2 : Vec Ideal S4x512x2048 .bf16) (a : Fin 1) (r : Fin 512) (s : Fin 2048) :
    k0_pay1 (F := Ideal) v0 v2 (ix3 a r s) = ∑ x : Fin 2048, v0 (ix3 0 r x) * v2 (ix3 ⟨s.val / 512, by omega⟩ ⟨s.val % 512, by omega⟩ x) := by pointwise [k0_pay1]
theorem out_at (x0 : Vec Ideal S1x512x2048 .bf16) (x1 : Vec Ideal S4x512x2048 .bf16) : out0_2 (F := Ideal) x0 x1 = k0_pay1 x0 x1 := by
  frame_out

variable (m : (ℓ : Loc nD τ sig) → Buf (Elt Ideal) ℓ) (c : Dev nD)

theorem idxs : ∀ t : Fin cfg0.N, win0_0.index t = ![0, t.val, 0] ∧ win0_1.index t = ![0, 0, 0] ∧ win0_2.index t = ![0, t.val, 0] := by decide +kernel

theorem lhs_at (a : Fin 1) (r : Fin 2048) (k : Fin 2048) : (V m c main_v1 : S1x2048x2048.Idx → EReal) (ix3 a r k)
    = ent (m (c, Proc.tc.devRef main_arg2) : S2048x2048.Idx → EReal) r k := by
  refine Eq.trans ?_ (ent_eq _ (i := r) (j := k) rfl rfl)
  conv_lhs => simp only [V]
  after_results_simp
  pointwise

theorem rhs_at (a : Fin 4) (r : Fin 512) (k : Fin 2048) : (V m c main_v3 : S4x512x2048.Idx → EReal) (ix3 a r k)
    = ent (m (c, Proc.tc.devRef main_arg1) : S2048x2048.Idx → EReal) (512 * a + r) k := by
  refine Eq.trans ?_ (ent_eq _ (i := ⟨a.val * 512 + r.val, by omega⟩) (j := k) (by simp only; omega) rfl)
  conv_lhs => simp only [V]
  after_results_simp
  pointwise

theorem blk0 (t : Fin cfg0.N) (b : Fin 1) (r : Fin 512) (x : Fin 2048) : (iblk m c 0 t : S1x512x2048.Idx → EReal) (ix3 b r x)
    = ent (m (c, Proc.tc.devRef main_arg2) : S2048x2048.Idx → EReal) (512 * t.val + r) x := by
  have hi := (idxs t).1
  have ht : t.val < 4 := t.isLt
  have e : (iblk m c 0 t : S1x512x2048.Idx → EReal) (ix3 b r x)
      = (V m c main_v1 : S1x2048x2048.Idx → EReal) (ix3 0 ⟨512 * t.val + r, by omega⟩ x) := by
    blk_simp [iblk]
    blk_ext [hi]
  rw [e, lhs_at]

theorem blk1 (t : Fin cfg0.N) (p : Fin 4) (r : Fin 512) (x : Fin 2048) : (iblk m c 1 t : S4x512x2048.Idx → EReal) (ix3 p r x)
    = ent (m (c, Proc.tc.devRef main_arg1) : S2048x2048.Idx → EReal) (512 * p + r) x := by
  have hi := (idxs t).2.1
  have e : (iblk m c 1 t : S4x512x2048.Idx → EReal) (ix3 p r x) = (V m c main_v3 : S4x512x2048.Idx → EReal) (ix3 p r x) := by
    blk_simp [iblk]
    blk_ext [hi]
  rw [e, rhs_at]

/-- A row of the gradient times a row of the weight. -/
abbrev prod (m : (ℓ : Loc nD τ sig) → Buf (Elt Ideal) ℓ) (c : Dev nD) (r s : ℕ) : EReal :=
  dot (ent (m (c, Proc.tc.devRef main_arg2) : S2048x2048.Idx → EReal) r) (ent (m (c, Proc.tc.devRef main_arg1) : S2048x2048.Idx → EReal) s) 2048
def G (m : (ℓ : Loc nD τ sig) → Buf (Elt Ideal) ℓ) (c : Dev nD) : S1x2048x2048.Idx → EReal := fun y => prod m c (y 1) (y 2)

theorem array : (dats m 0 c).arrAt 2 cfg0.N = (G m c : S1x2048x2048.Idx → EReal) := by
  refine (dats m 0 c).arrAt_eq_of_covers 2 (G m c) (by decide +kernel) fun t hf y => ?_
  have hi := (idxs t).2.2
  have ht : t.val < 4 := t.isLt
  blk_simp
  rw [after0_2, out_at]
  obtain ⟨a, r, s, rfl⟩ : ∃ (a : Fin 1) (r : Fin 512) (s : Fin 2048), y = ix3 a r s := ⟨y 0, y 1, y 2, (ix3_eta y).symm⟩
  refine (pay1_at _ _ a r s).trans ?_
  simp only [blk0, blk1]
  rw [show 512 * (s.val / 512) + s.val % 512 = s.val by omega, dot_fin (ent (m (c, Proc.tc.devRef main_arg2) : S2048x2048.Idx → EReal) (512 * t.val + r)) (ent (m (c, Proc.tc.devRef main_arg1) : S2048x2048.Idx → EReal) s)]
  unfold G
  blk_simp [hi]
  rw [Nat.mul_comm]

end Cert.Proof.SqDo

namespace Cert.Proof.SqDo
open Idealize.ShloMosaic Idealize.ShloMosaic.TcCoe Idealize.SL.Sem
section Reference
open Cert.ReferenceSqDoIdeal Cert.ReferenceSqDoIdeal.Gen

/-- The reference's result. -/
def ref (a1 : FVec Ideal S2048x2048 .f32) (a2 : FVec Ideal S2048x2048 .f32) : FVec Ideal S1x2048x2048 .bf16 :=
  truncf .bf16 (broadcastInDim S1x2048x2048 ![1, 2] bcast_S2048x2048_S1x2048x2048_1_2 (Host.dotGeneral dot_S2048x2048_S2048x2048_S2048x2048_1_1_0_0_n_n none a2 a1)) bitsLt_bf16_f32

theorem ref_at (a1 : FVec Ideal S2048x2048 .f32) (a2 : FVec Ideal S2048x2048 .f32) (a : Fin 1) (r s : Fin 2048) : ref a1 a2 (ix3 a r s) = dot (ent a2 r) (ent a1 s) 2048 := by
  refine Eq.trans ?_ (dot_fin _ _ _)
  pointwise [ref]
  exact Finset.sum_congr rfl fun k _ => by rw [ent_eq a2 rfl rfl, ent_eq a1 rfl rfl]
end Reference

/-- The reference's result is the kernel's. -/
theorem value (m : (ℓ : Loc Cert.KernelSqDoIdeal.nD Cert.KernelSqDoIdeal.τ Cert.KernelSqDoIdeal.sig) → Buf (Elt Ideal) ℓ) (c : Dev Cert.KernelSqDoIdeal.nD)
    (a1 : FVec Ideal Cert.ReferenceSqDoIdeal.S2048x2048 .f32) (a2 : FVec Ideal Cert.ReferenceSqDoIdeal.S2048x2048 .f32)
    (h1 : a1 = m (c, Proc.tc.devRef Cert.KernelSqDoIdeal.main_arg1)) (h2 : a2 = m (c, Proc.tc.devRef Cert.KernelSqDoIdeal.main_arg2)) : ref a1 a2 = G m c := by
  subst h1 h2
  refine funext fun i => ?_
  obtain ⟨a, r, s, rfl⟩ : ∃ (a : Fin 1) (r : Fin 2048) (s : Fin 2048), i = ix3 a r s := ⟨i 0, i 1, i 2, (ix3_eta i).symm⟩
  exact (ref_at _ _ a r s)

end Cert.Proof.SqDo
-- ==== Proof.SqDx.lean ====
/- The gradient of a square projection's input: 512 rows at a time against the whole weight in its four row panels. -/
module

public import proofs.«01_k».proof.Proof.Gen.KernelSqDxIdeal.Value
public import proofs.«01_k».proof.Proof.Gen.ReferenceSqDxIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.SqDx
open Idealize.ShloMosaic Idealize.ShloMosaic.TcCoe Idealize.SL.Sem
open Cert.KernelSqDxIdeal Cert.KernelSqDxIdeal.Gen Cert.KernelSqDxIdeal.Value

theorem pay1_at (v0 : Vec Ideal S1x512x2048 .bf16) (v2 : Vec Ideal S4x512x2048 .bf16) (a : Fin 1) (r : Fin 512) (s : Fin 2048) :
    k0_pay1 (F := Ideal) v0 v2 (ix3 a r s) = ∑ x : Fin 2048, v0 (ix3 0 r x) * v2 (ix3 ⟨s.val / 512, by omega⟩ ⟨s.val % 512, by omega⟩ x) := by pointwise [k0_pay1]
theorem out_at (x0 : Vec Ideal S1x512x2048 .bf16) (x1 : Vec Ideal S4x512x2048 .bf16) : out0_2 (F := Ideal) x0 x1 = k0_pay1 x0 x1 := by
  frame_out

variable (m : (ℓ : Loc nD τ sig) → Buf (Elt Ideal) ℓ) (c : Dev nD)

theorem idxs : ∀ t : Fin cfg0.N, win0_0.index t = ![0, t.val, 0] ∧ win0_1.index t = ![0, 0, 0] ∧ win0_2.index t = ![0, t.val, 0] := by decide +kernel

theorem lhs_at (a : Fin 1) (r : Fin 2048) (k : Fin 2048) : (V m c main_v1 : S1x2048x2048.Idx → EReal) (ix3 a r k)
    = ent (m (c, Proc.tc.devRef main_arg2) : S2048x2048.Idx → EReal) r k := by
  refine Eq.trans ?_ (ent_eq _ (i := r) (j := k) rfl rfl)
  conv_lhs => simp only [V]
  after_results_simp
  pointwise

theorem rhs_at (a : Fin 4) (r : Fin 512) (k : Fin 2048) : (V m c main_v3 : S4x512x2048.Idx → EReal) (ix3 a r k)
    = ent (m (c, Proc.tc.devRef main_arg1) : S2048x2048.Idx → EReal) (512 * a + r) k := by
  refine Eq.trans ?_ (ent_eq _ (i := ⟨a.val * 512 + r.val, by omega⟩) (j := k) (by simp only; omega) rfl)
  conv_lhs => simp only [V]
  after_results_simp
  pointwise

theorem blk0 (t : Fin cfg0.N) (b : Fin 1) (r : Fin 512) (x : Fin 2048) : (iblk m c 0 t : S1x512x2048.Idx → EReal) (ix3 b r x)
    = ent (m (c, Proc.tc.devRef main_arg2) : S2048x2048.Idx → EReal) (512 * t.val + r) x := by
  have hi := (idxs t).1
  have ht : t.val < 4 := t.isLt
  have e : (iblk m c 0 t : S1x512x2048.Idx → EReal) (ix3 b r x)
      = (V m c main_v1 : S1x2048x2048.Idx → EReal) (ix3 0 ⟨512 * t.val + r, by omega⟩ x) := by
    blk_simp [iblk]
    blk_ext [hi]
  rw [e, lhs_at]

theorem blk1 (t : Fin cfg0.N) (p : Fin 4) (r : Fin 512) (x : Fin 2048) : (iblk m c 1 t : S4x512x2048.Idx → EReal) (ix3 p r x)
    = ent (m (c, Proc.tc.devRef main_arg1) : S2048x2048.Idx → EReal) (512 * p + r) x := by
  have hi := (idxs t).2.1
  have e : (iblk m c 1 t : S4x512x2048.Idx → EReal) (ix3 p r x) = (V m c main_v3 : S4x512x2048.Idx → EReal) (ix3 p r x) := by
    blk_simp [iblk]
    blk_ext [hi]
  rw [e, rhs_at]

/-- A row of the gradient times a row of the weight. -/
abbrev prod (m : (ℓ : Loc nD τ sig) → Buf (Elt Ideal) ℓ) (c : Dev nD) (r s : ℕ) : EReal :=
  dot (ent (m (c, Proc.tc.devRef main_arg2) : S2048x2048.Idx → EReal) r) (ent (m (c, Proc.tc.devRef main_arg1) : S2048x2048.Idx → EReal) s) 2048
def G (m : (ℓ : Loc nD τ sig) → Buf (Elt Ideal) ℓ) (c : Dev nD) : S1x2048x2048.Idx → EReal := fun y => prod m c (y 1) (y 2)

theorem array : (dats m 0 c).arrAt 2 cfg0.N = (G m c : S1x2048x2048.Idx → EReal) := by
  refine (dats m 0 c).arrAt_eq_of_covers 2 (G m c) (by decide +kernel) fun t hf y => ?_
  have hi := (idxs t).2.2
  have ht : t.val < 4 := t.isLt
  blk_simp
  rw [after0_2, out_at]
  obtain ⟨a, r, s, rfl⟩ : ∃ (a : Fin 1) (r : Fin 512) (s : Fin 2048), y = ix3 a r s := ⟨y 0, y 1, y 2, (ix3_eta y).symm⟩
  refine (pay1_at _ _ a r s).trans ?_
  simp only [blk0, blk1]
  rw [show 512 * (s.val / 512) + s.val % 512 = s.val by omega, dot_fin (ent (m (c, Proc.tc.devRef main_arg2) : S2048x2048.Idx → EReal) (512 * t.val + r)) (ent (m (c, Proc.tc.devRef main_arg1) : S2048x2048.Idx → EReal) s)]
  unfold G
  blk_simp [hi]
  rw [Nat.mul_comm]

end Cert.Proof.SqDx

namespace Cert.Proof.SqDx
open Idealize.ShloMosaic Idealize.ShloMosaic.TcCoe Idealize.SL.Sem
section Reference
open Cert.ReferenceSqDxIdeal Cert.ReferenceSqDxIdeal.Gen

/-- The reference's result. -/
def ref (a1 : FVec Ideal S2048x2048 .f32) (a2 : FVec Ideal S2048x2048 .f32) : FVec Ideal S1x2048x2048 .f32 :=
  broadcastInDim S1x2048x2048 ![1, 2] bcast_S2048x2048_S1x2048x2048_1_2 (Host.dotGeneral dot_S2048x2048_S2048x2048_S2048x2048_1_1_0_0_n_n none a2 a1)

theorem ref_at (a1 : FVec Ideal S2048x2048 .f32) (a2 : FVec Ideal S2048x2048 .f32) (a : Fin 1) (r s : Fin 2048) : ref a1 a2 (ix3 a r s) = dot (ent a2 r) (ent a1 s) 2048 := by
  refine Eq.trans ?_ (dot_fin _ _ _)
  pointwise [ref]
  exact Finset.sum_congr rfl fun k _ => by rw [ent_eq a2 rfl rfl, ent_eq a1 rfl rfl]
end Reference

/-- The reference's result is the kernel's. -/
theorem value (m : (ℓ : Loc Cert.KernelSqDxIdeal.nD Cert.KernelSqDxIdeal.τ Cert.KernelSqDxIdeal.sig) → Buf (Elt Ideal) ℓ) (c : Dev Cert.KernelSqDxIdeal.nD)
    (a1 : FVec Ideal Cert.ReferenceSqDxIdeal.S2048x2048 .f32) (a2 : FVec Ideal Cert.ReferenceSqDxIdeal.S2048x2048 .f32)
    (h1 : a1 = m (c, Proc.tc.devRef Cert.KernelSqDxIdeal.main_arg1)) (h2 : a2 = m (c, Proc.tc.devRef Cert.KernelSqDxIdeal.main_arg2)) : ref a1 a2 = G m c := by
  subst h1 h2
  refine funext fun i => ?_
  obtain ⟨a, r, s, rfl⟩ : ∃ (a : Fin 1) (r : Fin 2048) (s : Fin 2048), i = ix3 a r s := ⟨i 0, i 1, i 2, (ix3_eta i).symm⟩
  exact (ref_at _ _ a r s)

end Cert.Proof.SqDx
-- ==== Proof.SqDw.lean ====
/- The gradient of a square projection's weight: the kernel transposes the input into a scratch once per panel of rows and multiplies panel by panel. -/
module

public import proofs.«01_k».proof.Proof.Gen.KernelSqDwIdeal.Value
public import proofs.«01_k».proof.Proof.Gen.ReferenceSqDwIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.SqDw
open Idealize.ShloMosaic Idealize.ShloMosaic.TcCoe Idealize.SL.Sem
open Cert.KernelSqDwIdeal Cert.KernelSqDwIdeal.Gen Cert.KernelSqDwIdeal.Value

theorem pay_at (v3 : Vec Ideal S512x2048 .bf16) (v4 : Vec Ideal S1x2048x1024 .bf16) (a : Fin 1) (r : Fin 512) (s : Fin 1024) :
    k0_pay3 (F := Ideal) v3 v4 (ix3 a r s) = ∑ x : Fin 2048, v3 (ix2 r x) * v4 (ix3 0 x s) := by pointwise [k0_pay3]

section Body
variable (c : Dev nD) (i : grid0.Coords) (arg3 : Memref sig .tc .vmem S1x2048x512 .bf16) (harg3 : arg3.IsWhole) (arg4 : Memref sig .tc .vmem S1x2048x1024 .bf16) (harg4 : arg4.IsWhole) (arg5 : Memref sig .tc .vmem S1x512x1024 .bf16) (harg5 : arg5.IsWhole) (arg6 : Memref sig .tc .vmem S512x2048 .bf16) (harg6 : arg6.IsWhole)
  (x0 : Vec Ideal S1x2048x512 .bf16) (x1 : Vec Ideal S1x2048x1024 .bf16) (xs0 : Vec Ideal S512x2048 .bf16)

/-- The block turned on its side. -/
def flip (x0 : Vec Ideal S1x2048x512 .bf16) : Vec Ideal S512x2048 .bf16 := fun y => x0 (ix3 0 (y 1) (y 0))

/-- Stores of 256 rows each fill the scratch. -/
theorem filled : View.canon [
    ⟨Rect.unit ![256, 0] ![256, 2048] inb_S512x2048_S256x2048_256_0, k0_pay2 (View.ld x0 (Rect.unit ![0, 0, 256] ![1, 2048, 256] inb_S1x2048x512_S1x2048x256_0_0_256))⟩,
    ⟨Rect.unit ![0, 0] ![256, 2048] inb_S512x2048_S256x2048_0_0, k0_pay1 (View.ld x0 (Rect.unit ![0, 0, 0] ![1, 2048, 256] inb_S1x2048x512_S1x2048x256_0_0_0))⟩]
    = (flip x0 : S512x2048.Idx → EReal) := by
  funext y
  canon_tiles x h
  all_goals pointwise [k0_pay1, k0_pay2, flip]
  all_goals exact congrArg x0 (congrArg₂ (ix3 0) (Fin.ext h1.symm) (Fin.ext (by first | exact h0.symm | (simp only; omega))))

theorem soutA (hc0 : cond0_0 i) :
    sout0_A_0 c i arg3 harg3 arg4 harg4 arg5 harg5 arg6 harg6 hc0 x0 x1 = flip x0 := by
  refine Eq.trans ?_ (filled x0)
  frame_out
theorem soutB (hc0 : ¬cond0_0 i) :
    sout0_B_0 c i arg3 harg3 arg4 harg4 arg5 harg5 arg6 harg6 hc0 x0 x1 xs0 = xs0 := rfl
theorem outA (hc0 : cond0_0 i) :
    out0_A_2 c i arg3 harg3 arg4 harg4 arg5 harg5 arg6 harg6 hc0 x0 x1 = k0_pay3 (flip x0) x1 := by
  frame_out
  refine congrArg (fun z => k0_pay3 z x1) ?_
  rw [View.readCov_eq_canon']
  exact funext fun y => (congrArg _ (Rect.emb_unit_full _ y)).trans (congrFun (filled x0) y)
theorem outB (hc0 : ¬cond0_0 i) :
    out0_B_2 c i arg3 harg3 arg4 harg4 arg5 harg5 arg6 harg6 hc0 x0 x1 xs0 = k0_pay3 xs0 x1 := by
  frame_out
end Body

variable (m : (ℓ : Loc nD τ sig) → Buf (Elt Ideal) ℓ) (c : Dev nD)

theorem idxs : ∀ t : Fin cfg0.N, win0_0.index t = ![0, 0, t.val / 2] ∧ win0_1.index t = ![0, 0, t.val % 2] ∧ win0_2.index t = ![t.val / 2, 0, t.val % 2] := by decide +kernel

theorem lhs_at (a : Fin 1) (r : Fin 2048) (k : Fin 2048) : (V m c main_v1 : S1x2048x2048.Idx → EReal) (ix3 a r k)
    = ent (m (c, Proc.tc.devRef main_arg0) : S2048x2048.Idx → EReal) r k := by
  refine Eq.trans ?_ (ent_eq _ (i := r) (j := k) rfl rfl)
  conv_lhs => simp only [V]
  after_results_simp
  pointwise

theorem rhs_at (a : Fin 1) (r : Fin 2048) (k : Fin 2048) : (V m c main_v3 : S1x2048x2048.Idx → EReal) (ix3 a r k)
    = ent (m (c, Proc.tc.devRef main_arg2) : S2048x2048.Idx → EReal) r k := by
  refine Eq.trans ?_ (ent_eq _ (i := r) (j := k) rfl rfl)
  conv_lhs => simp only [V]
  after_results_simp
  pointwise

theorem blk0 (t : Fin cfg0.N) (b : Fin 1) (x : Fin 2048) (r : Fin 512) : (iblk m c 0 t : S1x2048x512.Idx → EReal) (ix3 b x r)
    = ent (m (c, Proc.tc.devRef main_arg0) : S2048x2048.Idx → EReal) x (512 * (t.val / 2) + r) := by
  have hi := (idxs t).1
  have ht : t.val < 8 := t.isLt
  have e : (iblk m c 0 t : S1x2048x512.Idx → EReal) (ix3 b x r)
      = (V m c main_v1 : S1x2048x2048.Idx → EReal) (ix3 0 x ⟨512 * (t.val / 2) + r, by omega⟩) := by
    blk_simp [iblk]
    blk_ext [hi]
  rw [e, lhs_at]

theorem blk1 (t : Fin cfg0.N) (b : Fin 1) (x : Fin 2048) (s : Fin 1024) : (iblk m c 1 t : S1x2048x1024.Idx → EReal) (ix3 b x s)
    = ent (m (c, Proc.tc.devRef main_arg2) : S2048x2048.Idx → EReal) x (1024 * (t.val % 2) + s) := by
  have hi := (idxs t).2.1
  have ht : t.val < 8 := t.isLt
  have e : (iblk m c 1 t : S1x2048x1024.Idx → EReal) (ix3 b x s)
      = (V m c main_v3 : S1x2048x2048.Idx → EReal) (ix3 0 x ⟨1024 * (t.val % 2) + s, by omega⟩) := by
    blk_simp [iblk]
    blk_ext [hi]
  rw [e, rhs_at]

/-- A column of the input times a column of the gradient. -/
abbrev prod (m : (ℓ : Loc nD τ sig) → Buf (Elt Ideal) ℓ) (c : Dev nD) (r s : ℕ) : EReal :=
  dot (fun x => ent (m (c, Proc.tc.devRef main_arg0) : S2048x2048.Idx → EReal) x r) (fun x => ent (m (c, Proc.tc.devRef main_arg2) : S2048x2048.Idx → EReal) x s) 2048

/-- The scratch holds this panel's columns of the input. -/
theorem held : ∀ (n : ℕ) (h : n < cfg0.N) (r : Fin 512) (x : Fin 2048),
    ((outsAt0 m c n h).2 : S512x2048.Idx → EReal) (ix2 r x) = ent (m (c, Proc.tc.devRef main_arg0) : S2048x2048.Idx → EReal) x (512 * (n / 2) + r) := by
  intro n
  induction n with
  | zero =>
    intro h r x
    rw [outsAt0_A m c ⟨0, h⟩ rfl]
    dsimp only
    rw [soutA]
    exact blk0 m c ⟨0, h⟩ 0 x r
  | succ n ih =>
    intro h r x
    by_cases h0 : (n + 1) % 2 = 0
    · rw [outsAt0_A m c ⟨n + 1, h⟩ h0]
      dsimp only
      rw [soutA]
      exact blk0 m c ⟨n + 1, h⟩ 0 x r
    · rw [outsAt0_B m c ⟨n + 1, h⟩ h0]
      dsimp only
      rw [soutB]
      refine (ih (Nat.lt_of_succ_lt h) r x).trans ?_
      rw [show (n + 1) / 2 = n / 2 by omega]

theorem out_at (t : Fin cfg0.N) (a : Fin 1) (r : Fin 512) (s : Fin 1024) :
    ((outsAt0 m c t.val t.isLt).1 : S1x512x1024.Idx → EReal) (ix3 a r s) = prod m c (512 * (t.val / 2) + r) (1024 * (t.val % 2) + s) := by
  by_cases h0 : t.val % 2 = 0
  · rw [outsAt0_A m c t h0]
    dsimp only
    rw [outA]
    refine (pay_at _ _ a r s).trans (Eq.trans ?_ (dot_fin _ _ _))
    refine Finset.sum_congr rfl fun x _ => ?_
    rw [blk1]
    exact congrArg (· * _) (blk0 m c t 0 x r)
  · have hp := held m c (t.val - 1) (Nat.lt_of_le_of_lt (Nat.sub_le _ _) t.isLt)
    rw [outsAt0_B m c t h0]
    dsimp only
    rw [outB]
    refine (pay_at _ _ a r s).trans (Eq.trans ?_ (dot_fin _ _ _))
    refine Finset.sum_congr rfl fun x _ => ?_
    rw [blk1, hp, show (t.val - 1) / 2 = t.val / 2 by omega]

/-- Every panel of the product. -/
def G (m : (ℓ : Loc nD τ sig) → Buf (Elt Ideal) ℓ) (c : Dev nD) : S4x512x2048.Idx → EReal := fun y => prod m c (512 * (y 0).val + (y 1).val) (y 2)

theorem array : (dats m 0 c).arrAt 2 cfg0.N = (G m c : S4x512x2048.Idx → EReal) := by
  refine (dats m 0 c).arrAt_eq_of_covers 2 (G m c) (by decide +kernel) fun t hf y => ?_
  have hi := (idxs t).2.2
  have ht : t.val < 8 := t.isLt
  blk_simp
  rw [after0_2]
  obtain ⟨a, r, s, rfl⟩ : ∃ (a : Fin 1) (r : Fin 512) (s : Fin 1024), y = ix3 a r s := ⟨y 0, y 1, y 2, (ix3_eta y).symm⟩
  refine (out_at m c t a r s).trans ?_
  unfold G
  blk_simp [hi]
  rw [Nat.mul_comm, Nat.mul_comm 1024]

end Cert.Proof.SqDw

namespace Cert.Proof.SqDw
open Idealize.ShloMosaic Idealize.ShloMosaic.TcCoe Idealize.SL.Sem
section Reference
open Cert.ReferenceSqDwIdeal Cert.ReferenceSqDwIdeal.Gen

/-- The reference's result. -/
def ref (a0 : FVec Ideal S2048x2048 .f32) (a2 : FVec Ideal S2048x2048 .f32) : FVec Ideal S4x512x2048 .bf16 :=
  truncf .bf16 (shapeCast _ (transpose S2048x2048 [1, 0] (Host.dotGeneral dot_S2048x2048_S2048x2048_S2048x2048_0_0_1_1_n_n none a2 a0) transposes_S2048x2048_S2048x2048_1_0) shapeCasts_S2048x2048_S4x512x2048) bitsLt_bf16_f32

theorem ref_at (a0 : FVec Ideal S2048x2048 .f32) (a2 : FVec Ideal S2048x2048 .f32) (a : Fin 4) (r : Fin 512) (s : Fin 2048) : ref a0 a2 (ix3 a r s) = dot (fun k => ent a0 k (512 * a + r)) (fun k => ent a2 k s) 2048 := by
  refine Eq.trans ?_ (dot_fin _ _ _)
  refine Eq.trans (b := ∑ k : Fin 2048, a2 (ix2 k s) * a0 (ix2 k ⟨a.val * 512 + r.val, by omega⟩)) ?_ ?_
  · pointwise [ref]
  · exact Finset.sum_congr rfl fun k _ => by rw [ent_eq a0 (r := k) (k := 512 * a + r) rfl (by simp only; omega), ent_eq a2 (r := k) (k := s) rfl rfl, mul_comm]
end Reference

/-- The reference's result is the kernel's. -/
theorem value (m : (ℓ : Loc Cert.KernelSqDwIdeal.nD Cert.KernelSqDwIdeal.τ Cert.KernelSqDwIdeal.sig) → Buf (Elt Ideal) ℓ) (c : Dev Cert.KernelSqDwIdeal.nD)
    (a0 : FVec Ideal Cert.ReferenceSqDwIdeal.S2048x2048 .f32) (a2 : FVec Ideal Cert.ReferenceSqDwIdeal.S2048x2048 .f32)
    (h0 : a0 = m (c, Proc.tc.devRef Cert.KernelSqDwIdeal.main_arg0)) (h2 : a2 = m (c, Proc.tc.devRef Cert.KernelSqDwIdeal.main_arg2)) : ref a0 a2 = G m c := by
  subst h0 h2
  refine funext fun i => ?_
  obtain ⟨a, r, s, rfl⟩ : ∃ (a : Fin 4) (r : Fin 512) (s : Fin 2048), i = ix3 a r s := ⟨i 0, i 1, i 2, (ix3_eta i).symm⟩
  exact (ref_at _ _ a r s)

end Cert.Proof.SqDw
-- ==== Proof.MemDw.lean ====
/- The gradient of the memory's key and value weight: the kernel transposes the memory into a scratch once per panel of rows and multiplies panel by panel. -/
module

public import proofs.«01_k».proof.Proof.Gen.KernelMemDwIdeal.Value
public import proofs.«01_k».proof.Proof.Gen.ReferenceMemDwIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.MemDw
open Idealize.ShloMosaic Idealize.ShloMosaic.TcCoe Idealize.SL.Sem
open Cert.KernelMemDwIdeal Cert.KernelMemDwIdeal.Gen Cert.KernelMemDwIdeal.Value

theorem pay_at (v3 : Vec Ideal S1024x256 .bf16) (v4 : Vec Ideal S1x256x1024 .f32) (a : Fin 1) (r : Fin 1024) (s : Fin 1024) :
    k0_pay5 (F := Ideal) v3 v4 (ix3 a r s) = ∑ x : Fin 256, v3 (ix2 r x) * v4 (ix3 0 x s) := by pointwise [k0_pay5]

section Body
variable (c : Dev nD) (i : grid0.Coords) (arg3 : Memref sig .tc .vmem S1x256x1024 .bf16) (harg3 : arg3.IsWhole) (arg4 : Memref sig .tc .vmem S1x256x1024 .f32) (harg4 : arg4.IsWhole) (arg5 : Memref sig .tc .vmem S1x1024x1024 .bf16) (harg5 : arg5.IsWhole) (arg6 : Memref sig .tc .vmem S1024x256 .bf16) (harg6 : arg6.IsWhole)
  (x0 : Vec Ideal S1x256x1024 .bf16) (x1 : Vec Ideal S1x256x1024 .f32) (xs0 : Vec Ideal S1024x256 .bf16)

/-- The block turned on its side. -/
def flip (x0 : Vec Ideal S1x256x1024 .bf16) : Vec Ideal S1024x256 .bf16 := fun y => x0 (ix3 0 (y 1) (y 0))

/-- Stores of 256 rows each fill the scratch. -/
theorem filled : View.canon [
    ⟨Rect.unit ![768, 0] ![256, 256] inb_S1024x256_S256x256_768_0, k0_pay4 (View.ld x0 (Rect.unit ![0, 0, 768] ![1, 256, 256] inb_S1x256x1024_S1x256x256_0_0_768))⟩,
    ⟨Rect.unit ![512, 0] ![256, 256] inb_S1024x256_S256x256_512_0, k0_pay3 (View.ld x0 (Rect.unit ![0, 0, 512] ![1, 256, 256] inb_S1x256x1024_S1x256x256_0_0_512))⟩,
    ⟨Rect.unit ![256, 0] ![256, 256] inb_S1024x256_S256x256_256_0, k0_pay2 (View.ld x0 (Rect.unit ![0, 0, 256] ![1, 256, 256] inb_S1x256x1024_S1x256x256_0_0_256))⟩,
    ⟨Rect.unit ![0, 0] ![256, 256] inb_S1024x256_S256x256_0_0, k0_pay1 (View.ld x0 (Rect.unit ![0, 0, 0] ![1, 256, 256] inb_S1x256x1024_S1x256x256_0_0_0))⟩]
    = (flip x0 : S1024x256.Idx → EReal) := by
  funext y
  canon_tiles x h
  all_goals pointwise [k0_pay1, k0_pay2, k0_pay3, k0_pay4, flip]
  all_goals exact congrArg x0 (congrArg₂ (ix3 0) (Fin.ext h1.symm) (Fin.ext (by first | exact h0.symm | (simp only; omega))))

theorem soutA (hc0 : cond0_0 i) :
    sout0_A_0 c i arg3 harg3 arg4 harg4 arg5 harg5 arg6 harg6 hc0 x0 x1 = flip x0 := by
  refine Eq.trans ?_ (filled x0)
  frame_out
theorem soutB (hc0 : ¬cond0_0 i) :
    sout0_B_0 c i arg3 harg3 arg4 harg4 arg5 harg5 arg6 harg6 hc0 x0 x1 xs0 = xs0 := rfl
theorem outA (hc0 : cond0_0 i) :
    out0_A_2 c i arg3 harg3 arg4 harg4 arg5 harg5 arg6 harg6 hc0 x0 x1 = k0_pay5 (flip x0) x1 := by
  frame_out
  refine congrArg (fun z => k0_pay5 z x1) ?_
  rw [View.readCov_eq_canon']
  exact funext fun y => (congrArg _ (Rect.emb_unit_full _ y)).trans (congrFun (filled x0) y)
theorem outB (hc0 : ¬cond0_0 i) :
    out0_B_2 c i arg3 harg3 arg4 harg4 arg5 harg5 arg6 harg6 hc0 x0 x1 xs0 = k0_pay5 xs0 x1 := by
  frame_out
end Body

variable (m : (ℓ : Loc nD τ sig) → Buf (Elt Ideal) ℓ) (c : Dev nD)

theorem idxs : ∀ t : Fin cfg0.N, win0_0.index t = ![0, 0, t.val / 4] ∧ win0_1.index t = ![t.val % 4 / 2, 0, t.val % 2] ∧ win0_2.index t = ![t.val % 4, t.val / 4, 0] := by decide +kernel

theorem lhs_at (a : Fin 1) (r : Fin 256) (k : Fin 2048) : (V m c main_v6 : S1x256x2048.Idx → EReal) (ix3 a r k)
    = ent (m (c, Proc.tc.devRef main_arg0) : S256x2048.Idx → EReal) r k := by
  refine Eq.trans ?_ (ent_eq _ (i := r) (j := k) rfl rfl)
  conv_lhs => simp only [V]
  after_results_simp
  pointwise

theorem rhs_at (a : Fin 2) (r : Fin 256) (k : Fin 2048) : (V m c main_v4 : S2x256x2048.Idx → EReal) (ix3 a r k)
    = ent (m (c, Proc.tc.devRef main_arg2) : S256x4096.Idx → EReal) r (2048 * a + k) := by
  refine Eq.trans ?_ (ent_eq _ (i := r) (j := ⟨2048 * a + k, by omega⟩) (by rfl) rfl)
  conv_lhs => simp only [V]
  after_results_simp
  match a with
  | 0 => pointwise
  | 1 => pointwise

theorem blk0 (t : Fin cfg0.N) (b : Fin 1) (x : Fin 256) (r : Fin 1024) : (iblk m c 0 t : S1x256x1024.Idx → EReal) (ix3 b x r)
    = ent (m (c, Proc.tc.devRef main_arg0) : S256x2048.Idx → EReal) x (1024 * (t.val / 4) + r) := by
  have hi := (idxs t).1
  have ht : t.val < 8 := t.isLt
  have e : (iblk m c 0 t : S1x256x1024.Idx → EReal) (ix3 b x r)
      = (V m c main_v6 : S1x256x2048.Idx → EReal) (ix3 0 x ⟨1024 * (t.val / 4) + r, by omega⟩) := by
    blk_simp [iblk]
    blk_ext [hi]
  rw [e, lhs_at]

theorem blk1 (t : Fin cfg0.N) (b : Fin 1) (x : Fin 256) (s : Fin 1024) : (iblk m c 1 t : S1x256x1024.Idx → EReal) (ix3 b x s)
    = ent (m (c, Proc.tc.devRef main_arg2) : S256x4096.Idx → EReal) x (1024 * (t.val % 4) + s) := by
  have hi := (idxs t).2.1
  have ht : t.val < 8 := t.isLt
  have e : (iblk m c 1 t : S1x256x1024.Idx → EReal) (ix3 b x s)
      = (V m c main_v4 : S2x256x2048.Idx → EReal) (ix3 ⟨t.val % 4 / 2, by omega⟩ x ⟨1024 * (t.val % 2) + s, by omega⟩) := by
    blk_simp [iblk]
    blk_ext [hi]
  rw [e, rhs_at]
  exact congrArg _ (by show 2048 * (t.val % 4 / 2) + (1024 * (t.val % 2) + s.val) = _; omega)

/-- A column of the input times a column of the gradient. -/
abbrev prod (m : (ℓ : Loc nD τ sig) → Buf (Elt Ideal) ℓ) (c : Dev nD) (r s : ℕ) : EReal :=
  dot (fun x => ent (m (c, Proc.tc.devRef main_arg0) : S256x2048.Idx → EReal) x r) (fun x => ent (m (c, Proc.tc.devRef main_arg2) : S256x4096.Idx → EReal) x s) 256

/-- The scratch holds this panel's columns of the input. -/
theorem held : ∀ (n : ℕ) (h : n < cfg0.N) (r : Fin 1024) (x : Fin 256),
    ((outsAt0 m c n h).2 : S1024x256.Idx → EReal) (ix2 r x) = ent (m (c, Proc.tc.devRef main_arg0) : S256x2048.Idx → EReal) x (1024 * (n / 4) + r) := by
  intro n
  induction n with
  | zero =>
    intro h r x
    rw [outsAt0_A m c ⟨0, h⟩ rfl]
    dsimp only
    rw [soutA]
    exact blk0 m c ⟨0, h⟩ 0 x r
  | succ n ih =>
    intro h r x
    by_cases h0 : (n + 1) % 4 = 0
    · rw [outsAt0_A m c ⟨n + 1, h⟩ h0]
      dsimp only
      rw [soutA]
      exact blk0 m c ⟨n + 1, h⟩ 0 x r
    · rw [outsAt0_B m c ⟨n + 1, h⟩ h0]
      dsimp only
      rw [soutB]
      refine (ih (Nat.lt_of_succ_lt h) r x).trans ?_
      rw [show (n + 1) / 4 = n / 4 by omega]

theorem out_at (t : Fin cfg0.N) (a : Fin 1) (r : Fin 1024) (s : Fin 1024) :
    ((outsAt0 m c t.val t.isLt).1 : S1x1024x1024.Idx → EReal) (ix3 a r s) = prod m c (1024 * (t.val / 4) + r) (1024 * (t.val % 4) + s) := by
  by_cases h0 : t.val % 4 = 0
  · rw [outsAt0_A m c t h0]
    dsimp only
    rw [outA]
    refine (pay_at _ _ a r s).trans (Eq.trans ?_ (dot_fin _ _ _))
    refine Finset.sum_congr rfl fun x _ => ?_
    rw [blk1]
    exact congrArg (· * _) (blk0 m c t 0 x r)
  · have hp := held m c (t.val - 1) (Nat.lt_of_le_of_lt (Nat.sub_le _ _) t.isLt)
    rw [outsAt0_B m c t h0]
    dsimp only
    rw [outB]
    refine (pay_at _ _ a r s).trans (Eq.trans ?_ (dot_fin _ _ _))
    refine Finset.sum_congr rfl fun x _ => ?_
    rw [blk1, hp, show (t.val - 1) / 4 = t.val / 4 by omega]

/-- Every panel of the product. -/
def G (m : (ℓ : Loc nD τ sig) → Buf (Elt Ideal) ℓ) (c : Dev nD) : S4x2048x1024.Idx → EReal := fun y => prod m c (y 1) (1024 * (y 0).val + (y 2).val)

theorem array : (dats m 0 c).arrAt 2 cfg0.N = (G m c : S4x2048x1024.Idx → EReal) := by
  refine (dats m 0 c).arrAt_eq_of_covers 2 (G m c) (by decide +kernel) fun t hf y => ?_
  have hi := (idxs t).2.2
  have ht : t.val < 8 := t.isLt
  blk_simp
  rw [after0_2]
  obtain ⟨a, r, s, rfl⟩ : ∃ (a : Fin 1) (r : Fin 1024) (s : Fin 1024), y = ix3 a r s := ⟨y 0, y 1, y 2, (ix3_eta y).symm⟩
  refine (out_at m c t a r s).trans ?_
  unfold G
  blk_simp [hi]
  try rw [Nat.mul_comm]

end Cert.Proof.MemDw

namespace Cert.Proof.MemDw
open Idealize.ShloMosaic Idealize.ShloMosaic.TcCoe Idealize.SL.Sem
section Reference
open Cert.ReferenceMemDwIdeal Cert.ReferenceMemDwIdeal.Gen

/-- The reference's result. -/
def ref (a0 : FVec Ideal S256x2048 .f32) (a2 : FVec Ideal S256x4096 .f32) : FVec Ideal S4x2048x1024 .bf16 :=
  truncf .bf16 ((concatenate S4x2048x1024 0 [⟨S1x2048x1024, ((broadcastInDim S1x2048x1024 ![1, 2] bcast_S2048x1024_S1x2048x1024_1_2 (extractStridedSlice S2048x1024 ![0, 0] (transpose S2048x4096 [1, 0] (Host.dotGeneral dot_S256x4096_S256x2048_S4096x2048_0_0_1_1_n_n none a2 a0) transposes_S4096x2048_S2048x4096_1_0) slices_S2048x4096_S2048x1024_0_0)) : (⟨S1x2048x1024, .f32⟩ : BufTy).Contents (Elt Ideal))⟩, ⟨S1x2048x1024, ((broadcastInDim S1x2048x1024 ![1, 2] bcast_S2048x1024_S1x2048x1024_1_2 (extractStridedSlice S2048x1024 ![0, 1024] (transpose S2048x4096 [1, 0] (Host.dotGeneral dot_S256x4096_S256x2048_S4096x2048_0_0_1_1_n_n none a2 a0) transposes_S4096x2048_S2048x4096_1_0) slices_S2048x4096_S2048x1024_0_1024)) : (⟨S1x2048x1024, .f32⟩ : BufTy).Contents (Elt Ideal))⟩, ⟨S1x2048x1024, ((broadcastInDim S1x2048x1024 ![1, 2] bcast_S2048x1024_S1x2048x1024_1_2 (extractStridedSlice S2048x1024 ![0, 2048] (transpose S2048x4096 [1, 0] (Host.dotGeneral dot_S256x4096_S256x2048_S4096x2048_0_0_1_1_n_n none a2 a0) transposes_S4096x2048_S2048x4096_1_0) slices_S2048x4096_S2048x1024_0_2048)) : (⟨S1x2048x1024, .f32⟩ : BufTy).Contents (Elt Ideal))⟩, ⟨S1x2048x1024, ((broadcastInDim S1x2048x1024 ![1, 2] bcast_S2048x1024_S1x2048x1024_1_2 (extractStridedSlice S2048x1024 ![0, 3072] (transpose S2048x4096 [1, 0] (Host.dotGeneral dot_S256x4096_S256x2048_S4096x2048_0_0_1_1_n_n none a2 a0) transposes_S4096x2048_S2048x4096_1_0) slices_S2048x4096_S2048x1024_0_3072)) : (⟨S1x2048x1024, .f32⟩ : BufTy).Contents (Elt Ideal))⟩] concatenates_S1x2048x1024_S1x2048x1024_S1x2048x1024_S1x2048x1024_S4x2048x1024_d0 : (⟨S4x2048x1024, .f32⟩ : BufTy).Contents (Elt Ideal))) bitsLt_bf16_f32

theorem ref_at (a0 : FVec Ideal S256x2048 .f32) (a2 : FVec Ideal S256x4096 .f32) (a : Fin 4) (r : Fin 2048) (s : Fin 1024) : ref a0 a2 (ix3 a r s) = dot (fun k => ent a0 k r) (fun k => ent a2 k (1024 * a + s)) 256 := by
  refine Eq.trans ?_ (dot_fin _ _ _)
  refine Eq.trans (b := ∑ k : Fin 256, a2 (ix2 k ⟨1024 * a + s, by omega⟩) * a0 (ix2 k r)) ?_ ?_
  · match a with
    | 0 => pointwise [ref]
    | 1 => pointwise [ref]
    | 2 => pointwise [ref]
    | 3 => pointwise [ref]
  · exact Finset.sum_congr rfl fun k _ => by rw [ent_eq a0 (r := k) (k := r) rfl rfl, ent_eq a2 (r := k) (k := 1024 * a + s) rfl rfl, mul_comm]
end Reference

/-- The reference's result is the kernel's. -/
theorem value (m : (ℓ : Loc Cert.KernelMemDwIdeal.nD Cert.KernelMemDwIdeal.τ Cert.KernelMemDwIdeal.sig) → Buf (Elt Ideal) ℓ) (c : Dev Cert.KernelMemDwIdeal.nD)
    (a0 : FVec Ideal Cert.ReferenceMemDwIdeal.S256x2048 .f32) (a2 : FVec Ideal Cert.ReferenceMemDwIdeal.S256x4096 .f32)
    (h0 : a0 = m (c, Proc.tc.devRef Cert.KernelMemDwIdeal.main_arg0)) (h2 : a2 = m (c, Proc.tc.devRef Cert.KernelMemDwIdeal.main_arg2)) : ref a0 a2 = G m c := by
  subst h0 h2
  refine funext fun i => ?_
  obtain ⟨a, r, s, rfl⟩ : ∃ (a : Fin 4) (r : Fin 2048) (s : Fin 1024), i = ix3 a r s := ⟨i 0, i 1, i 2, (ix3_eta i).symm⟩
  exact (ref_at _ _ a r s)

end Cert.Proof.MemDw
-- ==== Proof.MemDx.lean ====
/- The gradient of the normalised memory: the kernel adds four panels of the columns, the reference sums them whole. -/
module

public import proofs.«01_k».proof.Proof.Gen.KernelMemDxIdeal.Value
public import proofs.«01_k».proof.Proof.Gen.ReferenceMemDxIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.MemDx
open Idealize.ShloMosaic Idealize.ShloMosaic.TcCoe Idealize.SL.Sem
open Cert.KernelMemDxIdeal Cert.KernelMemDxIdeal.Gen Cert.KernelMemDxIdeal.Value

theorem pay2_at (v0 : Vec Ideal S1x256x1024 .f32) (v2 : Vec Ideal S1x1024x1024 .bf16) (r : Fin 256) (s : Fin 1024) :
    k0_pay2 (F := Ideal) v0 v2 (ix2 r s) = ∑ x : Fin 1024, v0 (ix3 0 r x) * v2 (ix3 0 s x) := by pointwise [k0_pay2, k0_pay1]
theorem pay3_at (v0 : Vec Ideal S1x256x1024 .f32) (v2 : Vec Ideal S1x1024x1024 .bf16) (v14 : Vec Ideal S256x1024 .f32) (r : Fin 256) (s : Fin 1024) :
    k0_pay3 (F := Ideal) v0 v2 v14 (ix2 r s) = v14 (ix2 r s) + ∑ x : Fin 1024, v0 (ix3 0 r x) * v2 (ix3 0 s x) := by pointwise [k0_pay3, k0_pay1]
theorem pay4_at (v14 : Vec Ideal S256x1024 .f32) (a : Fin 1) (r : Fin 256) (s : Fin 1024) :
    k0_pay4 (F := Ideal) v14 (ix3 a r s) = v14 (ix2 r s) := by pointwise [k0_pay4]

section Body
variable (c : Dev nD) (i : grid0.Coords) (arg3 : Memref sig .tc .vmem S1x256x1024 .f32) (harg3 : arg3.IsWhole) (arg4 : Memref sig .tc .vmem S1x1024x1024 .bf16) (harg4 : arg4.IsWhole) (arg5 : Memref sig .tc .vmem S1x256x1024 .f32) (harg5 : arg5.IsWhole) (arg6 : Memref sig .tc .vmem S256x1024 .f32) (harg6 : arg6.IsWhole)
  (x0 : Vec Ideal S1x256x1024 .f32) (x1 : Vec Ideal S1x1024x1024 .bf16) (xs0 : Vec Ideal S256x1024 .f32)
theorem soutA (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  frame_out
theorem soutB (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  frame_out
theorem soutC (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  frame_out
theorem outC (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  frame_out
end Body

variable (m : (ℓ : Loc nD τ sig) → Buf (Elt Ideal) ℓ) (c : Dev nD)

theorem idxs : ∀ t : Fin cfg0.N, win0_0.index t = ![t.val % 4 / 2, 0, t.val % 2] ∧ win0_1.index t = ![t.val % 4, t.val / 4 % 2, 0] := by decide +kernel

theorem lhs_at (a : Fin 2) (r : Fin 256) (k : Fin 2048) : (V m c main_v4 : S2x256x2048.Idx → EReal) (ix3 a r k)
    = ent (m (c, Proc.tc.devRef main_arg2) : S256x4096.Idx → EReal) r (2048 * a + k) := by
  refine Eq.trans ?_ (ent_eq _ (i := r) (j := ⟨2048 * a + k, by omega⟩) (by rfl) rfl)
  conv_lhs => simp only [V]
  after_results_simp
  match a with
  | 0 => pointwise
  | 1 => pointwise

/-- The weight's columns in four panels. -/
theorem rhs_at (a : Fin 4) (r : Fin 2048) (k : Fin 1024) : (V m c main_v14 : S4x2048x1024.Idx → EReal) (ix3 a r k)
    = ent (m (c, Proc.tc.devRef main_arg1) : S2048x4096.Idx → EReal) r (1024 * a + k) := by
  refine Eq.trans ?_ (ent_eq _ (i := r) (j := ⟨1024 * a + k, by omega⟩) (by rfl) rfl)
  conv_lhs => simp only [V]
  after_results_simp
  match a with
  | 0 => pointwise; after_results_simp; pointwise
  | 1 => pointwise; after_results_simp; pointwise
  | 2 => pointwise; after_results_simp; pointwise
  | 3 => pointwise; after_results_simp; pointwise

theorem blk0 (t : Fin cfg0.N) (b : Fin 1) (r : Fin 256) (x : Fin 1024) : (iblk m c 0 t : S1x256x1024.Idx → EReal) (ix3 b r x)
    = ent (m (c, Proc.tc.devRef main_arg2) : S256x4096.Idx → EReal) (256 * (t.val / 8) + r) (1024 * (t.val % 4) + x) := by
  have hi := (idxs t).1
  have ht : t.val < 8 := t.isLt
  have e : (iblk m c 0 t : S1x256x1024.Idx → EReal) (ix3 b r x)
      = (V m c main_v4 : S2x256x2048.Idx → EReal) (ix3 ⟨t.val % 4 / 2, by omega⟩ ⟨256 * (t.val / 8) + r, by omega⟩ ⟨1024 * (t.val % 2) + x, by omega⟩) := by
    blk_simp [iblk]
    blk_ext [hi]
  rw [e, lhs_at]
  exact congrArg _ (by show 2048 * (t.val % 4 / 2) + (1024 * (t.val % 2) + x.val) = _; omega)
theorem blk1 (t : Fin cfg0.N) (b : Fin 1) (r : Fin 1024) (x : Fin 1024) : (iblk m c 1 t : S1x1024x1024.Idx → EReal) (ix3 b r x)
    = ent (m (c, Proc.tc.devRef main_arg1) : S2048x4096.Idx → EReal) (1024 * (t.val / 4 % 2) + r) (1024 * (t.val % 4) + x) := by
  have hi := (idxs t).2
  have ht : t.val < 8 := t.isLt
  have e : (iblk m c 1 t : S1x1024x1024.Idx → EReal) (ix3 b r x)
      = (V m c main_v14 : S4x2048x1024.Idx → EReal) (ix3 ⟨t.val % 4, by omega⟩ ⟨1024 * (t.val / 4 % 2) + r, by omega⟩ x) := by
    blk_simp [iblk]
    blk_ext [hi]
  rw [e, rhs_at]

/-- The product of a row of the gradient and a row of the weight, as far as `n` columns. -/
abbrev part (m : (ℓ : Loc nD τ sig) → Buf (Elt Ideal) ℓ) (c : Dev nD) (r s n : ℕ) : EReal :=
  dot (ent (m (c, Proc.tc.devRef main_arg2) : S256x4096.Idx → EReal) r) (ent (m (c, Proc.tc.devRef main_arg1) : S2048x4096.Idx → EReal) s) n

/-- After point `n` the running sum has the panels up to this point's; after the last it is the output block. -/
def After (n : ℕ) (st : Vec Ideal S1x256x1024 .f32 × Vec Ideal S256x1024 .f32) : Prop :=
  (∀ (r : Fin 256) (s : Fin 1024), st.2 (ix2 r s) = part m c (256 * (n / 8) + r) (1024 * (n / 4 % 2) + s) (1024 * (n % 4) + 1024))
  ∧ (n % 4 = 3 → ∀ (a : Fin 1) (r : Fin 256) (s : Fin 1024), st.1 (ix3 a r s) = st.2 (ix2 r s))

theorem pay3_part (t : Fin cfg0.N) (h0 : t.val % 4 ≠ 0) (acc : Vec Ideal S1x256x1024 .f32 × Vec Ideal S256x1024 .f32) (ha : After m c (t.val - 1) acc) (r : Fin 256) (s : Fin 1024) :
    k0_pay3 (F := Ideal) (iblk m c 0 t) (iblk m c 1 t) acc.2 (ix2 r s)
      = part m c (256 * (t.val / 8) + r) (1024 * (t.val / 4 % 2) + s) (1024 * (t.val % 4) + 1024) := by
  refine (pay3_at _ _ _ r s).trans ?_
  rw [ha.1]
  simp only [blk0 m c t, blk1 m c t]
  rw [show (t.val - 1) / 8 = t.val / 8 by omega, show (t.val - 1) / 4 % 2 = t.val / 4 % 2 by omega, show 1024 * ((t.val - 1) % 4) + 1024 = 1024 * (t.val % 4) by omega]
  exact dot_add _ _ _ _

theorem after_step (t : Fin cfg0.N) (acc : Vec Ideal S1x256x1024 .f32 × Vec Ideal S256x1024 .f32)
    (ha : t.val % 4 ≠ 0 → After m c (t.val - 1) acc) : After m c t.val (stAt0 m c t.val t.isLt acc) := by
  by_cases h0 : t.val % 4 = 0
  · rw [stAt0_A m c t acc h0 (by omega) (by omega), soutA]
    refine ⟨fun r s => (pay2_at _ _ r s).trans ?_, fun h => absurd h (by omega)⟩
    simp only [blk0 m c t, blk1 m c t]
    exact dot_first _ _ _ (by omega)
  · by_cases h2 : t.val % 4 = 3
    · rw [stAt0_C m c t acc h0 (by omega) h2, soutC, outC]
      exact ⟨pay3_part m c t h0 acc (ha h0), fun _ a r s => pay4_at (k0_pay3 (iblk m c 0 t) (iblk m c 1 t) acc.2) a r s⟩
    · rw [stAt0_B m c t acc h0 (by omega) h2, soutB]
      exact ⟨pay3_part m c t h0 acc (ha h0), fun h => absurd h h2⟩

theorem after_all : ∀ (n : ℕ) (h : 0 + n < cfg0.N),
    After m c n (Pipeline.accAt (fun n h => stAt0 m c n h junk0) (stAt0 m c) 0 n h)
  | 0, h => after_step m c ⟨0, h⟩ junk0 fun hn => absurd rfl hn
  | n + 1, h => by
    have ih := after_all n (Nat.lt_of_succ_lt h)
    have key : ∀ (k : ℕ) (hk : k < cfg0.N) (e : k = n + 1) (acc) (ha : After m c n acc), After m c (n + 1) (stAt0 m c k hk acc) := by
      intro k hk e acc ha; subst e; exact after_step m c ⟨n + 1, hk⟩ acc fun _ => ha
    exact key (0 + (n + 1)) h (Nat.zero_add _) _ ih

abbrev G (m : (ℓ : Loc nD τ sig) → Buf (Elt Ideal) ℓ) (c : Dev nD) : S1x256x2048.Idx → EReal := G2 m c
theorem G_at (a : Fin 1) (r : Fin 256) (s : Fin 2048) : G m c (ix3 a r s) = part m c r s 4096 := by
  have hp : pt2Of (ix3 a r s) = 8 * (r.val / 256) + 4 * (s.val / 1024) + 3 := by
    show 4 * (2 * (a.val / 1 - 0) + 2 * (r.val / 256 - 0) + 1 * (s.val / 1024 - 0)) + 3 = _; omega
  have hl : pt2Of (ix3 a r s) < cfg0.N := by rw [hp, show cfg0.N = 8 from N_0]; omega
  refine (dif_pos hl).trans ?_
  obtain ⟨h1, h2⟩ := after_all m c (pt2Of (ix3 a r s)) (by omega)
  have e := (h2 (by rw [hp]; omega) 0 ⟨r.val % 256, by omega⟩ ⟨s.val % 1024, by omega⟩).trans (h1 _ _)
  refine Eq.trans (congrArg _ ?_) (e.trans ?_)
  · funext b; match b with
    | ⟨0, _⟩ => exact Fin.ext (show a.val % 1 = 0 by omega)
    | ⟨1, _⟩ => rfl
    | ⟨2, _⟩ => rfl
  · dsimp only
    rw [hp]
    congr 1 <;> omega

end Cert.Proof.MemDx

namespace Cert.Proof.MemDx
open Idealize.ShloMosaic Idealize.ShloMosaic.TcCoe Idealize.SL.Sem
section Reference
open Cert.ReferenceMemDxIdeal Cert.ReferenceMemDxIdeal.Gen

/-- The reference's result. -/
def ref (a1 : FVec Ideal S2048x4096 .f32) (a2 : FVec Ideal S256x4096 .f32) : FVec Ideal S1x256x2048 .f32 :=
  broadcastInDim S1x256x2048 ![1, 2] bcast_S256x2048_S1x256x2048_1_2 (Host.dotGeneral dot_S256x4096_S2048x4096_S256x2048_1_1_0_0_n_n none a2 a1)

theorem ref_at (a1 : FVec Ideal S2048x4096 .f32) (a2 : FVec Ideal S256x4096 .f32) (a : Fin 1) (r : Fin 256) (s : Fin 2048) : ref a1 a2 (ix3 a r s) = dot (ent a2 r) (ent a1 s) 4096 := by
  refine Eq.trans ?_ (dot_fin _ _ _)
  pointwise [ref]
  exact Finset.sum_congr rfl fun k _ => by rw [ent_eq a2 rfl rfl, ent_eq a1 rfl rfl]
end Reference

/-- The reference's result is the kernel's. -/
theorem value (m : (ℓ : Loc Cert.KernelMemDxIdeal.nD Cert.KernelMemDxIdeal.τ Cert.KernelMemDxIdeal.sig) → Buf (Elt Ideal) ℓ) (c : Dev Cert.KernelMemDxIdeal.nD)
    (a1 : FVec Ideal Cert.ReferenceMemDxIdeal.S2048x4096 .f32) (a2 : FVec Ideal Cert.ReferenceMemDxIdeal.S256x4096 .f32)
    (h1 : a1 = m (c, Proc.tc.devRef Cert.KernelMemDxIdeal.main_arg1)) (h2 : a2 = m (c, Proc.tc.devRef Cert.KernelMemDxIdeal.main_arg2)) : ref a1 a2 = G m c := by
  subst h1 h2
  refine funext fun i => ?_
  obtain ⟨a, r, s, rfl⟩ : ∃ (a : Fin 1) (r : Fin 256) (s : Fin 2048), i = ix3 a r s := ⟨i 0, i 1, i 2, (ix3_eta i).symm⟩
  exact (ref_at _ _ a r s).trans (G_at m c a r s).symm

end Cert.Proof.MemDx
-- ==== Proof.MixDw.lean ====
/- The gradient of the mixer's input weight: the kernel transposes the input into a scratch once per panel of rows and multiplies panel by panel. -/
module

public import proofs.«01_k».proof.Proof.Gen.KernelMixDwIdeal.Value
public import proofs.«01_k».proof.Proof.Gen.ReferenceMixDwIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.MixDw
open Idealize.ShloMosaic Idealize.ShloMosaic.TcCoe Idealize.SL.Sem
open Cert.KernelMixDwIdeal Cert.KernelMixDwIdeal.Gen Cert.KernelMixDwIdeal.Value

theorem pay_at (v3 : Vec Ideal S1024x2048 .bf16) (v4 : Vec Ideal S1x2048x1280 .bf16) (a : Fin 1) (r : Fin 1024) (s : Fin 1280) :
    k0_pay5 (F := Ideal) v3 v4 (ix3 a r s) = ∑ x : Fin 2048, v3 (ix2 r x) * v4 (ix3 0 x s) := by pointwise [k0_pay5]

section Body
variable (c : Dev nD) (i : grid0.Coords) (arg3 : Memref sig .tc .vmem S1x2048x1024 .bf16) (harg3 : arg3.IsWhole) (arg4 : Memref sig .tc .vmem S1x2048x1280 .bf16) (harg4 : arg4.IsWhole) (arg5 : Memref sig .tc .vmem S1x1024x1280 .bf16) (harg5 : arg5.IsWhole) (arg6 : Memref sig .tc .vmem S1024x2048 .bf16) (harg6 : arg6.IsWhole)
  (x0 : Vec Ideal S1x2048x1024 .bf16) (x1 : Vec Ideal S1x2048x1280 .bf16) (xs0 : Vec Ideal S1024x2048 .bf16)

/-- The block turned on its side. -/
def flip (x0 : Vec Ideal S1x2048x1024 .bf16) : Vec Ideal S1024x2048 .bf16 := fun y => x0 (ix3 0 (y 1) (y 0))

/-- Stores of 256 rows each fill the scratch. -/
theorem filled : View.canon [
    ⟨Rect.unit ![768, 0] ![256, 2048] inb_S1024x2048_S256x2048_768_0, k0_pay4 (View.ld x0 (Rect.unit ![0, 0, 768] ![1, 2048, 256] inb_S1x2048x1024_S1x2048x256_0_0_768))⟩,
    ⟨Rect.unit ![512, 0] ![256, 2048] inb_S1024x2048_S256x2048_512_0, k0_pay3 (View.ld x0 (Rect.unit ![0, 0, 512] ![1, 2048, 256] inb_S1x2048x1024_S1x2048x256_0_0_512))⟩,
    ⟨Rect.unit ![256, 0] ![256, 2048] inb_S1024x2048_S256x2048_256_0, k0_pay2 (View.ld x0 (Rect.unit ![0, 0, 256] ![1, 2048, 256] inb_S1x2048x1024_S1x2048x256_0_0_256))⟩,
    ⟨Rect.unit ![0, 0] ![256, 2048] inb_S1024x2048_S256x2048_0_0, k0_pay1 (View.ld x0 (Rect.unit ![0, 0, 0] ![1, 2048, 256] inb_S1x2048x1024_S1x2048x256_0_0_0))⟩]
    = (flip x0 : S1024x2048.Idx → EReal) := by
  funext y
  canon_tiles x h
  all_goals pointwise [k0_pay1, k0_pay2, k0_pay3, k0_pay4, flip]
  all_goals exact congrArg x0 (congrArg₂ (ix3 0) (Fin.ext h1.symm) (Fin.ext (by first | exact h0.symm | (simp only; omega))))

theorem soutA (hc0 : cond0_0 i) :
    sout0_A_0 c i arg3 harg3 arg4 harg4 arg5 harg5 arg6 harg6 hc0 x0 x1 = flip x0 := by
  refine Eq.trans ?_ (filled x0)
  frame_out
theorem soutB (hc0 : ¬cond0_0 i) :
    sout0_B_0 c i arg3 harg3 arg4 harg4 arg5 harg5 arg6 harg6 hc0 x0 x1 xs0 = xs0 := rfl
theorem outA (hc0 : cond0_0 i) :
    out0_A_2 c i arg3 harg3 arg4 harg4 arg5 harg5 arg6 harg6 hc0 x0 x1 = k0_pay5 (flip x0) x1 := by
  frame_out
  refine congrArg (fun z => k0_pay5 z x1) ?_
  rw [View.readCov_eq_canon']
  exact funext fun y => (congrArg _ (Rect.emb_unit_full _ y)).trans (congrFun (filled x0) y)
theorem outB (hc0 : ¬cond0_0 i) :
    out0_B_2 c i arg3 harg3 arg4 harg4 arg5 harg5 arg6 harg6 hc0 x0 x1 xs0 = k0_pay5 xs0 x1 := by
  frame_out
end Body

variable (m : (ℓ : Loc nD τ sig) → Buf (Elt Ideal) ℓ) (c : Dev nD)

theorem idxs : ∀ t : Fin cfg0.N, win0_0.index t = ![0, 0, t.val / 4] ∧ win0_1.index t = ![0, 0, t.val % 4] ∧ win0_2.index t = ![t.val % 4, t.val / 4, 0] := by decide +kernel

theorem lhs_at (a : Fin 1) (r : Fin 2048) (k : Fin 2048) : (V m c main_v1 : S1x2048x2048.Idx → EReal) (ix3 a r k)
    = ent (m (c, Proc.tc.devRef main_arg0) : S2048x2048.Idx → EReal) r k := by
  refine Eq.trans ?_ (ent_eq _ (i := r) (j := k) rfl rfl)
  conv_lhs => simp only [V]
  after_results_simp
  pointwise

theorem rhs_at (a : Fin 1) (r : Fin 2048) (k : Fin 5120) : (V m c main_v3 : S1x2048x5120.Idx → EReal) (ix3 a r k)
    = ent (m (c, Proc.tc.devRef main_arg2) : S2048x5120.Idx → EReal) r k := by
  refine Eq.trans ?_ (ent_eq _ (i := r) (j := k) rfl rfl)
  conv_lhs => simp only [V]
  after_results_simp
  pointwise

theorem blk0 (t : Fin cfg0.N) (b : Fin 1) (x : Fin 2048) (r : Fin 1024) : (iblk m c 0 t : S1x2048x1024.Idx → EReal) (ix3 b x r)
    = ent (m (c, Proc.tc.devRef main_arg0) : S2048x2048.Idx → EReal) x (1024 * (t.val / 4) + r) := by
  have hi := (idxs t).1
  have ht : t.val < 8 := t.isLt
  have e : (iblk m c 0 t : S1x2048x1024.Idx → EReal) (ix3 b x r)
      = (V m c main_v1 : S1x2048x2048.Idx → EReal) (ix3 0 x ⟨1024 * (t.val / 4) + r, by omega⟩) := by
    blk_simp [iblk]
    blk_ext [hi]
  rw [e, lhs_at]

theorem blk1 (t : Fin cfg0.N) (b : Fin 1) (x : Fin 2048) (s : Fin 1280) : (iblk m c 1 t : S1x2048x1280.Idx → EReal) (ix3 b x s)
    = ent (m (c, Proc.tc.devRef main_arg2) : S2048x5120.Idx → EReal) x (1280 * (t.val % 4) + s) := by
  have hi := (idxs t).2.1
  have ht : t.val < 8 := t.isLt
  have e : (iblk m c 1 t : S1x2048x1280.Idx → EReal) (ix3 b x s)
      = (V m c main_v3 : S1x2048x5120.Idx → EReal) (ix3 0 x ⟨1280 * (t.val % 4) + s, by omega⟩) := by
    blk_simp [iblk]
    blk_ext [hi]
  rw [e, rhs_at]

/-- A column of the input times a column of the gradient. -/
abbrev prod (m : (ℓ : Loc nD τ sig) → Buf (Elt Ideal) ℓ) (c : Dev nD) (r s : ℕ) : EReal :=
  dot (fun x => ent (m (c, Proc.tc.devRef main_arg0) : S2048x2048.Idx → EReal) x r) (fun x => ent (m (c, Proc.tc.devRef main_arg2) : S2048x5120.Idx → EReal) x s) 2048

/-- The scratch holds this panel's columns of the input. -/
theorem held : ∀ (n : ℕ) (h : n < cfg0.N) (r : Fin 1024) (x : Fin 2048),
    ((outsAt0 m c n h).2 : S1024x2048.Idx → EReal) (ix2 r x) = ent (m (c, Proc.tc.devRef main_arg0) : S2048x2048.Idx → EReal) x (1024 * (n / 4) + r) := by
  intro n
  induction n with
  | zero =>
    intro h r x
    rw [outsAt0_A m c ⟨0, h⟩ rfl]
    dsimp only
    rw [soutA]
    exact blk0 m c ⟨0, h⟩ 0 x r
  | succ n ih =>
    intro h r x
    by_cases h0 : (n + 1) % 4 = 0
    · rw [outsAt0_A m c ⟨n + 1, h⟩ h0]
      dsimp only
      rw [soutA]
      exact blk0 m c ⟨n + 1, h⟩ 0 x r
    · rw [outsAt0_B m c ⟨n + 1, h⟩ h0]
      dsimp only
      rw [soutB]
      refine (ih (Nat.lt_of_succ_lt h) r x).trans ?_
      rw [show (n + 1) / 4 = n / 4 by omega]

theorem out_at (t : Fin cfg0.N) (a : Fin 1) (r : Fin 1024) (s : Fin 1280) :
    ((outsAt0 m c t.val t.isLt).1 : S1x1024x1280.Idx → EReal) (ix3 a r s) = prod m c (1024 * (t.val / 4) + r) (1280 * (t.val % 4) + s) := by
  by_cases h0 : t.val % 4 = 0
  · rw [outsAt0_A m c t h0]
    dsimp only
    rw [outA]
    refine (pay_at _ _ a r s).trans (Eq.trans ?_ (dot_fin _ _ _))
    refine Finset.sum_congr rfl fun x _ => ?_
    rw [blk1]
    exact congrArg (· * _) (blk0 m c t 0 x r)
  · have hp := held m c (t.val - 1) (Nat.lt_of_le_of_lt (Nat.sub_le _ _) t.isLt)
    rw [outsAt0_B m c t h0]
    dsimp only
    rw [outB]
    refine (pay_at _ _ a r s).trans (Eq.trans ?_ (dot_fin _ _ _))
    refine Finset.sum_congr rfl fun x _ => ?_
    rw [blk1, hp, show (t.val - 1) / 4 = t.val / 4 by omega]

/-- Every panel of the product. -/
def G (m : (ℓ : Loc nD τ sig) → Buf (Elt Ideal) ℓ) (c : Dev nD) : S4x2048x1280.Idx → EReal := fun y => prod m c (y 1) (1280 * (y 0).val + (y 2).val)

theorem array : (dats m 0 c).arrAt 2 cfg0.N = (G m c : S4x2048x1280.Idx → EReal) := by
  refine (dats m 0 c).arrAt_eq_of_covers 2 (G m c) (by decide +kernel) fun t hf y => ?_
  have hi := (idxs t).2.2
  have ht : t.val < 8 := t.isLt
  blk_simp
  rw [after0_2]
  obtain ⟨a, r, s, rfl⟩ : ∃ (a : Fin 1) (r : Fin 1024) (s : Fin 1280), y = ix3 a r s := ⟨y 0, y 1, y 2, (ix3_eta y).symm⟩
  refine (out_at m c t a r s).trans ?_
  unfold G
  blk_simp [hi]
  try rw [Nat.mul_comm]

end Cert.Proof.MixDw

namespace Cert.Proof.MixDw
open Idealize.ShloMosaic Idealize.ShloMosaic.TcCoe Idealize.SL.Sem
section Reference
open Cert.ReferenceMixDwIdeal Cert.ReferenceMixDwIdeal.Gen

/-- The reference's result. -/
def ref (a0 : FVec Ideal S2048x2048 .f32) (a2 : FVec Ideal S2048x5120 .f32) : FVec Ideal S4x2048x1280 .bf16 :=
  truncf .bf16 ((concatenate S4x2048x1280 0 [⟨S1x2048x1280, ((broadcastInDim S1x2048x1280 ![1, 2] bcast_S2048x1280_S1x2048x1280_1_2 (extractStridedSlice S2048x1280 ![0, 0] (transpose S2048x5120 [1, 0] (Host.dotGeneral dot_S2048x5120_S2048x2048_S5120x2048_0_0_1_1_n_n none a2 a0) transposes_S5120x2048_S2048x5120_1_0) slices_S2048x5120_S2048x1280_0_0)) : (⟨S1x2048x1280, .f32⟩ : BufTy).Contents (Elt Ideal))⟩, ⟨S1x2048x1280, ((broadcastInDim S1x2048x1280 ![1, 2] bcast_S2048x1280_S1x2048x1280_1_2 (extractStridedSlice S2048x1280 ![0, 1280] (transpose S2048x5120 [1, 0] (Host.dotGeneral dot_S2048x5120_S2048x2048_S5120x2048_0_0_1_1_n_n none a2 a0) transposes_S5120x2048_S2048x5120_1_0) slices_S2048x5120_S2048x1280_0_1280)) : (⟨S1x2048x1280, .f32⟩ : BufTy).Contents (Elt Ideal))⟩, ⟨S1x2048x1280, ((broadcastInDim S1x2048x1280 ![1, 2] bcast_S2048x1280_S1x2048x1280_1_2 (extractStridedSlice S2048x1280 ![0, 2560] (transpose S2048x5120 [1, 0] (Host.dotGeneral dot_S2048x5120_S2048x2048_S5120x2048_0_0_1_1_n_n none a2 a0) transposes_S5120x2048_S2048x5120_1_0) slices_S2048x5120_S2048x1280_0_2560)) : (⟨S1x2048x1280, .f32⟩ : BufTy).Contents (Elt Ideal))⟩, ⟨S1x2048x1280, ((broadcastInDim S1x2048x1280 ![1, 2] bcast_S2048x1280_S1x2048x1280_1_2 (extractStridedSlice S2048x1280 ![0, 3840] (transpose S2048x5120 [1, 0] (Host.dotGeneral dot_S2048x5120_S2048x2048_S5120x2048_0_0_1_1_n_n none a2 a0) transposes_S5120x2048_S2048x5120_1_0) slices_S2048x5120_S2048x1280_0_3840)) : (⟨S1x2048x1280, .f32⟩ : BufTy).Contents (Elt Ideal))⟩] concatenates_S1x2048x1280_S1x2048x1280_S1x2048x1280_S1x2048x1280_S4x2048x1280_d0 : (⟨S4x2048x1280, .f32⟩ : BufTy).Contents (Elt Ideal))) bitsLt_bf16_f32

theorem ref_at (a0 : FVec Ideal S2048x2048 .f32) (a2 : FVec Ideal S2048x5120 .f32) (a : Fin 4) (r : Fin 2048) (s : Fin 1280) : ref a0 a2 (ix3 a r s) = dot (fun k => ent a0 k r) (fun k => ent a2 k (1280 * a + s)) 2048 := by
  refine Eq.trans ?_ (dot_fin _ _ _)
  refine Eq.trans (b := ∑ k : Fin 2048, a2 (ix2 k ⟨1280 * a + s, by omega⟩) * a0 (ix2 k r)) ?_ ?_
  · match a with
    | 0 => pointwise [ref]
    | 1 => pointwise [ref]
    | 2 => pointwise [ref]
    | 3 => pointwise [ref]
  · exact Finset.sum_congr rfl fun k _ => by rw [ent_eq a0 (r := k) (k := r) rfl rfl, ent_eq a2 (r := k) (k := 1280 * a + s) rfl rfl, mul_comm]
end Reference

/-- The reference's result is the kernel's. -/
theorem value (m : (ℓ : Loc Cert.KernelMixDwIdeal.nD Cert.KernelMixDwIdeal.τ Cert.KernelMixDwIdeal.sig) → Buf (Elt Ideal) ℓ) (c : Dev Cert.KernelMixDwIdeal.nD)
    (a0 : FVec Ideal Cert.ReferenceMixDwIdeal.S2048x2048 .f32) (a2 : FVec Ideal Cert.ReferenceMixDwIdeal.S2048x5120 .f32)
    (h0 : a0 = m (c, Proc.tc.devRef Cert.KernelMixDwIdeal.main_arg0)) (h2 : a2 = m (c, Proc.tc.devRef Cert.KernelMixDwIdeal.main_arg2)) : ref a0 a2 = G m c := by
  subst h0 h2
  refine funext fun i => ?_
  obtain ⟨a, r, s, rfl⟩ : ∃ (a : Fin 4) (r : Fin 2048) (s : Fin 1280), i = ix3 a r s := ⟨i 0, i 1, i 2, (ix3_eta i).symm⟩
  exact (ref_at _ _ a r s)

end Cert.Proof.MixDw
-- ==== Proof.MixDx.lean ====
/- The gradient of the mixer's normalised input: the kernel adds four panels of the columns, the reference sums them whole. -/
module

public import proofs.«01_k».proof.Proof.Gen.KernelMixDxIdeal.Value
public import proofs.«01_k».proof.Proof.Gen.ReferenceMixDxIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.MixDx
open Idealize.ShloMosaic Idealize.ShloMosaic.TcCoe Idealize.SL.Sem
open Cert.KernelMixDxIdeal Cert.KernelMixDxIdeal.Gen Cert.KernelMixDxIdeal.Value

theorem pay2_at (v0 : Vec Ideal S1x1024x1280 .bf16) (v2 : Vec Ideal S1x1024x1280 .bf16) (r : Fin 1024) (s : Fin 1024) :
    k0_pay2 (F := Ideal) v0 v2 (ix2 r s) = ∑ x : Fin 1280, v0 (ix3 0 r x) * v2 (ix3 0 s x) := by pointwise [k0_pay2, k0_pay1]
theorem pay3_at (v0 : Vec Ideal S1x1024x1280 .bf16) (v2 : Vec Ideal S1x1024x1280 .bf16) (v14 : Vec Ideal S1024x1024 .f32) (r : Fin 1024) (s : Fin 1024) :
    k0_pay3 (F := Ideal) v0 v2 v14 (ix2 r s) = v14 (ix2 r s) + ∑ x : Fin 1280, v0 (ix3 0 r x) * v2 (ix3 0 s x) := by pointwise [k0_pay3, k0_pay1]
theorem pay4_at (v14 : Vec Ideal S1024x1024 .f32) (a : Fin 1) (r : Fin 1024) (s : Fin 1024) :
    k0_pay4 (F := Ideal) v14 (ix3 a r s) = v14 (ix2 r s) := by pointwise [k0_pay4]

section Body
variable (c : Dev nD) (i : grid0.Coords) (arg3 : Memref sig .tc .vmem S1x1024x1280 .bf16) (harg3 : arg3.IsWhole) (arg4 : Memref sig .tc .vmem S1x1024x1280 .bf16) (harg4 : arg4.IsWhole) (arg5 : Memref sig .tc .vmem S1x1024x1024 .f32) (harg5 : arg5.IsWhole) (arg6 : Memref sig .tc .vmem S1024x1024 .f32) (harg6 : arg6.IsWhole)
  (x0 : Vec Ideal S1x1024x1280 .bf16) (x1 : Vec Ideal S1x1024x1280 .bf16) (xs0 : Vec Ideal S1024x1024 .f32)
theorem soutA (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  frame_out
theorem soutB (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  frame_out
theorem soutC (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  frame_out
theorem outC (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  frame_out
end Body

variable (m : (ℓ : Loc nD τ sig) → Buf (Elt Ideal) ℓ) (c : Dev nD)

theorem idxs : ∀ t : Fin cfg0.N, win0_0.index t = ![0, t.val / 8, t.val % 4] ∧ win0_1.index t = ![t.val % 4, t.val / 4 % 2, 0] := by decide +kernel

theorem lhs_at (a : Fin 1) (r : Fin 2048) (k : Fin 5120) : (V m c main_v1 : S1x2048x5120.Idx → EReal) (ix3 a r k)
    = ent (m (c, Proc.tc.devRef main_arg2) : S2048x5120.Idx → EReal) r k := by
  refine Eq.trans ?_ (ent_eq _ (i := r) (j := k) rfl rfl)
  conv_lhs => simp only [V]
  after_results_simp
  pointwise

/-- The weight's columns in four panels. -/
theorem rhs_at (a : Fin 4) (r : Fin 2048) (k : Fin 1280) : (V m c main_v11 : S4x2048x1280.Idx → EReal) (ix3 a r k)
    = ent (m (c, Proc.tc.devRef main_arg1) : S2048x5120.Idx → EReal) r (1280 * a + k) := by
  refine Eq.trans ?_ (ent_eq _ (i := r) (j := ⟨1280 * a + k, by omega⟩) (by rfl) rfl)
  conv_lhs => simp only [V]
  after_results_simp
  match a with
  | 0 => pointwise; after_results_simp; pointwise
  | 1 => pointwise; after_results_simp; pointwise
  | 2 => pointwise; after_results_simp; pointwise
  | 3 => pointwise; after_results_simp; pointwise

theorem blk0 (t : Fin cfg0.N) (b : Fin 1) (r : Fin 1024) (x : Fin 1280) : (iblk m c 0 t : S1x1024x1280.Idx → EReal) (ix3 b r x)
    = ent (m (c, Proc.tc.devRef main_arg2) : S2048x5120.Idx → EReal) (1024 * (t.val / 8) + r) (1280 * (t.val % 4) + x) := by
  have hi := (idxs t).1
  have ht : t.val < 16 := t.isLt
  have e : (iblk m c 0 t : S1x1024x1280.Idx → EReal) (ix3 b r x)
      = (V m c main_v1 : S1x2048x5120.Idx → EReal) (ix3 0 ⟨1024 * (t.val / 8) + r, by omega⟩ ⟨1280 * (t.val % 4) + x, by omega⟩) := by
    blk_simp [iblk]
    blk_ext [hi]
  rw [e, lhs_at]
theorem blk1 (t : Fin cfg0.N) (b : Fin 1) (r : Fin 1024) (x : Fin 1280) : (iblk m c 1 t : S1x1024x1280.Idx → EReal) (ix3 b r x)
    = ent (m (c, Proc.tc.devRef main_arg1) : S2048x5120.Idx → EReal) (1024 * (t.val / 4 % 2) + r) (1280 * (t.val % 4) + x) := by
  have hi := (idxs t).2
  have ht : t.val < 16 := t.isLt
  have e : (iblk m c 1 t : S1x1024x1280.Idx → EReal) (ix3 b r x)
      = (V m c main_v11 : S4x2048x1280.Idx → EReal) (ix3 ⟨t.val % 4, by omega⟩ ⟨1024 * (t.val / 4 % 2) + r, by omega⟩ x) := by
    blk_simp [iblk]
    blk_ext [hi]
  rw [e, rhs_at]

/-- The product of a row of the gradient and a row of the weight, as far as `n` columns. -/
abbrev part (m : (ℓ : Loc nD τ sig) → Buf (Elt Ideal) ℓ) (c : Dev nD) (r s n : ℕ) : EReal :=
  dot (ent (m (c, Proc.tc.devRef main_arg2) : S2048x5120.Idx → EReal) r) (ent (m (c, Proc.tc.devRef main_arg1) : S2048x5120.Idx → EReal) s) n

/-- After point `n` the running sum has the panels up to this point's; after the last it is the output block. -/
def After (n : ℕ) (st : Vec Ideal S1x1024x1024 .f32 × Vec Ideal S1024x1024 .f32) : Prop :=
  (∀ (r : Fin 1024) (s : Fin 1024), st.2 (ix2 r s) = part m c (1024 * (n / 8) + r) (1024 * (n / 4 % 2) + s) (1280 * (n % 4) + 1280))
  ∧ (n % 4 = 3 → ∀ (a : Fin 1) (r : Fin 1024) (s : Fin 1024), st.1 (ix3 a r s) = st.2 (ix2 r s))

theorem pay3_part (t : Fin cfg0.N) (h0 : t.val % 4 ≠ 0) (acc : Vec Ideal S1x1024x1024 .f32 × Vec Ideal S1024x1024 .f32) (ha : After m c (t.val - 1) acc) (r : Fin 1024) (s : Fin 1024) :
    k0_pay3 (F := Ideal) (iblk m c 0 t) (iblk m c 1 t) acc.2 (ix2 r s)
      = part m c (1024 * (t.val / 8) + r) (1024 * (t.val / 4 % 2) + s) (1280 * (t.val % 4) + 1280) := by
  refine (pay3_at _ _ _ r s).trans ?_
  rw [ha.1]
  simp only [blk0 m c t, blk1 m c t]
  rw [show (t.val - 1) / 8 = t.val / 8 by omega, show (t.val - 1) / 4 % 2 = t.val / 4 % 2 by omega, show 1280 * ((t.val - 1) % 4) + 1280 = 1280 * (t.val % 4) by omega]
  exact dot_add _ _ _ _

theorem after_step (t : Fin cfg0.N) (acc : Vec Ideal S1x1024x1024 .f32 × Vec Ideal S1024x1024 .f32)
    (ha : t.val % 4 ≠ 0 → After m c (t.val - 1) acc) : After m c t.val (stAt0 m c t.val t.isLt acc) := by
  by_cases h0 : t.val % 4 = 0
  · rw [stAt0_A m c t acc h0 (by omega) (by omega), soutA]
    refine ⟨fun r s => (pay2_at _ _ r s).trans ?_, fun h => absurd h (by omega)⟩
    simp only [blk0 m c t, blk1 m c t]
    exact dot_first _ _ _ (by omega)
  · by_cases h2 : t.val % 4 = 3
    · rw [stAt0_C m c t acc h0 (by omega) h2, soutC, outC]
      exact ⟨pay3_part m c t h0 acc (ha h0), fun _ a r s => pay4_at (k0_pay3 (iblk m c 0 t) (iblk m c 1 t) acc.2) a r s⟩
    · rw [stAt0_B m c t acc h0 (by omega) h2, soutB]
      exact ⟨pay3_part m c t h0 acc (ha h0), fun h => absurd h h2⟩

theorem after_all : ∀ (n : ℕ) (h : 0 + n < cfg0.N),
    After m c n (Pipeline.accAt (fun n h => stAt0 m c n h junk0) (stAt0 m c) 0 n h)
  | 0, h => after_step m c ⟨0, h⟩ junk0 fun hn => absurd rfl hn
  | n + 1, h => by
    have ih := after_all n (Nat.lt_of_succ_lt h)
    have key : ∀ (k : ℕ) (hk : k < cfg0.N) (e : k = n + 1) (acc) (ha : After m c n acc), After m c (n + 1) (stAt0 m c k hk acc) := by
      intro k hk e acc ha; subst e; exact after_step m c ⟨n + 1, hk⟩ acc fun _ => ha
    exact key (0 + (n + 1)) h (Nat.zero_add _) _ ih

abbrev G (m : (ℓ : Loc nD τ sig) → Buf (Elt Ideal) ℓ) (c : Dev nD) : S1x2048x2048.Idx → EReal := G2 m c
theorem G_at (a : Fin 1) (r : Fin 2048) (s : Fin 2048) : G m c (ix3 a r s) = part m c r s 5120 := by
  have hp : pt2Of (ix3 a r s) = 8 * (r.val / 1024) + 4 * (s.val / 1024) + 3 := by
    show 4 * (4 * (a.val / 1 - 0) + 2 * (r.val / 1024 - 0) + 1 * (s.val / 1024 - 0)) + 3 = _; omega
  have hl : pt2Of (ix3 a r s) < cfg0.N := by rw [hp, show cfg0.N = 16 from N_0]; omega
  refine (dif_pos hl).trans ?_
  obtain ⟨h1, h2⟩ := after_all m c (pt2Of (ix3 a r s)) (by omega)
  have e := (h2 (by rw [hp]; omega) 0 ⟨r.val % 1024, by omega⟩ ⟨s.val % 1024, by omega⟩).trans (h1 _ _)
  refine Eq.trans (congrArg _ ?_) (e.trans ?_)
  · funext b; match b with
    | ⟨0, _⟩ => exact Fin.ext (show a.val % 1 = 0 by omega)
    | ⟨1, _⟩ => rfl
    | ⟨2, _⟩ => rfl
  · dsimp only
    rw [hp]
    congr 1 <;> omega

end Cert.Proof.MixDx

namespace Cert.Proof.MixDx
open Idealize.ShloMosaic Idealize.ShloMosaic.TcCoe Idealize.SL.Sem
section Reference
open Cert.ReferenceMixDxIdeal Cert.ReferenceMixDxIdeal.Gen

/-- The reference's result. -/
def ref (a1 : FVec Ideal S2048x5120 .f32) (a2 : FVec Ideal S2048x5120 .f32) : FVec Ideal S1x2048x2048 .f32 :=
  broadcastInDim S1x2048x2048 ![1, 2] bcast_S2048x2048_S1x2048x2048_1_2 (Host.dotGeneral dot_S2048x5120_S2048x5120_S2048x2048_1_1_0_0_n_n none a2 a1)

theorem ref_at (a1 : FVec Ideal S2048x5120 .f32) (a2 : FVec Ideal S2048x5120 .f32) (a : Fin 1) (r : Fin 2048) (s : Fin 2048) : ref a1 a2 (ix3 a r s) = dot (ent a2 r) (ent a1 s) 5120 := by
  refine Eq.trans ?_ (dot_fin _ _ _)
  pointwise [ref]
  exact Finset.sum_congr rfl fun k _ => by rw [ent_eq a2 rfl rfl, ent_eq a1 rfl rfl]
end Reference

/-- The reference's result is the kernel's. -/
theorem value (m : (ℓ : Loc Cert.KernelMixDxIdeal.nD Cert.KernelMixDxIdeal.τ Cert.KernelMixDxIdeal.sig) → Buf (Elt Ideal) ℓ) (c : Dev Cert.KernelMixDxIdeal.nD)
    (a1 : FVec Ideal Cert.ReferenceMixDxIdeal.S2048x5120 .f32) (a2 : FVec Ideal Cert.ReferenceMixDxIdeal.S2048x5120 .f32)
    (h1 : a1 = m (c, Proc.tc.devRef Cert.KernelMixDxIdeal.main_arg1)) (h2 : a2 = m (c, Proc.tc.devRef Cert.KernelMixDxIdeal.main_arg2)) : ref a1 a2 = G m c := by
  subst h1 h2
  refine funext fun i => ?_
  obtain ⟨a, r, s, rfl⟩ : ∃ (a : Fin 1) (r : Fin 2048) (s : Fin 2048), i = ix3 a r s := ⟨i 0, i 1, i 2, (ix3_eta i).symm⟩
  exact (ref_at _ _ a r s).trans (G_at m c a r s).symm

end Cert.Proof.MixDx
-- ==== Proof.FfnOut.lean ====
/- The second half of a half-step: the activation times the output weights, halved and added to the residual. -/
module

public import proofs.«01_k».proof.Proof.Gen.KernelFfnOutIdeal.Value
public import proofs.«01_k».proof.Proof.Gen.ReferenceFfnOutIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.FfnOut
open Idealize.ShloMosaic Idealize.ShloMosaic.TcCoe Idealize.SL.Sem
open Cert.KernelFfnOutIdeal Cert.KernelFfnOutIdeal.Gen Cert.KernelFfnOutIdeal.Value

theorem pay1_at (v0 : Vec Ideal S1x1024x5632 .bf16) (v2 : Vec Ideal S4x1408x512 .bf16) (v6 : Vec Ideal S1x1024x512 .f32) (a : Fin 1) (r : Fin 1024) (s : Fin 512) :
    k0_pay1 (F := Ideal) v0 v2 v6 (ix3 a r s) = v6 (ix3 0 r s) + half * (∑ x : Fin 5632, v0 (ix3 0 r x) * v2 (ix3 ⟨x.val / 1408, by omega⟩ ⟨x.val % 1408, by omega⟩ s)) := by pointwise [k0_pay1]
theorem out_at (x0 : Vec Ideal S1x1024x5632 .bf16) (x1 : Vec Ideal S4x1408x512 .bf16) (x2 : Vec Ideal S1x1024x512 .f32) : out0_3 (F := Ideal) x0 x1 x2 = k0_pay1 x0 x1 x2 := by
  frame_out

variable (m : (ℓ : Loc nD τ sig) → Buf (Elt Ideal) ℓ) (c : Dev nD)

theorem idxs : ∀ t : Fin cfg0.N, win0_0.index t = ![0, t.val / 4, 0] ∧ win0_1.index t = ![0, 0, t.val % 4] ∧ win0_3.index t = ![0, t.val / 4, t.val % 4] ∧ win0_2.index t = ![0, t.val / 4, t.val % 4] := by decide +kernel

theorem lhs_at (a : Fin 1) (x : Fin 2048) (k : Fin 5632) : (V m c main_v5 : S1x2048x5632.Idx → EReal) (ix3 a x k) = ent (act (m (c, Proc.tc.devRef main_arg1))) x k := by
  refine Eq.trans ?_ (ent_eq _ (i := x) (j := k) rfl rfl)
  conv_lhs =>
    simp only [V, List.flatten_cons, List.flatten_nil, List.append_nil, hostOps0, hostOps0_1, hostOps0_2, List.cons_append, List.nil_append, StableHlo.TRef.binary, StableHlo.TRef.nullary, StableHlo.TRef.unary, StableHlo.TRef.toBuf, StableHlo.TRef.ofBuf, cast_eq]
  after_results_simp
  pointwise
  rfl

theorem rhs_at (a : Fin 4) (r : Fin 1408) (k : Fin 2048) : (V m c main_v7 : S4x1408x2048.Idx → EReal) (ix3 a r k)
    = ent (m (c, Proc.tc.devRef main_arg2) : S5632x2048.Idx → EReal) (1408 * a + r) k := by
  refine Eq.trans ?_ (ent_eq _ (i := ⟨a.val * 1408 + r.val, by omega⟩) (j := k) (by simp only; omega) rfl)
  conv_lhs =>
    simp only [V, List.flatten_cons, List.flatten_nil, List.append_nil, hostOps0, hostOps0_1, hostOps0_2, List.cons_append, List.nil_append, StableHlo.TRef.binary, StableHlo.TRef.nullary, StableHlo.TRef.unary, StableHlo.TRef.toBuf, StableHlo.TRef.ofBuf, cast_eq]
  after_results_simp
  pointwise

theorem res_at (a : Fin 1) (r : Fin 2048) (k : Fin 2048) : (V m c main_v8 : S1x2048x2048.Idx → EReal) (ix3 a r k)
    = ent (m (c, Proc.tc.devRef main_arg0) : S2048x2048.Idx → EReal) r k := by
  refine Eq.trans ?_ (ent_eq _ (i := r) (j := k) rfl rfl)
  conv_lhs =>
    simp only [V, List.flatten_cons, List.flatten_nil, List.append_nil, hostOps0, hostOps0_1, hostOps0_2, List.cons_append, List.nil_append, StableHlo.TRef.binary, StableHlo.TRef.nullary, StableHlo.TRef.unary, StableHlo.TRef.toBuf, StableHlo.TRef.ofBuf, cast_eq]
  after_results_simp
  pointwise

theorem blk0 (t : Fin cfg0.N) (b : Fin 1) (r : Fin 1024) (x : Fin 5632) : (iblk m c 0 t : S1x1024x5632.Idx → EReal) (ix3 b r x)
    = ent (act (m (c, Proc.tc.devRef main_arg1))) (1024 * (t.val / 4) + r) x := by
  have hi := (idxs t).1
  have ht : t.val < 8 := t.isLt
  have e : (iblk m c 0 t : S1x1024x5632.Idx → EReal) (ix3 b r x)
      = (V m c main_v5 : S1x2048x5632.Idx → EReal) (ix3 0 ⟨1024 * (t.val / 4) + r, by omega⟩ x) := by
    blk_simp [iblk]
    blk_ext [hi]
  rw [e, lhs_at]

theorem blk1 (t : Fin cfg0.N) (p : Fin 4) (x : Fin 1408) (s : Fin 512) : (iblk m c 1 t : S4x1408x512.Idx → EReal) (ix3 p x s)
    = ent (m (c, Proc.tc.devRef main_arg2) : S5632x2048.Idx → EReal) (1408 * p + x) (512 * (t.val % 4) + s) := by
  have hi := (idxs t).2.1
  have ht : t.val < 8 := t.isLt
  have e : (iblk m c 1 t : S4x1408x512.Idx → EReal) (ix3 p x s) = (V m c main_v7 : S4x1408x2048.Idx → EReal) (ix3 p x ⟨512 * (t.val % 4) + s, by omega⟩) := by
    blk_simp [iblk]
    blk_ext [hi]
  rw [e, rhs_at]

theorem blk2 (t : Fin cfg0.N) (b : Fin 1) (r : Fin 1024) (s : Fin 512) : (iblk m c 2 t : S1x1024x512.Idx → EReal) (ix3 b r s)
    = ent (m (c, Proc.tc.devRef main_arg0) : S2048x2048.Idx → EReal) (1024 * (t.val / 4) + r) (512 * (t.val % 4) + s) := by
  have hi := (idxs t).2.2.2
  have ht : t.val < 8 := t.isLt
  have e : (iblk m c 2 t : S1x1024x512.Idx → EReal) (ix3 b r s)
      = (V m c main_v8 : S1x2048x2048.Idx → EReal) (ix3 0 ⟨1024 * (t.val / 4) + r, by omega⟩ ⟨512 * (t.val % 4) + s, by omega⟩) := by
    blk_simp [iblk]
    blk_ext [hi]
  rw [e, res_at]

/-- A row of the input times a column of the weight. -/
abbrev prod (m : (ℓ : Loc nD τ sig) → Buf (Elt Ideal) ℓ) (c : Dev nD) (r s : ℕ) : EReal :=
  dot (ent (act (m (c, Proc.tc.devRef main_arg1))) r) (fun x => ent (m (c, Proc.tc.devRef main_arg2) : S5632x2048.Idx → EReal) x s) 5632
def G (m : (ℓ : Loc nD τ sig) → Buf (Elt Ideal) ℓ) (c : Dev nD) : S1x2048x2048.Idx → EReal := fun y =>
  ent (m (c, Proc.tc.devRef main_arg0) : S2048x2048.Idx → EReal) (y 1) (y 2) + half * prod m c (y 1) (y 2)

/-- The block a point leaves. -/
theorem left_at (t : Fin cfg0.N) (a : Fin 1) (r : Fin 1024) (s : Fin 512) : out0_3 (F := Ideal) (iblk m c 0 t) (iblk m c 1 t) (iblk m c 2 t) (ix3 a r s)
    = ent (m (c, Proc.tc.devRef main_arg0) : S2048x2048.Idx → EReal) (1024 * (t.val / 4) + r) (512 * (t.val % 4) + s) + half * prod m c (1024 * (t.val / 4) + r) (512 * (t.val % 4) + s) := by
  rw [out_at]
  refine (pay1_at _ _ _ a r s).trans ?_
  rw [blk2]
  refine Eq.trans (congrArg (fun d => ent (m (c, Proc.tc.devRef main_arg0) : S2048x2048.Idx → EReal) (1024 * (t.val / 4) + r) (512 * (t.val % 4) + s) + half * d) (Eq.trans (Finset.sum_congr rfl fun x _ => ?_)
    (dot_fin (ent (act (m (c, Proc.tc.devRef main_arg1))) (1024 * (t.val / 4) + r)) (fun x => ent (m (c, Proc.tc.devRef main_arg2) : S5632x2048.Idx → EReal) x (512 * (t.val % 4) + s)) 5632))) ?_
  · exact congrArg₂ (· * ·) (blk0 m c t 0 r x) ((blk1 m c t _ _ s).trans (by simp only [Nat.div_add_mod]))
  · rfl

theorem array : (dats m 0 c).arrAt 3 cfg0.N = (G m c : S1x2048x2048.Idx → EReal) := by
  refine (dats m 0 c).arrAt_eq_of_covers 3 (G m c) (by decide +kernel) fun t hf y => ?_
  have hi := (idxs t).2.2.1
  have ht : t.val < 8 := t.isLt
  blk_simp
  rw [after0_3]
  obtain ⟨a, r, s, rfl⟩ : ∃ (a : Fin 1) (r : Fin 1024) (s : Fin 512), y = ix3 a r s := ⟨y 0, y 1, y 2, (ix3_eta y).symm⟩
  refine (left_at m c t a r s).trans ?_
  unfold G
  blk_simp [hi]
  rw [Nat.mul_comm 1024, Nat.mul_comm 512]

end Cert.Proof.FfnOut

namespace Cert.Proof.FfnOut
open Idealize.ShloMosaic Idealize.ShloMosaic.TcCoe Idealize.SL.Sem
section Reference
open Cert.ReferenceFfnOutIdeal Cert.ReferenceFfnOutIdeal.Gen

/-- The reference's result. -/
def ref (a0 : FVec Ideal S2048x2048 .f32) (a1 : FVec Ideal S2048x11264 .f32) (a2 : FVec Ideal S5632x2048 .f32) : FVec Ideal S1x2048x2048 .f32 :=
  broadcastInDim S1x2048x2048 ![1, 2] bcast_S2048x2048_S1x2048x2048_1_2 (addf a0 (mulf (broadcastInDim S2048x2048 ![] bcast_S_S2048x2048 (constant S_ .f32 0x3F000000#32)) (Host.dotGeneral dot_S2048x5632_S5632x2048_S2048x2048_1_0_0_1_n_n none (mulf (mulf (extractStridedSlice S2048x5632 ![0, 0] a1 slices_S2048x11264_S2048x5632_0_0) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] a1 slices_S2048x11264_S2048x5632_0_0)))))) (extractStridedSlice S2048x5632 ![0, 5632] a1 slices_S2048x11264_S2048x5632_0_5632)) a2)))

theorem ref_at (a0 : FVec Ideal S2048x2048 .f32) (a1 : FVec Ideal S2048x11264 .f32) (a2 : FVec Ideal S5632x2048 .f32) (a : Fin 1) (r : Fin 2048) (s : Fin 2048) : ref a0 a1 a2 (ix3 a r s) = ent a0 r s + half * dot (ent (act a1) r) (fun x => ent a2 x s) 5632 := by
  refine Eq.trans (b := a0 (ix2 r s) + half * (∑ k : Fin 5632, (act a1) (ix2 r k) * a2 (ix2 k s))) ?_ ?_
  · pointwise [ref, act]
  · rw [ent_eq a0 (r := r) (k := s) rfl rfl, ← dot_fin]
    simp only [ent_eq (act a1) rfl rfl, ent_eq a2 rfl rfl]
end Reference

/-- The reference's result is the kernel's. -/
theorem value (m : (ℓ : Loc Cert.KernelFfnOutIdeal.nD Cert.KernelFfnOutIdeal.τ Cert.KernelFfnOutIdeal.sig) → Buf (Elt Ideal) ℓ) (c : Dev Cert.KernelFfnOutIdeal.nD)
    (a0 : FVec Ideal Cert.ReferenceFfnOutIdeal.S2048x2048 .f32) (a1 : FVec Ideal Cert.ReferenceFfnOutIdeal.S2048x11264 .f32) (a2 : FVec Ideal Cert.ReferenceFfnOutIdeal.S5632x2048 .f32)
    (h0 : a0 = m (c, Proc.tc.devRef Cert.KernelFfnOutIdeal.main_arg0)) (h1 : a1 = m (c, Proc.tc.devRef Cert.KernelFfnOutIdeal.main_arg1)) (h2 : a2 = m (c, Proc.tc.devRef Cert.KernelFfnOutIdeal.main_arg2)) : ref a0 a1 a2 = G m c := by
  subst h0 h1 h2
  refine funext fun i => ?_
  obtain ⟨a, r, s, rfl⟩ : ∃ (a : Fin 1) (r : Fin 2048) (s : Fin 2048), i = ix3 a r s := ⟨i 0, i 1, i 2, (ix3_eta i).symm⟩
  exact (ref_at _ _ _ a r s)

end Cert.Proof.FfnOut
-- ==== Proof.MixIn.lean ====
/- The mixer's input projection, 256 columns at a time. -/
module

public import proofs.«01_k».proof.Proof.Gen.KernelMixInIdeal.Value
public import proofs.«01_k».proof.Proof.Gen.ReferenceMixInIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.MixIn
open Idealize.ShloMosaic Idealize.ShloMosaic.TcCoe Idealize.SL.Sem
open Cert.KernelMixInIdeal Cert.KernelMixInIdeal.Gen Cert.KernelMixInIdeal.Value

theorem pay1_at (v0 : Vec Ideal S1x2048x2048 .bf16) (v2 : Vec Ideal S1x2048x256 .bf16) (a : Fin 1) (r : Fin 2048) (s : Fin 256) :
    k0_pay1 (F := Ideal) v0 v2 (ix3 a r s) = (∑ x : Fin 2048, v0 (ix3 0 r x) * v2 (ix3 0 x s)) := by pointwise [k0_pay1]
theorem out_at (x0 : Vec Ideal S1x2048x2048 .bf16) (x1 : Vec Ideal S1x2048x256 .bf16) : out0_2 (F := Ideal) x0 x1 = k0_pay1 x0 x1 := by
  frame_out

variable (m : (ℓ : Loc nD τ sig) → Buf (Elt Ideal) ℓ) (c : Dev nD)

theorem idxs : ∀ t : Fin cfg0.N, win0_0.index t = ![0, t.val / 20, 0] ∧ win0_1.index t = ![t.val % 20 / 5, 0, t.val % 20 % 5] ∧ win0_2.index t = ![0, t.val / 20, t.val % 20] := by decide +kernel

theorem lhs_at (a : Fin 1) (r : Fin 2048) (k : Fin 2048) : (V m c main_v1 : S1x2048x2048.Idx → EReal) (ix3 a r k)
    = ent (m (c, Proc.tc.devRef main_arg0) : S2048x2048.Idx → EReal) r k := by
  refine Eq.trans ?_ (ent_eq _ (i := r) (j := k) rfl rfl)
  conv_lhs => simp only [V]
  after_results_simp
  pointwise

theorem rhs_at (a : Fin 4) (r : Fin 2048) (k : Fin 1280) : (V m c main_v11 : S4x2048x1280.Idx → EReal) (ix3 a r k)
    = ent (m (c, Proc.tc.devRef main_arg1) : S2048x5120.Idx → EReal) r (1280 * a + k) := by
  refine Eq.trans ?_ (ent_eq _ (i := r) (j := ⟨1280 * a + k, by omega⟩) (by rfl) rfl)
  conv_lhs => simp only [V]
  after_results_simp
  match a with
  | 0 => pointwise; after_results_simp; pointwise
  | 1 => pointwise; after_results_simp; pointwise
  | 2 => pointwise; after_results_simp; pointwise
  | 3 => pointwise; after_results_simp; pointwise

theorem blk0 (t : Fin cfg0.N) (b : Fin 1) (r : Fin 2048) (x : Fin 2048) : (iblk m c 0 t : S1x2048x2048.Idx → EReal) (ix3 b r x)
    = ent (m (c, Proc.tc.devRef main_arg0) : S2048x2048.Idx → EReal) (2048 * (t.val / 20) + r) x := by
  have hi := (idxs t).1
  have ht : t.val < 20 := t.isLt
  have e : (iblk m c 0 t : S1x2048x2048.Idx → EReal) (ix3 b r x)
      = (V m c main_v1 : S1x2048x2048.Idx → EReal) (ix3 0 ⟨2048 * (t.val / 20) + r, by omega⟩ x) := by
    blk_simp [iblk]
    blk_ext [hi]
  rw [e, lhs_at]

theorem blk1 (t : Fin cfg0.N) (b : Fin 1) (x : Fin 2048) (s : Fin 256) : (iblk m c 1 t : S1x2048x256.Idx → EReal) (ix3 b x s)
    = ent (m (c, Proc.tc.devRef main_arg1) : S2048x5120.Idx → EReal) x (256 * (t.val % 20) + s) := by
  have hi := (idxs t).2.1
  have ht : t.val < 20 := t.isLt
  have e : (iblk m c 1 t : S1x2048x256.Idx → EReal) (ix3 b x s)
      = (V m c main_v11 : S4x2048x1280.Idx → EReal) (ix3 ⟨t.val % 20 / 5, by omega⟩ x ⟨256 * (t.val % 20 % 5) + s, by omega⟩) := by
    blk_simp [iblk]
    blk_ext [hi]
  rw [e, rhs_at]
  exact congrArg _ (by show 1280 * (t.val % 20 / 5) + (256 * (t.val % 20 % 5) + s.val) = _; omega)

/-- A row of the input times a column of the weight. -/
abbrev prod (m : (ℓ : Loc nD τ sig) → Buf (Elt Ideal) ℓ) (c : Dev nD) (r s : ℕ) : EReal :=
  dot (ent (m (c, Proc.tc.devRef main_arg0) : S2048x2048.Idx → EReal) r) (fun x => ent (m (c, Proc.tc.devRef main_arg1) : S2048x5120.Idx → EReal) x s) 2048
def G (m : (ℓ : Loc nD τ sig) → Buf (Elt Ideal) ℓ) (c : Dev nD) : S1x2048x5120.Idx → EReal := fun y =>
  prod m c (y 1) (y 2)

/-- The block a point leaves. -/
theorem left_at (t : Fin cfg0.N) (a : Fin 1) (r : Fin 2048) (s : Fin 256) : out0_2 (F := Ideal) (iblk m c 0 t) (iblk m c 1 t) (ix3 a r s)
    = prod m c (2048 * (t.val / 20) + r) (256 * (t.val % 20) + s) := by
  rw [out_at]
  refine (pay1_at _ _ a r s).trans ?_
  refine Eq.trans (congrArg (fun d => d) (Eq.trans (Finset.sum_congr rfl fun x _ => ?_)
    (dot_fin (ent (m (c, Proc.tc.devRef main_arg0) : S2048x2048.Idx → EReal) (2048 * (t.val / 20) + r)) (fun x => ent (m (c, Proc.tc.devRef main_arg1) : S2048x5120.Idx → EReal) x (256 * (t.val % 20) + s)) 2048))) ?_
  · exact congrArg₂ (· * ·) (blk0 m c t 0 r x) (blk1 m c t 0 x s)
  · rfl

theorem array : (dats m 0 c).arrAt 2 cfg0.N = (G m c : S1x2048x5120.Idx → EReal) := by
  refine (dats m 0 c).arrAt_eq_of_covers 2 (G m c) (by decide +kernel) fun t hf y => ?_
  have hi := (idxs t).2.2
  have ht : t.val < 20 := t.isLt
  blk_simp
  rw [after0_2]
  obtain ⟨a, r, s, rfl⟩ : ∃ (a : Fin 1) (r : Fin 2048) (s : Fin 256), y = ix3 a r s := ⟨y 0, y 1, y 2, (ix3_eta y).symm⟩
  refine (left_at m c t a r s).trans ?_
  unfold G
  blk_simp [hi]
  rw [Nat.mul_comm 2048, Nat.mul_comm 256]

end Cert.Proof.MixIn

namespace Cert.Proof.MixIn
open Idealize.ShloMosaic Idealize.ShloMosaic.TcCoe Idealize.SL.Sem
section Reference
open Cert.ReferenceMixInIdeal Cert.ReferenceMixInIdeal.Gen

/-- The reference's result. -/
def ref (a0 : FVec Ideal S2048x2048 .f32) (a1 : FVec Ideal S2048x5120 .f32) : FVec Ideal S1x2048x5120 .f32 :=
  broadcastInDim S1x2048x5120 ![1, 2] bcast_S2048x5120_S1x2048x5120_1_2 (Host.dotGeneral dot_S2048x2048_S2048x5120_S2048x5120_1_0_0_1_n_n none a0 a1)

theorem ref_at (a0 : FVec Ideal S2048x2048 .f32) (a1 : FVec Ideal S2048x5120 .f32) (a : Fin 1) (r : Fin 2048) (s : Fin 5120) : ref a0 a1 (ix3 a r s) = dot (ent a0 r) (fun x => ent a1 x s) 2048 := by
  refine Eq.trans (b := ∑ k : Fin 2048, a0 (ix2 r k) * a1 (ix2 k s)) ?_ ?_
  · pointwise [ref]
  · rw [← dot_fin]
    simp only [ent_eq a0 rfl rfl, ent_eq a1 rfl rfl]
end Reference

/-- The reference's result is the kernel's. -/
theorem value (m : (ℓ : Loc Cert.KernelMixInIdeal.nD Cert.KernelMixInIdeal.τ Cert.KernelMixInIdeal.sig) → Buf (Elt Ideal) ℓ) (c : Dev Cert.KernelMixInIdeal.nD)
    (a0 : FVec Ideal Cert.ReferenceMixInIdeal.S2048x2048 .f32) (a1 : FVec Ideal Cert.ReferenceMixInIdeal.S2048x5120 .f32)
    (h0 : a0 = m (c, Proc.tc.devRef Cert.KernelMixInIdeal.main_arg0)) (h1 : a1 = m (c, Proc.tc.devRef Cert.KernelMixInIdeal.main_arg1)) : ref a0 a1 = G m c := by
  subst h0 h1
  refine funext fun i => ?_
  obtain ⟨a, r, s, rfl⟩ : ∃ (a : Fin 1) (r : Fin 2048) (s : Fin 5120), i = ix3 a r s := ⟨i 0, i 1, i 2, (ix3_eta i).symm⟩
  exact (ref_at _ _ a r s)

end Cert.Proof.MixIn
-- ==== Proof.SqOut.lean ====
/- A square projection added to the residual, the weight in its four row panels. -/
module

public import proofs.«01_k».proof.Proof.Gen.KernelSqOutIdeal.Value
public import proofs.«01_k».proof.Proof.Gen.ReferenceSqOutIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.SqOut
open Idealize.ShloMosaic Idealize.ShloMosaic.TcCoe Idealize.SL.Sem
open Cert.KernelSqOutIdeal Cert.KernelSqOutIdeal.Gen Cert.KernelSqOutIdeal.Value

theorem pay1_at (v0 : Vec Ideal S1x1024x2048 .bf16) (v2 : Vec Ideal S4x512x1024 .bf16) (v6 : Vec Ideal S1x1024x1024 .f32) (a : Fin 1) (r : Fin 1024) (s : Fin 1024) :
    k0_pay1 (F := Ideal) v0 v2 v6 (ix3 a r s) = v6 (ix3 0 r s) + (∑ x : Fin 2048, v0 (ix3 0 r x) * v2 (ix3 ⟨x.val / 512, by omega⟩ ⟨x.val % 512, by omega⟩ s)) := by pointwise [k0_pay1]
theorem out_at (x0 : Vec Ideal S1x1024x2048 .bf16) (x1 : Vec Ideal S4x512x1024 .bf16) (x2 : Vec Ideal S1x1024x1024 .f32) : out0_3 (F := Ideal) x0 x1 x2 = k0_pay1 x0 x1 x2 := by
  frame_out

variable (m : (ℓ : Loc nD τ sig) → Buf (Elt Ideal) ℓ) (c : Dev nD)

theorem idxs : ∀ t : Fin cfg0.N, win0_0.index t = ![0, t.val / 2, 0] ∧ win0_1.index t = ![0, 0, t.val % 2] ∧ win0_3.index t = ![0, t.val / 2, t.val % 2] ∧ win0_2.index t = ![0, t.val / 2, t.val % 2] := by decide +kernel

theorem lhs_at (a : Fin 1) (r : Fin 2048) (k : Fin 2048) : (V m c main_v1 : S1x2048x2048.Idx → EReal) (ix3 a r k)
    = ent (m (c, Proc.tc.devRef main_arg1) : S2048x2048.Idx → EReal) r k := by
  refine Eq.trans ?_ (ent_eq _ (i := r) (j := k) rfl rfl)
  conv_lhs => simp only [V]
  after_results_simp
  pointwise

theorem rhs_at (a : Fin 4) (r : Fin 512) (k : Fin 2048) : (V m c main_v3 : S4x512x2048.Idx → EReal) (ix3 a r k)
    = ent (m (c, Proc.tc.devRef main_arg2) : S2048x2048.Idx → EReal) (512 * a + r) k := by
  refine Eq.trans ?_ (ent_eq _ (i := ⟨a.val * 512 + r.val, by omega⟩) (j := k) (by simp only; omega) rfl)
  conv_lhs => simp only [V]
  after_results_simp
  pointwise

theorem res_at (a : Fin 1) (r : Fin 2048) (k : Fin 2048) : (V m c main_v4 : S1x2048x2048.Idx → EReal) (ix3 a r k)
    = ent (m (c, Proc.tc.devRef main_arg0) : S2048x2048.Idx → EReal) r k := by
  refine Eq.trans ?_ (ent_eq _ (i := r) (j := k) rfl rfl)
  conv_lhs => simp only [V]
  after_results_simp
  pointwise

theorem blk0 (t : Fin cfg0.N) (b : Fin 1) (r : Fin 1024) (x : Fin 2048) : (iblk m c 0 t : S1x1024x2048.Idx → EReal) (ix3 b r x)
    = ent (m (c, Proc.tc.devRef main_arg1) : S2048x2048.Idx → EReal) (1024 * (t.val / 2) + r) x := by
  have hi := (idxs t).1
  have ht : t.val < 4 := t.isLt
  have e : (iblk m c 0 t : S1x1024x2048.Idx → EReal) (ix3 b r x)
      = (V m c main_v1 : S1x2048x2048.Idx → EReal) (ix3 0 ⟨1024 * (t.val / 2) + r, by omega⟩ x) := by
    blk_simp [iblk]
    blk_ext [hi]
  rw [e, lhs_at]

theorem blk1 (t : Fin cfg0.N) (p : Fin 4) (x : Fin 512) (s : Fin 1024) : (iblk m c 1 t : S4x512x1024.Idx → EReal) (ix3 p x s)
    = ent (m (c, Proc.tc.devRef main_arg2) : S2048x2048.Idx → EReal) (512 * p + x) (1024 * (t.val % 2) + s) := by
  have hi := (idxs t).2.1
  have ht : t.val < 4 := t.isLt
  have e : (iblk m c 1 t : S4x512x1024.Idx → EReal) (ix3 p x s) = (V m c main_v3 : S4x512x2048.Idx → EReal) (ix3 p x ⟨1024 * (t.val % 2) + s, by omega⟩) := by
    blk_simp [iblk]
    blk_ext [hi]
  rw [e, rhs_at]

theorem blk2 (t : Fin cfg0.N) (b : Fin 1) (r : Fin 1024) (s : Fin 1024) : (iblk m c 2 t : S1x1024x1024.Idx → EReal) (ix3 b r s)
    = ent (m (c, Proc.tc.devRef main_arg0) : S2048x2048.Idx → EReal) (1024 * (t.val / 2) + r) (1024 * (t.val % 2) + s) := by
  have hi := (idxs t).2.2.2
  have ht : t.val < 4 := t.isLt
  have e : (iblk m c 2 t : S1x1024x1024.Idx → EReal) (ix3 b r s)
      = (V m c main_v4 : S1x2048x2048.Idx → EReal) (ix3 0 ⟨1024 * (t.val / 2) + r, by omega⟩ ⟨1024 * (t.val % 2) + s, by omega⟩) := by
    blk_simp [iblk]
    blk_ext [hi]
  rw [e, res_at]

/-- A row of the input times a column of the weight. -/
abbrev prod (m : (ℓ : Loc nD τ sig) → Buf (Elt Ideal) ℓ) (c : Dev nD) (r s : ℕ) : EReal :=
  dot (ent (m (c, Proc.tc.devRef main_arg1) : S2048x2048.Idx → EReal) r) (fun x => ent (m (c, Proc.tc.devRef main_arg2) : S2048x2048.Idx → EReal) x s) 2048
def G (m : (ℓ : Loc nD τ sig) → Buf (Elt Ideal) ℓ) (c : Dev nD) : S1x2048x2048.Idx → EReal := fun y =>
  ent (m (c, Proc.tc.devRef main_arg0) : S2048x2048.Idx → EReal) (y 1) (y 2) + prod m c (y 1) (y 2)

/-- The block a point leaves. -/
theorem left_at (t : Fin cfg0.N) (a : Fin 1) (r : Fin 1024) (s : Fin 1024) : out0_3 (F := Ideal) (iblk m c 0 t) (iblk m c 1 t) (iblk m c 2 t) (ix3 a r s)
    = ent (m (c, Proc.tc.devRef main_arg0) : S2048x2048.Idx → EReal) (1024 * (t.val / 2) + r) (1024 * (t.val % 2) + s) + prod m c (1024 * (t.val / 2) + r) (1024 * (t.val % 2) + s) := by
  rw [out_at]
  refine (pay1_at _ _ _ a r s).trans ?_
  rw [blk2]
  refine Eq.trans (congrArg (fun d => ent (m (c, Proc.tc.devRef main_arg0) : S2048x2048.Idx → EReal) (1024 * (t.val / 2) + r) (1024 * (t.val % 2) + s) + d) (Eq.trans (Finset.sum_congr rfl fun x _ => ?_)
    (dot_fin (ent (m (c, Proc.tc.devRef main_arg1) : S2048x2048.Idx → EReal) (1024 * (t.val / 2) + r)) (fun x => ent (m (c, Proc.tc.devRef main_arg2) : S2048x2048.Idx → EReal) x (1024 * (t.val % 2) + s)) 2048))) ?_
  · exact congrArg₂ (· * ·) (blk0 m c t 0 r x) ((blk1 m c t _ _ s).trans (by simp only [Nat.div_add_mod]))
  · rfl

theorem array : (dats m 0 c).arrAt 3 cfg0.N = (G m c : S1x2048x2048.Idx → EReal) := by
  refine (dats m 0 c).arrAt_eq_of_covers 3 (G m c) (by decide +kernel) fun t hf y => ?_
  have hi := (idxs t).2.2.1
  have ht : t.val < 4 := t.isLt
  blk_simp
  rw [after0_3]
  obtain ⟨a, r, s, rfl⟩ : ∃ (a : Fin 1) (r : Fin 1024) (s : Fin 1024), y = ix3 a r s := ⟨y 0, y 1, y 2, (ix3_eta y).symm⟩
  refine (left_at m c t a r s).trans ?_
  unfold G
  blk_simp [hi]
  rw [Nat.mul_comm 1024, Nat.mul_comm 1024]

end Cert.Proof.SqOut

namespace Cert.Proof.SqOut
open Idealize.ShloMosaic Idealize.ShloMosaic.TcCoe Idealize.SL.Sem
section Reference
open Cert.ReferenceSqOutIdeal Cert.ReferenceSqOutIdeal.Gen

/-- The reference's result. -/
def ref (a0 : FVec Ideal S2048x2048 .f32) (a1 : FVec Ideal S2048x2048 .f32) (a2 : FVec Ideal S2048x2048 .f32) : FVec Ideal S1x2048x2048 .f32 :=
  broadcastInDim S1x2048x2048 ![1, 2] bcast_S2048x2048_S1x2048x2048_1_2 (addf a0 (Host.dotGeneral dot_S2048x2048_S2048x2048_S2048x2048_1_0_0_1_n_n none a1 a2))

theorem ref_at (a0 : FVec Ideal S2048x2048 .f32) (a1 : FVec Ideal S2048x2048 .f32) (a2 : FVec Ideal S2048x2048 .f32) (a : Fin 1) (r : Fin 2048) (s : Fin 2048) : ref a0 a1 a2 (ix3 a r s) = ent a0 r s + dot (ent a1 r) (fun x => ent a2 x s) 2048 := by
  refine Eq.trans (b := a0 (ix2 r s) + (∑ k : Fin 2048, a1 (ix2 r k) * a2 (ix2 k s))) ?_ ?_
  · pointwise [ref]
  · rw [ent_eq a0 (r := r) (k := s) rfl rfl, ← dot_fin]
    simp only [ent_eq a1 rfl rfl, ent_eq a2 rfl rfl]
end Reference

/-- The reference's result is the kernel's. -/
theorem value (m : (ℓ : Loc Cert.KernelSqOutIdeal.nD Cert.KernelSqOutIdeal.τ Cert.KernelSqOutIdeal.sig) → Buf (Elt Ideal) ℓ) (c : Dev Cert.KernelSqOutIdeal.nD)
    (a0 : FVec Ideal Cert.ReferenceSqOutIdeal.S2048x2048 .f32) (a1 : FVec Ideal Cert.ReferenceSqOutIdeal.S2048x2048 .f32) (a2 : FVec Ideal Cert.ReferenceSqOutIdeal.S2048x2048 .f32)
    (h0 : a0 = m (c, Proc.tc.devRef Cert.KernelSqOutIdeal.main_arg0)) (h1 : a1 = m (c, Proc.tc.devRef Cert.KernelSqOutIdeal.main_arg1)) (h2 : a2 = m (c, Proc.tc.devRef Cert.KernelSqOutIdeal.main_arg2)) : ref a0 a1 a2 = G m c := by
  subst h0 h1 h2
  refine funext fun i => ?_
  obtain ⟨a, r, s, rfl⟩ : ∃ (a : Fin 1) (r : Fin 2048) (s : Fin 2048), i = ix3 a r s := ⟨i 0, i 1, i 2, (ix3_eta i).symm⟩
  exact (ref_at _ _ _ a r s)

end Cert.Proof.SqOut
-- ==== Proof.SqQ.lean ====
/- The cross-attention's queries: a square projection scaled. -/
module

public import proofs.«01_k».proof.Proof.Gen.KernelSqQIdeal.Value
public import proofs.«01_k».proof.Proof.Gen.ReferenceSqQIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.SqQ
open Idealize.ShloMosaic Idealize.ShloMosaic.TcCoe Idealize.SL.Sem
open Cert.KernelSqQIdeal Cert.KernelSqQIdeal.Gen Cert.KernelSqQIdeal.Value

/-- One over the root of the head's width, as the literal has it. -/
abbrev scale : EReal := Ideal.ofBits FTy.f32 0x3D3504F3#32
theorem pay1_at (v0 : Vec Ideal S1x1024x2048 .bf16) (v2 : Vec Ideal S4x512x1024 .bf16) (a : Fin 1) (r : Fin 1024) (s : Fin 1024) :
    k0_pay1 (F := Ideal) v0 v2 (ix3 a r s) = (∑ x : Fin 2048, v0 (ix3 0 r x) * v2 (ix3 ⟨x.val / 512, by omega⟩ ⟨x.val % 512, by omega⟩ s)) * scale := by pointwise [k0_pay1]
theorem out_at (x0 : Vec Ideal S1x1024x2048 .bf16) (x1 : Vec Ideal S4x512x1024 .bf16) : out0_2 (F := Ideal) x0 x1 = k0_pay1 x0 x1 := by
  frame_out

variable (m : (ℓ : Loc nD τ sig) → Buf (Elt Ideal) ℓ) (c : Dev nD)

theorem idxs : ∀ t : Fin cfg0.N, win0_0.index t = ![0, t.val / 2, 0] ∧ win0_1.index t = ![0, 0, t.val % 2] ∧ win0_2.index t = ![0, t.val / 2, t.val % 2] := by decide +kernel

theorem lhs_at (a : Fin 1) (r : Fin 2048) (k : Fin 2048) : (V m c main_v1 : S1x2048x2048.Idx → EReal) (ix3 a r k)
    = ent (m (c, Proc.tc.devRef main_arg0) : S2048x2048.Idx → EReal) r k := by
  refine Eq.trans ?_ (ent_eq _ (i := r) (j := k) rfl rfl)
  conv_lhs => simp only [V]
  after_results_simp
  pointwise

theorem rhs_at (a : Fin 4) (r : Fin 512) (k : Fin 2048) : (V m c main_v3 : S4x512x2048.Idx → EReal) (ix3 a r k)
    = ent (m (c, Proc.tc.devRef main_arg1) : S2048x2048.Idx → EReal) (512 * a + r) k := by
  refine Eq.trans ?_ (ent_eq _ (i := ⟨a.val * 512 + r.val, by omega⟩) (j := k) (by simp only; omega) rfl)
  conv_lhs => simp only [V]
  after_results_simp
  pointwise

theorem blk0 (t : Fin cfg0.N) (b : Fin 1) (r : Fin 1024) (x : Fin 2048) : (iblk m c 0 t : S1x1024x2048.Idx → EReal) (ix3 b r x)
    = ent (m (c, Proc.tc.devRef main_arg0) : S2048x2048.Idx → EReal) (1024 * (t.val / 2) + r) x := by
  have hi := (idxs t).1
  have ht : t.val < 4 := t.isLt
  have e : (iblk m c 0 t : S1x1024x2048.Idx → EReal) (ix3 b r x)
      = (V m c main_v1 : S1x2048x2048.Idx → EReal) (ix3 0 ⟨1024 * (t.val / 2) + r, by omega⟩ x) := by
    blk_simp [iblk]
    blk_ext [hi]
  rw [e, lhs_at]

theorem blk1 (t : Fin cfg0.N) (p : Fin 4) (x : Fin 512) (s : Fin 1024) : (iblk m c 1 t : S4x512x1024.Idx → EReal) (ix3 p x s)
    = ent (m (c, Proc.tc.devRef main_arg1) : S2048x2048.Idx → EReal) (512 * p + x) (1024 * (t.val % 2) + s) := by
  have hi := (idxs t).2.1
  have ht : t.val < 4 := t.isLt
  have e : (iblk m c 1 t : S4x512x1024.Idx → EReal) (ix3 p x s) = (V m c main_v3 : S4x512x2048.Idx → EReal) (ix3 p x ⟨1024 * (t.val % 2) + s, by omega⟩) := by
    blk_simp [iblk]
    blk_ext [hi]
  rw [e, rhs_at]

/-- A row of the input times a column of the weight. -/
abbrev prod (m : (ℓ : Loc nD τ sig) → Buf (Elt Ideal) ℓ) (c : Dev nD) (r s : ℕ) : EReal :=
  dot (ent (m (c, Proc.tc.devRef main_arg0) : S2048x2048.Idx → EReal) r) (fun x => ent (m (c, Proc.tc.devRef main_arg1) : S2048x2048.Idx → EReal) x s) 2048
def G (m : (ℓ : Loc nD τ sig) → Buf (Elt Ideal) ℓ) (c : Dev nD) : S1x2048x2048.Idx → EReal := fun y =>
  prod m c (y 1) (y 2) * scale

/-- The block a point leaves. -/
theorem left_at (t : Fin cfg0.N) (a : Fin 1) (r : Fin 1024) (s : Fin 1024) : out0_2 (F := Ideal) (iblk m c 0 t) (iblk m c 1 t) (ix3 a r s)
    = prod m c (1024 * (t.val / 2) + r) (1024 * (t.val % 2) + s) * scale := by
  rw [out_at]
  refine (pay1_at _ _ a r s).trans ?_
  refine Eq.trans (congrArg (fun d => d * scale) (Eq.trans (Finset.sum_congr rfl fun x _ => ?_)
    (dot_fin (ent (m (c, Proc.tc.devRef main_arg0) : S2048x2048.Idx → EReal) (1024 * (t.val / 2) + r)) (fun x => ent (m (c, Proc.tc.devRef main_arg1) : S2048x2048.Idx → EReal) x (1024 * (t.val % 2) + s)) 2048))) ?_
  · exact congrArg₂ (· * ·) (blk0 m c t 0 r x) ((blk1 m c t _ _ s).trans (by simp only [Nat.div_add_mod]))
  · rfl

theorem array : (dats m 0 c).arrAt 2 cfg0.N = (G m c : S1x2048x2048.Idx → EReal) := by
  refine (dats m 0 c).arrAt_eq_of_covers 2 (G m c) (by decide +kernel) fun t hf y => ?_
  have hi := (idxs t).2.2
  have ht : t.val < 4 := t.isLt
  blk_simp
  rw [after0_2]
  obtain ⟨a, r, s, rfl⟩ : ∃ (a : Fin 1) (r : Fin 1024) (s : Fin 1024), y = ix3 a r s := ⟨y 0, y 1, y 2, (ix3_eta y).symm⟩
  refine (left_at m c t a r s).trans ?_
  unfold G
  blk_simp [hi]
  rw [Nat.mul_comm 1024, Nat.mul_comm 1024]

end Cert.Proof.SqQ

namespace Cert.Proof.SqQ
open Idealize.ShloMosaic Idealize.ShloMosaic.TcCoe Idealize.SL.Sem
section Reference
open Cert.ReferenceSqQIdeal Cert.ReferenceSqQIdeal.Gen

/-- The reference's result. -/
def ref (a0 : FVec Ideal S2048x2048 .f32) (a1 : FVec Ideal S2048x2048 .f32) : FVec Ideal S1x2048x2048 .bf16 :=
  truncf .bf16 (broadcastInDim S1x2048x2048 ![1, 2] bcast_S2048x2048_S1x2048x2048_1_2 (mulf (Host.dotGeneral dot_S2048x2048_S2048x2048_S2048x2048_1_0_0_1_n_n none a0 a1) (broadcastInDim S2048x2048 ![] bcast_S_S2048x2048 (constant S_ .f32 0x3D3504F3#32)))) bitsLt_bf16_f32

theorem ref_at (a0 : FVec Ideal S2048x2048 .f32) (a1 : FVec Ideal S2048x2048 .f32) (a : Fin 1) (r : Fin 2048) (s : Fin 2048) : ref a0 a1 (ix3 a r s) = dot (ent a0 r) (fun x => ent a1 x s) 2048 * scale := by
  refine Eq.trans (b := (∑ k : Fin 2048, a0 (ix2 r k) * a1 (ix2 k s)) * scale) ?_ ?_
  · pointwise [ref]
  · rw [← dot_fin]
    simp only [ent_eq a0 rfl rfl, ent_eq a1 rfl rfl]
end Reference

/-- The reference's result is the kernel's. -/
theorem value (m : (ℓ : Loc Cert.KernelSqQIdeal.nD Cert.KernelSqQIdeal.τ Cert.KernelSqQIdeal.sig) → Buf (Elt Ideal) ℓ) (c : Dev Cert.KernelSqQIdeal.nD)
    (a0 : FVec Ideal Cert.ReferenceSqQIdeal.S2048x2048 .f32) (a1 : FVec Ideal Cert.ReferenceSqQIdeal.S2048x2048 .f32)
    (h0 : a0 = m (c, Proc.tc.devRef Cert.KernelSqQIdeal.main_arg0)) (h1 : a1 = m (c, Proc.tc.devRef Cert.KernelSqQIdeal.main_arg1)) : ref a0 a1 = G m c := by
  subst h0 h1
  refine funext fun i => ?_
  obtain ⟨a, r, s, rfl⟩ : ∃ (a : Fin 1) (r : Fin 2048) (s : Fin 2048), i = ix3 a r s := ⟨i 0, i 1, i 2, (ix3_eta i).symm⟩
  exact (ref_at _ _ a r s)

end Cert.Proof.SqQ
-- ==== Proof.MemKv.lean ====
/- The memory's keys and values. -/
module

public import proofs.«01_k».proof.Proof.Gen.KernelMemKvIdeal.Value
public import proofs.«01_k».proof.Proof.Gen.ReferenceMemKvIdeal.Run
public import proofs.«01_k».proof.Proof.Prod
public import Idealize.ShloMosaic.Lib.Pipeline.ValueKit
public import Idealize.ShloMosaic.Lib.Pointwise
public import Idealize.ShloMosaic.Lib.VecWindow

@[expose] public section

set_option maxRecDepth 16384

noncomputable section

namespace Cert.Proof.MemKv
open Idealize.ShloMosaic Idealize.ShloMosaic.TcCoe Idealize.SL.Sem
open Cert.KernelMemKvIdeal Cert.KernelMemKvIdeal.Gen Cert.KernelMemKvIdeal.Value

theorem pay1_at (v0 : Vec Ideal S1x256x2048 .bf16) (v2 : Vec Ideal S1x2048x1024 .bf16) (a : Fin 1) (r : Fin 256) (s : Fin 1024) :
    k0_pay1 (F := Ideal) v0 v2 (ix3 a r s) = (∑ x : Fin 2048, v0 (ix3 0 r x) * v2 (ix3 0 x s)) := by pointwise [k0_pay1]
theorem out_at (x0 : Vec Ideal S1x256x2048 .bf16) (x1 : Vec Ideal S1x2048x1024 .bf16) : out0_2 (F := Ideal) x0 x1 = k0_pay1 x0 x1 := by
  frame_out

variable (m : (ℓ : Loc nD τ sig) → Buf (Elt Ideal) ℓ) (c : Dev nD)

theorem idxs : ∀ t : Fin cfg0.N, win0_0.index t = ![0, t.val / 4, 0] ∧ win0_1.index t = ![t.val % 4 / 1, 0, t.val % 4 % 1] ∧ win0_2.index t = ![0, t.val / 4, t.val % 4] := by decide +kernel

theorem lhs_at (a : Fin 1) (r : Fin 256) (k : Fin 2048) : (V m c main_v1 : S1x256x2048.Idx → EReal) (ix3 a r k)
    = ent (m (c, Proc.tc.devRef main_arg0) : S256x2048.Idx → EReal) r k := by
  refine Eq.trans ?_ (ent_eq _ (i := r) (j := k) rfl rfl)
  conv_lhs => simp only [V]
  after_results_simp
  pointwise

theorem rhs_at (a : Fin 4) (r : Fin 2048) (k : Fin 1024) : (V m c main_v11 : S4x2048x1024.Idx → EReal) (ix3 a r k)
    = ent (m (c, Proc.tc.devRef main_arg1) : S2048x4096.Idx → EReal) r (1024 * a + k) := by
  refine Eq.trans ?_ (ent_eq _ (i := r) (j := ⟨1024 * a + k, by omega⟩) (by rfl) rfl)
  conv_lhs => simp only [V]
  after_results_simp
  match a with
  | 0 => pointwise; after_results_simp; pointwise
  | 1 => pointwise; after_results_simp; pointwise
  | 2 => pointwise; after_results_simp; pointwise
  | 3 => pointwise; after_results_simp; pointwise

theorem blk0 (t : Fin cfg0.N) (b : Fin 1) (r : Fin 256) (x : Fin 2048) : (iblk m c 0 t : S1x256x2048.Idx → EReal) (ix3 b r x)
    = ent (m (c, Proc.tc.devRef main_arg0) : S256x2048.Idx → EReal) (256 * (t.val / 4) + r) x := by
  have hi := (idxs t).1
  have ht : t.val < 4 := t.isLt
  have e : (iblk m c 0 t : S1x256x2048.Idx → EReal) (ix3 b r x)
      = (V m c main_v1 : S1x256x2048.Idx → EReal) (ix3 0 ⟨256 * (t.val / 4) + r, by omega⟩ x) := by
    blk_simp [iblk]
    blk_ext [hi]
  rw [e, lhs_at]

theorem blk1 (t : Fin cfg0.N) (b : Fin 1) (x : Fin 2048) (s : Fin 1024) : (iblk m c 1 t : S1x2048x1024.Idx → EReal) (ix3 b x s)
    = ent (m (c, Proc.tc.devRef main_arg1) : S2048x4096.Idx → EReal) x (1024 * (t.val % 4) + s) := by
  have hi := (idxs t).2.1
  have ht : t.val < 4 := t.isLt
  have e : (iblk m c 1 t : S1x2048x1024.Idx → EReal) (ix3 b x s)
      = (V m c main_v11 : S4x2048x1024.Idx → EReal) (ix3 ⟨t.val % 4 / 1, by omega⟩ x ⟨1024 * (t.val % 4 % 1) + s, by omega⟩) := by
    blk_simp [iblk]
    blk_ext [hi]
  rw [e, rhs_at]
  exact congrArg _ (by show 1024 * (t.val % 4 / 1) + (1024 * (t.val % 4 % 1) + s.val) = _; omega)

/-- A row of the input times a column of the weight. -/
abbrev prod (m : (ℓ : Loc nD τ sig) → Buf (Elt Ideal) ℓ) (c : Dev nD) (r s : ℕ) : EReal :=
  dot (ent (m (c, Proc.tc.devRef main_arg0) : S256x2048.Idx → EReal) r) (fun x => ent (m (c, Proc.tc.devRef main_arg1) : S2048x4096.Idx → EReal) x s) 2048
def G (m : (ℓ : Loc nD τ sig) → Buf (Elt Ideal) ℓ) (c : Dev nD) : S1x256x4096.Idx → EReal := fun y =>
  prod m c (y 1) (y 2)

/-- The block a point leaves. -/
theorem left_at (t : Fin cfg0.N) (a : Fin 1) (r : Fin 256) (s : Fin 1024) : out0_2 (F := Ideal) (iblk m c 0 t) (iblk m c 1 t) (ix3 a r s)
    = prod m c (256 * (t.val / 4) + r) (1024 * (t.val % 4) + s) := by
  rw [out_at]
  refine (pay1_at _ _ a r s).trans ?_
  refine Eq.trans (congrArg (fun d => d) (Eq.trans (Finset.sum_congr rfl fun x _ => ?_)
    (dot_fin (ent (m (c, Proc.tc.devRef main_arg0) : S256x2048.Idx → EReal) (256 * (t.val / 4) + r)) (fun x => ent (m (c, Proc.tc.devRef main_arg1) : S2048x4096.Idx → EReal) x (1024 * (t.val % 4) + s)) 2048))) ?_
  · exact congrArg₂ (· * ·) (blk0 m c t 0 r x) (blk1 m c t 0 x s)
  · rfl

theorem array : (dats m 0 c).arrAt 2 cfg0.N = (G m c : S1x256x4096.Idx → EReal) := by
  refine (dats m 0 c).arrAt_eq_of_covers 2 (G m c) (by decide +kernel) fun t hf y => ?_
  have hi := (idxs t).2.2
  have ht : t.val < 4 := t.isLt
  blk_simp
  rw [after0_2]
  obtain ⟨a, r, s, rfl⟩ : ∃ (a : Fin 1) (r : Fin 256) (s : Fin 1024), y = ix3 a r s := ⟨y 0, y 1, y 2, (ix3_eta y).symm⟩
  refine (left_at m c t a r s).trans ?_
  unfold G
  blk_simp [hi]
  rw [Nat.mul_comm 256, Nat.mul_comm 1024]

end Cert.Proof.MemKv

namespace Cert.Proof.MemKv
open Idealize.ShloMosaic Idealize.ShloMosaic.TcCoe Idealize.SL.Sem
section Reference
open Cert.ReferenceMemKvIdeal Cert.ReferenceMemKvIdeal.Gen

/-- The reference's result. -/
def ref (a0 : FVec Ideal S256x2048 .f32) (a1 : FVec Ideal S2048x4096 .f32) : FVec Ideal S1x256x4096 .bf16 :=
  truncf .bf16 (broadcastInDim S1x256x4096 ![1, 2] bcast_S256x4096_S1x256x4096_1_2 (Host.dotGeneral dot_S256x2048_S2048x4096_S256x4096_1_0_0_1_n_n none a0 a1)) bitsLt_bf16_f32

theorem ref_at (a0 : FVec Ideal S256x2048 .f32) (a1 : FVec Ideal S2048x4096 .f32) (a : Fin 1) (r : Fin 256) (s : Fin 4096) : ref a0 a1 (ix3 a r s) = dot (ent a0 r) (fun x => ent a1 x s) 2048 := by
  refine Eq.trans (b := ∑ k : Fin 2048, a0 (ix2 r k) * a1 (ix2 k s)) ?_ ?_
  · pointwise [ref]
  · rw [← dot_fin]
    simp only [ent_eq a0 rfl rfl, ent_eq a1 rfl rfl]
end Reference

/-- The reference's result is the kernel's. -/
theorem value (m : (ℓ : Loc Cert.KernelMemKvIdeal.nD Cert.KernelMemKvIdeal.τ Cert.KernelMemKvIdeal.sig) → Buf (Elt Ideal) ℓ) (c : Dev Cert.KernelMemKvIdeal.nD)
    (a0 : FVec Ideal Cert.ReferenceMemKvIdeal.S256x2048 .f32) (a1 : FVec Ideal Cert.ReferenceMemKvIdeal.S2048x4096 .f32)
    (h0 : a0 = m (c, Proc.tc.devRef Cert.KernelMemKvIdeal.main_arg0)) (h1 : a1 = m (c, Proc.tc.devRef Cert.KernelMemKvIdeal.main_arg1)) : ref a0 a1 = G m c := by
  subst h0 h1
  refine funext fun i => ?_
  obtain ⟨a, r, s, rfl⟩ : ∃ (a : Fin 1) (r : Fin 256) (s : Fin 4096), i = ix3 a r s := ⟨i 0, i 1, i 2, (ix3_eta i).symm⟩
  exact (ref_at _ _ a r s)

end Cert.Proof.MemKv
-- ==== Proof.FfnPlace.lean ====
/- The half of the feed-forward columns a device takes: its place's remainder by two, as both programs compute it. -/
module

public import Idealize.ShloMosaic.Lib.Affine
public import Idealize.ShloMosaic.Lib.Pointwise
public import Idealize.ShloMosaic.PureOps

@[expose] public section

namespace Cert.Proof.Ffn
open Idealize.ShloMosaic

/-- A word's remainder by two, one at an odd word of either sign. -/
def low (v : BitVec 32) : BitVec 32 := if v.srem 2#32 = 0#32 then 0#32 else 1#32

theorem low_cases (v : BitVec 32) : low v = 0#32 ∨ low v = 1#32 := by
  unfold low; split <;> simp

theorem srem_two (v : BitVec 32) : v.srem 2#32 = 0#32 ∨ v.srem 2#32 = 1#32 ∨ v.srem 2#32 = 4294967295#32 := by
  have h : (v.srem 2#32).toInt = v.toInt.tmod 2 := BitVec.toInt_srem v 2#32
  have hl := Int.lt_tmod_of_pos v.toInt (b := 2) (by decide)
  have hu := Int.tmod_lt_of_pos v.toInt (b := 2) (by decide)
  have : v.toInt.tmod 2 = 0 ∨ v.toInt.tmod 2 = 1 ∨ v.toInt.tmod 2 = -1 := by omega
  rcases this with e | e | e
  · exact .inl (BitVec.eq_of_toInt_eq (h.trans e))
  · exact .inr (.inl (BitVec.eq_of_toInt_eq (h.trans e)))
  · exact .inr (.inr (BitVec.eq_of_toInt_eq (h.trans e)))

/-- The remainder as the kernel's index maps spell it. -/
theorem low_scalar (v : BitVec 32) :
    Scalar.select (Scalar.andi (Scalar.xori (Scalar.cmpi .slt (Scalar.remsi v 2#32) 0#32) (Scalar.cmpi .slt 2#32 0#32)) (Scalar.cmpi .ne (Scalar.remsi v 2#32) 0#32))
      (Scalar.addi (Scalar.remsi v 2#32) 2#32) (Scalar.remsi v 2#32) = low v := by
  have e : Scalar.remsi v 2#32 = v.srem 2#32 := IntOp.remsi_of_pos _ (by decide)
  rw [e]; unfold low
  rcases srem_two v with h | h | h <;> rw [h] <;> decide

/-- The remainder as the host operations spell it, -/
theorem low_host (v : BitVec 32) :
    Scalar.select (IntOp.andi (IntOp.cmpi .ne (IntOp.cmpi .slt (IntOp.remsi .host v 2#32) 0#32) (IntOp.cmpi .slt 2#32 0#32)) (IntOp.cmpi .ne (IntOp.remsi .host v 2#32) 0#32))
      (IntOp.addi (IntOp.remsi .host v 2#32) 2#32) (IntOp.remsi .host v 2#32) = low v := by
  have e : IntOp.remsi .host v 2#32 = v.srem 2#32 := IntOp.remsi_of_pos _ (by decide)
  rw [e]; unfold low
  rcases srem_two v with h | h | h <;> rw [h] <;> decide

/-- and the columns of that half. -/
theorem own_word (l : BitVec 32) (h : l = 0#32 ∨ l = 1#32) (s : Fin 5632) :
    IntOp.cmpi .eq (IntOp.cmpi .sge (BitVec.ofNat 32 s.val) 2816#32) (IntOp.cmpi .eq l 1#32) = if s.val / 2816 = l.toNat then 1#1 else 0#1 := by
  rcases h with rfl | rfl <;> revert s <;> decide +kernel

end Cert.Proof.Ffn
-- ==== Proof.FfnInOk.lean ====
/- Every block the feed-forward input calls read or write lies inside its array, whatever the place they are given. -/
module

public import proofs.«01_k».proof.Proof.Gen.KernelFfnInA.Frame
public import proofs.«01_k».proof.Proof.Gen.KernelFfnInAIdeal.Frame
public import proofs.«01_k».proof.Proof.Gen.KernelFfnInB.Frame
public import proofs.«01_k».proof.Proof.Gen.KernelFfnInBIdeal.Frame
public import proofs.«01_k».proof.Proof.FfnPlace

@[expose] public section

set_option maxRecDepth 16384

noncomputable section

namespace Cert.Proof.Ffn
open Idealize.ShloMosaic Idealize.ShloMosaic.TcCoe

/-- The blocks of an index map lie inside the array, on whole words. -/
def Inside {ι : Type} {n : ℕ} (s b : Fin n → ℕ) (T : ι → Fin n → ℕ) : Prop :=
  ∀ i : ι, ∃ h : (∀ a, (T i a + 1) * b a ≤ s a), EltTy.bits .bf16 = 32 ∨ (Rect.block (s := ⟨n, s⟩) b (T i) h).WholeWords (EltTy.packing .bf16)

namespace A
open Cert.KernelFfnInA Cert.KernelFfnInA.Gen
variable {F : FTy → Type} [FloatOps F]

/-- The half the call takes, by the table it reads: 0 or 1. -/
def side (pf : pre0.Contents (Elt F)) : BitVec 32 := low (Scalar.addi (pf.at 0 (Rect.unit (s := S2) ![0] S1.size inb_S2_S1_0) numel1_S1) 0#32)

theorem map1 (pf : pre0.Contents (Elt F)) (i : grid0.Coords) : cc0_transform_1 inb_S2_S1_0 numel1_S1 pf i
    = ![(side pf).toNat, 0, (BitVec.ofNat 32 (i 1).val).toNat] := congrArg (fun x : BitVec 32 => ![x.toNat, 0, (BitVec.ofNat 32 (i 1).val).toNat]) (low_scalar _)
theorem map2 (pf : pre0.Contents (Elt F)) (i : grid0.Coords) : cc0_transform_2 inb_S2_S1_0 numel1_S1 pf i
    = ![(Scalar.addi 2#32 (side pf)).toNat, 0, (BitVec.ofNat 32 (i 1).val).toNat] := congrArg (fun x : BitVec 32 => ![(Scalar.addi 2#32 x).toNat, 0, (BitVec.ofNat 32 (i 1).val).toNat]) (low_scalar _)
theorem map3 (pf : pre0.Contents (Elt F)) (i : grid0.Coords) : cc0_transform_3 inb_S2_S1_0 numel1_S1 pf i
    = ![0, (BitVec.ofNat 32 (i 0).val).toNat, (Scalar.addi (Scalar.muli (side pf) 11#32) (BitVec.ofNat 32 (i 1).val)).toNat] :=
  congrArg (fun x : BitVec 32 => ![0, (BitVec.ofNat 32 (i 0).val).toNat, (Scalar.addi (Scalar.muli x 11#32) (BitVec.ofNat 32 (i 1).val)).toNat]) (low_scalar _)
theorem map4 (pf : pre0.Contents (Elt F)) (i : grid0.Coords) : cc0_transform_4 inb_S2_S1_0 numel1_S1 pf i
    = ![(BitVec.ofNat 32 (i 0).val).toNat, (Scalar.addi (Scalar.muli (side pf) 11#32) (BitVec.ofNat 32 (i 1).val)).toNat] :=
  congrArg (fun x : BitVec 32 => ![(BitVec.ofNat 32 (i 0).val).toNat, (Scalar.addi (Scalar.muli x 11#32) (BitVec.ofNat 32 (i 1).val)).toNat]) (low_scalar _)

theorem side_cases (pf : pre0.Contents (Elt F)) : side pf = 0#32 ∨ side pf = 1#32 := low_cases _

/-- Every block lies inside its array, whatever the table holds. -/
theorem ok (pf : pre0.Contents (Elt F)) : ok0 pf := by
  show Inside S4x2048x2816.size S1x2048x256.size (cc0_transform_1 inb_S2_S1_0 numel1_S1 pf) ∧ Inside S4x2048x2816.size S1x2048x256.size (cc0_transform_2 inb_S2_S1_0 numel1_S1 pf)
    ∧ Inside S2x2048x5632.size S2x2048x256.size (cc0_transform_3 inb_S2_S1_0 numel1_S1 pf) ∧ Inside S2048x5632.size S2048x256.size (cc0_transform_4 inb_S2_S1_0 numel1_S1 pf)
  rw [funext (map1 pf), funext (map2 pf), funext (map3 pf), funext (map4 pf)]
  have h := side_cases pf
  generalize side pf = s at h
  rcases h with rfl | rfl <;> unfold Inside <;> decide +kernel

end A

namespace AIdeal
open Cert.KernelFfnInAIdeal Cert.KernelFfnInAIdeal.Gen
variable {F : FTy → Type} [FloatOps F]

/-- The half the call takes, by the table it reads: 0 or 1. -/
def side (pf : pre0.Contents (Elt F)) : BitVec 32 := low (Scalar.addi (pf.at 0 (Rect.unit (s := S2) ![0] S1.size inb_S2_S1_0) numel1_S1) 0#32)

theorem map1 (pf : pre0.Contents (Elt F)) (i : grid0.Coords) : cc0_transform_1 inb_S2_S1_0 numel1_S1 pf i
    = ![(side pf).toNat, 0, (BitVec.ofNat 32 (i 1).val).toNat] := congrArg (fun x : BitVec 32 => ![x.toNat, 0, (BitVec.ofNat 32 (i 1).val).toNat]) (low_scalar _)
theorem map2 (pf : pre0.Contents (Elt F)) (i : grid0.Coords) : cc0_transform_2 inb_S2_S1_0 numel1_S1 pf i
    = ![(Scalar.addi 2#32 (side pf)).toNat, 0, (BitVec.ofNat 32 (i 1).val).toNat] := congrArg (fun x : BitVec 32 => ![(Scalar.addi 2#32 x).toNat, 0, (BitVec.ofNat 32 (i 1).val).toNat]) (low_scalar _)
theorem map3 (pf : pre0.Contents (Elt F)) (i : grid0.Coords) : cc0_transform_3 inb_S2_S1_0 numel1_S1 pf i
    = ![0, (BitVec.ofNat 32 (i 0).val).toNat, (Scalar.addi (Scalar.muli (side pf) 11#32) (BitVec.ofNat 32 (i 1).val)).toNat] :=
  congrArg (fun x : BitVec 32 => ![0, (BitVec.ofNat 32 (i 0).val).toNat, (Scalar.addi (Scalar.muli x 11#32) (BitVec.ofNat 32 (i 1).val)).toNat]) (low_scalar _)
theorem map4 (pf : pre0.Contents (Elt F)) (i : grid0.Coords) : cc0_transform_4 inb_S2_S1_0 numel1_S1 pf i
    = ![(BitVec.ofNat 32 (i 0).val).toNat, (Scalar.addi (Scalar.muli (side pf) 11#32) (BitVec.ofNat 32 (i 1).val)).toNat] :=
  congrArg (fun x : BitVec 32 => ![(BitVec.ofNat 32 (i 0).val).toNat, (Scalar.addi (Scalar.muli x 11#32) (BitVec.ofNat 32 (i 1).val)).toNat]) (low_scalar _)

theorem side_cases (pf : pre0.Contents (Elt F)) : side pf = 0#32 ∨ side pf = 1#32 := low_cases _

/-- Every block lies inside its array, whatever the table holds. -/
theorem ok (pf : pre0.Contents (Elt F)) : ok0 pf := by
  show Inside S4x2048x2816.size S1x2048x256.size (cc0_transform_1 inb_S2_S1_0 numel1_S1 pf) ∧ Inside S4x2048x2816.size S1x2048x256.size (cc0_transform_2 inb_S2_S1_0 numel1_S1 pf)
    ∧ Inside S2x2048x5632.size S2x2048x256.size (cc0_transform_3 inb_S2_S1_0 numel1_S1 pf) ∧ Inside S2048x5632.size S2048x256.size (cc0_transform_4 inb_S2_S1_0 numel1_S1 pf)
  rw [funext (map1 pf), funext (map2 pf), funext (map3 pf), funext (map4 pf)]
  have h := side_cases pf
  generalize side pf = s at h
  rcases h with rfl | rfl <;> unfold Inside <;> decide +kernel

end AIdeal

namespace B
open Cert.KernelFfnInB Cert.KernelFfnInB.Gen
variable {F : FTy → Type} [FloatOps F]

/-- The half the call takes, by the table it reads: 0 or 1. -/
def side (pf : pre0.Contents (Elt F)) : BitVec 32 := low (Scalar.addi (pf.at 0 (Rect.unit (s := S2) ![0] S1.size inb_S2_S1_0) numel1_S1) 1#32)

theorem map1 (pf : pre0.Contents (Elt F)) (i : grid0.Coords) : cc0_transform_1 inb_S2_S1_0 numel1_S1 pf i
    = ![(side pf).toNat, 0, (BitVec.ofNat 32 (i 1).val).toNat] := congrArg (fun x : BitVec 32 => ![x.toNat, 0, (BitVec.ofNat 32 (i 1).val).toNat]) (low_scalar _)
theorem map2 (pf : pre0.Contents (Elt F)) (i : grid0.Coords) : cc0_transform_2 inb_S2_S1_0 numel1_S1 pf i
    = ![(Scalar.addi 2#32 (side pf)).toNat, 0, (BitVec.ofNat 32 (i 1).val).toNat] := congrArg (fun x : BitVec 32 => ![(Scalar.addi 2#32 x).toNat, 0, (BitVec.ofNat 32 (i 1).val).toNat]) (low_scalar _)
theorem map3 (pf : pre0.Contents (Elt F)) (i : grid0.Coords) : cc0_transform_5 inb_S2_S1_0 numel1_S1 pf i
    = ![0, (BitVec.ofNat 32 (i 0).val).toNat, (Scalar.addi (Scalar.muli (side pf) 11#32) (BitVec.ofNat 32 (i 1).val)).toNat] :=
  congrArg (fun x : BitVec 32 => ![0, (BitVec.ofNat 32 (i 0).val).toNat, (Scalar.addi (Scalar.muli x 11#32) (BitVec.ofNat 32 (i 1).val)).toNat]) (low_scalar _)
theorem map4 (pf : pre0.Contents (Elt F)) (i : grid0.Coords) : cc0_transform_6 inb_S2_S1_0 numel1_S1 pf i
    = ![(BitVec.ofNat 32 (i 0).val).toNat, (Scalar.addi (Scalar.muli (side pf) 11#32) (BitVec.ofNat 32 (i 1).val)).toNat] :=
  congrArg (fun x : BitVec 32 => ![(BitVec.ofNat 32 (i 0).val).toNat, (Scalar.addi (Scalar.muli x 11#32) (BitVec.ofNat 32 (i 1).val)).toNat]) (low_scalar _)

theorem side_cases (pf : pre0.Contents (Elt F)) : side pf = 0#32 ∨ side pf = 1#32 := low_cases _

/-- Every block lies inside its array, whatever the table holds. -/
theorem ok (pf : pre0.Contents (Elt F)) : ok0 pf := by
  show Inside S4x2048x2816.size S1x2048x256.size (cc0_transform_1 inb_S2_S1_0 numel1_S1 pf) ∧ Inside S4x2048x2816.size S1x2048x256.size (cc0_transform_2 inb_S2_S1_0 numel1_S1 pf)
    ∧ Inside S2x2048x5632.size S2x2048x256.size (cc0_transform_5 inb_S2_S1_0 numel1_S1 pf) ∧ Inside S2048x5632.size S2048x256.size (cc0_transform_6 inb_S2_S1_0 numel1_S1 pf)
  rw [funext (map1 pf), funext (map2 pf), funext (map3 pf), funext (map4 pf)]
  have h := side_cases pf
  generalize side pf = s at h
  rcases h with rfl | rfl <;> unfold Inside <;> decide +kernel

end B

namespace BIdeal
open Cert.KernelFfnInBIdeal Cert.KernelFfnInBIdeal.Gen
variable {F : FTy → Type} [FloatOps F]

/-- The half the call takes, by the table it reads: 0 or 1. -/
def side (pf : pre0.Contents (Elt F)) : BitVec 32 := low (Scalar.addi (pf.at 0 (Rect.unit (s := S2) ![0] S1.size inb_S2_S1_0) numel1_S1) 1#32)

theorem map1 (pf : pre0.Contents (Elt F)) (i : grid0.Coords) : cc0_transform_1 inb_S2_S1_0 numel1_S1 pf i
    = ![(side pf).toNat, 0, (BitVec.ofNat 32 (i 1).val).toNat] := congrArg (fun x : BitVec 32 => ![x.toNat, 0, (BitVec.ofNat 32 (i 1).val).toNat]) (low_scalar _)
theorem map2 (pf : pre0.Contents (Elt F)) (i : grid0.Coords) : cc0_transform_2 inb_S2_S1_0 numel1_S1 pf i
    = ![(Scalar.addi 2#32 (side pf)).toNat, 0, (BitVec.ofNat 32 (i 1).val).toNat] := congrArg (fun x : BitVec 32 => ![(Scalar.addi 2#32 x).toNat, 0, (BitVec.ofNat 32 (i 1).val).toNat]) (low_scalar _)
theorem map3 (pf : pre0.Contents (Elt F)) (i : grid0.Coords) : cc0_transform_5 inb_S2_S1_0 numel1_S1 pf i
    = ![0, (BitVec.ofNat 32 (i 0).val).toNat, (Scalar.addi (Scalar.muli (side pf) 11#32) (BitVec.ofNat 32 (i 1).val)).toNat] :=
  congrArg (fun x : BitVec 32 => ![0, (BitVec.ofNat 32 (i 0).val).toNat, (Scalar.addi (Scalar.muli x 11#32) (BitVec.ofNat 32 (i 1).val)).toNat]) (low_scalar _)
theorem map4 (pf : pre0.Contents (Elt F)) (i : grid0.Coords) : cc0_transform_6 inb_S2_S1_0 numel1_S1 pf i
    = ![(BitVec.ofNat 32 (i 0).val).toNat, (Scalar.addi (Scalar.muli (side pf) 11#32) (BitVec.ofNat 32 (i 1).val)).toNat] :=
  congrArg (fun x : BitVec 32 => ![(BitVec.ofNat 32 (i 0).val).toNat, (Scalar.addi (Scalar.muli x 11#32) (BitVec.ofNat 32 (i 1).val)).toNat]) (low_scalar _)

theorem side_cases (pf : pre0.Contents (Elt F)) : side pf = 0#32 ∨ side pf = 1#32 := low_cases _

/-- Every block lies inside its array, whatever the table holds. -/
theorem ok (pf : pre0.Contents (Elt F)) : ok0 pf := by
  show Inside S4x2048x2816.size S1x2048x256.size (cc0_transform_1 inb_S2_S1_0 numel1_S1 pf) ∧ Inside S4x2048x2816.size S1x2048x256.size (cc0_transform_2 inb_S2_S1_0 numel1_S1 pf)
    ∧ Inside S2x2048x5632.size S2x2048x256.size (cc0_transform_5 inb_S2_S1_0 numel1_S1 pf) ∧ Inside S2048x5632.size S2048x256.size (cc0_transform_6 inb_S2_S1_0 numel1_S1 pf)
  rw [funext (map1 pf), funext (map2 pf), funext (map3 pf), funext (map4 pf)]
  have h := side_cases pf
  generalize side pf = s at h
  rcases h with rfl | rfl <;> unfold Inside <;> decide +kernel

end BIdeal

end Cert.Proof.Ffn
-- ==== Proof.FfnInMath.lean ====
/- The gated activation and its two derivatives, of a gate and a value. -/
module

public import proofs.«01_k».proof.Proof.Prod
public import Idealize.ShloMosaic.Lib.Pointwise

@[expose] public section

noncomputable section

namespace Cert.Proof.Ffn
open Idealize.ShloMosaic

/-- The logistic function. -/
abbrev logistic (x : EReal) : EReal := Ideal.div 1 (1 + Ideal.exp (-x))
/-- The derivative of the gated value, by the gate (0) and by the value (1). -/
def slope (a : ℕ) (u v : EReal) : EReal := if a = 0 then v * logistic u * (1 + u * (1 - logistic u)) else u * logistic u

variable (n : (⟨2, ![2048, 2048]⟩ : Shape).Idx → EReal) (w : (⟨2, ![2048, 11264]⟩ : Shape).Idx → EReal)
/-- An entry of the projected input. -/
def proj (r s : ℕ) : EReal := dot (ent n r) (fun x => ent w x s) 2048
/-- The derivatives the backward pass reads, a plane by the gates and one by the values. -/
def slopes (a r s : ℕ) : EReal := slope a (proj n w r s) (proj n w r (5632 + s))
/-- The activation. -/
def acts (r s : ℕ) : EReal := proj n w r s * logistic (proj n w r s) * proj n w r (5632 + s)

end Cert.Proof.Ffn
-- ==== Proof.FfnInRef.lean ====
/-
  The reference of the feed-forward input: its rows of the gated unit, and the half of the columns
  a call takes.
-/
module

public import proofs.«01_k».proof.Proof.FfnAct
public import proofs.«01_k».proof.Proof.FfnInMath
public import proofs.«01_k».proof.Proof.SbPre
public import proofs.«01_k».proof.Proof.FfnPlace
public import proofs.«01_k».proof.Proof.Gen.ReferenceFfnInAIdeal.Run
public import proofs.«01_k».proof.Proof.Gen.ReferenceFfnInBIdeal.Run
public import proofs.«01_k».proof.On_first_half
public import proofs.«01_k».proof.Pre_finite_in
public import proofs.«01_k».proof.Pre_finite_in_rest

@[expose] public section

noncomputable section

namespace Cert.Proof.Ffn
open Idealize.ShloMosaic Idealize.ShloMosaic.TcCoe

theorem inFacts : Cert.Pre_finite_in.Facts where
  bcast_S_S2048x2048 := by decide
  reducesTo_S2048x2048_S_d0_1 := by decide
  h_S_ := by decide
  bcast_S_S2048x11264 := by decide
  reducesTo_S2048x11264_S_d0_1 := by decide
theorem restFacts : Cert.Pre_finite_in_rest.Facts where
  bcast_S_S2048x2048 := by decide
  reducesTo_S2048x2048_S_d0_1 := by decide
  h_S_ := by decide
  bcast_S_S2048x11264 := by decide
  reducesTo_S2048x11264_S_d0_1 := by decide
theorem halfFacts : Cert.On_first_half.Facts where
  bcast_S_S5632 := by decide
  slices_S2_S1_0 := by decide
  shapeCasts_S1_S_ := by decide
  bcast_S5632_S2x2048x5632_2 := by decide
  bcast_S5632_S2048x5632_1 := by decide

theorem in_reals (n : FVec Ideal Cert.Pre_finite_in.S2048x2048 .f32) (w : FVec Ideal Cert.Pre_finite_in.S2048x11264 .f32) (p)
    (h : @Cert.Pre_finite_in.fn inFacts Ideal _ n w p = fun _ => 1#1) : (∀ i, IsReal (n i)) ∧ ∀ i, IsReal (w i) := by
  obtain ⟨hn, hw⟩ := Sb.andi_split (congrFun h ix0)
  exact ⟨fun i => isReal_coe (Sb.real_of_cmpf _ (Host.reduce_andi_all _ _ _ _ _ hn i)),
    fun i => isReal_coe (Sb.real_of_cmpf _ (Host.reduce_andi_all _ _ _ _ _ hw i))⟩
theorem rest_reals (n : FVec Ideal Cert.Pre_finite_in_rest.S2048x2048 .f32) (w : FVec Ideal Cert.Pre_finite_in_rest.S2048x11264 .f32) (p g b)
    (h : @Cert.Pre_finite_in_rest.fn restFacts Ideal _ n w p g b = fun _ => 1#1) : (∀ i, IsReal (n i)) ∧ ∀ i, IsReal (w i) := by
  obtain ⟨hn, hw⟩ := Sb.andi_split (congrFun h ix0)
  exact ⟨fun i => isReal_coe (Sb.real_of_cmpf _ (Host.reduce_andi_all _ _ _ _ _ hn i)),
    fun i => isReal_coe (Sb.real_of_cmpf _ (Host.reduce_andi_all _ _ _ _ _ hw i))⟩

section Mask
open Cert.On_first_half
/-- The results' elements of the first call: the columns of its half. -/
theorem mask3 (n w p) (a : Fin 2) (r : Fin 2048) (s : Fin 5632) :
    (@Cert.On_first_half.fn halfFacts Ideal _ n w p).1 (ix3 a r s) = if s.val / 2816 = (low (IntOp.addi (p (ix1 0)) 0#32)).toNat then 1#1 else 0#1 := by
  refine Eq.trans ?_ (own_word _ (low_cases _) s)
  rw [← low_host]
  pointwise [Cert.On_first_half.fn, Cert.On_first_half.fn_remainder, Cert.On_first_half.fn_where]
  rfl
theorem mask4 (n w p) (r : Fin 2048) (s : Fin 5632) :
    (@Cert.On_first_half.fn halfFacts Ideal _ n w p).2 (ix2 r s) = if s.val / 2816 = (low (IntOp.addi (p (ix1 0)) 0#32)).toNat then 1#1 else 0#1 := by
  refine Eq.trans ?_ (own_word _ (low_cases _) s)
  rw [← low_host]
  pointwise [Cert.On_first_half.fn, Cert.On_first_half.fn_remainder, Cert.On_first_half.fn_where]
  rfl
end Mask

section ReferenceA
open Cert.ReferenceFfnInAIdeal Cert.ReferenceFfnInAIdeal.Gen
variable (n : FVec Ideal S2048x2048 .f32) (w : FVec Ideal S2048x11264 .f32)

/-- The projected input, -/
def input : FVec Ideal S2048x11264 .f32 := Host.dotGeneral dot_S2048x2048_S2048x11264_S2048x11264_1_0_0_1_n_n none n w
/-- the gates' logistic values, -/
def gates : FVec Ideal S2048x5632 .f32 := Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] (input n w) slices_S2048x11264_S2048x5632_0_0))))
/-- and the reference's results. -/
def ref3 : FVec Ideal S2x2048x5632 .bf16 := truncf .bf16 (concatenate S2x2048x5632 0 [⟨S1x2048x5632, (broadcastInDim S1x2048x5632 ![1, 2] bcast_S2048x5632_S1x2048x5632_1_2 (addf (mulf (extractStridedSlice S2048x5632 ![0, 5632] (input n w) slices_S2048x11264_S2048x5632_0_5632) (gates n w)) (mulf (mulf (extractStridedSlice S2048x5632 ![0, 0] (input n w) slices_S2048x11264_S2048x5632_0_0) (extractStridedSlice S2048x5632 ![0, 5632] (input n w) slices_S2048x11264_S2048x5632_0_5632)) (mulf (gates n w) (subf (broadcastInDim S2048x5632 ![] bcast_S_S2048x5632 (constant S_ .f32 0x3F800000#32)) (gates n w))))))⟩, ⟨S1x2048x5632, (broadcastInDim S1x2048x5632 ![1, 2] bcast_S2048x5632_S1x2048x5632_1_2 (mulf (extractStridedSlice S2048x5632 ![0, 0] (input n w) slices_S2048x11264_S2048x5632_0_0) (gates n w)))⟩] concatenates_S1x2048x5632_S1x2048x5632_S2x2048x5632_d0) bitsLt_bf16_f32
def ref4 : FVec Ideal S2048x5632 .bf16 := truncf .bf16 (mulf (mulf (extractStridedSlice S2048x5632 ![0, 0] (input n w) slices_S2048x11264_S2048x5632_0_0) (gates n w)) (extractStridedSlice S2048x5632 ![0, 5632] (input n w) slices_S2048x11264_S2048x5632_0_5632)) bitsLt_bf16_f32

theorem input_at (r : Fin 2048) (s : Fin 11264) : input n w (ix2 r s) = proj n w r s := by
  have e : input n w (ix2 r s) = ∑ x : Fin 2048, n (ix2 r x) * w (ix2 x s) := by pointwise [input]
  rw [e, proj, ← dot_fin]
  exact Finset.sum_congr rfl fun x _ => by rw [ent_eq n (i := r) (j := x) rfl rfl, ent_eq w (i := x) (j := s) rfl rfl]

theorem gates_at (r : Fin 2048) (s : Fin 5632) : gates n w (ix2 r s) = logistic (proj n w r s) := by
  rw [← input_at n w r ⟨s.val, by omega⟩]
  pointwise [gates]

theorem ref3_at (hn : ∀ i, IsReal (n i)) (hw : ∀ i, IsReal (w i)) (a : Fin 2) (r : Fin 2048) (s : Fin 5632) :
    ref3 n w (ix3 a r s) = slopes n w a r s := by
  have hr (k : ℕ) : IsReal (proj n w r k) := isReal_dot (isReal_ent hn r) (fun x => isReal_ent hw x k) _
  unfold slopes slope
  match a with
  | 0 =>
    have e := Act.rule ⟨1, rfl⟩ (hr s) (hr (5632 + s)) (isReal_logistic (hr s))
    rw [show ((1 : ℝ) : EReal) = 1 from rfl, one_mul, one_mul] at e
    change _ * logistic (proj n w r s) + _ * (logistic (proj n w r s) * (1 - logistic (proj n w r s))) = _ at e
    rw [if_pos (show ((0 : Fin 2) : ℕ) = 0 from rfl), ← e, ← gates_at n w r s, ← input_at n w r ⟨s.val, by omega⟩, ← input_at n w r ⟨5632 + s.val, by omega⟩]
    pointwise [ref3]
  | 1 =>
    rw [if_neg (show ¬ ((1 : Fin 2) : ℕ) = 0 by decide), ← gates_at n w r s, ← input_at n w r ⟨s.val, by omega⟩]
    pointwise [ref3]
theorem ref4_at (r : Fin 2048) (s : Fin 5632) : ref4 n w (ix2 r s) = acts n w r s := by
  unfold acts
  rw [← gates_at, ← input_at n w r ⟨s.val, by omega⟩, ← input_at n w r ⟨5632 + s.val, by omega⟩]
  pointwise [ref4]
end ReferenceA

section ReferenceB
open Cert.ReferenceFfnInBIdeal Cert.ReferenceFfnInBIdeal.Gen
variable (n : FVec Ideal S2048x2048 .f32) (w : FVec Ideal S2048x11264 .f32) (p : IVec S2 32) (g : FVec Ideal S2x2048x5632 .bf16) (b : FVec Ideal S2048x5632 .bf16)

/-- The columns of the second call's half. -/
def own : IVec S5632 1 := cmpi .eq (cmpi .sge (iotaInDim S5632 32 0) (broadcastInDim S5632 ![] bcast_S_S5632 (constantI S_ 32 2816#32))) (broadcastInDim S5632 ![] bcast_S_S5632 (cmpi .eq (select (andi (cmpi .ne (cmpi .slt (Host.remsi (addi (shapeCast _ (extractStridedSlice S1 ![0] p slices_S2_S1_0) shapeCasts_S1_S_) (constantI S_ 32 1#32)) (select (cmpi .eq (id (constantI S_ 32 2#32)) (constantI S_ 32 0#32)) (constantI S_ 32 1#32) (id (constantI S_ 32 2#32)))) (constantI S_ 32 0#32)) (cmpi .slt (select (cmpi .eq (id (constantI S_ 32 2#32)) (constantI S_ 32 0#32)) (constantI S_ 32 1#32) (id (constantI S_ 32 2#32))) (constantI S_ 32 0#32))) (cmpi .ne (Host.remsi (addi (shapeCast _ (extractStridedSlice S1 ![0] p slices_S2_S1_0) shapeCasts_S1_S_) (constantI S_ 32 1#32)) (select (cmpi .eq (id (constantI S_ 32 2#32)) (constantI S_ 32 0#32)) (constantI S_ 32 1#32) (id (constantI S_ 32 2#32)))) (constantI S_ 32 0#32))) (addi (Host.remsi (addi (shapeCast _ (extractStridedSlice S1 ![0] p slices_S2_S1_0) shapeCasts_S1_S_) (constantI S_ 32 1#32)) (select (cmpi .eq (id (constantI S_ 32 2#32)) (constantI S_ 32 0#32)) (constantI S_ 32 1#32) (id (constantI S_ 32 2#32)))) (select (cmpi .eq (id (constantI S_ 32 2#32)) (constantI S_ 32 0#32)) (constantI S_ 32 1#32) (id (constantI S_ 32 2#32)))) (Host.remsi (addi (shapeCast _ (extractStridedSlice S1 ![0] p slices_S2_S1_0) shapeCasts_S1_S_) (constantI S_ 32 1#32)) (select (cmpi .eq (id (constantI S_ 32 2#32)) (constantI S_ 32 0#32)) (constantI S_ 32 1#32) (id (constantI S_ 32 2#32))))) (constantI S_ 32 1#32)))
theorem own_at (s : Fin 5632) : own p (ix1 s) = if s.val / 2816 = (low (IntOp.addi (p (ix1 0)) 1#32)).toNat then 1#1 else 0#1 := by
  refine Eq.trans ?_ (own_word _ (low_cases _) s)
  rw [← low_host]
  pointwise [own]
  rfl
/-- The reference's results. -/
def whole3 : FVec Ideal S2x2048x5632 .bf16 := select (broadcastInDim S2x2048x5632 ![2] bcast_S5632_S2x2048x5632_2 (own p)) (ref3 n w) g
def whole4 : FVec Ideal S2048x5632 .bf16 := select (broadcastInDim S2048x5632 ![1] bcast_S5632_S2048x5632_1 (own p)) (ref4 n w) b
theorem whole3_at (hn : ∀ i, IsReal (n i)) (hw : ∀ i, IsReal (w i)) (a : Fin 2) (r : Fin 2048) (s : Fin 5632) :
    whole3 n w p g (ix3 a r s) = if s.val / 2816 = (low (IntOp.addi (p (ix1 0)) 1#32)).toNat then slopes n w a r s else g (ix3 a r s) := by
  have e : whole3 n w p g (ix3 a r s) = Scalar.select (own p (ix1 s)) (ref3 n w (ix3 a r s)) (g (ix3 a r s)) := by pointwise [whole3]
  rw [e, own_at, ref3_at n w hn hw]
  split <;> rfl
theorem whole4_at (r : Fin 2048) (s : Fin 5632) :
    whole4 n w p b (ix2 r s) = if s.val / 2816 = (low (IntOp.addi (p (ix1 0)) 1#32)).toNat then acts n w r s else b (ix2 r s) := by
  have e : whole4 n w p b (ix2 r s) = Scalar.select (own p (ix1 s)) (ref4 n w (ix2 r s)) (b (ix2 r s)) := by pointwise [whole4]
  rw [e, own_at, ref4_at n w]
  split <;> rfl
end ReferenceB

end Cert.Proof.Ffn
-- ==== Proof.FfnInA.lean ====
/- The feed-forward input call over the first half of a device's columns: what it leaves in the columns it writes.
 -/
module

public import proofs.«01_k».proof.Proof.Gen.KernelFfnInAIdeal.Frame
public import proofs.«01_k».proof.Proof.Prod
public import proofs.«01_k».proof.Proof.FfnInMath
public import proofs.«01_k».proof.Proof.FfnInOk
public import proofs.«01_k».proof.Proof.FfnInRef
public import Idealize.ShloMosaic.Lib.Pipeline.ValueKit
public import Idealize.ShloMosaic.Lib.Pointwise
public import Idealize.ShloMosaic.Lib.VecWindow

@[expose] public section

set_option maxRecDepth 16384

noncomputable section

namespace Cert.Proof.Ffn.A
open Idealize.ShloMosaic Idealize.ShloMosaic.TcCoe Idealize.SL.Sem
open Cert.KernelFfnInAIdeal Cert.KernelFfnInAIdeal.Gen

theorem pay6_at (v0 : Vec Ideal S2048x2048 .bf16) (v2 v5 : Vec Ideal S1x2048x256 .bf16) (a : Fin 1) (r : Fin 2048) (s : Fin 256) :
    k0_pay6 (F := Ideal) v0 v2 v5 (ix3 a r s) = slope 0 (∑ x : Fin 2048, v0 (ix2 r x) * v2 (ix3 0 x s)) (∑ x : Fin 2048, v0 (ix2 r x) * v5 (ix3 0 x s)) := by
  unfold slope; rw [if_pos rfl]
  pointwise [k0_pay6, k0_pay4, k0_pay3, k0_pay2, k0_pay1]
  simp only [zero_sub]
theorem pay7_at (v0 : Vec Ideal S2048x2048 .bf16) (v2 : Vec Ideal S1x2048x256 .bf16) (v : EReal) (a : Fin 1) (r : Fin 2048) (s : Fin 256) :
    k0_pay7 (F := Ideal) v0 v2 (ix3 a r s) = slope 1 (∑ x : Fin 2048, v0 (ix2 r x) * v2 (ix3 0 x s)) v := by
  unfold slope; rw [if_neg (by decide)]
  pointwise [k0_pay7, k0_pay5, k0_pay4, k0_pay2, k0_pay1]
  simp only [zero_sub]
theorem pay8_at (v0 : Vec Ideal S2048x2048 .bf16) (v2 v5 : Vec Ideal S1x2048x256 .bf16) (r : Fin 2048) (s : Fin 256) :
    k0_pay8 (F := Ideal) v0 v2 v5 (ix2 r s) = (∑ x : Fin 2048, v0 (ix2 r x) * v2 (ix3 0 x s)) * logistic (∑ x : Fin 2048, v0 (ix2 r x) * v2 (ix3 0 x s)) * (∑ x : Fin 2048, v0 (ix2 r x) * v5 (ix3 0 x s)) := by
  pointwise [k0_pay8, k0_pay5, k0_pay4, k0_pay3, k0_pay2, k0_pay1]
  simp only [zero_sub]

variable (m : (ℓ : Loc nD τ sig) → Buf (Elt Ideal) ℓ) (c : Dev nD)

theorem a_at (r k : Fin 2048) : (V m c main_v0 : S2048x2048.Idx → EReal) (ix2 r k)
    = ent (m (c, Proc.tc.devRef main_arg0) : S2048x2048.Idx → EReal) r k := by
  refine Eq.trans ?_ (ent_eq _ (i := r) (j := k) rfl rfl)
  conv_lhs => simp only [V]
  after_results_simp
  pointwise
theorem w_at (a : Fin 4) (k : Fin 2048) (x : Fin 2816) : (V m c main_v10 : S4x2048x2816.Idx → EReal) (ix3 a k x)
    = ent (m (c, Proc.tc.devRef main_arg1) : S2048x11264.Idx → EReal) k (2816 * a + x) := by
  refine Eq.trans ?_ (ent_eq _ (i := k) (j := ⟨2816 * a.val + x.val, by omega⟩) rfl rfl)
  conv_lhs => simp only [V]
  after_results_simp
  match a with
  | 0 => pointwise; after_results_simp; pointwise
  | 1 => pointwise; after_results_simp; pointwise
  | 2 => pointwise; after_results_simp; pointwise
  | 3 => pointwise; after_results_simp; pointwise

/-- The half the call takes: 0 or 1. -/
def S : ℕ := (AIdeal.side (tbl m)).toNat
theorem S_cases : AIdeal.side (tbl m) = 0#32 ∧ S m = 0 ∨ AIdeal.side (tbl m) = 1#32 ∧ S m = 1 := by
  rcases AIdeal.side_cases (tbl m) with h | h
  · exact .inl ⟨h, by unfold S; rw [h]; rfl⟩
  · exact .inr ⟨h, by unfold S; rw [h]; rfl⟩

/-- The blocks lie inside their arrays. -/
abbrev hO : Ok m := AIdeal.ok (tbl m)
abbrev cfgs := cfgM m (hO m)

theorem idx0 (t : Fin 11) : ((cfgs m).win 0).index t = ![0, 0] := by
  show cc0_transform_0 (grid0.coords t) = ![0, 0]
  revert t; decide +kernel
theorem idx1 (t : Fin 11) : ((cfgs m).win 1).index t = ![S m, 0, t.val] := by
  refine (AIdeal.map1 (tbl m) (grid0.coords t)).trans ?_
  rcases S_cases m with ⟨h, e⟩ | ⟨h, e⟩ <;> rw [h, e] <;> revert t <;> decide +kernel
theorem idx2 (t : Fin 11) : ((cfgs m).win 2).index t = ![2 + S m, 0, t.val] := by
  refine (AIdeal.map2 (tbl m) (grid0.coords t)).trans ?_
  rcases S_cases m with ⟨h, e⟩ | ⟨h, e⟩ <;> rw [h, e] <;> revert t <;> decide +kernel
theorem idx3 (t : Fin 11) : ((cfgs m).win 3).index t = ![0, 0, 11 * S m + t.val] := by
  refine (AIdeal.map3 (tbl m) (grid0.coords t)).trans ?_
  rcases S_cases m with ⟨h, e⟩ | ⟨h, e⟩ <;> rw [h, e] <;> revert t <;> decide +kernel
theorem idx4 (t : Fin 11) : ((cfgs m).win 4).index t = ![0, 11 * S m + t.val] := by
  refine (AIdeal.map4 (tbl m) (grid0.coords t)).trans ?_
  rcases S_cases m with ⟨h, e⟩ | ⟨h, e⟩ <;> rw [h, e] <;> revert t <;> decide +kernel
theorem flush_planes (s : BitVec 32) (h : s = 0#32 ∨ s = 1#32) : ∀ t, Pipeline.Window.flushOf grid0 true
    (fun i : grid0.Coords => ![0, (BitVec.ofNat 32 (i 0).val).toNat, (Scalar.addi (Scalar.muli s 11#32) (BitVec.ofNat 32 (i 1).val)).toNat]) t = true := by
  rcases h with rfl | rfl <;> decide +kernel
theorem flush_rows (s : BitVec 32) (h : s = 0#32 ∨ s = 1#32) : ∀ t, Pipeline.Window.flushOf grid0 true
    (fun i : grid0.Coords => ![(BitVec.ofNat 32 (i 0).val).toNat, (Scalar.addi (Scalar.muli s 11#32) (BitVec.ofNat 32 (i 1).val)).toNat]) t = true := by
  rcases h with rfl | rfl <;> decide +kernel
theorem flush3 (t : Fin 11) : ((cfgs m).win 3).flush t = true := by
  refine (Pipeline.Window.flush_eq_flushOf (G := grid0) _ t).trans (Eq.trans (congrArg (fun f => Pipeline.Window.flushOf grid0 true f t) (funext (AIdeal.map3 (tbl m)))) ?_)
  exact flush_planes _ (AIdeal.side_cases _) t
theorem flush4 (t : Fin 11) : ((cfgs m).win 4).flush t = true := by
  refine (Pipeline.Window.flush_eq_flushOf (G := grid0) _ t).trans (Eq.trans (congrArg (fun f => Pipeline.Window.flushOf grid0 true f t) (funext (AIdeal.map4 (tbl m)))) ?_)
  exact flush_rows _ (AIdeal.side_cases _) t

theorem blk0 (t : Fin 11) (r k : Fin 2048) : (iblk m (hO m) c 0 t : S2048x2048.Idx → EReal) (ix2 r k)
    = ent (m (c, Proc.tc.devRef main_arg0) : S2048x2048.Idx → EReal) r k := by
  have hi := idx0 m t
  have e : (iblk m (hO m) c 0 t : S2048x2048.Idx → EReal) (ix2 r k) = (V m c main_v0 : S2048x2048.Idx → EReal) (ix2 r k) := by
    blk_simp [iblk]
    blk_ext [hi]
  rw [e, a_at]
theorem blk1 (t : Fin 11) (a : Fin 1) (k : Fin 2048) (s : Fin 256) : (iblk m (hO m) c 1 t : S1x2048x256.Idx → EReal) (ix3 a k s)
    = ent (m (c, Proc.tc.devRef main_arg1) : S2048x11264.Idx → EReal) k (2816 * S m + 256 * t + s) := by
  have hi := idx1 m t
  have hS : S m ≤ 1 := by rcases S_cases m with ⟨_, e⟩ | ⟨_, e⟩ <;> omega
  have e : (iblk m (hO m) c 1 t : S1x2048x256.Idx → EReal) (ix3 a k s)
      = (V m c main_v10 : S4x2048x2816.Idx → EReal) (ix3 ⟨S m, by omega⟩ k ⟨256 * t.val + s.val, by omega⟩) := by
    blk_simp [iblk]
    blk_ext [hi]
  rw [e, w_at, Nat.add_assoc]
theorem blk2 (t : Fin 11) (a : Fin 1) (k : Fin 2048) (s : Fin 256) : (iblk m (hO m) c 2 t : S1x2048x256.Idx → EReal) (ix3 a k s)
    = ent (m (c, Proc.tc.devRef main_arg1) : S2048x11264.Idx → EReal) k (5632 + (2816 * S m + 256 * t + s)) := by
  have hi := idx2 m t
  have hS : S m ≤ 1 := by rcases S_cases m with ⟨_, e⟩ | ⟨_, e⟩ <;> omega
  have e : (iblk m (hO m) c 2 t : S1x2048x256.Idx → EReal) (ix3 a k s)
      = (V m c main_v10 : S4x2048x2816.Idx → EReal) (ix3 ⟨2 + S m, by omega⟩ k ⟨256 * t.val + s.val, by omega⟩) := by
    blk_simp [iblk]
    blk_ext [hi]
  rw [e, w_at]
  congr 1; simp only; omega

theorem out3_at (i : grid0.Coords) (b0 : Memref sig .tc .vmem S2048x2048 .bf16) (h0 : b0.IsWhole) (b1 : Memref sig .tc .vmem S1x2048x256 .bf16) (h1 : b1.IsWhole) (b2 : Memref sig .tc .vmem S1x2048x256 .bf16) (h2 : b2.IsWhole) (b3 : Memref sig .tc .vmem S2x2048x256 .bf16) (h3 : b3.IsWhole) (b4 : Memref sig .tc .vmem S2048x256 .bf16) (h4 : b4.IsWhole)
    (x0 : Vec Ideal S2048x2048 .bf16) (x1 x2 : Vec Ideal S1x2048x256 .bf16) (x3 : TbBuf0 (F := Ideal) c tbM0_0) (a : Fin 2) (r : Fin 2048) (s : Fin 256) :
    out0_A_3 c i b0 h0 b1 h1 b2 h2 b3 h3 b4 h4 x0 x1 x2 x3 (ix3 a r s) = slope a (∑ x : Fin 2048, x0 (ix2 r x) * x1 (ix3 0 x s)) (∑ x : Fin 2048, x0 (ix2 r x) * x2 (ix3 0 x s)) := by
  frame_out
  canon_tiles x h
  all_goals
    obtain ⟨b, r', s', rfl⟩ : ∃ (b : Fin 1) (r' : Fin 2048) (s' : Fin 256), x = ix3 b r' s' := ⟨x 0, x 1, x 2, (ix3_eta x).symm⟩
    obtain rfl : r = r' := Fin.ext h1
    obtain rfl : s = s' := Fin.ext h2
  · have h0' : a.val = 1 + b.val := h0
    rw [show a = 1 from Fin.ext (by have := b.isLt; omega), pay7_at]
    rfl
  · have h0' : a.val = b.val := h0
    rw [show a = 0 from Fin.ext (by have := b.isLt; omega), pay6_at]
    rfl
theorem out4_at (i : grid0.Coords) (b0 : Memref sig .tc .vmem S2048x2048 .bf16) (h0 : b0.IsWhole) (b1 : Memref sig .tc .vmem S1x2048x256 .bf16) (h1 : b1.IsWhole) (b2 : Memref sig .tc .vmem S1x2048x256 .bf16) (h2 : b2.IsWhole) (b3 : Memref sig .tc .vmem S2x2048x256 .bf16) (h3 : b3.IsWhole) (b4 : Memref sig .tc .vmem S2048x256 .bf16) (h4 : b4.IsWhole)
    (x0 : Vec Ideal S2048x2048 .bf16) (x1 x2 : Vec Ideal S1x2048x256 .bf16) (x3 : TbBuf0 (F := Ideal) c tbM0_0) (r : Fin 2048) (s : Fin 256) :
    out0_A_4 c i b0 h0 b1 h1 b2 h2 b3 h3 b4 h4 x0 x1 x2 x3 (ix2 r s) = (∑ x : Fin 2048, x0 (ix2 r x) * x1 (ix3 0 x s)) * logistic (∑ x : Fin 2048, x0 (ix2 r x) * x1 (ix3 0 x s)) * (∑ x : Fin 2048, x0 (ix2 r x) * x2 (ix3 0 x s)) := by
  frame_out
  exact pay8_at _ _ _ r s

/-- The derivatives of a device's whole rows. -/
def G3 : S2x2048x5632.Idx → EReal := fun y =>
  slopes (m (c, Proc.tc.devRef main_arg0)) (m (c, Proc.tc.devRef main_arg1)) (y 0) (y 1) (y 2)
/-- The activations of a device's whole rows. -/
def G4 : S2048x5632.Idx → EReal := fun y =>
  acts (m (c, Proc.tc.devRef main_arg0)) (m (c, Proc.tc.devRef main_arg1)) (y 0) (y 1)

theorem now3 (hO : Ok m) (t : Fin (cfgM m hO).N) (x0 : Vec Ideal S2048x2048 .bf16) (x1 x2 : Vec Ideal S1x2048x256 .bf16)
    (e0 : iblk m hO c 0 t = x0) (e1 : iblk m hO c 1 t = x1) (e2 : iblk m hO c 2 t = x2) (a : Fin 2) (r : Fin 2048) (s : Fin 256) :
    (outsAt0 m hO c t).1 (ix3 a r s) = slope a (∑ x : Fin 2048, x0 (ix2 r x) * x1 (ix3 0 x s)) (∑ x : Fin 2048, x0 (ix2 r x) * x2 (ix3 0 x s)) := by
  subst e0 e1 e2
  unfold outsAt0
  dsimp only
  apply out3_at
theorem now4 (hO : Ok m) (t : Fin (cfgM m hO).N) (x0 : Vec Ideal S2048x2048 .bf16) (x1 x2 : Vec Ideal S1x2048x256 .bf16)
    (e0 : iblk m hO c 0 t = x0) (e1 : iblk m hO c 1 t = x1) (e2 : iblk m hO c 2 t = x2) (r : Fin 2048) (s : Fin 256) :
    (outsAt0 m hO c t).2 (ix2 r s) = (∑ x : Fin 2048, x0 (ix2 r x) * x1 (ix3 0 x s)) * logistic (∑ x : Fin 2048, x0 (ix2 r x) * x1 (ix3 0 x s)) * (∑ x : Fin 2048, x0 (ix2 r x) * x2 (ix3 0 x s)) := by
  subst e0 e1 e2
  unfold outsAt0
  dsimp only
  apply out4_at
theorem point3 (t : Fin 11) (a : Fin 2) (r : Fin 2048) (s : Fin 256) :
    (outsAt0 m (hO m) c t).1 (ix3 a r s) = slopes (m (c, Proc.tc.devRef main_arg0)) (m (c, Proc.tc.devRef main_arg1)) a r (2816 * S m + 256 * t + s) := by
  refine (now3 m c (hO m) t _ _ _ rfl rfl rfl a r s).trans ?_
  simp only [blk0, blk1, blk2]
  rw [dot_fin (ent (m (c, Proc.tc.devRef main_arg0) : S2048x2048.Idx → EReal) r) (fun x => ent (m (c, Proc.tc.devRef main_arg1) : S2048x11264.Idx → EReal) x (2816 * S m + 256 * t + s)),
    dot_fin (ent (m (c, Proc.tc.devRef main_arg0) : S2048x2048.Idx → EReal) r) (fun x => ent (m (c, Proc.tc.devRef main_arg1) : S2048x11264.Idx → EReal) x (5632 + (2816 * S m + 256 * t + s)))]
  rfl
theorem point4 (t : Fin 11) (r : Fin 2048) (s : Fin 256) :
    (outsAt0 m (hO m) c t).2 (ix2 r s) = acts (m (c, Proc.tc.devRef main_arg0)) (m (c, Proc.tc.devRef main_arg1)) r (2816 * S m + 256 * t + s) := by
  refine (now4 m c (hO m) t _ _ _ rfl rfl rfl r s).trans ?_
  simp only [blk0, blk1, blk2]
  rw [dot_fin (ent (m (c, Proc.tc.devRef main_arg0) : S2048x2048.Idx → EReal) r) (fun x => ent (m (c, Proc.tc.devRef main_arg1) : S2048x11264.Idx → EReal) x (2816 * S m + 256 * t + s)),
    dot_fin (ent (m (c, Proc.tc.devRef main_arg0) : S2048x2048.Idx → EReal) r) (fun x => ent (m (c, Proc.tc.devRef main_arg1) : S2048x11264.Idx → EReal) x (5632 + (2816 * S m + 256 * t + s)))]
  rfl

theorem block3 (t : Fin 11) (y : S2x2048x256.Idx) :
    (outsAt0 m (hO m) c t).1 y = slopes (m (c, Proc.tc.devRef main_arg0)) (m (c, Proc.tc.devRef main_arg1)) (y 0) (y 1) (2816 * S m + 256 * t + (y 2).val) := by
  obtain ⟨a, r, s, rfl⟩ : ∃ (a : Fin 2) (r : Fin 2048) (s : Fin 256), y = ix3 a r s := ⟨y 0, y 1, y 2, (ix3_eta y).symm⟩
  exact point3 m c t a r s
theorem block4 (t : Fin 11) (y : S2048x256.Idx) :
    (outsAt0 m (hO m) c t).2 y = acts (m (c, Proc.tc.devRef main_arg0)) (m (c, Proc.tc.devRef main_arg1)) (y 0) (2816 * S m + 256 * t + (y 1).val) := by
  obtain ⟨r, s, rfl⟩ : ∃ (r : Fin 2048) (s : Fin 256), y = ix2 r s := ⟨y 0, y 1, (ix2_eta y).symm⟩
  exact point4 m c t r s

theorem cells3 : ((cfgs m).win 3).CoversWhere (fun β => β (2 : Fin 3) / 11 = S m) := by
  have hS : S m ≤ 1 := by rcases S_cases m with ⟨_, e⟩ | ⟨_, e⟩ <;> omega
  refine ⟨show ∀ a : Fin 3, 0 < S2x2048x256.size a by decide, fun t _ => ⟨?_, fun a => .inl rfl⟩, fun β hβ => ⟨(⟨β (2 : Fin 3) % 11, Nat.mod_lt _ (by decide)⟩ : Fin 11), ?_, flush3 m _⟩⟩
  · have ht : t.val < 11 := t.isLt
    have e : ((cfgs m).win 3).index t (2 : Fin 3) = 11 * S m + t.val := congrFun (idx3 m t) (2 : Fin 3)
    show ((cfgs m).win 3).index t (2 : Fin 3) / 11 = S m
    omega
  · have hβ' : (β (2 : Fin 3) : ℕ) / 11 = S m := hβ
    rw [idx3]
    have h0 : (β (0 : Fin 3) : ℕ) < 1 := lt_of_lt_of_le (β (0 : Fin 3)).isLt (show (2 + 2 - 1) / 2 ≤ 1 by decide)
    have h1 : (β (1 : Fin 3) : ℕ) < 1 := lt_of_lt_of_le (β (1 : Fin 3)).isLt (show (2048 + 2048 - 1) / 2048 ≤ 1 by decide)
    show ∀ a : Fin 3, _
    intro a
    match a with
    | 0 => show 0 = (β (0 : Fin 3) : ℕ); omega
    | 1 => show 0 = (β (1 : Fin 3) : ℕ); omega
    | 2 => show 11 * S m + (β (2 : Fin 3) : ℕ) % 11 = (β (2 : Fin 3) : ℕ); omega
/-- The call's columns hold the derivatives, the others what they held. -/
theorem array3 (y : S2x2048x5632.Idx) : ((dats m (hO m) 0 c).arrAt 3 (cfgs m).N : S2x2048x5632.Idx → EReal) y
    = if (y 2).val / 2816 = S m then G3 m c y else V m c main_v11_0 y := by
  refine (dats m (hO m) 0 c).arrAt_apply_of_coversWhere 3 (G3 m c) (P := fun y : S2x2048x5632.Idx => (y 2).val / 2816 = S m) _ (cells3 m) (fun t _ y => ?_) (fun y => ?_) y
  · have hi := idx3 m t
    blk_simp
    rw [after0_3]
    refine (block3 m c t y).trans ?_
    unfold G3
    blk_simp [hi]
    rw [show 2816 * S m + 256 * t.val = (11 * S m + t.val) * 256 by omega]
  · have e : ((y (2 : Fin 3) : ℕ) / 2816 = S m) = ((y (2 : Fin 3) : ℕ) / 256 / 11 = S m) := by rw [Nat.div_div_eq_div_mul]
    exact e ▸ Iff.rfl

theorem cells4 : ((cfgs m).win 4).CoversWhere (fun β => β (1 : Fin 2) / 11 = S m) := by
  have hS : S m ≤ 1 := by rcases S_cases m with ⟨_, e⟩ | ⟨_, e⟩ <;> omega
  refine ⟨show ∀ a : Fin 2, 0 < S2048x256.size a by decide, fun t _ => ⟨?_, fun a => .inl rfl⟩, fun β hβ => ⟨(⟨β (1 : Fin 2) % 11, Nat.mod_lt _ (by decide)⟩ : Fin 11), ?_, flush4 m _⟩⟩
  · have ht : t.val < 11 := t.isLt
    have e : ((cfgs m).win 4).index t (1 : Fin 2) = 11 * S m + t.val := congrFun (idx4 m t) (1 : Fin 2)
    show ((cfgs m).win 4).index t (1 : Fin 2) / 11 = S m
    omega
  · have hβ' : (β (1 : Fin 2) : ℕ) / 11 = S m := hβ
    rw [idx4]
    have h0 : (β (0 : Fin 2) : ℕ) < 1 := lt_of_lt_of_le (β (0 : Fin 2)).isLt (show (2048 + 2048 - 1) / 2048 ≤ 1 by decide)
    show ∀ a : Fin 2, _
    intro a
    match a with
    | 0 => show 0 = (β (0 : Fin 2) : ℕ); omega
    | 1 => show 11 * S m + (β (1 : Fin 2) : ℕ) % 11 = (β (1 : Fin 2) : ℕ); omega
/-- The call's columns hold the activations, the others what they held. -/
theorem array4 (y : S2048x5632.Idx) : ((dats m (hO m) 0 c).arrAt 4 (cfgs m).N : S2048x5632.Idx → EReal) y
    = if (y 1).val / 2816 = S m then G4 m c y else V m c main_v11_1 y := by
  refine (dats m (hO m) 0 c).arrAt_apply_of_coversWhere 4 (G4 m c) (P := fun y : S2048x5632.Idx => (y 1).val / 2816 = S m) _ (cells4 m) (fun t _ y => ?_) (fun y => ?_) y
  · have hi := idx4 m t
    blk_simp
    rw [after0_4]
    refine (block4 m c t y).trans ?_
    unfold G4
    blk_simp [hi]
    rw [show 2816 * S m + 256 * t.val = (11 * S m + t.val) * 256 by omega]
  · have e : ((y (1 : Fin 2) : ℕ) / 2816 = S m) = ((y (1 : Fin 2) : ℕ) / 256 / 11 = S m) := by rw [Nat.div_div_eq_div_mul]
    exact e ▸ Iff.rfl

theorem S_eq : S m = (low (IntOp.addi ((m (c, Proc.tc.devRef main_arg2) : S2.Idx → BitVec 32) (ix1 0)) 0#32)).toNat := by
  obtain rfl : c = 0 := Subsingleton.elim _ _
  unfold S AIdeal.side
  refine congrArg (fun x : BitVec 32 => (low (IntOp.addi x 0#32)).toNat) ?_
  show (V m 0 main_arg2 : S2.Idx → BitVec 32) _ = _
  have e : (V m 0 main_arg2 : S2.Idx → BitVec 32) = m (0, Proc.tc.devRef main_arg2) := by
    conv_lhs => simp only [V]
    after_results_simp
  rw [e]
  refine congrArg _ (funext fun a : Fin 1 => ?_)
  obtain rfl : a = 0 := Subsingleton.elim _ _
  rfl

/-- After a run the results hold the arrays, and the arguments are unchanged. -/
theorem run (ρ : Dev nD → PrngReg) : θ_run defs (onTc (τ := τ) (main (F := Ideal))) ⟨m, fun _ => 0, ρ⟩ fun r =>
    (∀ c : Dev nD, r.2.mem ((c.tc : Thread nD τ).loc main_v11_0) = (dats m (hO m) 0 c).arrAt 3 (cfgs m).N
      ∧ r.2.mem ((c.tc : Thread nD τ).loc main_v11_1) = (dats m (hO m) 0 c).arrAt 4 (cfgs m).N)
    ∧ ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run _ _ _).mono (fun r h => ⟨fun c => ⟨h.1.out_eq c 3, h.1.out_eq c 4⟩, h.2⟩) (θ_run_and (run_main m ρ (hO m)) (unchanged m ρ (hO m)))

/-- On the columns of the first half the results are the derivatives, -/
theorem value3 (i : S2x2048x5632.Idx) (h : (@Cert.On_first_half.fn halfFacts Ideal _ (m ((c.tc : Thread nD τ).loc main_arg0)) (m ((c.tc : Thread nD τ).loc main_arg1)) (m ((c.tc : Thread nD τ).loc main_arg2))).1 i = 1#1) :
    ((dats m (hO m) 0 c).arrAt 3 (cfgs m).N : S2x2048x5632.Idx → EReal) i = G3 m c i := by
  obtain ⟨a, r, s, rfl⟩ : ∃ (a : Fin 2) (r : Fin 2048) (s : Fin 5632), i = ix3 a r s := ⟨i 0, i 1, i 2, (ix3_eta i).symm⟩
  rw [mask3] at h
  rw [array3, S_eq m c]
  refine if_pos ?_
  by_contra hs
  exact absurd (h.symm.trans (if_neg hs)) (by decide)
/-- and the activations. -/
theorem value4 (i : S2048x5632.Idx) (h : (@Cert.On_first_half.fn halfFacts Ideal _ (m ((c.tc : Thread nD τ).loc main_arg0)) (m ((c.tc : Thread nD τ).loc main_arg1)) (m ((c.tc : Thread nD τ).loc main_arg2))).2 i = 1#1) :
    ((dats m (hO m) 0 c).arrAt 4 (cfgs m).N : S2048x5632.Idx → EReal) i = G4 m c i := by
  obtain ⟨r, s, rfl⟩ : ∃ (r : Fin 2048) (s : Fin 5632), i = ix2 r s := ⟨i 0, i 1, (ix2_eta i).symm⟩
  rw [mask4] at h
  rw [array4, S_eq m c]
  refine if_pos ?_
  by_contra hs
  exact absurd (h.symm.trans (if_neg hs)) (by decide)

/-- The reference's results are these. -/
theorem same3 (n : FVec Ideal Cert.ReferenceFfnInAIdeal.S2048x2048 .f32) (w : FVec Ideal Cert.ReferenceFfnInAIdeal.S2048x11264 .f32)
    (hn : n = m ((c.tc : Thread nD τ).loc main_arg0)) (hw : w = m ((c.tc : Thread nD τ).loc main_arg1)) (rn : ∀ i, IsReal (n i)) (rw' : ∀ i, IsReal (w i)) : ref3 n w = G3 m c := by
  refine funext fun i => ?_
  obtain ⟨a, r, s, rfl⟩ : ∃ (a : Fin 2) (r : Fin 2048) (s : Fin 5632), i = ix3 a r s := ⟨i 0, i 1, i 2, (ix3_eta i).symm⟩
  subst hn hw
  exact ref3_at _ _ rn rw' a r s
theorem same4 (n : FVec Ideal Cert.ReferenceFfnInAIdeal.S2048x2048 .f32) (w : FVec Ideal Cert.ReferenceFfnInAIdeal.S2048x11264 .f32)
    (hn : n = m ((c.tc : Thread nD τ).loc main_arg0)) (hw : w = m ((c.tc : Thread nD τ).loc main_arg1)) : ref4 n w = G4 m c := by
  refine funext fun i => ?_
  obtain ⟨r, s, rfl⟩ : ∃ (r : Fin 2048) (s : Fin 5632), i = ix2 r s := ⟨i 0, i 1, (ix2_eta i).symm⟩
  subst hn hw
  exact ref4_at _ _ r s

end Cert.Proof.Ffn.A
-- ==== Proof.FfnInB.lean ====
/- The feed-forward input call over the rest of a device's columns: what it leaves in the columns it writes, and in those it keeps.
 -/
module

public import proofs.«01_k».proof.Proof.Gen.KernelFfnInBIdeal.Frame
public import proofs.«01_k».proof.Proof.Prod
public import proofs.«01_k».proof.Proof.FfnInMath
public import proofs.«01_k».proof.Proof.FfnInOk
public import proofs.«01_k».proof.Proof.FfnInRef
public import Idealize.ShloMosaic.Lib.Pipeline.ValueKit
public import Idealize.ShloMosaic.Lib.Pointwise
public import Idealize.ShloMosaic.Lib.VecWindow

@[expose] public section

set_option maxRecDepth 16384

noncomputable section

namespace Cert.Proof.Ffn.B
open Idealize.ShloMosaic Idealize.ShloMosaic.TcCoe Idealize.SL.Sem
open Cert.KernelFfnInBIdeal Cert.KernelFfnInBIdeal.Gen

theorem pay6_at (v0 : Vec Ideal S2048x2048 .bf16) (v2 v5 : Vec Ideal S1x2048x256 .bf16) (a : Fin 1) (r : Fin 2048) (s : Fin 256) :
    k0_pay6 (F := Ideal) v0 v2 v5 (ix3 a r s) = slope 0 (∑ x : Fin 2048, v0 (ix2 r x) * v2 (ix3 0 x s)) (∑ x : Fin 2048, v0 (ix2 r x) * v5 (ix3 0 x s)) := by
  unfold slope; rw [if_pos rfl]
  pointwise [k0_pay6, k0_pay4, k0_pay3, k0_pay2, k0_pay1]
  simp only [zero_sub]
theorem pay7_at (v0 : Vec Ideal S2048x2048 .bf16) (v2 : Vec Ideal S1x2048x256 .bf16) (v : EReal) (a : Fin 1) (r : Fin 2048) (s : Fin 256) :
    k0_pay7 (F := Ideal) v0 v2 (ix3 a r s) = slope 1 (∑ x : Fin 2048, v0 (ix2 r x) * v2 (ix3 0 x s)) v := by
  unfold slope; rw [if_neg (by decide)]
  pointwise [k0_pay7, k0_pay5, k0_pay4, k0_pay2, k0_pay1]
  simp only [zero_sub]
theorem pay8_at (v0 : Vec Ideal S2048x2048 .bf16) (v2 v5 : Vec Ideal S1x2048x256 .bf16) (r : Fin 2048) (s : Fin 256) :
    k0_pay8 (F := Ideal) v0 v2 v5 (ix2 r s) = (∑ x : Fin 2048, v0 (ix2 r x) * v2 (ix3 0 x s)) * logistic (∑ x : Fin 2048, v0 (ix2 r x) * v2 (ix3 0 x s)) * (∑ x : Fin 2048, v0 (ix2 r x) * v5 (ix3 0 x s)) := by
  pointwise [k0_pay8, k0_pay5, k0_pay4, k0_pay3, k0_pay2, k0_pay1]
  simp only [zero_sub]

variable (m : (ℓ : Loc nD τ sig) → Buf (Elt Ideal) ℓ) (c : Dev nD)

theorem a_at (r k : Fin 2048) : (V m c main_v0 : S2048x2048.Idx → EReal) (ix2 r k)
    = ent (m (c, Proc.tc.devRef main_arg0) : S2048x2048.Idx → EReal) r k := by
  refine Eq.trans ?_ (ent_eq _ (i := r) (j := k) rfl rfl)
  conv_lhs => simp only [V]
  after_results_simp
  pointwise
theorem w_at (a : Fin 4) (k : Fin 2048) (x : Fin 2816) : (V m c main_v10 : S4x2048x2816.Idx → EReal) (ix3 a k x)
    = ent (m (c, Proc.tc.devRef main_arg1) : S2048x11264.Idx → EReal) k (2816 * a + x) := by
  refine Eq.trans ?_ (ent_eq _ (i := k) (j := ⟨2816 * a.val + x.val, by omega⟩) rfl rfl)
  conv_lhs => simp only [V]
  after_results_simp
  match a with
  | 0 => pointwise; after_results_simp; pointwise
  | 1 => pointwise; after_results_simp; pointwise
  | 2 => pointwise; after_results_simp; pointwise
  | 3 => pointwise; after_results_simp; pointwise

/-- The half the call takes: 0 or 1. -/
def S : ℕ := (BIdeal.side (tbl m)).toNat
theorem S_cases : BIdeal.side (tbl m) = 0#32 ∧ S m = 0 ∨ BIdeal.side (tbl m) = 1#32 ∧ S m = 1 := by
  rcases BIdeal.side_cases (tbl m) with h | h
  · exact .inl ⟨h, by unfold S; rw [h]; rfl⟩
  · exact .inr ⟨h, by unfold S; rw [h]; rfl⟩

/-- The blocks lie inside their arrays. -/
abbrev hO : Ok m := BIdeal.ok (tbl m)
abbrev cfgs := cfgM m (hO m)

theorem idx0 (t : Fin 11) : ((cfgs m).win 0).index t = ![0, 0] := by
  show cc0_transform_0 (grid0.coords t) = ![0, 0]
  revert t; decide +kernel
theorem idx1 (t : Fin 11) : ((cfgs m).win 1).index t = ![S m, 0, t.val] := by
  refine (BIdeal.map1 (tbl m) (grid0.coords t)).trans ?_
  rcases S_cases m with ⟨h, e⟩ | ⟨h, e⟩ <;> rw [h, e] <;> revert t <;> decide +kernel
theorem idx2 (t : Fin 11) : ((cfgs m).win 2).index t = ![2 + S m, 0, t.val] := by
  refine (BIdeal.map2 (tbl m) (grid0.coords t)).trans ?_
  rcases S_cases m with ⟨h, e⟩ | ⟨h, e⟩ <;> rw [h, e] <;> revert t <;> decide +kernel
theorem idx3 (t : Fin 11) : ((cfgs m).win 3).index t = ![0, 0, 11 * S m + t.val] := by
  refine (BIdeal.map3 (tbl m) (grid0.coords t)).trans ?_
  rcases S_cases m with ⟨h, e⟩ | ⟨h, e⟩ <;> rw [h, e] <;> revert t <;> decide +kernel
theorem idx4 (t : Fin 11) : ((cfgs m).win 4).index t = ![0, 11 * S m + t.val] := by
  refine (BIdeal.map4 (tbl m) (grid0.coords t)).trans ?_
  rcases S_cases m with ⟨h, e⟩ | ⟨h, e⟩ <;> rw [h, e] <;> revert t <;> decide +kernel
theorem flush_planes (s : BitVec 32) (h : s = 0#32 ∨ s = 1#32) : ∀ t, Pipeline.Window.flushOf grid0 true
    (fun i : grid0.Coords => ![0, (BitVec.ofNat 32 (i 0).val).toNat, (Scalar.addi (Scalar.muli s 11#32) (BitVec.ofNat 32 (i 1).val)).toNat]) t = true := by
  rcases h with rfl | rfl <;> decide +kernel
theorem flush_rows (s : BitVec 32) (h : s = 0#32 ∨ s = 1#32) : ∀ t, Pipeline.Window.flushOf grid0 true
    (fun i : grid0.Coords => ![(BitVec.ofNat 32 (i 0).val).toNat, (Scalar.addi (Scalar.muli s 11#32) (BitVec.ofNat 32 (i 1).val)).toNat]) t = true := by
  rcases h with rfl | rfl <;> decide +kernel
theorem flush3 (t : Fin 11) : ((cfgs m).win 3).flush t = true := by
  refine (Pipeline.Window.flush_eq_flushOf (G := grid0) _ t).trans (Eq.trans (congrArg (fun f => Pipeline.Window.flushOf grid0 true f t) (funext (BIdeal.map3 (tbl m)))) ?_)
  exact flush_planes _ (BIdeal.side_cases _) t
theorem flush4 (t : Fin 11) : ((cfgs m).win 4).flush t = true := by
  refine (Pipeline.Window.flush_eq_flushOf (G := grid0) _ t).trans (Eq.trans (congrArg (fun f => Pipeline.Window.flushOf grid0 true f t) (funext (BIdeal.map4 (tbl m)))) ?_)
  exact flush_rows _ (BIdeal.side_cases _) t

theorem blk0 (t : Fin 11) (r k : Fin 2048) : (iblk m (hO m) c 0 t : S2048x2048.Idx → EReal) (ix2 r k)
    = ent (m (c, Proc.tc.devRef main_arg0) : S2048x2048.Idx → EReal) r k := by
  have hi := idx0 m t
  have e : (iblk m (hO m) c 0 t : S2048x2048.Idx → EReal) (ix2 r k) = (V m c main_v0 : S2048x2048.Idx → EReal) (ix2 r k) := by
    blk_simp [iblk]
    blk_ext [hi]
  rw [e, a_at]
theorem blk1 (t : Fin 11) (a : Fin 1) (k : Fin 2048) (s : Fin 256) : (iblk m (hO m) c 1 t : S1x2048x256.Idx → EReal) (ix3 a k s)
    = ent (m (c, Proc.tc.devRef main_arg1) : S2048x11264.Idx → EReal) k (2816 * S m + 256 * t + s) := by
  have hi := idx1 m t
  have hS : S m ≤ 1 := by rcases S_cases m with ⟨_, e⟩ | ⟨_, e⟩ <;> omega
  have e : (iblk m (hO m) c 1 t : S1x2048x256.Idx → EReal) (ix3 a k s)
      = (V m c main_v10 : S4x2048x2816.Idx → EReal) (ix3 ⟨S m, by omega⟩ k ⟨256 * t.val + s.val, by omega⟩) := by
    blk_simp [iblk]
    blk_ext [hi]
  rw [e, w_at, Nat.add_assoc]
theorem blk2 (t : Fin 11) (a : Fin 1) (k : Fin 2048) (s : Fin 256) : (iblk m (hO m) c 2 t : S1x2048x256.Idx → EReal) (ix3 a k s)
    = ent (m (c, Proc.tc.devRef main_arg1) : S2048x11264.Idx → EReal) k (5632 + (2816 * S m + 256 * t + s)) := by
  have hi := idx2 m t
  have hS : S m ≤ 1 := by rcases S_cases m with ⟨_, e⟩ | ⟨_, e⟩ <;> omega
  have e : (iblk m (hO m) c 2 t : S1x2048x256.Idx → EReal) (ix3 a k s)
      = (V m c main_v10 : S4x2048x2816.Idx → EReal) (ix3 ⟨2 + S m, by omega⟩ k ⟨256 * t.val + s.val, by omega⟩) := by
    blk_simp [iblk]
    blk_ext [hi]
  rw [e, w_at]
  congr 1; simp only; omega

theorem out3_at (i : grid0.Coords) (b0 : Memref sig .tc .vmem S2048x2048 .bf16) (h0 : b0.IsWhole) (b1 : Memref sig .tc .vmem S1x2048x256 .bf16) (h1 : b1.IsWhole) (b2 : Memref sig .tc .vmem S1x2048x256 .bf16) (h2 : b2.IsWhole) (b3 : Memref sig .tc .vmem S2x2048x256 .bf16) (h3 : b3.IsWhole) (b4 : Memref sig .tc .vmem S2048x256 .bf16) (h4 : b4.IsWhole)
    (x0 : Vec Ideal S2048x2048 .bf16) (x1 x2 : Vec Ideal S1x2048x256 .bf16) (x3 : TbBuf0 (F := Ideal) c tbM0_0) (a : Fin 2) (r : Fin 2048) (s : Fin 256) :
    out0_A_3 c i b0 h0 b1 h1 b2 h2 b3 h3 b4 h4 x0 x1 x2 x3 (ix3 a r s) = slope a (∑ x : Fin 2048, x0 (ix2 r x) * x1 (ix3 0 x s)) (∑ x : Fin 2048, x0 (ix2 r x) * x2 (ix3 0 x s)) := by
  frame_out
  canon_tiles x h
  all_goals
    obtain ⟨b, r', s', rfl⟩ : ∃ (b : Fin 1) (r' : Fin 2048) (s' : Fin 256), x = ix3 b r' s' := ⟨x 0, x 1, x 2, (ix3_eta x).symm⟩
    obtain rfl : r = r' := Fin.ext h1
    obtain rfl : s = s' := Fin.ext h2
  · have h0' : a.val = 1 + b.val := h0
    rw [show a = 1 from Fin.ext (by have := b.isLt; omega), pay7_at]
    rfl
  · have h0' : a.val = b.val := h0
    rw [show a = 0 from Fin.ext (by have := b.isLt; omega), pay6_at]
    rfl
theorem out4_at (i : grid0.Coords) (b0 : Memref sig .tc .vmem S2048x2048 .bf16) (h0 : b0.IsWhole) (b1 : Memref sig .tc .vmem S1x2048x256 .bf16) (h1 : b1.IsWhole) (b2 : Memref sig .tc .vmem S1x2048x256 .bf16) (h2 : b2.IsWhole) (b3 : Memref sig .tc .vmem S2x2048x256 .bf16) (h3 : b3.IsWhole) (b4 : Memref sig .tc .vmem S2048x256 .bf16) (h4 : b4.IsWhole)
    (x0 : Vec Ideal S2048x2048 .bf16) (x1 x2 : Vec Ideal S1x2048x256 .bf16) (x3 : TbBuf0 (F := Ideal) c tbM0_0) (r : Fin 2048) (s : Fin 256) :
    out0_A_4 c i b0 h0 b1 h1 b2 h2 b3 h3 b4 h4 x0 x1 x2 x3 (ix2 r s) = (∑ x : Fin 2048, x0 (ix2 r x) * x1 (ix3 0 x s)) * logistic (∑ x : Fin 2048, x0 (ix2 r x) * x1 (ix3 0 x s)) * (∑ x : Fin 2048, x0 (ix2 r x) * x2 (ix3 0 x s)) := by
  frame_out
  exact pay8_at _ _ _ r s

/-- The derivatives of a device's whole rows. -/
def G3 : S2x2048x5632.Idx → EReal := fun y =>
  slopes (m (c, Proc.tc.devRef main_arg0)) (m (c, Proc.tc.devRef main_arg1)) (y 0) (y 1) (y 2)
/-- The activations of a device's whole rows. -/
def G4 : S2048x5632.Idx → EReal := fun y =>
  acts (m (c, Proc.tc.devRef main_arg0)) (m (c, Proc.tc.devRef main_arg1)) (y 0) (y 1)

theorem now3 (hO : Ok m) (t : Fin (cfgM m hO).N) (x0 : Vec Ideal S2048x2048 .bf16) (x1 x2 : Vec Ideal S1x2048x256 .bf16)
    (e0 : iblk m hO c 0 t = x0) (e1 : iblk m hO c 1 t = x1) (e2 : iblk m hO c 2 t = x2) (a : Fin 2) (r : Fin 2048) (s : Fin 256) :
    (outsAt0 m hO c t).1 (ix3 a r s) = slope a (∑ x : Fin 2048, x0 (ix2 r x) * x1 (ix3 0 x s)) (∑ x : Fin 2048, x0 (ix2 r x) * x2 (ix3 0 x s)) := by
  subst e0 e1 e2
  unfold outsAt0
  dsimp only
  apply out3_at
theorem now4 (hO : Ok m) (t : Fin (cfgM m hO).N) (x0 : Vec Ideal S2048x2048 .bf16) (x1 x2 : Vec Ideal S1x2048x256 .bf16)
    (e0 : iblk m hO c 0 t = x0) (e1 : iblk m hO c 1 t = x1) (e2 : iblk m hO c 2 t = x2) (r : Fin 2048) (s : Fin 256) :
    (outsAt0 m hO c t).2 (ix2 r s) = (∑ x : Fin 2048, x0 (ix2 r x) * x1 (ix3 0 x s)) * logistic (∑ x : Fin 2048, x0 (ix2 r x) * x1 (ix3 0 x s)) * (∑ x : Fin 2048, x0 (ix2 r x) * x2 (ix3 0 x s)) := by
  subst e0 e1 e2
  unfold outsAt0
  dsimp only
  apply out4_at
theorem point3 (t : Fin 11) (a : Fin 2) (r : Fin 2048) (s : Fin 256) :
    (outsAt0 m (hO m) c t).1 (ix3 a r s) = slopes (m (c, Proc.tc.devRef main_arg0)) (m (c, Proc.tc.devRef main_arg1)) a r (2816 * S m + 256 * t + s) := by
  refine (now3 m c (hO m) t _ _ _ rfl rfl rfl a r s).trans ?_
  simp only [blk0, blk1, blk2]
  rw [dot_fin (ent (m (c, Proc.tc.devRef main_arg0) : S2048x2048.Idx → EReal) r) (fun x => ent (m (c, Proc.tc.devRef main_arg1) : S2048x11264.Idx → EReal) x (2816 * S m + 256 * t + s)),
    dot_fin (ent (m (c, Proc.tc.devRef main_arg0) : S2048x2048.Idx → EReal) r) (fun x => ent (m (c, Proc.tc.devRef main_arg1) : S2048x11264.Idx → EReal) x (5632 + (2816 * S m + 256 * t + s)))]
  rfl
theorem point4 (t : Fin 11) (r : Fin 2048) (s : Fin 256) :
    (outsAt0 m (hO m) c t).2 (ix2 r s) = acts (m (c, Proc.tc.devRef main_arg0)) (m (c, Proc.tc.devRef main_arg1)) r (2816 * S m + 256 * t + s) := by
  refine (now4 m c (hO m) t _ _ _ rfl rfl rfl r s).trans ?_
  simp only [blk0, blk1, blk2]
  rw [dot_fin (ent (m (c, Proc.tc.devRef main_arg0) : S2048x2048.Idx → EReal) r) (fun x => ent (m (c, Proc.tc.devRef main_arg1) : S2048x11264.Idx → EReal) x (2816 * S m + 256 * t + s)),
    dot_fin (ent (m (c, Proc.tc.devRef main_arg0) : S2048x2048.Idx → EReal) r) (fun x => ent (m (c, Proc.tc.devRef main_arg1) : S2048x11264.Idx → EReal) x (5632 + (2816 * S m + 256 * t + s)))]
  rfl

theorem block3 (t : Fin 11) (y : S2x2048x256.Idx) :
    (outsAt0 m (hO m) c t).1 y = slopes (m (c, Proc.tc.devRef main_arg0)) (m (c, Proc.tc.devRef main_arg1)) (y 0) (y 1) (2816 * S m + 256 * t + (y 2).val) := by
  obtain ⟨a, r, s, rfl⟩ : ∃ (a : Fin 2) (r : Fin 2048) (s : Fin 256), y = ix3 a r s := ⟨y 0, y 1, y 2, (ix3_eta y).symm⟩
  exact point3 m c t a r s
theorem block4 (t : Fin 11) (y : S2048x256.Idx) :
    (outsAt0 m (hO m) c t).2 y = acts (m (c, Proc.tc.devRef main_arg0)) (m (c, Proc.tc.devRef main_arg1)) (y 0) (2816 * S m + 256 * t + (y 1).val) := by
  obtain ⟨r, s, rfl⟩ : ∃ (r : Fin 2048) (s : Fin 256), y = ix2 r s := ⟨y 0, y 1, (ix2_eta y).symm⟩
  exact point4 m c t r s

theorem cells3 : ((cfgs m).win 3).CoversWhere (fun β => β (2 : Fin 3) / 11 = S m) := by
  have hS : S m ≤ 1 := by rcases S_cases m with ⟨_, e⟩ | ⟨_, e⟩ <;> omega
  refine ⟨show ∀ a : Fin 3, 0 < S2x2048x256.size a by decide, fun t _ => ⟨?_, fun a => .inl rfl⟩, fun β hβ => ⟨(⟨β (2 : Fin 3) % 11, Nat.mod_lt _ (by decide)⟩ : Fin 11), ?_, flush3 m _⟩⟩
  · have ht : t.val < 11 := t.isLt
    have e : ((cfgs m).win 3).index t (2 : Fin 3) = 11 * S m + t.val := congrFun (idx3 m t) (2 : Fin 3)
    show ((cfgs m).win 3).index t (2 : Fin 3) / 11 = S m
    omega
  · have hβ' : (β (2 : Fin 3) : ℕ) / 11 = S m := hβ
    rw [idx3]
    have h0 : (β (0 : Fin 3) : ℕ) < 1 := lt_of_lt_of_le (β (0 : Fin 3)).isLt (show (2 + 2 - 1) / 2 ≤ 1 by decide)
    have h1 : (β (1 : Fin 3) : ℕ) < 1 := lt_of_lt_of_le (β (1 : Fin 3)).isLt (show (2048 + 2048 - 1) / 2048 ≤ 1 by decide)
    show ∀ a : Fin 3, _
    intro a
    match a with
    | 0 => show 0 = (β (0 : Fin 3) : ℕ); omega
    | 1 => show 0 = (β (1 : Fin 3) : ℕ); omega
    | 2 => show 11 * S m + (β (2 : Fin 3) : ℕ) % 11 = (β (2 : Fin 3) : ℕ); omega
/-- The call's columns hold the derivatives, the others what they held. -/
theorem array3 (y : S2x2048x5632.Idx) : ((dats m (hO m) 0 c).arrAt 3 (cfgs m).N : S2x2048x5632.Idx → EReal) y
    = if (y 2).val / 2816 = S m then G3 m c y else V m c main_v11_0 y := by
  refine (dats m (hO m) 0 c).arrAt_apply_of_coversWhere 3 (G3 m c) (P := fun y : S2x2048x5632.Idx => (y 2).val / 2816 = S m) _ (cells3 m) (fun t _ y => ?_) (fun y => ?_) y
  · have hi := idx3 m t
    blk_simp
    rw [after0_3]
    refine (block3 m c t y).trans ?_
    unfold G3
    blk_simp [hi]
    rw [show 2816 * S m + 256 * t.val = (11 * S m + t.val) * 256 by omega]
  · have e : ((y (2 : Fin 3) : ℕ) / 2816 = S m) = ((y (2 : Fin 3) : ℕ) / 256 / 11 = S m) := by rw [Nat.div_div_eq_div_mul]
    exact e ▸ Iff.rfl

theorem cells4 : ((cfgs m).win 4).CoversWhere (fun β => β (1 : Fin 2) / 11 = S m) := by
  have hS : S m ≤ 1 := by rcases S_cases m with ⟨_, e⟩ | ⟨_, e⟩ <;> omega
  refine ⟨show ∀ a : Fin 2, 0 < S2048x256.size a by decide, fun t _ => ⟨?_, fun a => .inl rfl⟩, fun β hβ => ⟨(⟨β (1 : Fin 2) % 11, Nat.mod_lt _ (by decide)⟩ : Fin 11), ?_, flush4 m _⟩⟩
  · have ht : t.val < 11 := t.isLt
    have e : ((cfgs m).win 4).index t (1 : Fin 2) = 11 * S m + t.val := congrFun (idx4 m t) (1 : Fin 2)
    show ((cfgs m).win 4).index t (1 : Fin 2) / 11 = S m
    omega
  · have hβ' : (β (1 : Fin 2) : ℕ) / 11 = S m := hβ
    rw [idx4]
    have h0 : (β (0 : Fin 2) : ℕ) < 1 := lt_of_lt_of_le (β (0 : Fin 2)).isLt (show (2048 + 2048 - 1) / 2048 ≤ 1 by decide)
    show ∀ a : Fin 2, _
    intro a
    match a with
    | 0 => show 0 = (β (0 : Fin 2) : ℕ); omega
    | 1 => show 11 * S m + (β (1 : Fin 2) : ℕ) % 11 = (β (1 : Fin 2) : ℕ); omega
/-- The call's columns hold the activations, the others what they held. -/
theorem array4 (y : S2048x5632.Idx) : ((dats m (hO m) 0 c).arrAt 4 (cfgs m).N : S2048x5632.Idx → EReal) y
    = if (y 1).val / 2816 = S m then G4 m c y else V m c main_v11_1 y := by
  refine (dats m (hO m) 0 c).arrAt_apply_of_coversWhere 4 (G4 m c) (P := fun y : S2048x5632.Idx => (y 1).val / 2816 = S m) _ (cells4 m) (fun t _ y => ?_) (fun y => ?_) y
  · have hi := idx4 m t
    blk_simp
    rw [after0_4]
    refine (block4 m c t y).trans ?_
    unfold G4
    blk_simp [hi]
    rw [show 2816 * S m + 256 * t.val = (11 * S m + t.val) * 256 by omega]
  · have e : ((y (1 : Fin 2) : ℕ) / 2816 = S m) = ((y (1 : Fin 2) : ℕ) / 256 / 11 = S m) := by rw [Nat.div_div_eq_div_mul]
    exact e ▸ Iff.rfl

theorem S_eq : S m = (low (IntOp.addi ((m (c, Proc.tc.devRef main_arg2) : S2.Idx → BitVec 32) (ix1 0)) 1#32)).toNat := by
  obtain rfl : c = 0 := Subsingleton.elim _ _
  unfold S BIdeal.side
  refine congrArg (fun x : BitVec 32 => (low (IntOp.addi x 1#32)).toNat) ?_
  show (V m 0 main_arg2 : S2.Idx → BitVec 32) _ = _
  have e : (V m 0 main_arg2 : S2.Idx → BitVec 32) = m (0, Proc.tc.devRef main_arg2) := by
    conv_lhs => simp only [V]
    after_results_simp
  rw [e]
  refine congrArg _ (funext fun a : Fin 1 => ?_)
  obtain rfl : a = 0 := Subsingleton.elim _ _
  rfl

/-- After a run the results hold the arrays, and the arguments are unchanged. -/
theorem run (ρ : Dev nD → PrngReg) : θ_run defs (onTc (τ := τ) (main (F := Ideal))) ⟨m, fun _ => 0, ρ⟩ fun r =>
    (∀ c : Dev nD, r.2.mem ((c.tc : Thread nD τ).loc main_v11_0) = (dats m (hO m) 0 c).arrAt 3 (cfgs m).N
      ∧ r.2.mem ((c.tc : Thread nD τ).loc main_v11_1) = (dats m (hO m) 0 c).arrAt 4 (cfgs m).N)
    ∧ ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  (θ_run _ _ _).mono (fun r h => ⟨fun c => ⟨h.1.out_eq c 3, h.1.out_eq c 4⟩, h.2⟩) (θ_run_and (run_main m ρ (hO m)) (unchanged m ρ (hO m)))

/-- The reference's results are the arrays. -/
theorem same3 (n : FVec Ideal Cert.ReferenceFfnInBIdeal.S2048x2048 .f32) (w : FVec Ideal Cert.ReferenceFfnInBIdeal.S2048x11264 .f32) (p : IVec Cert.ReferenceFfnInBIdeal.S2 32) (g : FVec Ideal Cert.ReferenceFfnInBIdeal.S2x2048x5632 .bf16)
    (hn : n = m ((c.tc : Thread nD τ).loc main_arg0)) (hw : w = m ((c.tc : Thread nD τ).loc main_arg1)) (hp : p = m ((c.tc : Thread nD τ).loc main_arg2)) (hg : g = m ((c.tc : Thread nD τ).loc main_arg3))
    (rn : ∀ i, IsReal (n i)) (rw' : ∀ i, IsReal (w i)) : whole3 n w p g = (dats m (hO m) 0 c).arrAt 3 (cfgs m).N := by
  refine funext fun i => ?_
  obtain ⟨a, r, s, rfl⟩ : ∃ (a : Fin 2) (r : Fin 2048) (s : Fin 5632), i = ix3 a r s := ⟨i 0, i 1, i 2, (ix3_eta i).symm⟩
  subst hn hw hp hg
  have e : (V m c main_v11_0 : S2x2048x5632.Idx → EReal) = m (c, Proc.tc.devRef main_arg3) := by
    conv_lhs => simp only [V]
    after_results_simp
    rfl
  refine (whole3_at _ _ _ _ rn rw' a r s).trans (Eq.trans ?_ (array3 m c (ix3 a r s)).symm)
  rw [S_eq m c, e]
  rfl
theorem same4 (n : FVec Ideal Cert.ReferenceFfnInBIdeal.S2048x2048 .f32) (w : FVec Ideal Cert.ReferenceFfnInBIdeal.S2048x11264 .f32) (p : IVec Cert.ReferenceFfnInBIdeal.S2 32) (b : FVec Ideal Cert.ReferenceFfnInBIdeal.S2048x5632 .bf16)
    (hn : n = m ((c.tc : Thread nD τ).loc main_arg0)) (hw : w = m ((c.tc : Thread nD τ).loc main_arg1)) (hp : p = m ((c.tc : Thread nD τ).loc main_arg2)) (hb : b = m ((c.tc : Thread nD τ).loc main_arg4)) :
    whole4 n w p b = (dats m (hO m) 0 c).arrAt 4 (cfgs m).N := by
  refine funext fun i => ?_
  obtain ⟨r, s, rfl⟩ : ∃ (r : Fin 2048) (s : Fin 5632), i = ix2 r s := ⟨i 0, i 1, (ix2_eta i).symm⟩
  subst hn hw hp hb
  have e : (V m c main_v11_1 : S2048x5632.Idx → EReal) = m (c, Proc.tc.devRef main_arg4) := by
    conv_lhs => simp only [V]
    after_results_simp
    rfl
  refine (whole4_at _ _ _ _ r s).trans (Eq.trans ?_ (array4 m c (ix2 r s)).symm)
  rw [S_eq m c, e]
  rfl

end Cert.Proof.Ffn.B
-- ==== Proof.XattnMath.lean ====
/- The softmax of a row of scores, its derivative, and what the cross-attention computes from it. -/
module

public import proofs.«01_k».proof.Proof.Prod

@[expose] public section

noncomputable section

namespace Cert.Proof.Xattn
open Idealize.ShloMosaic Cert.Proof

/-- The literal minus infinity, and the literal that scales the queries. -/
abbrev low : EReal := Ideal.ofBits FTy.f32 0xFF800000#32
abbrev sc : EReal := Ideal.ofBits FTy.f32 0x3D3504F3#32

/-- The greatest score of a row. -/
def top (s : Fin 256 → EReal) : EReal := Finset.univ.fold max low s
theorem max_top (s : Fin 256 → EReal) : max low (top s) = top s :=
  max_eq_right (Finset.le_fold_max low |>.mpr (Or.inl le_rfl))
/-- The exponential of a score less the greatest, and its share of the row's total. -/
def ex (s : Fin 256 → EReal) (k : Fin 256) : EReal := Ideal.exp (s k - top s)
def prob (s : Fin 256 → EReal) (k : Fin 256) : EReal := Ideal.div (ex s k) (∑ j, ex s j)
/-- The gradient of a score, from the gradients `d` of the row's shares. -/
def ds (s d : Fin 256 → EReal) (k : Fin 256) : EReal := prob s k * (d k - ∑ j, d j * prob s j)

theorem low_eq : low = ⊥ := by
  dsimp only [low, Ideal.ofBits, Ideal.ieee]
  simp

theorem isReal_top {s : Fin 256 → EReal} (h : ∀ k, IsReal (s k)) : IsReal (top s) := by
  refine ⟨(top s).toReal, (EReal.coe_toReal ?_ ?_).symm⟩
  · refine ne_of_lt (Finset.fold_max_lt ⊤ |>.mpr ⟨by rw [low_eq]; exact bot_lt_top, fun k _ => ?_⟩)
    obtain ⟨r, e⟩ := h k
    rw [e]; exact EReal.coe_lt_top r
  · refine ne_of_gt (Finset.lt_fold_max ⊥ |>.mpr (Or.inr ⟨0, Finset.mem_univ _, ?_⟩))
    obtain ⟨r, e⟩ := h 0
    rw [e]; exact EReal.bot_lt_coe r

theorem ex_pos {s : Fin 256 → EReal} (h : ∀ k, IsReal (s k)) : ∃ e : Fin 256 → ℝ, (∀ k, 0 < e k) ∧ ∀ k, ex s k = (e k : EReal) := by
  obtain ⟨m, hm⟩ := isReal_top h
  choose r hr using h
  refine ⟨fun k => Real.exp (r k - m), fun k => Real.exp_pos _, fun k => ?_⟩
  rw [ex, hm, hr, ← EReal.coe_sub, Ideal.exp_coe]

theorem coe_sum (e : Fin 256 → ℝ) : ∑ k, (e k : EReal) = ((∑ k, e k : ℝ) : EReal) := by
  induction (Finset.univ : Finset (Fin 256)) using Finset.cons_induction with
  | empty => rfl
  | cons a t ha ih => rw [Finset.sum_cons, Finset.sum_cons, ih, EReal.coe_add]

theorem mul_sum {u : EReal} (h0 : 0 ≤ u) (ht : u ≠ ⊤) (f : Fin 256 → EReal) : u * ∑ k, f k = ∑ k, u * f k := by
  induction (Finset.univ : Finset (Fin 256)) using Finset.cons_induction with
  | empty => rw [Finset.sum_empty, Finset.sum_empty, mul_zero]
  | cons a t ha ih => rw [Finset.sum_cons, Finset.sum_cons, EReal.left_distrib_of_nonneg_of_ne_top h0 ht, ih]

/-- The quotient rule's two terms, and the softmax's derivative. -/
theorem ds_eq {s : Fin 256 → EReal} (h : ∀ k, IsReal (s k)) (d : Fin 256 → EReal) (k : Fin 256) :
    (Ideal.div (d k) (∑ j, ex s j) + -∑ j, d j * Ideal.div 1 ((∑ i, ex s i) * ∑ i, ex s i) * ex s j) * ex s k = ds s d k := by
  obtain ⟨e, he, hx⟩ := ex_pos h
  have hT : 0 < ∑ j, e j := Finset.sum_pos (fun j _ => he j) ⟨0, Finset.mem_univ _⟩
  have et : ∑ j, ex s j = ((∑ j, e j : ℝ) : EReal) := by rw [← coe_sum]; exact Finset.sum_congr rfl fun j _ => hx j
  unfold ds prob
  rw [et]
  generalize (∑ j, e j) = T at hT
  have hn : T ≠ 0 := ne_of_gt hT
  have hu : (0 : EReal) ≤ ((1 / T : ℝ) : EReal) := EReal.coe_nonneg.mpr (by positivity)
  have ht : ((1 / T : ℝ) : EReal) ≠ ⊤ := EReal.coe_ne_top _
  have e2 : Ideal.div 1 ((T : EReal) * T) = ((1 / T : ℝ) : EReal) * ((1 / T : ℝ) : EReal) := by
    rw [← EReal.coe_mul, Ideal.div_coe (mul_ne_zero hn hn), one_mul, ← EReal.coe_mul]
    congr 1
    field_simp
  rw [e2]
  simp only [Ideal.div_coe hn]
  generalize ((1 / T : ℝ) : EReal) = u at hu ht
  have e3 : ∑ j, d j * (u * u) * ex s j = u * ∑ j, d j * (ex s j * u) := by
    rw [mul_sum hu ht]
    exact Finset.sum_congr rfl fun j _ => by ac_rfl
  rw [e3, mul_comm (d k) u, ← mul_neg, ← EReal.left_distrib_of_nonneg_of_ne_top hu ht, sub_eq_add_neg]
  ac_rfl

/-- A row's scores in one head, and the row's result in one column. -/
def score (q : (⟨2, ![2048, 2048]⟩ : Shape).Idx → EReal) (kv : (⟨2, ![256, 4096]⟩ : Shape).Idx → EReal) (h r : ℕ) (k : Fin 256) : EReal :=
  ∑ x : Fin 512, ent q r (512 * h + x) * sc * ent kv k (512 * h + x)
def mixed (q : (⟨2, ![2048, 2048]⟩ : Shape).Idx → EReal) (kv : (⟨2, ![256, 4096]⟩ : Shape).Idx → EReal) (r d : ℕ) : EReal :=
  ∑ k : Fin 256, prob (score q kv (d / 512) r) k * ent kv k (2048 + d)
/-- The gradients of a row's shares and of its scores in one head. -/
def dshare (kv : (⟨2, ![256, 4096]⟩ : Shape).Idx → EReal) (g : (⟨2, ![2048, 2048]⟩ : Shape).Idx → EReal) (h r : ℕ) (k : Fin 256) : EReal :=
  ∑ x : Fin 512, ent g r (512 * h + x) * ent kv k (2048 + (512 * h + x))
def dscore (q : (⟨2, ![2048, 2048]⟩ : Shape).Idx → EReal) (kv : (⟨2, ![256, 4096]⟩ : Shape).Idx → EReal) (g : (⟨2, ![2048, 2048]⟩ : Shape).Idx → EReal) (h r : ℕ) (k : Fin 256) : EReal :=
  ds (score q kv h r) (dshare kv g h r) k
/-- The gradient of the queries, and those of the keys (0) and the values (1) from the first `n` rows. -/
def dq (q : (⟨2, ![2048, 2048]⟩ : Shape).Idx → EReal) (kv : (⟨2, ![256, 4096]⟩ : Shape).Idx → EReal) (g : (⟨2, ![2048, 2048]⟩ : Shape).Idx → EReal) (r d : ℕ) : EReal :=
  (∑ k : Fin 256, dscore q kv g (d / 512) r k * ent kv k d) * sc
def dkv (q : (⟨2, ![2048, 2048]⟩ : Shape).Idx → EReal) (kv : (⟨2, ![256, 4096]⟩ : Shape).Idx → EReal) (g : (⟨2, ![2048, 2048]⟩ : Shape).Idx → EReal) (a : Fin 2) (k : Fin 256) (d n : ℕ) : EReal :=
  if a = 0 then dot (fun r => dscore q kv g (d / 512) r k) (fun r => ent q r d * sc) n else dot (fun r => prob (score q kv (d / 512) r) k) (fun r => ent g r d) n

end Cert.Proof.Xattn
-- ==== Proof.Xattn.lean ====
/- The gradients of the memory cross-attention: for each head, 1024 rows at a time, the gradient of the queries' rows is written and those of the keys and the values are added up. -/
module

public import proofs.«01_k».proof.Proof.Gen.KernelXattnIdeal.Value
public import proofs.«01_k».proof.Proof.XattnMath
public import Idealize.ShloMosaic.Lib.Pipeline.ValueKit
public import Idealize.ShloMosaic.Lib.Pointwise
public import Idealize.ShloMosaic.Lib.VecWindow
public import Idealize.ShloMosaic.Lib.Pipeline.ReadBack

@[expose] public section

set_option maxRecDepth 16384

noncomputable section

namespace Cert.Proof.Xattn
open Idealize.ShloMosaic Idealize.ShloMosaic.TcCoe Idealize.SL.Sem Cert.Proof
open Cert.KernelXattnIdeal Cert.KernelXattnIdeal.Gen Cert.KernelXattnIdeal.Value

/-- The scores of a block's row, and the gradients of its shares. -/
def sB (q : Vec Ideal S1024x512 .bf16) (k : Vec Ideal S256x512 .bf16) (r : Fin 1024) (j : Fin 256) : EReal := ∑ x : Fin 512, q (ix2 r x) * k (ix2 j x)

theorem pay4_eq (q : Vec Ideal S1024x512 .bf16) : k0_pay4 (F := Ideal) q = q := by
  funext y
  obtain ⟨r, x, rfl⟩ : ∃ (r : Fin 1024) (x : Fin 512), y = ix2 r x := ⟨y 0, y 1, (ix2_eta y).symm⟩
  pointwise [k0_pay4]
theorem pay6_eq (d : Vec Ideal S1024x512 .bf16) : k0_pay6 (F := Ideal) d = d := by
  funext y
  obtain ⟨r, x, rfl⟩ : ∃ (r : Fin 1024) (x : Fin 512), y = ix2 r x := ⟨y 0, y 1, (ix2_eta y).symm⟩
  pointwise [k0_pay6]
theorem pay7_at (q : Vec Ideal S1024x512 .bf16) (k : Vec Ideal S256x512 .bf16) (r : Fin 1024) (j : Fin 256) :
    k0_pay7 (F := Ideal) q k (ix2 r j) = prob (sB q k r) j := by
  pointwise [k0_pay7, k0_pay4, k0_pay5]
  exact rfl
theorem pay8_at (q : Vec Ideal S1024x512 .bf16) (k v : Vec Ideal S256x512 .bf16) (d : Vec Ideal S1024x512 .bf16) (r : Fin 1024) (j : Fin 256) :
    k0_pay8 (F := Ideal) q k v d (ix2 r j) = ds (sB q k r) (sB d v r) j := by
  unfold ds
  simp only [← pay7_at]
  pointwise [k0_pay8, k0_pay6]
  exact rfl
theorem pay9_at (q : Vec Ideal S1024x512 .bf16) (k v : Vec Ideal S256x512 .bf16) (d : Vec Ideal S1024x512 .bf16) (r : Fin 1024) (x : Fin 512) :
    k0_pay9 (F := Ideal) q k v d (ix2 r x) = (∑ j : Fin 256, ds (sB q k r) (sB d v r) j * k (ix2 j x)) * sc := by
  simp only [← pay8_at]
  pointwise [k0_pay9, k0_pay5]
theorem pay1_at (v4 : FVec Ideal S1024x512 .bf16) (v28 : FVec Ideal S1024x256 .bf16) (v34 : Vec Ideal S1x256x512 .f32) (a : Fin 1) (j : Fin 256) (x : Fin 512) :
    k0_pay1 (F := Ideal) v4 v28 v34 (ix3 a j x) = v34 (ix3 0 j x) + ∑ r : Fin 1024, v28 (ix2 r j) * v4 (ix2 r x) := by
  pointwise [k0_pay1]
theorem pay2_at (v10 : FVec Ideal S1024x512 .bf16) (v20 : FVec Ideal S1024x256 .f32) (v41 : Vec Ideal S1x256x512 .f32) (a : Fin 1) (j : Fin 256) (x : Fin 512) :
    k0_pay2 (F := Ideal) v10 v20 v41 (ix3 a j x) = v41 (ix3 0 j x) + ∑ r : Fin 1024, v20 (ix2 r j) * v10 (ix2 r x) := by
  pointwise [k0_pay2]

/-- A plane's index, in the array of both. -/
theorem in_plane (a : Fin 2) (inb : ∀ b, (![a.val, 0, 0] : Fin 3 → ℕ) b + (![1, 256, 512] : Fin 3 → ℕ) b ≤ S2x256x512.size b) (b : Fin 1) (j : Fin 256) (x : Fin 512) :
    (Rect.unit (s := S2x256x512) ![a.val, 0, 0] ![1, 256, 512] inb).emb (ix3 b j x) = ix3 a j x := by
  funext i
  match i with
  | ⟨0, _⟩ => exact Fin.ext (by have := b.isLt; show a.val + 1 * b.val = a.val; omega)
  | ⟨1, _⟩ => exact Fin.ext (by show 0 + 1 * j.val = j.val; omega)
  | ⟨2, _⟩ => exact Fin.ext (by show 0 + 1 * x.val = x.val; omega)
/-- Stores of the two planes, read back. -/
theorem planes (P0 P1 : Vec Ideal S1x256x512 .f32) (L : List (View.Piece (Elt Ideal) S2x256x512 .f32)) (a : Fin 2) (j : Fin 256) (x : Fin 512) :
    View.canon (⟨Rect.unit ![1, 0, 0] ![1, 256, 512] inb_S2x256x512_S1x256x512_1_0_0, P1⟩ :: ⟨Rect.unit ![0, 0, 0] ![1, 256, 512] inb_S2x256x512_S1x256x512_0_0_0, P0⟩ :: L) (ix3 a j x)
    = if a = 0 then P0 (ix3 0 j x) else P1 (ix3 0 j x) := by
  match a with
  | ⟨0, _⟩ =>
    rw [View.canon_cons_of_not_mem, ← in_plane ⟨0, by decide⟩ inb_S2x256x512_S1x256x512_0_0_0 0 j x]
    · exact View.canon_cons_emb _ _ _ _
    · intro h
      have h0 : 1 ≤ 0 := (Rect.mem_set_unit.mp (show _ ∈ (Rect.unit (s := S2x256x512) ![1, 0, 0] ![1, 256, 512] inb_S2x256x512_S1x256x512_1_0_0).set from h) 0).1
      exact absurd h0 (by decide)
  | ⟨1, _⟩ =>
    rw [← in_plane ⟨1, by decide⟩ inb_S2x256x512_S1x256x512_1_0_0 0 j x]
    exact View.canon_cons_emb _ _ _ _
theorem zero_at (y : S2x256x512.Idx) : k0_pay3 (F := Ideal) y = 0 := by
  pointwise [k0_pay3]

theorem filled_at (v : View sig .tc .vmem S2x256x512 .f32) (R : LoadRect S2x256x512) (y : R.shape.Idx) :
    v.readCov (Val := Elt Ideal) [⟨Rect.unit ![0, 0, 0] ![2, 256, 512] inb_S2x256x512_S2x256x512_0_0_0, k0_pay3 (F := Ideal)⟩] R y = 0 := by
  rw [View.readCov_eq_canon']
  have h0 : ∀ b : Fin S2x256x512.rank, (![0, 0, 0] : Fin 3 → ℕ) b = 0 := by
    intro b
    match b with
    | ⟨0, _⟩ => rfl
    | ⟨1, _⟩ => rfl
    | ⟨2, _⟩ => rfl
  have e := View.canon_cons_unit_lit (Val := Elt Ideal) (S := S2x256x512) (e := .f32) inb_S2x256x512_S2x256x512_0_0_0 (k0_pay3 (F := Ideal)) [] h0
  exact (congrFun e _).trans (zero_at _)

section Body
variable (c : Dev nD) (i : grid0.Coords) (arg2 : Memref sig .tc .vmem S1024x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2x256x512 .f32) (harg7 : arg7.IsWhole)
  (x0 : Vec Ideal S1024x512 .bf16) (x1 x2 : Vec Ideal S256x512 .bf16) (x3 : Vec Ideal S1024x512 .bf16) (xo : Vec Ideal S2x256x512 .f32)

theorem outA4 (hc0 : cond0_0 i) : out0_A_4 c i arg2 harg2 arg3 harg3 arg4 harg4 arg5 harg5 arg6 harg6 arg7 harg7 hc0 x0 x1 x2 x3 = k0_pay9 x0 x1 x2 x3 := by
  frame_out
theorem outB4 (hc0 : ¬cond0_0 i) : out0_B_4 c i arg2 harg2 arg3 harg3 arg4 harg4 arg5 harg5 arg6 harg6 arg7 harg7 hc0 x0 x1 x2 x3 xo = k0_pay9 x0 x1 x2 x3 := by
  frame_out
/-- A block's additions to the two planes. -/
def add (x0 : Vec Ideal S1024x512 .bf16) (x1 x2 : Vec Ideal S256x512 .bf16) (x3 : Vec Ideal S1024x512 .bf16) (a : Fin 2) (j : Fin 256) (x : Fin 512) : EReal :=
  if a = 0 then ∑ r : Fin 1024, ds (sB x0 x1 r) (sB x3 x2 r) j * x0 (ix2 r x) else ∑ r : Fin 1024, prob (sB x0 x1 r) j * x3 (ix2 r x)

theorem outA5 (hc0 : cond0_0 i) (a : Fin 2) (j : Fin 256) (x : Fin 512) :
    out0_A_5 c i arg2 harg2 arg3 harg3 arg4 harg4 arg5 harg5 arg6 harg6 arg7 harg7 hc0 x0 x1 x2 x3 (ix3 a j x) = add x0 x1 x2 x3 a j x := by
  frame_out
  refine (planes _ _ _ a j x).trans ?_
  unfold add
  rw [pay1_at, pay2_at]
  simp only [pay7_at, pay8_at, pay4_eq, pay6_eq]
  refine if_congr Iff.rfl ?_ ?_
  · refine Eq.trans (congrArg (· + _) ?_) (zero_add _)
    exact filled_at _ _ _
  · refine Eq.trans (congrArg (· + _) ?_) (zero_add _)
    rw [View.readCov_skip _ _ _ _ _ rfl]
    exact filled_at _ _ _
theorem outB5 (hc0 : ¬cond0_0 i) (a : Fin 2) (j : Fin 256) (x : Fin 512) :
    out0_B_5 c i arg2 harg2 arg3 harg3 arg4 harg4 arg5 harg5 arg6 harg6 arg7 harg7 hc0 x0 x1 x2 x3 xo (ix3 a j x) = xo (ix3 a j x) + add x0 x1 x2 x3 a j x := by
  frame_out
  refine (planes _ _ _ a j x).trans ?_
  unfold add
  rw [pay1_at, pay2_at]
  simp only [pay7_at, pay8_at, pay4_eq, pay6_eq]
  match a with
  | ⟨0, _⟩ =>
    refine Eq.trans (if_pos (Fin.ext rfl)) (Eq.trans ?_ (congrArg _ (if_pos (Fin.ext rfl)).symm))
    exact congrArg (fun z => xo z + _) (in_plane ⟨0, by decide⟩ inb_S2x256x512_S1x256x512_0_0_0 0 j x)
  | ⟨1, _⟩ =>
    refine Eq.trans (if_neg (by rintro ⟨⟩)) (Eq.trans ?_ (congrArg _ (if_neg (by rintro ⟨⟩)).symm))
    exact congrArg (fun z => xo z + _) (in_plane ⟨1, by decide⟩ inb_S2x256x512_S1x256x512_1_0_0 0 j x)
end Body

variable (m : (ℓ : Loc nD τ sig) → Buf (Elt Ideal) ℓ) (c : Dev nD)

theorem idxs : ∀ t : Fin cfg0.N, win0_0.index t = ![t.val % 2, t.val / 2] ∧ win0_1.index t = ![0, t.val / 2] ∧ win0_2.index t = ![0, 4 + t.val / 2] ∧ win0_3.index t = ![t.val % 2, t.val / 2] ∧ win0_4.index t = ![t.val % 2, t.val / 2] ∧ win0_5.index t = ![0, 0, t.val / 2] := by decide +kernel
theorem last : ∀ t : Fin cfg0.N, (cfg0.win 5).flush t = true → t.val % 2 = 1 := by decide +kernel

abbrev Q (m : (ℓ : Loc nD τ sig) → Buf (Elt Ideal) ℓ) (c : Dev nD) : S2048x2048.Idx → EReal := m (c, Proc.tc.devRef main_arg0)
abbrev KV (m : (ℓ : Loc nD τ sig) → Buf (Elt Ideal) ℓ) (c : Dev nD) : S256x4096.Idx → EReal := m (c, Proc.tc.devRef main_arg1)
abbrev D (m : (ℓ : Loc nD τ sig) → Buf (Elt Ideal) ℓ) (c : Dev nD) : S2048x2048.Idx → EReal := m (c, Proc.tc.devRef main_arg2)

theorem q_at (r d : Fin 2048) : (V m c main_v2 : S2048x2048.Idx → EReal) (ix2 r d) = ent (Q m c) r d * sc := by
  refine Eq.trans ?_ (congrArg (· * sc) (ent_eq _ (i := r) (j := d) rfl rfl))
  conv_lhs => simp only [V]
  after_results_simp
  pointwise
theorem kv_at (k : Fin 256) (d : Fin 4096) : (V m c main_v3 : S256x4096.Idx → EReal) (ix2 k d) = ent (KV m c) k d := by
  refine Eq.trans ?_ (ent_eq _ (i := k) (j := d) rfl rfl)
  conv_lhs => simp only [V]
  after_results_simp
  pointwise
theorem do_at (r d : Fin 2048) : (V m c main_v4 : S2048x2048.Idx → EReal) (ix2 r d) = ent (D m c) r d := by
  refine Eq.trans ?_ (ent_eq _ (i := r) (j := d) rfl rfl)
  conv_lhs => simp only [V]
  after_results_simp
  pointwise

theorem blk0 (t : Fin cfg0.N) (r : Fin 1024) (x : Fin 512) : (iblk m c 0 t : S1024x512.Idx → EReal) (ix2 r x)
    = ent (Q m c) (1024 * (t.val % 2) + r) (512 * (t.val / 2) + x) * sc := by
  have hi := (idxs t).1
  have ht : t.val < 8 := t.isLt
  have e : (iblk m c 0 t : S1024x512.Idx → EReal) (ix2 r x)
      = (V m c main_v2 : S2048x2048.Idx → EReal) (ix2 ⟨1024 * (t.val % 2) + r, by omega⟩ ⟨512 * (t.val / 2) + x, by omega⟩) := by
    blk_simp [iblk]
    blk_ext [hi]
  rw [e, q_at]
theorem blk1 (t : Fin cfg0.N) (k : Fin 256) (x : Fin 512) : (iblk m c 1 t : S256x512.Idx → EReal) (ix2 k x)
    = ent (KV m c) k (512 * (t.val / 2) + x) := by
  have hi := (idxs t).2.1
  have ht : t.val < 8 := t.isLt
  have e : (iblk m c 1 t : S256x512.Idx → EReal) (ix2 k x) = (V m c main_v3 : S256x4096.Idx → EReal) (ix2 k ⟨512 * (t.val / 2) + x, by omega⟩) := by
    blk_simp [iblk]
    blk_ext [hi]
  rw [e, kv_at]
theorem blk2 (t : Fin cfg0.N) (k : Fin 256) (x : Fin 512) : (iblk m c 2 t : S256x512.Idx → EReal) (ix2 k x)
    = ent (KV m c) k (2048 + (512 * (t.val / 2) + x)) := by
  have hi := (idxs t).2.2.1
  have ht : t.val < 8 := t.isLt
  have e : (iblk m c 2 t : S256x512.Idx → EReal) (ix2 k x) = (V m c main_v3 : S256x4096.Idx → EReal) (ix2 k ⟨2048 + (512 * (t.val / 2) + x), by omega⟩) := by
    blk_simp [iblk]
    blk_ext [hi]
  rw [e, kv_at]
theorem blk3 (t : Fin cfg0.N) (r : Fin 1024) (x : Fin 512) : (iblk m c 3 t : S1024x512.Idx → EReal) (ix2 r x)
    = ent (D m c) (1024 * (t.val % 2) + r) (512 * (t.val / 2) + x) := by
  have hi := (idxs t).2.2.2.1
  have ht : t.val < 8 := t.isLt
  have e : (iblk m c 3 t : S1024x512.Idx → EReal) (ix2 r x)
      = (V m c main_v4 : S2048x2048.Idx → EReal) (ix2 ⟨1024 * (t.val % 2) + r, by omega⟩ ⟨512 * (t.val / 2) + x, by omega⟩) := by
    blk_simp [iblk]
    blk_ext [hi]
  rw [e, do_at]

theorem score_at (t : Fin cfg0.N) (r : Fin 1024) : sB (iblk m c 0 t) (iblk m c 1 t) r = score (Q m c) (KV m c) (t.val / 2) (1024 * (t.val % 2) + r) :=
  funext fun j => Finset.sum_congr rfl fun x _ => congrArg₂ _ (blk0 m c t r x) (blk1 m c t j x)
theorem dshare_at (t : Fin cfg0.N) (r : Fin 1024) : sB (iblk m c 3 t) (iblk m c 2 t) r = dshare (KV m c) (D m c) (t.val / 2) (1024 * (t.val % 2) + r) :=
  funext fun j => Finset.sum_congr rfl fun x _ => congrArg₂ _ (blk3 m c t r x) (blk2 m c t j x)

theorem dq_at (t : Fin cfg0.N) (r : Fin 1024) (x : Fin 512) :
    k0_pay9 (F := Ideal) (iblk m c 0 t) (iblk m c 1 t) (iblk m c 2 t) (iblk m c 3 t) (ix2 r x) = dq (Q m c) (KV m c) (D m c) (1024 * (t.val % 2) + r) (512 * (t.val / 2) + x) := by
  refine (pay9_at _ _ _ _ r x).trans (congrArg (· * sc) (Finset.sum_congr rfl fun k _ => ?_))
  rw [score_at, dshare_at, show (512 * (t.val / 2) + x.val) / 512 = t.val / 2 by omega]
  exact congrArg _ (blk1 m c t k x)
theorem add_at (t : Fin cfg0.N) (a : Fin 2) (k : Fin 256) (x : Fin 512) :
    add (iblk m c 0 t) (iblk m c 1 t) (iblk m c 2 t) (iblk m c 3 t) a k x
    = if a = 0 then ∑ r : Fin 1024, dscore (Q m c) (KV m c) (D m c) (t.val / 2) (1024 * (t.val % 2) + r) k * (ent (Q m c) (1024 * (t.val % 2) + r) (512 * (t.val / 2) + x) * sc)
      else ∑ r : Fin 1024, prob (score (Q m c) (KV m c) (t.val / 2) (1024 * (t.val % 2) + r)) k * ent (D m c) (1024 * (t.val % 2) + r) (512 * (t.val / 2) + x) := by
  refine if_congr Iff.rfl (Finset.sum_congr rfl fun r _ => ?_) (Finset.sum_congr rfl fun r _ => ?_)
  · rw [score_at, dshare_at]
    exact congrArg _ (blk0 m c t r x)
  · rw [score_at]
    exact congrArg _ (blk3 m c t r x)

theorem out4_at (t : Fin cfg0.N) (r : Fin 1024) (x : Fin 512) :
    ((outsAt0 m c t.val t.isLt).1 : S1024x512.Idx → EReal) (ix2 r x) = dq (Q m c) (KV m c) (D m c) (1024 * (t.val % 2) + r) (512 * (t.val / 2) + x) := by
  by_cases h0 : t.val % 2 = 0
  · rw [outsAt0_A m c t h0]
    dsimp only
    rw [outA4]
    exact dq_at m c t r x
  · rw [outsAt0_B m c t h0]
    dsimp only
    rw [outB4]
    exact dq_at m c t r x
theorem first_at (t : Fin cfg0.N) (h0 : t.val % 2 = 0) (a : Fin 2) (k : Fin 256) (x : Fin 512) :
    ((outsAt0 m c t.val t.isLt).2 : S2x256x512.Idx → EReal) (ix3 a k x) = dkv (Q m c) (KV m c) (D m c) a k (512 * (t.val / 2) + x) 1024 := by
  rw [outsAt0_A m c t h0]
  dsimp only
  refine (outA5 c _ _ _ _ _ _ _ _ _ _ _ _ _ _ _ _ _ _ a k x).trans ((add_at m c t a k x).trans ?_)
  rw [h0, dkv, show (512 * (t.val / 2) + x.val) / 512 = t.val / 2 by omega]
  simp only [Nat.mul_zero, Nat.zero_add]
  by_cases ha : a = 0
  · rw [if_pos ha, if_pos ha]
    refine Eq.trans ?_ (dot_fin _ _ 1024)
    exact Finset.sum_congr rfl fun _ _ => rfl
  · rw [if_neg ha, if_neg ha]
    refine Eq.trans ?_ (dot_fin _ _ 1024)
    exact Finset.sum_congr rfl fun _ _ => rfl
theorem out5_at (t : Fin cfg0.N) (h1 : t.val % 2 = 1) (a : Fin 2) (k : Fin 256) (x : Fin 512) :
    ((outsAt0 m c t.val t.isLt).2 : S2x256x512.Idx → EReal) (ix3 a k x) = dkv (Q m c) (KV m c) (D m c) a k (512 * (t.val / 2) + x) 2048 := by
  have hp := first_at m c ⟨t.val - 1, Nat.lt_of_le_of_lt (Nat.sub_le _ _) t.isLt⟩ (by show (t.val - 1) % 2 = 0; omega) a k x
  rw [outsAt0_B m c t (by omega)]
  dsimp only
  refine (outB5 c _ _ _ _ _ _ _ _ _ _ _ _ _ _ _ _ _ _ _ a k x).trans ((congrArg₂ (· + ·) hp (add_at m c t a k x)).trans ?_)
  dsimp only
  rw [h1, dkv, dkv, show (t.val - 1) / 2 = t.val / 2 by omega, show (512 * (t.val / 2) + x.val) / 512 = t.val / 2 by omega]
  by_cases ha : a = 0
  · rw [if_pos ha, if_pos ha, if_pos ha]
    exact dot_add _ _ 1024 1024
  · rw [if_neg ha, if_neg ha, if_neg ha]
    exact dot_add _ _ 1024 1024

/-- The gradients: of the queries, and of the keys and the values. -/
def G4 (m : (ℓ : Loc nD τ sig) → Buf (Elt Ideal) ℓ) (c : Dev nD) : S2048x2048.Idx → EReal := fun y => dq (Q m c) (KV m c) (D m c) (y 0) (y 1)
def G5 (m : (ℓ : Loc nD τ sig) → Buf (Elt Ideal) ℓ) (c : Dev nD) : S2x256x2048.Idx → EReal := fun y => dkv (Q m c) (KV m c) (D m c) (y 0) (y 1) (y 2) 2048

theorem array4 : (dats m 0 c).arrAt 4 cfg0.N = (G4 m c : S2048x2048.Idx → EReal) := by
  refine (dats m 0 c).arrAt_eq_of_covers 4 (G4 m c) (by decide +kernel) fun t hf y => ?_
  have hi := (idxs t).2.2.2.2.1
  have ht : t.val < 8 := t.isLt
  blk_simp
  rw [after0_4]
  obtain ⟨r, d, rfl⟩ : ∃ (r : Fin 1024) (d : Fin 512), y = ix2 r d := ⟨y 0, y 1, (ix2_eta y).symm⟩
  refine (out4_at m c t r d).trans ?_
  unfold G4
  blk_simp [hi]
  rw [Nat.mul_comm 1024, Nat.mul_comm 512]
theorem array5 : (dats m 0 c).arrAt 5 cfg0.N = (G5 m c : S2x256x2048.Idx → EReal) := by
  refine (dats m 0 c).arrAt_eq_of_covers 5 (G5 m c) (by decide +kernel) fun t hf y => ?_
  have hi := (idxs t).2.2.2.2.2
  have ht : t.val < 8 := t.isLt
  blk_simp
  rw [after0_5]
  obtain ⟨a, k, d, rfl⟩ : ∃ (a : Fin 2) (k : Fin 256) (d : Fin 512), y = ix3 a k d := ⟨y 0, y 1, y 2, (ix3_eta y).symm⟩
  refine (out5_at m c t (last t hf) a k d).trans ?_
  unfold G5
  blk_simp [hi]
  rw [Nat.mul_comm 512]
  exact congrArg₂ (fun a k => dkv _ _ _ a k _ 2048) (Fin.ext (by blk_simp [hi])) (Fin.ext (by blk_simp [hi]))

end Cert.Proof.Xattn
-- ==== Proof.XattnFwd.lean ====
/- The memory cross-attention: 1024 rows of one head at a time against all its keys and values. -/
module

public import proofs.«01_k».proof.Proof.Gen.KernelXattnFwdIdeal.Value
public import proofs.«01_k».proof.Proof.Gen.ReferenceXattnFwdIdeal.Run
public import proofs.«01_k».proof.Proof.XattnMath
public import Idealize.ShloMosaic.Lib.Pipeline.ValueKit
public import Idealize.ShloMosaic.Lib.Pointwise
public import Idealize.ShloMosaic.Lib.VecWindow

@[expose] public section

set_option maxRecDepth 16384

noncomputable section

namespace Cert.Proof.Xattn
open Idealize.ShloMosaic Idealize.ShloMosaic.TcCoe Idealize.SL.Sem Cert.Proof

namespace Fwd
section Reference
open Cert.ReferenceXattnFwdIdeal Cert.ReferenceXattnFwdIdeal.Gen
variable (q : FVec Ideal S2048x2048 .f32) (kv : FVec Ideal S256x4096 .f32)

def scores : FVec Ideal S4x2048x256 .f32 :=
  Host.dotGeneral dot_S2048x4x512_S256x4x512_S4x2048x256_2_2_0_0_1_1 none (mulf (shapeCast _ q shapeCasts_S2048x2048_S2048x4x512) (broadcastInDim S2048x4x512 ![] bcast_S_S2048x4x512 (constant S_ .f32 0x3D3504F3#32))) (shapeCast _ (extractStridedSlice S256x2048 ![0, 0] kv slices_S256x4096_S256x2048_0_0) shapeCasts_S256x2048_S256x4x512)
def tops (s : FVec Ideal S4x2048x256 .f32) : FVec Ideal S4x2048 .f32 :=
  Host.reduce FloatOps.maximumf s (constant S_ .f32 0xFF800000#32) reducesTo_S4x2048x256_S4x2048_d2 h_S_
def atLeast (z : FVec Ideal S4x2048 .f32) : FVec Ideal S4x2048 .f32 :=
  maximumf (broadcastInDim S4x2048 ![] bcast_S_S4x2048 (constant S_ .f32 0xFF800000#32)) z
def cols (z : FVec Ideal S4x2048 .f32) : FVec Ideal S4x2048x256 .f32 :=
  broadcastInDim S4x2048x256 ![0, 1, 2] bcast_S4x2048x1_S4x2048x256_0_1_2 (broadcastInDim S4x2048x1 ![0, 1] bcast_S4x2048_S4x2048x1_0_1 z)
def exps (s : FVec Ideal S4x2048x256 .f32) : FVec Ideal S4x2048x256 .f32 := Host.exp (subf s (cols (atLeast (tops s))))
def total (e : FVec Ideal S4x2048x256 .f32) : FVec Ideal S4x2048x1 .f32 :=
  broadcastInDim S4x2048x1 ![0, 1] bcast_S4x2048_S4x2048x1_0_1 (Host.reduceAdd e (constant S_ .f32 0x00000000#32) reducesTo_S4x2048x256_S4x2048_d2 h_S_)
def share (e : FVec Ideal S4x2048x256 .f32) : FVec Ideal S4x2048x256 .f32 :=
  Host.divf e (broadcastInDim S4x2048x256 ![0, 1, 2] bcast_S4x2048x1_S4x2048x256_0_1_2 (total e))
/-- The values' columns by heads. -/
def values : FVec Ideal S256x4x512 .f32 :=
  shapeCast _ (extractStridedSlice S256x2048 ![0, 2048] kv slices_S256x4096_S256x2048_0_2048) shapeCasts_S256x2048_S256x4x512
def ref : FVec Ideal S2048x2048 .bf16 :=
  truncf .bf16 (shapeCast _ (transpose S2048x4x512 [2, 0, 1] (Host.dotGeneral dot_S256x4x512_S4x2048x256_S4x512x2048_0_2_2_1_1_0 none (values kv) (share (exps (scores q kv)))) transposes_S4x512x2048_S2048x4x512_2_0_1) shapeCasts_S2048x4x512_S2048x2048) bitsLt_bf16_f32

theorem scores_at (h : Fin 4) (r : Fin 2048) (k : Fin 256) : scores q kv (ix3 h r k) = score q kv h r k := by
  pointwise [scores]
  have e (x : Fin 512) : h.val * 512 + x.val = 512 * h + x := by omega
  exact Finset.sum_congr rfl fun x _ => congrArg₂ _ (congrArg (· * sc) (ent_eq q rfl (e x))) (ent_eq kv rfl (e x))
theorem top_at (s : FVec Ideal S4x2048x256 .f32) (h : Fin 4) (r : Fin 2048) : tops s (ix2 h r) = top fun j => s (ix3 h r j) := by
  unfold top
  pointwise [tops]
theorem atLeast_at (z : FVec Ideal S4x2048 .f32) (h : Fin 4) (r : Fin 2048) : atLeast z (ix2 h r) = max low (z (ix2 h r)) := by
  pointwise [atLeast]
theorem cols_at (z : FVec Ideal S4x2048 .f32) (h : Fin 4) (r : Fin 2048) (k : Fin 256) : cols z (ix3 h r k) = z (ix2 h r) := by
  pointwise [cols]
theorem exp_sub_at (s z : FVec Ideal S4x2048x256 .f32) (h : Fin 4) (r : Fin 2048) (k : Fin 256) : Host.exp (subf s z) (ix3 h r k) = Ideal.exp (s (ix3 h r k) - z (ix3 h r k)) := by
  pointwise
theorem exps_at (s : FVec Ideal S4x2048x256 .f32) (h : Fin 4) (r : Fin 2048) (k : Fin 256) : exps s (ix3 h r k) = ex (fun j => s (ix3 h r j)) k := by
  rw [exps, exp_sub_at, cols_at, atLeast_at, top_at, max_top, ex]
theorem total_at (e : FVec Ideal S4x2048x256 .f32) (h : Fin 4) (r : Fin 2048) (k : Fin 1) : total e (ix3 h r k) = ∑ j : Fin 256, e (ix3 h r j) := by
  pointwise [total]
theorem share_at (e : FVec Ideal S4x2048x256 .f32) (h : Fin 4) (r : Fin 2048) (k : Fin 256) : share e (ix3 h r k) = Ideal.div (e (ix3 h r k)) (∑ j : Fin 256, e (ix3 h r j)) := by
  refine Eq.trans ?_ (congrArg _ (total_at e h r 0))
  pointwise [share]
theorem values_at (k : Fin 256) (h : Fin 4) (x : Fin 512) : values kv (ix3 k h x) = ent kv k (2048 + (512 * h + x)) := by
  refine Eq.trans ?_ (ent_eq _ (i := k) (j := ⟨2048 + (512 * h + x), by omega⟩) rfl rfl)
  pointwise [values]
  exact congrArg (fun z => kv (ix2 k z)) (Fin.ext (by simp only; omega))
theorem ref_at (r d : Fin 2048) : ref q kv (ix2 r d) = mixed q kv r d := by
  have e : ref q kv (ix2 r d) = ∑ k : Fin 256, values kv (ix3 k ⟨d.val / 512, by omega⟩ ⟨d.val % 512, by omega⟩) * share (exps (scores q kv)) (ix3 ⟨d.val / 512, by omega⟩ r k) := by
    pointwise [ref]
  rw [e]
  refine Finset.sum_congr rfl fun k _ => ?_
  rw [values_at, share_at, mul_comm]
  simp only [exps_at, scores_at, show 512 * (d.val / 512) + d.val % 512 = d.val by omega]
  rfl
end Reference

open Cert.KernelXattnFwdIdeal Cert.KernelXattnFwdIdeal.Gen Cert.KernelXattnFwdIdeal.Value

theorem pay_at (v0 : Vec Ideal S1024x512 .bf16) (v2 v15 : Vec Ideal S256x512 .bf16) (r : Fin 1024) (d : Fin 512) :
    k0_pay1 (F := Ideal) v0 v2 v15 (ix2 r d) = ∑ k : Fin 256, prob (fun j => ∑ x : Fin 512, v0 (ix2 r x) * v2 (ix2 j x)) k * v15 (ix2 k d) := by
  pointwise [k0_pay1]
  exact rfl
theorem out_at (x0 : Vec Ideal S1024x512 .bf16) (x1 x2 : Vec Ideal S256x512 .bf16) : out0_3 (F := Ideal) x0 x1 x2 = k0_pay1 x0 x1 x2 := by
  frame_out

variable (m : (ℓ : Loc nD τ sig) → Buf (Elt Ideal) ℓ) (c : Dev nD)

theorem idxs : ∀ t : Fin cfg0.N, win0_0.index t = ![t.val / 4, t.val % 4] ∧ win0_1.index t = ![0, t.val % 4] ∧ win0_2.index t = ![0, 4 + t.val % 4] ∧ win0_3.index t = ![t.val / 4, t.val % 4] := by decide +kernel

abbrev Q (m : (ℓ : Loc nD τ sig) → Buf (Elt Ideal) ℓ) (c : Dev nD) : S2048x2048.Idx → EReal := m (c, Proc.tc.devRef main_arg0)
abbrev KV (m : (ℓ : Loc nD τ sig) → Buf (Elt Ideal) ℓ) (c : Dev nD) : S256x4096.Idx → EReal := m (c, Proc.tc.devRef main_arg1)

theorem q_at (r d : Fin 2048) : (V m c main_v2 : S2048x2048.Idx → EReal) (ix2 r d) = ent (Q m c) r d * sc := by
  refine Eq.trans ?_ (congrArg (· * sc) (ent_eq _ (i := r) (j := d) rfl rfl))
  conv_lhs => simp only [V]
  after_results_simp
  pointwise
theorem kv_at (k : Fin 256) (d : Fin 4096) : (V m c main_v3 : S256x4096.Idx → EReal) (ix2 k d) = ent (KV m c) k d := by
  refine Eq.trans ?_ (ent_eq _ (i := k) (j := d) rfl rfl)
  conv_lhs => simp only [V]
  after_results_simp
  pointwise

theorem blk0 (t : Fin cfg0.N) (r : Fin 1024) (x : Fin 512) : (iblk m c 0 t : S1024x512.Idx → EReal) (ix2 r x)
    = ent (Q m c) (1024 * (t.val / 4) + r) (512 * (t.val % 4) + x) * sc := by
  have hi := (idxs t).1
  have ht : t.val < 8 := t.isLt
  have e : (iblk m c 0 t : S1024x512.Idx → EReal) (ix2 r x)
      = (V m c main_v2 : S2048x2048.Idx → EReal) (ix2 ⟨1024 * (t.val / 4) + r, by omega⟩ ⟨512 * (t.val % 4) + x, by omega⟩) := by
    blk_simp [iblk]
    blk_ext [hi]
  rw [e, q_at]
theorem blk1 (t : Fin cfg0.N) (k : Fin 256) (x : Fin 512) : (iblk m c 1 t : S256x512.Idx → EReal) (ix2 k x)
    = ent (KV m c) k (512 * (t.val % 4) + x) := by
  have hi := (idxs t).2.1
  have e : (iblk m c 1 t : S256x512.Idx → EReal) (ix2 k x) = (V m c main_v3 : S256x4096.Idx → EReal) (ix2 k ⟨512 * (t.val % 4) + x, by omega⟩) := by
    blk_simp [iblk]
    blk_ext [hi]
  rw [e, kv_at]
theorem blk2 (t : Fin cfg0.N) (k : Fin 256) (x : Fin 512) : (iblk m c 2 t : S256x512.Idx → EReal) (ix2 k x)
    = ent (KV m c) k (2048 + (512 * (t.val % 4) + x)) := by
  have hi := (idxs t).2.2.1
  have e : (iblk m c 2 t : S256x512.Idx → EReal) (ix2 k x) = (V m c main_v3 : S256x4096.Idx → EReal) (ix2 k ⟨2048 + (512 * (t.val % 4) + x), by omega⟩) := by
    blk_simp [iblk]
    blk_ext [hi]
  rw [e, kv_at]

def G (m : (ℓ : Loc nD τ sig) → Buf (Elt Ideal) ℓ) (c : Dev nD) : S2048x2048.Idx → EReal := fun y => mixed (Q m c) (KV m c) (y 0) (y 1)

theorem array : (dats m 0 c).arrAt 3 cfg0.N = (G m c : S2048x2048.Idx → EReal) := by
  refine (dats m 0 c).arrAt_eq_of_covers 3 (G m c) (by decide +kernel) fun t hf y => ?_
  have hi := (idxs t).2.2.2
  have ht : t.val < 8 := t.isLt
  blk_simp
  rw [after0_3, out_at]
  obtain ⟨r, d, rfl⟩ : ∃ (r : Fin 1024) (d : Fin 512), y = ix2 r d := ⟨y 0, y 1, (ix2_eta y).symm⟩
  refine (pay_at _ _ _ r d).trans ?_
  simp only [blk0, blk1, blk2]
  unfold G
  blk_simp [hi]
  rw [mixed, show (t.val % 4 * 512 + d.val) / 512 = t.val % 4 by omega, show t.val / 4 * 1024 + r.val = 1024 * (t.val / 4) + r by omega,
    show t.val % 4 * 512 + d.val = 512 * (t.val % 4) + d by omega]
  exact rfl

theorem value (a0 : FVec Ideal Cert.ReferenceXattnFwdIdeal.S2048x2048 .f32) (a1 : FVec Ideal Cert.ReferenceXattnFwdIdeal.S256x4096 .f32)
    (h0 : a0 = Q m c) (h1 : a1 = KV m c) : ref a0 a1 = G m c := by
  subst h0 h1
  refine funext fun i => ?_
  obtain ⟨r, d, rfl⟩ : ∃ (r : Fin 2048) (d : Fin 2048), i = ix2 r d := ⟨i 0, i 1, (ix2_eta i).symm⟩
  exact ref_at _ _ r d
end Fwd

end Cert.Proof.Xattn
-- ==== Proof.XattnRef.lean ====
/- The reference's gradients of the memory cross-attention, and the kernel's: the quotient rule's two terms make the softmax's derivative where the scores are real. -/
module

public import proofs.«01_k».proof.Proof.Xattn
public import proofs.«01_k».proof.Proof.XattnFwd
public import proofs.«01_k».proof.Proof.SbPre
public import proofs.«01_k».proof.Pre_finite_x
public import proofs.«01_k».proof.Proof.Gen.ReferenceXattnIdeal.Run

@[expose] public section

set_option maxRecDepth 16384

noncomputable section

namespace Cert.Proof.Xattn
open Idealize.ShloMosaic Idealize.ShloMosaic.TcCoe Idealize.SL.Sem Cert.Proof

theorem preFacts : Cert.Pre_finite_x.Facts where
  bcast_S_S2048x2048 := by decide
  reducesTo_S2048x2048_S_d0_1 := by decide
  h_S_ := by decide
  bcast_S_S256x4096 := by decide
  reducesTo_S256x4096_S_d0_1 := by decide

theorem reals_of_pre (q : FVec Ideal Cert.Pre_finite_x.S2048x2048 .f32) (kv : FVec Ideal Cert.Pre_finite_x.S256x4096 .f32) (d)
    (h : @Cert.Pre_finite_x.fn preFacts Ideal _ q kv d = fun _ => 1#1) : (∀ i, IsReal (q i)) ∧ ∀ i, IsReal (kv i) := by
  obtain ⟨hq, hk⟩ := Sb.andi_split (congrFun h ix0)
  exact ⟨fun i => isReal_coe (Sb.real_of_cmpf _ (Host.reduce_andi_all _ _ _ _ _ hq i)),
    fun i => isReal_coe (Sb.real_of_cmpf _ (Host.reduce_andi_all _ _ _ _ _ hk i))⟩

theorem isReal_sc : IsReal sc := by
  dsimp only [sc, Ideal.ofBits, Ideal.ieee]
  rw [if_neg (by decide), if_neg (by decide)]
  exact ⟨_, rfl⟩
theorem isReal_score {q : (⟨2, ![2048, 2048]⟩ : Shape).Idx → EReal} {kv : (⟨2, ![256, 4096]⟩ : Shape).Idx → EReal} (hq : ∀ i, IsReal (q i)) (hk : ∀ i, IsReal (kv i)) (h r : ℕ) (k : Fin 256) :
    IsReal (score q kv h r k) := by
  rw [score, show ∑ x : Fin 512, ent q r (512 * h + x) * sc * ent kv k (512 * h + x) = _ from dot_fin (fun x => ent q r (512 * h + x) * sc) (fun x => ent kv k (512 * h + x)) 512]
  exact isReal_dot (fun x => isReal_mul (isReal_ent hq _ _) isReal_sc) (fun x => isReal_ent hk _ _) 512

section Reference
open Cert.ReferenceXattnIdeal Cert.ReferenceXattnIdeal.Gen
variable (q : FVec Ideal S2048x2048 .f32) (kv : FVec Ideal S256x4096 .f32) (g : FVec Ideal S2048x2048 .f32)

/-- The scaled queries and the keys by heads, the gradient of the result by heads, and that of the shares. -/
def queries : FVec Ideal S2048x4x512 .f32 :=
  mulf (shapeCast _ q shapeCasts_S2048x2048_S2048x4x512) (broadcastInDim S2048x4x512 ![] bcast_S_S2048x4x512 (constant S_ .f32 0x3D3504F3#32))
def keys : FVec Ideal S256x4x512 .f32 :=
  shapeCast _ (extractStridedSlice S256x2048 ![0, 0] kv slices_S256x4096_S256x2048_0_0) shapeCasts_S256x2048_S256x4x512
def heads : FVec Ideal S4x512x2048 .f32 :=
  transpose S4x512x2048 [1, 2, 0] (shapeCast _ g shapeCasts_S2048x2048_S2048x4x512) transposes_S2048x4x512_S4x512x2048_1_2_0
def dshares : FVec Ideal S4x2048x256 .f32 :=
  Host.dotGeneral dot_S4x512x2048_S256x4x512_S4x2048x256_1_2_2_0_0_1 none (heads g) (Fwd.values kv)
/-- One over the totals' squares, and the sums of a gradient times it and the exponentials. -/
def squares (t : FVec Ideal S4x2048x1 .f32) : FVec Ideal S4x2048x1 .f32 :=
  Host.divf (broadcastInDim S4x2048x1 ![] bcast_S_S4x2048x1 (constant S_ .f32 0x3F800000#32)) (mulf t t)
def across (t : FVec Ideal S4x2048x1 .f32) : FVec Ideal S4x2048x256 .f32 :=
  broadcastInDim S4x2048x256 ![0, 1, 2] bcast_S4x2048x1_S4x2048x256_0_1_2 t
def sums (w : FVec Ideal S4x2048x256 .f32) : FVec Ideal S4x2048 .f32 :=
  Host.reduceAdd w (constant S_ .f32 0x00000000#32) reducesTo_S4x2048x256_S4x2048_d2 h_S_
def minus (w : FVec Ideal S4x2048 .f32) : FVec Ideal S4x2048x256 .f32 :=
  broadcastInDim S4x2048x256 ![0, 1] bcast_S4x2048_S4x2048x256_0_1 (Host.reduceAdd (Host.negf (shapeCast _ w shapeCasts_S4x2048_S4x2048x1)) (constant S_ .f32 0x00000000#32) reducesTo_S4x2048x1_S4x2048_d2 h_S_)
def grads (d e : FVec Ideal S4x2048x256 .f32) (t : FVec Ideal S4x2048x1 .f32) : FVec Ideal S4x2048x256 .f32 :=
  mulf (addf (Host.divf d (across t)) (minus (sums (mulf (mulf d (across (squares t))) e)))) e
def dscores : FVec Ideal S4x2048x256 .f32 :=
  grads (dshares kv g) (Fwd.exps (Fwd.scores q kv)) (Fwd.total (Fwd.exps (Fwd.scores q kv)))
def ref0 : FVec Ideal S2048x2048 .bf16 :=
  truncf .bf16 (shapeCast _ (mulf (transpose S2048x4x512 [1, 0, 2] (Host.dotGeneral dot_S4x2048x256_S256x4x512_S4x2048x512_2_0_1_2_0_1 none (dscores q kv g) (keys kv)) transposes_S4x2048x512_S2048x4x512_1_0_2) (broadcastInDim S2048x4x512 ![] bcast_S_S2048x4x512 (constant S_ .f32 0x3D3504F3#32))) shapeCasts_S2048x4x512_S2048x2048) bitsLt_bf16_f32
def dkeys : FVec Ideal S256x2048 .f32 :=
  shapeCast _ (transpose S256x4x512 [1, 0, 2] (Host.dotGeneral dot_S4x2048x256_S2048x4x512_S4x256x512_1_0_2_2_0_1 none (dscores q kv g) (queries q)) transposes_S4x256x512_S256x4x512_1_0_2) shapeCasts_S256x4x512_S256x2048
def dvalues : FVec Ideal S256x2048 .f32 :=
  shapeCast _ (transpose S256x4x512 [2, 0, 1] (Host.dotGeneral dot_S4x512x2048_S4x2048x256_S4x512x256_2_1_1_2_0_0 none (heads g) (Fwd.share (Fwd.exps (Fwd.scores q kv)))) transposes_S4x512x256_S256x4x512_2_0_1) shapeCasts_S256x4x512_S256x2048
def stacked (a b : FVec Ideal S256x2048 .f32) : FVec Ideal S2x256x2048 .f32 :=
  concatenate S2x256x2048 0 [⟨S1x256x2048, (broadcastInDim S1x256x2048 ![1, 2] bcast_S256x2048_S1x256x2048_1_2 (extractStridedSlice S256x2048 ![0, 0] (concatenate S256x4096 1 [⟨S256x2048, a⟩, ⟨S256x2048, b⟩] concatenates_S256x2048_S256x2048_S256x4096_d1) slices_S256x4096_S256x2048_0_0))⟩, ⟨S1x256x2048, (broadcastInDim S1x256x2048 ![1, 2] bcast_S256x2048_S1x256x2048_1_2 (extractStridedSlice S256x2048 ![0, 2048] (concatenate S256x4096 1 [⟨S256x2048, a⟩, ⟨S256x2048, b⟩] concatenates_S256x2048_S256x2048_S256x4096_d1) slices_S256x4096_S256x2048_0_2048))⟩] concatenates_S1x256x2048_S1x256x2048_S2x256x2048_d0
def ref1 : FVec Ideal S2x256x2048 .f32 := stacked (dkeys q kv g) (dvalues q kv g)

theorem queries_at (r : Fin 2048) (h : Fin 4) (x : Fin 512) : queries q (ix3 r h x) = ent q r (512 * h + x) * sc := by
  refine Eq.trans ?_ (congrArg (· * sc) (ent_eq q (i := r) (j := ⟨512 * h + x, by omega⟩) rfl rfl))
  pointwise [queries]
  exact congrArg (fun z => q (ix2 r z) * sc) (Fin.ext (by simp only; omega))
theorem keys_at (k : Fin 256) (h : Fin 4) (x : Fin 512) : keys kv (ix3 k h x) = ent kv k (512 * h + x) := by
  refine Eq.trans ?_ (ent_eq kv (i := k) (j := ⟨512 * h + x, by omega⟩) rfl rfl)
  pointwise [keys]
  exact congrArg (fun z => kv (ix2 k z)) (Fin.ext (by simp only; omega))
theorem heads_at (h : Fin 4) (x : Fin 512) (r : Fin 2048) : heads g (ix3 h x r) = ent g r (512 * h + x) := by
  refine Eq.trans ?_ (ent_eq g (i := r) (j := ⟨512 * h + x, by omega⟩) rfl rfl)
  pointwise [heads]
  exact congrArg (fun z => g (ix2 r z)) (Fin.ext (by simp only; omega))
theorem dshares_at (h : Fin 4) (r : Fin 2048) (k : Fin 256) : dshares kv g (ix3 h r k) = dshare kv g h r k := by
  have e : dshares kv g (ix3 h r k) = ∑ x : Fin 512, heads g (ix3 h x r) * Fwd.values kv (ix3 k h x) := by
    pointwise [dshares]
  rw [e]
  exact Finset.sum_congr rfl fun x _ => congrArg₂ _ (heads_at g h x r) (Fwd.values_at kv k h x)
theorem squares_at (t : FVec Ideal S4x2048x1 .f32) (h : Fin 4) (r : Fin 2048) (k : Fin 1) : squares t (ix3 h r k) = Ideal.div 1 (t (ix3 h r k) * t (ix3 h r k)) := by
  pointwise [squares]
theorem across_at (t : FVec Ideal S4x2048x1 .f32) (h : Fin 4) (r : Fin 2048) (k : Fin 256) : across t (ix3 h r k) = t (ix3 h r 0) := by
  pointwise [across]
theorem sums_at (w : FVec Ideal S4x2048x256 .f32) (h : Fin 4) (r : Fin 2048) : sums w (ix2 h r) = ∑ k : Fin 256, w (ix3 h r k) := by
  pointwise [sums]
theorem minus_at (w : FVec Ideal S4x2048 .f32) (h : Fin 4) (r : Fin 2048) (k : Fin 256) : minus w (ix3 h r k) = -w (ix2 h r) := by
  pointwise [minus]
  exact Fin.sum_univ_one _
theorem grads_at (d e : FVec Ideal S4x2048x256 .f32) (t : FVec Ideal S4x2048x1 .f32) (h : Fin 4) (r : Fin 2048) (k : Fin 256) :
    grads d e t (ix3 h r k) = (Ideal.div (d (ix3 h r k)) (t (ix3 h r 0)) + -∑ j : Fin 256, d (ix3 h r j) * Ideal.div 1 (t (ix3 h r 0) * t (ix3 h r 0)) * e (ix3 h r j)) * e (ix3 h r k) := by
  have e1 : grads d e t (ix3 h r k) = (Ideal.div (d (ix3 h r k)) (across t (ix3 h r k)) + minus (sums (mulf (mulf d (across (squares t))) e)) (ix3 h r k)) * e (ix3 h r k) := rfl
  have e2 (j : Fin 256) : mulf (F := Ideal) (mulf d (across (squares t))) e (ix3 h r j) = d (ix3 h r j) * across (squares t) (ix3 h r j) * e (ix3 h r j) := rfl
  rw [e1, minus_at, sums_at, across_at]
  simp only [e2, across_at, squares_at]
theorem dscores_at (hq : ∀ i, IsReal (q i)) (hk : ∀ i, IsReal (kv i)) (h : Fin 4) (r : Fin 2048) (k : Fin 256) : dscores q kv g (ix3 h r k) = dscore q kv g h r k := by
  refine Eq.trans ?_ (ds_eq (isReal_score hq hk h r) (dshare kv g h r) k)
  rw [dscores, grads_at]
  simp only [Fwd.total_at, Fwd.exps_at, Fwd.scores_at, dshares_at]
theorem ref0_at (hq : ∀ i, IsReal (q i)) (hk : ∀ i, IsReal (kv i)) (r d : Fin 2048) : ref0 q kv g (ix2 r d) = dq q kv g r d := by
  have e : ref0 q kv g (ix2 r d) = (∑ k : Fin 256, dscores q kv g (ix3 ⟨d.val / 512, by omega⟩ r k) * keys kv (ix3 k ⟨d.val / 512, by omega⟩ ⟨d.val % 512, by omega⟩)) * sc := by
    pointwise [ref0]
  rw [e]
  refine congrArg (· * sc) (Finset.sum_congr rfl fun k _ => ?_)
  rw [dscores_at q kv g hq hk, keys_at]
  simp only [show 512 * (d.val / 512) + d.val % 512 = d.val by omega]
theorem dkeys_at (hq : ∀ i, IsReal (q i)) (hk : ∀ i, IsReal (kv i)) (k : Fin 256) (d : Fin 2048) : dkeys q kv g (ix2 k d) = dkv q kv g 0 k d 2048 := by
  have e : dkeys q kv g (ix2 k d) = ∑ r : Fin 2048, dscores q kv g (ix3 ⟨d.val / 512, by omega⟩ r k) * queries q (ix3 r ⟨d.val / 512, by omega⟩ ⟨d.val % 512, by omega⟩) := by
    pointwise [dkeys]
  rw [e, dkv, if_pos rfl]
  refine Eq.trans (Finset.sum_congr rfl fun r _ => ?_) (dot_fin _ _ _)
  rw [dscores_at q kv g hq hk, queries_at]
  simp only [show 512 * (d.val / 512) + d.val % 512 = d.val by omega]
theorem dvalues_at (k : Fin 256) (d : Fin 2048) : dvalues q kv g (ix2 k d) = dkv q kv g 1 k d 2048 := by
  have e : dvalues q kv g (ix2 k d) = ∑ r : Fin 2048, heads g (ix3 ⟨d.val / 512, by omega⟩ ⟨d.val % 512, by omega⟩ r) * Fwd.share (Fwd.exps (Fwd.scores q kv)) (ix3 ⟨d.val / 512, by omega⟩ r k) := by
    pointwise [dvalues]
  rw [e, dkv, if_neg (by decide)]
  refine Eq.trans (Finset.sum_congr rfl fun r _ => ?_) (dot_fin _ _ _)
  rw [heads_at, Fwd.share_at, mul_comm]
  simp only [Fwd.exps_at, Fwd.scores_at, prob, show 512 * (d.val / 512) + d.val % 512 = d.val by omega]
theorem stacked_at (a b : FVec Ideal S256x2048 .f32) (i : Fin 2) (k : Fin 256) (d : Fin 2048) : stacked a b (ix3 i k d) = if i = 0 then a (ix2 k d) else b (ix2 k d) := by
  by_cases h0 : i = 0
  · subst h0
    rw [if_pos rfl]
    pointwise [stacked]
  · obtain rfl : i = 1 := by omega
    rw [if_neg h0]
    pointwise [stacked]
theorem ref1_at (hq : ∀ i, IsReal (q i)) (hk : ∀ i, IsReal (kv i)) (i : Fin 2) (k : Fin 256) (d : Fin 2048) : ref1 q kv g (ix3 i k d) = dkv q kv g i k d 2048 := by
  rw [ref1, stacked_at]
  by_cases h0 : i = 0
  · subst h0
    rw [if_pos rfl, dkeys_at q kv g hq hk]
  · obtain rfl : i = 1 := by omega
    rw [if_neg h0, dvalues_at]
end Reference

section Value
open Cert.KernelXattnIdeal
variable (m : (ℓ : Loc nD τ sig) → Buf (Elt Ideal) ℓ) (c : Dev nD)
  (a0 : FVec Ideal Cert.ReferenceXattnIdeal.S2048x2048 .f32) (a1 : FVec Ideal Cert.ReferenceXattnIdeal.S256x4096 .f32) (a2 : FVec Ideal Cert.ReferenceXattnIdeal.S2048x2048 .f32)
  (h0 : a0 = Q m c) (h1 : a1 = KV m c) (h2 : a2 = D m c) (hq : ∀ i, IsReal (Q m c i)) (hk : ∀ i, IsReal (KV m c i))
include h0 h1 h2 hq hk
theorem value4 : ref0 a0 a1 a2 = G4 m c := by
  subst h0 h1 h2
  refine funext fun i => ?_
  obtain ⟨r, d, rfl⟩ : ∃ (r : Fin 2048) (d : Fin 2048), i = ix2 r d := ⟨i 0, i 1, (ix2_eta i).symm⟩
  exact ref0_at _ _ _ hq hk r d
theorem value5 : ref1 a0 a1 a2 = G5 m c := by
  subst h0 h1 h2
  refine funext fun i => ?_
  obtain ⟨a, k, d, rfl⟩ : ∃ (a : Fin 2) (k : Fin 256) (d : Fin 2048), i = ix3 a k d := ⟨i 0, i 1, i 2, (ix3_eta i).symm⟩
  exact ref1_at _ _ _ hq hk a k d
end Value

/-! The reference's run ends in these terms. -/

section Terms
open Cert.ReferenceXattnIdeal
variable (m : (ℓ : Loc nD τ sig) → Buf (Elt Ideal) ℓ) (c : Dev nD)
theorem term0 : Cert.ReferenceXattnIdeal.Value.res_main_v66 m c = ref0 (m (c, Proc.tc.devRef main_arg0)) (m (c, Proc.tc.devRef main_arg1)) (m (c, Proc.tc.devRef main_arg2)) := rfl
theorem term1 : Cert.ReferenceXattnIdeal.Value.res_main_v71 m c = ref1 (m (c, Proc.tc.devRef main_arg0)) (m (c, Proc.tc.devRef main_arg1)) (m (c, Proc.tc.devRef main_arg2)) := rfl
end Terms

end Cert.Proof.Xattn
-- ==== Proof.SbFwdMath.lean ====
/- The stick-breaking attention's forward sums, taken over key tiles from the last to the first. -/
module

public import proofs.«01_k».proof.Proof.SbMath
public import Idealize.ShloMosaic.Lib.Pointwise

@[expose] public section

noncomputable section

namespace Cert.Proof.Sb
open Finset
open Idealize.ShloMosaic

section Head
variable (Q K V : ℕ → ℕ → ℝ)

/-- The keys from `n` on, weighted: what the result of row `t` holds before the keys below `n`. -/
def ys (n t d : ℕ) : ℝ := (∑ j ∈ range 2048, wt Q K t j * V j d) - ∑ j ∈ range n, wt Q K t j * V j d

theorem ys_add (n b t d : ℕ) : ys Q K V (n + b) t d + ∑ c ∈ range b, wt Q K t (n + c) * V (n + c) d = ys Q K V n t d := by
  rw [ys, ys, sum_range_add]; ring
theorem left_back (n b t : ℕ) : left Q K (n + b) t + ∑ c ∈ range b, lkeep Q K t (n + c) = left Q K n t := by
  rw [← left_add]; ring
theorem ys_zero (t d : ℕ) : ys Q K V 0 t d = ∑ j ∈ range 2048, wt Q K t j * V j d := by simp [ys]

/-- Nothing lies past the row itself. -/
theorem ys_nil {n t : ℕ} (d : ℕ) (h : t ≤ n) (hn : n ≤ 2048) : ys Q K V n t d = 0 := by
  obtain ⟨b, e⟩ := Nat.exists_eq_add_of_le hn
  rw [ys, e, sum_range_add, add_sub_cancel_left]
  exact sum_eq_zero fun c _ => by rw [wt_zero Q K (by omega), zero_mul]
theorem left_nil {n t : ℕ} (h : t ≤ n) (hn : n ≤ 2048) : left Q K n t = 0 := by
  obtain ⟨b, e⟩ := Nat.exists_eq_add_of_le hn
  rw [left, total, e, sum_range_add, add_sub_cancel_left]
  exact sum_eq_zero fun c _ => lkeep_zero Q K (by omega)

theorem coe_suffix {n : ℕ} (f : ℕ → ℝ) (c : Fin n) :
    ∑ x : Fin n, (f x : EReal) * (((if (c : ℕ) < x then 1 else 0 : ℝ)) : EReal) = ((∑ x ∈ range n, f x - ∑ x ∈ range (c + 1), f x : ℝ) : EReal) := by
  rw [coe_dot_fin f fun x => if (c : ℕ) < x then 1 else 0]
  refine congrArg _ ?_
  have hc : c.val < n := c.isLt
  generalize c.val = a at hc ⊢
  obtain ⟨b, rfl⟩ := Nat.exists_eq_add_of_le (show a + 1 ≤ n from hc)
  rw [sum_range_add (fun x => f x * if a < x then 1 else 0) (a + 1) b, sum_range_add f (a + 1) b, add_sub_cancel_left, sum_eq_zero, zero_add]
  · exact sum_congr rfl fun x _ => by rw [if_pos (by omega), mul_one]
  · intro x hx
    rw [mem_range] at hx
    rw [if_neg (by omega), mul_zero]

/-- A weight from what lies after its key: in the tile, and past it. -/
theorem wt_after (n t : ℕ) (c : Fin 128) :
    Ideal.exp ((lbeta Q K t (n + c) : EReal) + ((∑ x : Fin 128, (lkeep Q K t (n + x) : EReal) * (((if (c : ℕ) < x then 1 else 0 : ℝ)) : EReal)
        + ∑ x : Fin 128, ((lkeep Q K t (n + x) : EReal) - (lkeep Q K t (n + x) : EReal)) * (((if (c : ℕ) < x then 1 else 0 : ℝ)) : EReal))
      + (left Q K (n + 128) t : EReal)))
    = ((Real.exp (lbeta Q K t (n + c) + left Q K (n + c + 1) t) : ℝ) : EReal) := by
  have h0 : ∀ x : Fin 128, ((lkeep Q K t (n + x) : EReal) - (lkeep Q K t (n + x) : EReal)) * (((if (c : ℕ) < x then 1 else 0 : ℝ)) : EReal) = 0 := by
    intro x; rw [← EReal.coe_sub, sub_self, EReal.coe_zero, zero_mul]
  rw [coe_suffix (fun x => lkeep Q K t (n + x)) c, Finset.sum_eq_zero fun x _ => h0 x, add_zero, ← EReal.coe_add, ← EReal.coe_add, Ideal.exp_coe,
    ← left_add Q K n 128 t, add_assoc n c.val 1, ← left_add Q K n (c.val + 1) t]
  congr 3
  ring
theorem left_after (n t : ℕ) : (left Q K (n + 128) t : EReal) + ∑ x : Fin 128, (lkeep Q K t (n + x) : EReal) = ((left Q K n t : ℝ) : EReal) := by
  rw [coe_sum_fin (fun x => lkeep Q K t (n + x)), ← EReal.coe_add, left_back]
theorem ys_after (n t d : ℕ) :
    (ys Q K V (n + 128) t d : EReal) + ∑ x : Fin 128, (wt Q K t (n + x) : EReal) * (V (n + x) d : EReal) = ((ys Q K V n t d : ℝ) : EReal) := by
  rw [coe_dot_fin (fun x => wt Q K t (n + x)) (fun x => V (n + x) d), ← EReal.coe_add, ys_add]

end Head

end Cert.Proof.Sb
-- ==== Proof.SbFwdPay.lean ====
/- The forward kernel body's vector expressions over real-valued operands. -/
module

public import proofs.«01_k».proof.Proof.Gen.KernelSbFwdIdeal.Skeleton
public import proofs.«01_k».proof.Proof.SbFwdMath
public import proofs.«01_k».proof.Proof.SbPay

@[expose] public section

set_option maxRecDepth 16384

noncomputable section

namespace Cert.Proof.SbFwd
open Idealize.ShloMosaic Idealize.ShloMosaic.TcCoe Idealize.SL.Sem
open Cert.KernelSbFwdIdeal Cert.KernelSbFwdIdeal.Gen Cert.Proof.Sb

/-- The matrix that sums what lies after a key within a tile. -/
theorem after_at (r c : Fin 128) : k0_pay49 (F := Ideal) (ix2 r c) = (((if (c : ℕ) < r then 1 else 0 : ℝ)) : EReal) := by
  pointwise [k0_pay49]
  have hr := r.isLt; have hc := c.isLt
  show ((((IntOp.cmpi .sgt (BitVec.ofNat 32 r) (BitVec.ofNat 32 c)).setWidth 32).toInt : ℝ) : EReal) = _
  have h : (BitVec.ofNat 32 (c : ℕ)).slt (BitVec.ofNat 32 (r : ℕ)) = decide ((c : ℕ) < r) := by
    rw [BitVec.slt_eq_decide, BitVec.toInt_eq_toNat_of_lt, BitVec.toInt_eq_toNat_of_lt] <;>
      simp only [BitVec.toNat_ofNat] <;> first | omega | (congr 1; apply propext; omega)
  simp only [IntOp.cmpi, h]
  by_cases hh : (c : ℕ) < r <;> simp [hh]

section Core
variable (Q K V : ℕ → ℕ → ℝ)

theorem wt_before {n t : ℕ} (h : n + 128 ≤ t) (c : Fin 128) :
    Ideal.exp ((lbeta Q K t (n + c) : EReal) + ((∑ x : Fin 128, (lkeep Q K t (n + x) : EReal) * (((if (c : ℕ) < x then 1 else 0 : ℝ)) : EReal)
        + ∑ x : Fin 128, ((lkeep Q K t (n + x) : EReal) - (lkeep Q K t (n + x) : EReal)) * (((if (c : ℕ) < x then 1 else 0 : ℝ)) : EReal))
      + (left Q K (n + 128) t : EReal))) = (wt Q K t (n + c) : EReal) := by
  rw [wt_after, wt, if_pos (by omega)]
theorem wt_masked (n r : ℕ) (c : Fin 128) (v : ℝ) :
    Scalar.select (if (c : ℕ) < r then 1#1 else 0#1) (Ideal.exp ((lbeta Q K (n + r) (n + c) : EReal) + ((∑ x : Fin 128, (lkeep Q K (n + r) (n + x) : EReal) * (((if (c : ℕ) < x then 1 else 0 : ℝ)) : EReal)
        + ∑ x : Fin 128, ((lkeep Q K (n + r) (n + x) : EReal) - (lkeep Q K (n + r) (n + x) : EReal)) * (((if (c : ℕ) < x then 1 else 0 : ℝ)) : EReal))
      + (left Q K (n + 128) (n + r) : EReal))) * (v : EReal)) 0 = (wt Q K (n + r) (n + c) : EReal) * (v : EReal) := by
  rw [wt_after, select_mask, wt]
  by_cases h : (c : ℕ) < r
  · rw [if_pos h, if_pos (by omega)]
  · rw [if_neg h, if_neg (by omega), EReal.coe_zero, zero_mul]
theorem keep_masked (n r : ℕ) (c : Fin 128) :
    Scalar.select (if (c : ℕ) < r then 1#1 else 0#1) ((lbeta Q K (n + r) (n + c) : EReal) - (score Q K (n + r) (n + c) : EReal)) 0
      = (lkeep Q K (n + r) (n + c) : EReal) := by
  rw [← EReal.coe_sub, select_mask, lkeep]
  by_cases h : (c : ℕ) < r
  · rw [if_pos h, if_pos (by omega)]
  · rw [if_neg h, if_neg (by omega), EReal.coe_zero]
end Core

/-! ## A step over 128 keys that lie before every row: the four of a trip

`t0` is the block's first row, `n` the step's first key. -/

section Trip
variable {Q K V : ℕ → ℕ → ℝ} {t0 n : ℕ} {v3 : FVec Ideal S512x128 .bf16} {acc : FVec Ideal S512x128 .f32} {lt : FVec Ideal S512x1 .f32}
  {kb vb : Vec Ideal S128x128 .f32} {kh vh : FVec Ideal S128x128 .bf16}
  (hq : ∀ r d, v3 (ix2 r d) = (Q (t0 + r) d : EReal)) (hk : ∀ c d, kb (ix2 c d) = (K (n + c) d : EReal))
  (hv : ∀ c d, vb (ix2 c d) = (V (n + c) d : EReal)) (hn : n + 128 ≤ t0)
  (ha : ∀ r d, acc (ix2 r d) = (ys Q K V (n + 128) (t0 + r) d : EReal)) (hl : ∀ r z, lt (ix2 r z) = (left Q K (n + 128) (t0 + r) : EReal))

include hq hk in
theorem pay10_at (r : Fin 512) (c : Fin 128) : k0_pay10 v3 kb (ix2 r c) = (score Q K (t0 + r) (n + c) : EReal) := by
  pointwise [k0_pay10]
  simp only [hq, hk]; exact score_core Q K _ _
include hq hk in
theorem pay11_at (r : Fin 512) (c : Fin 128) : k0_pay11 v3 kb (ix2 r c) = (lbeta Q K (t0 + r) (n + c) : EReal) := by
  pointwise [k0_pay11]
  rw [pay10_at hq hk]; exact logSig_coe _
include hq hk hn in
theorem pay12_at (r : Fin 512) (c : Fin 128) : k0_pay12 v3 kb (ix2 r c) = (lkeep Q K (t0 + r) (n + c) : EReal) := by
  pointwise [k0_pay12]
  rw [pay10_at hq hk, pay11_at hq hk, ← EReal.coe_sub, lkeep, if_pos (by omega)]
include hq hk hv hn ha hl in
theorem pay13_at (r : Fin 512) (d : Fin 128) : k0_pay13 v3 k0_pay49 acc lt kb vb (ix2 r d) = (ys Q K V n (t0 + r) d : EReal) := by
  pointwise [k0_pay13]
  simp only [pay11_at hq hk, pay12_at hq hk hn, hl, ha, hv, after_at]
  simp only [wt_before Q K (show n + 128 ≤ t0 + r.val by omega)]
  exact ys_after Q K V _ _ _
include hq hk hn hl in
theorem pay14_at (r : Fin 512) (z : Fin 1) : k0_pay14 v3 lt kb (ix2 r z) = (left Q K n (t0 + r) : EReal) := by
  pointwise [k0_pay14]
  simp only [hl, pay12_at hq hk hn]; exact left_after Q K _ _
include hq hk in
theorem pay15_at (r : Fin 512) (c : Fin 128) : k0_pay15 v3 kb (ix2 r c) = (score Q K (t0 + r) (n + c) : EReal) := by
  pointwise [k0_pay15]
  simp only [hq, hk]; exact score_core Q K _ _
include hq hk in
theorem pay16_at (r : Fin 512) (c : Fin 128) : k0_pay16 v3 kb (ix2 r c) = (lbeta Q K (t0 + r) (n + c) : EReal) := by
  pointwise [k0_pay16]
  rw [pay15_at hq hk]; exact logSig_coe _
include hq hk hn in
theorem pay17_at (r : Fin 512) (c : Fin 128) : k0_pay17 v3 kb (ix2 r c) = (lkeep Q K (t0 + r) (n + c) : EReal) := by
  pointwise [k0_pay17]
  rw [pay15_at hq hk, pay16_at hq hk, ← EReal.coe_sub, lkeep, if_pos (by omega)]
include hq hk hv hn ha hl in
theorem pay18_at (r : Fin 512) (d : Fin 128) : k0_pay18 v3 k0_pay49 acc lt kb vb (ix2 r d) = (ys Q K V n (t0 + r) d : EReal) := by
  pointwise [k0_pay18]
  simp only [pay16_at hq hk, pay17_at hq hk hn, hl, ha, hv, after_at]
  simp only [wt_before Q K (show n + 128 ≤ t0 + r.val by omega)]
  exact ys_after Q K V _ _ _
include hq hk hn hl in
theorem pay19_at (r : Fin 512) (z : Fin 1) : k0_pay19 v3 lt kb (ix2 r z) = (left Q K n (t0 + r) : EReal) := by
  pointwise [k0_pay19]
  simp only [hl, pay17_at hq hk hn]; exact left_after Q K _ _
include hq hk in
theorem pay21_at (r : Fin 512) (c : Fin 128) : k0_pay21 v3 (k0_pay20 kb) (ix2 r c) = (score Q K (t0 + r) (n + c) : EReal) := by
  pointwise [k0_pay21, k0_pay20]
  simp only [hq, hk]; exact score_core Q K _ _
include hq hk in
theorem pay22_at (r : Fin 512) (c : Fin 128) : k0_pay22 v3 (k0_pay20 kb) (ix2 r c) = (lbeta Q K (t0 + r) (n + c) : EReal) := by
  pointwise [k0_pay22]
  rw [pay21_at hq hk]; exact logSig_coe _
include hq hk hn in
theorem pay23_at (r : Fin 512) (c : Fin 128) : k0_pay23 v3 (k0_pay20 kb) (ix2 r c) = (lkeep Q K (t0 + r) (n + c) : EReal) := by
  pointwise [k0_pay23]
  rw [pay21_at hq hk, pay22_at hq hk, ← EReal.coe_sub, lkeep, if_pos (by omega)]
include hq hk hv hn ha hl in
theorem pay24_at (r : Fin 512) (d : Fin 128) : k0_pay24 v3 k0_pay49 acc lt (k0_pay20 kb) vb (ix2 r d) = (ys Q K V n (t0 + r) d : EReal) := by
  pointwise [k0_pay24]
  simp only [pay22_at hq hk, pay23_at hq hk hn, hl, ha, hv, after_at]
  simp only [wt_before Q K (show n + 128 ≤ t0 + r.val by omega)]
  exact ys_after Q K V _ _ _
include hq hk hn hl in
theorem pay25_at (r : Fin 512) (z : Fin 1) : k0_pay25 v3 lt (k0_pay20 kb) (ix2 r z) = (left Q K n (t0 + r) : EReal) := by
  pointwise [k0_pay25]
  simp only [hl, pay23_at hq hk hn]; exact left_after Q K _ _
include hq hk in
theorem pay27_at (r : Fin 512) (c : Fin 128) : k0_pay27 v3 kb (ix2 r c) = (score Q K (t0 + r) (n + c) : EReal) := by
  pointwise [k0_pay27]
  simp only [hq, hk]; exact score_core Q K _ _
include hq hk in
theorem pay1_at (r : Fin 512) (c : Fin 128) : k0_pay1 (k0_pay27 v3 kb) (k0_pay28 v3 kb) (ix2 r c) = (lbeta Q K (t0 + r) (n + c) : EReal) := by
  pointwise [k0_pay1, k0_pay28]
  rw [pay27_at hq hk]; exact logSig_coe _
include hq hk hn in
theorem pay2_at (r : Fin 512) (c : Fin 128) : k0_pay2 (k0_pay27 v3 kb) (k0_pay28 v3 kb) (ix2 r c) = (lkeep Q K (t0 + r) (n + c) : EReal) := by
  pointwise [k0_pay2]
  rw [pay27_at hq hk, pay1_at hq hk, ← EReal.coe_sub, lkeep, if_pos (by omega)]
include hq hk hv hn ha hl in
theorem pay3_at (r : Fin 512) (d : Fin 128) : k0_pay3 k0_pay49 acc lt (k0_pay26 vb) (k0_pay27 v3 kb) (k0_pay28 v3 kb) (ix2 r d) = (ys Q K V n (t0 + r) d : EReal) := by
  pointwise [k0_pay3, k0_pay26]
  simp only [pay1_at hq hk, pay2_at hq hk hn, hl, ha, hv, after_at]
  simp only [wt_before Q K (show n + 128 ≤ t0 + r.val by omega)]
  exact ys_after Q K V _ _ _
include hq hk hn hl in
theorem pay4_at (r : Fin 512) (z : Fin 1) : k0_pay4 lt (k0_pay27 v3 kb) (k0_pay28 v3 kb) (ix2 r z) = (left Q K n (t0 + r) : EReal) := by
  pointwise [k0_pay4]
  simp only [hl, pay2_at hq hk hn]; exact left_after Q K _ _
end Trip

/-! ## A step on the diagonal: the rows from `n` on against the keys from `n` on, masked by `key < row` -/

theorem mask_word {a b d : ℕ} (ha : a < 128) (hb : b < 512) (hd : d < 512) :
    IntOp.cmpi .slt (BitVec.ofNat 32 a - BitVec.ofNat 32 (d + b)) (BitVec.ofInt 32 (-(d : ℤ))) = if a < b then 1#1 else 0#1 := by
  show BitVec.ofBool ((BitVec.ofNat 32 a - BitVec.ofNat 32 (d + b)).slt (BitVec.ofInt 32 (-(d : ℤ)))) = _
  have hi : (BitVec.ofInt 32 (-(d : ℤ))).toInt = -(d : ℤ) := by
    rw [BitVec.toInt_ofInt]; simp only [Int.bmod]; omega
  rw [BitVec.slt_eq_decide, toInt_sub_ofNat (by omega) (by omega), hi]
  by_cases h : a < b
  · rw [if_pos h, decide_eq_true (by push_cast; omega)]; rfl
  · rw [if_neg h, decide_eq_false (by push_cast; omega)]; rfl

theorem mask3_at (i : grid0.Coords) (r : Fin 128) (c : Fin 128) :
    k0_pay56 i (ix2 r c) = if (c : ℕ) < r then 1#1 else 0#1 := by
  have hi : (i 1).val < 4 := (i 1).isLt
  pointwise [k0_pay56, k0_pay50]
  have hz : Scalar.subi (Scalar.muli (BitVec.ofNat 32 (i 1).val) 512#32) (Scalar.muli (Scalar.addi (Scalar.muli (BitVec.ofNat 32 (i 1).val) 4#32) 3#32) 128#32) = BitVec.ofInt 32 (-384) := by
    generalize (i 1).val = a at hi; interval_cases a <;> decide
  rw [hz]
  have hr := r.isLt
  exact mask_word (d := 384) c.isLt (by omega) (by omega)

section Diag3
variable {Q K V : ℕ → ℕ → ℝ} {t0 n : ℕ} {v0 : Vec Ideal S512x128 .f32} {acc : FVec Ideal S512x128 .f32} {lt : FVec Ideal S512x1 .f32}
  {ac : FVec Ideal S128x128 .f32} {lc : FVec Ideal S128x1 .f32} {mk : IVec S128x128 1} {kb vb : Vec Ideal S128x128 .f32}
  (e : n = t0 + 384) (hq : ∀ r d, k0_pay48 v0 (ix2 r d) = (Q (t0 + r) d : EReal)) (hk : ∀ c d, kb (ix2 c d) = (K (n + c) d : EReal))
  (hv : ∀ c d, vb (ix2 c d) = (V (n + c) d : EReal)) (hn : n + 128 ≤ 2048)
  (hm : ∀ r c : Fin 128, mk (ix2 r c) = if (c : ℕ) < r then 1#1 else 0#1)
  (ha : ∀ r d, acc (ix2 r d) = (ys Q K V (n + 128) (t0 + r) d : EReal)) (hl : ∀ r z, lt (ix2 r z) = (left Q K (n + 128) (t0 + r) : EReal))
  (hac : ∀ r d, ac (ix2 r d) = (ys Q K V (n + 128) (n + r) d : EReal)) (hlc : ∀ r z, lc (ix2 r z) = (left Q K (n + 128) (n + r) : EReal))

include e hq hk in
theorem pay57_at (r : Fin 128) (c : Fin 128) : k0_pay57 v0 kb (ix2 r c) = (score Q K (n + r) (n + c) : EReal) := by
  pointwise [k0_pay57]
  simp only [hq, hk, ← Nat.add_assoc, ← e]; exact score_core Q K _ _
include e hq hk in
theorem pay60_at (r : Fin 128) (c : Fin 128) : k0_pay60 (k0_pay58 v0 kb) (k0_pay59 v0 kb) (ix2 r c) = (lbeta Q K (n + r) (n + c) : EReal) := by
  pointwise [k0_pay60, k0_pay58, k0_pay59]
  rw [pay57_at e hq hk]; exact logSig_coe _
include e hq hk hm in
theorem pay61_at (r : Fin 128) (c : Fin 128) :
    k0_pay61 mk (k0_pay57 v0 kb) (k0_pay58 v0 kb) (k0_pay59 v0 kb) (ix2 r c) = (lkeep Q K (n + r) (n + c) : EReal) := by
  pointwise [k0_pay61]
  rw [hm, pay57_at e hq hk, pay60_at e hq hk]; exact keep_masked Q K _ _ _
include e hq hk hv hn hm ha hac hlc in
theorem pay62_at (r : Fin 512) (d : Fin 128) :
    k0_pay62 k0_pay49 acc ac lc (k0_pay55 vb) mk (k0_pay57 v0 kb) (k0_pay58 v0 kb) (k0_pay59 v0 kb) (ix2 r d) = (ys Q K V n (t0 + r) d : EReal) := by
  pointwise [k0_pay62, k0_pay55]
  by_cases hr : r.val < 384
  · rw [dif_pos (by omega), ha]
    rw [ys_nil Q K V d (by show t0 + r.val ≤ _; omega) hn, ys_nil Q K V d (by omega) (by omega)]
  · refine (dif_neg (by omega)).trans ?_
    simp only [hm, pay60_at e hq hk, pay61_at e hq hk hm, hac, hlc, hv, after_at]
    simp only [wt_masked Q K n]
    refine (ys_after Q K V n _ _).trans ?_
    congr 2; show n + (r.val - 384) = _; omega
include e hq hk hn hm hl hlc in
theorem pay63_at (r : Fin 512) (z : Fin 1) :
    k0_pay63 lt lc mk (k0_pay57 v0 kb) (k0_pay58 v0 kb) (k0_pay59 v0 kb) (ix2 r z) = (left Q K n (t0 + r) : EReal) := by
  pointwise [k0_pay63]
  by_cases hr : r.val < 384
  · rw [dif_pos (by omega), hl]
    rw [left_nil Q K (by show t0 + r.val ≤ _; omega) hn, left_nil Q K (by omega) (by omega)]
  · refine (dif_neg (by omega)).trans ?_
    simp only [pay61_at e hq hk hm, hlc]
    refine (left_after Q K n _).trans ?_
    congr 2; show n + (r.val - 384) = _; omega
end Diag3

theorem mask2_at {a : ℕ} (hi : a < 4) (r : Fin 256) (c : Fin 128) :
    k0_pay67 (BitVec.ofNat 32 a) k0_pay50 (ix2 r c) = if (c : ℕ) < r then 1#1 else 0#1 := by
  pointwise [k0_pay67, k0_pay50]
  have hz : Scalar.subi (Scalar.muli (BitVec.ofNat 32 a) 512#32) (Scalar.muli (Scalar.addi (Scalar.muli (BitVec.ofNat 32 a) 4#32) 2#32) 128#32) = BitVec.ofInt 32 (-256) := by
    interval_cases a <;> decide
  rw [hz]
  have hr := r.isLt
  exact mask_word (d := 256) c.isLt (by omega) (by omega)

section Diag2
variable {Q K V : ℕ → ℕ → ℝ} {t0 n : ℕ} {v3 : FVec Ideal S512x128 .bf16} {acc : FVec Ideal S512x128 .f32} {lt : FVec Ideal S512x1 .f32}
  {ac : FVec Ideal S256x128 .f32} {lc : FVec Ideal S256x1 .f32} {mk : IVec S256x128 1} {o : Ideal .f32} {kb vb : Vec Ideal S128x128 .f32}
  (ho : o = (0 : EReal)) (e : n = t0 + 256) (hq : ∀ r d, v3 (ix2 r d) = (Q (t0 + r) d : EReal)) (hk : ∀ c d, kb (ix2 c d) = (K (n + c) d : EReal))
  (hv : ∀ c d, vb (ix2 c d) = (V (n + c) d : EReal)) (hn : n + 128 ≤ 2048)
  (hm : ∀ (r : Fin 256) (c : Fin 128), mk (ix2 r c) = if (c : ℕ) < r then 1#1 else 0#1)
  (ha : ∀ r d, acc (ix2 r d) = (ys Q K V (n + 128) (t0 + r) d : EReal)) (hl : ∀ r z, lt (ix2 r z) = (left Q K (n + 128) (t0 + r) : EReal))
  (hac : ∀ r d, ac (ix2 r d) = (ys Q K V (n + 128) (n + r) d : EReal)) (hlc : ∀ r z, lc (ix2 r z) = (left Q K (n + 128) (n + r) : EReal))

include e hq hk in
theorem pay68_at (r : Fin 256) (c : Fin 128) : k0_pay68 v3 kb (ix2 r c) = (score Q K (n + r) (n + c) : EReal) := by
  pointwise [k0_pay68]
  simp only [hq, hk, ← Nat.add_assoc, ← e]; exact score_core Q K _ _
include ho e hq hk in
theorem pay69_at (r : Fin 256) (c : Fin 128) : k0_pay69 (k0_pay68 v3 kb) o (ix2 r c) = (lbeta Q K (n + r) (n + c) : EReal) := by
  pointwise [k0_pay69]
  rw [pay68_at e hq hk, ho]; exact logSig_coe _
include ho e hq hk hm in
theorem pay70_at (r : Fin 256) (c : Fin 128) : k0_pay70 mk (k0_pay68 v3 kb) o (ix2 r c) = (lkeep Q K (n + r) (n + c) : EReal) := by
  pointwise [k0_pay70]
  rw [hm, pay68_at e hq hk, pay69_at ho e hq hk]; exact keep_masked Q K _ _ _
include ho e hq hk hv hn hm ha hac hlc in
theorem pay71_at (r : Fin 512) (d : Fin 128) :
    k0_pay71 k0_pay49 acc ac lc (k0_pay66 vb) mk (k0_pay68 v3 kb) o (ix2 r d) = (ys Q K V n (t0 + r) d : EReal) := by
  pointwise [k0_pay71, k0_pay66]
  by_cases hr : r.val < 256
  · rw [dif_pos (by omega), ha]
    rw [ys_nil Q K V d (by show t0 + r.val ≤ _; omega) hn, ys_nil Q K V d (by omega) (by omega)]
  · refine (dif_neg (by omega)).trans ?_
    simp only [hm, pay69_at ho e hq hk, pay70_at ho e hq hk hm, hac, hlc, hv, after_at]
    simp only [wt_masked Q K n]
    refine (ys_after Q K V n _ _).trans ?_
    congr 2; show n + (r.val - 256) = _; omega
include ho e hq hk hn hm hl hlc in
theorem pay72_at (r : Fin 512) (z : Fin 1) :
    k0_pay72 lt lc mk (k0_pay68 v3 kb) o (ix2 r z) = (left Q K n (t0 + r) : EReal) := by
  have hp := fun r c => pay70_at ho e hq hk hm r c
  clear ho
  pointwise [k0_pay72]
  by_cases hr : r.val < 256
  · rw [dif_pos (by omega), hl]
    rw [left_nil Q K (by show t0 + r.val ≤ _; omega) hn, left_nil Q K (by omega) (by omega)]
  · refine (dif_neg (by omega)).trans ?_
    simp only [hp, hlc]
    refine (left_after Q K n _).trans ?_
    congr 2; show n + (r.val - 256) = _; omega
end Diag2

theorem mask1_at {a : ℕ} (hi : a < 4) (r : Fin 384) (c : Fin 128) :
    k0_pay76 (BitVec.ofNat 32 a) k0_pay50 (Scalar.muli (Scalar.addi (Scalar.muli (BitVec.ofNat 32 a) 4#32) 1#32) 128#32) (ix2 r c) = if (c : ℕ) < r then 1#1 else 0#1 := by
  pointwise [k0_pay76, k0_pay50]
  have hz : Scalar.subi (Scalar.muli (BitVec.ofNat 32 a) 512#32) (Scalar.muli (Scalar.addi (Scalar.muli (BitVec.ofNat 32 a) 4#32) 1#32) 128#32) = BitVec.ofInt 32 (-128) := by
    interval_cases a <;> decide
  rw [hz]
  have hr := r.isLt
  exact mask_word (d := 128) c.isLt (by omega) (by omega)

section Diag1
variable {Q K V : ℕ → ℕ → ℝ} {t0 n : ℕ} {v3 : FVec Ideal S512x128 .bf16} {acc : FVec Ideal S512x128 .f32} {lt : FVec Ideal S512x1 .f32}
  {ac : FVec Ideal S384x128 .f32} {lc : FVec Ideal S384x1 .f32} {v12 : IVec S512x128 32} {w x : BitVec 32} {kb vb : Vec Ideal S128x128 .f32}
  (e : n = t0 + 128) (hq : ∀ r d, v3 (ix2 r d) = (Q (t0 + r) d : EReal)) (hk : ∀ c d, kb (ix2 c d) = (K (n + c) d : EReal))
  (hv : ∀ c d, vb (ix2 c d) = (V (n + c) d : EReal)) (hn : n + 128 ≤ 2048)
  (hm : ∀ (r : Fin 384) (c : Fin 128), k0_pay76 w v12 x (ix2 r c) = if (c : ℕ) < r then 1#1 else 0#1)
  (ha : ∀ r d, acc (ix2 r d) = (ys Q K V (n + 128) (t0 + r) d : EReal)) (hl : ∀ r z, lt (ix2 r z) = (left Q K (n + 128) (t0 + r) : EReal))
  (hac : ∀ r d, ac (ix2 r d) = (ys Q K V (n + 128) (n + r) d : EReal)) (hlc : ∀ r z, lc (ix2 r z) = (left Q K (n + 128) (n + r) : EReal))

include e hq hk in
theorem pay77_at (r : Fin 384) (c : Fin 128) : k0_pay77 v3 (k0_pay75 kb) (ix2 r c) = (score Q K (n + r) (n + c) : EReal) := by
  pointwise [k0_pay77, k0_pay75]
  simp only [hq, hk, ← Nat.add_assoc, ← e]; exact score_core Q K _ _
include e hq hk in
theorem pay78_at (r : Fin 384) (c : Fin 128) : k0_pay78 v3 (k0_pay75 kb) (ix2 r c) = (lbeta Q K (n + r) (n + c) : EReal) := by
  pointwise [k0_pay78]
  rw [pay77_at e hq hk]; exact logSig_coe _
include e hq hk hm in
theorem pay79_at (r : Fin 384) (c : Fin 128) : k0_pay79 w v3 v12 x (k0_pay75 kb) (ix2 r c) = (lkeep Q K (n + r) (n + c) : EReal) := by
  pointwise [k0_pay79]
  rw [hm, pay77_at e hq hk, pay78_at e hq hk]; exact keep_masked Q K _ _ _
include e hq hk hv hn hm ha hac hlc in
theorem pay80_at (r : Fin 512) (d : Fin 128) :
    k0_pay80 w v3 k0_pay49 v12 acc ac lc x (k0_pay75 kb) vb (ix2 r d) = (ys Q K V n (t0 + r) d : EReal) := by
  pointwise [k0_pay80]
  by_cases hr : r.val < 128
  · rw [dif_pos (by omega), ha]
    rw [ys_nil Q K V d (by show t0 + r.val ≤ _; omega) hn, ys_nil Q K V d (by omega) (by omega)]
  · refine (dif_neg (by omega)).trans ?_
    simp only [hm, pay78_at e hq hk, pay79_at e hq hk hm, hac, hlc, hv, after_at]
    simp only [wt_masked Q K n]
    refine (ys_after Q K V n _ _).trans ?_
    congr 2; show n + (r.val - 128) = _; omega
include e hq hk hn hm hl hlc in
theorem pay81_at (r : Fin 512) (z : Fin 1) :
    k0_pay81 w v3 v12 lt lc x (k0_pay75 kb) (ix2 r z) = (left Q K n (t0 + r) : EReal) := by
  pointwise [k0_pay81]
  by_cases hr : r.val < 128
  · rw [dif_pos (by omega), hl]
    rw [left_nil Q K (by show t0 + r.val ≤ _; omega) hn, left_nil Q K (by omega) (by omega)]
  · refine (dif_neg (by omega)).trans ?_
    simp only [pay79_at e hq hk hm, hlc]
    refine (left_after Q K n _).trans ?_
    congr 2; show n + (r.val - 128) = _; omega
end Diag1

theorem mask0_at {a : ℕ} (hi : a < 4) (r : Fin 512) (c : Fin 128) :
    k0_pay82 (BitVec.ofNat 32 a) k0_pay50 (Scalar.addi (Scalar.muli (BitVec.ofNat 32 a) 4#32) 0#32) 128#32 (ix2 r c) = if (c : ℕ) < r then 1#1 else 0#1 := by
  pointwise [k0_pay82, k0_pay50]
  have hz : Scalar.subi (Scalar.muli (BitVec.ofNat 32 a) 512#32) (Scalar.muli (Scalar.addi (Scalar.muli (BitVec.ofNat 32 a) 4#32) 0#32) 128#32) = BitVec.ofInt 32 (-((0 : ℕ) : ℤ)) := by
    interval_cases a <;> decide
  rw [hz]
  have h := mask_word (d := 0) c.isLt r.isLt (by omega)
  rw [Nat.zero_add] at h
  exact h

section Diag0
variable {Q K V : ℕ → ℕ → ℝ} {t0 n : ℕ} {v3 : FVec Ideal S512x128 .bf16} {acc : FVec Ideal S512x128 .f32} {lt : FVec Ideal S512x1 .f32}
  {v12 : IVec S512x128 32} {w x : BitVec 32} {kb vb : Vec Ideal S128x128 .f32}
  (e : n = t0 + 0) (hq : ∀ r d, v3 (ix2 r d) = (Q (t0 + r) d : EReal)) (hk : ∀ c d, kb (ix2 c d) = (K (n + c) d : EReal))
  (hv : ∀ c d, vb (ix2 c d) = (V (n + c) d : EReal))
  (hm : ∀ (r : Fin 512) (c : Fin 128), k0_pay82 w v12 x 128#32 (ix2 r c) = if (c : ℕ) < r then 1#1 else 0#1)
  (ha : ∀ r d, acc (ix2 r d) = (ys Q K V (n + 128) (t0 + r) d : EReal)) (hl : ∀ r z, lt (ix2 r z) = (left Q K (n + 128) (t0 + r) : EReal))

include e hq hk in
theorem pay83_at (r : Fin 512) (c : Fin 128) : k0_pay83 v3 kb (ix2 r c) = (score Q K (n + r) (n + c) : EReal) := by
  pointwise [k0_pay83]
  simp only [hq, hk]; subst e; exact score_core Q K _ _
include e hq hk in
theorem pay84_at (r : Fin 512) (c : Fin 128) : k0_pay84 v3 kb (ix2 r c) = (lbeta Q K (n + r) (n + c) : EReal) := by
  pointwise [k0_pay84]
  rw [pay83_at e hq hk]; exact logSig_coe _
include e hq hk hm in
theorem pay85_at (r : Fin 512) (c : Fin 128) : k0_pay85 w v3 v12 x 128#32 kb (ix2 r c) = (lkeep Q K (n + r) (n + c) : EReal) := by
  pointwise [k0_pay85]
  rw [hm, pay83_at e hq hk, pay84_at e hq hk]; exact keep_masked Q K _ _ _
include e hq hk hv hm ha hl in
theorem pay86_at (r : Fin 512) (d : Fin 128) :
    k0_pay86 w v3 k0_pay49 v12 acc lt x 128#32 kb vb (ix2 r d) = (ys Q K V n (t0 + r) d : EReal) := by
  pointwise [k0_pay86]
  have e' : t0 = n := by omega
  subst e'
  simp only [hm, pay84_at e hq hk, pay85_at e hq hk hm, ha, hl, hv, after_at]
  simp only [wt_masked Q K t0]
  exact ys_after Q K V t0 _ _
include e hq hk hm hl in
theorem pay87_at (r : Fin 512) (z : Fin 1) :
    k0_pay87 w v3 v12 lt x 128#32 kb (ix2 r z) = (left Q K n (t0 + r) : EReal) := by
  pointwise [k0_pay87]
  have e' : t0 = n := by omega
  subst e'
  simp only [pay85_at e hq hk hm, hl]
  exact left_after Q K t0 _
end Diag0

end Cert.Proof.SbFwd
-- ==== Proof.SbFwdTrip.lean ====
/- The forward kernel's diagonal, one trip of its loop over key tiles, and the loop. -/
module

public import proofs.«01_k».proof.Proof.Gen.KernelSbFwdIdeal.Loops
public import proofs.«01_k».proof.Proof.SbFwdPay
public import Idealize.ShloMosaic.Lib.VecWindow

@[expose] public section

set_option maxRecDepth 16384

noncomputable section

namespace Cert.Proof.SbFwd
open Idealize.ShloMosaic Idealize.ShloMosaic.TcCoe Idealize.SL.Sem
open Cert.KernelSbFwdIdeal Cert.KernelSbFwdIdeal.Gen Cert.Proof.Sb

/-! ## Where a step reads -/

/-- The first loop runs once per earlier block of rows. -/
theorem trips1 : ∀ i : grid0.Coords, (k0_t1_loop i).trips = (i 1).val := by decide +kernel
/-- The second loop never runs: a row block is as wide as a trip. -/
theorem trips2 : ∀ i : grid0.Coords, (k0_t2_loop i).trips = 0 := by decide +kernel
theorem off1_eq : ∀ (i : grid0.Coords) (p : Fin 4), k0_off1 i (BitVec.ofNat 32 p.val) = ![512 * (i 1).val + 128 * p.val, 0] := by decide +kernel
theorem off2_eq : ∀ (i : grid0.Coords) (k : Fin (k0_t1_loop i).trips) (p : Fin 4),
    k0_off2 i k (BitVec.ofNat 32 p.val) = ![512 * ((i 1).val - 1 - k.val) + 128 * p.val, 0] := by decide +kernel

/-- A load of 128 rows of the keys or the values. -/
theorem load_tile {sig' : RefSig} {κ : Kind} {sp : Space} (v : View sig' κ sp S2048x128 .f32) {f : v.ty.Contents (Elt Ideal)} {K : ℕ → ℕ → ℝ}
    (hf : ∀ (j : Fin 2048) (d : Fin 128), v.read (Elt Ideal) f (ix2 j d) = (K j d : EReal)) {off : Fin 2 → ℕ}
    (inb : ∀ a, off a + S128x128.size a ≤ S2048x128.size a) {n n' : ℕ} (h : off = ![n, 0]) (e : n = n') (c : Fin 128) (d : Fin 128) :
    v.readAt (Elt Ideal) (Rect.unit (s := S2048x128) off S128x128.size inb).toLoadRect f (ix2 c d) = (K (n' + c) d : EReal) := by
  subst h e
  have hn : n + 128 ≤ 2048 := inb 0
  refine Eq.trans (congrArg (v.read (Elt Ideal) f) (funext fun x => Fin.ext ?_)) (hf ⟨n + c, by have := c.isLt; omega⟩ d)
  match x with
  | 0 => show n + 1 * c.val = n + c.val; omega
  | 1 => show 0 + 1 * d.val = d.val; omega

/-- What is carried past the keys from `n` on, for the rows from `t0`: the partial result, and what the keys so far have
of each row's total. -/
def Carry (Q K V : ℕ → ℕ → ℝ) (t0 n : ℕ) (acc : FVec Ideal S512x128 .f32 × FVec Ideal S512x1 .f32) : Prop :=
  (∀ (r : Fin 512) (d : Fin 128), acc.1 (ix2 r d) = (ys Q K V n (t0 + r) d : EReal))
  ∧ (∀ (r : Fin 512) (z : Fin 1), acc.2 (ix2 r z) = (left Q K n (t0 + r) : EReal))

/-! ## The diagonal -/

section Slices
variable {v9 : FVec Ideal S128x128 .bf16} {a : FVec Ideal S512x128 .f32} {l : FVec Ideal S512x1 .f32} {a1 : FVec Ideal S128x128 .f32} {l1 : FVec Ideal S128x1 .f32}
  {a2 : FVec Ideal S256x128 .f32} {l2 : FVec Ideal S256x1 .f32} {v : FVec Ideal S128x128 .bf16} {m1 : IVec S128x128 1} {m2 : IVec S256x128 1}
  {s1 s2 s3 : FVec Ideal S128x128 .f32} {s : FVec Ideal S256x128 .f32} {o : Ideal .f32} {Y : ℕ → ℕ → ℝ} {Z : ℕ → ℝ} {t0 : ℕ}

theorem pay64_at (h : ∀ (r : Fin 512) (d : Fin 128), k0_pay62 v9 a a1 l1 v m1 s1 s2 s3 (ix2 r d) = (Y (t0 + r) d : EReal)) (r : Fin 256) (d : Fin 128) :
    k0_pay64 v9 a a1 l1 v m1 s1 s2 s3 (ix2 r d) = (Y (t0 + 256 + r) d : EReal) := by
  pointwise [k0_pay64]; refine (h _ _).trans ?_; congr 2; show t0 + (256 + r.val) = _; omega
theorem pay65_at (h : ∀ (r : Fin 512) (z : Fin 1), k0_pay63 l l1 m1 s1 s2 s3 (ix2 r z) = (Z (t0 + r) : EReal)) (r : Fin 256) (z : Fin 1) :
    k0_pay65 l l1 m1 s1 s2 s3 (ix2 r z) = (Z (t0 + 256 + r) : EReal) := by
  pointwise [k0_pay65]; refine (h _ _).trans ?_; congr 2; show t0 + (256 + r.val) = _; omega
theorem pay73_at (h : ∀ (r : Fin 512) (d : Fin 128), k0_pay71 v9 a a2 l2 v m2 s o (ix2 r d) = (Y (t0 + r) d : EReal)) (r : Fin 384) (d : Fin 128) :
    k0_pay73 v9 a a2 l2 v m2 s o (ix2 r d) = (Y (t0 + 128 + r) d : EReal) := by
  pointwise [k0_pay73]; refine (h _ _).trans ?_; congr 2; show t0 + (128 + r.val) = _; omega
theorem pay74_at (h : ∀ (r : Fin 512) (z : Fin 1), k0_pay72 l l2 m2 s o (ix2 r z) = (Z (t0 + r) : EReal)) (r : Fin 384) (z : Fin 1) :
    k0_pay74 l l2 m2 s o (ix2 r z) = (Z (t0 + 128 + r) : EReal) := by
  pointwise [k0_pay74]; refine (h _ _).trans ?_; congr 2; show t0 + (128 + r.val) = _; omega
end Slices

section Diag
variable (i : grid0.Coords) (v0 : Vec Ideal S512x128 .f32) (kb3 vb3 kb2 vb2 kb1 vb1 kb0 vb0 : Vec Ideal S128x128 .f32)

abbrev word : BitVec 32 := BitVec.ofNat 32 (i 1).val
abbrev zero32 : Ideal .f32 := Scalar.ofBits .f32 0x00000000#32
abbrev acc3 : FVec Ideal S512x128 .f32 :=
  k0_pay62 k0_pay49 k0_pay51 k0_pay53 k0_pay54 (k0_pay55 vb3) (k0_pay56 i) (k0_pay57 v0 kb3) (k0_pay58 v0 kb3) (k0_pay59 v0 kb3)
abbrev left3 : FVec Ideal S512x1 .f32 := k0_pay63 k0_pay52 k0_pay54 (k0_pay56 i) (k0_pay57 v0 kb3) (k0_pay58 v0 kb3) (k0_pay59 v0 kb3)
abbrev acc2 : FVec Ideal S512x128 .f32 :=
  k0_pay71 k0_pay49 (acc3 i v0 kb3 vb3)
    (k0_pay64 k0_pay49 k0_pay51 k0_pay53 k0_pay54 (k0_pay55 vb3) (k0_pay56 i) (k0_pay57 v0 kb3) (k0_pay58 v0 kb3) (k0_pay59 v0 kb3))
    (k0_pay65 k0_pay52 k0_pay54 (k0_pay56 i) (k0_pay57 v0 kb3) (k0_pay58 v0 kb3) (k0_pay59 v0 kb3))
    (k0_pay66 vb2) (k0_pay67 (word i) k0_pay50) (k0_pay68 (k0_pay48 v0) kb2) zero32
abbrev left2 : FVec Ideal S512x1 .f32 :=
  k0_pay72 (left3 i v0 kb3) (k0_pay65 k0_pay52 k0_pay54 (k0_pay56 i) (k0_pay57 v0 kb3) (k0_pay58 v0 kb3) (k0_pay59 v0 kb3))
    (k0_pay67 (word i) k0_pay50) (k0_pay68 (k0_pay48 v0) kb2) zero32
abbrev slice1 : FVec Ideal S384x128 .f32 :=
  k0_pay73 k0_pay49 (acc3 i v0 kb3 vb3)
    (k0_pay64 k0_pay49 k0_pay51 k0_pay53 k0_pay54 (k0_pay55 vb3) (k0_pay56 i) (k0_pay57 v0 kb3) (k0_pay58 v0 kb3) (k0_pay59 v0 kb3))
    (k0_pay65 k0_pay52 k0_pay54 (k0_pay56 i) (k0_pay57 v0 kb3) (k0_pay58 v0 kb3) (k0_pay59 v0 kb3))
    (k0_pay66 vb2) (k0_pay67 (word i) k0_pay50) (k0_pay68 (k0_pay48 v0) kb2) zero32
abbrev rest1 : FVec Ideal S384x1 .f32 :=
  k0_pay74 (left3 i v0 kb3) (k0_pay65 k0_pay52 k0_pay54 (k0_pay56 i) (k0_pay57 v0 kb3) (k0_pay58 v0 kb3) (k0_pay59 v0 kb3))
    (k0_pay67 (word i) k0_pay50) (k0_pay68 (k0_pay48 v0) kb2) zero32
abbrev key1 : BitVec 32 := Scalar.muli (Scalar.addi (Scalar.muli (word i) 4#32) 1#32) 128#32
abbrev acc1 : FVec Ideal S512x128 .f32 :=
  k0_pay80 (word i) (k0_pay48 v0) k0_pay49 k0_pay50 (acc2 i v0 kb3 vb3 kb2 vb2) (slice1 i v0 kb3 vb3 kb2 vb2) (rest1 i v0 kb3 kb2) (key1 i) (k0_pay75 kb1) vb1
abbrev left1 : FVec Ideal S512x1 .f32 :=
  k0_pay81 (word i) (k0_pay48 v0) k0_pay50 (left2 i v0 kb3 kb2) (rest1 i v0 kb3 kb2) (key1 i) (k0_pay75 kb1)
abbrev key0 : BitVec 32 := Scalar.addi (Scalar.muli (word i) 4#32) 0#32
abbrev acc0 : FVec Ideal S512x128 .f32 :=
  k0_pay86 (word i) (k0_pay48 v0) k0_pay49 k0_pay50 (acc1 i v0 kb3 vb3 kb2 vb2 kb1 vb1) (left1 i v0 kb3 kb2 kb1) (key0 i) 128#32 kb0 vb0
abbrev left0 : FVec Ideal S512x1 .f32 :=
  k0_pay87 (word i) (k0_pay48 v0) k0_pay50 (left1 i v0 kb3 kb2 kb1) (key0 i) 128#32 kb0

variable {i v0 kb3 vb3 kb2 vb2 kb1 vb1 kb0 vb0} {Q K V : ℕ → ℕ → ℝ} {t0 : ℕ}

theorem diag_eq (ht : t0 = 512 * (i 1).val) (hq : ∀ r d, k0_pay48 v0 (ix2 r d) = (Q (t0 + r) d : EReal))
    (hk3 : ∀ c d, kb3 (ix2 c d) = (K (t0 + 384 + c) d : EReal)) (hv3 : ∀ c d, vb3 (ix2 c d) = (V (t0 + 384 + c) d : EReal))
    (hk2 : ∀ c d, kb2 (ix2 c d) = (K (t0 + 256 + c) d : EReal)) (hv2 : ∀ c d, vb2 (ix2 c d) = (V (t0 + 256 + c) d : EReal))
    (hk1 : ∀ c d, kb1 (ix2 c d) = (K (t0 + 128 + c) d : EReal)) (hv1 : ∀ c d, vb1 (ix2 c d) = (V (t0 + 128 + c) d : EReal))
    (hk0 : ∀ c d, kb0 (ix2 c d) = (K (t0 + c) d : EReal)) (hv0 : ∀ c d, vb0 (ix2 c d) = (V (t0 + c) d : EReal)) :
    Carry Q K V t0 t0 (acc0 i v0 kb3 vb3 kb2 vb2 kb1 vb1 kb0 vb0, left0 i v0 kb3 kb2 kb1 kb0) := by
  have hi : (i 1).val < 4 := (i 1).isLt
  have z51 : ∀ (r : Fin 512) (d : Fin 128), k0_pay51 (F := Ideal) (ix2 r d) = (ys Q K V (t0 + 384 + 128) (t0 + r) d : EReal) := fun r d => by
    have := r.isLt
    rw [ys_nil Q K V _ (by omega) (by omega), EReal.coe_zero]; pointwise [k0_pay51]
  have z52 : ∀ (r : Fin 512) (z : Fin 1), k0_pay52 (F := Ideal) (ix2 r z) = (left Q K (t0 + 384 + 128) (t0 + r) : EReal) := fun r z => by
    have := r.isLt
    rw [left_nil Q K (by omega) (by omega), EReal.coe_zero]; pointwise [k0_pay52]
  have z53 : ∀ (r : Fin 128) (d : Fin 128), k0_pay53 (F := Ideal) (ix2 r d) = (ys Q K V (t0 + 384 + 128) (t0 + 384 + r) d : EReal) := fun r d => by
    have := r.isLt
    rw [ys_nil Q K V _ (by omega) (by omega), EReal.coe_zero]; pointwise [k0_pay53, k0_pay51]
  have z54 : ∀ (r : Fin 128) (z : Fin 1), k0_pay54 (F := Ideal) (ix2 r z) = (left Q K (t0 + 384 + 128) (t0 + 384 + r) : EReal) := fun r z => by
    have := r.isLt
    rw [left_nil Q K (by omega) (by omega), EReal.coe_zero]; pointwise [k0_pay54, k0_pay52]
  have ho : zero32 = (0 : EReal) := by pointwise [zero32]
  have a3 : ∀ (r : Fin 512) (d : Fin 128), acc3 i v0 kb3 vb3 (ix2 r d) = (ys Q K V (t0 + 384) (t0 + r) d : EReal) :=
    pay62_at rfl hq hk3 hv3 (by omega) (mask3_at i) z51 z53 z54
  have l3 : ∀ (r : Fin 512) (z : Fin 1), left3 i v0 kb3 (ix2 r z) = (left Q K (t0 + 384) (t0 + r) : EReal) :=
    pay63_at rfl hq hk3 (by omega) (mask3_at i) z52 z54
  have s2 := pay64_at (Y := ys Q K V (t0 + 384)) a3
  have m2 := pay65_at (Z := left Q K (t0 + 384)) l3
  have a2 : ∀ (r : Fin 512) (d : Fin 128), acc2 i v0 kb3 vb3 kb2 vb2 (ix2 r d) = (ys Q K V (t0 + 256) (t0 + r) d : EReal) :=
    pay71_at ho rfl hq hk2 hv2 (by omega) (mask2_at hi) a3 s2 m2
  have l2 : ∀ (r : Fin 512) (z : Fin 1), left2 i v0 kb3 kb2 (ix2 r z) = (left Q K (t0 + 256) (t0 + r) : EReal) :=
    pay72_at ho rfl hq hk2 (by omega) (mask2_at hi) l3 m2
  have s1 := pay73_at (Y := ys Q K V (t0 + 256)) a2
  have m1 := pay74_at (Z := left Q K (t0 + 256)) l2
  have a1 : ∀ (r : Fin 512) (d : Fin 128), acc1 i v0 kb3 vb3 kb2 vb2 kb1 vb1 (ix2 r d) = (ys Q K V (t0 + 128) (t0 + r) d : EReal) :=
    pay80_at rfl hq hk1 hv1 (by omega) (mask1_at hi) a2 s1 m1
  have l1 : ∀ (r : Fin 512) (z : Fin 1), left1 i v0 kb3 kb2 kb1 (ix2 r z) = (left Q K (t0 + 128) (t0 + r) : EReal) :=
    pay81_at rfl hq hk1 (by omega) (mask1_at hi) l2 m1
  exact ⟨pay86_at rfl hq hk0 hv0 (mask0_at hi) a1 l1, pay87_at rfl hq hk0 (mask0_at hi) l1⟩
end Diag

/-! ## One trip, and the loop -/

section Trip
variable (𝒱 : Variants) (c : Dev nD) (bd : Option 𝒱.V) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x512x1 .f32) (harg6 : arg6.IsWhole)
  (w z : BitVec 32) (v3 : FVec Ideal S512x128 .bf16) (X_arg3 : BufTy.Contents (Elt Ideal) arg3.view.ty) (X_arg4 : BufTy.Contents (Elt Ideal) arg4.view.ty)
variable {Q K V : ℕ → ℕ → ℝ}

theorem trip_eq (k : Fin (k0_t1_loop i).trips) (t0 : ℕ) (ht : t0 = 512 * (i 1).val)
    (hq : ∀ (r : Fin 512) (d : Fin 128), v3 (ix2 r d) = (Q (t0 + r) d : EReal))
    (hk : ∀ (j : Fin 2048) (d : Fin 128), arg3.view.read (Elt Ideal) X_arg3 (ix2 j d) = (K j d : EReal))
    (hv : ∀ (j : Fin 2048) (d : Fin 128), arg4.view.read (Elt Ideal) X_arg4 (ix2 j d) = (V j d : EReal))
    (acc : FVec Ideal S512x128 .f32 × FVec Ideal S512x1 .f32) (hacc : Carry Q K V t0 (512 * ((i 1).val - k.val)) acc) :
    Carry Q K V t0 (512 * ((i 1).val - (k.val + 1))) (tripR_k0_t1 𝒱 c bd i arg2 harg2 arg3 harg3 arg4 harg4 arg5 harg5 arg6 harg6 w v3 k0_pay49 z X_arg3 X_arg4 k acc) := by
  have hki : k.val < (i 1).val := lt_of_lt_of_eq k.isLt (trips1 i)
  obtain ⟨n, hn⟩ : ∃ n, n = 512 * ((i 1).val - (k.val + 1)) := ⟨_, rfl⟩
  rw [show 512 * ((i 1).val - k.val) = n + 384 + 128 by omega] at hacc
  rw [← hn]
  obtain ⟨ha, hl⟩ := hacc
  have e (p : Fin 4) (x : ℕ) (hx : x = n + 128 * p.val) : 512 * ((i 1).val - 1 - k.val) + 128 * p.val = x := by omega
  have k3 := load_tile arg3.view hk (k0_off2_inb i k 3) (off2_eq i k 3) (e 3 (n + 384) rfl)
  have v3' := load_tile arg4.view hv (k0_off2_inb i k 3) (off2_eq i k 3) (e 3 (n + 384) rfl)
  have k2 := load_tile arg3.view hk (k0_off2_inb i k 2) (off2_eq i k 2) (e 2 (n + 256) rfl)
  have v2 := load_tile arg4.view hv (k0_off2_inb i k 2) (off2_eq i k 2) (e 2 (n + 256) rfl)
  have k1 := load_tile arg3.view hk (k0_off2_inb i k 1) (off2_eq i k 1) (e 1 (n + 128) rfl)
  have v1 := load_tile arg4.view hv (k0_off2_inb i k 1) (off2_eq i k 1) (e 1 (n + 128) rfl)
  have k0 := load_tile arg3.view hk (k0_off2_inb i k 0) (off2_eq i k 0) (e 0 n rfl)
  have v0 := load_tile arg4.view hv (k0_off2_inb i k 0) (off2_eq i k 0) (e 0 n rfl)
  have a3 := pay13_at hq k3 v3' (by omega) ha hl
  have l3 := pay14_at hq k3 (by omega) hl
  have a2 := pay18_at (n := n + 256) hq k2 v2 (by omega) a3 l3
  have l2 := pay19_at (n := n + 256) hq k2 (by omega) l3
  have a1 := pay24_at (n := n + 128) hq k1 v1 (by omega) a2 l2
  have l1 := pay25_at (n := n + 128) hq k1 (by omega) l2
  have a0 := pay3_at (n := n) hq k0 v0 (by omega) a1 l1
  have l0 := pay4_at (n := n) hq k0 (by omega) l1
  unfold tripR_k0_t1 trip_k0_t1
  exact ⟨a0, l0⟩

/-- Before trip `k` the carried values stand past the keys of the `i - k` earlier blocks. -/
theorem loop_eq (t0 : ℕ) (ht : t0 = 512 * (i 1).val)
    (hq : ∀ (r : Fin 512) (d : Fin 128), v3 (ix2 r d) = (Q (t0 + r) d : EReal))
    (hk : ∀ (j : Fin 2048) (d : Fin 128), arg3.view.read (Elt Ideal) X_arg3 (ix2 j d) = (K j d : EReal))
    (hv : ∀ (j : Fin 2048) (d : Fin 128), arg4.view.read (Elt Ideal) X_arg4 (ix2 j d) = (V j d : EReal))
    (init : FVec Ideal S512x128 .f32 × FVec Ideal S512x1 .f32) (hacc : Carry Q K V t0 t0 init) (k : ℕ) (hki : k ≤ (i 1).val) :
    Carry Q K V t0 (512 * ((i 1).val - k)) (st_k0_t1 𝒱 c bd i arg2 harg2 arg3 harg3 arg4 harg4 arg5 harg5 arg6 harg6 w v3 k0_pay49 z X_arg3 X_arg4 init k) := by
  induction k with
  | zero => rw [Nat.sub_zero, ← ht]; exact hacc
  | succ k ih =>
    have hk' : k < (k0_t1_loop i).trips := by rw [trips1]; omega
    have e := st_k0_t1_succ (F := Ideal) 𝒱 c bd i arg2 harg2 arg3 harg3 arg4 harg4 arg5 harg5 arg6 harg6 w v3 k0_pay49 z X_arg3 X_arg4 init ⟨k, hk'⟩
    dsimp only at e
    rw [e]
    exact trip_eq 𝒱 c bd i arg2 harg2 arg3 harg3 arg4 harg4 arg5 harg5 arg6 harg6 w z v3 X_arg3 X_arg4 ⟨k, hk'⟩ t0 ht hq hk hv _ (ih (by omega))
end Trip

end Cert.Proof.SbFwd
-- ==== Proof.SbFwdBody.lean ====
/- What the forward kernel's body leaves at each grid point. -/
module

public import proofs.«01_k».proof.Proof.Gen.KernelSbFwdIdeal.Frame
public import proofs.«01_k».proof.Proof.SbFwdTrip
public import Idealize.ShloMosaic.Lib.Writes

@[expose] public section

set_option maxRecDepth 16384

noncomputable section

namespace Cert.Proof.SbFwd
open Idealize.ShloMosaic Idealize.ShloMosaic.TcCoe Idealize.SL.Sem
open Cert.KernelSbFwdIdeal Cert.KernelSbFwdIdeal.Gen Cert.Proof.Sb

theorem pay48_at {v : Vec Ideal S512x128 .f32} (r : Fin 512) (d : Fin 128) :
    k0_pay48 (F := Ideal) v (ix2 r d) = v (ix2 r d) * Ideal.ofBits .f32 0x3DB504F3#32 := by pointwise [k0_pay48]
theorem pay9_at {v : FVec Ideal S512x1 .f32} (r : Fin 512) : k0_pay9 (F := Ideal) v (ix3 0 r 0) = v (ix2 r 0) := by pointwise [k0_pay9]

section Body
variable (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x512x1 .f32) (harg6 : arg6.IsWhole)
  (x0 : Vec Ideal S512x128 .f32) (x1 x2 : Vec Ideal S2048x128 .f32)
variable {Q K V : ℕ → ℕ → ℝ} (t0 : ℕ)

/-- What the operands' blocks hold at a point whose rows start at `t0`. -/
structure Operands (Q K V : ℕ → ℕ → ℝ) (t0 : ℕ) (x0 : Vec Ideal S512x128 .f32) (x1 x2 : Vec Ideal S2048x128 .f32) : Prop where
  q : ∀ (r : Fin 512) (d : Fin 128), x0 (ix2 r d) * Ideal.ofBits .f32 0x3DB504F3#32 = (Q (t0 + r) d : EReal)
  k : ∀ (j : Fin 2048) (d : Fin 128), x1 (ix2 j d) = (K j d : EReal)
  v : ∀ (j : Fin 2048) (d : Fin 128), x2 (ix2 j d) = (V j d : EReal)

theorem trips1_eq : (Scf.trips (k0_t1_loop i).lb (k0_t1_loop i).ub (k0_t1_loop i).st) = (i 1).val := trips1 i
theorem trips2_eq : (Scf.trips (k0_t2_loop i).lb (k0_t2_loop i).ub (k0_t2_loop i).st) = 0 := trips2 i

theorem body_eq (ht : t0 = 512 * (i 1).val) (hx : Operands Q K V t0 x0 x1 x2) :
    (∀ (r : Fin 512) (d : Fin 128), out0_A_3 c i arg2 harg2 arg3 harg3 arg4 harg4 arg5 harg5 arg6 harg6 x0 x1 x2 (ix2 r d) = (ys Q K V 0 (t0 + r) d : EReal))
    ∧ (∀ (r : Fin 512), out0_A_4 c i arg2 harg2 arg3 harg3 arg4 harg4 arg5 harg5 arg6 harg6 x0 x1 x2 (ix3 0 r 0) = (left Q K 0 (t0 + r) : EReal)) := by
  have e2 : (View.readAt (Elt Ideal) arg2.view (Rect.unit (s := S512x128) ![0, 0] S512x128.size inb_S512x128_S512x128_0_0).toLoadRect (harg2.unread x0)) = x0 := by rw [View.readAt_full, harg2.read_unread]
  have hq : ∀ (r : Fin 512) (d : Fin 128), k0_pay48 (F := Ideal) (View.readAt (Elt Ideal) arg2.view (Rect.unit (s := S512x128) ![0, 0] S512x128.size inb_S512x128_S512x128_0_0).toLoadRect (harg2.unread x0)) (ix2 r d) = (Q (t0 + r) d : EReal) := fun r d => by
    rw [pay48_at, e2, hx.q]
  have hk : ∀ (j : Fin 2048) (d : Fin 128), arg3.view.read (Elt Ideal) (harg3.unread x1) (ix2 j d) = (K j d : EReal) := fun j d => by
    rw [harg3.read_unread, hx.k]
  have hv : ∀ (j : Fin 2048) (d : Fin 128), arg4.view.read (Elt Ideal) (harg4.unread x2) (ix2 j d) = (V j d : EReal) := fun j d => by
    rw [harg4.read_unread, hx.v]
  have e (p : Fin 4) (x : ℕ) (hx : x = t0 + 128 * p.val) : 512 * (i 1).val + 128 * p.val = x := by omega
  have hD := diag_eq ht hq
    (load_tile arg3.view hk (k0_off1_inb i 3) (off1_eq i 3) (e 3 (t0 + 384) rfl)) (load_tile arg4.view hv (k0_off1_inb i 3) (off1_eq i 3) (e 3 (t0 + 384) rfl))
    (load_tile arg3.view hk (k0_off1_inb i 2) (off1_eq i 2) (e 2 (t0 + 256) rfl)) (load_tile arg4.view hv (k0_off1_inb i 2) (off1_eq i 2) (e 2 (t0 + 256) rfl))
    (load_tile arg3.view hk (k0_off1_inb i 1) (off1_eq i 1) (e 1 (t0 + 128) rfl)) (load_tile arg4.view hv (k0_off1_inb i 1) (off1_eq i 1) (e 1 (t0 + 128) rfl))
    (load_tile arg3.view hk (k0_off1_inb i 0) (off1_eq i 0) (e 0 t0 rfl)) (load_tile arg4.view hv (k0_off1_inb i 0) (off1_eq i 0) (e 0 t0 rfl))
  have hc : Carry Q K V t0 t0 ((kernelRun0_A.sl.r_20 c i arg2 harg2 arg3 harg3 arg4 harg4 x0 x1 x2, kernelRun0_A.sl.r_21 c i arg2 harg2 arg3 harg3 x0 x1) : FVec Ideal S512x128 .f32 × FVec Ideal S512x1 .f32) := hD
  have hL := loop_eq Variants.none c none i arg2 harg2 arg3 harg3 arg4 harg4 arg5 harg5 arg6 harg6 (BitVec.ofNat 32 (i 1).val) 0#32 (kernelRun0_A.sl.r c arg2 harg2 x0)
    (harg3.unread x1) (harg4.unread x2) t0 ht hq hk hv _ hc (i 1).val le_rfl
  rw [Nat.sub_self, Nat.mul_zero] at hL
  refine ⟨fun r d => ?_, fun r => ?_⟩
  · refine Eq.trans ?_ (hL.1 r d)
    unfold out0_A_3 kernelRun0_A
    dsimp only
    refine (congrFun (View.read_writes_full VO0_3 VO0_3.junk _ _ []) _).trans ?_
    rw [trips2_eq, trips1_eq]
    rfl
  · refine Eq.trans ?_ (hL.2 r 0)
    unfold out0_A_4 kernelRun0_A
    dsimp only
    refine (congrFun (View.read_writes_full VO0_4 VO0_4.junk _ _ []) _).trans ?_
    rw [trips2_eq, trips1_eq]
    exact pay9_at r
end Body

end Cert.Proof.SbFwd
-- ==== Proof.SbFwd.lean ====
/- The forward kernel's two results: the mixed values, and the row totals. -/
module

public import proofs.«01_k».proof.Proof.Gen.KernelSbFwdIdeal.Value
public import proofs.«01_k».proof.Proof.SbFwdBody
public import proofs.«01_k».proof.Proof.SbHost

@[expose] public section

set_option maxRecDepth 16384

noncomputable section

namespace Cert.Proof.SbFwd
open Idealize.ShloMosaic Idealize.ShloMosaic.TcCoe Idealize.SL.Sem
open Cert.Proof.Sb (zr hq hk hv cst wt ys total left ys_zero left_zero)
open Cert.KernelSbFwdIdeal Cert.KernelSbFwdIdeal.Gen Cert.KernelSbFwdIdeal.Value

/-- Every query, key and value is a real number. -/
abbrev Reals (z : FVec Ideal S2048x5120 .f32) : Prop := Sb.Finite z fun _ => 0

/-- Column `k`, which lies in head `k / 128`, of the mixed values in row `t`. -/
def mixed (z : FVec Ideal S2048x5120 .f32) (t k : ℕ) : ℝ :=
  ∑ j ∈ Finset.range 2048, wt (hq z (k / 128)) (hk z (k / 128)) t j * hv z (k / 128) j (k % 128)

variable (m : (ℓ : Loc nD τ sig) → Buf (Elt Ideal) ℓ) (c : Dev nD)
abbrev Z (m : (ℓ : Loc nD τ sig) → Buf (Elt Ideal) ℓ) (c : Dev nD) : FVec Ideal S2048x5120 .f32 := m (c, Proc.tc.devRef main_arg0)

theorem idxs : ∀ t : Fin cfg0.N, (win0_0.index t = ![t.val % 4, 16 + t.val / 4] ∧ win0_1.index t = ![0, 24 + t.val / 4] ∧ win0_2.index t = ![0, 32 + t.val / 4])
    ∧ win0_3.index t = ![t.val % 4, t.val / 4] ∧ win0_4.index t = ![t.val / 4, t.val % 4, 0] := by decide +kernel
theorem coord1 : ∀ t : Fin cfg0.N, (grid0.coords t 1).val = t.val % 4 := by decide +kernel

section Blocks
variable (t : Fin cfg0.N)
theorem t_lt : t.val < 32 := t.isLt
theorem blk0 (r : Fin 512) (d : Fin 128) : (iblk m c 0 t : S512x128.Idx → EReal) (ix2 r d)
    = Z m c (ix2 ⟨512 * (t.val % 4) + r, by omega⟩ ⟨2048 + 128 * (t.val / 4) + d, by have := t_lt t; omega⟩) := by
  have hi := (idxs t).1.1
  blk_point [iblk, V, hi]
theorem blk1 (r : Fin 2048) (d : Fin 128) : (iblk m c 1 t : S2048x128.Idx → EReal) (ix2 r d)
    = Z m c (ix2 r ⟨3072 + 128 * (t.val / 4) + d, by have := t_lt t; omega⟩) := by
  have hi := (idxs t).1.2.1
  blk_point [iblk, V, hi]
theorem blk2 (r : Fin 2048) (d : Fin 128) : (iblk m c 2 t : S2048x128.Idx → EReal) (ix2 r d)
    = Z m c (ix2 r ⟨4096 + 128 * (t.val / 4) + d, by have := t_lt t; omega⟩) := by
  have hi := (idxs t).1.2.2
  blk_point [iblk, V, hi]

theorem operands (hf : Reals (Z m c)) :
    Operands (hq (Z m c) (t.val / 4)) (hk (Z m c) (t.val / 4)) (hv (Z m c) (t.val / 4)) (512 * (t.val % 4)) (iblk m c 0 t) (iblk m c 1 t) (iblk m c 2 t) where
  q r d := (congrArg (· * Ideal.ofBits .f32 0x3DB504F3#32) (blk0 m c t r d)).trans (Sb.read_q hf rfl rfl)
  k r d := (blk1 m c t r d).trans (Sb.read_k hf rfl rfl)
  v r d := (blk2 m c t r d).trans (Sb.read_v hf rfl rfl)
end Blocks

def G3 (m : (ℓ : Loc nD τ sig) → Buf (Elt Ideal) ℓ) (c : Dev nD) : S2048x1024.Idx → EReal := fun y => (mixed (Z m c) (y 0).val (y 1).val : EReal)
def G4 (m : (ℓ : Loc nD τ sig) → Buf (Elt Ideal) ℓ) (c : Dev nD) : S8x2048x1.Idx → EReal :=
  fun y => (total (hq (Z m c) (y 0).val) (hk (Z m c) (y 0).val) (y 1).val : EReal)

variable (hf : Reals (Z m c))
include hf
theorem outs_at (t : Fin cfg0.N) :
    (∀ (r : Fin 512) (d : Fin 128), ((outsAt0 m c t).1 : S512x128.Idx → EReal) (ix2 r d) = (mixed (Z m c) (512 * (t.val % 4) + r) (128 * (t.val / 4) + d) : EReal))
    ∧ ∀ r : Fin 512, ((outsAt0 m c t).2 : S1x512x1.Idx → EReal) (ix3 0 r 0)
      = (total (hq (Z m c) (t.val / 4)) (hk (Z m c) (t.val / 4)) (512 * (t.val % 4) + r) : EReal) := by
  have hb := body_eq c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
    (512 * (t.val % 4)) (by rw [coord1]) (operands m c t hf)
  unfold outsAt0
  dsimp only
  refine ⟨fun r d => (hb.1 r d).trans ?_, fun r => (hb.2 r).trans ?_⟩
  · rw [ys_zero, mixed, show (128 * (t.val / 4) + d.val) / 128 = t.val / 4 by omega, show (128 * (t.val / 4) + d.val) % 128 = d by omega]
  · rw [left_zero]

theorem array3 : (dats m 0 c).arrAt 3 cfg0.N = (G3 m c : S2048x1024.Idx → EReal) := by
  refine (dats m 0 c).arrAt_eq_of_covers 3 (G3 m c) (by decide +kernel) fun t _ y => ?_
  have hi := (idxs t).2.1
  have ht := t_lt t
  blk_simp
  rw [after0_3]
  obtain ⟨r, d, rfl⟩ : ∃ (r : Fin 512) (d : Fin 128), y = ix2 r d := ⟨y 0, y 1, (ix2_eta y).symm⟩
  refine ((outs_at m c hf t).1 r d).trans ?_
  unfold G3
  blk_simp [hi]
  rw [Nat.mul_comm 512, Nat.mul_comm 128]
theorem array4 : (dats m 0 c).arrAt 4 cfg0.N = (G4 m c : S8x2048x1.Idx → EReal) := by
  refine (dats m 0 c).arrAt_eq_of_covers 4 (G4 m c) (by decide +kernel) fun t _ y => ?_
  have hi := (idxs t).2.2
  have ht := t_lt t
  blk_simp
  rw [after0_4]
  obtain ⟨a, r, b, rfl⟩ : ∃ (a : Fin 1) (r : Fin 512) (b : Fin 1), y = ix3 a r b := ⟨y 0, y 1, y 2, (ix3_eta y).symm⟩
  obtain rfl : a = 0 := Subsingleton.elim _ _
  obtain rfl : b = 0 := Subsingleton.elim _ _
  refine ((outs_at m c hf t).2 r).trans ?_
  unfold G4
  blk_simp [hi]
  rw [Nat.mul_comm 512]
  simp only [Fin.val_zero, Nat.add_zero]

end Cert.Proof.SbFwd
-- ==== Proof.SbFwdRef.lean ====
/- What the forward reference's two results hold, and that they are the kernel's. -/
module

public import proofs.«01_k».proof.Proof.Gen.ReferenceSbFwdIdeal.Run
public import proofs.«01_k».proof.Proof.SbFwd
public import proofs.«01_k».proof.Proof.SbWin
public import proofs.«01_k».proof.Proof.SbPre
public import proofs.«01_k».proof.Pre_finite_z

@[expose] public section

set_option maxRecDepth 16384

noncomputable section

namespace Cert.Proof.SbFwd

open Idealize.ShloMosaic Idealize.ShloMosaic.TcCoe Idealize.SL.Sem
open Cert.Proof.Sb (zr hq hk hv cst wt ys total left score lbeta lkeep hostZ hostLog hostTot hostZ_at hostLog_at hostTot_at)

section Reference
open Cert.ReferenceSbFwdIdeal Cert.ReferenceSbFwdIdeal.Gen Cert.ReferenceSbFwdIdeal.Value
variable (z : FVec Ideal S2048x5120 .f32)

/-- Which keys lie before the row. -/
def before : IVec S8x2048x2048 1 :=
  broadcastInDim S8x2048x2048 ![1, 2] bcast_S2048x2048_S8x2048x2048_1_2 (cmpi .slt
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))
/-- An array where the key lies before the row, and zero elsewhere. -/
def masked (x : FVec Ideal S8x2048x2048 .f32) : FVec Ideal S8x2048x2048 .f32 :=
  select before x (broadcastInDim S8x2048x2048 ![] bcast_S_S8x2048x2048 (id (constant S_ .f32 0x00000000#32)))
/-- The logarithms of what each key leaves. -/
def keeps : FVec Ideal S8x2048x2048 .f32 := masked (hostLog (Host.negf (hostZ z)))
/-- Their sums from each key on. -/
def sums (x : FVec Ideal S8x2048x2048 .f32) : FVec Ideal S8x2048x2048 .f32 :=
  Host.reduceWindowAdd ![1, 1, 2048] ![1, 1, 1] ![0, 0, 0] ![0, 0, 2047] x (broadcastInDim S_ ![] bcast_S_S_ (constant S_ .f32 0x00000000#32)) reduceWindows_S8x2048x2048_S8x2048x2048_w1s1p0_0_w1s1p0_0_w2048s1p0_2047 h_S_
/-- The weights from the logarithms and their sums. -/
def weights (l s x : FVec Ideal S8x2048x2048 .f32) : FVec Ideal S8x2048x2048 .f32 := masked (Host.exp (addf l (subf s x)))
/-- The values' columns by heads. -/
def values : FVec Ideal S2048x8x128 .f32 :=
  shapeCast _ (extractStridedSlice S2048x1024 ![0, 2048] (extractStridedSlice S2048x3072 ![0, 2048] z slices_S2048x5120_S2048x3072_0_2048) slices_S2048x3072_S2048x1024_0_2048) shapeCasts_S2048x1024_S2048x8x128
/-- The mixed values from the values and the weights. -/
def mix (v : FVec Ideal S2048x8x128 .f32) (w : FVec Ideal S8x2048x2048 .f32) : FVec Ideal S2048x1024 .f32 :=
  shapeCast _ (transpose S2048x8x128 [2, 0, 1] (Host.dotGeneral dot_S2048x8x128_S8x2048x2048_S8x128x2048_0_2_2_1_1_0 none v w) transposes_S8x128x2048_S2048x8x128_2_0_1) shapeCasts_S2048x8x128_S2048x1024

variable (m : (ℓ : Loc nD τ sig) → Buf (Elt Ideal) ℓ) (c : Dev nD)
theorem term0 : res_main_v27 m c = mix (values (m (c, Proc.tc.devRef main_arg0)))
    (weights (hostLog (hostZ (m (c, Proc.tc.devRef main_arg0)))) (sums (keeps (m (c, Proc.tc.devRef main_arg0)))) (keeps (m (c, Proc.tc.devRef main_arg0)))) := rfl
theorem term1 : res_main_v47 m c = hostTot (m (c, Proc.tc.devRef main_arg0)) := rfl

theorem before_at (h : Fin 8) (t j : Fin 2048) : before (ix3 h t j) = if j.val < t.val then 1#1 else 0#1 := by
  pointwise [before]
  exact Sb.slt_word j.isLt t.isLt
theorem masked_at (x : FVec Ideal S8x2048x2048 .f32) {h : Fin 8} {t j : Fin 2048} {f : ℝ} (hx : x (ix3 h t j) = (f : EReal)) :
    masked x (ix3 h t j) = ((if j.val < t.val then f else 0 : ℝ) : EReal) := by
  have e : masked x (ix3 h t j) = Scalar.select (before (ix3 h t j)) (x (ix3 h t j)) 0 := by
    pointwise [masked]
    exact congrArg _ Sb.zero_const
  rw [e, before_at, hx, Sb.select_mask]
  by_cases hj : j.val < t.val
  · rw [if_pos hj, if_pos hj]
  · rw [if_neg hj, if_neg hj, EReal.coe_zero]

variable {z} (hf : Reals z)
include hf
theorem keeps_at (h : Fin 8) (t j : Fin 2048) : keeps z (ix3 h t j) = (lkeep (hq z h) (hk z h) t j : EReal) := by
  rw [keeps, masked_at _ (hostLog_at (s := -score (hq z h) (hk z h) t j) _ h t j (by pointwise; rw [hostZ_at hf, EReal.coe_neg])), Sb.logSig_neg]
  rfl
theorem weights_at (h : Fin 8) (t j : Fin 2048) :
    weights (hostLog (hostZ z)) (sums (keeps z)) (keeps z) (ix3 h t j) = (wt (hq z h) (hk z h) t j : EReal) := by
  refine masked_at _ (f := Real.exp (lbeta (hq z h) (hk z h) t j + left (hq z h) (hk z h) (j + 1) t)) ?_
  have hs : sums (keeps z) (ix3 h t j) = _ := Sb.suffix_sum (x := keeps z) (fun j => keeps_at hf h t j) (fun _ => by pointwise) _ _ j
  have e (l s x : FVec Ideal S8x2048x2048 .f32) : Host.exp (addf l (subf s x)) (ix3 h t j) = Ideal.exp (l (ix3 h t j) + (s (ix3 h t j) - x (ix3 h t j))) := by pointwise
  rw [e, hs, keeps_at hf, hostLog_at _ h t j (hostZ_at hf h t j), ← EReal.coe_sub, ← EReal.coe_add, Ideal.exp_coe, left, total, Finset.sum_range_succ _ j.val, sub_sub]
  rfl
theorem values_at (h : Fin 8) (j : Fin 2048) (d : Fin 128) : values z (ix3 j h d) = (hv z h j d : EReal) := by
  pointwise [values]
  exact Sb.read_v hf rfl (by show 2048 + (2048 + (h.val * 128 + d.val)) = _; ring)
theorem mix_at (t : Fin 2048) (k : Fin 1024) : mix (values z) (weights (hostLog (hostZ z)) (sums (keeps z)) (keeps z)) (ix2 t k) = (mixed z t k : EReal) := by
  have e (v : FVec Ideal S2048x8x128 .f32) (w : FVec Ideal S8x2048x2048 .f32) : mix v w (ix2 t k)
      = ∑ j : Fin 2048, v (ix3 j ⟨k.val / 128, by omega⟩ ⟨k.val % 128, by omega⟩) * w (ix3 ⟨k.val / 128, by omega⟩ t j) := by
    pointwise [mix]
  rw [e]
  simp only [values_at hf, weights_at hf]
  simp only [mul_comm ((hv _ _ _ _ : ℝ) : EReal)]
  exact Sb.coe_dot_fin (fun j => wt (hq z (k / 128)) (hk z (k / 128)) t j) fun j => hv z (k / 128) j (k % 128)
end Reference

open Cert.KernelSbFwdIdeal
variable (m : (ℓ : Loc nD τ sig) → Buf (Elt Ideal) ℓ) (c : Dev nD)
variable (z : FVec Ideal Cert.ReferenceSbFwdIdeal.S2048x5120 .f32) (h0 : z = Z m c) (hf : Reals z)
include h0 hf
theorem value3 : mix (values z) (weights (hostLog (hostZ z)) (sums (keeps z)) (keeps z)) = G3 m c := by
  subst h0
  refine funext fun i => ?_
  obtain ⟨t, k, rfl⟩ : ∃ (t : Fin 2048) (k : Fin 1024), i = ix2 t k := ⟨i 0, i 1, (ix2_eta i).symm⟩
  exact mix_at hf t k
theorem value4 : hostTot z = G4 m c := by
  subst h0
  refine funext fun i => ?_
  obtain ⟨h, t, a, rfl⟩ : ∃ (h : Fin 8) (t : Fin 2048) (a : Fin 1), i = ix3 h t a := ⟨i 0, i 1, i 2, (ix3_eta i).symm⟩
  exact hostTot_at hf h t a
omit h0 hf

theorem preFacts : Cert.Pre_finite_z.Facts where
  slices_S2048x5120_S2048x3072_0_2048 := by decide
  bcast_S_S2048x3072 := by decide
  reducesTo_S2048x3072_S_d0_1 := by decide
  h_S_ := by decide

theorem reals_of_pre (z : FVec Ideal Cert.Pre_finite_z.S2048x5120 .f32) (h : @Cert.Pre_finite_z.fn preFacts Ideal _ z = fun _ => 1#1) : Reals z := by
  have ha := congrFun h ix0
  refine ⟨fun r k hk => ?_, fun r k => ?_⟩
  · have e := Host.reduce_andi_all _ _ _ _ _ ha (ix2 r ⟨k.val - 2048, by omega⟩)
    have hi : extractStridedSlice Cert.Pre_finite_z.S2048x3072 ![0, 2048] z preFacts.slices_S2048x5120_S2048x3072_0_2048 (ix2 r ⟨k.val - 2048, by omega⟩)
        = z (ix2 r k) := by
      refine congrArg z ?_
      funext a; match a with
      | ⟨0, _⟩ => exact Fin.ext (Nat.zero_add _)
      | ⟨1, _⟩ => exact Fin.ext (show 2048 + (k.val - 2048) = k.val by omega)
    refine Eq.trans (Sb.real_of_cmpf (z (ix2 r k)) (by rw [← hi]; exact e)) ?_
    rw [zr, dif_pos ⟨r.isLt, k.isLt⟩]
  · rw [Sb.gr, dif_pos ⟨r.isLt, k.isLt⟩]; rfl

end Cert.Proof.SbFwd
-- ==== Proof.NormMath.lean ====
/- A row's root-mean-square normalisation, and its gradient. -/
module

public import proofs.«01_k».proof.Proof.Prod

@[expose] public section

noncomputable section

namespace Cert.Proof.Norm
open Idealize.ShloMosaic Cert.Proof

/-- A row's length, the literal added to the mean of its squares, and minus a half. -/
abbrev len : EReal := Ideal.ofBits FTy.f32 0x45000000#32
abbrev eps : EReal := Ideal.ofBits FTy.f32 0x358637BD#32
abbrev mhalf : EReal := Ideal.ofBits FTy.f32 0xBF000000#32

/-- The mean of a row's squares with the literal, its inverse root, and an entry of the normalised row. -/
def ms (u : Fin 2048 → EReal) : EReal := Ideal.div (∑ k, u k * u k) len + eps
def rs (u : Fin 2048 → EReal) : EReal := Ideal.rsqrt (ms u)
def nrm (u g : Fin 2048 → EReal) (d : Fin 2048) : EReal := u d * rs u * g d
/-- The gradient of a row's entry, from the gradients of the normalised row. -/
def back (u g e : Fin 2048 → EReal) (d : Fin 2048) : EReal :=
  rs u * (e d * g d - u d * rs u * Ideal.div (∑ k, e k * g k * (u k * rs u)) len)
/-- The gradient of the mean of the squares, spread over the row. -/
def spread (u g e : Fin 2048 → EReal) : EReal :=
  Ideal.div ((∑ k, u k * (e k * g k)) * (mhalf * Ideal.div (rs u) (ms u))) len

theorem len_eq : len = ((2048 : ℝ) : EReal) := by
  dsimp only [len, Ideal.ofBits, Ideal.ieee]
  rw [if_neg (by decide), if_neg (by decide)]
  congr 1
  rw [if_neg (by decide)]
  norm_num [Nat.shiftRight_eq_div_pow]
theorem mhalf_eq : mhalf = ((-(1 / 2) : ℝ) : EReal) := by
  dsimp only [mhalf, Ideal.ofBits, Ideal.ieee]
  rw [if_neg (by decide), if_neg (by decide)]
  congr 1
  rw [if_pos (by decide)]
  norm_num [Nat.shiftRight_eq_div_pow]
theorem eps_eq : ∃ r : ℝ, 0 < r ∧ eps = (r : EReal) := by
  dsimp only [eps, Ideal.ofBits, Ideal.ieee]
  rw [if_neg (by decide), if_neg (by decide)]
  refine ⟨_, ?_, rfl⟩
  rw [if_neg (by decide)]
  norm_num [Nat.shiftRight_eq_div_pow]

theorem coe_sum (e : Fin 2048 → ℝ) : ∑ k, (e k : EReal) = ((∑ k, e k : ℝ) : EReal) := by
  induction (Finset.univ : Finset (Fin 2048)) using Finset.cons_induction with
  | empty => rfl
  | cons a t ha ih => rw [Finset.sum_cons, Finset.sum_cons, ih, EReal.coe_add]

/-- The gradient's three terms, and the gradient. -/
theorem back_eq {u g e : Fin 2048 → EReal} (hu : ∀ k, IsReal (u k)) (hg : ∀ k, IsReal (g k)) (he : ∀ k, IsReal (e k)) (z : EReal) (d : Fin 2048) :
    z + e d * g d * rs u + u d * spread u g e + spread u g e * u d = back u g e d + z := by
  choose x hx using hu
  choose w hw using hg
  choose y hy using he
  obtain ⟨p, hp, ep⟩ := eps_eq
  obtain rfl : u = fun k => (x k : EReal) := funext hx
  obtain rfl : g = fun k => (w k : EReal) := funext hw
  obtain rfl : e = fun k => (y k : EReal) := funext hy
  have hl : (2048 : ℝ) ≠ 0 := by norm_num
  have es : ms (fun k => (x k : EReal)) = (((∑ k, x k * x k) / 2048 + p : ℝ) : EReal) := by
    unfold ms
    simp only [← EReal.coe_mul, coe_sum]
    rw [len_eq, ep, Ideal.div_coe hl, ← EReal.coe_mul, ← EReal.coe_add]
    congr 1
    ring
  have hs : 0 < (∑ k, x k * x k) / 2048 + p :=
    add_pos_of_nonneg_of_pos (div_nonneg (Finset.sum_nonneg fun k _ => mul_self_nonneg _) (by norm_num)) hp
  generalize (∑ k, x k * x k) / 2048 + p = s at es hs
  have er : rs (fun k => (x k : EReal)) = (((Real.sqrt s)⁻¹ : ℝ) : EReal) := by
    rw [rs, es, Ideal.rsqrt_coe, if_neg (not_lt.mpr hs.le), if_neg (ne_of_gt hs)]
  have hq : s = Real.sqrt s * Real.sqrt s := (Real.mul_self_sqrt hs.le).symm
  have h0 : Real.sqrt s ≠ 0 := ne_of_gt (Real.sqrt_pos.mpr hs)
  unfold back spread
  rw [er, es, len_eq, mhalf_eq]
  simp only [← EReal.coe_mul, coe_sum, Ideal.div_coe hl, Ideal.div_coe (ne_of_gt hs), ← EReal.coe_sub]
  rw [add_assoc, add_assoc, add_comm z, ← EReal.coe_add, ← EReal.coe_add]
  congr 2
  have e1 : ∑ k, y k * w k * (x k * (Real.sqrt s)⁻¹) = (∑ k, x k * (y k * w k)) * (Real.sqrt s)⁻¹ := by
    rw [Finset.sum_mul]
    exact Finset.sum_congr rfl fun k _ => by ring
  rw [e1]
  generalize (∑ k, x k * (y k * w k)) = S
  generalize Real.sqrt s = q at hq h0
  subst hq
  field_simp
  ring

end Cert.Proof.Norm
-- ==== Proof.Norm.lean ====
/- The root-mean-square normalisation of the activations' rows, 512 rows at a time. -/
module

public import proofs.«01_k».proof.Proof.Gen.KernelNormIdeal.Value
public import proofs.«01_k».proof.Proof.Gen.ReferenceNormIdeal.Run
public import proofs.«01_k».proof.Proof.NormMath
public import Idealize.ShloMosaic.Lib.Pipeline.ValueKit
public import Idealize.ShloMosaic.Lib.Pointwise
public import Idealize.ShloMosaic.Lib.VecWindow

@[expose] public section

set_option maxRecDepth 16384

noncomputable section

namespace Cert.Proof.Norm.Fwd
open Idealize.ShloMosaic Idealize.ShloMosaic.TcCoe Idealize.SL.Sem Cert.Proof Cert.Proof.Norm

section Reference
open Cert.ReferenceNormIdeal Cert.ReferenceNormIdeal.Gen
variable (x : FVec Ideal S2048x2048 .f32) (g : FVec Ideal S2048 .f32)

/-- The rows' inverse roots, and the normalised rows. -/
def roots : FVec Ideal S2048x1 .f32 :=
  Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))
def ref : FVec Ideal S2048x2048 .bf16 :=
  truncf .bf16 (mulf (mulf x (broadcastInDim S2048x2048 ![0, 1] bcast_S2048x1_S2048x2048_0_1 (roots x))) (broadcastInDim S2048x2048 ![0, 1] bcast_S1x2048_S2048x2048_0_1 (broadcastInDim S1x2048 ![1] bcast_S2048_S1x2048_1 g))) bitsLt_bf16_f32

theorem roots_at (r : Fin 2048) : roots x (ix2 r 0) = rs (fun k => x (ix2 r k)) := by
  pointwise [roots]
  exact rfl
theorem ref_at (r d : Fin 2048) : ref x g (ix2 r d) = nrm (fun k => x (ix2 r k)) (fun k => g (ix1 k)) d := by
  rw [nrm, ← roots_at]
  pointwise [ref]
end Reference

open Cert.KernelNormIdeal Cert.KernelNormIdeal.Gen Cert.KernelNormIdeal.Value

theorem pay_at (v0 : Vec Ideal S512x2048 .f32) (v11 : Vec Ideal S1x2048 .f32) (r : Fin 512) (d : Fin 2048) :
    k0_pay1 (F := Ideal) v0 v11 (ix2 r d) = nrm (fun k => v0 (ix2 r k)) (fun k => v11 (ix2 0 k)) d := by
  pointwise [k0_pay1]
  exact rfl
theorem out_at (x0 : Vec Ideal S512x2048 .f32) (x1 : Vec Ideal S1x2048 .f32) : out0_2 (F := Ideal) x0 x1 = k0_pay1 x0 x1 := by
  frame_out

variable (m : (ℓ : Loc nD τ sig) → Buf (Elt Ideal) ℓ) (c : Dev nD)

theorem idxs : ∀ t : Fin cfg0.N, win0_0.index t = ![t.val, 0] ∧ win0_1.index t = ![0, 0] ∧ win0_2.index t = ![t.val, 0] := by decide +kernel

abbrev X (m : (ℓ : Loc nD τ sig) → Buf (Elt Ideal) ℓ) (c : Dev nD) : S2048x2048.Idx → EReal := m (c, Proc.tc.devRef main_arg0)
abbrev W (m : (ℓ : Loc nD τ sig) → Buf (Elt Ideal) ℓ) (c : Dev nD) : S2048.Idx → EReal := m (c, Proc.tc.devRef main_arg1)

theorem x_at (i : S2048x2048.Idx) : (V m c main_arg0 : S2048x2048.Idx → EReal) i = X m c i := by
  conv_lhs => simp only [V]
  after_results_simp
theorem w_at (a : Fin 1) (d : Fin 2048) : (V m c main_v0 : S1x2048.Idx → EReal) (ix2 a d) = W m c (ix1 d) := by
  conv_lhs => simp only [V]
  after_results_simp
  pointwise

theorem blk0 (t : Fin cfg0.N) (r : Fin 512) (k : Fin 2048) : (iblk m c 0 t : S512x2048.Idx → EReal) (ix2 r k) = ent (X m c) (512 * t.val + r) k := by
  have hi := (idxs t).1
  have ht : t.val < 4 := t.isLt
  have e : (iblk m c 0 t : S512x2048.Idx → EReal) (ix2 r k) = (V m c main_arg0 : S2048x2048.Idx → EReal) (ix2 ⟨512 * t.val + r, by omega⟩ k) := by
    blk_simp [iblk]
    blk_ext [hi]
  rw [e, x_at]
  exact ent_eq _ rfl rfl
theorem blk1 (t : Fin cfg0.N) (k : Fin 2048) : (iblk m c 1 t : S1x2048.Idx → EReal) (ix2 0 k) = W m c (ix1 k) := by
  have hi := (idxs t).2.1
  have e : (iblk m c 1 t : S1x2048.Idx → EReal) (ix2 0 k) = (V m c main_v0 : S1x2048.Idx → EReal) (ix2 0 k) := by
    blk_simp [iblk]
    blk_ext [hi]
  rw [e, w_at]

def G (m : (ℓ : Loc nD τ sig) → Buf (Elt Ideal) ℓ) (c : Dev nD) : S2048x2048.Idx → EReal :=
  fun y => nrm (fun k => ent (X m c) (y 0) k) (fun k => W m c (ix1 k)) (y 1)

theorem array : (dats m 0 c).arrAt 2 cfg0.N = (G m c : S2048x2048.Idx → EReal) := by
  refine (dats m 0 c).arrAt_eq_of_covers 2 (G m c) (by decide +kernel) fun t hf y => ?_
  have hi := (idxs t).2.2
  have ht : t.val < 4 := t.isLt
  blk_simp
  rw [after0_2, out_at]
  obtain ⟨r, d, rfl⟩ : ∃ (r : Fin 512) (d : Fin 2048), y = ix2 r d := ⟨y 0, y 1, (ix2_eta y).symm⟩
  refine (pay_at _ _ r d).trans ?_
  simp only [blk0, blk1]
  unfold G
  refine congrArg₂ (fun n k => nrm (fun k => ent (X m c) n k) (fun k => W m c (ix1 k)) k) ?_ (Fin.ext ?_)
  · blk_simp [hi]
    omega
  · blk_simp [hi]

theorem value (a0 : FVec Ideal Cert.ReferenceNormIdeal.S2048x2048 .f32) (a1 : FVec Ideal Cert.ReferenceNormIdeal.S2048 .f32)
    (h0 : a0 = X m c) (h1 : a1 = W m c) : ref a0 a1 = G m c := by
  subst h0 h1
  refine funext fun i => ?_
  obtain ⟨r, d, rfl⟩ : ∃ (r : Fin 2048) (d : Fin 2048), i = ix2 r d := ⟨i 0, i 1, (ix2_eta i).symm⟩
  refine (ref_at _ _ r d).trans (congrArg (fun u => nrm u _ d) (funext fun k => ?_))
  exact ent_eq _ rfl rfl

end Cert.Proof.Norm.Fwd
-- ==== Proof.NormBwd.lean ====
/- The gradients of the normalisation, 256 rows at a time: the rows' are written and the weights' is added up. -/
module

public import proofs.«01_k».proof.Proof.Gen.KernelNormBwdIdeal.Value
public import proofs.«01_k».proof.Proof.NormMath
public import Idealize.ShloMosaic.Lib.Pipeline.ValueKit
public import Idealize.ShloMosaic.Lib.Pointwise
public import Idealize.ShloMosaic.Lib.VecWindow
public import Idealize.ShloMosaic.Lib.Pipeline.ReadBack

@[expose] public section

set_option maxRecDepth 16384

noncomputable section

namespace Cert.Proof.Norm
open Idealize.ShloMosaic Idealize.ShloMosaic.TcCoe Idealize.SL.Sem Cert.Proof
open Cert.KernelNormBwdIdeal Cert.KernelNormBwdIdeal.Gen Cert.KernelNormBwdIdeal.Value

theorem pay3_at (v0 : Vec Ideal S256x2048 .f32) (r : Fin 256) : k0_pay3 (F := Ideal) v0 (ix2 r 0) = rs (fun k => v0 (ix2 r k)) := by
  pointwise [k0_pay3]
  exact rfl
theorem pay4_at (v0 : Vec Ideal S256x2048 .f32) (r : Fin 256) (d : Fin 2048) : k0_pay4 (F := Ideal) v0 (ix2 r d) = v0 (ix2 r d) * rs (fun k => v0 (ix2 r k)) := by
  rw [← pay3_at]
  pointwise [k0_pay4]
theorem pay6_at (v0 v11 : Vec Ideal S256x2048 .f32) (v15 : Vec Ideal S1x2048 .f32) (d : Fin 2048) :
    k0_pay6 (F := Ideal) v0 v11 v15 (ix2 0 d) = v15 (ix2 0 d) + ∑ r : Fin 256, v11 (ix2 r d) * (v0 (ix2 r d) * rs (fun k => v0 (ix2 r k))) := by
  pointwise [k0_pay6]
  simp only [pay4_at]
theorem pay7_at (v0 v11 : Vec Ideal S256x2048 .f32) (v22 : Vec Ideal S1x2048 .f32) (r : Fin 256) (d : Fin 2048) :
    k0_pay7 (F := Ideal) v0 v11 v22 (ix2 r d) = back (fun k => v0 (ix2 r k)) (fun k => v22 (ix2 0 k)) (fun k => v11 (ix2 r k)) d := by
  pointwise [k0_pay7]
  simp only [pay3_at, pay4_at]
  exact rfl
theorem pay1_at (v35 v36 : Vec Ideal S256x2048 .f32) (y : S256x2048.Idx) : k0_pay1 (F := Ideal) v35 v36 y = v35 y + v36 y := by
  pointwise [k0_pay1]
theorem pay2_at (v35 v36 : Vec Ideal S256x2048 .f32) (y : S256x2048.Idx) : k0_pay2 (F := Ideal) v35 v36 y = v35 y + v36 y := by
  pointwise [k0_pay2, k0_pay1]
theorem pay5_at (y : S1x2048.Idx) : k0_pay5 (F := Ideal) y = 0 := by
  pointwise [k0_pay5]

section Body
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole)
  (x0 : Vec Ideal S256x2048 .f32) (x1 : Vec Ideal S1x2048 .f32) (x2 x3 : Vec Ideal S256x2048 .f32) (xo : Vec Ideal S1x2048 .f32)

theorem outA4 (hc0 : cond0_0 i) : out0_A_4 c i arg1 harg1 arg2 harg2 arg3 harg3 arg4 harg4 arg5 harg5 arg6 harg6 arg7 harg7 hc0 x0 x1 x2 x3 = k0_pay1 (k0_pay7 x0 x2 x1) x3 := by
  frame_out
theorem outB4 (hc0 : ¬cond0_0 i) : out0_B_4 c i arg1 harg1 arg2 harg2 arg3 harg3 arg4 harg4 arg5 harg5 arg6 harg6 arg7 harg7 hc0 x0 x1 x2 x3 xo = k0_pay1 (k0_pay7 x0 x2 x1) x3 := by
  frame_out
theorem outA5 (hc0 : cond0_0 i) : out0_A_5 c i arg1 harg1 arg2 harg2 arg3 harg3 arg4 harg4 arg5 harg5 arg6 harg6 arg7 harg7 hc0 x0 x1 x2 x3 = k0_pay2 (k0_pay7 x0 x2 x1) x3 := by
  frame_out
theorem outB5 (hc0 : ¬cond0_0 i) : out0_B_5 c i arg1 harg1 arg2 harg2 arg3 harg3 arg4 harg4 arg5 harg5 arg6 harg6 arg7 harg7 hc0 x0 x1 x2 x3 xo = k0_pay2 (k0_pay7 x0 x2 x1) x3 := by
  frame_out
theorem outA6 (hc0 : cond0_0 i) : out0_A_6 c i arg1 harg1 arg2 harg2 arg3 harg3 arg4 harg4 arg5 harg5 arg6 harg6 arg7 harg7 hc0 x0 x1 x2 x3 = k0_pay6 x0 x2 (k0_pay5 (F := Ideal)) := by
  frame_out
theorem outB6 (hc0 : ¬cond0_0 i) : out0_B_6 c i arg1 harg1 arg2 harg2 arg3 harg3 arg4 harg4 arg5 harg5 arg6 harg6 arg7 harg7 hc0 x0 x1 x2 x3 xo = k0_pay6 x0 x2 xo := by
  frame_out
end Body

variable (m : (ℓ : Loc nD τ sig) → Buf (Elt Ideal) ℓ) (c : Dev nD)

theorem idxs : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] := by decide +kernel
theorem last : ∀ t : Fin cfg0.N, (cfg0.win 6).flush t = true → t.val = 7 := by decide +kernel

abbrev X (m : (ℓ : Loc nD τ sig) → Buf (Elt Ideal) ℓ) (c : Dev nD) : S2048x2048.Idx → EReal := m (c, Proc.tc.devRef main_arg0)
abbrev W (m : (ℓ : Loc nD τ sig) → Buf (Elt Ideal) ℓ) (c : Dev nD) : S2048.Idx → EReal := m (c, Proc.tc.devRef main_arg1)
abbrev D (m : (ℓ : Loc nD τ sig) → Buf (Elt Ideal) ℓ) (c : Dev nD) : S2048x2048.Idx → EReal := m (c, Proc.tc.devRef main_arg2)
abbrev R (m : (ℓ : Loc nD τ sig) → Buf (Elt Ideal) ℓ) (c : Dev nD) : S2048x2048.Idx → EReal := m (c, Proc.tc.devRef main_arg3)

theorem x_at (i : S2048x2048.Idx) : (V m c main_arg0 : S2048x2048.Idx → EReal) i = X m c i := by
  conv_lhs => simp only [V]
  after_results_simp
theorem d_at (i : S2048x2048.Idx) : (V m c main_arg2 : S2048x2048.Idx → EReal) i = D m c i := by
  conv_lhs => simp only [V]
  after_results_simp
theorem r_at (i : S2048x2048.Idx) : (V m c main_arg3 : S2048x2048.Idx → EReal) i = R m c i := by
  conv_lhs => simp only [V]
  after_results_simp
theorem w_at (a : Fin 1) (d : Fin 2048) : (V m c main_v0 : S1x2048.Idx → EReal) (ix2 a d) = W m c (ix1 d) := by
  conv_lhs => simp only [V]
  after_results_simp
  pointwise

theorem blk0 (t : Fin cfg0.N) (r : Fin 256) (k : Fin 2048) : (iblk m c 0 t : S256x2048.Idx → EReal) (ix2 r k) = ent (X m c) (256 * t.val + r) k := by
  have hi := (idxs t).1
  have ht : t.val < 8 := t.isLt
  have e : (iblk m c 0 t : S256x2048.Idx → EReal) (ix2 r k) = (V m c main_arg0 : S2048x2048.Idx → EReal) (ix2 ⟨256 * t.val + r, by omega⟩ k) := by
    blk_simp [iblk]
    blk_ext [hi]
  rw [e, x_at]
  exact ent_eq _ rfl rfl
theorem blk2 (t : Fin cfg0.N) (r : Fin 256) (k : Fin 2048) : (iblk m c 2 t : S256x2048.Idx → EReal) (ix2 r k) = ent (D m c) (256 * t.val + r) k := by
  have hi := (idxs t).2.2.1
  have ht : t.val < 8 := t.isLt
  have e : (iblk m c 2 t : S256x2048.Idx → EReal) (ix2 r k) = (V m c main_arg2 : S2048x2048.Idx → EReal) (ix2 ⟨256 * t.val + r, by omega⟩ k) := by
    blk_simp [iblk]
    blk_ext [hi]
  rw [e, d_at]
  exact ent_eq _ rfl rfl
theorem blk3 (t : Fin cfg0.N) (r : Fin 256) (k : Fin 2048) : (iblk m c 3 t : S256x2048.Idx → EReal) (ix2 r k) = ent (R m c) (256 * t.val + r) k := by
  have hi := (idxs t).2.2.2.1
  have ht : t.val < 8 := t.isLt
  have e : (iblk m c 3 t : S256x2048.Idx → EReal) (ix2 r k) = (V m c main_arg3 : S2048x2048.Idx → EReal) (ix2 ⟨256 * t.val + r, by omega⟩ k) := by
    blk_simp [iblk]
    blk_ext [hi]
  rw [e, r_at]
  exact ent_eq _ rfl rfl
theorem blk1 (t : Fin cfg0.N) (k : Fin 2048) : (iblk m c 1 t : S1x2048.Idx → EReal) (ix2 0 k) = W m c (ix1 k) := by
  have hi := (idxs t).2.1
  have e : (iblk m c 1 t : S1x2048.Idx → EReal) (ix2 0 k) = (V m c main_v0 : S1x2048.Idx → EReal) (ix2 0 k) := by
    blk_simp [iblk]
    blk_ext [hi]
  rw [e, w_at]

/-- The gradient of an entry with what is added to it, and of a weight from the first `n` rows. -/
def dx (x : (⟨2, ![2048, 2048]⟩ : Shape).Idx → EReal) (w : (⟨1, ![2048]⟩ : Shape).Idx → EReal) (g z : (⟨2, ![2048, 2048]⟩ : Shape).Idx → EReal) (r : ℕ) (d : Fin 2048) : EReal :=
  back (fun k => ent x r k) (fun k => w (ix1 k)) (fun k => ent g r k) d + ent z r d
def dw (x g : (⟨2, ![2048, 2048]⟩ : Shape).Idx → EReal) (d : Fin 2048) (n : ℕ) : EReal :=
  dot (fun r => ent g r d) (fun r => ent x r d * rs (fun k => ent x r k)) n

theorem dx_at (t : Fin cfg0.N) (r : Fin 256) (d : Fin 2048) :
    k0_pay7 (F := Ideal) (iblk m c 0 t) (iblk m c 2 t) (iblk m c 1 t) (ix2 r d) + (iblk m c 3 t : S256x2048.Idx → EReal) (ix2 r d) = dx (X m c) (W m c) (D m c) (R m c) (256 * t.val + r) d := by
  refine (congrArg₂ (· + ·) (pay7_at _ _ _ r d) (blk3 m c t r d)).trans ?_
  simp only [blk0, blk1, blk2]
  exact rfl
theorem out4_at (t : Fin cfg0.N) (r : Fin 256) (d : Fin 2048) :
    ((outsAt0 m c t.val t.isLt).1 : S256x2048.Idx → EReal) (ix2 r d) = dx (X m c) (W m c) (D m c) (R m c) (256 * t.val + r) d := by
  by_cases h0 : t.val % 8 = 0
  · rw [outsAt0_A m c t h0]
    dsimp only
    rw [outA4, pay1_at]
    exact dx_at m c t r d
  · rw [outsAt0_B m c t h0]
    dsimp only
    rw [outB4, pay1_at]
    exact dx_at m c t r d
theorem out5_at (t : Fin cfg0.N) (r : Fin 256) (d : Fin 2048) :
    ((outsAt0 m c t.val t.isLt).2.1 : S256x2048.Idx → EReal) (ix2 r d) = dx (X m c) (W m c) (D m c) (R m c) (256 * t.val + r) d := by
  by_cases h0 : t.val % 8 = 0
  · rw [outsAt0_A m c t h0]
    dsimp only
    rw [outA5, pay2_at]
    exact dx_at m c t r d
  · rw [outsAt0_B m c t h0]
    dsimp only
    rw [outB5, pay2_at]
    exact dx_at m c t r d

theorem add_at (t : Fin cfg0.N) (v15 : Vec Ideal S1x2048 .f32) (d : Fin 2048) (hz : v15 (ix2 0 d) = dw (X m c) (D m c) d (256 * t.val)) :
    k0_pay6 (F := Ideal) (iblk m c 0 t) (iblk m c 2 t) v15 (ix2 0 d) = dw (X m c) (D m c) d (256 * t.val + 256) := by
  refine (pay6_at _ _ _ d).trans ?_
  rw [hz]
  simp only [blk0, blk2]
  exact dot_add _ _ _ 256
theorem out6_at (d : Fin 2048) (n : ℕ) : ∀ hn : n < cfg0.N, ((outsAt0 m c n hn).2.2 : S1x2048.Idx → EReal) (ix2 0 d) = dw (X m c) (D m c) d (256 * n + 256) := by
  induction n with
  | zero =>
    intro hn
    rw [outsAt0_A m c ⟨0, hn⟩ rfl]
    dsimp only
    rw [outA6]
    refine add_at m c ⟨0, hn⟩ _ d ((pay5_at _).trans ?_)
    show (0 : EReal) = dw (X m c) (D m c) d 0
    rw [dw, dot, Finset.sum_range_zero]
  | succ n ih =>
    intro hn
    have hlt : n + 1 < 8 := hn
    rw [outsAt0_B m c ⟨n + 1, hn⟩ (by show ¬(n + 1) % 8 = 0; omega)]
    dsimp only
    rw [outB6]
    exact add_at m c ⟨n + 1, hn⟩ _ d (ih (by omega))

/-- The gradients: of the rows, and of the weights. -/
def G4 (m : (ℓ : Loc nD τ sig) → Buf (Elt Ideal) ℓ) (c : Dev nD) : S2048x2048.Idx → EReal := fun y => dx (X m c) (W m c) (D m c) (R m c) (y 0) (y 1)
def G6 (m : (ℓ : Loc nD τ sig) → Buf (Elt Ideal) ℓ) (c : Dev nD) : S1x2048.Idx → EReal := fun y => dw (X m c) (D m c) (y 1) 2048

theorem array4 : (dats m 0 c).arrAt 4 cfg0.N = (G4 m c : S2048x2048.Idx → EReal) := by
  refine (dats m 0 c).arrAt_eq_of_covers 4 (G4 m c) (by decide +kernel) fun t hf y => ?_
  have hi := (idxs t).2.2.2.2.1
  have ht : t.val < 8 := t.isLt
  blk_simp
  rw [after0_4]
  obtain ⟨r, d, rfl⟩ : ∃ (r : Fin 256) (d : Fin 2048), y = ix2 r d := ⟨y 0, y 1, (ix2_eta y).symm⟩
  refine (out4_at m c t r d).trans ?_
  unfold G4
  refine congrArg₂ (dx (X m c) (W m c) (D m c) (R m c)) ?_ (Fin.ext ?_)
  · blk_simp [hi]
    omega
  · blk_simp [hi]
theorem array5 : (dats m 0 c).arrAt 5 cfg0.N = (G4 m c : S2048x2048.Idx → EReal) := by
  refine (dats m 0 c).arrAt_eq_of_covers 5 (G4 m c) (by decide +kernel) fun t hf y => ?_
  have hi := (idxs t).2.2.2.2.2.1
  have ht : t.val < 8 := t.isLt
  blk_simp
  rw [after0_5]
  obtain ⟨r, d, rfl⟩ : ∃ (r : Fin 256) (d : Fin 2048), y = ix2 r d := ⟨y 0, y 1, (ix2_eta y).symm⟩
  refine (out5_at m c t r d).trans ?_
  unfold G4
  refine congrArg₂ (dx (X m c) (W m c) (D m c) (R m c)) ?_ (Fin.ext ?_)
  · blk_simp [hi]
    omega
  · blk_simp [hi]
theorem array6 : (dats m 0 c).arrAt 6 cfg0.N = (G6 m c : S1x2048.Idx → EReal) := by
  refine (dats m 0 c).arrAt_eq_of_covers 6 (G6 m c) (by decide +kernel) fun t hf y => ?_
  have hi := (idxs t).2.2.2.2.2.2
  have ht := last t hf
  blk_simp
  rw [after0_6]
  obtain ⟨a, d, rfl⟩ : ∃ (a : Fin 1) (d : Fin 2048), y = ix2 a d := ⟨y 0, y 1, (ix2_eta y).symm⟩
  obtain rfl : a = 0 := Subsingleton.elim _ _
  refine (out6_at m c d t.val t.isLt).trans ?_
  rw [ht]
  unfold G6
  refine congrArg (fun d => dw (X m c) (D m c) d 2048) (Fin.ext ?_)
  blk_simp [hi]

end Cert.Proof.Norm
-- ==== Proof.NormBwdRef.lean ====
/- The reference's gradients of the normalisation, and that they are the kernel's. -/
module

public import proofs.«01_k».proof.Proof.Gen.ReferenceNormBwdIdeal.Run
public import proofs.«01_k».proof.Pre_finite_norm
public import proofs.«01_k».proof.Proof.NormBwd
public import proofs.«01_k».proof.Proof.SbPre

@[expose] public section

set_option maxRecDepth 16384

noncomputable section

namespace Cert.Proof.Norm
open Idealize.ShloMosaic Idealize.ShloMosaic.TcCoe Idealize.SL.Sem Cert.Proof

theorem preFacts : Cert.Pre_finite_norm.Facts where
  bcast_S_S2048x2048 := by decide
  reducesTo_S2048x2048_S_d0_1 := by decide
  h_S_ := by decide
  bcast_S_S2048 := by decide
  reducesTo_S2048_S_d0 := by decide

theorem reals_of_pre (x : FVec Ideal Cert.Pre_finite_norm.S2048x2048 .f32) (w : FVec Ideal Cert.Pre_finite_norm.S2048 .f32) (g : FVec Ideal Cert.Pre_finite_norm.S2048x2048 .f32) (z)
    (h : @Cert.Pre_finite_norm.fn preFacts Ideal _ x w g z = fun _ => 1#1) : (∀ i, IsReal (x i)) ∧ (∀ i, IsReal (w i)) ∧ ∀ i, IsReal (g i) := by
  obtain ⟨h', hg⟩ := Sb.andi_split (congrFun h ix0)
  obtain ⟨hx, hw⟩ := Sb.andi_split h'
  exact ⟨fun i => isReal_coe (Sb.real_of_cmpf _ (Host.reduce_andi_all _ _ _ _ _ hx i)),
    fun i => isReal_coe (Sb.real_of_cmpf _ (Host.reduce_andi_all _ _ _ _ _ hw i)),
    fun i => isReal_coe (Sb.real_of_cmpf _ (Host.reduce_andi_all _ _ _ _ _ hg i))⟩

section Reference
open Cert.ReferenceNormBwdIdeal Cert.ReferenceNormBwdIdeal.Gen
variable (x : FVec Ideal S2048x2048 .f32) (w : FVec Ideal S2048 .f32) (g z : FVec Ideal S2048x2048 .f32)

/-- The means of the rows' squares, the gradients times the weights, and the gradients of the means spread over the rows. -/
def means : FVec Ideal S2048x1 .f32 :=
  addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))
def weighted : FVec Ideal S2048x2048 .f32 :=
  mulf g (broadcastInDim S2048x2048 ![0, 1] bcast_S1x2048_S2048x2048_0_1 (broadcastInDim S1x2048 ![1] bcast_S2048_S1x2048_1 w))
def inner (e : FVec Ideal S2048x2048 .f32) : FVec Ideal S2048 .f32 :=
  Host.reduceAdd (mulf x e) (constant S_ .f32 0x00000000#32) reducesTo_S2048x2048_S2048_d1 h_S_
def spreads (s : FVec Ideal S2048x1 .f32) (u : FVec Ideal S2048 .f32) : FVec Ideal S2048x2048 .f32 :=
  broadcastInDim S2048x2048 ![0] bcast_S2048_S2048x2048_0 (Host.reduceAdd (Host.divf (mulf (shapeCast _ u shapeCasts_S2048_S2048x1) (mulf (broadcastInDim S2048x1 ![] bcast_S_S2048x1 (constant S_ .f32 0xBF000000#32)) (Host.divf (Host.rsqrt s) s))) (broadcastInDim S2048x1 ![] bcast_S_S2048x1 (constant S_ .f32 0x45000000#32))) (constant S_ .f32 0x00000000#32) reducesTo_S2048x1_S2048_d1 h_S_)
def across (s : FVec Ideal S2048x1 .f32) : FVec Ideal S2048x2048 .f32 :=
  broadcastInDim S2048x2048 ![0, 1] bcast_S2048x1_S2048x2048_0_1 (Host.rsqrt s)
def ref4 : FVec Ideal S2048x2048 .f32 :=
  addf (addf (addf z (mulf (weighted w g) (across (means x)))) (mulf x (spreads (means x) (inner x (weighted w g))))) (mulf (spreads (means x) (inner x (weighted w g))) x)
def ref5 : FVec Ideal S2048x2048 .bf16 := truncf .bf16 (ref4 x w g z) bitsLt_bf16_f32
def ref6 : FVec Ideal S1x2048 .f32 :=
  broadcastInDim S1x2048 ![1] bcast_S2048_S1x2048_1 (Host.reduceAdd (shapeCast _ (Host.reduceAdd (mulf (mulf x (across (means x))) g) (constant S_ .f32 0x00000000#32) reducesTo_S2048x2048_S2048_d0 h_S_) shapeCasts_S2048_S1x2048) (constant S_ .f32 0x00000000#32) reducesTo_S1x2048_S2048_d0 h_S_)

theorem means_at (r : Fin 2048) : means x (ix2 r 0) = ms (fun k => x (ix2 r k)) := by
  pointwise [means]
  exact rfl
theorem across_at (s : FVec Ideal S2048x1 .f32) (r d : Fin 2048) : across s (ix2 r d) = Ideal.rsqrt (s (ix2 r 0)) := by
  pointwise [across]
theorem weighted_at (r d : Fin 2048) : weighted w g (ix2 r d) = g (ix2 r d) * w (ix1 d) := by
  pointwise [weighted]
theorem inner_at (e : FVec Ideal S2048x2048 .f32) (r : Fin 2048) : inner x e (ix1 r) = ∑ k : Fin 2048, x (ix2 r k) * e (ix2 r k) := by
  pointwise [inner]
theorem spreads_at (s : FVec Ideal S2048x1 .f32) (u : FVec Ideal S2048 .f32) (r d : Fin 2048) :
    spreads s u (ix2 r d) = Ideal.div (u (ix1 r) * (mhalf * Ideal.div (Ideal.rsqrt (s (ix2 r 0))) (s (ix2 r 0)))) len := by
  pointwise [spreads]
  exact Fin.sum_univ_one _
theorem ref4_at (hx : ∀ i, IsReal (x i)) (hw : ∀ i, IsReal (w i)) (hg : ∀ i, IsReal (g i)) (r d : Fin 2048) : ref4 x w g z (ix2 r d) = dx x w g z r d := by
  have e : ref4 x w g z (ix2 r d) = z (ix2 r d) + weighted w g (ix2 r d) * across (means x) (ix2 r d) + x (ix2 r d) * spreads (means x) (inner x (weighted w g)) (ix2 r d)
      + spreads (means x) (inner x (weighted w g)) (ix2 r d) * x (ix2 r d) := rfl
  rw [e, across_at, spreads_at, inner_at, means_at]
  simp only [weighted_at]
  refine (back_eq (u := fun k => x (ix2 r k)) (g := fun k => w (ix1 k)) (e := fun k => g (ix2 r k)) (fun k => hx _) (fun k => hw _) (fun k => hg _) (z (ix2 r d)) d).trans ?_
  unfold dx
  simp only [← ent_eq x (i := r) rfl rfl, ← ent_eq g (i := r) rfl rfl, ← ent_eq z (i := r) (j := d) rfl rfl]
theorem ref6_at (d : Fin 2048) : ref6 x g (ix2 0 d) = dw x g d 2048 := by
  have e : ref6 x g (ix2 0 d) = ∑ r : Fin 2048, x (ix2 r d) * across (means x) (ix2 r d) * g (ix2 r d) := by
    pointwise [ref6]
    exact Fin.sum_univ_one _
  rw [e, dw, ← dot_fin]
  refine Finset.sum_congr rfl fun r _ => ?_
  rw [across_at, means_at, mul_comm]
  simp only [← ent_eq x (i := r) rfl rfl, ← ent_eq g (i := r) (j := d) rfl rfl]
  exact rfl
end Reference

open Cert.KernelNormBwdIdeal Cert.KernelNormBwdIdeal.Gen Cert.KernelNormBwdIdeal.Value
variable (m : (ℓ : Loc nD τ sig) → Buf (Elt Ideal) ℓ) (c : Dev nD)

theorem value4 (a0 : FVec Ideal Cert.ReferenceNormBwdIdeal.S2048x2048 .f32) (a1 : FVec Ideal Cert.ReferenceNormBwdIdeal.S2048 .f32) (a2 a3 : FVec Ideal Cert.ReferenceNormBwdIdeal.S2048x2048 .f32)
    (h0 : a0 = X m c) (h1 : a1 = W m c) (h2 : a2 = D m c) (h3 : a3 = R m c) (hx : ∀ i, IsReal (X m c i)) (hw : ∀ i, IsReal (W m c i)) (hg : ∀ i, IsReal (D m c i)) : ref4 a0 a1 a2 a3 = G4 m c := by
  subst h0 h1 h2 h3
  refine funext fun i => ?_
  obtain ⟨r, d, rfl⟩ : ∃ (r : Fin 2048) (d : Fin 2048), i = ix2 r d := ⟨i 0, i 1, (ix2_eta i).symm⟩
  exact ref4_at _ _ _ _ hx hw hg r d
theorem value5 (a0 : FVec Ideal Cert.ReferenceNormBwdIdeal.S2048x2048 .f32) (a1 : FVec Ideal Cert.ReferenceNormBwdIdeal.S2048 .f32) (a2 a3 : FVec Ideal Cert.ReferenceNormBwdIdeal.S2048x2048 .f32)
    (h0 : a0 = X m c) (h1 : a1 = W m c) (h2 : a2 = D m c) (h3 : a3 = R m c) (hx : ∀ i, IsReal (X m c i)) (hw : ∀ i, IsReal (W m c i)) (hg : ∀ i, IsReal (D m c i)) : ref5 a0 a1 a2 a3 = G4 m c :=
  Eq.trans (funext fun i => by pointwise [ref5]) (value4 m c a0 a1 a2 a3 h0 h1 h2 h3 hx hw hg)
theorem value6 (a0 a2 : FVec Ideal Cert.ReferenceNormBwdIdeal.S2048x2048 .f32) (h0 : a0 = X m c) (h2 : a2 = D m c) : ref6 a0 a2 = G6 m c := by
  subst h0 h2
  refine funext fun i => ?_
  obtain ⟨a, d, rfl⟩ : ∃ (a : Fin 1) (d : Fin 2048), i = ix2 a d := ⟨i 0, i 1, (ix2_eta i).symm⟩
  obtain rfl : a = 0 := Subsingleton.elim _ _
  exact ref6_at _ _ d

end Cert.Proof.Norm
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.SbValue
public import proofs.«01_k».proof.Proof.SbPre
public import proofs.«01_k».proof.Proof.Gen.KernelAct.Frame
public import proofs.«01_k».proof.Proof.FfnAct
public import proofs.«01_k».proof.Proof.FfnPre
public import proofs.«01_k».proof.Proof.Gen.KernelWout.Frame
public import proofs.«01_k».proof.Proof.FfnWout
public import proofs.«01_k».proof.Proof.Gen.KernelWin.Frame
public import proofs.«01_k».proof.Proof.FfnWin
public import proofs.«01_k».proof.Proof.Gen.KernelDn.Frame
public import proofs.«01_k».proof.Proof.FfnDn
public import proofs.«01_k».proof.Proof.Gen.KernelSqDo.Frame
public import proofs.«01_k».proof.Proof.SqDo
public import proofs.«01_k».proof.Proof.Gen.KernelSqDx.Frame
public import proofs.«01_k».proof.Proof.SqDx
public import proofs.«01_k».proof.Proof.Gen.KernelSqDw.Frame
public import proofs.«01_k».proof.Proof.SqDw
public import proofs.«01_k».proof.Proof.Gen.KernelMemDw.Frame
public import proofs.«01_k».proof.Proof.MemDw
public import proofs.«01_k».proof.Proof.Gen.KernelMemDx.Frame
public import proofs.«01_k».proof.Proof.MemDx
public import proofs.«01_k».proof.Proof.Gen.KernelMixDw.Frame
public import proofs.«01_k».proof.Proof.MixDw
public import proofs.«01_k».proof.Proof.Gen.KernelMixDx.Frame
public import proofs.«01_k».proof.Proof.MixDx
public import proofs.«01_k».proof.Proof.Gen.KernelFfnOut.Frame
public import proofs.«01_k».proof.Proof.FfnOut
public import proofs.«01_k».proof.Proof.Gen.KernelMixIn.Frame
public import proofs.«01_k».proof.Proof.MixIn
public import proofs.«01_k».proof.Proof.Gen.KernelSqOut.Frame
public import proofs.«01_k».proof.Proof.SqOut
public import proofs.«01_k».proof.Proof.Gen.KernelSqQ.Frame
public import proofs.«01_k».proof.Proof.SqQ
public import proofs.«01_k».proof.Proof.Gen.KernelMemKv.Frame
public import proofs.«01_k».proof.Proof.MemKv
public import proofs.«01_k».proof.Proof.Gen.KernelFfnInA.Frame
public import proofs.«01_k».proof.Proof.FfnInOk
public import proofs.«01_k».proof.Proof.FfnInA
public import proofs.«01_k».proof.Proof.Gen.KernelFfnInB.Frame
public import proofs.«01_k».proof.Proof.FfnInB
public import proofs.«01_k».proof.Proof.Gen.KernelXattn.Frame
public import proofs.«01_k».proof.Proof.Xattn
public import proofs.«01_k».proof.Proof.XattnRef
public import proofs.«01_k».proof.Proof.Gen.KernelXattnFwd.Frame
public import proofs.«01_k».proof.Proof.XattnFwd
public import proofs.«01_k».proof.Proof.Gen.KernelSbFwd.Frame
public import proofs.«01_k».proof.Proof.SbFwd
public import proofs.«01_k».proof.Proof.SbFwdRef
public import proofs.«01_k».proof.Proof.Gen.KernelNorm.Frame
public import proofs.«01_k».proof.Proof.Norm
public import proofs.«01_k».proof.Proof.Gen.KernelNormBwd.Frame
public import proofs.«01_k».proof.Proof.NormBwd
public import proofs.«01_k».proof.Proof.NormBwdRef
public import Idealize.ShloMosaic.Adequacy
public import Idealize.ShloMosaic.Init

@[expose] public section

noncomputable section

namespace Cert.Proof

open Idealize.ShloMosaic Idealize.SL.Sem Cert.Kernel

/-- The reference keeps its arguments; it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2.2, sem_eq_zero_of_no_sems (by decide) r.2⟩) (Cert.ReferenceIdeal.Value.run m ρ)

theorem Sb.algebraic : @Cert.algebraic_KernelIdeal_ReferenceIdeal_pre_finite Cert.KernelIdeal.Gen.facts Cert.ReferenceIdeal.Gen.facts Sb.preFacts := fun m ρ m' ρ' pre hag =>
    ⟨fun c => Cert.KernelIdeal.Value.G5 m c, fun c => Cert.KernelIdeal.Value.G6 m c,
      Cert.KernelIdeal.Value.run m ρ,
      (θ_run _ _ _).mono (fun r h c => by
        have ez := (hag c).1
        have eg := (hag c).2
        have hf := Sb.finite_of_pre _ _ (pre c)
        have hf' : Sb.Finite (Sb.az (StableHlo.launchContents m' c)) (Sb.ag (StableHlo.launchContents m' c)) := by
          have := hf
          rw [← ez, ← eg] at this
          exact this
        exact ⟨(h c).1.trans (Sb.dq_eq m c _ ez eg hf'), (h c).2.1.trans (Sb.dkv_eq m c _ ez eg hf'), (h c).2.2⟩)
        (Cert.ReferenceIdeal.Value.run m' ρ')⟩

theorem Act.frame : @Cert.quiescent_ReferenceActIdeal Cert.ReferenceActIdeal.Gen.facts := fun m ρ _ =>
  (θ_run _ _ _).mono (fun r h => ⟨fun c => (h c).2, sem_eq_zero_of_no_sems (by decide) r.2⟩) (Cert.ReferenceActIdeal.Value.run m ρ)
theorem Act.algebraic : @Cert.algebraic_KernelActIdeal_ReferenceActIdeal_pre_finite_out Cert.KernelActIdeal.Gen.facts Cert.ReferenceActIdeal.Gen.facts Act.preFacts := fun m ρ m' ρ' pre hag =>
  ⟨fun c => Act.G m c,
    (θ_run _ _ _).mono (fun r h c => ⟨(h c).1.trans (Act.array m c), (h c).2⟩) (Cert.KernelActIdeal.Value.run_blocks m ρ),
    (θ_run _ _ _).mono (fun r h c => by
      obtain ⟨eg, ew, ed⟩ := hag c
      obtain ⟨rg, rw', rd⟩ := Act.reals_of_pre _ _ _ (pre c)
      rw [← eg] at rg
      rw [← ew] at rw'
      rw [← ed] at rd
      exact ⟨(h c).1.trans (Act.value m c _ _ _ eg ew ed rg rw' rd), (h c).2⟩) (Cert.ReferenceActIdeal.Value.run m' ρ')⟩

theorem Wout.frame : @Cert.quiescent_ReferenceWoutIdeal Cert.ReferenceWoutIdeal.Gen.facts := fun m ρ _ =>
  (θ_run _ _ _).mono (fun r h => ⟨fun c => (h c).2, sem_eq_zero_of_no_sems (by decide) r.2⟩) (Cert.ReferenceWoutIdeal.Value.run m ρ)
theorem Wout.algebraic : @Cert.algebraic_KernelWoutIdeal_ReferenceWoutIdeal Cert.KernelWoutIdeal.Gen.facts Cert.ReferenceWoutIdeal.Gen.facts := fun m ρ m' ρ' pre hag =>
  ⟨fun c => Wout.G m c,
    (θ_run _ _ _).mono (fun r h c => ⟨(h c).1.trans (Wout.array m c), (h c).2⟩) (Cert.KernelWoutIdeal.Value.run_blocks m ρ),
    (θ_run _ _ _).mono (fun r h c => ⟨(h c).1.trans (Wout.value m c _ _ (hag c).1 (hag c).2.2), (h c).2⟩)
      (Cert.ReferenceWoutIdeal.Value.run m' ρ')⟩

theorem Win.frame : @Cert.quiescent_ReferenceWinIdeal Cert.ReferenceWinIdeal.Gen.facts := fun m ρ _ =>
  (θ_run _ _ _).mono (fun r h => ⟨fun c => (h c).2, sem_eq_zero_of_no_sems (by decide) r.2⟩) (Cert.ReferenceWinIdeal.Value.run m ρ)
theorem Win.algebraic : @Cert.algebraic_KernelWinIdeal_ReferenceWinIdeal Cert.KernelWinIdeal.Gen.facts Cert.ReferenceWinIdeal.Gen.facts := fun m ρ m' ρ' pre hag =>
  ⟨fun c => Win.G m c,
    (θ_run _ _ _).mono (fun r h c => ⟨(h c).1.trans (Win.array m c), (h c).2⟩) (Cert.KernelWinIdeal.Value.run_blocks m ρ),
    (θ_run _ _ _).mono (fun r h c => ⟨(h c).1.trans (Win.value m c _ _ (hag c).1 (hag c).2.2), (h c).2⟩)
      (Cert.ReferenceWinIdeal.Value.run m' ρ')⟩

theorem Dn.frame : @Cert.quiescent_ReferenceDnIdeal Cert.ReferenceDnIdeal.Gen.facts := fun m ρ _ =>
  (θ_run _ _ _).mono (fun r h => ⟨fun c => (h c).2, sem_eq_zero_of_no_sems (by decide) r.2⟩) (Cert.ReferenceDnIdeal.Value.run m ρ)
theorem Dn.algebraic : @Cert.algebraic_KernelDnIdeal_ReferenceDnIdeal Cert.KernelDnIdeal.Gen.facts Cert.ReferenceDnIdeal.Gen.facts := fun m ρ m' ρ' pre hag =>
  ⟨fun c => Cert.KernelDnIdeal.Value.G2 m c,
    Cert.KernelDnIdeal.Value.run m ρ,
    (θ_run _ _ _).mono (fun r h c => ⟨(h c).1.trans (Dn.value m c _ _ (hag c).2.2 (hag c).2.1), (h c).2⟩)
      (Cert.ReferenceDnIdeal.Value.run m' ρ')⟩

theorem SqDo.frame : @Cert.quiescent_ReferenceSqDoIdeal Cert.ReferenceSqDoIdeal.Gen.facts := fun m ρ _ =>
  (θ_run _ _ _).mono (fun r h => ⟨fun c => (h c).2, sem_eq_zero_of_no_sems (by decide) r.2⟩) (Cert.ReferenceSqDoIdeal.Value.run m ρ)
theorem SqDo.algebraic : @Cert.algebraic_KernelSqDoIdeal_ReferenceSqDoIdeal Cert.KernelSqDoIdeal.Gen.facts Cert.ReferenceSqDoIdeal.Gen.facts := fun m ρ m' ρ' pre hag =>
  ⟨fun c => SqDo.G m c,
    (θ_run _ _ _).mono (fun r h c => ⟨(h c).1.trans (SqDo.array m c), (h c).2⟩) (Cert.KernelSqDoIdeal.Value.run_blocks m ρ),
    (θ_run _ _ _).mono (fun r h c => ⟨(h c).1.trans (SqDo.value m c _ _ (hag c).2.1 (hag c).2.2), (h c).2⟩)
      (Cert.ReferenceSqDoIdeal.Value.run m' ρ')⟩

theorem SqDx.frame : @Cert.quiescent_ReferenceSqDxIdeal Cert.ReferenceSqDxIdeal.Gen.facts := fun m ρ _ =>
  (θ_run _ _ _).mono (fun r h => ⟨fun c => (h c).2, sem_eq_zero_of_no_sems (by decide) r.2⟩) (Cert.ReferenceSqDxIdeal.Value.run m ρ)
theorem SqDx.algebraic : @Cert.algebraic_KernelSqDxIdeal_ReferenceSqDxIdeal Cert.KernelSqDxIdeal.Gen.facts Cert.ReferenceSqDxIdeal.Gen.facts := fun m ρ m' ρ' pre hag =>
  ⟨fun c => SqDx.G m c,
    (θ_run _ _ _).mono (fun r h c => ⟨(h c).1.trans (SqDx.array m c), (h c).2⟩) (Cert.KernelSqDxIdeal.Value.run_blocks m ρ),
    (θ_run _ _ _).mono (fun r h c => ⟨(h c).1.trans (SqDx.value m c _ _ (hag c).2.1 (hag c).2.2), (h c).2⟩)
      (Cert.ReferenceSqDxIdeal.Value.run m' ρ')⟩

theorem SqDw.frame : @Cert.quiescent_ReferenceSqDwIdeal Cert.ReferenceSqDwIdeal.Gen.facts := fun m ρ _ =>
  (θ_run _ _ _).mono (fun r h => ⟨fun c => (h c).2, sem_eq_zero_of_no_sems (by decide) r.2⟩) (Cert.ReferenceSqDwIdeal.Value.run m ρ)
theorem SqDw.algebraic : @Cert.algebraic_KernelSqDwIdeal_ReferenceSqDwIdeal Cert.KernelSqDwIdeal.Gen.facts Cert.ReferenceSqDwIdeal.Gen.facts := fun m ρ m' ρ' pre hag =>
  ⟨fun c => SqDw.G m c,
    (θ_run _ _ _).mono (fun r h c => ⟨(h c).1.trans (SqDw.array m c), (h c).2⟩) (Cert.KernelSqDwIdeal.Value.run_blocks m ρ),
    (θ_run _ _ _).mono (fun r h c => ⟨(h c).1.trans (SqDw.value m c _ _ (hag c).1 (hag c).2.2), (h c).2⟩)
      (Cert.ReferenceSqDwIdeal.Value.run m' ρ')⟩

theorem MemDw.frame : @Cert.quiescent_ReferenceMemDwIdeal Cert.ReferenceMemDwIdeal.Gen.facts := fun m ρ _ =>
  (θ_run _ _ _).mono (fun r h => ⟨fun c => (h c).2, sem_eq_zero_of_no_sems (by decide) r.2⟩) (Cert.ReferenceMemDwIdeal.Value.run m ρ)
theorem MemDw.algebraic : @Cert.algebraic_KernelMemDwIdeal_ReferenceMemDwIdeal Cert.KernelMemDwIdeal.Gen.facts Cert.ReferenceMemDwIdeal.Gen.facts := fun m ρ m' ρ' pre hag =>
  ⟨fun c => MemDw.G m c,
    (θ_run _ _ _).mono (fun r h c => ⟨(h c).1.trans (MemDw.array m c), (h c).2⟩) (Cert.KernelMemDwIdeal.Value.run_blocks m ρ),
    (θ_run _ _ _).mono (fun r h c => ⟨(h c).1.trans (MemDw.value m c _ _ (hag c).1 (hag c).2.2), (h c).2⟩)
      (Cert.ReferenceMemDwIdeal.Value.run m' ρ')⟩

theorem MemDx.frame : @Cert.quiescent_ReferenceMemDxIdeal Cert.ReferenceMemDxIdeal.Gen.facts := fun m ρ _ =>
  (θ_run _ _ _).mono (fun r h => ⟨fun c => (h c).2, sem_eq_zero_of_no_sems (by decide) r.2⟩) (Cert.ReferenceMemDxIdeal.Value.run m ρ)
theorem MemDx.algebraic : @Cert.algebraic_KernelMemDxIdeal_ReferenceMemDxIdeal Cert.KernelMemDxIdeal.Gen.facts Cert.ReferenceMemDxIdeal.Gen.facts := fun m ρ m' ρ' pre hag =>
  ⟨fun c => MemDx.G m c,
    Cert.KernelMemDxIdeal.Value.run m ρ,
    (θ_run _ _ _).mono (fun r h c => ⟨(h c).1.trans (MemDx.value m c _ _ (hag c).2.1 (hag c).2.2), (h c).2⟩)
      (Cert.ReferenceMemDxIdeal.Value.run m' ρ')⟩

theorem MixDw.frame : @Cert.quiescent_ReferenceMixDwIdeal Cert.ReferenceMixDwIdeal.Gen.facts := fun m ρ _ =>
  (θ_run _ _ _).mono (fun r h => ⟨fun c => (h c).2, sem_eq_zero_of_no_sems (by decide) r.2⟩) (Cert.ReferenceMixDwIdeal.Value.run m ρ)
theorem MixDw.algebraic : @Cert.algebraic_KernelMixDwIdeal_ReferenceMixDwIdeal Cert.KernelMixDwIdeal.Gen.facts Cert.ReferenceMixDwIdeal.Gen.facts := fun m ρ m' ρ' pre hag =>
  ⟨fun c => MixDw.G m c,
    (θ_run _ _ _).mono (fun r h c => ⟨(h c).1.trans (MixDw.array m c), (h c).2⟩) (Cert.KernelMixDwIdeal.Value.run_blocks m ρ),
    (θ_run _ _ _).mono (fun r h c => ⟨(h c).1.trans (MixDw.value m c _ _ (hag c).1 (hag c).2.2), (h c).2⟩)
      (Cert.ReferenceMixDwIdeal.Value.run m' ρ')⟩

theorem MixDx.frame : @Cert.quiescent_ReferenceMixDxIdeal Cert.ReferenceMixDxIdeal.Gen.facts := fun m ρ _ =>
  (θ_run _ _ _).mono (fun r h => ⟨fun c => (h c).2, sem_eq_zero_of_no_sems (by decide) r.2⟩) (Cert.ReferenceMixDxIdeal.Value.run m ρ)
theorem MixDx.algebraic : @Cert.algebraic_KernelMixDxIdeal_ReferenceMixDxIdeal Cert.KernelMixDxIdeal.Gen.facts Cert.ReferenceMixDxIdeal.Gen.facts := fun m ρ m' ρ' pre hag =>
  ⟨fun c => MixDx.G m c,
    Cert.KernelMixDxIdeal.Value.run m ρ,
    (θ_run _ _ _).mono (fun r h c => ⟨(h c).1.trans (MixDx.value m c _ _ (hag c).2.1 (hag c).2.2), (h c).2⟩)
      (Cert.ReferenceMixDxIdeal.Value.run m' ρ')⟩

theorem FfnOut.frame : @Cert.quiescent_ReferenceFfnOutIdeal Cert.ReferenceFfnOutIdeal.Gen.facts := fun m ρ _ =>
  (θ_run _ _ _).mono (fun r h => ⟨fun c => (h c).2, sem_eq_zero_of_no_sems (by decide) r.2⟩) (Cert.ReferenceFfnOutIdeal.Value.run m ρ)
theorem FfnOut.algebraic : @Cert.algebraic_KernelFfnOutIdeal_ReferenceFfnOutIdeal Cert.KernelFfnOutIdeal.Gen.facts Cert.ReferenceFfnOutIdeal.Gen.facts := fun m ρ m' ρ' pre hag =>
  ⟨fun c => FfnOut.G m c,
    (θ_run _ _ _).mono (fun r h c => ⟨(h c).1.trans (FfnOut.array m c), (h c).2⟩) (Cert.KernelFfnOutIdeal.Value.run_blocks m ρ),
    (θ_run _ _ _).mono (fun r h c => ⟨(h c).1.trans (FfnOut.value m c _ _ _ (hag c).1 (hag c).2.1 (hag c).2.2), (h c).2⟩)
      (Cert.ReferenceFfnOutIdeal.Value.run m' ρ')⟩

theorem MixIn.frame : @Cert.quiescent_ReferenceMixInIdeal Cert.ReferenceMixInIdeal.Gen.facts := fun m ρ _ =>
  (θ_run _ _ _).mono (fun r h => ⟨fun c => (h c).2, sem_eq_zero_of_no_sems (by decide) r.2⟩) (Cert.ReferenceMixInIdeal.Value.run m ρ)
theorem MixIn.algebraic : @Cert.algebraic_KernelMixInIdeal_ReferenceMixInIdeal Cert.KernelMixInIdeal.Gen.facts Cert.ReferenceMixInIdeal.Gen.facts := fun m ρ m' ρ' pre hag =>
  ⟨fun c => MixIn.G m c,
    (θ_run _ _ _).mono (fun r h c => ⟨(h c).1.trans (MixIn.array m c), (h c).2⟩) (Cert.KernelMixInIdeal.Value.run_blocks m ρ),
    (θ_run _ _ _).mono (fun r h c => ⟨(h c).1.trans (MixIn.value m c _ _ (hag c).1 (hag c).2), (h c).2⟩)
      (Cert.ReferenceMixInIdeal.Value.run m' ρ')⟩

theorem SqOut.frame : @Cert.quiescent_ReferenceSqOutIdeal Cert.ReferenceSqOutIdeal.Gen.facts := fun m ρ _ =>
  (θ_run _ _ _).mono (fun r h => ⟨fun c => (h c).2, sem_eq_zero_of_no_sems (by decide) r.2⟩) (Cert.ReferenceSqOutIdeal.Value.run m ρ)
theorem SqOut.algebraic : @Cert.algebraic_KernelSqOutIdeal_ReferenceSqOutIdeal Cert.KernelSqOutIdeal.Gen.facts Cert.ReferenceSqOutIdeal.Gen.facts := fun m ρ m' ρ' pre hag =>
  ⟨fun c => SqOut.G m c,
    (θ_run _ _ _).mono (fun r h c => ⟨(h c).1.trans (SqOut.array m c), (h c).2⟩) (Cert.KernelSqOutIdeal.Value.run_blocks m ρ),
    (θ_run _ _ _).mono (fun r h c => ⟨(h c).1.trans (SqOut.value m c _ _ _ (hag c).1 (hag c).2.1 (hag c).2.2), (h c).2⟩)
      (Cert.ReferenceSqOutIdeal.Value.run m' ρ')⟩

theorem SqQ.frame : @Cert.quiescent_ReferenceSqQIdeal Cert.ReferenceSqQIdeal.Gen.facts := fun m ρ _ =>
  (θ_run _ _ _).mono (fun r h => ⟨fun c => (h c).2, sem_eq_zero_of_no_sems (by decide) r.2⟩) (Cert.ReferenceSqQIdeal.Value.run m ρ)
theorem SqQ.algebraic : @Cert.algebraic_KernelSqQIdeal_ReferenceSqQIdeal Cert.KernelSqQIdeal.Gen.facts Cert.ReferenceSqQIdeal.Gen.facts := fun m ρ m' ρ' pre hag =>
  ⟨fun c => SqQ.G m c,
    (θ_run _ _ _).mono (fun r h c => ⟨(h c).1.trans (SqQ.array m c), (h c).2⟩) (Cert.KernelSqQIdeal.Value.run_blocks m ρ),
    (θ_run _ _ _).mono (fun r h c => ⟨(h c).1.trans (SqQ.value m c _ _ (hag c).1 (hag c).2), (h c).2⟩)
      (Cert.ReferenceSqQIdeal.Value.run m' ρ')⟩

theorem MemKv.frame : @Cert.quiescent_ReferenceMemKvIdeal Cert.ReferenceMemKvIdeal.Gen.facts := fun m ρ _ =>
  (θ_run _ _ _).mono (fun r h => ⟨fun c => (h c).2, sem_eq_zero_of_no_sems (by decide) r.2⟩) (Cert.ReferenceMemKvIdeal.Value.run m ρ)
theorem MemKv.algebraic : @Cert.algebraic_KernelMemKvIdeal_ReferenceMemKvIdeal Cert.KernelMemKvIdeal.Gen.facts Cert.ReferenceMemKvIdeal.Gen.facts := fun m ρ m' ρ' pre hag =>
  ⟨fun c => MemKv.G m c,
    (θ_run _ _ _).mono (fun r h c => ⟨(h c).1.trans (MemKv.array m c), (h c).2⟩) (Cert.KernelMemKvIdeal.Value.run_blocks m ρ),
    (θ_run _ _ _).mono (fun r h c => ⟨(h c).1.trans (MemKv.value m c _ _ (hag c).1 (hag c).2), (h c).2⟩)
      (Cert.ReferenceMemKvIdeal.Value.run m' ρ')⟩

theorem InA.frame : @Cert.quiescent_ReferenceFfnInAIdeal Cert.ReferenceFfnInAIdeal.Gen.facts := fun m ρ _ =>
  (θ_run _ _ _).mono (fun r h => ⟨fun c => (h c).2.2, sem_eq_zero_of_no_sems (by decide) r.2⟩) (Cert.ReferenceFfnInAIdeal.Value.run m ρ)
theorem InA.algebraic : @Cert.algebraic_KernelFfnInAIdeal_ReferenceFfnInAIdeal_on_first_half_pre_finite_in Cert.KernelFfnInAIdeal.Gen.facts Cert.ReferenceFfnInAIdeal.Gen.facts Ffn.inFacts Ffn.halfFacts := fun m ρ m' ρ' pre hag =>
  ⟨fun c => Ffn.A.G3 m c, fun c => Ffn.A.G4 m c,
    (θ_run _ _ _).mono (fun r h c => ⟨fun i hi => (congrFun (h.1 c).1 i).trans (Ffn.A.value3 m c i hi), fun i hi => (congrFun (h.1 c).2 i).trans (Ffn.A.value4 m c i hi), h.2 c⟩) (Ffn.A.run m ρ),
    (θ_run _ _ _).mono (fun r h c => by
      obtain ⟨en, ew, _⟩ := hag c
      obtain ⟨rn, rw'⟩ := Ffn.in_reals _ _ _ (pre c)
      rw [← en] at rn
      rw [← ew] at rw'
      exact ⟨fun i _ => congrFun ((h c).1.trans (Ffn.A.same3 m c _ _ en ew rn rw')) i, fun i _ => congrFun ((h c).2.1.trans (Ffn.A.same4 m c _ _ en ew)) i, (h c).2.2⟩) (Cert.ReferenceFfnInAIdeal.Value.run m' ρ')⟩

theorem InB.frame : @Cert.quiescent_ReferenceFfnInBIdeal Cert.ReferenceFfnInBIdeal.Gen.facts := fun m ρ _ =>
  (θ_run _ _ _).mono (fun r h => ⟨fun c => (h c).2.2, sem_eq_zero_of_no_sems (by decide) r.2⟩) (Cert.ReferenceFfnInBIdeal.Value.run m ρ)
theorem InB.algebraic : @Cert.algebraic_KernelFfnInBIdeal_ReferenceFfnInBIdeal_pre_finite_in_rest Cert.KernelFfnInBIdeal.Gen.facts Cert.ReferenceFfnInBIdeal.Gen.facts Ffn.restFacts := fun m ρ m' ρ' pre hag =>
  ⟨fun c => (Cert.KernelFfnInBIdeal.Gen.dats m (Ffn.B.hO m) 0 c).arrAt 3 (Ffn.B.cfgs m).N, fun c => (Cert.KernelFfnInBIdeal.Gen.dats m (Ffn.B.hO m) 0 c).arrAt 4 (Ffn.B.cfgs m).N,
    (θ_run _ _ _).mono (fun r h c => ⟨(h.1 c).1, (h.1 c).2, h.2 c⟩) (Ffn.B.run m ρ),
    (θ_run _ _ _).mono (fun r h c => by
      obtain ⟨en, ew, ep, eg, eb⟩ := hag c
      obtain ⟨rn, rw'⟩ := Ffn.rest_reals _ _ _ _ _ (pre c)
      rw [← en] at rn
      rw [← ew] at rw'
      exact ⟨(h c).1.trans (Ffn.B.same3 m c _ _ _ _ en ew ep eg rn rw'), (h c).2.1.trans (Ffn.B.same4 m c _ _ _ _ en ew ep eb), (h c).2.2⟩) (Cert.ReferenceFfnInBIdeal.Value.run m' ρ')⟩

theorem Xattn.frame : @Cert.quiescent_ReferenceXattnIdeal Cert.ReferenceXattnIdeal.Gen.facts := fun m ρ _ =>
  (θ_run _ _ _).mono (fun r h => ⟨fun c => (h c).2.2, sem_eq_zero_of_no_sems (by decide) r.2⟩) (Cert.ReferenceXattnIdeal.Value.run m ρ)
theorem Xattn.algebraic : @Cert.algebraic_KernelXattnIdeal_ReferenceXattnIdeal_pre_finite_x Cert.KernelXattnIdeal.Gen.facts Cert.ReferenceXattnIdeal.Gen.facts Xattn.preFacts := fun m ρ m' ρ' pre hag =>
  ⟨fun c => Xattn.G4 m c, fun c => Xattn.G5 m c,
    (θ_run _ _ _).mono (fun r h c => ⟨(h c).1.trans (Xattn.array4 m c), (h c).2.1.trans (Xattn.array5 m c), (h c).2.2⟩) (Cert.KernelXattnIdeal.Value.run_blocks m ρ),
    (θ_run _ _ _).mono (fun r h c => by
      obtain ⟨eq, ek, ed⟩ := hag c
      obtain ⟨rq, rk⟩ := Xattn.reals_of_pre _ _ _ (pre c)
      exact ⟨(h c).1.trans ((Xattn.term0 m' c).trans (Xattn.value4 m c _ _ _ eq ek ed rq rk)), (h c).2.1.trans ((Xattn.term1 m' c).trans (Xattn.value5 m c _ _ _ eq ek ed rq rk)), (h c).2.2⟩) (Cert.ReferenceXattnIdeal.Value.run m' ρ')⟩

theorem Xattn.Fwd.frame : @Cert.quiescent_ReferenceXattnFwdIdeal Cert.ReferenceXattnFwdIdeal.Gen.facts := fun m ρ _ =>
  (θ_run _ _ _).mono (fun r h => ⟨fun c => (h c).2, sem_eq_zero_of_no_sems (by decide) r.2⟩) (Cert.ReferenceXattnFwdIdeal.Value.run m ρ)
theorem Xattn.Fwd.algebraic : @Cert.algebraic_KernelXattnFwdIdeal_ReferenceXattnFwdIdeal Cert.KernelXattnFwdIdeal.Gen.facts Cert.ReferenceXattnFwdIdeal.Gen.facts := fun m ρ m' ρ' pre hag =>
  ⟨fun c => Xattn.Fwd.G m c,
    (θ_run _ _ _).mono (fun r h c => ⟨(h c).1.trans (Xattn.Fwd.array m c), (h c).2⟩) (Cert.KernelXattnFwdIdeal.Value.run_blocks m ρ),
    (θ_run _ _ _).mono (fun r h c => ⟨(h c).1.trans (Xattn.Fwd.value m c _ _ (hag c).1 (hag c).2), (h c).2⟩) (Cert.ReferenceXattnFwdIdeal.Value.run m' ρ')⟩

theorem SbFwd.frame : @Cert.quiescent_ReferenceSbFwdIdeal Cert.ReferenceSbFwdIdeal.Gen.facts := fun m ρ _ =>
  (θ_run _ _ _).mono (fun r h => ⟨fun c => (h c).2.2, sem_eq_zero_of_no_sems (by decide) r.2⟩) (Cert.ReferenceSbFwdIdeal.Value.run m ρ)
theorem SbFwd.algebraic : @Cert.algebraic_KernelSbFwdIdeal_ReferenceSbFwdIdeal_pre_finite_z Cert.KernelSbFwdIdeal.Gen.facts Cert.ReferenceSbFwdIdeal.Gen.facts SbFwd.preFacts := fun m ρ m' ρ' pre hag =>
  ⟨fun c => SbFwd.G3 m c, fun c => SbFwd.G4 m c,
    (θ_run _ _ _).mono (fun r h c => by
      have rz := SbFwd.reals_of_pre _ (pre c)
      exact ⟨(h c).1.trans (SbFwd.array3 m c rz), (h c).2.1.trans (SbFwd.array4 m c rz), (h c).2.2⟩) (Cert.KernelSbFwdIdeal.Value.run_blocks m ρ),
    (θ_run _ _ _).mono (fun r h c => by
      have rz := SbFwd.reals_of_pre _ (pre c)
      rw [← hag c] at rz
      exact ⟨(h c).1.trans ((SbFwd.term0 m' c).trans (SbFwd.value3 m c _ (hag c) rz)), (h c).2.1.trans ((SbFwd.term1 m' c).trans (SbFwd.value4 m c _ (hag c) rz)), (h c).2.2⟩) (Cert.ReferenceSbFwdIdeal.Value.run m' ρ')⟩

theorem Norm.Fwd.frame : @Cert.quiescent_ReferenceNormIdeal Cert.ReferenceNormIdeal.Gen.facts := fun m ρ _ =>
  (θ_run _ _ _).mono (fun r h => ⟨fun c => (h c).2, sem_eq_zero_of_no_sems (by decide) r.2⟩) (Cert.ReferenceNormIdeal.Value.run m ρ)
theorem Norm.Fwd.algebraic : @Cert.algebraic_KernelNormIdeal_ReferenceNormIdeal Cert.KernelNormIdeal.Gen.facts Cert.ReferenceNormIdeal.Gen.facts := fun m ρ m' ρ' pre hag =>
  ⟨fun c => Norm.Fwd.G m c,
    (θ_run _ _ _).mono (fun r h c => ⟨(h c).1.trans (Norm.Fwd.array m c), (h c).2⟩) (Cert.KernelNormIdeal.Value.run_blocks m ρ),
    (θ_run _ _ _).mono (fun r h c => ⟨(h c).1.trans (Norm.Fwd.value m c _ _ (hag c).1 (hag c).2), (h c).2⟩) (Cert.ReferenceNormIdeal.Value.run m' ρ')⟩

theorem Norm.frame : @Cert.quiescent_ReferenceNormBwdIdeal Cert.ReferenceNormBwdIdeal.Gen.facts := fun m ρ _ =>
  (θ_run _ _ _).mono (fun r h => ⟨fun c => (h c).2.2.2, sem_eq_zero_of_no_sems (by decide) r.2⟩) (Cert.ReferenceNormBwdIdeal.Value.run m ρ)
theorem Norm.algebraic : @Cert.algebraic_KernelNormBwdIdeal_ReferenceNormBwdIdeal_pre_finite_norm Cert.KernelNormBwdIdeal.Gen.facts Cert.ReferenceNormBwdIdeal.Gen.facts Norm.preFacts := fun m ρ m' ρ' pre hag =>
  ⟨fun c => Norm.G4 m c, fun c => Norm.G4 m c, fun c => Norm.G6 m c,
    (θ_run _ _ _).mono (fun r h c => ⟨(h c).1.trans (Norm.array4 m c), (h c).2.1.trans (Norm.array5 m c), (h c).2.2.1.trans (Norm.array6 m c), (h c).2.2.2⟩) (Cert.KernelNormBwdIdeal.Value.run_blocks m ρ),
    (θ_run _ _ _).mono (fun r h c => by
      obtain ⟨e0, e1, e2, e3⟩ := hag c
      obtain ⟨rx, rw', rg⟩ := Norm.reals_of_pre _ _ _ _ (pre c)
      exact ⟨(h c).1.trans (Norm.value4 m c _ _ _ _ e0 e1 e2 e3 rx rw' rg), (h c).2.1.trans (Norm.value5 m c _ _ _ _ e0 e1 e2 e3 rx rw' rg), (h c).2.2.1.trans (Norm.value6 m c _ _ e0 e2), (h c).2.2.2⟩) (Cert.ReferenceNormBwdIdeal.Value.run m' ρ')⟩

theorem claim : Cert.Claim :=
  ⟨Cert.Kernel.Gen.facts, Cert.KernelIdeal.Gen.facts, Cert.ReferenceIdeal.Gen.facts,
    Cert.KernelAct.Gen.facts, Cert.KernelActIdeal.Gen.facts, Cert.ReferenceActIdeal.Gen.facts, Cert.KernelWout.Gen.facts, Cert.KernelWoutIdeal.Gen.facts, Cert.ReferenceWoutIdeal.Gen.facts, Cert.KernelWin.Gen.facts, Cert.KernelWinIdeal.Gen.facts, Cert.ReferenceWinIdeal.Gen.facts, Cert.KernelDn.Gen.facts, Cert.KernelDnIdeal.Gen.facts, Cert.ReferenceDnIdeal.Gen.facts, Cert.KernelSqDo.Gen.facts, Cert.KernelSqDoIdeal.Gen.facts, Cert.ReferenceSqDoIdeal.Gen.facts, Cert.KernelSqDx.Gen.facts, Cert.KernelSqDxIdeal.Gen.facts, Cert.ReferenceSqDxIdeal.Gen.facts, Cert.KernelSqDw.Gen.facts, Cert.KernelSqDwIdeal.Gen.facts, Cert.ReferenceSqDwIdeal.Gen.facts, Cert.KernelMemDw.Gen.facts, Cert.KernelMemDwIdeal.Gen.facts, Cert.ReferenceMemDwIdeal.Gen.facts, Cert.KernelMemDx.Gen.facts, Cert.KernelMemDxIdeal.Gen.facts, Cert.ReferenceMemDxIdeal.Gen.facts, Cert.KernelMixDw.Gen.facts, Cert.KernelMixDwIdeal.Gen.facts, Cert.ReferenceMixDwIdeal.Gen.facts, Cert.KernelMixDx.Gen.facts, Cert.KernelMixDxIdeal.Gen.facts, Cert.ReferenceMixDxIdeal.Gen.facts, Cert.KernelFfnOut.Gen.facts, Cert.KernelFfnOutIdeal.Gen.facts, Cert.ReferenceFfnOutIdeal.Gen.facts, Cert.KernelMixIn.Gen.facts, Cert.KernelMixInIdeal.Gen.facts, Cert.ReferenceMixInIdeal.Gen.facts, Cert.KernelSqOut.Gen.facts, Cert.KernelSqOutIdeal.Gen.facts, Cert.ReferenceSqOutIdeal.Gen.facts, Cert.KernelSqQ.Gen.facts, Cert.KernelSqQIdeal.Gen.facts, Cert.ReferenceSqQIdeal.Gen.facts, Cert.KernelMemKv.Gen.facts, Cert.KernelMemKvIdeal.Gen.facts, Cert.ReferenceMemKvIdeal.Gen.facts, Cert.KernelFfnInA.Gen.facts, Cert.KernelFfnInAIdeal.Gen.facts, Cert.ReferenceFfnInAIdeal.Gen.facts, Cert.KernelFfnInB.Gen.facts, Cert.KernelFfnInBIdeal.Gen.facts, Cert.ReferenceFfnInBIdeal.Gen.facts, Cert.KernelXattn.Gen.facts, Cert.KernelXattnIdeal.Gen.facts, Cert.ReferenceXattnIdeal.Gen.facts, Cert.KernelXattnFwd.Gen.facts, Cert.KernelXattnFwdIdeal.Gen.facts, Cert.ReferenceXattnFwdIdeal.Gen.facts, Cert.KernelSbFwd.Gen.facts, Cert.KernelSbFwdIdeal.Gen.facts, Cert.ReferenceSbFwdIdeal.Gen.facts, Cert.KernelNorm.Gen.facts, Cert.KernelNormIdeal.Gen.facts, Cert.ReferenceNormIdeal.Gen.facts, Cert.KernelNormBwd.Gen.facts, Cert.KernelNormBwdIdeal.Gen.facts, Cert.ReferenceNormBwdIdeal.Gen.facts,
    Sb.preFacts, Act.preFacts, Ffn.inFacts, Ffn.restFacts, Xattn.preFacts, SbFwd.preFacts, Norm.preFacts, Ffn.halfFacts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    fun m ρ _ => Cert.KernelAct.Gen.frame m ρ,
    fun m ρ _ => Cert.KernelActIdeal.Gen.frame m ρ,
    fun m ρ _ => Cert.KernelActIdeal.Gen.frame m ρ,
    Act.frame,
    fun m ρ _ => Act.frame m ρ trivial,
    fun m ρ _ => Cert.KernelWout.Gen.frame m ρ,
    fun m ρ _ => Cert.KernelWoutIdeal.Gen.frame m ρ,
    Wout.frame,
    fun m ρ _ => Cert.KernelWin.Gen.frame m ρ,
    fun m ρ _ => Cert.KernelWinIdeal.Gen.frame m ρ,
    Win.frame,
    fun m ρ _ => Cert.KernelDn.Gen.frame m ρ,
    fun m ρ _ => Cert.KernelDnIdeal.Gen.frame m ρ,
    Dn.frame,
    fun m ρ _ => Cert.KernelSqDo.Gen.frame m ρ,
    fun m ρ _ => Cert.KernelSqDoIdeal.Gen.frame m ρ,
    SqDo.frame,
    fun m ρ _ => Cert.KernelSqDx.Gen.frame m ρ,
    fun m ρ _ => Cert.KernelSqDxIdeal.Gen.frame m ρ,
    SqDx.frame,
    fun m ρ _ => Cert.KernelSqDw.Gen.frame m ρ,
    fun m ρ _ => Cert.KernelSqDwIdeal.Gen.frame m ρ,
    SqDw.frame,
    fun m ρ _ => Cert.KernelMemDw.Gen.frame m ρ,
    fun m ρ _ => Cert.KernelMemDwIdeal.Gen.frame m ρ,
    MemDw.frame,
    fun m ρ _ => Cert.KernelMemDx.Gen.frame m ρ,
    fun m ρ _ => Cert.KernelMemDxIdeal.Gen.frame m ρ,
    MemDx.frame,
    fun m ρ _ => Cert.KernelMixDw.Gen.frame m ρ,
    fun m ρ _ => Cert.KernelMixDwIdeal.Gen.frame m ρ,
    MixDw.frame,
    fun m ρ _ => Cert.KernelMixDx.Gen.frame m ρ,
    fun m ρ _ => Cert.KernelMixDxIdeal.Gen.frame m ρ,
    MixDx.frame,
    fun m ρ _ => Cert.KernelFfnOut.Gen.frame m ρ,
    fun m ρ _ => Cert.KernelFfnOutIdeal.Gen.frame m ρ,
    FfnOut.frame,
    fun m ρ _ => Cert.KernelMixIn.Gen.frame m ρ,
    fun m ρ _ => Cert.KernelMixInIdeal.Gen.frame m ρ,
    MixIn.frame,
    fun m ρ _ => Cert.KernelSqOut.Gen.frame m ρ,
    fun m ρ _ => Cert.KernelSqOutIdeal.Gen.frame m ρ,
    SqOut.frame,
    fun m ρ _ => Cert.KernelSqQ.Gen.frame m ρ,
    fun m ρ _ => Cert.KernelSqQIdeal.Gen.frame m ρ,
    SqQ.frame,
    fun m ρ _ => Cert.KernelMemKv.Gen.frame m ρ,
    fun m ρ _ => Cert.KernelMemKvIdeal.Gen.frame m ρ,
    MemKv.frame,
    fun m ρ _ => Cert.KernelFfnInA.Gen.frame m ρ (Ffn.A.ok _),
    fun m ρ _ => Cert.KernelFfnInAIdeal.Gen.frame m ρ (Ffn.AIdeal.ok _),
    fun m ρ _ => Cert.KernelFfnInAIdeal.Gen.frame m ρ (Ffn.AIdeal.ok _),
    InA.frame,
    fun m ρ _ => InA.frame m ρ trivial,
    fun m ρ _ => Cert.KernelFfnInB.Gen.frame m ρ (Ffn.B.ok _),
    fun m ρ _ => Cert.KernelFfnInBIdeal.Gen.frame m ρ (Ffn.BIdeal.ok _),
    fun m ρ _ => Cert.KernelFfnInBIdeal.Gen.frame m ρ (Ffn.BIdeal.ok _),
    InB.frame,
    fun m ρ _ => InB.frame m ρ trivial,
    fun m ρ _ => Cert.KernelXattn.Gen.frame m ρ,
    fun m ρ _ => Cert.KernelXattnIdeal.Gen.frame m ρ,
    fun m ρ _ => Cert.KernelXattnIdeal.Gen.frame m ρ,
    Xattn.frame,
    fun m ρ _ => Xattn.frame m ρ trivial,
    fun m ρ _ => Cert.KernelXattnFwd.Gen.frame m ρ,
    fun m ρ _ => Cert.KernelXattnFwdIdeal.Gen.frame m ρ,
    Xattn.Fwd.frame,
    fun m ρ _ => Cert.KernelSbFwd.Gen.frame m ρ,
    fun m ρ _ => Cert.KernelSbFwdIdeal.Gen.frame m ρ,
    fun m ρ _ => Cert.KernelSbFwdIdeal.Gen.frame m ρ,
    SbFwd.frame,
    fun m ρ _ => SbFwd.frame m ρ trivial,
    fun m ρ _ => Cert.KernelNorm.Gen.frame m ρ,
    fun m ρ _ => Cert.KernelNormIdeal.Gen.frame m ρ,
    Norm.Fwd.frame,
    fun m ρ _ => Cert.KernelNormBwd.Gen.frame m ρ,
    fun m ρ _ => Cert.KernelNormBwdIdeal.Gen.frame m ρ,
    fun m ρ _ => Cert.KernelNormBwdIdeal.Gen.frame m ρ,
    Norm.frame,
    fun m ρ _ => Norm.frame m ρ trivial,
    trivial,
    Sb.algebraic,
    trivial, Act.algebraic,
    trivial, Wout.algebraic,
    trivial, Win.algebraic,
    trivial, Dn.algebraic,
    trivial, SqDo.algebraic,
    trivial, SqDx.algebraic,
    trivial, SqDw.algebraic,
    trivial, MemDw.algebraic,
    trivial, MemDx.algebraic,
    trivial, MixDw.algebraic,
    trivial, MixDx.algebraic,
    trivial, FfnOut.algebraic,
    trivial, MixIn.algebraic,
    trivial, SqOut.algebraic,
    trivial, SqQ.algebraic,
    trivial, MemKv.algebraic,
    trivial, InA.algebraic,
    trivial, InB.algebraic,
    trivial, Xattn.algebraic,
    trivial, Xattn.Fwd.algebraic,
    trivial, SbFwd.algebraic,
    trivial, Norm.Fwd.algebraic,
    trivial, Norm.algebraic⟩

end Cert.Proof

end
